-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10)) (m ((c.tc : Thread Cert.Kernel9Ideal.nD Cert.Kernel9Ideal.τ).loc Cert.Kernel9Ideal.main_arg11)) (m ((c.tc : Thread Cert.Kernel9Ideal.nD Cert.Kernel9Ideal.τ).loc Cert.Kernel9Ideal.main_arg12))).2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10)) (m ((c.tc : Thread Cert.Reference9Ideal.nD Cert.Reference9Ideal.τ).loc Cert.Reference9Ideal.main_arg11)) (m ((c.tc : Thread Cert.Reference9Ideal.nD Cert.Reference9Ideal.τ).loc Cert.Reference9Ideal.main_arg12))).2.2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12)
      ∧ r.2.mem ((c.tc : Thread Cert.Kernel17.nD Cert.Kernel17.τ).loc Cert.Kernel17.main_arg13) = m ((c.tc : Thread Cert.Kernel17.nD Cert.Kernel17.τ).loc Cert.Kernel17.main_arg13)
      ∧ r.2.mem ((c.tc : Thread Cert.Kernel17.nD Cert.Kernel17.τ).loc Cert.Kernel17.main_arg14) = m ((c.tc : Thread Cert.Kernel17.nD Cert.Kernel17.τ).loc Cert.Kernel17.main_arg14)
      ∧ r.2.mem ((c.tc : Thread Cert.Kernel17.nD Cert.Kernel17.τ).loc Cert.Kernel17.main_arg15) = m ((c.tc : Thread Cert.Kernel17.nD Cert.Kernel17.τ).loc Cert.Kernel17.main_arg15))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
      ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
      ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
      ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12)
      ∧ r.2.mem ((c.tc : Thread Cert.Reference17Ideal.nD Cert.Reference17Ideal.τ).loc Cert.Reference17Ideal.main_arg13) = m ((c.tc : Thread Cert.Reference17Ideal.nD Cert.Reference17Ideal.τ).loc Cert.Reference17Ideal.main_arg13)
      ∧ r.2.mem ((c.tc : Thread Cert.Reference17Ideal.nD Cert.Reference17Ideal.τ).loc Cert.Reference17Ideal.main_arg14) = m ((c.tc : Thread Cert.Reference17Ideal.nD Cert.Reference17Ideal.τ).loc Cert.Reference17Ideal.main_arg14)
      ∧ r.2.mem ((c.tc : Thread Cert.Reference17Ideal.nD Cert.Reference17Ideal.τ).loc Cert.Reference17Ideal.main_arg15) = m ((c.tc : Thread Cert.Reference17Ideal.nD Cert.Reference17Ideal.τ).loc Cert.Reference17Ideal.main_arg15))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v59) = v1 c
          ∧ r.2.mem ((c.tc : Thread Cert.Reference8Ideal.nD Cert.Reference8Ideal.τ).loc Cert.Reference8Ideal.main_v80) = v2 c
          ∧ r.2.mem ((c.tc : Thread Cert.Reference8Ideal.nD Cert.Reference8Ideal.τ).loc Cert.Reference8Ideal.main_v81) = v3 c
          ∧ r.2.mem ((c.tc : Thread Cert.Reference8Ideal.nD Cert.Reference8Ideal.τ).loc Cert.Reference8Ideal.main_v82) = v4 c
          ∧ r.2.mem ((c.tc : Thread Cert.Reference8Ideal.nD Cert.Reference8Ideal.τ).loc Cert.Reference8Ideal.main_v79) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v0_6)) (v7 : (c : Dev Cert.Kernel9Ideal.nD) → Buf (Elt Ideal) ((c.tc : Thread Cert.Kernel9Ideal.nD Cert.Kernel9Ideal.τ).loc Cert.Kernel9Ideal.main_v0_7)) (v8 : (c : Dev Cert.Kernel9Ideal.nD) → Buf (Elt Ideal) ((c.tc : Thread Cert.Kernel9Ideal.nD Cert.Kernel9Ideal.τ).loc Cert.Kernel9Ideal.main_v0_8)) (v9 : (c : Dev Cert.Kernel9Ideal.nD) → Buf (Elt Ideal) ((c.tc : Thread Cert.Kernel9Ideal.nD Cert.Kernel9Ideal.τ).loc Cert.Kernel9Ideal.main_v0_9)) (v10 : (c : Dev Cert.Kernel9Ideal.nD) → Buf (Elt Ideal) ((c.tc : Thread Cert.Kernel9Ideal.nD Cert.Kernel9Ideal.τ).loc Cert.Kernel9Ideal.main_v0_10)) (v11 : (c : Dev Cert.Kernel9Ideal.nD) → Buf (Elt Ideal) ((c.tc : Thread Cert.Kernel9Ideal.nD Cert.Kernel9Ideal.τ).loc Cert.Kernel9Ideal.main_v0_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v0_6) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_v0_8) = v8 c
          ∧ r.2.mem ((c.tc : Thread Cert.Kernel9Ideal.nD Cert.Kernel9Ideal.τ).loc Cert.Kernel9Ideal.main_v0_9) = v9 c
          ∧ r.2.mem ((c.tc : Thread Cert.Kernel9Ideal.nD Cert.Kernel9Ideal.τ).loc Cert.Kernel9Ideal.main_v0_10) = v10 c
          ∧ r.2.mem ((c.tc : Thread Cert.Kernel9Ideal.nD Cert.Kernel9Ideal.τ).loc Cert.Kernel9Ideal.main_v0_11) = v11 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v104) = v0 c
          ∧ r.2.mem ((c.tc : Thread Cert.Reference9Ideal.nD Cert.Reference9Ideal.τ).loc Cert.Reference9Ideal.main_v145) = v1 c
          ∧ r.2.mem ((c.tc : Thread Cert.Reference9Ideal.nD Cert.Reference9Ideal.τ).loc Cert.Reference9Ideal.main_v146) = v2 c
          ∧ r.2.mem ((c.tc : Thread Cert.Reference9Ideal.nD Cert.Reference9Ideal.τ).loc Cert.Reference9Ideal.main_v147) = v3 c
          ∧ r.2.mem ((c.tc : Thread Cert.Reference9Ideal.nD Cert.Reference9Ideal.τ).loc Cert.Reference9Ideal.main_v148) = v4 c
          ∧ r.2.mem ((c.tc : Thread Cert.Reference9Ideal.nD Cert.Reference9Ideal.τ).loc Cert.Reference9Ideal.main_v149) = v5 c
          ∧ r.2.mem ((c.tc : Thread Cert.Reference9Ideal.nD Cert.Reference9Ideal.τ).loc Cert.Reference9Ideal.main_v150) = v6 c
          ∧ r.2.mem ((c.tc : Thread Cert.Reference9Ideal.nD Cert.Reference9Ideal.τ).loc Cert.Reference9Ideal.main_v151) = v7 c
          ∧ r.2.mem ((c.tc : Thread Cert.Reference9Ideal.nD Cert.Reference9Ideal.τ).loc Cert.Reference9Ideal.main_v152) = v8 c
          ∧ r.2.mem ((c.tc : Thread Cert.Reference9Ideal.nD Cert.Reference9Ideal.τ).loc Cert.Reference9Ideal.main_v128) = v9 c
          ∧ r.2.mem ((c.tc : Thread Cert.Reference9Ideal.nD Cert.Reference9Ideal.τ).loc Cert.Reference9Ideal.main_v87) = v10 c
          ∧ r.2.mem ((c.tc : Thread Cert.Reference9Ideal.nD Cert.Reference9Ideal.τ).loc Cert.Reference9Ideal.main_v38) = v11 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v25_0)) (v1 : (c : Dev Cert.Kernel10Ideal.nD) → Buf (Elt Ideal) ((c.tc : Thread Cert.Kernel10Ideal.nD Cert.Kernel10Ideal.τ).loc Cert.Kernel10Ideal.main_v25_1)) (v2 : (c : Dev Cert.Kernel10Ideal.nD) → Buf (Elt Ideal) ((c.tc : Thread Cert.Kernel10Ideal.nD Cert.Kernel10Ideal.τ).loc Cert.Kernel10Ideal.main_v25_2)) (v3 : (c : Dev Cert.Kernel10Ideal.nD) → Buf (Elt Ideal) ((c.tc : Thread Cert.Kernel10Ideal.nD Cert.Kernel10Ideal.τ).loc Cert.Kernel10Ideal.main_v25_3)) (v4 : (c : Dev Cert.Kernel10Ideal.nD) → Buf (Elt Ideal) ((c.tc : Thread Cert.Kernel10Ideal.nD Cert.Kernel10Ideal.τ).loc Cert.Kernel10Ideal.main_v25_4)) (v5 : (c : Dev Cert.Kernel10Ideal.nD) → Buf (Elt Ideal) ((c.tc : Thread Cert.Kernel10Ideal.nD Cert.Kernel10Ideal.τ).loc Cert.Kernel10Ideal.main_v25_5)) (v6 : (c : Dev Cert.Kernel10Ideal.nD) → Buf (Elt Ideal) ((c.tc : Thread Cert.Kernel10Ideal.nD Cert.Kernel10Ideal.τ).loc Cert.Kernel10Ideal.main_v25_6)) (v7 : (c : Dev Cert.Kernel10Ideal.nD) → Buf (Elt Ideal) ((c.tc : Thread Cert.Kernel10Ideal.nD Cert.Kernel10Ideal.τ).loc Cert.Kernel10Ideal.main_v25_7)) (v8 : (c : Dev Cert.Kernel10Ideal.nD) → Buf (Elt Ideal) ((c.tc : Thread Cert.Kernel10Ideal.nD Cert.Kernel10Ideal.τ).loc Cert.Kernel10Ideal.main_v25_8)) (v9 : (c : Dev Cert.Kernel10Ideal.nD) → Buf (Elt Ideal) ((c.tc : Thread Cert.Kernel10Ideal.nD Cert.Kernel10Ideal.τ).loc Cert.Kernel10Ideal.main_v25_9)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v25_0) = v0 c
          ∧ r.2.mem ((c.tc : Thread Cert.Kernel10Ideal.nD Cert.Kernel10Ideal.τ).loc Cert.Kernel10Ideal.main_v25_1) = v1 c
          ∧ r.2.mem ((c.tc : Thread Cert.Kernel10Ideal.nD Cert.Kernel10Ideal.τ).loc Cert.Kernel10Ideal.main_v25_2) = v2 c
          ∧ r.2.mem ((c.tc : Thread Cert.Kernel10Ideal.nD Cert.Kernel10Ideal.τ).loc Cert.Kernel10Ideal.main_v25_3) = v3 c
          ∧ r.2.mem ((c.tc : Thread Cert.Kernel10Ideal.nD Cert.Kernel10Ideal.τ).loc Cert.Kernel10Ideal.main_v25_4) = v4 c
          ∧ r.2.mem ((c.tc : Thread Cert.Kernel10Ideal.nD Cert.Kernel10Ideal.τ).loc Cert.Kernel10Ideal.main_v25_5) = v5 c
          ∧ r.2.mem ((c.tc : Thread Cert.Kernel10Ideal.nD Cert.Kernel10Ideal.τ).loc Cert.Kernel10Ideal.main_v25_6) = v6 c
          ∧ r.2.mem ((c.tc : Thread Cert.Kernel10Ideal.nD Cert.Kernel10Ideal.τ).loc Cert.Kernel10Ideal.main_v25_7) = v7 c
          ∧ r.2.mem ((c.tc : Thread Cert.Kernel10Ideal.nD Cert.Kernel10Ideal.τ).loc Cert.Kernel10Ideal.main_v25_8) = v8 c
          ∧ r.2.mem ((c.tc : Thread Cert.Kernel10Ideal.nD Cert.Kernel10Ideal.τ).loc Cert.Kernel10Ideal.main_v25_9) = v9 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v38) = v1 c
          ∧ r.2.mem ((c.tc : Thread Cert.Reference10Ideal.nD Cert.Reference10Ideal.τ).loc Cert.Reference10Ideal.main_v39) = v2 c
          ∧ r.2.mem ((c.tc : Thread Cert.Reference10Ideal.nD Cert.Reference10Ideal.τ).loc Cert.Reference10Ideal.main_v40) = v3 c
          ∧ r.2.mem ((c.tc : Thread Cert.Reference10Ideal.nD Cert.Reference10Ideal.τ).loc Cert.Reference10Ideal.main_v41) = v4 c
          ∧ r.2.mem ((c.tc : Thread Cert.Reference10Ideal.nD Cert.Reference10Ideal.τ).loc Cert.Reference10Ideal.main_v42) = v5 c
          ∧ r.2.mem ((c.tc : Thread Cert.Reference10Ideal.nD Cert.Reference10Ideal.τ).loc Cert.Reference10Ideal.main_v43) = v6 c
          ∧ r.2.mem ((c.tc : Thread Cert.Reference10Ideal.nD Cert.Reference10Ideal.τ).loc Cert.Reference10Ideal.main_v129) = v7 c
          ∧ r.2.mem ((c.tc : Thread Cert.Reference10Ideal.nD Cert.Reference10Ideal.τ).loc Cert.Reference10Ideal.main_v130) = v8 c
          ∧ r.2.mem ((c.tc : Thread Cert.Reference10Ideal.nD Cert.Reference10Ideal.τ).loc Cert.Reference10Ideal.main_v132) = v9 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v51) = v0 c
          ∧ r.2.mem ((c.tc : Thread Cert.Reference11Ideal.nD Cert.Reference11Ideal.τ).loc Cert.Reference11Ideal.main_v52) = v1 c
          ∧ r.2.mem ((c.tc : Thread Cert.Reference11Ideal.nD Cert.Reference11Ideal.τ).loc Cert.Reference11Ideal.main_v35) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)) (v9 : (c : Dev Cert.Kernel12Ideal.nD) → Buf (Elt Ideal) ((c.tc : Thread Cert.Kernel12Ideal.nD Cert.Kernel12Ideal.τ).loc Cert.Kernel12Ideal.main_v0_9)) (v10 : (c : Dev Cert.Kernel12Ideal.nD) → Buf (Elt Ideal) ((c.tc : Thread Cert.Kernel12Ideal.nD Cert.Kernel12Ideal.τ).loc Cert.Kernel12Ideal.main_v0_10)) (v11 : (c : Dev Cert.Kernel12Ideal.nD) → Buf (Elt Ideal) ((c.tc : Thread Cert.Kernel12Ideal.nD Cert.Kernel12Ideal.τ).loc Cert.Kernel12Ideal.main_v0_11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_v0_9) = v9 c
          ∧ r.2.mem ((c.tc : Thread Cert.Kernel12Ideal.nD Cert.Kernel12Ideal.τ).loc Cert.Kernel12Ideal.main_v0_10) = v10 c
          ∧ r.2.mem ((c.tc : Thread Cert.Kernel12Ideal.nD Cert.Kernel12Ideal.τ).loc Cert.Kernel12Ideal.main_v0_11) = v11 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v47) = v1 c
          ∧ r.2.mem ((c.tc : Thread Cert.Reference12Ideal.nD Cert.Reference12Ideal.τ).loc Cert.Reference12Ideal.main_v71) = v2 c
          ∧ r.2.mem ((c.tc : Thread Cert.Reference12Ideal.nD Cert.Reference12Ideal.τ).loc Cert.Reference12Ideal.main_v95) = v3 c
          ∧ r.2.mem ((c.tc : Thread Cert.Reference12Ideal.nD Cert.Reference12Ideal.τ).loc Cert.Reference12Ideal.main_v4) = v4 c
          ∧ r.2.mem ((c.tc : Thread Cert.Reference12Ideal.nD Cert.Reference12Ideal.τ).loc Cert.Reference12Ideal.main_v28) = v5 c
          ∧ r.2.mem ((c.tc : Thread Cert.Reference12Ideal.nD Cert.Reference12Ideal.τ).loc Cert.Reference12Ideal.main_v52) = v6 c
          ∧ r.2.mem ((c.tc : Thread Cert.Reference12Ideal.nD Cert.Reference12Ideal.τ).loc Cert.Reference12Ideal.main_v76) = v7 c
          ∧ r.2.mem ((c.tc : Thread Cert.Reference12Ideal.nD Cert.Reference12Ideal.τ).loc Cert.Reference12Ideal.main_v10) = v8 c
          ∧ r.2.mem ((c.tc : Thread Cert.Reference12Ideal.nD Cert.Reference12Ideal.τ).loc Cert.Reference12Ideal.main_v34) = v9 c
          ∧ r.2.mem ((c.tc : Thread Cert.Reference12Ideal.nD Cert.Reference12Ideal.τ).loc Cert.Reference12Ideal.main_v58) = v10 c
          ∧ r.2.mem ((c.tc : Thread Cert.Reference12Ideal.nD Cert.Reference12Ideal.τ).loc Cert.Reference12Ideal.main_v82) = v11 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)) (v6 : (c : Dev Cert.Kernel16Ideal.nD) → Buf (Elt Ideal) ((c.tc : Thread Cert.Kernel16Ideal.nD Cert.Kernel16Ideal.τ).loc Cert.Kernel16Ideal.main_v0_6)) (v7 : (c : Dev Cert.Kernel16Ideal.nD) → Buf (Elt Ideal) ((c.tc : Thread Cert.Kernel16Ideal.nD Cert.Kernel16Ideal.τ).loc Cert.Kernel16Ideal.main_v0_7)) (v8 : (c : Dev Cert.Kernel16Ideal.nD) → Buf (Elt Ideal) ((c.tc : Thread Cert.Kernel16Ideal.nD Cert.Kernel16Ideal.τ).loc Cert.Kernel16Ideal.main_v0_8)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_v0_6) = v6 c
          ∧ r.2.mem ((c.tc : Thread Cert.Kernel16Ideal.nD Cert.Kernel16Ideal.τ).loc Cert.Kernel16Ideal.main_v0_7) = v7 c
          ∧ r.2.mem ((c.tc : Thread Cert.Kernel16Ideal.nD Cert.Kernel16Ideal.τ).loc Cert.Kernel16Ideal.main_v0_8) = v8 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v1) = v1 c
          ∧ r.2.mem ((c.tc : Thread Cert.Reference16Ideal.nD Cert.Reference16Ideal.τ).loc Cert.Reference16Ideal.main_v2) = v2 c
          ∧ r.2.mem ((c.tc : Thread Cert.Reference16Ideal.nD Cert.Reference16Ideal.τ).loc Cert.Reference16Ideal.main_v3) = v3 c
          ∧ r.2.mem ((c.tc : Thread Cert.Reference16Ideal.nD Cert.Reference16Ideal.τ).loc Cert.Reference16Ideal.main_v4) = v4 c
          ∧ r.2.mem ((c.tc : Thread Cert.Reference16Ideal.nD Cert.Reference16Ideal.τ).loc Cert.Reference16Ideal.main_v5) = v5 c
          ∧ r.2.mem ((c.tc : Thread Cert.Reference16Ideal.nD Cert.Reference16Ideal.τ).loc Cert.Reference16Ideal.main_v6) = v6 c
          ∧ r.2.mem ((c.tc : Thread Cert.Reference16Ideal.nD Cert.Reference16Ideal.τ).loc Cert.Reference16Ideal.main_v7) = v7 c
          ∧ r.2.mem ((c.tc : Thread Cert.Reference16Ideal.nD Cert.Reference16Ideal.τ).loc Cert.Reference16Ideal.main_v8) = v8 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)
      ∧ m' ((c.tc : Thread Cert.Reference17Ideal.nD Cert.Reference17Ideal.τ).loc Cert.Reference17Ideal.main_arg13) = m ((c.tc : Thread Cert.Kernel17Ideal.nD Cert.Kernel17Ideal.τ).loc Cert.Kernel17Ideal.main_arg13)
      ∧ m' ((c.tc : Thread Cert.Reference17Ideal.nD Cert.Reference17Ideal.τ).loc Cert.Reference17Ideal.main_arg14) = m ((c.tc : Thread Cert.Kernel17Ideal.nD Cert.Kernel17Ideal.τ).loc Cert.Kernel17Ideal.main_arg14)
      ∧ m' ((c.tc : Thread Cert.Reference17Ideal.nD Cert.Reference17Ideal.τ).loc Cert.Reference17Ideal.main_arg15) = m ((c.tc : Thread Cert.Kernel17Ideal.nD Cert.Kernel17Ideal.τ).loc Cert.Kernel17Ideal.main_arg15)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)) (v6 : (c : Dev Cert.Kernel17Ideal.nD) → Buf (Elt Ideal) ((c.tc : Thread Cert.Kernel17Ideal.nD Cert.Kernel17Ideal.τ).loc Cert.Kernel17Ideal.main_v0_6)) (v7 : (c : Dev Cert.Kernel17Ideal.nD) → Buf (Elt Ideal) ((c.tc : Thread Cert.Kernel17Ideal.nD Cert.Kernel17Ideal.τ).loc Cert.Kernel17Ideal.main_v0_7)) (v8 : (c : Dev Cert.Kernel17Ideal.nD) → Buf (Elt Ideal) ((c.tc : Thread Cert.Kernel17Ideal.nD Cert.Kernel17Ideal.τ).loc Cert.Kernel17Ideal.main_v0_8)) (v9 : (c : Dev Cert.Kernel17Ideal.nD) → Buf (Elt Ideal) ((c.tc : Thread Cert.Kernel17Ideal.nD Cert.Kernel17Ideal.τ).loc Cert.Kernel17Ideal.main_v0_9)) (v10 : (c : Dev Cert.Kernel17Ideal.nD) → Buf (Elt Ideal) ((c.tc : Thread Cert.Kernel17Ideal.nD Cert.Kernel17Ideal.τ).loc Cert.Kernel17Ideal.main_v0_10)) (v11 : (c : Dev Cert.Kernel17Ideal.nD) → Buf (Elt Ideal) ((c.tc : Thread Cert.Kernel17Ideal.nD Cert.Kernel17Ideal.τ).loc Cert.Kernel17Ideal.main_v0_11)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_v0_6) = v6 c
          ∧ r.2.mem ((c.tc : Thread Cert.Kernel17Ideal.nD Cert.Kernel17Ideal.τ).loc Cert.Kernel17Ideal.main_v0_7) = v7 c
          ∧ r.2.mem ((c.tc : Thread Cert.Kernel17Ideal.nD Cert.Kernel17Ideal.τ).loc Cert.Kernel17Ideal.main_v0_8) = v8 c
          ∧ r.2.mem ((c.tc : Thread Cert.Kernel17Ideal.nD Cert.Kernel17Ideal.τ).loc Cert.Kernel17Ideal.main_v0_9) = v9 c
          ∧ r.2.mem ((c.tc : Thread Cert.Kernel17Ideal.nD Cert.Kernel17Ideal.τ).loc Cert.Kernel17Ideal.main_v0_10) = v10 c
          ∧ r.2.mem ((c.tc : Thread Cert.Kernel17Ideal.nD Cert.Kernel17Ideal.τ).loc Cert.Kernel17Ideal.main_v0_11) = v11 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12)
          ∧ r.2.mem ((c.tc : Thread Cert.Kernel17Ideal.nD Cert.Kernel17Ideal.τ).loc Cert.Kernel17Ideal.main_arg13) = m ((c.tc : Thread Cert.Kernel17Ideal.nD Cert.Kernel17Ideal.τ).loc Cert.Kernel17Ideal.main_arg13)
          ∧ r.2.mem ((c.tc : Thread Cert.Kernel17Ideal.nD Cert.Kernel17Ideal.τ).loc Cert.Kernel17Ideal.main_arg14) = m ((c.tc : Thread Cert.Kernel17Ideal.nD Cert.Kernel17Ideal.τ).loc Cert.Kernel17Ideal.main_arg14)
          ∧ r.2.mem ((c.tc : Thread Cert.Kernel17Ideal.nD Cert.Kernel17Ideal.τ).loc Cert.Kernel17Ideal.main_arg15) = m ((c.tc : Thread Cert.Kernel17Ideal.nD Cert.Kernel17Ideal.τ).loc Cert.Kernel17Ideal.main_arg15))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v47) = v1 c
          ∧ r.2.mem ((c.tc : Thread Cert.Reference17Ideal.nD Cert.Reference17Ideal.τ).loc Cert.Reference17Ideal.main_v71) = v2 c
          ∧ r.2.mem ((c.tc : Thread Cert.Reference17Ideal.nD Cert.Reference17Ideal.τ).loc Cert.Reference17Ideal.main_v95) = v3 c
          ∧ r.2.mem ((c.tc : Thread Cert.Reference17Ideal.nD Cert.Reference17Ideal.τ).loc Cert.Reference17Ideal.main_v4) = v4 c
          ∧ r.2.mem ((c.tc : Thread Cert.Reference17Ideal.nD Cert.Reference17Ideal.τ).loc Cert.Reference17Ideal.main_v28) = v5 c
          ∧ r.2.mem ((c.tc : Thread Cert.Reference17Ideal.nD Cert.Reference17Ideal.τ).loc Cert.Reference17Ideal.main_v52) = v6 c
          ∧ r.2.mem ((c.tc : Thread Cert.Reference17Ideal.nD Cert.Reference17Ideal.τ).loc Cert.Reference17Ideal.main_v76) = v7 c
          ∧ r.2.mem ((c.tc : Thread Cert.Reference17Ideal.nD Cert.Reference17Ideal.τ).loc Cert.Reference17Ideal.main_v10) = v8 c
          ∧ r.2.mem ((c.tc : Thread Cert.Reference17Ideal.nD Cert.Reference17Ideal.τ).loc Cert.Reference17Ideal.main_v34) = v9 c
          ∧ r.2.mem ((c.tc : Thread Cert.Reference17Ideal.nD Cert.Reference17Ideal.τ).loc Cert.Reference17Ideal.main_v58) = v10 c
          ∧ r.2.mem ((c.tc : Thread Cert.Reference17Ideal.nD Cert.Reference17Ideal.τ).loc Cert.Reference17Ideal.main_v82) = v11 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12)
          ∧ r.2.mem ((c.tc : Thread Cert.Reference17Ideal.nD Cert.Reference17Ideal.τ).loc Cert.Reference17Ideal.main_arg13) = m' ((c.tc : Thread Cert.Reference17Ideal.nD Cert.Reference17Ideal.τ).loc Cert.Reference17Ideal.main_arg13)
          ∧ r.2.mem ((c.tc : Thread Cert.Reference17Ideal.nD Cert.Reference17Ideal.τ).loc Cert.Reference17Ideal.main_arg14) = m' ((c.tc : Thread Cert.Reference17Ideal.nD Cert.Reference17Ideal.τ).loc Cert.Reference17Ideal.main_arg14)
          ∧ r.2.mem ((c.tc : Thread Cert.Reference17Ideal.nD Cert.Reference17Ideal.τ).loc Cert.Reference17Ideal.main_arg15) = m' ((c.tc : Thread Cert.Reference17Ideal.nD Cert.Reference17Ideal.τ).loc Cert.Reference17Ideal.main_arg15))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)) (v4 : (c : Dev Cert.Kernel18Ideal.nD) → Buf (Elt Ideal) ((c.tc : Thread Cert.Kernel18Ideal.nD Cert.Kernel18Ideal.τ).loc Cert.Kernel18Ideal.main_v0_4)) (v5 : (c : Dev Cert.Kernel18Ideal.nD) → Buf (Elt Ideal) ((c.tc : Thread Cert.Kernel18Ideal.nD Cert.Kernel18Ideal.τ).loc Cert.Kernel18Ideal.main_v0_5)) (v6 : (c : Dev Cert.Kernel18Ideal.nD) → Buf (Elt Ideal) ((c.tc : Thread Cert.Kernel18Ideal.nD Cert.Kernel18Ideal.τ).loc Cert.Kernel18Ideal.main_v0_6)) (v7 : (c : Dev Cert.Kernel18Ideal.nD) → Buf (Elt Ideal) ((c.tc : Thread Cert.Kernel18Ideal.nD Cert.Kernel18Ideal.τ).loc Cert.Kernel18Ideal.main_v0_7)) (v8 : (c : Dev Cert.Kernel18Ideal.nD) → Buf (Elt Ideal) ((c.tc : Thread Cert.Kernel18Ideal.nD Cert.Kernel18Ideal.τ).loc Cert.Kernel18Ideal.main_v0_8)) (v9 : (c : Dev Cert.Kernel18Ideal.nD) → Buf (Elt Ideal) ((c.tc : Thread Cert.Kernel18Ideal.nD Cert.Kernel18Ideal.τ).loc Cert.Kernel18Ideal.main_v0_9)) (v10 : (c : Dev Cert.Kernel18Ideal.nD) → Buf (Elt Ideal) ((c.tc : Thread Cert.Kernel18Ideal.nD Cert.Kernel18Ideal.τ).loc Cert.Kernel18Ideal.main_v0_10)) (v11 : (c : Dev Cert.Kernel18Ideal.nD) → Buf (Elt Ideal) ((c.tc : Thread Cert.Kernel18Ideal.nD Cert.Kernel18Ideal.τ).loc Cert.Kernel18Ideal.main_v0_11)) (v12 : (c : Dev Cert.Kernel18Ideal.nD) → Buf (Elt Ideal) ((c.tc : Thread Cert.Kernel18Ideal.nD Cert.Kernel18Ideal.τ).loc Cert.Kernel18Ideal.main_v0_12)) (v13 : (c : Dev Cert.Kernel18Ideal.nD) → Buf (Elt Ideal) ((c.tc : Thread Cert.Kernel18Ideal.nD Cert.Kernel18Ideal.τ).loc Cert.Kernel18Ideal.main_v0_13)) (v14 : (c : Dev Cert.Kernel18Ideal.nD) → Buf (Elt Ideal) ((c.tc : Thread Cert.Kernel18Ideal.nD Cert.Kernel18Ideal.τ).loc Cert.Kernel18Ideal.main_v0_14)) (v15 : (c : Dev Cert.Kernel18Ideal.nD) → Buf (Elt Ideal) ((c.tc : Thread Cert.Kernel18Ideal.nD Cert.Kernel18Ideal.τ).loc Cert.Kernel18Ideal.main_v0_15)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_v0_4) = v4 c
          ∧ r.2.mem ((c.tc : Thread Cert.Kernel18Ideal.nD Cert.Kernel18Ideal.τ).loc Cert.Kernel18Ideal.main_v0_5) = v5 c
          ∧ r.2.mem ((c.tc : Thread Cert.Kernel18Ideal.nD Cert.Kernel18Ideal.τ).loc Cert.Kernel18Ideal.main_v0_6) = v6 c
          ∧ r.2.mem ((c.tc : Thread Cert.Kernel18Ideal.nD Cert.Kernel18Ideal.τ).loc Cert.Kernel18Ideal.main_v0_7) = v7 c
          ∧ r.2.mem ((c.tc : Thread Cert.Kernel18Ideal.nD Cert.Kernel18Ideal.τ).loc Cert.Kernel18Ideal.main_v0_8) = v8 c
          ∧ r.2.mem ((c.tc : Thread Cert.Kernel18Ideal.nD Cert.Kernel18Ideal.τ).loc Cert.Kernel18Ideal.main_v0_9) = v9 c
          ∧ r.2.mem ((c.tc : Thread Cert.Kernel18Ideal.nD Cert.Kernel18Ideal.τ).loc Cert.Kernel18Ideal.main_v0_10) = v10 c
          ∧ r.2.mem ((c.tc : Thread Cert.Kernel18Ideal.nD Cert.Kernel18Ideal.τ).loc Cert.Kernel18Ideal.main_v0_11) = v11 c
          ∧ r.2.mem ((c.tc : Thread Cert.Kernel18Ideal.nD Cert.Kernel18Ideal.τ).loc Cert.Kernel18Ideal.main_v0_12) = v12 c
          ∧ r.2.mem ((c.tc : Thread Cert.Kernel18Ideal.nD Cert.Kernel18Ideal.τ).loc Cert.Kernel18Ideal.main_v0_13) = v13 c
          ∧ r.2.mem ((c.tc : Thread Cert.Kernel18Ideal.nD Cert.Kernel18Ideal.τ).loc Cert.Kernel18Ideal.main_v0_14) = v14 c
          ∧ r.2.mem ((c.tc : Thread Cert.Kernel18Ideal.nD Cert.Kernel18Ideal.τ).loc Cert.Kernel18Ideal.main_v0_15) = v15 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v53) = v2 c
          ∧ r.2.mem ((c.tc : Thread Cert.Reference18Ideal.nD Cert.Reference18Ideal.τ).loc Cert.Reference18Ideal.main_v79) = v3 c
          ∧ r.2.mem ((c.tc : Thread Cert.Reference18Ideal.nD Cert.Reference18Ideal.τ).loc Cert.Reference18Ideal.main_v25) = v4 c
          ∧ r.2.mem ((c.tc : Thread Cert.Reference18Ideal.nD Cert.Reference18Ideal.τ).loc Cert.Reference18Ideal.main_v51) = v5 c
          ∧ r.2.mem ((c.tc : Thread Cert.Reference18Ideal.nD Cert.Reference18Ideal.τ).loc Cert.Reference18Ideal.main_v77) = v6 c
          ∧ r.2.mem ((c.tc : Thread Cert.Reference18Ideal.nD Cert.Reference18Ideal.τ).loc Cert.Reference18Ideal.main_v103) = v7 c
          ∧ r.2.mem ((c.tc : Thread Cert.Reference18Ideal.nD Cert.Reference18Ideal.τ).loc Cert.Reference18Ideal.main_v6) = v8 c
          ∧ r.2.mem ((c.tc : Thread Cert.Reference18Ideal.nD Cert.Reference18Ideal.τ).loc Cert.Reference18Ideal.main_v32) = v9 c
          ∧ r.2.mem ((c.tc : Thread Cert.Reference18Ideal.nD Cert.Reference18Ideal.τ).loc Cert.Reference18Ideal.main_v58) = v10 c
          ∧ r.2.mem ((c.tc : Thread Cert.Reference18Ideal.nD Cert.Reference18Ideal.τ).loc Cert.Reference18Ideal.main_v84) = v11 c
          ∧ r.2.mem ((c.tc : Thread Cert.Reference18Ideal.nD Cert.Reference18Ideal.τ).loc Cert.Reference18Ideal.main_v12) = v12 c
          ∧ r.2.mem ((c.tc : Thread Cert.Reference18Ideal.nD Cert.Reference18Ideal.τ).loc Cert.Reference18Ideal.main_v38) = v13 c
          ∧ r.2.mem ((c.tc : Thread Cert.Reference18Ideal.nD Cert.Reference18Ideal.τ).loc Cert.Reference18Ideal.main_v64) = v14 c
          ∧ r.2.mem ((c.tc : Thread Cert.Reference18Ideal.nD Cert.Reference18Ideal.τ).loc Cert.Reference18Ideal.main_v90) = v15 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite8 : Cert.Pre_finite8.Facts) (hPre_finite9 : Cert.Pre_finite9.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S8192x1024 : Shape := ⟨2, ![8192, 1024]⟩
abbrev S8192x512 : Shape := ⟨2, ![8192, 512]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)

variable [Facts]

def fn {F : FTy → Type} [FloatOps F] (main_arg0 : FVec F S8192x1024 .bf16) (main_arg1 : FVec F S8192x1024 .bf16) (main_arg2 : FVec F S8192x512 .bf16) (main_arg3 : FVec F S8192x512 .bf16) : IVec S8192x1024 1 × IVec S8192x1024 1 × IVec S8192x512 1 × IVec S8192x512 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  (main_v3, main_v7, main_v11, main_v15)
-- ==== Pre_finite11.lean ====
abbrev S8192x512 : Shape := ⟨2, ![8192, 512]⟩
abbrev S1x512 : Shape := ⟨2, ![1, 512]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S1x512 : S_.BroadcastsInDim S1x512 (![] : Fin 0 → Fin S1x512.rank)

variable [Facts]

def fn {F : FTy → Type} [FloatOps F] (main_arg0 : FVec F S8192x512 .bf16) (main_arg1 : FVec F S8192x512 .bf16) (main_arg2 : FVec F S8192x512 .f32) (main_arg3 : FVec F S1x512 .f32) (main_arg4 : FVec F S8192x512 .bf16) : IVec S8192x512 1 × IVec S8192x512 1 × IVec S8192x512 1 × IVec S1x512 1 × IVec S8192x512 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := Host.absf main_arg2
  let main_cst_1 : FVec F S_ .f32 := constant S_ .f32 0x7F800000#32
  let main_v9 : FVec F S8192x512 .f32 := broadcastInDim S8192x512 ![] bcast_S_S8192x512 main_cst_1
  let main_v10 : IVec S8192x512 1 := cmpf .olt main_v8 main_v9
  let main_v11 : FVec F S1x512 .f32 := Host.absf main_arg3
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : FVec F S8192x512 .f32 := (extf .f32 · bitsLt_bf16_f32) main_arg4
  let main_v15 : FVec F S8192x512 .f32 := Host.absf main_v14
  let main_cst_3 : FVec F S_ .f32 := constant S_ .f32 0x7F800000#32
  let main_v16 : FVec F S8192x512 .f32 := broadcastInDim S8192x512 ![] bcast_S_S8192x512 main_cst_3
  let main_v17 : IVec S8192x512 1 := cmpf .olt main_v15 main_v16
  (main_v3, main_v7, main_v10, main_v13, main_v17)
-- ==== Pre_finite8.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)

variable [Facts]

def fn {F : FTy → Type} [FloatOps F] (main_arg0 : FVec F S8192x1024 .f32) (main_arg1 : FVec F S8192x512 .bf16) (main_arg2 : FVec F S8192x512 .bf16) (main_arg3 : FVec F S8192x512 .f32) (main_arg4 : FVec F S8192x512 .f32) (main_arg5 : FVec F S8192x1024 .f32) (main_arg6 : FVec F S1x512 .f32) (main_arg7 : FVec F S1x512 .f32) (main_arg8 : FVec F S1024x1024 .bf16) (main_arg9 : FVec F S1x1024 .f32) (main_arg10 : FVec F S2816x1024 .bf16) (main_arg11 : FVec F S2816x1024 .bf16) (main_arg12 : FVec F S2816x1024 .bf16) (main_arg13 : FVec F S1x1024 .f32) : IVec S8192x512 1 × IVec S8192x512 1 :=
  let main_v0 : FVec F S8192x512 .f32 := (extf .f32 · bitsLt_bf16_f32) main_arg1
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg2
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  (main_v3, main_v7)
-- ==== Pre_finite9.lean ====
abbrev S8192x1024 : Shape := ⟨2, ![8192, 1024]⟩
abbrev S8192x2816 : Shape := ⟨2, ![8192, 2816]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x1024 .f32) (main_arg2 : FVec F S8192x2816 .bf16) (main_arg3 : FVec F S8192x2816 .bf16) (main_arg4 : FVec F S8192x512 .f32) (main_arg5 : FVec F S8192x1024 .f32) (main_arg6 : FVec F S1x512 .f32) (main_arg7 : FVec F S1024x1024 .bf16) (main_arg8 : FVec F S1x1024 .f32) (main_arg9 : FVec F S2816x1024 .bf16) (main_arg10 : FVec F S2816x1024 .bf16) (main_arg11 : FVec F S2816x1024 .bf16) (main_arg12 : FVec F S1x1024 .f32) : IVec S8192x2816 1 × IVec S8192x1024 1 × IVec S2816x1024 1 × IVec S1x1024 1 :=
  let main_v0 : FVec F S8192x2816 .f32 := (extf .f32 · bitsLt_bf16_f32) main_arg3
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x1024 .f32 := Host.absf main_arg5
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S2816x1024 .f32 := (extf .f32 · bitsLt_bf16_f32) main_arg11
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S1x1024 .f32 := Host.absf main_arg12
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v6, main_v10, main_v13)
-- ==== Kernel.lean ====
abbrev S8192x1024 : Shape := ⟨2, ![8192, 1024]⟩
abbrev S8192x512 : Shape := ⟨2, ![8192, 512]⟩
abbrev S4x8192x1 : Shape := ⟨3, ![4, 8192, 1]⟩
abbrev S1024x256 : Shape := ⟨2, ![1024, 256]⟩
abbrev S4096x256 : Shape := ⟨2, ![4096, 256]⟩
abbrev S4096x128 : Shape := ⟨2, ![4096, 128]⟩
abbrev S1024x128 : Shape := ⟨2, ![1024, 128]⟩
abbrev S1x1024x1 : Shape := ⟨3, ![1, 1024, 1]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩
abbrev S1x256x1 : Shape := ⟨3, ![1, 256, 1]⟩
abbrev S1024x4096 : Shape := ⟨2, ![1024, 4096]⟩

abbrev nBuf : Space → Nat
  | .hbm => 9
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x512, .f32⟩
  | .hbm, ⟨5, _⟩ => ⟨S4x8192x1, .f32⟩
  | .hbm, ⟨6, _⟩ => ⟨S8192x1024, .bf16⟩
  | .hbm, ⟨7, _⟩ => ⟨S8192x1024, .f32⟩
  | .hbm, ⟨8, _⟩ => ⟨S8192x512, .f32⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x256, .bf16⟩
  | .local _ .vmem, ⟨11, _⟩ => ⟨S1024x256, .bf16⟩
  | .local _ .vmem, ⟨12, _⟩ => ⟨S4096x256, .bf16⟩
  | .local _ .vmem, ⟨13, _⟩ => ⟨S4096x256, .bf16⟩
  | .local _ .vmem, ⟨14, _⟩ => ⟨S4096x128, .bf16⟩
  | .local _ .vmem, ⟨15, _⟩ => ⟨S4096x128, .bf16⟩
  | .local _ .vmem, ⟨16, _⟩ => ⟨S1024x128, .f32⟩
  | .local _ .vmem, ⟨17, _⟩ => ⟨S1024x128, .f32⟩
  | .local _ .vmem, ⟨18, _⟩ => ⟨S1x1024x1, .f32⟩
  | .local _ .vmem, ⟨19, _⟩ => ⟨S1x1024x1, .f32⟩
  | .local _ .vmem, ⟨20, _⟩ => ⟨S1024x128, .bf16⟩
  | .local _ .vmem, ⟨21, _⟩ => ⟨S1024x128, .bf16⟩
  | .local _ .vmem, ⟨22, _⟩ => ⟨S1024x256, .bf16⟩
  | .local _ .vmem, ⟨23, _⟩ => ⟨S1024x256, .bf16⟩
  | .local _ .vmem, ⟨24, _⟩ => ⟨S4096x256, .f32⟩
  | .local _ .vmem, ⟨25, _⟩ => ⟨S4096x256, .f32⟩
  | .local _ .vmem, ⟨26, _⟩ => ⟨S4096x128, .f32⟩
  | .local _ .vmem, ⟨27, _⟩ => ⟨S4096x128, .f32⟩
  | .local _ .vmem, ⟨28, _⟩ => ⟨S1024x4096, .bf16⟩
  | .local _ .vmem, ⟨29, _⟩ => ⟨S1024x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![arg1.toNat, v1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1024x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S4096x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]
-- ==== ReferenceIdeal.lean ====
abbrev S8192x1024 : Shape := ⟨2, ![8192, 1024]⟩
abbrev S8192x512 : Shape := ⟨2, ![8192, 512]⟩
abbrev S2x4096x4x256 : Shape := ⟨4, ![2, 4096, 4, 256]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4096x4x128 : Shape := ⟨4, ![2, 4096, 4, 128]⟩
abbrev S2x4x128x4096 : Shape := ⟨4, ![2, 4, 128, 4096]⟩
abbrev S2x4x4096x256 : Shape := ⟨4, ![2, 4, 4096, 256]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S8192x1024, .f32⟩
  | .hbm, ⟨6, _⟩ => ⟨S8192x512, .f32⟩
  | .hbm, ⟨7, _⟩ => ⟨S2x4096x4x256, .f32⟩
  | .hbm, ⟨8, _⟩ => ⟨S2x4096x4x256, .f32⟩
  | .hbm, ⟨9, _⟩ => ⟨S2x4x4096x4096, .f32⟩
  | .hbm, ⟨10, _⟩ => ⟨S_, .f32⟩
  | .hbm, ⟨11, _⟩ => ⟨S2x4x4096, .f32⟩
  | .hbm, ⟨12, _⟩ => ⟨S2x4x4096x1, .f32⟩
  | .hbm, ⟨13, _⟩ => ⟨S2x4x4096x4096, .f32⟩
  | .hbm, ⟨14, _⟩ => ⟨S2x4x4096x4096, .i1⟩
  | .hbm, ⟨15, _⟩ => ⟨S2x4x4096x4096, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .i1⟩
  | .hbm, ⟨24, _⟩ => ⟨S_, .f32⟩
  | .hbm, ⟨25, _⟩ => ⟨S2x4x4096, .f32⟩
  | .hbm, ⟨26, _⟩ => ⟨S2x4x4096, .i1⟩
  | .hbm, ⟨27, _⟩ => ⟨S_, .f32⟩
  | .hbm, ⟨28, _⟩ => ⟨S2x4x4096, .f32⟩
  | .hbm, ⟨29, _⟩ => ⟨S_, .f32⟩
  | .hbm, ⟨30, _⟩ => ⟨S2x4x4096, .f32⟩
  | .hbm, ⟨31, _⟩ => ⟨S_, .f32⟩
  | .hbm, ⟨32, _⟩ => ⟨S2x4x4096, .f32⟩
  | .hbm, ⟨33, _⟩ => ⟨S2x4x4096, .f32⟩
  | .hbm, ⟨34, _⟩ => ⟨S2x4x4096, .f32⟩
  | .hbm, ⟨35, _⟩ => ⟨S2x4x4096x1, .f32⟩
  | .hbm, ⟨36, _⟩ => ⟨S2x4x4096x4096, .f32⟩
  | .hbm, ⟨37, _⟩ => ⟨S2x4x4096x4096, .f32⟩
  | .hbm, ⟨38, _⟩ => ⟨S2x4x4096x4096, .f32⟩
  | .hbm, ⟨39, _⟩ => ⟨S_, .f32⟩
  | .hbm, ⟨40, _⟩ => ⟨S2x4x4096, .f32⟩
  | .hbm, ⟨41, _⟩ => ⟨S2x4x4096x1, .f32⟩
  | .hbm, ⟨42, _⟩ => ⟨S2x4x4096x4096, .f32⟩
  | .hbm, ⟨43, _⟩ => ⟨S2x4x4096x4096, .f32⟩
  | .hbm, ⟨44, _⟩ => ⟨S2x4x4096x1, .f32⟩
  | .hbm, ⟨45, _⟩ => ⟨S_, .f32⟩
  | .hbm, ⟨46, _⟩ => ⟨S2x4x4096x1, .f32⟩
  | .hbm, ⟨47, _⟩ => ⟨S2x4x4096x1, .f32⟩
  | .hbm, ⟨48, _⟩ => ⟨S2x4096x4x128, .f32⟩
  | .hbm, ⟨49, _⟩ => ⟨S2x4x128x4096, .f32⟩
  | .hbm, ⟨50, _⟩ => ⟨S2x4096x4x128, .f32⟩
  | .hbm, ⟨51, _⟩ => ⟨S8192x512, .f32⟩
  | .hbm, ⟨52, _⟩ => ⟨S8192x512, .f32⟩
  | .hbm, ⟨53, _⟩ => ⟨S2x4096x4x128, .f32⟩
  | .hbm, ⟨54, _⟩ => ⟨S2x4x128x4096, .f32⟩
  | .hbm, ⟨55, _⟩ => ⟨S2x4x4096x4096, .f32⟩
  | .hbm, ⟨56, _⟩ => ⟨S2x4x128x4096, .f32⟩
  | .hbm, ⟨57, _⟩ => ⟨S2x4096x4x128, .f32⟩
  | .hbm, ⟨58, _⟩ => ⟨S8192x512, .f32⟩
  | .hbm, ⟨59, _⟩ => ⟨S2x4x4096x4096, .f32⟩
  | .hbm, ⟨60, _⟩ => ⟨S2x4x4096x4096, .f32⟩
  | .hbm, ⟨61, _⟩ => ⟨S2x4x4096x4096, .f32⟩
  | .hbm, ⟨62, _⟩ => ⟨S_, .f32⟩
  | .hbm, ⟨63, _⟩ => ⟨S2x4x4096, .f32⟩
  | .hbm, ⟨64, _⟩ => ⟨S2x4x4096x1, .f32⟩
  | .hbm, ⟨65, _⟩ => ⟨S2x4x4096x1, .f32⟩
  | .hbm, ⟨66, _⟩ => ⟨S2x4x4096x4096, .f32⟩
  | .hbm, ⟨67, _⟩ => ⟨S2x4x4096x4096, .f32⟩
  | .hbm, ⟨68, _⟩ => ⟨S_, .f32⟩
  | .hbm, ⟨69, _⟩ => ⟨S2x4x4096, .f32⟩
  | .hbm, ⟨70, _⟩ => ⟨S2x4x4096x4096, .f32⟩
  | .hbm, ⟨71, _⟩ => ⟨S2x4x4096x4096, .f32⟩
  | .hbm, ⟨72, _⟩ => ⟨S2x4x4096x4096, .f32⟩
  | .hbm, ⟨73, _⟩ => ⟨S2x4x4096x256, .f32⟩
  | .hbm, ⟨74, _⟩ => ⟨S2x4096x4x256, .f32⟩
  | .hbm, ⟨75, _⟩ => ⟨S2x4x4096x256, .f32⟩
  | .hbm, ⟨76, _⟩ => ⟨S2x4096x4x256, .f32⟩
  | .hbm, ⟨77, _⟩ => ⟨S8192x1024, .f32⟩
  | .hbm, ⟨78, _⟩ => ⟨S8192x1024, .f32⟩
  | .hbm, ⟨79, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Kernel2.lean ====
abbrev S8192x1024 : Shape := ⟨2, ![8192, 1024]⟩
abbrev S8192x2816 : Shape := ⟨2, ![8192, 2816]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x1024, .f32⟩
  | .hbm, ⟨3, _⟩ => ⟨S8192x2816, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S8192x3328 : Shape := ⟨2, ![8192, 3328]⟩
abbrev S3264x512 : Shape := ⟨2, ![3264, 512]⟩
abbrev S2048x3328 : Shape := ⟨2, ![2048, 3328]⟩
abbrev S2048x512 : Shape := ⟨2, ![2048, 512]⟩
abbrev S3328x512 : Shape := ⟨2, ![3328, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S3264x512, .bf16⟩
  | .local _ .vmem, ⟨0, _⟩ => ⟨S2048x3328, .bf16⟩
  | .local _ .vmem, ⟨1, _⟩ => ⟨S2048x3328, .bf16⟩
  | .local _ .vmem, ⟨2, _⟩ => ⟨S2048x512, .bf16⟩
  | .local _ .vmem, ⟨3, _⟩ => ⟨S2048x512, .bf16⟩
  | .local _ .vmem, ⟨4, _⟩ => ⟨S3264x512, .bf16⟩
  | .local _ .vmem, ⟨5, _⟩ => ⟨S3328x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3264x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x3328 : Shape := ⟨2, ![8192, 3328]⟩
abbrev S8192x3264 : Shape := ⟨2, ![8192, 3264]⟩
abbrev S_ : Shape := ⟨0, ![]⟩
abbrev S1024x3264 : Shape := ⟨2, ![1024, 3264]⟩
abbrev S3264x1024 : Shape := ⟨2, ![3264, 1024]⟩
abbrev S3264x512 : Shape := ⟨2, ![3264, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S8192x3264, .bf16⟩
  | .hbm, ⟨3, _⟩ => ⟨S8192x1024, .f32⟩
  | .hbm, ⟨4, _⟩ => ⟨S8192x3264, .f32⟩
  | .hbm, ⟨5, _⟩ => ⟨S_, .f32⟩
  | .hbm, ⟨6, _⟩ => ⟨S1024x3264, .f32⟩
  | .hbm, ⟨7, _⟩ => ⟨S8192x3264, .f32⟩
  | .hbm, ⟨8, _⟩ => ⟨S3264x1024, .f32⟩
  | .hbm, ⟨9, _⟩ => ⟨S1024x3264, .f32⟩
  | .hbm, ⟨10, _⟩ => ⟨S3264x1024, .f32⟩
  | .hbm, ⟨11, _⟩ => ⟨S3264x512, .f32⟩
  | .hbm, ⟨12, _⟩ => ⟨S3264x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8192x1024 : Shape := ⟨2, ![8192, 1024]⟩
abbrev S8192x3328 : Shape := ⟨2, ![8192, 3328]⟩
abbrev S3264x512 : Shape := ⟨2, ![3264, 512]⟩
abbrev S2048x3328 : Shape := ⟨2, ![2048, 3328]⟩
abbrev S2048x512 : Shape := ⟨2, ![2048, 512]⟩
abbrev S3328x512 : Shape := ⟨2, ![3328, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S3264x512, .bf16⟩
  | .local _ .vmem, ⟨0, _⟩ => ⟨S2048x3328, .bf16⟩
  | .local _ .vmem, ⟨1, _⟩ => ⟨S2048x3328, .bf16⟩
  | .local _ .vmem, ⟨2, _⟩ => ⟨S2048x512, .bf16⟩
  | .local _ .vmem, ⟨3, _⟩ => ⟨S2048x512, .bf16⟩
  | .local _ .vmem, ⟨4, _⟩ => ⟨S3264x512, .bf16⟩
  | .local _ .vmem, ⟨5, _⟩ => ⟨S3328x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3264x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x3328 : Shape := ⟨2, ![8192, 3328]⟩
abbrev S8192x3264 : Shape := ⟨2, ![8192, 3264]⟩
abbrev S_ : Shape := ⟨0, ![]⟩
abbrev S1024x3264 : Shape := ⟨2, ![1024, 3264]⟩
abbrev S3264x1024 : Shape := ⟨2, ![3264, 1024]⟩
abbrev S3264x512 : Shape := ⟨2, ![3264, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3328, .bf16⟩
  | .hbm, ⟨2, _⟩ => ⟨S8192x3264, .bf16⟩
  | .hbm, ⟨3, _⟩ => ⟨S8192x1024, .f32⟩
  | .hbm, ⟨4, _⟩ => ⟨S8192x3264, .f32⟩
  | .hbm, ⟨5, _⟩ => ⟨S_, .f32⟩
  | .hbm, ⟨6, _⟩ => ⟨S1024x3264, .f32⟩
  | .hbm, ⟨7, _⟩ => ⟨S8192x3264, .f32⟩
  | .hbm, ⟨8, _⟩ => ⟨S3264x1024, .f32⟩
  | .hbm, ⟨9, _⟩ => ⟨S1024x3264, .f32⟩
  | .hbm, ⟨10, _⟩ => ⟨S3264x1024, .f32⟩
  | .hbm, ⟨11, _⟩ => ⟨S3264x512, .f32⟩
  | .hbm, ⟨12, _⟩ => ⟨S3264x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S8192x2816 : Shape := ⟨2, ![8192, 2816]⟩
abbrev S1x128 : Shape := ⟨2, ![1, 128]⟩
abbrev S512x1024 : Shape := ⟨2, ![512, 1024]⟩
abbrev S512x512 : Shape := ⟨2, ![512, 512]⟩
abbrev S512x2816 : Shape := ⟨2, ![512, 2816]⟩
abbrev S1x1 : Shape := ⟨2, ![1, 1]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x2816 : Shape := ⟨2, ![256, 2816]⟩
abbrev S1 : Shape := ⟨1, ![1]⟩

abbrev nBuf : Space → Nat
  | .hbm => 20
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S1x1024, .f32⟩
  | .hbm, ⟨10, _⟩ => ⟨S2816x1024, .bf16⟩
  | .hbm, ⟨11, _⟩ => ⟨S2816x1024, .bf16⟩
  | .hbm, ⟨12, _⟩ => ⟨S2816x1024, .bf16⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S1x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S512x2816, .bf16⟩
  | .local _ .vmem, ⟨27, _⟩ => ⟨S512x2816, .bf16⟩
  | .local _ .vmem, ⟨28, _⟩ => ⟨S512x2816, .bf16⟩
  | .local _ .vmem, ⟨29, _⟩ => ⟨S512x2816, .bf16⟩
  | .local _ .vmem, ⟨30, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v0_4 : Ref sig .tc := ⟨.hbm, 18, rfl⟩
abbrev main_v0_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference8Ideal.lean ====
abbrev S8192x1024 : Shape := ⟨2, ![8192, 1024]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8x64 : Shape := ⟨2, ![8, 64]⟩
abbrev S1x8x64 : Shape := ⟨3, ![1, 8, 64]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S8192x512, .bf16⟩
  | 2 => ⟨S8192x512, .bf16⟩
  | 3 => ⟨S8192x512, .f32⟩
  | 4 => ⟨S8192x512, .f32⟩
  | 5 => ⟨S8192x1024, .f32⟩
  | 6 => ⟨S1x512, .f32⟩
  | 7 => ⟨S1x512, .f32⟩
  | 8 => ⟨S1024x1024, .bf16⟩
  | 9 => ⟨S1x1024, .f32⟩
  | 10 => ⟨S2816x1024, .bf16⟩
  | 11 => ⟨S2816x1024, .bf16⟩
  | 12 => ⟨S2816x1024, .bf16⟩
  | 13 => ⟨S1x1024, .f32⟩
  | 14 => ⟨S8192x512, .f32⟩
  | 15 => ⟨S8192x512, .f32⟩
  | 16 => ⟨S1024x1024, .f32⟩
  | 17 => ⟨S2816x1024, .f32⟩
  | 18 => ⟨S2816x1024, .f32⟩
  | 19 => ⟨S2816x1024, .f32⟩
  | 20 => ⟨S8192x512, .f32⟩
  | 21 => ⟨S8192x8x64, .f32⟩
  | 22 => ⟨S8192x8x64, .f32⟩
  | 23 => ⟨S_, .f32⟩
  | 24 => ⟨S8192x8, .f32⟩
  | 25 => ⟨S8192x8x1, .f32⟩
  | 26 => ⟨S_, .f32⟩
  | 27 => ⟨S8192x8x1, .f32⟩
  | 28 => ⟨S8192x8x1, .f32⟩
  | 29 => ⟨S_, .f32⟩
  | 30 => ⟨S8192x8x1, .f32⟩
  | 31 => ⟨S8192x8x1, .f32⟩
  | 32 => ⟨S8192x8x1, .f32⟩
  | 33 => ⟨S8192x8x64, .f32⟩
  | 34 => ⟨S8192x8x64, .f32⟩
  | 35 => ⟨S8x64, .f32⟩
  | 36 => ⟨S1x8x64, .f32⟩
  | 37 => ⟨S8192x8x64, .f32⟩
  | 38 => ⟨S8192x8x64, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x512, .f32⟩
  | 62 => ⟨S8192x512, .f32⟩
  | 63 => ⟨S8192x512, .f32⟩
  | 64 => ⟨S8192x512, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x1, .f32⟩
  | 79 => ⟨S8192x1024, .f32⟩
  | 80 => ⟨S8192x1024, .f32⟩
  | 81 => ⟨S8192x1024, .f32⟩
  | 82 => ⟨S8192x1024, .f32⟩
  | 83 => ⟨S1024x2816, .f32⟩
  | 84 => ⟨S8192x2816, .f32⟩
  | 85 => ⟨S1024x2816, .f32⟩
  | 86 => ⟨S8192x2816, .f32⟩
  | 87 => ⟨S8192x2816, .f32⟩
  | 88 => ⟨S8192x2816, .f32⟩
  | 89 => ⟨S_, .f32⟩
  | 90 => ⟨S8192x2816, .f32⟩
  | 91 => ⟨S8192x2816, .f32⟩
  | 92 => ⟨S_, .f32⟩
  | 93 => ⟨S8192x2816, .f32⟩
  | 94 => ⟨S8192x2816, .f32⟩
  | 95 => ⟨S8192x2816, .f32⟩
  | 96 => ⟨S8192x2816, .f32⟩
  | 97 => ⟨S8192x1024, .f32⟩
  | 98 => ⟨S8192x1024, .f32⟩
  | 99 => ⟨S8192x1024, .f32⟩
  | 100 => ⟨S_, .f32⟩
  | 101 => ⟨S8192, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x1, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S_, .f32⟩
  | 119 => ⟨S8192, .f32⟩
  | 120 => ⟨S8192, .f32⟩
  | 121 => ⟨S_, .f32⟩
  | 122 => ⟨S_, .f32⟩
  | 123 => ⟨S_, .f32⟩
  | 124 => ⟨S_, .f32⟩
  | 125 => ⟨S1x128, .f32⟩
  | 126 => ⟨S8192x1024, .bf16⟩
  | 127 => ⟨S8192x2816, .bf16⟩
  | _ => ⟨S8192x1024, .f32⟩

abbrev hbmTy0_1 (i : Nat) : BufTy := match i % 128 with
  | 0 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_cst_7 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_cst_9 : Ref sig .tc := ⟨.hbm, 103, rfl⟩
abbrev main_v63 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_11 : Ref sig .tc := ⟨.hbm, 116, rfl⟩
abbrev main_v74 : Ref sig .tc := ⟨.hbm, 117, rfl⟩
abbrev main_cst_12 : Ref sig .tc := ⟨.hbm, 118, rfl⟩
abbrev main_v75 : Ref sig .tc := ⟨.hbm, 119, rfl⟩
abbrev main_v76 : Ref sig .tc := ⟨.hbm, 120, rfl⟩
abbrev main_cst_13 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S256x1024 : Shape := ⟨2, ![256, 1024]⟩
abbrev S256x2816 : Shape := ⟨2, ![256, 2816]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S512x1024 : Shape := ⟨2, ![512, 1024]⟩
abbrev S512 : Shape := ⟨1, ![512]⟩

abbrev nBuf : Space → Nat
  | .hbm => 25
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .bf16⟩
  | .hbm, ⟨3, _⟩ => ⟨S8192x2816, .bf16⟩
  | .hbm, ⟨4, _⟩ => ⟨S8192x512, .f32⟩
  | .hbm, ⟨5, _⟩ => ⟨S8192x1024, .f32⟩
  | .hbm, ⟨6, _⟩ => ⟨S1x512, .f32⟩
  | .hbm, ⟨7, _⟩ => ⟨S1024x1024, .bf16⟩
  | .hbm, ⟨8, _⟩ => ⟨S1x1024, .f32⟩
  | .hbm, ⟨9, _⟩ => ⟨S2816x1024, .bf16⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S8192x1024, .f32⟩
  | .hbm, ⟨14, _⟩ => ⟨S8192x512, .bf16⟩
  | .hbm, ⟨15, _⟩ => ⟨S8192x512, .bf16⟩
  | .hbm, ⟨16, _⟩ => ⟨S8192x1024, .bf16⟩
  | .hbm, ⟨17, _⟩ => ⟨S8192x1024, .bf16⟩
  | .hbm, ⟨18, _⟩ => ⟨S8192x2816, .bf16⟩
  | .hbm, ⟨19, _⟩ => ⟨S8192x2816, .bf16⟩
  | .hbm, ⟨20, _⟩ => ⟨S8192x2816, .bf16⟩
  | .hbm, ⟨21, _⟩ => ⟨S8192x1024, .bf16⟩
  | .hbm, ⟨22, _⟩ => ⟨S1x512, .f32⟩
  | .hbm, ⟨23, _⟩ => ⟨S1x1024, .f32⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S1x512, .f32⟩
  | .local _ .vmem, ⟨13, _⟩ => ⟨S1024x1024, .bf16⟩
  | .local _ .vmem, ⟨14, _⟩ => ⟨S1x1024, .f32⟩
  | .local _ .vmem, ⟨15, _⟩ => ⟨S2816x1024, .bf16⟩
  | .local _ .vmem, ⟨16, _⟩ => ⟨S2816x1024, .bf16⟩
  | .local _ .vmem, ⟨17, _⟩ => ⟨S2816x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x1024, .bf16⟩
  | .local _ .vmem, ⟨36, _⟩ => ⟨S256x1024, .bf16⟩
  | .local _ .vmem, ⟨37, _⟩ => ⟨S1x512, .f32⟩
  | .local _ .vmem, ⟨38, _⟩ => ⟨S1x1024, .f32⟩
  | .local _ .vmem, ⟨39, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev main_v0_8 : Ref sig .tc := ⟨.hbm, 21, rfl⟩
abbrev main_v0_9 : Ref sig .tc := ⟨.hbm, 22, rfl⟩
abbrev main_v0_10 : Ref sig .tc := ⟨.hbm, 23, rfl⟩
abbrev main_v0_11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem23_0 : DmaSem sig := 38
abbrev cc0_sem24_0 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x2816 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== Reference9Ideal.lean ====
abbrev S8192x1024 : Shape := ⟨2, ![8192, 1024]⟩
abbrev S8192x2816 : Shape := ⟨2, ![8192, 2816]⟩
abbrev S8192x512 : Shape := ⟨2, ![8192, 512]⟩
abbrev S1x512 : Shape := ⟨2, ![1, 512]⟩
abbrev S1024x1024 : Shape := ⟨2, ![1024, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1024x2816 : Shape := ⟨2, ![1024, 2816]⟩
abbrev S512 : Shape := ⟨1, ![512]⟩

abbrev nBuf : Space → Nat
  | .hbm => 214
  | .vmem => 0
  | .smem => 0
  | _ => 0

abbrev hbmTy0_0 (i : Nat) : BufTy := match i % 128 with
  | 0 => ⟨S8192x1024, .f32⟩
  | 1 => ⟨S8192x1024, .f32⟩
  | 2 => ⟨S8192x2816, .bf16⟩
  | 3 => ⟨S8192x2816, .bf16⟩
  | 4 => ⟨S8192x512, .f32⟩
  | 5 => ⟨S8192x1024, .f32⟩
  | 6 => ⟨S1x512, .f32⟩
  | 7 => ⟨S1024x1024, .bf16⟩
  | 8 => ⟨S1x1024, .f32⟩
  | 9 => ⟨S2816x1024, .bf16⟩
  | 10 => ⟨S2816x1024, .bf16⟩
  | 11 => ⟨S2816x1024, .bf16⟩
  | 12 => ⟨S1x1024, .f32⟩
  | 13 => ⟨S8192x2816, .f32⟩
  | 14 => ⟨S8192x2816, .f32⟩
  | 15 => ⟨S1024x1024, .f32⟩
  | 16 => ⟨S2816x1024, .f32⟩
  | 17 => ⟨S2816x1024, .f32⟩
  | 18 => ⟨S2816x1024, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x1, .f32⟩
  | 31 => ⟨S_, .f32⟩
  | 32 => ⟨S8192x1, .f32⟩
  | 33 => ⟨S8192x1, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192, .f32⟩
  | 45 => ⟨S_, .f32⟩
  | 46 => ⟨S8192, .f32⟩
  | 47 => ⟨S8192, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S8192, .f32⟩
  | 56 => ⟨S_, .f32⟩
  | 57 => ⟨S8192, .f32⟩
  | 58 => ⟨S8192, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S8192x1024, .f32⟩
  | 72 => ⟨S8192x1024, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x2816, .f32⟩
  | 85 => ⟨S8192x2816, .f32⟩
  | 86 => ⟨S_, .f32⟩
  | 87 => ⟨S8192x2816, .f32⟩
  | 88 => ⟨S8192x2816, .f32⟩
  | 89 => ⟨S_, .f32⟩
  | 90 => ⟨S8192x2816, .f32⟩
  | 91 => ⟨S8192x2816, .f32⟩
  | 92 => ⟨S_, .f32⟩
  | 93 => ⟨S8192x2816, .f32⟩
  | 94 => ⟨S8192x2816, .f32⟩
  | 95 => ⟨S8192x2816, .f32⟩
  | 96 => ⟨S8192x2816, .f32⟩
  | 97 => ⟨S8192x2816, .f32⟩
  | 98 => ⟨S8192x1024, .f32⟩
  | 99 => ⟨S8192x1024, .f32⟩
  | 100 => ⟨S8192x2816, .f32⟩
  | 101 => ⟨S8192x2816, .f32⟩
  | 102 => ⟨S8192x2816, .f32⟩
  | 103 => ⟨S8192x2816, .f32⟩
  | 104 => ⟨S8192x2816, .f32⟩
  | 105 => ⟨S8192x2816, .f32⟩
  | 106 => ⟨S8192x2816, .f32⟩
  | 107 => ⟨S8192x1024, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192x1, .f32⟩
  | 116 => ⟨S8192x1, .f32⟩
  | 117 => ⟨S8192x1, .f32⟩
  | 118 => ⟨S8192x1, .f32⟩
  | 119 => ⟨S_, .f32⟩
  | 120 => ⟨S8192x1, .f32⟩
  | 121 => ⟨S8192x1, .f32⟩
  | 122 => ⟨S8192x1024, .f32⟩
  | 123 => ⟨S8192x1024, .f32⟩
  | 124 => ⟨S8192x1024, .f32⟩
  | 125 => ⟨S8192x1024, .f32⟩
  | 126 => ⟨S1024x2816, .f32⟩
  | 127 => ⟨S8192x2816, .f32⟩
  | _ => ⟨S8192x1024, .f32⟩

abbrev hbmTy0_1 (i : Nat) : BufTy := match i % 128 with
  | 0 => ⟨S1024x2816, .f32⟩
  | 1 => ⟨S8192x2816, .f32⟩
  | 2 => ⟨S8192x1024, .f32⟩
  | 3 => ⟨S8192x1024, .f32⟩
  | 4 => ⟨S8192x1024, .f32⟩
  | 5 => ⟨S8192x1024, .f32⟩
  | 6 => ⟨S_, .f32⟩
  | 7 => ⟨S1024, .f32⟩
  | 8 => ⟨S1x1024, .f32⟩
  | 9 => ⟨S8192x1024, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S8192x1024, .f32⟩
  | 16 => ⟨S8192x1024, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x512, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S8192x512, .f32⟩
  | 50 => ⟨S8192x1024, .f32⟩
  | 51 => ⟨S8192x1024, .f32⟩
  | 52 => ⟨S8192x1024, .f32⟩
  | 53 => ⟨S8192x512, .f32⟩
  | 54 => ⟨S8192x512, .f32⟩
  | 55 => ⟨S8192x512, .f32⟩
  | 56 => ⟨S_, .f32⟩
  | 57 => ⟨S512, .f32⟩
  | 58 => ⟨S1x512, .f32⟩
  | 59 => ⟨S8192x512, .f32⟩
  | 60 => ⟨S8192x512, .f32⟩
  | 61 => ⟨S8192x512, .f32⟩
  | 62 => ⟨S_, .f32⟩
  | 63 => ⟨S8192, .f32⟩
  | 64 => ⟨S8192x1, .f32⟩
  | 65 => ⟨S8192x512, .f32⟩
  | 66 => ⟨S8192x512, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .bf16⟩
  | 79 => ⟨S8192x512, .bf16⟩
  | 80 => ⟨S8192x1024, .bf16⟩
  | 81 => ⟨S8192x1024, .bf16⟩
  | 82 => ⟨S8192x2816, .bf16⟩
  | 83 => ⟨S8192x2816, .bf16⟩
  | 84 => ⟨S8192x2816, .bf16⟩
  | 85 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_cst_8 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_v55_2 : Ref sig .tc := ⟨.hbm, 91, rfl⟩
abbrev main_call0_cst_1 : Ref sig .tc := ⟨.hbm, 92, rfl⟩
abbrev main_call0_v6 : Ref sig .tc := ⟨.hbm, 93, rfl⟩
abbrev main_call0_v7 : Ref sig .tc := ⟨.hbm, 94, rfl⟩
abbrev main_v55_1 : Ref sig .tc := ⟨.hbm, 95, rfl⟩
abbrev main_v55_0 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v62 : Ref sig .tc := ⟨.hbm, 106, rfl⟩
abbrev main_v63 : Ref sig .tc := ⟨.hbm, 107, rfl⟩
abbrev main_cst_15 : Ref sig .tc := ⟨.hbm, 108, rfl⟩
abbrev main_v64 : Ref sig .tc := ⟨.hbm, 109, rfl⟩
abbrev main_v65 : Ref sig .tc := ⟨.hbm, 110, rfl⟩
abbrev main_cst_16 : Ref sig .tc := ⟨.hbm, 111, rfl⟩
abbrev main_v66 : Ref sig .tc := ⟨.hbm, 112, rfl⟩
abbrev main_v67 : Ref sig .tc := ⟨.hbm, 113, rfl⟩
abbrev main_cst_17 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_18 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_19 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_cst_20 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_21 : Ref sig .tc := ⟨.hbm, 146, rfl⟩
abbrev main_v96 : Ref sig .tc := ⟨.hbm, 147, rfl⟩
abbrev main_v97 : Ref sig .tc := ⟨.hbm, 148, rfl⟩
abbrev main_cst_22 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_23 : Ref sig .tc := ⟨.hbm, 158, rfl⟩
abbrev main_v106 : Ref sig .tc := ⟨.hbm, 159, rfl⟩
abbrev main_v107 : Ref sig .tc := ⟨.hbm, 160, rfl⟩
abbrev main_cst_24 : Ref sig .tc := ⟨.hbm, 161, rfl⟩
abbrev main_v108 : Ref sig .tc := ⟨.hbm, 162, rfl⟩
abbrev main_v109 : Ref sig .tc := ⟨.hbm, 163, rfl⟩
abbrev main_cst_25 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_26 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_27 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_28 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_29 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_30 : Ref sig .tc := ⟨.hbm, 196, rfl⟩
abbrev main_v137 : Ref sig .tc := ⟨.hbm, 197, rfl⟩
abbrev main_v138 : Ref sig .tc := ⟨.hbm, 198, rfl⟩
abbrev main_cst_31 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S3328x1024 : Shape := ⟨2, ![3328, 1024]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S8192x512 : Shape := ⟨2, ![8192, 512]⟩
abbrev S8192x384 : Shape := ⟨2, ![8192, 384]⟩
abbrev S8192x256 : Shape := ⟨2, ![8192, 256]⟩
abbrev S512x1024 : Shape := ⟨2, ![512, 1024]⟩
abbrev S512x128 : Shape := ⟨2, ![512, 128]⟩
abbrev S512x512 : Shape := ⟨2, ![512, 512]⟩
abbrev S512x384 : Shape := ⟨2, ![512, 384]⟩
abbrev S512x256 : Shape := ⟨2, ![512, 256]⟩
abbrev S256 : Shape := ⟨1, ![256]⟩
abbrev S256x1 : Shape := ⟨2, ![256, 1]⟩
abbrev S256x512 : Shape := ⟨2, ![256, 512]⟩
abbrev S384x1024 : Shape := ⟨2, ![384, 1024]⟩
abbrev S256x384 : Shape := ⟨2, ![256, 384]⟩
abbrev S256x256 : Shape := ⟨2, ![256, 256]⟩
abbrev S128x1024 : Shape := ⟨2, ![128, 1024]⟩
abbrev S256x128 : Shape := ⟨2, ![256, 128]⟩
abbrev S128x384 : Shape := ⟨2, ![128, 384]⟩

abbrev nBuf : Space → Nat
  | .hbm => 49
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3328x1024, .bf16⟩
  | .hbm, ⟨3, _⟩ => ⟨S1x384, .f32⟩
  | .hbm, ⟨4, _⟩ => ⟨S1x256, .f32⟩
  | .hbm, ⟨5, _⟩ => ⟨S1024x384, .bf16⟩
  | .hbm, ⟨6, _⟩ => ⟨S256x1024, .bf16⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4096, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S_, .f32⟩
  | .hbm, ⟨32, _⟩ => ⟨S4096x32, .f32⟩
  | .hbm, ⟨33, _⟩ => ⟨S_, .f32⟩
  | .hbm, ⟨34, _⟩ => ⟨S4096x64, .f32⟩
  | .hbm, ⟨35, _⟩ => ⟨S4096x128, .f32⟩
  | .hbm, ⟨36, _⟩ => ⟨S4096x32, .f32⟩
  | .hbm, ⟨37, _⟩ => ⟨S4096x128, .f32⟩
  | .hbm, ⟨38, _⟩ => ⟨S4096x128, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x384, .f32⟩
  | .hbm, ⟨45, _⟩ => ⟨S8192x256, .f32⟩
  | .hbm, ⟨46, _⟩ => ⟨S8192x1024, .bf16⟩
  | .hbm, ⟨47, _⟩ => ⟨S8192x1024, .bf16⟩
  | .hbm, ⟨48, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3328x1024, .bf16⟩
  | .local _ .vmem, ⟨4, _⟩ => ⟨S1x384, .f32⟩
  | .local _ .vmem, ⟨5, _⟩ => ⟨S1x256, .f32⟩
  | .local _ .vmem, ⟨6, _⟩ => ⟨S1024x384, .bf16⟩
  | .local _ .vmem, ⟨7, _⟩ => ⟨S256x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x384, .f32⟩
  | .local _ .vmem, ⟨25, _⟩ => ⟨S512x384, .f32⟩
  | .local _ .vmem, ⟨26, _⟩ => ⟨S512x256, .f32⟩
  | .local _ .vmem, ⟨27, _⟩ => ⟨S512x256, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev main_v25_5 : Ref sig .tc := ⟨.hbm, 44, rfl⟩
abbrev main_v25_6 : Ref sig .tc := ⟨.hbm, 45, rfl⟩
abbrev main_v25_7 : Ref sig .tc := ⟨.hbm, 46, rfl⟩
abbrev main_v25_8 : Ref sig .tc := ⟨.hbm, 47, rfl⟩
abbrev main_v25_9 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3328x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference10Ideal.lean ====
abbrev S8192x1024 : Shape := ⟨2, ![8192, 1024]⟩
abbrev S1x1024 : Shape := ⟨2, ![1, 1024]⟩
abbrev S3328x1024 : Shape := ⟨2, ![3328, 1024]⟩
abbrev S1x384 : Shape := ⟨2, ![1, 384]⟩
abbrev S1x256 : Shape := ⟨2, ![1, 256]⟩
abbrev S1024x384 : Shape := ⟨2, ![1024, 384]⟩
abbrev S256x1024 : Shape := ⟨2, ![256, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8192 : Shape := ⟨1, ![8192]⟩
abbrev S8192x1 : Shape := ⟨2, ![8192, 1]⟩
abbrev S3264x1024 : Shape := ⟨2, ![3264, 1024]⟩
abbrev S1024x3264 : Shape := ⟨2, ![1024, 3264]⟩
abbrev S8192x3264 : Shape := ⟨2, ![8192, 3264]⟩
abbrev S8192x512 : Shape := ⟨2, ![8192, 512]⟩
abbrev S8192x384 : Shape := ⟨2, ![8192, 384]⟩
abbrev S8192x256 : Shape := ⟨2, ![8192, 256]⟩
abbrev S8192x64 : Shape := ⟨2, ![8192, 64]⟩
abbrev S4x256x384 : Shape := ⟨3, ![4, 256, 384]⟩
abbrev S4x192x384 : Shape := ⟨3, ![4, 192, 384]⟩
abbrev S768x384 : Shape := ⟨2, ![768, 384]⟩
abbrev S384x768 : Shape := ⟨2, ![384, 768]⟩
abbrev S8192x768 : Shape := ⟨2, ![8192, 768]⟩
abbrev S2x4096x4x192 : Shape := ⟨4, ![2, 4096, 4, 192]⟩
abbrev S2x4096x4x256 : Shape := ⟨4, ![2, 4096, 4, 256]⟩
abbrev S2x4096x4x128 : Shape := ⟨4, ![2, 4096, 4, 128]⟩
abbrev S2x4096x4x64 : Shape := ⟨4, ![2, 4096, 4, 64]⟩
abbrev S4096x1x32 : Shape := ⟨3, ![4096, 1, 32]⟩
abbrev S2x4096x4x32 : Shape := ⟨4, ![2, 4096, 4, 32]⟩
abbrev S1x4096x1x32 : Shape := ⟨4, ![1, 4096, 1, 32]⟩
abbrev S2x4096x64 : Shape := ⟨3, ![2, 4096, 64]⟩
abbrev S2x4096x32 : Shape := ⟨3, ![2, 4096, 32]⟩
abbrev S1x4096x32 : Shape := ⟨3, ![1, 4096, 32]⟩
abbrev S2x4096x1x64 : Shape := ⟨4, ![2, 4096, 1, 64]⟩

abbrev nBuf : Space → Nat
  | .hbm => 157
  | .vmem => 0
  | .smem => 0
  | _ => 0

abbrev hbmTy0_0 (i : Nat) : BufTy := match i % 128 with
  | 0 => ⟨S8192x1024, .f32⟩
  | 1 => ⟨S1x1024, .f32⟩
  | 2 => ⟨S3328x1024, .bf16⟩
  | 3 => ⟨S1x384, .f32⟩
  | 4 => ⟨S1x256, .f32⟩
  | 5 => ⟨S1024x384, .bf16⟩
  | 6 => ⟨S256x1024, .bf16⟩
  | 7 => ⟨S3328x1024, .f32⟩
  | 8 => ⟨S1024x384, .f32⟩
  | 9 => ⟨S256x1024, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S4096, .f32⟩
  | 27 => ⟨S4096x1, .f32⟩
  | 28 => ⟨S1x32, .f32⟩
  | 29 => ⟨S4096x32, .f32⟩
  | 30 => ⟨S4096x32, .f32⟩
  | 31 => ⟨S4096x32, .f32⟩
  | 32 => ⟨S4096x32, .f32⟩
  | 33 => ⟨S4096x32, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1024, .f32⟩
  | 46 => ⟨S8192x1024, .f32⟩
  | 47 => ⟨S8192x1024, .f32⟩
  | 48 => ⟨S8192x1024, .f32⟩
  | 49 => ⟨S3264x1024, .f32⟩
  | 50 => ⟨S1024x3264, .f32⟩
  | 51 => ⟨S8192x3264, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S8192x384, .f32⟩
  | 58 => ⟨S8192x256, .f32⟩
  | 59 => ⟨S8192x64, .f32⟩
  | 60 => ⟨S4x256x384, .f32⟩
  | 61 => ⟨S4x192x384, .f32⟩
  | 62 => ⟨S768x384, .f32⟩
  | 63 => ⟨S384x768, .f32⟩
  | 64 => ⟨S8192x384, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x384, .f32⟩
  | 76 => ⟨S8192x384, .f32⟩
  | 77 => ⟨S8192x384, .f32⟩
  | 78 => ⟨S8192x384, .f32⟩
  | 79 => ⟨S8192x768, .f32⟩
  | 80 => ⟨S2x4096x4x192, .f32⟩
  | 81 => ⟨S8192x256, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x256, .f32⟩
  | 93 => ⟨S8192x256, .f32⟩
  | 94 => ⟨S8192x256, .f32⟩
  | 95 => ⟨S8192x256, .f32⟩
  | 96 => ⟨S8192x1024, .f32⟩
  | 97 => ⟨S2x4096x4x256, .f32⟩
  | 98 => ⟨S2x4096x4x128, .f32⟩
  | 99 => ⟨S2x4096x4x64, .f32⟩
  | 100 => ⟨S4096x1x32, .f32⟩
  | 101 => ⟨S4096x1x32, .f32⟩
  | 102 => ⟨S2x4096x4x32, .f32⟩
  | 103 => ⟨S2x4096x4x32, .f32⟩
  | 104 => ⟨S1x4096x1x32, .f32⟩
  | 105 => ⟨S2x4096x4x32, .f32⟩
  | 106 => ⟨S2x4096x4x32, .f32⟩
  | 107 => ⟨S1x4096x1x32, .f32⟩
  | 108 => ⟨S2x4096x4x32, .f32⟩
  | 109 => ⟨S2x4096x4x32, .f32⟩
  | 110 => ⟨S2x4096x4x32, .f32⟩
  | 111 => ⟨S1x4096x1x32, .f32⟩
  | 112 => ⟨S2x4096x4x32, .f32⟩
  | 113 => ⟨S2x4096x4x32, .f32⟩
  | 114 => ⟨S1x4096x1x32, .f32⟩
  | 115 => ⟨S2x4096x4x32, .f32⟩
  | 116 => ⟨S2x4096x4x32, .f32⟩
  | 117 => ⟨S2x4096x4x32, .f32⟩
  | 118 => ⟨S2x4096x4x64, .f32⟩
  | 119 => ⟨S2x4096x4x128, .f32⟩
  | 120 => ⟨S2x4096x4x128, .f32⟩
  | 121 => ⟨S2x4096x64, .f32⟩
  | 122 => ⟨S2x4096x32, .f32⟩
  | 123 => ⟨S2x4096x32, .f32⟩
  | 124 => ⟨S1x4096x32, .f32⟩
  | 125 => ⟨S2x4096x32, .f32⟩
  | 126 => ⟨S2x4096x32, .f32⟩
  | 127 => ⟨S1x4096x32, .f32⟩
  | _ => ⟨S8192x1024, .f32⟩

abbrev hbmTy0_1 (i : Nat) : BufTy := match i % 128 with
  | 0 => ⟨S2x4096x32, .f32⟩
  | 1 => ⟨S2x4096x32, .f32⟩
  | 2 => ⟨S2x4096x32, .f32⟩
  | 3 => ⟨S1x4096x32, .f32⟩
  | 4 => ⟨S2x4096x32, .f32⟩
  | 5 => ⟨S2x4096x32, .f32⟩
  | 6 => ⟨S1x4096x32, .f32⟩
  | 7 => ⟨S2x4096x32, .f32⟩
  | 8 => ⟨S2x4096x32, .f32⟩
  | 9 => ⟨S2x4096x32, .f32⟩
  | 10 => ⟨S2x4096x64, .f32⟩
  | 11 => ⟨S2x4096x1x64, .f32⟩
  | 12 => ⟨S2x4096x4x64, .f32⟩
  | 13 => ⟨S_, .f32⟩
  | 14 => ⟨S2x4096x4x64, .f32⟩
  | 15 => ⟨S_, .f32⟩
  | 16 => ⟨S2x4096x4x128, .f32⟩
  | 17 => ⟨S2x4096x4x128, .f32⟩
  | 18 => ⟨S_, .f32⟩
  | 19 => ⟨S2x4096x4x64, .f32⟩
  | 20 => ⟨S2x4096x4x64, .f32⟩
  | 21 => ⟨S2x4096x4x256, .f32⟩
  | 22 => ⟨S8192x1024, .f32⟩
  | 23 => ⟨S2x4096x4x256, .f32⟩
  | 24 => ⟨S8192x1024, .f32⟩
  | 25 => ⟨S8192x1024, .bf16⟩
  | 26 => ⟨S8192x1024, .bf16⟩
  | 27 => ⟨S8192x512, .f32⟩
  | 28 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_cst_11 : Ref sig .tc := ⟨.hbm, 85, rfl⟩
abbrev main_v66 : Ref sig .tc := ⟨.hbm, 86, rfl⟩
abbrev main_v67 : Ref sig .tc := ⟨.hbm, 87, rfl⟩
abbrev main_cst_12 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_cst_13 : Ref sig .tc := ⟨.hbm, 141, rfl⟩
abbrev main_v120 : Ref sig .tc := ⟨.hbm, 142, rfl⟩
abbrev main_cst_14 : Ref sig .tc := ⟨.hbm, 143, rfl⟩
abbrev main_v121 : Ref sig .tc := ⟨.hbm, 144, rfl⟩
abbrev main_v122 : Ref sig .tc := ⟨.hbm, 145, rfl⟩
abbrev main_cst_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩

abbrev nD : Nat := 1
abbrev τ : Topo := Topo.v7x

variable {F : FTy → Type} [FloatOps F]
-- ==== Kernel11.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .f32⟩
  | .hbm, ⟨3, _⟩ => ⟨S1x512, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x512 : Shape := ⟨2, ![8192, 512]⟩
abbrev S1x512 : Shape := ⟨2, ![1, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S8x64 : Shape := ⟨2, ![8, 64]⟩
abbrev S1x8x64 : Shape := ⟨3, ![1, 8, 64]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .f32⟩
  | .hbm, ⟨3, _⟩ => ⟨S1x512, .f32⟩
  | .hbm, ⟨4, _⟩ => ⟨S8192x512, .bf16⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x8x64, .f32⟩
  | .hbm, ⟨10, _⟩ => ⟨S8192x8x64, .f32⟩
  | .hbm, ⟨11, _⟩ => ⟨S_, .f32⟩
  | .hbm, ⟨12, _⟩ => ⟨S8192x8, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S_, .f32⟩
  | .hbm, ⟨18, _⟩ => ⟨S8192x8x1, .f32⟩
  | .hbm, ⟨19, _⟩ => ⟨S8192x8x1, .f32⟩
  | .hbm, ⟨20, _⟩ => ⟨S8192x8x1, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x64, .f32⟩
  | .hbm, ⟨26, _⟩ => ⟨S8192x8x64, .f32⟩
  | .hbm, ⟨27, _⟩ => ⟨S8x64, .f32⟩
  | .hbm, ⟨28, _⟩ => ⟨S1x8x64, .f32⟩
  | .hbm, ⟨29, _⟩ => ⟨S8192x8x64, .f32⟩
  | .hbm, ⟨30, _⟩ => ⟨S8192x8x64, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x8x64, .f32⟩
  | .hbm, ⟨53, _⟩ => ⟨S8192x8x64, .f32⟩
  | .hbm, ⟨54, _⟩ => ⟨S_, .f32⟩
  | .hbm, ⟨55, _⟩ => ⟨S8x64, .f32⟩
  | .hbm, ⟨56, _⟩ => ⟨S1x8x64, .f32⟩
  | .hbm, ⟨57, _⟩ => ⟨S8192x8x64, .f32⟩
  | .hbm, ⟨58, _⟩ => ⟨S8192x8x64, .f32⟩
  | .hbm, ⟨59, _⟩ => ⟨S_, .f32⟩
  | .hbm, ⟨60, _⟩ => ⟨S8x64, .f32⟩
  | .hbm, ⟨61, _⟩ => ⟨S1x512, .f32⟩
  | .hbm, ⟨62, _⟩ => ⟨S8192x8x64, .f32⟩
  | .hbm, ⟨63, _⟩ => ⟨S_, .f32⟩
  | .hbm, ⟨64, _⟩ => ⟨S8192x8, .f32⟩
  | .hbm, ⟨65, _⟩ => ⟨S8192x8x1, .f32⟩
  | .hbm, ⟨66, _⟩ => ⟨S8192x8x64, .f32⟩
  | .hbm, ⟨67, _⟩ => ⟨S8192x8x64, .f32⟩
  | .hbm, ⟨68, _⟩ => ⟨S8192x8x1, .f32⟩
  | .hbm, ⟨69, _⟩ => ⟨S_, .f32⟩
  | .hbm, ⟨70, _⟩ => ⟨S8192x8x1, .f32⟩
  | .hbm, ⟨71, _⟩ => ⟨S8192x8x1, .f32⟩
  | .hbm, ⟨72, _⟩ => ⟨S_, .f32⟩
  | .hbm, ⟨73, _⟩ => ⟨S8192x8, .f32⟩
  | .hbm, ⟨74, _⟩ => ⟨S8192x8x64, .f32⟩
  | .hbm, ⟨75, _⟩ => ⟨S8192x8x64, .f32⟩
  | .hbm, ⟨76, _⟩ => ⟨S8192x8x64, .f32⟩
  | .hbm, ⟨77, _⟩ => ⟨S8192x8x64, .f32⟩
  | .hbm, ⟨78, _⟩ => ⟨S8192x8x64, .f32⟩
  | .hbm, ⟨79, _⟩ => ⟨S8192x512, .f32⟩
  | .hbm, ⟨80, _⟩ => ⟨S8192x512, .bf16⟩
  | .hbm, ⟨81, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v23_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v23_1 : Ref sig .tc := ⟨.hbm, 43, rfl⟩
abbrev main_v23_0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel12.lean ====
abbrev S1x1024 : Shape := ⟨2, ![1, 1024]⟩
abbrev S1x512 : Shape := ⟨2, ![1, 512]⟩
abbrev S1x384 : Shape := ⟨2, ![1, 384]⟩
abbrev S1x256 : Shape := ⟨2, ![1, 256]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x512, .f32⟩
  | .hbm, ⟨2, _⟩ => ⟨S1x384, .f32⟩
  | .hbm, ⟨3, _⟩ => ⟨S1x256, .f32⟩
  | .hbm, ⟨4, _⟩ => ⟨S1x1024, .f32⟩
  | .hbm, ⟨5, _⟩ => ⟨S1x512, .f32⟩
  | .hbm, ⟨6, _⟩ => ⟨S1x384, .f32⟩
  | .hbm, ⟨7, _⟩ => ⟨S1x256, .f32⟩
  | .hbm, ⟨8, _⟩ => ⟨S1x1024, .f32⟩
  | .hbm, ⟨9, _⟩ => ⟨S1x512, .f32⟩
  | .hbm, ⟨10, _⟩ => ⟨S1x384, .f32⟩
  | .hbm, ⟨11, _⟩ => ⟨S1x256, .f32⟩
  | .hbm, ⟨12, _⟩ => ⟨S1x1024, .f32⟩
  | .hbm, ⟨13, _⟩ => ⟨S1x512, .f32⟩
  | .hbm, ⟨14, _⟩ => ⟨S1x384, .f32⟩
  | .hbm, ⟨15, _⟩ => ⟨S1x256, .f32⟩
  | .hbm, ⟨16, _⟩ => ⟨S1x1024, .f32⟩
  | .hbm, ⟨17, _⟩ => ⟨S1x512, .f32⟩
  | .hbm, ⟨18, _⟩ => ⟨S1x384, .f32⟩
  | .hbm, ⟨19, _⟩ => ⟨S1x256, .f32⟩
  | .hbm, ⟨20, _⟩ => ⟨S1x1024, .f32⟩
  | .hbm, ⟨21, _⟩ => ⟨S1x512, .f32⟩
  | .hbm, ⟨22, _⟩ => ⟨S1x384, .f32⟩
  | .hbm, ⟨23, _⟩ => ⟨S1x256, .f32⟩
  | .hbm, ⟨24, _⟩ => ⟨S1x1024, .f32⟩
  | .hbm, ⟨25, _⟩ => ⟨S1x512, .f32⟩
  | .hbm, ⟨26, _⟩ => ⟨S1x384, .f32⟩
  | .hbm, ⟨27, _⟩ => ⟨S1x256, .f32⟩
  | .local _ .vmem, ⟨0, _⟩ => ⟨S1x1024, .f32⟩
  | .local _ .vmem, ⟨1, _⟩ => ⟨S1x512, .f32⟩
  | .local _ .vmem, ⟨2, _⟩ => ⟨S1x384, .f32⟩
  | .local _ .vmem, ⟨3, _⟩ => ⟨S1x256, .f32⟩
  | .local _ .vmem, ⟨4, _⟩ => ⟨S1x1024, .f32⟩
  | .local _ .vmem, ⟨5, _⟩ => ⟨S1x512, .f32⟩
  | .local _ .vmem, ⟨6, _⟩ => ⟨S1x384, .f32⟩
  | .local _ .vmem, ⟨7, _⟩ => ⟨S1x256, .f32⟩
  | .local _ .vmem, ⟨8, _⟩ => ⟨S1x1024, .f32⟩
  | .local _ .vmem, ⟨9, _⟩ => ⟨S1x512, .f32⟩
  | .local _ .vmem, ⟨10, _⟩ => ⟨S1x384, .f32⟩
  | .local _ .vmem, ⟨11, _⟩ => ⟨S1x256, .f32⟩
  | .local _ .vmem, ⟨12, _⟩ => ⟨S1x1024, .f32⟩
  | .local _ .vmem, ⟨13, _⟩ => ⟨S1x512, .f32⟩
  | .local _ .vmem, ⟨14, _⟩ => ⟨S1x384, .f32⟩
  | .local _ .vmem, ⟨15, _⟩ => ⟨S1x256, .f32⟩
  | .local _ .vmem, ⟨16, _⟩ => ⟨S1x1024, .f32⟩
  | .local _ .vmem, ⟨17, _⟩ => ⟨S1x512, .f32⟩
  | .local _ .vmem, ⟨18, _⟩ => ⟨S1x384, .f32⟩
  | .local _ .vmem, ⟨19, _⟩ => ⟨S1x256, .f32⟩
  | .local _ .vmem, ⟨20, _⟩ => ⟨S1x1024, .f32⟩
  | .local _ .vmem, ⟨21, _⟩ => ⟨S1x512, .f32⟩
  | .local _ .vmem, ⟨22, _⟩ => ⟨S1x384, .f32⟩
  | .local _ .vmem, ⟨23, _⟩ => ⟨S1x256, .f32⟩
  | .local _ .vmem, ⟨24, _⟩ => ⟨S1x1024, .f32⟩
  | .local _ .vmem, ⟨25, _⟩ => ⟨S1x512, .f32⟩
  | .local _ .vmem, ⟨26, _⟩ => ⟨S1x384, .f32⟩
  | .local _ .vmem, ⟨27, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Kernel12Ideal.lean ====
abbrev S1x1024 : Shape := ⟨2, ![1, 1024]⟩
abbrev S1x512 : Shape := ⟨2, ![1, 512]⟩
abbrev S1x384 : Shape := ⟨2, ![1, 384]⟩
abbrev S1x256 : Shape := ⟨2, ![1, 256]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S1x512, .f32⟩
  | .hbm, ⟨2, _⟩ => ⟨S1x384, .f32⟩
  | .hbm, ⟨3, _⟩ => ⟨S1x256, .f32⟩
  | .hbm, ⟨4, _⟩ => ⟨S1x1024, .f32⟩
  | .hbm, ⟨5, _⟩ => ⟨S1x512, .f32⟩
  | .hbm, ⟨6, _⟩ => ⟨S1x384, .f32⟩
  | .hbm, ⟨7, _⟩ => ⟨S1x256, .f32⟩
  | .hbm, ⟨8, _⟩ => ⟨S1x1024, .f32⟩
  | .hbm, ⟨9, _⟩ => ⟨S1x512, .f32⟩
  | .hbm, ⟨10, _⟩ => ⟨S1x384, .f32⟩
  | .hbm, ⟨11, _⟩ => ⟨S1x256, .f32⟩
  | .hbm, ⟨12, _⟩ => ⟨S1x1024, .f32⟩
  | .hbm, ⟨13, _⟩ => ⟨S1x512, .f32⟩
  | .hbm, ⟨14, _⟩ => ⟨S1x384, .f32⟩
  | .hbm, ⟨15, _⟩ => ⟨S1x256, .f32⟩
  | .hbm, ⟨16, _⟩ => ⟨S1x1024, .f32⟩
  | .hbm, ⟨17, _⟩ => ⟨S1x512, .f32⟩
  | .hbm, ⟨18, _⟩ => ⟨S1x384, .f32⟩
  | .hbm, ⟨19, _⟩ => ⟨S1x256, .f32⟩
  | .hbm, ⟨20, _⟩ => ⟨S1x1024, .f32⟩
  | .hbm, ⟨21, _⟩ => ⟨S1x512, .f32⟩
  | .hbm, ⟨22, _⟩ => ⟨S1x384, .f32⟩
  | .hbm, ⟨23, _⟩ => ⟨S1x256, .f32⟩
  | .hbm, ⟨24, _⟩ => ⟨S1x1024, .f32⟩
  | .hbm, ⟨25, _⟩ => ⟨S1x512, .f32⟩
  | .hbm, ⟨26, _⟩ => ⟨S1x384, .f32⟩
  | .hbm, ⟨27, _⟩ => ⟨S1x256, .f32⟩
  | .local _ .vmem, ⟨0, _⟩ => ⟨S1x1024, .f32⟩
  | .local _ .vmem, ⟨1, _⟩ => ⟨S1x512, .f32⟩
  | .local _ .vmem, ⟨2, _⟩ => ⟨S1x384, .f32⟩
  | .local _ .vmem, ⟨3, _⟩ => ⟨S1x256, .f32⟩
  | .local _ .vmem, ⟨4, _⟩ => ⟨S1x1024, .f32⟩
  | .local _ .vmem, ⟨5, _⟩ => ⟨S1x512, .f32⟩
  | .local _ .vmem, ⟨6, _⟩ => ⟨S1x384, .f32⟩
  | .local _ .vmem, ⟨7, _⟩ => ⟨S1x256, .f32⟩
  | .local _ .vmem, ⟨8, _⟩ => ⟨S1x1024, .f32⟩
  | .local _ .vmem, ⟨9, _⟩ => ⟨S1x512, .f32⟩
  | .local _ .vmem, ⟨10, _⟩ => ⟨S1x384, .f32⟩
  | .local _ .vmem, ⟨11, _⟩ => ⟨S1x256, .f32⟩
  | .local _ .vmem, ⟨12, _⟩ => ⟨S1x1024, .f32⟩
  | .local _ .vmem, ⟨13, _⟩ => ⟨S1x512, .f32⟩
  | .local _ .vmem, ⟨14, _⟩ => ⟨S1x384, .f32⟩
  | .local _ .vmem, ⟨15, _⟩ => ⟨S1x256, .f32⟩
  | .local _ .vmem, ⟨16, _⟩ => ⟨S1x1024, .f32⟩
  | .local _ .vmem, ⟨17, _⟩ => ⟨S1x512, .f32⟩
  | .local _ .vmem, ⟨18, _⟩ => ⟨S1x384, .f32⟩
  | .local _ .vmem, ⟨19, _⟩ => ⟨S1x256, .f32⟩
  | .local _ .vmem, ⟨20, _⟩ => ⟨S1x1024, .f32⟩
  | .local _ .vmem, ⟨21, _⟩ => ⟨S1x512, .f32⟩
  | .local _ .vmem, ⟨22, _⟩ => ⟨S1x384, .f32⟩
  | .local _ .vmem, ⟨23, _⟩ => ⟨S1x256, .f32⟩
  | .local _ .vmem, ⟨24, _⟩ => ⟨S1x1024, .f32⟩
  | .local _ .vmem, ⟨25, _⟩ => ⟨S1x512, .f32⟩
  | .local _ .vmem, ⟨26, _⟩ => ⟨S1x384, .f32⟩
  | .local _ .vmem, ⟨27, _⟩ => ⟨S1x256, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference12Ideal.lean ====
abbrev S1x1024 : Shape := ⟨2, ![1, 1024]⟩
abbrev S1x512 : Shape := ⟨2, ![1, 512]⟩
abbrev S1x384 : Shape := ⟨2, ![1, 384]⟩
abbrev S1x256 : Shape := ⟨2, ![1, 256]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S1x512, .f32⟩
  | 2 => ⟨S1x384, .f32⟩
  | 3 => ⟨S1x256, .f32⟩
  | 4 => ⟨S1x1024, .f32⟩
  | 5 => ⟨S1x512, .f32⟩
  | 6 => ⟨S1x384, .f32⟩
  | 7 => ⟨S1x256, .f32⟩
  | 8 => ⟨S1x1024, .f32⟩
  | 9 => ⟨S1x512, .f32⟩
  | 10 => ⟨S1x384, .f32⟩
  | 11 => ⟨S1x256, .f32⟩
  | 12 => ⟨S1x1024, .f32⟩
  | 13 => ⟨S1x512, .f32⟩
  | 14 => ⟨S1x384, .f32⟩
  | 15 => ⟨S1x256, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x512, .f32⟩
  | 56 => ⟨S_, .f32⟩
  | 57 => ⟨S1x512, .f32⟩
  | 58 => ⟨S1x512, .f32⟩
  | 59 => ⟨S1x512, .f32⟩
  | 60 => ⟨S_, .f32⟩
  | 61 => ⟨S1x512, .f32⟩
  | 62 => ⟨S1x512, .f32⟩
  | 63 => ⟨S1x512, .f32⟩
  | 64 => ⟨S_, .f32⟩
  | 65 => ⟨S1x512, .f32⟩
  | 66 => ⟨S1x512, .f32⟩
  | 67 => ⟨S_, .f32⟩
  | 68 => ⟨S1x512, .f32⟩
  | 69 => ⟨S1x512, .f32⟩
  | 70 => ⟨S1x512, .f32⟩
  | 71 => ⟨S_, .f32⟩
  | 72 => ⟨S1x512, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S_, .f32⟩
  | 83 => ⟨S1x384, .f32⟩
  | 84 => ⟨S1x384, .f32⟩
  | 85 => ⟨S_, .f32⟩
  | 86 => ⟨S1x384, .f32⟩
  | 87 => ⟨S1x384, .f32⟩
  | 88 => ⟨S1x384, .f32⟩
  | 89 => ⟨S_, .f32⟩
  | 90 => ⟨S1x384, .f32⟩
  | 91 => ⟨S1x384, .f32⟩
  | 92 => ⟨S1x384, .f32⟩
  | 93 => ⟨S_, .f32⟩
  | 94 => ⟨S1x384, .f32⟩
  | 95 => ⟨S1x384, .f32⟩
  | 96 => ⟨S1x384, .f32⟩
  | 97 => ⟨S_, .f32⟩
  | 98 => ⟨S1x384, .f32⟩
  | 99 => ⟨S1x384, .f32⟩
  | 100 => ⟨S_, .f32⟩
  | 101 => ⟨S1x384, .f32⟩
  | 102 => ⟨S1x384, .f32⟩
  | 103 => ⟨S1x384, .f32⟩
  | 104 => ⟨S_, .f32⟩
  | 105 => ⟨S1x384, .f32⟩
  | 106 => ⟨S1x384, .f32⟩
  | 107 => ⟨S1x384, .f32⟩
  | 108 => ⟨S_, .f32⟩
  | 109 => ⟨S1x384, .f32⟩
  | 110 => ⟨S1x384, .f32⟩
  | 111 => ⟨S1x384, .f32⟩
  | 112 => ⟨S_, .f32⟩
  | 113 => ⟨S1x384, .f32⟩
  | 114 => ⟨S1x384, .f32⟩
  | 115 => ⟨S_, .f32⟩
  | 116 => ⟨S1x256, .f32⟩
  | 117 => ⟨S1x256, .f32⟩
  | 118 => ⟨S_, .f32⟩
  | 119 => ⟨S1x256, .f32⟩
  | 120 => ⟨S1x256, .f32⟩
  | 121 => ⟨S1x256, .f32⟩
  | 122 => ⟨S_, .f32⟩
  | 123 => ⟨S1x256, .f32⟩
  | 124 => ⟨S1x256, .f32⟩
  | 125 => ⟨S1x256, .f32⟩
  | 126 => ⟨S_, .f32⟩
  | 127 => ⟨S1x256, .f32⟩
  | _ => ⟨S1x1024, .f32⟩

abbrev hbmTy0_1 (i : Nat) : BufTy := match i % 128 with
  | 0 => ⟨S1x256, .f32⟩
  | 1 => ⟨S1x256, .f32⟩
  | 2 => ⟨S_, .f32⟩
  | 3 => ⟨S1x256, .f32⟩
  | 4 => ⟨S1x256, .f32⟩
  | 5 => ⟨S_, .f32⟩
  | 6 => ⟨S1x256, .f32⟩
  | 7 => ⟨S1x256, .f32⟩
  | 8 => ⟨S1x256, .f32⟩
  | 9 => ⟨S_, .f32⟩
  | 10 => ⟨S1x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S1x256, .f32⟩
  | 17 => ⟨S_, .f32⟩
  | 18 => ⟨S1x256, .f32⟩
  | 19 => ⟨S1x256, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel13.lean ====
abbrev S96x384 : Shape := ⟨2, ![96, 384]⟩
abbrev S8x96x384 : Shape := ⟨3, ![8, 96, 384]⟩
abbrev S1x96x384 : Shape := ⟨3, ![1, 96, 384]⟩

abbrev nBuf : Space → Nat
  | .hbm => 8
  | .vmem => 8
  | .smem => 0
  | _ => 0

abbrev bufTy : (tb : Table) → Fin (tcTables nBuf tb) → BufTy
  | .hbm, ⟨0, _⟩ => ⟨S96x384, .f32⟩
  | .hbm, ⟨1, _⟩ => ⟨S8x96x384, .bf16⟩
  | .hbm, ⟨2, _⟩ => ⟨S96x384, .f32⟩
  | .hbm, ⟨3, _⟩ => ⟨S96x384, .f32⟩
  | .hbm, ⟨4, _⟩ => ⟨S96x384, .f32⟩
  | .hbm, ⟨5, _⟩ => ⟨S96x384, .f32⟩
  | .hbm, ⟨6, _⟩ => ⟨S96x384, .f32⟩
  | .hbm, ⟨7, _⟩ => ⟨S96x384, .f32⟩
  | .local _ .vmem, ⟨0, _⟩ => ⟨S96x384, .f32⟩
  | .local _ .vmem, ⟨1, _⟩ => ⟨S8x96x384, .bf16⟩
  | .local _ .vmem, ⟨2, _⟩ => ⟨S96x384, .f32⟩
  | .local _ .vmem, ⟨3, _⟩ => ⟨S96x384, .f32⟩
  | .local _ .vmem, ⟨4, _⟩ => ⟨S96x384, .f32⟩
  | .local _ .vmem, ⟨5, _⟩ => ⟨S96x384, .f32⟩
  | .local _ .vmem, ⟨6, _⟩ => ⟨S96x384, .f32⟩
  | .local _ .vmem, ⟨7, _⟩ => ⟨S96x384, .f32⟩
  | _, _ => ⟨S96x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x96x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S96x384 : Shape := ⟨2, ![96, 384]⟩
abbrev S8x96x384 : Shape := ⟨3, ![8, 96, 384]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S96x384, .f32⟩
  | .hbm, ⟨1, _⟩ => ⟨S8x96x384, .bf16⟩
  | .hbm, ⟨2, _⟩ => ⟨S96x384, .f32⟩
  | .hbm, ⟨3, _⟩ => ⟨S96x384, .f32⟩
  | .hbm, ⟨4, _⟩ => ⟨S8x96x384, .f32⟩
  | .hbm, ⟨5, _⟩ => ⟨S_, .f32⟩
  | .hbm, ⟨6, _⟩ => ⟨S96x384, .f32⟩
  | .hbm, ⟨7, _⟩ => ⟨S_, .f32⟩
  | .hbm, ⟨8, _⟩ => ⟨S96x384, .f32⟩
  | .hbm, ⟨9, _⟩ => ⟨S96x384, .f32⟩
  | .hbm, ⟨10, _⟩ => ⟨S_, .f32⟩
  | .hbm, ⟨11, _⟩ => ⟨S96x384, .f32⟩
  | .hbm, ⟨12, _⟩ => ⟨S96x384, .f32⟩
  | .hbm, ⟨13, _⟩ => ⟨S96x384, .f32⟩
  | .hbm, ⟨14, _⟩ => ⟨S_, .f32⟩
  | .hbm, ⟨15, _⟩ => ⟨S96x384, .f32⟩
  | .hbm, ⟨16, _⟩ => ⟨S96x384, .f32⟩
  | .hbm, ⟨17, _⟩ => ⟨S96x384, .f32⟩
  | .hbm, ⟨18, _⟩ => ⟨S_, .f32⟩
  | .hbm, ⟨19, _⟩ => ⟨S96x384, .f32⟩
  | .hbm, ⟨20, _⟩ => ⟨S96x384, .f32⟩
  | .hbm, ⟨21, _⟩ => ⟨S96x384, .f32⟩
  | .hbm, ⟨22, _⟩ => ⟨S_, .f32⟩
  | .hbm, ⟨23, _⟩ => ⟨S96x384, .f32⟩
  | .hbm, ⟨24, _⟩ => ⟨S96x384, .f32⟩
  | .hbm, ⟨25, _⟩ => ⟨S_, .f32⟩
  | .hbm, ⟨26, _⟩ => ⟨S96x384, .f32⟩
  | .hbm, ⟨27, _⟩ => ⟨S96x384, .f32⟩
  | .hbm, ⟨28, _⟩ => ⟨S96x384, .f32⟩
  | .hbm, ⟨29, _⟩ => ⟨S_, .f32⟩
  | .hbm, ⟨30, _⟩ => ⟨S96x384, .f32⟩
  | .hbm, ⟨31, _⟩ => ⟨S96x384, .f32⟩
  | .hbm, ⟨32, _⟩ => ⟨S96x384, .f32⟩
  | .hbm, ⟨33, _⟩ => ⟨S_, .f32⟩
  | .hbm, ⟨34, _⟩ => ⟨S96x384, .f32⟩
  | .hbm, ⟨35, _⟩ => ⟨S96x384, .f32⟩
  | .hbm, ⟨36, _⟩ => ⟨S96x384, .f32⟩
  | .hbm, ⟨37, _⟩ => ⟨S_, .f32⟩
  | .hbm, ⟨38, _⟩ => ⟨S96x384, .f32⟩
  | .hbm, ⟨39, _⟩ => ⟨S96x384, .f32⟩
  | _, _ => ⟨S96x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S256x128 : Shape := ⟨2, ![256, 128]⟩
abbrev S8x256x128 : Shape := ⟨3, ![8, 256, 128]⟩
abbrev S128x128 : Shape := ⟨2, ![128, 128]⟩
abbrev S8x128x128 : Shape := ⟨3, ![8, 128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S256x128, .f32⟩
  | .hbm, ⟨1, _⟩ => ⟨S8x256x128, .bf16⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S128x128, .f32⟩
  | .local _ .vmem, ⟨1, _⟩ => ⟨S128x128, .f32⟩
  | .local _ .vmem, ⟨2, _⟩ => ⟨S8x128x128, .bf16⟩
  | .local _ .vmem, ⟨3, _⟩ => ⟨S8x128x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S256x128 : Shape := ⟨2, ![256, 128]⟩
abbrev S8x256x128 : Shape := ⟨3, ![8, 256, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S8x256x128, .bf16⟩
  | .hbm, ⟨2, _⟩ => ⟨S256x128, .f32⟩
  | .hbm, ⟨3, _⟩ => ⟨S256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S_, .f32⟩
  | .hbm, ⟨11, _⟩ => ⟨S256x128, .f32⟩
  | .hbm, ⟨12, _⟩ => ⟨S256x128, .f32⟩
  | .hbm, ⟨13, _⟩ => ⟨S256x128, .f32⟩
  | .hbm, ⟨14, _⟩ => ⟨S_, .f32⟩
  | .hbm, ⟨15, _⟩ => ⟨S256x128, .f32⟩
  | .hbm, ⟨16, _⟩ => ⟨S256x128, .f32⟩
  | .hbm, ⟨17, _⟩ => ⟨S256x128, .f32⟩
  | .hbm, ⟨18, _⟩ => ⟨S_, .f32⟩
  | .hbm, ⟨19, _⟩ => ⟨S256x128, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S_, .f32⟩
  | .hbm, ⟨26, _⟩ => ⟨S256x128, .f32⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S256x128, .f32⟩
  | .hbm, ⟨31, _⟩ => ⟨S256x128, .f32⟩
  | .hbm, ⟨32, _⟩ => ⟨S256x128, .f32⟩
  | .hbm, ⟨33, _⟩ => ⟨S_, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S_, .f32⟩
  | .hbm, ⟨38, _⟩ => ⟨S256x128, .f32⟩
  | .hbm, ⟨39, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S408x1024 : Shape := ⟨2, ![408, 1024]⟩
abbrev S8x408x512 : Shape := ⟨3, ![8, 408, 512]⟩
abbrev S408x512 : Shape := ⟨2, ![408, 512]⟩
abbrev S1x408x512 : Shape := ⟨3, ![1, 408, 512]⟩

abbrev nBuf : Space → Nat
  | .hbm => 9
  | .vmem => 16
  | .smem => 0
  | _ => 0

abbrev bufTy : (tb : Table) → Fin (tcTables nBuf tb) → BufTy
  | .hbm, ⟨0, _⟩ => ⟨S408x1024, .f32⟩
  | .hbm, ⟨1, _⟩ => ⟨S8x408x512, .bf16⟩
  | .hbm, ⟨2, _⟩ => ⟨S8x408x512, .bf16⟩
  | .hbm, ⟨3, _⟩ => ⟨S408x1024, .f32⟩
  | .hbm, ⟨4, _⟩ => ⟨S408x1024, .f32⟩
  | .hbm, ⟨5, _⟩ => ⟨S408x1024, .f32⟩
  | .hbm, ⟨6, _⟩ => ⟨S408x1024, .f32⟩
  | .hbm, ⟨7, _⟩ => ⟨S408x1024, .f32⟩
  | .hbm, ⟨8, _⟩ => ⟨S408x1024, .f32⟩
  | .local _ .vmem, ⟨0, _⟩ => ⟨S408x512, .f32⟩
  | .local _ .vmem, ⟨1, _⟩ => ⟨S408x512, .f32⟩
  | .local _ .vmem, ⟨2, _⟩ => ⟨S8x408x512, .bf16⟩
  | .local _ .vmem, ⟨3, _⟩ => ⟨S8x408x512, .bf16⟩
  | .local _ .vmem, ⟨4, _⟩ => ⟨S408x512, .f32⟩
  | .local _ .vmem, ⟨5, _⟩ => ⟨S408x512, .f32⟩
  | .local _ .vmem, ⟨6, _⟩ => ⟨S408x512, .f32⟩
  | .local _ .vmem, ⟨7, _⟩ => ⟨S408x512, .f32⟩
  | .local _ .vmem, ⟨8, _⟩ => ⟨S408x512, .f32⟩
  | .local _ .vmem, ⟨9, _⟩ => ⟨S408x512, .f32⟩
  | .local _ .vmem, ⟨10, _⟩ => ⟨S408x512, .f32⟩
  | .local _ .vmem, ⟨11, _⟩ => ⟨S408x512, .f32⟩
  | .local _ .vmem, ⟨12, _⟩ => ⟨S408x512, .f32⟩
  | .local _ .vmem, ⟨13, _⟩ => ⟨S408x512, .f32⟩
  | .local _ .vmem, ⟨14, _⟩ => ⟨S408x512, .f32⟩
  | .local _ .vmem, ⟨15, _⟩ => ⟨S408x512, .f32⟩
  | _, _ => ⟨S408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S408x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x408x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x408x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S408x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S408x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S408x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S408x1024 : Shape := ⟨2, ![408, 1024]⟩
abbrev S8x408x512 : Shape := ⟨3, ![8, 408, 512]⟩
abbrev S8x408x1024 : Shape := ⟨3, ![8, 408, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S408x1024, .f32⟩
  | .hbm, ⟨1, _⟩ => ⟨S8x408x512, .bf16⟩
  | .hbm, ⟨2, _⟩ => ⟨S8x408x512, .bf16⟩
  | .hbm, ⟨3, _⟩ => ⟨S408x1024, .f32⟩
  | .hbm, ⟨4, _⟩ => ⟨S408x1024, .f32⟩
  | .hbm, ⟨5, _⟩ => ⟨S8x408x1024, .bf16⟩
  | .hbm, ⟨6, _⟩ => ⟨S8x408x1024, .f32⟩
  | .hbm, ⟨7, _⟩ => ⟨S_, .f32⟩
  | .hbm, ⟨8, _⟩ => ⟨S408x1024, .f32⟩
  | .hbm, ⟨9, _⟩ => ⟨S_, .f32⟩
  | .hbm, ⟨10, _⟩ => ⟨S408x1024, .f32⟩
  | .hbm, ⟨11, _⟩ => ⟨S408x1024, .f32⟩
  | .hbm, ⟨12, _⟩ => ⟨S_, .f32⟩
  | .hbm, ⟨13, _⟩ => ⟨S408x1024, .f32⟩
  | .hbm, ⟨14, _⟩ => ⟨S408x1024, .f32⟩
  | .hbm, ⟨15, _⟩ => ⟨S408x1024, .f32⟩
  | .hbm, ⟨16, _⟩ => ⟨S_, .f32⟩
  | .hbm, ⟨17, _⟩ => ⟨S408x1024, .f32⟩
  | .hbm, ⟨18, _⟩ => ⟨S408x1024, .f32⟩
  | .hbm, ⟨19, _⟩ => ⟨S408x1024, .f32⟩
  | .hbm, ⟨20, _⟩ => ⟨S_, .f32⟩
  | .hbm, ⟨21, _⟩ => ⟨S408x1024, .f32⟩
  | .hbm, ⟨22, _⟩ => ⟨S408x1024, .f32⟩
  | .hbm, ⟨23, _⟩ => ⟨S408x1024, .f32⟩
  | .hbm, ⟨24, _⟩ => ⟨S_, .f32⟩
  | .hbm, ⟨25, _⟩ => ⟨S408x1024, .f32⟩
  | .hbm, ⟨26, _⟩ => ⟨S408x1024, .f32⟩
  | .hbm, ⟨27, _⟩ => ⟨S_, .f32⟩
  | .hbm, ⟨28, _⟩ => ⟨S408x1024, .f32⟩
  | .hbm, ⟨29, _⟩ => ⟨S408x1024, .f32⟩
  | .hbm, ⟨30, _⟩ => ⟨S408x1024, .f32⟩
  | .hbm, ⟨31, _⟩ => ⟨S_, .f32⟩
  | .hbm, ⟨32, _⟩ => ⟨S408x1024, .f32⟩
  | .hbm, ⟨33, _⟩ => ⟨S408x1024, .f32⟩
  | .hbm, ⟨34, _⟩ => ⟨S408x1024, .f32⟩
  | .hbm, ⟨35, _⟩ => ⟨S_, .f32⟩
  | .hbm, ⟨36, _⟩ => ⟨S408x1024, .f32⟩
  | .hbm, ⟨37, _⟩ => ⟨S408x1024, .f32⟩
  | .hbm, ⟨38, _⟩ => ⟨S408x1024, .f32⟩
  | .hbm, ⟨39, _⟩ => ⟨S_, .f32⟩
  | .hbm, ⟨40, _⟩ => ⟨S408x1024, .f32⟩
  | .hbm, ⟨41, _⟩ => ⟨S408x1024, .f32⟩
  | _, _ => ⟨S408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel16.lean ====
abbrev S8x1x1024 : Shape := ⟨3, ![8, 1, 1024]⟩
abbrev S8x1x512 : Shape := ⟨3, ![8, 1, 512]⟩
abbrev S8x1x384 : Shape := ⟨3, ![8, 1, 384]⟩
abbrev S8x1x256 : Shape := ⟨3, ![8, 1, 256]⟩
abbrev S8x4x512 : Shape := ⟨3, ![8, 4, 512]⟩
abbrev S8x1x128 : Shape := ⟨3, ![8, 1, 128]⟩
abbrev S1x1024 : Shape := ⟨2, ![1, 1024]⟩
abbrev S1x512 : Shape := ⟨2, ![1, 512]⟩
abbrev S1x384 : Shape := ⟨2, ![1, 384]⟩
abbrev S1x256 : Shape := ⟨2, ![1, 256]⟩
abbrev S4x512 : Shape := ⟨2, ![4, 512]⟩
abbrev S1x128 : Shape := ⟨2, ![1, 128]⟩
abbrev S1x1x1024 : Shape := ⟨3, ![1, 1, 1024]⟩
abbrev S1x1x512 : Shape := ⟨3, ![1, 1, 512]⟩
abbrev S1x1x384 : Shape := ⟨3, ![1, 1, 384]⟩
abbrev S1x1x256 : Shape := ⟨3, ![1, 1, 256]⟩
abbrev S1x4x512 : Shape := ⟨3, ![1, 4, 512]⟩
abbrev S1x1x128 : Shape := ⟨3, ![1, 1, 128]⟩

abbrev nBuf : Space → Nat
  | .hbm => 18
  | .vmem => 18
  | .smem => 0
  | _ => 0

abbrev bufTy : (tb : Table) → Fin (tcTables nBuf tb) → BufTy
  | .hbm, ⟨0, _⟩ => ⟨S8x1x1024, .f32⟩
  | .hbm, ⟨1, _⟩ => ⟨S8x1x512, .f32⟩
  | .hbm, ⟨2, _⟩ => ⟨S8x1x384, .f32⟩
  | .hbm, ⟨3, _⟩ => ⟨S8x1x256, .f32⟩
  | .hbm, ⟨4, _⟩ => ⟨S8x1x512, .f32⟩
  | .hbm, ⟨5, _⟩ => ⟨S8x1x1024, .f32⟩
  | .hbm, ⟨6, _⟩ => ⟨S8x1x1024, .f32⟩
  | .hbm, ⟨7, _⟩ => ⟨S8x4x512, .f32⟩
  | .hbm, ⟨8, _⟩ => ⟨S8x1x128, .f32⟩
  | .hbm, ⟨9, _⟩ => ⟨S1x1024, .f32⟩
  | .hbm, ⟨10, _⟩ => ⟨S1x512, .f32⟩
  | .hbm, ⟨11, _⟩ => ⟨S1x384, .f32⟩
  | .hbm, ⟨12, _⟩ => ⟨S1x256, .f32⟩
  | .hbm, ⟨13, _⟩ => ⟨S1x512, .f32⟩
  | .hbm, ⟨14, _⟩ => ⟨S1x1024, .f32⟩
  | .hbm, ⟨15, _⟩ => ⟨S1x1024, .f32⟩
  | .hbm, ⟨16, _⟩ => ⟨S4x512, .f32⟩
  | .hbm, ⟨17, _⟩ => ⟨S1x128, .f32⟩
  | .local _ .vmem, ⟨0, _⟩ => ⟨S8x1x1024, .f32⟩
  | .local _ .vmem, ⟨1, _⟩ => ⟨S8x1x512, .f32⟩
  | .local _ .vmem, ⟨2, _⟩ => ⟨S8x1x384, .f32⟩
  | .local _ .vmem, ⟨3, _⟩ => ⟨S8x1x256, .f32⟩
  | .local _ .vmem, ⟨4, _⟩ => ⟨S8x1x512, .f32⟩
  | .local _ .vmem, ⟨5, _⟩ => ⟨S8x1x1024, .f32⟩
  | .local _ .vmem, ⟨6, _⟩ => ⟨S8x1x1024, .f32⟩
  | .local _ .vmem, ⟨7, _⟩ => ⟨S8x4x512, .f32⟩
  | .local _ .vmem, ⟨8, _⟩ => ⟨S8x1x128, .f32⟩
  | .local _ .vmem, ⟨9, _⟩ => ⟨S1x1024, .f32⟩
  | .local _ .vmem, ⟨10, _⟩ => ⟨S1x512, .f32⟩
  | .local _ .vmem, ⟨11, _⟩ => ⟨S1x384, .f32⟩
  | .local _ .vmem, ⟨12, _⟩ => ⟨S1x256, .f32⟩
  | .local _ .vmem, ⟨13, _⟩ => ⟨S1x512, .f32⟩
  | .local _ .vmem, ⟨14, _⟩ => ⟨S1x1024, .f32⟩
  | .local _ .vmem, ⟨15, _⟩ => ⟨S1x1024, .f32⟩
  | .local _ .vmem, ⟨16, _⟩ => ⟨S4x512, .f32⟩
  | .local _ .vmem, ⟨17, _⟩ => ⟨S1x128, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v0_8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Reference16Ideal.lean ====
abbrev S8x1x1024 : Shape := ⟨3, ![8, 1, 1024]⟩
abbrev S8x1x512 : Shape := ⟨3, ![8, 1, 512]⟩
abbrev S8x1x384 : Shape := ⟨3, ![8, 1, 384]⟩
abbrev S8x1x256 : Shape := ⟨3, ![8, 1, 256]⟩
abbrev S8x4x512 : Shape := ⟨3, ![8, 4, 512]⟩
abbrev S8x1x128 : Shape := ⟨3, ![8, 1, 128]⟩
abbrev S_ : Shape := ⟨0, ![]⟩
abbrev S1x1024 : Shape := ⟨2, ![1, 1024]⟩
abbrev S1x512 : Shape := ⟨2, ![1, 512]⟩
abbrev S1x384 : Shape := ⟨2, ![1, 384]⟩
abbrev S1x256 : Shape := ⟨2, ![1, 256]⟩
abbrev S4x512 : Shape := ⟨2, ![4, 512]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S8x1x1024, .f32⟩
  | .hbm, ⟨1, _⟩ => ⟨S8x1x512, .f32⟩
  | .hbm, ⟨2, _⟩ => ⟨S8x1x384, .f32⟩
  | .hbm, ⟨3, _⟩ => ⟨S8x1x256, .f32⟩
  | .hbm, ⟨4, _⟩ => ⟨S8x1x512, .f32⟩
  | .hbm, ⟨5, _⟩ => ⟨S8x1x1024, .f32⟩
  | .hbm, ⟨6, _⟩ => ⟨S8x1x1024, .f32⟩
  | .hbm, ⟨7, _⟩ => ⟨S8x4x512, .f32⟩
  | .hbm, ⟨8, _⟩ => ⟨S8x1x128, .f32⟩
  | .hbm, ⟨9, _⟩ => ⟨S_, .f32⟩
  | .hbm, ⟨10, _⟩ => ⟨S1x1024, .f32⟩
  | .hbm, ⟨11, _⟩ => ⟨S_, .f32⟩
  | .hbm, ⟨12, _⟩ => ⟨S1x512, .f32⟩
  | .hbm, ⟨13, _⟩ => ⟨S_, .f32⟩
  | .hbm, ⟨14, _⟩ => ⟨S1x384, .f32⟩
  | .hbm, ⟨15, _⟩ => ⟨S_, .f32⟩
  | .hbm, ⟨16, _⟩ => ⟨S1x256, .f32⟩
  | .hbm, ⟨17, _⟩ => ⟨S_, .f32⟩
  | .hbm, ⟨18, _⟩ => ⟨S1x512, .f32⟩
  | .hbm, ⟨19, _⟩ => ⟨S_, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S_, .f32⟩
  | .hbm, ⟨24, _⟩ => ⟨S4x512, .f32⟩
  | .hbm, ⟨25, _⟩ => ⟨S_, .f32⟩
  | .hbm, ⟨26, _⟩ => ⟨S1x128, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_cst_6 : Ref sig .tc := ⟨.hbm, 23, rfl⟩
abbrev main_v7 : Ref sig .tc := ⟨.hbm, 24, rfl⟩
abbrev main_cst_7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Kernel17.lean ====
abbrev S1x512 : Shape := ⟨2, ![1, 512]⟩
abbrev S1x1024 : Shape := ⟨2, ![1, 1024]⟩
abbrev S4x64 : Shape := ⟨2, ![4, 64]⟩

abbrev nBuf : Space → Nat
  | .hbm => 28
  | .vmem => 28
  | .smem => 0
  | _ => 0

abbrev bufTy : (tb : Table) → Fin (tcTables nBuf tb) → BufTy
  | .hbm, ⟨0, _⟩ => ⟨S1x512, .f32⟩
  | .hbm, ⟨1, _⟩ => ⟨S1x1024, .f32⟩
  | .hbm, ⟨2, _⟩ => ⟨S1x1024, .f32⟩
  | .hbm, ⟨3, _⟩ => ⟨S4x64, .f32⟩
  | .hbm, ⟨4, _⟩ => ⟨S1x512, .f32⟩
  | .hbm, ⟨5, _⟩ => ⟨S1x1024, .f32⟩
  | .hbm, ⟨6, _⟩ => ⟨S1x1024, .f32⟩
  | .hbm, ⟨7, _⟩ => ⟨S4x64, .f32⟩
  | .hbm, ⟨8, _⟩ => ⟨S1x512, .f32⟩
  | .hbm, ⟨9, _⟩ => ⟨S1x1024, .f32⟩
  | .hbm, ⟨10, _⟩ => ⟨S1x1024, .f32⟩
  | .hbm, ⟨11, _⟩ => ⟨S4x64, .f32⟩
  | .hbm, ⟨12, _⟩ => ⟨S1x512, .f32⟩
  | .hbm, ⟨13, _⟩ => ⟨S1x1024, .f32⟩
  | .hbm, ⟨14, _⟩ => ⟨S1x1024, .f32⟩
  | .hbm, ⟨15, _⟩ => ⟨S4x64, .f32⟩
  | .hbm, ⟨16, _⟩ => ⟨S1x512, .f32⟩
  | .hbm, ⟨17, _⟩ => ⟨S1x1024, .f32⟩
  | .hbm, ⟨18, _⟩ => ⟨S1x1024, .f32⟩
  | .hbm, ⟨19, _⟩ => ⟨S4x64, .f32⟩
  | .hbm, ⟨20, _⟩ => ⟨S1x512, .f32⟩
  | .hbm, ⟨21, _⟩ => ⟨S1x1024, .f32⟩
  | .hbm, ⟨22, _⟩ => ⟨S1x1024, .f32⟩
  | .hbm, ⟨23, _⟩ => ⟨S4x64, .f32⟩
  | .hbm, ⟨24, _⟩ => ⟨S1x512, .f32⟩
  | .hbm, ⟨25, _⟩ => ⟨S1x1024, .f32⟩
  | .hbm, ⟨26, _⟩ => ⟨S1x1024, .f32⟩
  | .hbm, ⟨27, _⟩ => ⟨S4x64, .f32⟩
  | .local _ .vmem, ⟨0, _⟩ => ⟨S1x512, .f32⟩
  | .local _ .vmem, ⟨1, _⟩ => ⟨S1x1024, .f32⟩
  | .local _ .vmem, ⟨2, _⟩ => ⟨S1x1024, .f32⟩
  | .local _ .vmem, ⟨3, _⟩ => ⟨S4x64, .f32⟩
  | .local _ .vmem, ⟨4, _⟩ => ⟨S1x512, .f32⟩
  | .local _ .vmem, ⟨5, _⟩ => ⟨S1x1024, .f32⟩
  | .local _ .vmem, ⟨6, _⟩ => ⟨S1x1024, .f32⟩
  | .local _ .vmem, ⟨7, _⟩ => ⟨S4x64, .f32⟩
  | .local _ .vmem, ⟨8, _⟩ => ⟨S1x512, .f32⟩
  | .local _ .vmem, ⟨9, _⟩ => ⟨S1x1024, .f32⟩
  | .local _ .vmem, ⟨10, _⟩ => ⟨S1x1024, .f32⟩
  | .local _ .vmem, ⟨11, _⟩ => ⟨S4x64, .f32⟩
  | .local _ .vmem, ⟨12, _⟩ => ⟨S1x512, .f32⟩
  | .local _ .vmem, ⟨13, _⟩ => ⟨S1x1024, .f32⟩
  | .local _ .vmem, ⟨14, _⟩ => ⟨S1x1024, .f32⟩
  | .local _ .vmem, ⟨15, _⟩ => ⟨S4x64, .f32⟩
  | .local _ .vmem, ⟨16, _⟩ => ⟨S1x512, .f32⟩
  | .local _ .vmem, ⟨17, _⟩ => ⟨S1x1024, .f32⟩
  | .local _ .vmem, ⟨18, _⟩ => ⟨S1x1024, .f32⟩
  | .local _ .vmem, ⟨19, _⟩ => ⟨S4x64, .f32⟩
  | .local _ .vmem, ⟨20, _⟩ => ⟨S1x512, .f32⟩
  | .local _ .vmem, ⟨21, _⟩ => ⟨S1x1024, .f32⟩
  | .local _ .vmem, ⟨22, _⟩ => ⟨S1x1024, .f32⟩
  | .local _ .vmem, ⟨23, _⟩ => ⟨S4x64, .f32⟩
  | .local _ .vmem, ⟨24, _⟩ => ⟨S1x512, .f32⟩
  | .local _ .vmem, ⟨25, _⟩ => ⟨S1x1024, .f32⟩
  | .local _ .vmem, ⟨26, _⟩ => ⟨S1x1024, .f32⟩
  | .local _ .vmem, ⟨27, _⟩ => ⟨S4x64, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x64 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== Reference17Ideal.lean ====
abbrev S1x512 : Shape := ⟨2, ![1, 512]⟩
abbrev S1x1024 : Shape := ⟨2, ![1, 1024]⟩
abbrev S4x64 : Shape := ⟨2, ![4, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x512, .f32⟩
  | 1 => ⟨S1x1024, .f32⟩
  | 2 => ⟨S1x1024, .f32⟩
  | 3 => ⟨S4x64, .f32⟩
  | 4 => ⟨S1x512, .f32⟩
  | 5 => ⟨S1x1024, .f32⟩
  | 6 => ⟨S1x1024, .f32⟩
  | 7 => ⟨S4x64, .f32⟩
  | 8 => ⟨S1x512, .f32⟩
  | 9 => ⟨S1x1024, .f32⟩
  | 10 => ⟨S1x1024, .f32⟩
  | 11 => ⟨S4x64, .f32⟩
  | 12 => ⟨S1x512, .f32⟩
  | 13 => ⟨S1x1024, .f32⟩
  | 14 => ⟨S1x1024, .f32⟩
  | 15 => ⟨S4x64, .f32⟩
  | 16 => ⟨S_, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S1x512, .f32⟩
  | 27 => ⟨S_, .f32⟩
  | 28 => ⟨S1x512, .f32⟩
  | 29 => ⟨S1x512, .f32⟩
  | 30 => ⟨S1x512, .f32⟩
  | 31 => ⟨S_, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S1x512, .f32⟩
  | 46 => ⟨S_, .f32⟩
  | 47 => ⟨S1x512, .f32⟩
  | 48 => ⟨S1x512, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S4x64, .f32⟩
  | 117 => ⟨S4x64, .f32⟩
  | 118 => ⟨S_, .f32⟩
  | 119 => ⟨S4x64, .f32⟩
  | 120 => ⟨S4x64, .f32⟩
  | 121 => ⟨S4x64, .f32⟩
  | 122 => ⟨S_, .f32⟩
  | 123 => ⟨S4x64, .f32⟩
  | 124 => ⟨S4x64, .f32⟩
  | 125 => ⟨S4x64, .f32⟩
  | 126 => ⟨S_, .f32⟩
  | 127 => ⟨S4x64, .f32⟩
  | _ => ⟨S1x512, .f32⟩

abbrev hbmTy0_1 (i : Nat) : BufTy := match i % 128 with
  | 0 => ⟨S4x64, .f32⟩
  | 1 => ⟨S4x64, .f32⟩
  | 2 => ⟨S_, .f32⟩
  | 3 => ⟨S4x64, .f32⟩
  | 4 => ⟨S4x64, .f32⟩
  | 5 => ⟨S_, .f32⟩
  | 6 => ⟨S4x64, .f32⟩
  | 7 => ⟨S4x64, .f32⟩
  | 8 => ⟨S4x64, .f32⟩
  | 9 => ⟨S_, .f32⟩
  | 10 => ⟨S4x64, .f32⟩
  | 11 => ⟨S4x64, .f32⟩
  | 12 => ⟨S4x64, .f32⟩
  | 13 => ⟨S_, .f32⟩
  | 14 => ⟨S4x64, .f32⟩
  | 15 => ⟨S4x64, .f32⟩
  | 16 => ⟨S4x64, .f32⟩
  | 17 => ⟨S_, .f32⟩
  | 18 => ⟨S4x64, .f32⟩
  | 19 => ⟨S4x64, .f32⟩
  | _ => ⟨S1x512, .f32⟩

abbrev hbmTy (i : Nat) : BufTy := match i / 128 with
  | 0 => hbmTy0_0 i
  | 1 => hbmTy0_1 i
  | _ => ⟨S1x512, .f32⟩

abbrev bufTy : (tb : Table) → Fin (tcTables nBuf tb) → BufTy
  | .hbm, ⟨i, _⟩ => hbmTy i
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Kernel18.lean ====
abbrev S128x1024 : Shape := ⟨2, ![128, 1024]⟩
abbrev S352x1024 : Shape := ⟨2, ![352, 1024]⟩
abbrev S8x128x1024 : Shape := ⟨3, ![8, 128, 1024]⟩
abbrev S8x352x1024 : Shape := ⟨3, ![8, 352, 1024]⟩
abbrev S3x352x1024 : Shape := ⟨3, ![3, 352, 1024]⟩
abbrev S4x352x1024 : Shape := ⟨3, ![4, 352, 1024]⟩
abbrev S4 : Shape := ⟨1, ![4]⟩
abbrev S1 : Shape := ⟨1, ![1]⟩
abbrev S_ : Shape := ⟨0, ![]⟩
abbrev S1x128x1024 : Shape := ⟨3, ![1, 128, 1024]⟩
abbrev S1x352x1024 : Shape := ⟨3, ![1, 352, 1024]⟩

abbrev nBuf : Space → Nat
  | .hbm => 32
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x128x1024, .bf16⟩
  | .hbm, ⟨5, _⟩ => ⟨S8x352x1024, .bf16⟩
  | .hbm, ⟨6, _⟩ => ⟨S8x352x1024, .bf16⟩
  | .hbm, ⟨7, _⟩ => ⟨S8x352x1024, .bf16⟩
  | .hbm, ⟨8, _⟩ => ⟨S128x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S128x1024, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S128x1024, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S128x1024, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S128x1024, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S128x1024, .f32⟩
  | .hbm, ⟨29, _⟩ => ⟨S352x1024, .f32⟩
  | .hbm, ⟨30, _⟩ => ⟨S352x1024, .f32⟩
  | .hbm, ⟨31, _⟩ => ⟨S352x1024, .f32⟩
  | .local _ .vmem, ⟨0, _⟩ => ⟨S3x352x1024, .f32⟩
  | .local _ .vmem, ⟨1, _⟩ => ⟨S8x352x1024, .bf16⟩
  | .local _ .vmem, ⟨2, _⟩ => ⟨S4x352x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev main_v0_12 : Ref sig .tc := ⟨.hbm, 28, rfl⟩
abbrev main_v0_13 : Ref sig .tc := ⟨.hbm, 29, rfl⟩
abbrev main_v0_14 : Ref sig .tc := ⟨.hbm, 30, rfl⟩
abbrev main_v0_15 : Ref sig .tc := ⟨.hbm, 31, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩

abbrev nD : Nat := 1
abbrev τ : Topo := Topo.v7x

variable {F : FTy → Type} [FloatOps F]

abbrev grid0 : Pipeline.Grid := .none
-- ==== Reference18Ideal.lean ====
abbrev S128x1024 : Shape := ⟨2, ![128, 1024]⟩
abbrev S352x1024 : Shape := ⟨2, ![352, 1024]⟩
abbrev S8x128x1024 : Shape := ⟨3, ![8, 128, 1024]⟩
abbrev S8x352x1024 : Shape := ⟨3, ![8, 352, 1024]⟩
abbrev S_ : Shape := ⟨0, ![]⟩

abbrev nBuf : Space → Nat
  | .hbm => 160
  | .vmem => 0
  | .smem => 0
  | _ => 0

abbrev hbmTy0_0 (i : Nat) : BufTy := match i % 128 with
  | 0 => ⟨S128x1024, .f32⟩
  | 1 => ⟨S352x1024, .f32⟩
  | 2 => ⟨S352x1024, .f32⟩
  | 3 => ⟨S352x1024, .f32⟩
  | 4 => ⟨S8x128x1024, .bf16⟩
  | 5 => ⟨S8x352x1024, .bf16⟩
  | 6 => ⟨S8x352x1024, .bf16⟩
  | 7 => ⟨S8x352x1024, .bf16⟩
  | 8 => ⟨S128x1024, .f32⟩
  | 9 => ⟨S352x1024, .f32⟩
  | 10 => ⟨S352x1024, .f32⟩
  | 11 => ⟨S352x1024, .f32⟩
  | 12 => ⟨S128x1024, .f32⟩
  | 13 => ⟨S352x1024, .f32⟩
  | 14 => ⟨S352x1024, .f32⟩
  | 15 => ⟨S352x1024, .f32⟩
  | 16 => ⟨S8x128x1024, .f32⟩
  | 17 => ⟨S_, .f32⟩
  | 18 => ⟨S128x1024, .f32⟩
  | 19 => ⟨S_, .f32⟩
  | 20 => ⟨S128x1024, .f32⟩
  | 21 => ⟨S128x1024, .f32⟩
  | 22 => ⟨S_, .f32⟩
  | 23 => ⟨S128x1024, .f32⟩
  | 24 => ⟨S128x1024, .f32⟩
  | 25 => ⟨S128x1024, .f32⟩
  | 26 => ⟨S_, .f32⟩
  | 27 => ⟨S128x1024, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S_, .f32⟩
  | 35 => ⟨S128x1024, .f32⟩
  | 36 => ⟨S128x1024, .f32⟩
  | 37 => ⟨S_, .f32⟩
  | 38 => ⟨S128x1024, .f32⟩
  | 39 => ⟨S128x1024, .f32⟩
  | 40 => ⟨S128x1024, .f32⟩
  | 41 => ⟨S_, .f32⟩
  | 42 => ⟨S128x1024, .f32⟩
  | 43 => ⟨S128x1024, .f32⟩
  | 44 => ⟨S128x1024, .f32⟩
  | 45 => ⟨S_, .f32⟩
  | 46 => ⟨S128x1024, .f32⟩
  | 47 => ⟨S128x1024, .f32⟩
  | 48 => ⟨S128x1024, .f32⟩
  | 49 => ⟨S_, .f32⟩
  | 50 => ⟨S128x1024, .f32⟩
  | 51 => ⟨S128x1024, .f32⟩
  | 52 => ⟨S8x352x1024, .f32⟩
  | 53 => ⟨S_, .f32⟩
  | 54 => ⟨S352x1024, .f32⟩
  | 55 => ⟨S_, .f32⟩
  | 56 => ⟨S352x1024, .f32⟩
  | 57 => ⟨S352x1024, .f32⟩
  | 58 => ⟨S_, .f32⟩
  | 59 => ⟨S352x1024, .f32⟩
  | 60 => ⟨S352x1024, .f32⟩
  | 61 => ⟨S352x1024, .f32⟩
  | 62 => ⟨S_, .f32⟩
  | 63 => ⟨S352x1024, .f32⟩
  | 64 => ⟨S352x1024, .f32⟩
  | 65 => ⟨S352x1024, .f32⟩
  | 66 => ⟨S_, .f32⟩
  | 67 => ⟨S352x1024, .f32⟩
  | 68 => ⟨S352x1024, .f32⟩
  | 69 => ⟨S352x1024, .f32⟩
  | 70 => ⟨S_, .f32⟩
  | 71 => ⟨S352x1024, .f32⟩
  | 72 => ⟨S352x1024, .f32⟩
  | 73 => ⟨S_, .f32⟩
  | 74 => ⟨S352x1024, .f32⟩
  | 75 => ⟨S352x1024, .f32⟩
  | 76 => ⟨S352x1024, .f32⟩
  | 77 => ⟨S_, .f32⟩
  | 78 => ⟨S352x1024, .f32⟩
  | 79 => ⟨S352x1024, .f32⟩
  | 80 => ⟨S352x1024, .f32⟩
  | 81 => ⟨S_, .f32⟩
  | 82 => ⟨S352x1024, .f32⟩
  | 83 => ⟨S352x1024, .f32⟩
  | 84 => ⟨S352x1024, .f32⟩
  | 85 => ⟨S_, .f32⟩
  | 86 => ⟨S352x1024, .f32⟩
  | 87 => ⟨S352x1024, .f32⟩
  | 88 => ⟨S8x352x1024, .f32⟩
  | 89 => ⟨S_, .f32⟩
  | 90 => ⟨S352x1024, .f32⟩
  | 91 => ⟨S_, .f32⟩
  | 92 => ⟨S352x1024, .f32⟩
  | 93 => ⟨S352x1024, .f32⟩
  | 94 => ⟨S_, .f32⟩
  | 95 => ⟨S352x1024, .f32⟩
  | 96 => ⟨S352x1024, .f32⟩
  | 97 => ⟨S352x1024, .f32⟩
  | 98 => ⟨S_, .f32⟩
  | 99 => ⟨S352x1024, .f32⟩
  | 100 => ⟨S352x1024, .f32⟩
  | 101 => ⟨S352x1024, .f32⟩
  | 102 => ⟨S_, .f32⟩
  | 103 => ⟨S352x1024, .f32⟩
  | 104 => ⟨S352x1024, .f32⟩
  | 105 => ⟨S352x1024, .f32⟩
  | 106 => ⟨S_, .f32⟩
  | 107 => ⟨S352x1024, .f32⟩
  | 108 => ⟨S352x1024, .f32⟩
  | 109 => ⟨S_, .f32⟩
  | 110 => ⟨S352x1024, .f32⟩
  | 111 => ⟨S352x1024, .f32⟩
  | 112 => ⟨S352x1024, .f32⟩
  | 113 => ⟨S_, .f32⟩
  | 114 => ⟨S352x1024, .f32⟩
  | 115 => ⟨S352x1024, .f32⟩
  | 116 => ⟨S352x1024, .f32⟩
  | 117 => ⟨S_, .f32⟩
  | 118 => ⟨S352x1024, .f32⟩
  | 119 => ⟨S352x1024, .f32⟩
  | 120 => ⟨S352x1024, .f32⟩
  | 121 => ⟨S_, .f32⟩
  | 122 => ⟨S352x1024, .f32⟩
  | 123 => ⟨S352x1024, .f32⟩
  | 124 => ⟨S8x352x1024, .f32⟩
  | 125 => ⟨S_, .f32⟩
  | 126 => ⟨S352x1024, .f32⟩
  | 127 => ⟨S_, .f32⟩
  | _ => ⟨S128x1024, .f32⟩

abbrev hbmTy0_1 (i : Nat) : BufTy := match i % 128 with
  | 0 => ⟨S352x1024, .f32⟩
  | 1 => ⟨S352x1024, .f32⟩
  | 2 => ⟨S_, .f32⟩
  | 3 => ⟨S352x1024, .f32⟩
  | 4 => ⟨S352x1024, .f32⟩
  | 5 => ⟨S352x1024, .f32⟩
  | 6 => ⟨S_, .f32⟩
  | 7 => ⟨S352x1024, .f32⟩
  | 8 => ⟨S352x1024, .f32⟩
  | 9 => ⟨S352x1024, .f32⟩
  | 10 => ⟨S_, .f32⟩
  | 11 => ⟨S352x1024, .f32⟩
  | 12 => ⟨S352x1024, .f32⟩
  | 13 => ⟨S352x1024, .f32⟩
  | 14 => ⟨S_, .f32⟩
  | 15 => ⟨S352x1024, .f32⟩
  | 16 => ⟨S352x1024, .f32⟩
  | 17 => ⟨S_, .f32⟩
  | 18 => ⟨S352x1024, .f32⟩
  | 19 => ⟨S352x1024, .f32⟩
  | 20 => ⟨S352x1024, .f32⟩
  | 21 => ⟨S_, .f32⟩
  | 22 => ⟨S352x1024, .f32⟩
  | 23 => ⟨S352x1024, .f32⟩
  | 24 => ⟨S352x1024, .f32⟩
  | 25 => ⟨S_, .f32⟩
  | 26 => ⟨S352x1024, .f32⟩
  | 27 => ⟨S352x1024, .f32⟩
  | 28 => ⟨S352x1024, .f32⟩
  | 29 => ⟨S_, .f32⟩
  | 30 => ⟨S352x1024, .f32⟩
  | 31 => ⟨S352x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_9 : Ref sig .tc := ⟨.hbm, 53, rfl⟩
abbrev main_v27 : Ref sig .tc := ⟨.hbm, 54, rfl⟩
abbrev main_cst_10 : Ref sig .tc := ⟨.hbm, 55, rfl⟩
abbrev main_v28 : Ref sig .tc := ⟨.hbm, 56, rfl⟩
abbrev main_v29 : Ref sig .tc := ⟨.hbm, 57, rfl⟩
abbrev main_cst_11 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst_12 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_13 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_14 : Ref sig .tc := ⟨.hbm, 70, rfl⟩
abbrev main_v39 : Ref sig .tc := ⟨.hbm, 71, rfl⟩
abbrev main_v40 : Ref sig .tc := ⟨.hbm, 72, rfl⟩
abbrev main_cst_15 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_16 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_v55 : Ref sig .tc := ⟨.hbm, 93, rfl⟩
abbrev main_cst_21 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_22 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_23 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_24 : Ref sig .tc := ⟨.hbm, 106, rfl⟩
abbrev main_v65 : Ref sig .tc := ⟨.hbm, 107, rfl⟩
abbrev main_v66 : Ref sig .tc := ⟨.hbm, 108, rfl⟩
abbrev main_cst_25 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_27 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_28 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_29 : Ref sig .tc := ⟨.hbm, 125, rfl⟩
abbrev main_v79 : Ref sig .tc := ⟨.hbm, 126, rfl⟩
abbrev main_cst_30 : Ref sig .tc := ⟨.hbm, 127, rfl⟩
abbrev main_v80 : Ref sig .tc := ⟨.hbm, 128, rfl⟩
abbrev main_v81 : Ref sig .tc := ⟨.hbm, 129, rfl⟩
abbrev main_cst_31 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_32 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_33 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_34 : Ref sig .tc := ⟨.hbm, 142, rfl⟩
abbrev main_v91 : Ref sig .tc := ⟨.hbm, 143, rfl⟩
abbrev main_v92 : Ref sig .tc := ⟨.hbm, 144, rfl⟩
abbrev main_cst_35 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_36 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_37 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_cst_38 : Ref sig .tc := ⟨.hbm, 157, rfl⟩
abbrev main_v102 : Ref sig .tc := ⟨.hbm, 158, rfl⟩
abbrev main_v103 : Ref sig .tc := ⟨.hbm, 159, rfl⟩

abbrev nD : Nat := 1
abbrev τ : Topo := Topo.v7x

variable {F : FTy → Type} [FloatOps F]
-- ==== Proof.AttnRun.lean ====
/-
  The run of the attention program, forward call and then backward call: what its four result arrays end holding, in
  terms of what each call's pipeline writes back, with the arguments as launched and every counter at zero.
-/
module

public import proofs.«01_k».proof.Proof.Gen.KernelIdeal.Frame

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every fair execution ends with each result array holding what its call's pipeline leaves in it. -/
theorem run : θ_run defs (onTc (τ := τ) (main (F := F))) ⟨m, fun _ => 0, ρ⟩ (fun r => ∀ c : Dev nD,
      (r.2.mem ((c.tc : Thread nD τ).loc main_v0_0) = (dat0 (V0 m ρ) c).arrAt (3 : Fin 5) cfg0.N
      ∧ r.2.mem ((c.tc : Thread nD τ).loc main_v1_0) = (dat1 (V1 m ρ) c).arrAt (6 : Fin 9) cfg1.N
      ∧ r.2.mem ((c.tc : Thread nD τ).loc main_v1_1) = (dat1 (V1 m ρ) c).arrAt (7 : Fin 9) cfg1.N
      ∧ r.2.mem ((c.tc : Thread nD τ).loc main_v1_2) = (dat1 (V1 m ρ) c).arrAt (8 : Fin 9) cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨⟨(h c _ (mem_uc main_v0_0 (by decide))).trans ((W2_of m ρ c main_v0_0 (by decide)).trans (W1_arr m ρ c (3 : Fin 5))),
        (h c _ (mem_uc main_v1_0 (by decide))).trans (W2_arr m ρ c (6 : Fin 9)),
        (h c _ (mem_uc main_v1_1 (by decide))).trans (W2_arr m ρ c (7 : Fin 9)),
        (h c _ (mem_uc main_v1_2 (by decide))).trans (W2_arr m ρ c (8 : Fin 9))⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.Attn

end
-- ==== Proof.AttnMath.lean ====
/-
  The arithmetic of one softmax attention row and of its gradient, over the real numbers, and how the extended reals
  restrict to it: sums, maxima, exponentials, logarithms and quotients of real numbers are real numbers.
-/
module

public import Idealize.ShloMosaic.PureOps.Ideal
public import Mathlib.Tactic.Ring
public import Mathlib.Tactic.FieldSimp
public import Mathlib.Tactic.Linarith
public import Mathlib.Data.EReal.Inv
public import Mathlib.Algebra.BigOperators.Field

@[expose] public section

noncomputable section

namespace Cert.Attn

open Idealize.ShloMosaic

/-! ## Real numbers inside the extended reals -/

/-- A finite sum of real numbers, taken among the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many real numbers, at least one, is a real number. -/
theorem coe_max {n : ℕ} [NeZero n] (f : Fin n → ℝ) :
    ∃ M : ℝ, Finset.univ.fold max (⊥ : EReal) (fun k => (f k : EReal)) = (M : EReal) := by
  classical
  have key : ∀ s : Finset (Fin n), s.Nonempty → ∃ M : ℝ, s.fold max (⊥ : EReal) (fun k => (f k : EReal)) = (M : EReal) := by
    intro s hs
    induction s using Finset.induction_on with
    | empty => exact absurd hs (by simp)
    | insert a s ha ih =>
      rw [Finset.fold_insert ha]
      rcases s.eq_empty_or_nonempty with rfl | h
      · exact ⟨f a, by simp⟩
      · obtain ⟨M, hM⟩ := ih h
        exact ⟨max (f a) M, by rw [hM]; exact (EReal.coe_strictMono.monotone.map_max (a := f a) (b := M)).symm⟩
  exact key _ ⟨0, Finset.mem_univ _⟩

/-- A real number over a nonzero real number. -/
theorem div_real (x y : ℝ) (h : y ≠ 0) : Ideal.div (x : EReal) (y : EReal) = ((x / y : ℝ) : EReal) := by
  rw [Ideal.div_coe h, ← EReal.coe_mul]; congr 1; ring

/-- The logarithm of a positive real number. -/
theorem log_real (x : ℝ) (h : 0 < x) : Ideal.log (x : EReal) = (Real.log x : EReal) := by
  rw [Ideal.log_coe, if_neg (not_le.mpr h)]

/-! ## One row of a softmax -/

section Row
variable {n : ℕ} (s g : Fin n → ℝ)

/-- The sum of the exponentials of a row of scores. -/
def total : ℝ := ∑ c, Real.exp (s c)

/-- The softmax of a row of scores. -/
def weight (c : Fin n) : ℝ := Real.exp (s c) / total s

/-- The gradient of the scores of one row, given the gradient `g` of its softmax. -/
def grad (c : Fin n) : ℝ := weight s c * (g c - ∑ c', weight s c' * g c')

variable [NeZero n]

theorem total_pos : 0 < total s :=
  Finset.sum_pos (fun _ _ => Real.exp_pos _) ⟨0, Finset.mem_univ _⟩

/-- Shifting a row of scores by a constant scales the sum of the exponentials. -/
theorem total_shift (M : ℝ) : ∑ c, Real.exp (s c - M) = total s * Real.exp (-M) := by
  rw [total, Finset.sum_mul]
  exact Finset.sum_congr rfl fun c _ => by rw [← Real.exp_add, sub_eq_add_neg]

theorem total_shift_pos (M : ℝ) : 0 < ∑ c, Real.exp (s c - M) := by
  rw [total_shift]; exact mul_pos (total_pos s) (Real.exp_pos _)

/-- The softmax does not see a shift of the scores. -/
theorem weight_shift (M : ℝ) (c : Fin n) : Real.exp (s c - M) / ∑ c, Real.exp (s c - M) = weight s c := by
  have h := (total_pos s).ne'
  have h' := (Real.exp_pos (-M)).ne'
  rw [total_shift, weight, sub_eq_add_neg, Real.exp_add]
  field_simp

/-- The shift and the logarithm of the shifted sum together are the logarithm of the sum. -/
theorem log_shift (M : ℝ) : M + Real.log (∑ c, Real.exp (s c - M)) = Real.log (total s) := by
  rw [total_shift, Real.log_mul (total_pos s).ne' (Real.exp_pos _).ne', Real.log_exp]; ring

/-- The softmax from the logarithm of the sum. -/
theorem weight_log (c : Fin n) : Real.exp (s c - Real.log (total s)) = weight s c := by
  rw [Real.exp_sub, Real.exp_log (total_pos s), weight]

/-- A weighted sum divided by the sum of the weights afterwards. -/
theorem average_shift (M : ℝ) (v : Fin n → ℝ) :
    (∑ c, Real.exp (s c - M) * v c) / ∑ c, Real.exp (s c - M) = ∑ c, weight s c * v c := by
  rw [Finset.sum_div]
  exact Finset.sum_congr rfl fun c _ => by rw [← weight_shift s M c]; ring

/-- The gradient of the quotient written out: through the numerator and through the denominator. -/
theorem grad_quotient (M : ℝ) (c : Fin n) :
    (g c / (∑ c, Real.exp (s c - M))
        + -(∑ c', g c' * (1 / ((∑ c, Real.exp (s c - M)) * ∑ c, Real.exp (s c - M))) * Real.exp (s c' - M)))
      * Real.exp (s c - M) = grad s g c := by
  have hl := (total_shift_pos s M).ne'
  rw [grad, ← weight_shift s M c]
  have : ∑ c', g c' * (1 / ((∑ c, Real.exp (s c - M)) * ∑ c, Real.exp (s c - M))) * Real.exp (s c' - M)
      = (∑ c', weight s c' * g c') / ∑ c, Real.exp (s c - M) := by
    rw [Finset.sum_div]
    exact Finset.sum_congr rfl fun c' _ => by rw [← weight_shift s M c']; field_simp
  rw [this]; field_simp; ring

end Row

/-- The row's `delta` from the output: the output's own product with its gradient is the weights' with theirs. -/
theorem delta_output {n w : ℕ} (p : Fin n → ℝ) (v : Fin n → Fin w → ℝ) (d : Fin w → ℝ) :
    ∑ e, d e * ∑ c, p c * v c e = ∑ c, p c * ∑ e, d e * v c e := by
  simp only [Finset.mul_sum]
  rw [Finset.sum_comm]
  exact Finset.sum_congr rfl fun c _ => Finset.sum_congr rfl fun e _ => by ring

end Cert.Attn

end
-- ==== Proof.AttnSpec.lean ====
/-
  Softmax attention over real numbers, for two sequences of 4096 rows and four heads, and its gradient: what both
  programs compute when the arguments are finite.  Queries and keys have 256 numbers a head, values 128.
-/
module

public import proofs.«01_k».proof.Proof.AttnMath

@[expose] public section

noncomputable section

namespace Cert.Attn

/-- The scores of a block of query rows against a block of keys. -/
def scores {n k d : ℕ} (Q : Fin n → Fin d → ℝ) (K : Fin k → Fin d → ℝ) (a : Fin n) (c : Fin k) : ℝ := ∑ x, Q a x * K c x

/-- Row `c` of the sequence that row `r` belongs to. -/
def peer (r : Fin 8192) (c : Fin 4096) : Fin 8192 := ⟨r.val / 4096 * 4096 + c.val, by omega⟩

/-- Column `x` of head `h`, in an array of four heads of 256 columns. -/
def wide (h : Fin 4) (x : Fin 256) : Fin 1024 := ⟨h.val * 256 + x.val, by omega⟩

/-- Column `x` of head `h`, in an array of four heads of 128 columns. -/
def narrow (h : Fin 4) (x : Fin 128) : Fin 512 := ⟨h.val * 128 + x.val, by omega⟩

/-- The head of a column of an array of four heads of 256 columns. -/
def headW (x : Fin 1024) : Fin 4 := ⟨x.val / 256, by omega⟩

/-- The head of a column of an array of four heads of 128 columns. -/
def headN (x : Fin 512) : Fin 4 := ⟨x.val / 128, by omega⟩

/-- The place of row `r` in its sequence. -/
def place (r : Fin 8192) : Fin 4096 := ⟨r.val % 4096, by omega⟩

section Spec
variable (q k : Fin 8192 → Fin 1024 → ℝ) (v d : Fin 8192 → Fin 512 → ℝ)

/-- The score of row `r` against row `c` of its sequence, in head `h`. -/
def score (h : Fin 4) (r : Fin 8192) (c : Fin 4096) : ℝ := ∑ x, q r (wide h x) * k (peer r c) (wide h x)

/-- The gradient of the attention weight of row `r` on row `c` of its sequence, in head `h`. -/
def back (h : Fin 4) (r : Fin 8192) (c : Fin 4096) : ℝ := ∑ e, d r (narrow h e) * v (peer r c) (narrow h e)

/-- The attention's output. -/
def output (r : Fin 8192) (x : Fin 512) : ℝ := ∑ c, weight (score q k (headN x) r) c * v (peer r c) x

/-- The gradient of the scores. -/
def dscore (h : Fin 4) (r : Fin 8192) (c : Fin 4096) : ℝ := grad (score q k h r) (back v d h r) c

/-- The gradient of the queries. -/
def dquery (r : Fin 8192) (x : Fin 1024) : ℝ := ∑ c, dscore q k v d (headW x) r c * k (peer r c) x

/-- The gradient of the keys. -/
def dkey (r : Fin 8192) (x : Fin 1024) : ℝ := ∑ a, dscore q k v d (headW x) (peer r a) (place r) * q (peer r a) x

/-- The gradient of the values. -/
def dvalue (r : Fin 8192) (x : Fin 512) : ℝ := ∑ a, weight (score q k (headN x) (peer r a)) (place r) * d (peer r a) x

end Spec

end Cert.Attn

end
-- ==== Proof.AttnFwd.lean ====
/-
  One block of the forward call: 256 query rows against all keys of a head.  Its output rows are softmax averages of the
  values, and its second output is the logarithm of each row's sum of exponentials.
-/
module

public import proofs.«01_k».proof.Proof.AttnSpec
public import proofs.«01_k».proof.Proof.Gen.KernelIdeal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Attn

open Idealize.ShloMosaic Idealize.ShloMosaic.TcCoe Idealize.SL.Sem
open Cert.KernelIdeal Cert.KernelIdeal.Gen

/-- The word of minus infinity. -/
theorem negInf : Ideal.ofBits .f32 4286578688#32 = ⊥ := by simp [Ideal.ofBits, Ideal.ieee]

/-- A column of 256 maxima and the logarithms of a column of 256 sums, added, under a leading axis of one. -/
theorem lse_row (x y : FVec Ideal S256x1 .f32) (h : S256x1.ShapeCasts S1x256x1) (u : Fin 1) (a : Fin 256) (w : Fin 1) :
    shapeCast S1x256x1 (addf x (log y)) h (ix3 u a w) = x (ix2 a 0) + Ideal.log (y (ix2 a 0)) := by
  pointwise

section Payloads
variable {q : Vec Ideal S256x256 .bf16} {k : Vec Ideal S4096x256 .bf16} {v : Vec Ideal S4096x128 .bf16}
variable {Q : Fin 256 → Fin 256 → ℝ} {K : Fin 4096 → Fin 256 → ℝ} {V : Fin 4096 → Fin 128 → ℝ}
variable (hq : ∀ a d, q (ix2 a d) = (Q a d : EReal)) (hk : ∀ c d, k (ix2 c d) = (K c d : EReal)) (hv : ∀ c e, v (ix2 c e) = (V c e : EReal))
include hq hk

theorem pay7 (a : Fin 256) (c : Fin 4096) : k0_pay7 (F := Ideal) q k (ix2 a c) = (scores Q K a c : EReal) := by
  pointwise [k0_pay7]
  simp only [hq, hk, ← EReal.coe_mul, coe_sum, scores]

theorem pay8 (a : Fin 256) : ∃ M : ℝ, k0_pay8 (F := Ideal) q k (ix2 a 0) = (M : EReal) := by
  obtain ⟨M, hM⟩ := coe_max (scores Q K a)
  refine ⟨M, ?_⟩
  pointwise [k0_pay8]
  rw [negInf]
  simp only [pay7 hq hk]
  exact hM

theorem pay9 (a : Fin 256) {M : ℝ} (hM : k0_pay8 (F := Ideal) q k (ix2 a 0) = (M : EReal)) (c : Fin 4096) :
    k0_pay9 (F := Ideal) q k (ix2 a c) = (Real.exp (scores Q K a c - M) : EReal) := by
  pointwise [k0_pay9]
  rw [pay7 hq hk, hM, ← EReal.coe_sub, Ideal.exp_coe]

theorem pay10 (a : Fin 256) {M : ℝ} (hM : k0_pay8 (F := Ideal) q k (ix2 a 0) = (M : EReal)) :
    k0_pay10 (F := Ideal) q k (ix2 a 0) = (∑ c, Real.exp (scores Q K a c - M) : ℝ) := by
  pointwise [k0_pay10]
  simp only [pay9 hq hk a hM, coe_sum]

/-- The second output of a block: each row's logarithm of its sum of exponentials. -/
theorem pay12 (u : Fin 1) (a : Fin 256) (w : Fin 1) :
    k0_pay12 (F := Ideal) q k (ix3 u a w) = (Real.log (total (scores Q K a)) : EReal) := by
  obtain ⟨M, hM⟩ := pay8 hq hk a
  have e : k0_pay12 (F := Ideal) q k (ix3 u a w) = k0_pay8 (F := Ideal) q k (ix2 a 0) + Ideal.log (k0_pay10 (F := Ideal) q k (ix2 a 0)) := by
    unfold k0_pay12
    exact lse_row _ _ _ u a w
  rw [e, pay10 hq hk a hM, hM, log_real _ (total_shift_pos _ M), ← EReal.coe_add, log_shift]

include hv in
/-- The first output of a block: each row's average of the values, weighted by the row's softmax. -/
theorem pay11 (a : Fin 256) (e : Fin 128) :
    k0_pay11 (F := Ideal) q k v (ix2 a e) = (∑ c, weight (scores Q K a) c * V c e : ℝ) := by
  obtain ⟨M, hM⟩ := pay8 hq hk a
  pointwise [k0_pay11]
  simp only [pay10 hq hk a hM, pay9 hq hk a hM, hv, ← EReal.coe_mul, coe_sum]
  rw [div_real _ _ (total_shift_pos _ M).ne', average_shift]

end Payloads

/-! ## The block a grid point leaves: four groups of 256 rows -/

section Block
variable {q : Vec Ideal S1024x256 .bf16} {k : Vec Ideal S4096x256 .bf16} {v : Vec Ideal S4096x128 .bf16}
variable {Q : Fin 1024 → Fin 256 → ℝ} {K : Fin 4096 → Fin 256 → ℝ} {V : Fin 4096 → Fin 128 → ℝ}
variable (hq : ∀ a d, q (ix2 a d) = (Q a d : EReal)) (hk : ∀ c d, k (ix2 c d) = (K c d : EReal)) (hv : ∀ c e, v (ix2 c e) = (V c e : EReal))
include hq hk hv

/-- One group of 256 rows of the first output, from row `o` on. -/
theorem piece_o (o : ℕ) (ho : o + 256 ≤ 1024) {q' : Vec Ideal S256x256 .bf16} {k' : Vec Ideal S4096x256 .bf16} {v' : Vec Ideal S4096x128 .bf16}
    (hq' : ∀ (a : Fin 256) (d : Fin 256), q' (ix2 a d) = q (ix2 (⟨o + a, by omega⟩ : Fin 1024) d)) (hk' : k' = k) (hv' : v' = v)
    (y : S1024x128.Idx) (x : S256x128.Idx) (h0 : (y 0 : ℕ) = o + (x 0 : ℕ)) (h1 : (y 1 : ℕ) = (x 1 : ℕ)) :
    k0_pay11 (F := Ideal) q' k' v' x = (∑ c, weight (scores Q K (y 0)) c * V c (y 1) : ℝ) := by
  subst hk' hv'
  idx_vars x
  idx_vars y
  clean_types
  obtain rfl : y1 = x1 := Fin.ext h1
  have hx : (x0 : ℕ) < 256 := x0.isLt
  have hy : y0 = (⟨o + x0, lt_of_lt_of_le (Nat.add_lt_add_left hx o) ho⟩ : Fin 1024) := Fin.ext h0
  subst hy
  exact pay11 (Q := fun a d => Q ⟨o + a, by omega⟩ d) (fun a d => (hq' a d).trans (hq _ d)) hk hv x0 y1

/-- One group of 256 rows of the second output, from row `o` on. -/
theorem piece_lse (o : ℕ) (ho : o + 256 ≤ 1024) {q' : Vec Ideal S256x256 .bf16} {k' : Vec Ideal S4096x256 .bf16}
    (hq' : ∀ (a : Fin 256) (d : Fin 256), q' (ix2 a d) = q (ix2 (⟨o + a, by omega⟩ : Fin 1024) d)) (hk' : k' = k)
    (y : S1x1024x1.Idx) (x : S1x256x1.Idx) (h1 : (y 1 : ℕ) = o + (x 1 : ℕ)) :
    k0_pay12 (F := Ideal) q' k' x = (Real.log (total (scores Q K (y 1))) : EReal) := by
  subst hk'
  idx_vars x
  idx_vars y
  clean_types
  have hx : (x1 : ℕ) < 256 := x1.isLt
  have hy : y1 = (⟨o + x1, lt_of_lt_of_le (Nat.add_lt_add_left hx o) ho⟩ : Fin 1024) := Fin.ext h1
  subst hy
  exact pay12 (Q := fun a d => Q ⟨o + a, by omega⟩ d) (fun a d => (hq' a d).trans (hq _ d)) hk x0 x1 x2

omit hq hk hv in
theorem ld_rows (o : ℕ) (ho : o + 256 ≤ 1024) (inb) (a : Fin 256) (d : Fin 256) :
    View.ld q (Rect.unit ![o, 0] ![256, 256] inb) (ix2 a d) = q (ix2 (⟨o + a, by omega⟩ : Fin 1024) d) :=
  View.ld_unit_apply_of q _ _ inb (ix2 a d) _ fun i => by fin_cases i <;> simp

omit hq hk hv in
theorem lit0 : (![0, 0] : Fin 2 → ℕ) = fun _ => 0 := funext fun a => by fin_cases a <;> rfl

/-- The first output of a grid point's block. -/
theorem out_o (y : S1024x128.Idx) :
    out0_3 (F := Ideal) q k v y = (∑ c, weight (scores Q K (y 0)) c * V c (y 1) : ℝ) := by
  unfold_out out0_3
  canon_tiles x h
  · exact piece_o hq hk hv 768 (by omega) (ld_rows 768 (by omega) _) (View.ld_unit_zero lit0 _ _) (View.ld_unit_zero lit0 _ _) y x h0 h1
  · exact piece_o hq hk hv 512 (by omega) (ld_rows 512 (by omega) _) (View.ld_unit_zero lit0 _ _) (View.ld_unit_zero lit0 _ _) y x h0 h1
  · exact piece_o hq hk hv 256 (by omega) (ld_rows 256 (by omega) _) (View.ld_unit_zero lit0 _ _) (View.ld_unit_zero lit0 _ _) y x h0 h1
  · exact piece_o hq hk hv 0 (by omega) (ld_rows 0 (by omega) _) (View.ld_unit_zero lit0 _ _) (View.ld_unit_zero lit0 _ _) y x (by omega) h1

/-- The second output of a grid point's block. -/
theorem out_lse (y : S1x1024x1.Idx) :
    out0_4 (F := Ideal) q k v y = (Real.log (total (scores Q K (y 1))) : EReal) := by
  unfold_out out0_4
  canon_tiles x h
  · exact piece_lse hq hk hv 768 (by omega) (ld_rows 768 (by omega) _) (View.ld_unit_zero lit0 _ _) y x h1
  · exact piece_lse hq hk hv 512 (by omega) (ld_rows 512 (by omega) _) (View.ld_unit_zero lit0 _ _) y x h1
  · exact piece_lse hq hk hv 256 (by omega) (ld_rows 256 (by omega) _) (View.ld_unit_zero lit0 _ _) y x h1
  · exact piece_lse hq hk hv 0 (by omega) (ld_rows 0 (by omega) _) (View.ld_unit_zero lit0 _ _) y x (by omega)

theorem out_o_at (a : Fin 1024) (e : Fin 128) :
    out0_3 (F := Ideal) q k v (ix2 a e) = (∑ c, weight (scores Q K a) c * V c e : ℝ) := out_o hq hk hv (ix2 a e)

theorem out_lse_at (u : Fin 1) (a : Fin 1024) (w : Fin 1) :
    out0_4 (F := Ideal) q k v (ix3 u a w) = (Real.log (total (scores Q K a)) : EReal) := out_lse hq hk hv (ix3 u a w)

end Block

end Cert.Attn

end
-- ==== Proof.AttnFwdArr.lean ====
/-
  The arrays the forward call leaves: the attention's output, and for each head and row the logarithm of the row's sum
  of exponentials.
-/
module

public import proofs.«01_k».proof.Proof.AttnFwd

@[expose] public section

set_option maxRecDepth 16384

noncomputable section

namespace Cert.Attn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)
variable {q k : Fin 8192 → Fin 1024 → ℝ} {v d : Fin 8192 → Fin 512 → ℝ}

/-- Where the forward call's blocks lie at grid point `t`. -/
theorem idx0 : ∀ t : Fin grid0.N,
    (win0_0.index t 0 = t.val / 16 * 4 + t.val % 4 ∧ win0_0.index t 1 = t.val / 4 % 4)
    ∧ (win0_1.index t 0 = t.val / 16 ∧ win0_1.index t 1 = t.val / 4 % 4)
    ∧ (win0_2.index t 0 = t.val / 16 ∧ win0_2.index t 1 = t.val / 4 % 4)
    ∧ (win0_3.index t 0 = t.val / 16 * 4 + t.val % 4 ∧ win0_3.index t 1 = t.val / 4 % 4)
    ∧ (win0_4.index t 0 = t.val / 4 % 4 ∧ win0_4.index t 1 = t.val / 16 * 4 + t.val % 4 ∧ win0_4.index t 2 = 0) := by
  decide +kernel

/-- The rows and columns of grid point `t`'s blocks. -/
def rowQ (t : Fin 32) (a : Fin 1024) : Fin 8192 := ⟨(t.val / 16 * 4 + t.val % 4) * 1024 + a.val, by omega⟩
def rowK (t : Fin 32) (a : Fin 4096) : Fin 8192 := ⟨t.val / 16 * 4096 + a.val, by omega⟩
def head (t : Fin 32) : Fin 4 := ⟨t.val / 4 % 4, by omega⟩

theorem peer_rowQ (t : Fin 32) (a : Fin 1024) (x : Fin 4096) : peer (rowQ t a) x = rowK t x := by
  apply Fin.ext; simp only [peer, rowQ, rowK]; omega

/-- The scores of grid point `t`'s block, in the arrays' own rows. -/
theorem scores_blk (t : Fin 32) (a : Fin 1024) :
    scores (fun a x => q (rowQ t a) (wide (head t) x)) (fun a x => k (rowK t a) (wide (head t) x)) a = score q k (head t) (rowQ t a) := by
  funext j
  simp only [scores, score, peer_rowQ]

theorem headN_narrow (h : Fin 4) (e : Fin 128) : headN (narrow h e) = h := Fin.ext (by simp only [headN, narrow]; omega)

theorem blk_q (hq : ∀ r x, V c main_arg0 (ix2 r x) = (q r x : EReal)) (t : Fin cfg0.N) (a : Fin 1024) (x : Fin 256) :
    iblk0 V c (0 : Fin 5) t (ix2 a x) = (q (rowQ t a) (wide (head t) x) : EReal) := by
  obtain ⟨⟨h0, h1⟩, -⟩ := idx0 t
  rw [← hq]
  blk_ext [iblk0, h0, h1, rowQ, wide, head]

theorem blk_k (hk : ∀ r x, V c main_arg1 (ix2 r x) = (k r x : EReal)) (t : Fin cfg0.N) (a : Fin 4096) (x : Fin 256) :
    iblk0 V c (1 : Fin 5) t (ix2 a x) = (k (rowK t a) (wide (head t) x) : EReal) := by
  obtain ⟨-, ⟨h0, h1⟩, -⟩ := idx0 t
  rw [← hk]
  blk_ext [iblk0, h0, h1, rowK, wide, head]

theorem blk_v (hv : ∀ r x, V c main_arg2 (ix2 r x) = (v r x : EReal)) (t : Fin cfg0.N) (a : Fin 4096) (x : Fin 128) :
    iblk0 V c (2 : Fin 5) t (ix2 a x) = (v (rowK t a) (narrow (head t) x) : EReal) := by
  obtain ⟨-, -, ⟨h0, h1⟩, -⟩ := idx0 t
  rw [← hv]
  blk_ext [iblk0, h0, h1, rowK, narrow, head]

variable (hq : ∀ r x, V c main_arg0 (ix2 r x) = (q r x : EReal)) (hk : ∀ r x, V c main_arg1 (ix2 r x) = (k r x : EReal))
  (hv : ∀ r x, V c main_arg2 (ix2 r x) = (v r x : EReal))
include hq hk hv

/-- Grid point `t`'s block of the output. -/
theorem blk_o (t : Fin 32) (a : Fin 1024) (e : Fin 128) :
    out0_3 (F := Ideal) (iblk0 V c (0 : Fin 5) t) (iblk0 V c (1 : Fin 5) t) (iblk0 V c (2 : Fin 5) t) (ix2 a e)
      = (output q k v (rowQ t a) (narrow (head t) e) : EReal) := by
  refine (out_o_at (blk_q V c hq t) (blk_k V c hk t) (blk_v V c hv t) a e).trans (congrArg Real.toEReal ?_)
  rw [output, headN_narrow, ← scores_blk]
  simp only [peer_rowQ]

/-- Grid point `t`'s block of the logarithms. -/
theorem blk_lse (t : Fin 32) (u : Fin 1) (a : Fin 1024) (w : Fin 1) :
    out0_4 (F := Ideal) (iblk0 V c (0 : Fin 5) t) (iblk0 V c (1 : Fin 5) t) (iblk0 V c (2 : Fin 5) t) (ix3 u a w)
      = (Real.log (total (score q k (head t) (rowQ t a))) : EReal) := by
  refine (out_lse_at (blk_q V c hq t) (blk_k V c hk t) (blk_v V c hv t) u a w).trans (congrArg Real.toEReal ?_)
  rw [← scores_blk]

/-- The forward call's first array is the attention's output. -/
theorem fwd_o : (dat0 V c).arrAt (3 : Fin 5) cfg0.N = fun y : S8192x512.Idx => (output q k v (y 0) (y 1) : EReal) := by
  refine (dat0 V c).arrAt_eq_of_covers (3 : Fin 5) _ (by decide +kernel) fun t hf y => ?_
  obtain ⟨-, -, -, ⟨h0, h1⟩, -⟩ := idx0 t
  blk_simp
  rw [after0_3]
  change S1024x128.Idx at y
  idx_vars y
  refine (blk_o V c hq hk hv t y0 y1).trans (congrArg Real.toEReal (congrArg₂ (output q k v) (Fin.ext ?_) (Fin.ext ?_)))
  · blk_simp
    simp only [h0, rowQ]
  · blk_simp
    simp only [h1, narrow, head]

/-- The forward call's second array is the logarithm of each row's sum of exponentials. -/
theorem fwd_lse : (dat0 V c).arrAt (4 : Fin 5) cfg0.N
    = fun y : S4x8192x1.Idx => (Real.log (total (score q k (y 0) (y 1))) : EReal) := by
  refine (dat0 V c).arrAt_eq_of_covers (4 : Fin 5) _ (by decide +kernel) fun t hf y => ?_
  obtain ⟨-, -, -, -, h0, h1, -⟩ := idx0 t
  blk_simp
  rw [after0_4]
  change S1x1024x1.Idx at y
  idx_vars y
  refine (blk_lse V c hq hk hv t y0 y1 y2).trans
    (congrArg (fun z => Real.toEReal (Real.log (total z))) (congrArg₂ (score q k) (Fin.ext ?_) (Fin.ext ?_)))
  · blk_simp
    simp only [h0, head]
  · blk_simp
    simp only [h1, rowQ]

end Cert.Attn

end
-- ==== Proof.AttnBwd.lean ====
/-
  One block of the backward call: 1024 query rows, in four groups of 256, against all keys of a head.
-/
module

public import proofs.«01_k».proof.Proof.AttnFwd
public import Idealize.ShloMosaic.Lib.Pipeline.ReadBack

@[expose] public section

set_option maxRecDepth 16384

noncomputable section

namespace Cert.Attn

open Idealize.ShloMosaic Idealize.ShloMosaic.TcCoe Idealize.SL.Sem
open Cert.KernelIdeal Cert.KernelIdeal.Gen

section Payloads
variable {q : Vec Ideal S256x256 .bf16} {k : Vec Ideal S4096x256 .bf16} {v : Vec Ideal S4096x128 .bf16}
  {d : Vec Ideal S256x128 .bf16} {o : Vec Ideal S256x128 .f32} {l : Vec Ideal S1x256x1 .f32}
variable {Q : Fin 256 → Fin 256 → ℝ} {K : Fin 4096 → Fin 256 → ℝ} {V : Fin 4096 → Fin 128 → ℝ} {D : Fin 256 → Fin 128 → ℝ}
variable (hq : ∀ a x, q (ix2 a x) = (Q a x : EReal)) (hk : ∀ c x, k (ix2 c x) = (K c x : EReal)) (hv : ∀ c e, v (ix2 c e) = (V c e : EReal))
  (hd : ∀ a e, d (ix2 a e) = (D a e : EReal)) (ho : ∀ a e, o (ix2 a e) = ((∑ c, weight (scores Q K a) c * V c e : ℝ) : EReal))
  (hl : ∀ u a w, l (ix3 u a w) = (Real.log (total (scores Q K a)) : EReal))

include hq hk hl

/-- The softmax weights, from the scores and the logarithms of the sums. -/
theorem pay_p (a : Fin 256) (c : Fin 4096) : k1_pay5 (F := Ideal) q k l (ix2 a c) = (weight (scores Q K a) c : EReal) := by
  pointwise [k1_pay5]
  simp only [hq, hk, hl, ← EReal.coe_mul, coe_sum]
  rw [← EReal.coe_sub, Ideal.exp_coe, ← weight_log]
  rfl

theorem pay_p' (a : Fin 256) (c : Fin 4096) : k1_pay8 (F := Ideal) q k l (ix2 a c) = (weight (scores Q K a) c : EReal) := by
  pointwise [k1_pay8]
  exact pay_p hq hk hl a c

include hv hd ho

/-- The gradient of the scores. -/
theorem pay_ds (a : Fin 256) (c : Fin 4096) :
    k1_pay6 (F := Ideal) q k d o l v (ix2 a c) = (grad (scores Q K a) (scores D V a) c : EReal) := by
  pointwise [k1_pay6]
  rw [pay_p hq hk hl]
  simp only [hd, hv, ho, ← EReal.coe_mul, coe_sum]
  rw [← EReal.coe_sub, ← EReal.coe_mul, delta_output]
  rfl

/-- The gradient of the queries. -/
theorem pay_dq (a : Fin 256) (x : Fin 256) :
    k1_pay7 (F := Ideal) q k d o l v (ix2 a x) = (∑ c, grad (scores Q K a) (scores D V a) c * K c x : ℝ) := by
  pointwise [k1_pay7]
  simp only [pay_ds hq hk hv hd ho hl, hk, ← EReal.coe_mul, coe_sum]

end Payloads

/-! ## A grid point's block: four groups of 256 rows -/

section Loads
variable {α : EltTy} (z : ℕ) (hz : z + 256 ≤ 1024)

theorem ld_wide (q : Vec Ideal S1024x256 α) (inb) (a x : Fin 256) :
    View.ld q (Rect.unit ![z, 0] ![256, 256] inb) (ix2 a x) = q (ix2 (⟨z + a, by omega⟩ : Fin 1024) x) :=
  View.ld_unit_apply_of q _ _ inb (ix2 a x) _ fun i => by fin_cases i <;> simp

theorem ld_narrow (d : Vec Ideal S1024x128 α) (inb) (a : Fin 256) (x : Fin 128) :
    View.ld d (Rect.unit ![z, 0] ![256, 128] inb) (ix2 a x) = d (ix2 (⟨z + a, by omega⟩ : Fin 1024) x) :=
  View.ld_unit_apply_of d _ _ inb (ix2 a x) _ fun i => by fin_cases i <;> simp

theorem ld_column (l : Vec Ideal S1x1024x1 α) (inb) (a : Fin 256) (u w : Fin 1) :
    View.ld l (Rect.unit ![0, z, 0] ![1, 256, 1] inb) (ix3 u a w) = l (ix3 u (⟨z + a, by omega⟩ : Fin 1024) w) :=
  View.ld_unit_apply_of l _ _ inb (ix3 u a w) _ fun i => by fin_cases i <;> simp

end Loads

section Block
variable {q : Vec Ideal S1024x256 .bf16} {k : Vec Ideal S4096x256 .bf16} {v : Vec Ideal S4096x128 .bf16}
  {d : Vec Ideal S1024x128 .bf16} {o : Vec Ideal S1024x128 .f32} {l : Vec Ideal S1x1024x1 .f32}
variable {Q : Fin 1024 → Fin 256 → ℝ} {K : Fin 4096 → Fin 256 → ℝ} {V : Fin 4096 → Fin 128 → ℝ} {D : Fin 1024 → Fin 128 → ℝ}
variable (hq : ∀ a x, q (ix2 a x) = (Q a x : EReal)) (hk : ∀ c x, k (ix2 c x) = (K c x : EReal)) (hv : ∀ c e, v (ix2 c e) = (V c e : EReal))
  (hd : ∀ a e, d (ix2 a e) = (D a e : EReal)) (ho : ∀ a e, o (ix2 a e) = ((∑ c, weight (scores Q K a) c * V c e : ℝ) : EReal))
  (hl : ∀ u a w, l (ix3 u a w) = (Real.log (total (scores Q K a)) : EReal))

include hq hk hl

/-- The softmax weights of one group of rows, from row `z` on. -/
theorem piece_p (z : ℕ) (hz : z + 256 ≤ 1024) {q' : Vec Ideal S256x256 .bf16} {l' : Vec Ideal S1x256x1 .f32}
    (hq' : ∀ (a : Fin 256) (x : Fin 256), q' (ix2 a x) = q (ix2 (⟨z + a, by omega⟩ : Fin 1024) x))
    (hl' : ∀ (a : Fin 256) (u w : Fin 1), l' (ix3 u a w) = l (ix3 u (⟨z + a, by omega⟩ : Fin 1024) w))
    (y : S1024x4096.Idx) (x : S256x4096.Idx) (h0 : (y 0 : ℕ) = z + (x 0 : ℕ)) (h1 : (y 1 : ℕ) = (x 1 : ℕ)) :
    k1_pay8 (F := Ideal) q' k l' x = (weight (scores Q K (y 0)) (y 1) : EReal) := by
  idx_vars x
  idx_vars y
  clean_types
  have hx : (x0 : ℕ) < 256 := x0.isLt
  have hy : y0 = (⟨z + x0, lt_of_lt_of_le (Nat.add_lt_add_left hx z) hz⟩ : Fin 1024) := Fin.ext h0
  subst hy
  obtain rfl : y1 = x1 := Fin.ext h1
  exact pay_p' (Q := fun a x => Q ⟨z + a, by omega⟩ x) (fun a x => (hq' a x).trans (hq _ x)) hk (fun u a w => (hl' a u w).trans (hl u _ w)) x0 y1

/-- The softmax weights the four groups keep. -/
theorem rows_p (y : S1024x4096.Idx) :
    View.canon (Val := Elt Ideal) (e := .bf16) [⟨Rect.unit ![768, 0] ![256, 4096] (by decide), k1_pay23 (F := Ideal) (View.ld q (Rect.unit ![768, 0] ![256, 256] (by decide))) k (View.ld l (Rect.unit ![0, 768, 0] ![1, 256, 1] (by decide)))⟩,
        ⟨Rect.unit ![512, 0] ![256, 4096] (by decide), k1_pay18 (F := Ideal) (View.ld q (Rect.unit ![512, 0] ![256, 256] (by decide))) k (View.ld l (Rect.unit ![0, 512, 0] ![1, 256, 1] (by decide)))⟩,
        ⟨Rect.unit ![256, 0] ![256, 4096] (by decide), k1_pay13 (F := Ideal) (View.ld q (Rect.unit ![256, 0] ![256, 256] (by decide))) k (View.ld l (Rect.unit ![0, 256, 0] ![1, 256, 1] (by decide)))⟩,
        ⟨Rect.unit ![0, 0] ![256, 4096] (by decide), k1_pay8 (F := Ideal) (View.ld q (Rect.unit ![0, 0] ![256, 256] (by decide))) k (View.ld l (Rect.unit ![0, 0, 0] ![1, 256, 1] (by decide)))⟩] y
      = (weight (scores Q K (y 0)) (y 1) : EReal) := by
  canon_tiles x h
  · exact piece_p hq hk hl 768 (by omega) (ld_wide 768 (by omega) _ _) (ld_column 768 (by omega) _ _) y x h0 h1
  · exact piece_p hq hk hl 512 (by omega) (ld_wide 512 (by omega) _ _) (ld_column 512 (by omega) _ _) y x h0 h1
  · exact piece_p hq hk hl 256 (by omega) (ld_wide 256 (by omega) _ _) (ld_column 256 (by omega) _ _) y x h0 h1
  · exact piece_p hq hk hl 0 (by omega) (ld_wide 0 (by omega) _ _) (ld_column 0 (by omega) _ _) y x (by omega) h1

include hv hd ho

/-- The gradient of the scores of one group of rows, from row `z` on. -/
theorem piece_ds (z : ℕ) (hz : z + 256 ≤ 1024) {q' : Vec Ideal S256x256 .bf16} {d' : Vec Ideal S256x128 .bf16}
    {o' : Vec Ideal S256x128 .f32} {l' : Vec Ideal S1x256x1 .f32}
    (hq' : ∀ (a : Fin 256) (x : Fin 256), q' (ix2 a x) = q (ix2 (⟨z + a, by omega⟩ : Fin 1024) x))
    (hd' : ∀ (a : Fin 256) (x : Fin 128), d' (ix2 a x) = d (ix2 (⟨z + a, by omega⟩ : Fin 1024) x))
    (ho' : ∀ (a : Fin 256) (x : Fin 128), o' (ix2 a x) = o (ix2 (⟨z + a, by omega⟩ : Fin 1024) x))
    (hl' : ∀ (a : Fin 256) (u w : Fin 1), l' (ix3 u a w) = l (ix3 u (⟨z + a, by omega⟩ : Fin 1024) w))
    (y : S1024x4096.Idx) (x : S256x4096.Idx) (h0 : (y 0 : ℕ) = z + (x 0 : ℕ)) (h1 : (y 1 : ℕ) = (x 1 : ℕ)) :
    k1_pay6 (F := Ideal) q' k d' o' l' v x = (grad (scores Q K (y 0)) (scores D V (y 0)) (y 1) : EReal) := by
  idx_vars x
  idx_vars y
  clean_types
  have hx : (x0 : ℕ) < 256 := x0.isLt
  have hy : y0 = (⟨z + x0, lt_of_lt_of_le (Nat.add_lt_add_left hx z) hz⟩ : Fin 1024) := Fin.ext h0
  subst hy
  obtain rfl : y1 = x1 := Fin.ext h1
  exact pay_ds (Q := fun a x => Q ⟨z + a, by omega⟩ x) (D := fun a x => D ⟨z + a, by omega⟩ x) (fun a x => (hq' a x).trans (hq _ x)) hk hv
    (fun a x => (hd' a x).trans (hd _ x)) (fun a x => (ho' a x).trans (ho _ x)) (fun u a w => (hl' a u w).trans (hl u _ w)) x0 y1

/-- The same under the cast of a shape to itself that stores it. -/
theorem piece_ds' (z : ℕ) (hz : z + 256 ≤ 1024) {q' : Vec Ideal S256x256 .bf16} {d' : Vec Ideal S256x128 .bf16}
    {o' : Vec Ideal S256x128 .f32} {l' : Vec Ideal S1x256x1 .f32}
    (hq' : ∀ (a : Fin 256) (x : Fin 256), q' (ix2 a x) = q (ix2 (⟨z + a, by omega⟩ : Fin 1024) x))
    (hd' : ∀ (a : Fin 256) (x : Fin 128), d' (ix2 a x) = d (ix2 (⟨z + a, by omega⟩ : Fin 1024) x))
    (ho' : ∀ (a : Fin 256) (x : Fin 128), o' (ix2 a x) = o (ix2 (⟨z + a, by omega⟩ : Fin 1024) x))
    (hl' : ∀ (a : Fin 256) (u w : Fin 1), l' (ix3 u a w) = l (ix3 u (⟨z + a, by omega⟩ : Fin 1024) w))
    (y : S1024x4096.Idx) (x : S256x4096.Idx) (h0 : (y 0 : ℕ) = z + (x 0 : ℕ)) (h1 : (y 1 : ℕ) = (x 1 : ℕ)) :
    k1_pay9 (F := Ideal) (k1_pay6 (F := Ideal) q' k d' o' l' v) x = (grad (scores Q K (y 0)) (scores D V (y 0)) (y 1) : EReal) := by
  unfold k1_pay9
  rw [shapeCast_self]
  exact piece_ds hq hk hv hd ho hl z hz hq' hd' ho' hl' y x h0 h1

/-- The gradient of the queries of one group of rows, from row `z` on. -/
theorem piece_dq (z : ℕ) (hz : z + 256 ≤ 1024) {q' : Vec Ideal S256x256 .bf16} {d' : Vec Ideal S256x128 .bf16}
    {o' : Vec Ideal S256x128 .f32} {l' : Vec Ideal S1x256x1 .f32}
    (hq' : ∀ (a : Fin 256) (x : Fin 256), q' (ix2 a x) = q (ix2 (⟨z + a, by omega⟩ : Fin 1024) x))
    (hd' : ∀ (a : Fin 256) (x : Fin 128), d' (ix2 a x) = d (ix2 (⟨z + a, by omega⟩ : Fin 1024) x))
    (ho' : ∀ (a : Fin 256) (x : Fin 128), o' (ix2 a x) = o (ix2 (⟨z + a, by omega⟩ : Fin 1024) x))
    (hl' : ∀ (a : Fin 256) (u w : Fin 1), l' (ix3 u a w) = l (ix3 u (⟨z + a, by omega⟩ : Fin 1024) w))
    (y : S1024x256.Idx) (x : S256x256.Idx) (h0 : (y 0 : ℕ) = z + (x 0 : ℕ)) (h1 : (y 1 : ℕ) = (x 1 : ℕ)) :
    k1_pay7 (F := Ideal) q' k d' o' l' v x = (∑ c, grad (scores Q K (y 0)) (scores D V (y 0)) c * K c (y 1) : ℝ) := by
  idx_vars x
  idx_vars y
  clean_types
  have hx : (x0 : ℕ) < 256 := x0.isLt
  have hy : y0 = (⟨z + x0, lt_of_lt_of_le (Nat.add_lt_add_left hx z) hz⟩ : Fin 1024) := Fin.ext h0
  subst hy
  obtain rfl : y1 = x1 := Fin.ext h1
  exact pay_dq (Q := fun a x => Q ⟨z + a, by omega⟩ x) (D := fun a x => D ⟨z + a, by omega⟩ x) (fun a x => (hq' a x).trans (hq _ x)) hk hv
    (fun a x => (hd' a x).trans (hd _ x)) (fun a x => (ho' a x).trans (ho _ x)) (fun u a w => (hl' a u w).trans (hl u _ w)) x0 y1

/-- The gradient of the scores that the four groups keep. -/
theorem rows_ds (y : S1024x4096.Idx) :
    View.canon (Val := Elt Ideal) (e := .bf16) [⟨Rect.unit ![768, 0] ![256, 4096] (by decide), k1_pay24 (F := Ideal) (View.ld q (Rect.unit ![768, 0] ![256, 256] (by decide))) k (View.ld d (Rect.unit ![768, 0] ![256, 128] (by decide))) (View.ld o (Rect.unit ![768, 0] ![256, 128] (by decide))) (View.ld l (Rect.unit ![0, 768, 0] ![1, 256, 1] (by decide))) v⟩,
        ⟨Rect.unit ![512, 0] ![256, 4096] (by decide), k1_pay19 (F := Ideal) (k1_pay16 (F := Ideal) (View.ld q (Rect.unit ![512, 0] ![256, 256] (by decide))) k (View.ld d (Rect.unit ![512, 0] ![256, 128] (by decide))) (View.ld o (Rect.unit ![512, 0] ![256, 128] (by decide))) (View.ld l (Rect.unit ![0, 512, 0] ![1, 256, 1] (by decide))) v)⟩,
        ⟨Rect.unit ![256, 0] ![256, 4096] (by decide), k1_pay14 (F := Ideal) (k1_pay11 (F := Ideal) (View.ld q (Rect.unit ![256, 0] ![256, 256] (by decide))) k (View.ld d (Rect.unit ![256, 0] ![256, 128] (by decide))) (View.ld o (Rect.unit ![256, 0] ![256, 128] (by decide))) (View.ld l (Rect.unit ![0, 256, 0] ![1, 256, 1] (by decide))) v)⟩,
        ⟨Rect.unit ![0, 0] ![256, 4096] (by decide), k1_pay9 (F := Ideal) (k1_pay6 (F := Ideal) (View.ld q (Rect.unit ![0, 0] ![256, 256] (by decide))) k (View.ld d (Rect.unit ![0, 0] ![256, 128] (by decide))) (View.ld o (Rect.unit ![0, 0] ![256, 128] (by decide))) (View.ld l (Rect.unit ![0, 0, 0] ![1, 256, 1] (by decide))) v)⟩] y
      = (grad (scores Q K (y 0)) (scores D V (y 0)) (y 1) : EReal) := by
  canon_tiles x h
  · exact piece_ds' hq hk hv hd ho hl 768 (by omega) (ld_wide 768 (by omega) _ _) (ld_narrow 768 (by omega) _ _) (ld_narrow 768 (by omega) _ _) (ld_column 768 (by omega) _ _) y x h0 h1
  · exact piece_ds' hq hk hv hd ho hl 512 (by omega) (ld_wide 512 (by omega) _ _) (ld_narrow 512 (by omega) _ _) (ld_narrow 512 (by omega) _ _) (ld_column 512 (by omega) _ _) y x h0 h1
  · exact piece_ds' hq hk hv hd ho hl 256 (by omega) (ld_wide 256 (by omega) _ _) (ld_narrow 256 (by omega) _ _) (ld_narrow 256 (by omega) _ _) (ld_column 256 (by omega) _ _) y x h0 h1
  · exact piece_ds' hq hk hv hd ho hl 0 (by omega) (ld_wide 0 (by omega) _ _) (ld_narrow 0 (by omega) _ _) (ld_narrow 0 (by omega) _ _) (ld_column 0 (by omega) _ _) y x (by omega) h1

/-- The gradient of the queries that the four groups store. -/
theorem rows_dq (y : S1024x256.Idx) :
    View.canon (Val := Elt Ideal) (e := .bf16) [⟨Rect.unit ![768, 0] ![256, 256] (by decide), k1_pay22 (F := Ideal) (View.ld q (Rect.unit ![768, 0] ![256, 256] (by decide))) k (View.ld d (Rect.unit ![768, 0] ![256, 128] (by decide))) (View.ld o (Rect.unit ![768, 0] ![256, 128] (by decide))) (View.ld l (Rect.unit ![0, 768, 0] ![1, 256, 1] (by decide))) v⟩,
        ⟨Rect.unit ![512, 0] ![256, 256] (by decide), k1_pay17 (F := Ideal) (View.ld q (Rect.unit ![512, 0] ![256, 256] (by decide))) k (View.ld d (Rect.unit ![512, 0] ![256, 128] (by decide))) (View.ld o (Rect.unit ![512, 0] ![256, 128] (by decide))) (View.ld l (Rect.unit ![0, 512, 0] ![1, 256, 1] (by decide))) v⟩,
        ⟨Rect.unit ![256, 0] ![256, 256] (by decide), k1_pay12 (F := Ideal) (View.ld q (Rect.unit ![256, 0] ![256, 256] (by decide))) k (View.ld d (Rect.unit ![256, 0] ![256, 128] (by decide))) (View.ld o (Rect.unit ![256, 0] ![256, 128] (by decide))) (View.ld l (Rect.unit ![0, 256, 0] ![1, 256, 1] (by decide))) v⟩,
        ⟨Rect.unit ![0, 0] ![256, 256] (by decide), k1_pay7 (F := Ideal) (View.ld q (Rect.unit ![0, 0] ![256, 256] (by decide))) k (View.ld d (Rect.unit ![0, 0] ![256, 128] (by decide))) (View.ld o (Rect.unit ![0, 0] ![256, 128] (by decide))) (View.ld l (Rect.unit ![0, 0, 0] ![1, 256, 1] (by decide))) v⟩] y
      = (∑ c, grad (scores Q K (y 0)) (scores D V (y 0)) c * K c (y 1) : ℝ) := by
  canon_tiles x h
  · exact piece_dq hq hk hv hd ho hl 768 (by omega) (ld_wide 768 (by omega) _ _) (ld_narrow 768 (by omega) _ _) (ld_narrow 768 (by omega) _ _) (ld_column 768 (by omega) _ _) y x h0 h1
  · exact piece_dq hq hk hv hd ho hl 512 (by omega) (ld_wide 512 (by omega) _ _) (ld_narrow 512 (by omega) _ _) (ld_narrow 512 (by omega) _ _) (ld_column 512 (by omega) _ _) y x h0 h1
  · exact piece_dq hq hk hv hd ho hl 256 (by omega) (ld_wide 256 (by omega) _ _) (ld_narrow 256 (by omega) _ _) (ld_narrow 256 (by omega) _ _) (ld_column 256 (by omega) _ _) y x h0 h1
  · exact piece_dq hq hk hv hd ho hl 0 (by omega) (ld_wide 0 (by omega) _ _) (ld_narrow 0 (by omega) _ _) (ld_narrow 0 (by omega) _ _) (ld_column 0 (by omega) _ _) y x (by omega) h1

end Block

/-! ## The two gradients accumulated over a head's query blocks -/

section Step
variable {p : Vec Ideal S1024x4096 .bf16} {q : Vec Ideal S1024x256 .bf16} {d : Vec Ideal S1024x128 .bf16}
variable {P : Fin 1024 → Fin 4096 → ℝ} {Q : Fin 1024 → Fin 256 → ℝ} {D : Fin 1024 → Fin 128 → ℝ}
variable (hp : ∀ a c, p (ix2 a c) = (P a c : EReal)) (hq : ∀ a x, q (ix2 a x) = (Q a x : EReal)) (hd : ∀ a e, d (ix2 a e) = (D a e : EReal))

include hp

include hd in
/-- One query block added to the gradient of the values. -/
theorem step_dv (acc : Vec Ideal S4096x128 .f32) (c : Fin 4096) (e : Fin 128) :
    k1_pay1 (F := Ideal) acc p d (ix2 c e) = acc (ix2 c e) + ((∑ a, P a c * D a e : ℝ) : EReal) := by
  pointwise [k1_pay1]
  simp only [hp, hd, ← EReal.coe_mul, coe_sum]

include hq in
/-- One query block added to the gradient of the keys. -/
theorem step_dk (acc : Vec Ideal S4096x256 .f32) (c : Fin 4096) (x : Fin 256) :
    k1_pay2 (F := Ideal) acc p q (ix2 c x) = acc (ix2 c x) + ((∑ a, P a c * Q a x : ℝ) : EReal) := by
  pointwise [k1_pay2]
  simp only [hp, hq, ← EReal.coe_mul, coe_sum]

end Step

section Whole
variable {q : Vec Ideal S1024x256 .bf16} {k : Vec Ideal S4096x256 .bf16} {v : Vec Ideal S4096x128 .bf16}
  {d : Vec Ideal S1024x128 .bf16} {o : Vec Ideal S1024x128 .f32} {l : Vec Ideal S1x1024x1 .f32}
variable {Q : Fin 1024 → Fin 256 → ℝ} {K : Fin 4096 → Fin 256 → ℝ} {V : Fin 4096 → Fin 128 → ℝ} {D : Fin 1024 → Fin 128 → ℝ}
variable (hq : ∀ a x, q (ix2 a x) = (Q a x : EReal)) (hk : ∀ c x, k (ix2 c x) = (K c x : EReal)) (hv : ∀ c e, v (ix2 c e) = (V c e : EReal))
  (hd : ∀ a e, d (ix2 a e) = (D a e : EReal)) (ho : ∀ a e, o (ix2 a e) = ((∑ c, weight (scores Q K a) c * V c e : ℝ) : EReal))
  (hl : ∀ u a w, l (ix3 u a w) = (Real.log (total (scores Q K a)) : EReal))

include hq hk hl hd in
/-- One query block added to the gradient of the values, from the weights the groups keep. -/
theorem block_dv (inb) (acc : Vec Ideal S4096x128 .f32) (c : Fin 4096) (e : Fin 128) :
    k1_pay1 (F := Ideal) acc (fun j => View.canon (Val := Elt Ideal) (e := .bf16) [⟨Rect.unit ![768, 0] ![256, 4096] (by decide), k1_pay23 (F := Ideal) (View.ld q (Rect.unit ![768, 0] ![256, 256] (by decide))) k (View.ld l (Rect.unit ![0, 768, 0] ![1, 256, 1] (by decide)))⟩,
        ⟨Rect.unit ![512, 0] ![256, 4096] (by decide), k1_pay18 (F := Ideal) (View.ld q (Rect.unit ![512, 0] ![256, 256] (by decide))) k (View.ld l (Rect.unit ![0, 512, 0] ![1, 256, 1] (by decide)))⟩,
        ⟨Rect.unit ![256, 0] ![256, 4096] (by decide), k1_pay13 (F := Ideal) (View.ld q (Rect.unit ![256, 0] ![256, 256] (by decide))) k (View.ld l (Rect.unit ![0, 256, 0] ![1, 256, 1] (by decide)))⟩,
        ⟨Rect.unit ![0, 0] ![256, 4096] (by decide), k1_pay8 (F := Ideal) (View.ld q (Rect.unit ![0, 0] ![256, 256] (by decide))) k (View.ld l (Rect.unit ![0, 0, 0] ![1, 256, 1] (by decide)))⟩]
        ((Rect.unit (s := S1024x4096) ![0, 0] ![1024, 4096] inb).idx j)) d (ix2 c e)
      = acc (ix2 c e) + ((∑ a, weight (scores Q K a) c * D a e : ℝ) : EReal) :=
  step_dv (P := fun a c => weight (scores Q K a) c)
    (fun a j => (congrFun (View.ld_unit_zero lit0 inb _) (ix2 a j)).trans (rows_p hq hk hl (ix2 a j))) hd acc c e

include hq hk hv hd ho hl in
/-- One query block added to the gradient of the keys, from the score gradients the groups keep. -/
theorem block_dk (inb) (acc : Vec Ideal S4096x256 .f32) (c : Fin 4096) (x : Fin 256) :
    k1_pay2 (F := Ideal) acc (fun j => View.canon (Val := Elt Ideal) (e := .bf16) [⟨Rect.unit ![768, 0] ![256, 4096] (by decide), k1_pay24 (F := Ideal) (View.ld q (Rect.unit ![768, 0] ![256, 256] (by decide))) k (View.ld d (Rect.unit ![768, 0] ![256, 128] (by decide))) (View.ld o (Rect.unit ![768, 0] ![256, 128] (by decide))) (View.ld l (Rect.unit ![0, 768, 0] ![1, 256, 1] (by decide))) v⟩,
        ⟨Rect.unit ![512, 0] ![256, 4096] (by decide), k1_pay19 (F := Ideal) (k1_pay16 (F := Ideal) (View.ld q (Rect.unit ![512, 0] ![256, 256] (by decide))) k (View.ld d (Rect.unit ![512, 0] ![256, 128] (by decide))) (View.ld o (Rect.unit ![512, 0] ![256, 128] (by decide))) (View.ld l (Rect.unit ![0, 512, 0] ![1, 256, 1] (by decide))) v)⟩,
        ⟨Rect.unit ![256, 0] ![256, 4096] (by decide), k1_pay14 (F := Ideal) (k1_pay11 (F := Ideal) (View.ld q (Rect.unit ![256, 0] ![256, 256] (by decide))) k (View.ld d (Rect.unit ![256, 0] ![256, 128] (by decide))) (View.ld o (Rect.unit ![256, 0] ![256, 128] (by decide))) (View.ld l (Rect.unit ![0, 256, 0] ![1, 256, 1] (by decide))) v)⟩,
        ⟨Rect.unit ![0, 0] ![256, 4096] (by decide), k1_pay9 (F := Ideal) (k1_pay6 (F := Ideal) (View.ld q (Rect.unit ![0, 0] ![256, 256] (by decide))) k (View.ld d (Rect.unit ![0, 0] ![256, 128] (by decide))) (View.ld o (Rect.unit ![0, 0] ![256, 128] (by decide))) (View.ld l (Rect.unit ![0, 0, 0] ![1, 256, 1] (by decide))) v)⟩]
        ((Rect.unit (s := S1024x4096) ![0, 0] ![1024, 4096] inb).idx j)) q (ix2 c x)
      = acc (ix2 c x) + ((∑ a, grad (scores Q K a) (scores D V a) c * Q a x : ℝ) : EReal) :=
  step_dk (P := fun a c => grad (scores Q K a) (scores D V a) c)
    (fun a j => (congrFun (View.ld_unit_zero lit0 inb _) (ix2 a j)).trans (rows_ds hq hk hv hd ho hl (ix2 a j))) hq acc c x

end Whole

theorem zero_dv (y : S4096x128.Idx) : k1_pay3 (F := Ideal) y = 0 := by
  pointwise [k1_pay3]

theorem zero_dk (y : S4096x256.Idx) : k1_pay4 (F := Ideal) y = 0 := by
  pointwise [k1_pay4]

end Cert.Attn

end
-- ==== Proof.AttnBwdArr.lean ====
/-
  The arrays the backward call leaves: the gradients of the queries, of the keys and of the values.
-/
module

public import proofs.«01_k».proof.Proof.AttnFwdArr
public import proofs.«01_k».proof.Proof.AttnBwd

@[expose] public section

set_option maxRecDepth 16384

noncomputable section

namespace Cert.Attn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)
variable {q k : Fin 8192 → Fin 1024 → ℝ} {v d : Fin 8192 → Fin 512 → ℝ}

/-- Where the backward call's blocks lie at grid point `t`. -/
theorem idx1 : ∀ t : Fin grid1.N,
    (win1_0.index t 0 = t.val / 16 * 4 + t.val % 4 ∧ win1_0.index t 1 = t.val / 4 % 4)
    ∧ (win1_1.index t 0 = t.val / 16 ∧ win1_1.index t 1 = t.val / 4 % 4)
    ∧ (win1_2.index t 0 = t.val / 16 ∧ win1_2.index t 1 = t.val / 4 % 4)
    ∧ (win1_3.index t 0 = t.val / 16 * 4 + t.val % 4 ∧ win1_3.index t 1 = t.val / 4 % 4)
    ∧ (win1_4.index t 0 = t.val / 4 % 4 ∧ win1_4.index t 1 = t.val / 16 * 4 + t.val % 4 ∧ win1_4.index t 2 = 0)
    ∧ (win1_5.index t 0 = t.val / 16 * 4 + t.val % 4 ∧ win1_5.index t 1 = t.val / 4 % 4)
    ∧ (win1_6.index t 0 = t.val / 16 * 4 + t.val % 4 ∧ win1_6.index t 1 = t.val / 4 % 4)
    ∧ (win1_7.index t 0 = t.val / 16 ∧ win1_7.index t 1 = t.val / 4 % 4)
    ∧ (win1_8.index t 0 = t.val / 16 ∧ win1_8.index t 1 = t.val / 4 % 4) := by
  decide +kernel

theorem headW_wide (h : Fin 4) (x : Fin 256) : headW (wide h x) = h := Fin.ext (by simp only [headW, wide]; omega)

theorem back_blk (t : Fin 32) (a : Fin 1024) :
    scores (fun a e => d (rowQ t a) (narrow (head t) e)) (fun a e => v (rowK t a) (narrow (head t) e)) a = back v d (head t) (rowQ t a) := by
  funext j
  simp only [scores, back, peer_rowQ]

/-- The output, the gradient of the queries and what a block adds to the two other gradients, in a block's own rows. -/
theorem output_blk (t : Fin 32) (a : Fin 1024) (x : Fin 128) :
    output q k v (rowQ t a) (narrow (head t) x)
      = ∑ j, weight (scores (fun a x => q (rowQ t a) (wide (head t) x)) (fun a x => k (rowK t a) (wide (head t) x)) a) j
          * v (rowK t j) (narrow (head t) x) := by
  rw [output, headN_narrow, ← scores_blk]
  simp only [peer_rowQ]

theorem dquery_blk (t : Fin 32) (a : Fin 1024) (x : Fin 256) :
    dquery q k v d (rowQ t a) (wide (head t) x)
      = ∑ j, grad (scores (fun a x => q (rowQ t a) (wide (head t) x)) (fun a x => k (rowK t a) (wide (head t) x)) a)
          (scores (fun a e => d (rowQ t a) (narrow (head t) e)) (fun a e => v (rowK t a) (narrow (head t) e)) a) j
          * k (rowK t j) (wide (head t) x) := by
  simp only [dquery, dscore, headW_wide, scores_blk, back_blk, peer_rowQ]

/-- What grid point `t` adds to the gradient of the values. -/
def termV (q k : Fin 8192 → Fin 1024 → ℝ) (d : Fin 8192 → Fin 512 → ℝ) (t : Fin 32) (y : S4096x128.Idx) : EReal :=
  ((∑ a, weight (scores (fun a x => q (rowQ t a) (wide (head t) x)) (fun a x => k (rowK t a) (wide (head t) x)) a) (y 0)
    * d (rowQ t a) (narrow (head t) (y 1)) : ℝ) : EReal)

/-- What grid point `t` adds to the gradient of the keys. -/
def termK (q k : Fin 8192 → Fin 1024 → ℝ) (v d : Fin 8192 → Fin 512 → ℝ) (t : Fin 32) (y : S4096x256.Idx) : EReal :=
  ((∑ a, grad (scores (fun a x => q (rowQ t a) (wide (head t) x)) (fun a x => k (rowK t a) (wide (head t) x)) a)
    (scores (fun a e => d (rowQ t a) (narrow (head t) e)) (fun a e => v (rowK t a) (narrow (head t) e)) a) (y 0)
    * q (rowQ t a) (wide (head t) (y 1)) : ℝ) : EReal)

theorem bblk_q (hq : ∀ r x, V c main_arg0 (ix2 r x) = (q r x : EReal)) (t : Fin cfg1.N) (a : Fin 1024) (x : Fin 256) :
    iblk1 V c (0 : Fin 9) t (ix2 a x) = (q (rowQ t a) (wide (head t) x) : EReal) := by
  obtain ⟨⟨h0, h1⟩, -⟩ := idx1 t
  rw [← hq]
  blk_ext [iblk1, h0, h1, rowQ, wide, head]

theorem bblk_k (hk : ∀ r x, V c main_arg1 (ix2 r x) = (k r x : EReal)) (t : Fin cfg1.N) (a : Fin 4096) (x : Fin 256) :
    iblk1 V c (1 : Fin 9) t (ix2 a x) = (k (rowK t a) (wide (head t) x) : EReal) := by
  obtain ⟨-, ⟨h0, h1⟩, -⟩ := idx1 t
  rw [← hk]
  blk_ext [iblk1, h0, h1, rowK, wide, head]

theorem bblk_v (hv : ∀ r x, V c main_arg2 (ix2 r x) = (v r x : EReal)) (t : Fin cfg1.N) (a : Fin 4096) (x : Fin 128) :
    iblk1 V c (2 : Fin 9) t (ix2 a x) = (v (rowK t a) (narrow (head t) x) : EReal) := by
  obtain ⟨-, -, ⟨h0, h1⟩, -⟩ := idx1 t
  rw [← hv]
  blk_ext [iblk1, h0, h1, rowK, narrow, head]

theorem bblk_d (hd : ∀ r x, V c main_arg3 (ix2 r x) = (d r x : EReal)) (t : Fin cfg1.N) (a : Fin 1024) (x : Fin 128) :
    iblk1 V c (5 : Fin 9) t (ix2 a x) = (d (rowQ t a) (narrow (head t) x) : EReal) := by
  obtain ⟨-, -, -, -, -, ⟨h0, h1⟩, -⟩ := idx1 t
  rw [← hd]
  blk_ext [iblk1, h0, h1, rowQ, narrow, head]

theorem bblk_o (ho : ∀ r x, V c main_v0_0 (ix2 r x) = (output q k v r x : EReal)) (t : Fin 32) (a : Fin 1024) (x : Fin 128) :
    iblk1 V c (3 : Fin 9) t (ix2 a x)
      = ((∑ j, weight (scores (fun a x => q (rowQ t a) (wide (head t) x)) (fun a x => k (rowK t a) (wide (head t) x)) a) j
          * v (rowK t j) (narrow (head t) x) : ℝ) : EReal) := by
  obtain ⟨-, -, -, ⟨h0, h1⟩, -⟩ := idx1 t
  rw [← output_blk, ← ho]
  blk_ext [iblk1, h0, h1, rowQ, narrow, head]

theorem bblk_l (hl : ∀ u r w, V c main_v0_1 (ix3 u r w) = (Real.log (total (score q k u r)) : EReal)) (t : Fin 32)
    (u : Fin 1) (a : Fin 1024) (w : Fin 1) :
    iblk1 V c (4 : Fin 9) t (ix3 u a w)
      = (Real.log (total (scores (fun a x => q (rowQ t a) (wide (head t) x)) (fun a x => k (rowK t a) (wide (head t) x)) a)) : EReal) := by
  obtain ⟨-, -, -, -, ⟨h0, h1, h2⟩, -⟩ := idx1 t
  rw [scores_blk, ← hl (head t) (rowQ t a) w]
  blk_ext [iblk1, h0, h1, h2, rowQ, head]

variable (hq : ∀ r x, V c main_arg0 (ix2 r x) = (q r x : EReal)) (hk : ∀ r x, V c main_arg1 (ix2 r x) = (k r x : EReal))
  (hv : ∀ r x, V c main_arg2 (ix2 r x) = (v r x : EReal)) (hd : ∀ r x, V c main_arg3 (ix2 r x) = (d r x : EReal))
  (ho : ∀ r x, V c main_v0_0 (ix2 r x) = (output q k v r x : EReal))
  (hl : ∀ u r w, V c main_v0_1 (ix3 u r w) = (Real.log (total (score q k u r)) : EReal))

include hq hk hv hd ho hl in
/-- Grid point `t`'s block of the gradient of the queries. -/
theorem outs_dq (t : Fin cfg1.N) (a : Fin 1024) (x : Fin 256) :
    (outsAt1 V c t.val t.isLt).1 (ix2 a x) = (dquery q k v d (rowQ t a) (wide (head t) x) : EReal) := by
  refine Eq.trans ?_ (congrArg Real.toEReal (dquery_blk (t : Fin 32) a x).symm)
  by_cases h : t.val % 4 = 0
  · rw [outsAt1_A V c t h]
    frame_out
    exact rows_dq (bblk_q V c hq t) (bblk_k V c hk t) (bblk_v V c hv t) (bblk_d V c hd t) (bblk_o V c ho t) (bblk_l V c hl t) (ix2 a x)
  · rw [outsAt1_B V c t h]
    frame_out
    exact rows_dq (bblk_q V c hq t) (bblk_k V c hk t) (bblk_v V c hv t) (bblk_d V c hd t) (bblk_o V c ho t) (bblk_l V c hl t) (ix2 a x)

/-- A head's four query blocks are its 4096 rows. -/
theorem head_run (t : Fin 32) (s : Fin 4) (g : 4 * (t.val / 4) + s.val < 32) : head ⟨4 * (t.val / 4) + s.val, g⟩ = head t :=
  Fin.ext (by simp only [head]; omega)

theorem rowQ_run (t : Fin 32) (s : Fin 4) (g : 4 * (t.val / 4) + s.val < 32) (a : Fin 1024) (j : Fin 4096) (hl : s.val * 1024 + a.val < 4096) :
    rowQ ⟨4 * (t.val / 4) + s.val, g⟩ a = peer (rowK t j) ⟨s.val * 1024 + a.val, hl⟩ :=
  Fin.ext (by simp only [rowQ, peer, rowK]; omega)

theorem place_rowK (t : Fin 32) (j : Fin 4096) : place (rowK t j) = j := Fin.ext (by simp only [place, rowK]; omega)

theorem termV_at (t : Fin 32) (j : Fin 4096) (e : Fin 128) :
    termV q k d t (ix2 j e) = ((∑ a, weight (score q k (head t) (rowQ t a)) j * d (rowQ t a) (narrow (head t) e) : ℝ) : EReal) := by
  simp only [← scores_blk]
  rfl

theorem termK_at (t : Fin 32) (j : Fin 4096) (x : Fin 256) :
    termK q k v d t (ix2 j x)
      = ((∑ a, grad (score q k (head t) (rowQ t a)) (back v d (head t) (rowQ t a)) j * q (rowQ t a) (wide (head t) x) : ℝ) : EReal) := by
  simp only [← scores_blk, ← back_blk]
  rfl

theorem sum_termV (t : Fin 32) (g : ∀ s : Fin 4, 4 * (t.val / 4) + s.val < 32) (j : Fin 4096) (e : Fin 128) :
    ∑ s : Fin 4, termV q k d ⟨4 * (t.val / 4) + s.val, g s⟩ (ix2 j e) = (dvalue q k d (rowK t j) (narrow (head t) e) : EReal) := by
  simp only [termV_at]
  rw [coe_sum]
  refine congrArg Real.toEReal (Fin.sum_mul_add_congr fun s a hl => ?_)
  simp only [head_run, rowQ_run t s (g s) a j hl, headN_narrow, place_rowK]

theorem sum_termK (t : Fin 32) (g : ∀ s : Fin 4, 4 * (t.val / 4) + s.val < 32) (j : Fin 4096) (x : Fin 256) :
    ∑ s : Fin 4, termK q k v d ⟨4 * (t.val / 4) + s.val, g s⟩ (ix2 j x) = (dkey q k v d (rowK t j) (wide (head t) x) : EReal) := by
  simp only [termK_at]
  rw [coe_sum]
  refine congrArg Real.toEReal (Fin.sum_mul_add_congr fun s a hl => ?_)
  simp only [dscore, head_run, rowQ_run t s (g s) a j hl, headW_wide, place_rowK]

include hq hk hd hl in
theorem outs_dv_first (t : Fin cfg1.N) (h : t.val % 4 = 0) (y : S4096x128.Idx) :
    (outsAt1 V c t.val t.isLt).2.2 y = 0 + termV q k d t y := by
  idx_vars y
  rw [outsAt1_A V c t h]
  frame_open
  simp (disch := decide) only [↓ View.readCov_skip, ↓ View.readCov_cons_toLoadRect, ↓ View.readCov_fill]
  frame_out
  simp only [View.readCov_eq_canon']
  refine (block_dv (bblk_q V c hq t) (bblk_k V c hk t) (bblk_d V c hd t) (bblk_l V c hl t) _ _ y0 y1).trans ?_
  exact congrArg (· + termV q k d t (ix2 y0 y1)) (zero_dv (ix2 y0 y1))

include hq hk hd hl in
theorem outs_dv_next (t : Fin cfg1.N) (h : ¬t.val % 4 = 0) (y : S4096x128.Idx) :
    (outsAt1 V c t.val t.isLt).2.2 y
      = (outsAt1 V c (t.val - 1) (Nat.lt_of_le_of_lt (Nat.sub_le _ _) t.isLt)).2.2 y + termV q k d t y := by
  idx_vars y
  rw [outsAt1_B V c t h]
  frame_open
  simp (disch := decide) only [↓ View.readCov_skip, ↓ View.readCov_cons_toLoadRect, ↓ View.readCov_fill]
  frame_out
  simp only [View.readCov_eq_canon']
  exact block_dv (bblk_q V c hq t) (bblk_k V c hk t) (bblk_d V c hd t) (bblk_l V c hl t) _ _ y0 y1

include hq hk hv hd ho hl

theorem outs_dk_first (t : Fin cfg1.N) (h : t.val % 4 = 0) (y : S4096x256.Idx) :
    (outsAt1 V c t.val t.isLt).2.1 y = 0 + termK q k v d t y := by
  idx_vars y
  rw [outsAt1_A V c t h]
  frame_open
  simp (disch := decide) only [↓ View.readCov_skip, ↓ View.readCov_cons_toLoadRect, ↓ View.readCov_fill]
  frame_out
  simp only [View.readCov_eq_canon']
  refine (block_dk (bblk_q V c hq t) (bblk_k V c hk t) (bblk_v V c hv t) (bblk_d V c hd t) (bblk_o V c ho t) (bblk_l V c hl t) _ _ y0 y1).trans ?_
  exact congrArg (· + termK q k v d t (ix2 y0 y1)) (zero_dk (ix2 y0 y1))

theorem outs_dk_next (t : Fin cfg1.N) (h : ¬t.val % 4 = 0) (y : S4096x256.Idx) :
    (outsAt1 V c t.val t.isLt).2.1 y
      = (outsAt1 V c (t.val - 1) (Nat.lt_of_le_of_lt (Nat.sub_le _ _) t.isLt)).2.1 y + termK q k v d t y := by
  idx_vars y
  rw [outsAt1_B V c t h]
  frame_open
  simp (disch := decide) only [↓ View.readCov_skip, ↓ View.readCov_cons_toLoadRect, ↓ View.readCov_fill]
  frame_out
  simp only [View.readCov_eq_canon']
  exact block_dk (bblk_q V c hq t) (bblk_k V c hk t) (bblk_v V c hv t) (bblk_d V c hd t) (bblk_o V c ho t) (bblk_l V c hl t) _ _ y0 y1

/-- The backward call's three arrays. -/
theorem bwd_dq : (dat1 V c).arrAt (6 : Fin 9) cfg1.N = fun y : S8192x1024.Idx => (dquery q k v d (y 0) (y 1) : EReal) := by
  refine (dat1 V c).arrAt_eq_of_covers (6 : Fin 9) _ (by decide +kernel) fun t hf y => ?_
  obtain ⟨-, -, -, -, -, -, ⟨h0, h1⟩, -⟩ := idx1 t
  blk_simp
  rw [after1_6]
  change S1024x256.Idx at y
  idx_vars y
  refine (outs_dq V c hq hk hv hd ho hl t y0 y1).trans (congrArg Real.toEReal (congrArg₂ (dquery q k v d) (Fin.ext ?_) (Fin.ext ?_)))
  · blk_simp
    simp only [h0, rowQ]
  · blk_simp
    simp only [h1, wide, head]

theorem bwd_dk : (dat1 V c).arrAt (7 : Fin 9) cfg1.N = fun y : S8192x1024.Idx => (dkey q k v d (y 0) (y 1) : EReal) := by
  refine (dat1 V c).arrAt_eq_of_covers (7 : Fin 9) _ (by decide +kernel) fun t hf y => ?_
  obtain ⟨-, -, -, -, -, -, -, ⟨h0, h1⟩, -⟩ := idx1 t
  blk_simp
  rw [after1_7]
  change S4096x256.Idx at y
  idx_vars y
  rw [Pipeline.eq_sum_fin_of_reset_step_apply_of_flush (fun n h => (outsAt1 V c n h).2.1) 4 (fun _ => 0) (termK q k v d)
    (outs_dk_first V c hq hk hv hd ho hl) (outs_dk_next V c hq hk hv hd ho hl) t ((flush1_7 t).mp hf) (ix2 y0 y1), zero_add]
  refine (sum_termK t _ y0 y1).trans (congrArg Real.toEReal (congrArg₂ (dkey q k v d) (Fin.ext ?_) (Fin.ext ?_)))
  · blk_simp
    simp only [h0, rowK]
  · blk_simp
    simp only [h1, wide, head]

theorem bwd_dv : (dat1 V c).arrAt (8 : Fin 9) cfg1.N = fun y : S8192x512.Idx => (dvalue q k d (y 0) (y 1) : EReal) := by
  refine (dat1 V c).arrAt_eq_of_covers (8 : Fin 9) _ (by decide +kernel) fun t hf y => ?_
  obtain ⟨-, -, -, -, -, -, -, -, ⟨h0, h1⟩⟩ := idx1 t
  blk_simp
  rw [after1_8]
  change S4096x128.Idx at y
  idx_vars y
  rw [Pipeline.eq_sum_fin_of_reset_step_apply_of_flush (fun n h => (outsAt1 V c n h).2.2) 4 (fun _ => 0) (termV q k d)
    (outs_dv_first V c hq hk hd hl) (outs_dv_next V c hq hk hd hl) t ((flush1_8 t).mp hf) (ix2 y0 y1), zero_add]
  refine (sum_termV t _ y0 y1).trans (congrArg Real.toEReal (congrArg₂ (dvalue q k d) (Fin.ext ?_) (Fin.ext ?_)))
  · blk_simp
    simp only [h0, rowK]
  · blk_simp
    simp only [h1, narrow, head]

end Cert.Attn

end
-- ==== Proof.AttnRef.lean ====
/-
  The reference, index by index: attention and its gradient over real numbers.
-/
module

public import proofs.«01_k».proof.Proof.AttnSpec
public import proofs.«01_k».proof.Proof.Gen.ReferenceIdeal.Read
public import Idealize.ShloMosaic.Lib.KernelVsHost
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Read

/-- Row `i` of sequence `b`. -/
def row (b : Fin 2) (i : Fin 4096) : Fin 8192 := ⟨b.val * 4096 + i.val, by omega⟩

theorem peer_row (b : Fin 2) (i j : Fin 4096) : peer (row b i) j = row b j := Fin.ext (by simp only [peer, row]; omega)
theorem place_row (b : Fin 2) (i : Fin 4096) : place (row b i) = i := Fin.ext (by simp only [place, row]; omega)

theorem exists_row (r : Fin 8192) : ∃ b i, r = row b i :=
  ⟨⟨r.val / 4096, by omega⟩, ⟨r.val % 4096, by omega⟩, Fin.ext (by simp only [row]; omega)⟩
theorem exists_wide (x : Fin 1024) : ∃ h j, x = wide h j :=
  ⟨⟨x.val / 256, by omega⟩, ⟨x.val % 256, by omega⟩, Fin.ext (by simp only [wide]; omega)⟩
theorem exists_narrow (x : Fin 512) : ∃ h j, x = narrow h j :=
  ⟨⟨x.val / 128, by omega⟩, ⟨x.val % 128, by omega⟩, Fin.ext (by simp only [narrow]; omega)⟩
theorem headW_wide (h : Fin 4) (x : Fin 256) : headW (wide h x) = h := Fin.ext (by simp only [headW, wide]; omega)
theorem headN_narrow (h : Fin 4) (e : Fin 128) : headN (narrow h e) = h := Fin.ext (by simp only [headN, narrow]; omega)

/-! ## Where the reshapes read -/

theorem at3 (b : Fin 2) (i : Fin 4096) (h : Fin 4) (x : Fin 256) : idx_main_v3 (ix4 b i h x) = ix2 (row b i) (wide h x) := by
  funext a
  match a with
  | ⟨0, _⟩ => exact Fin.ext (show (((b.val * 4096 + i.val) * 4 + h.val) * 256 + x.val) / 1024 = b.val * 4096 + i.val by omega)
  | ⟨1, _⟩ => exact Fin.ext (show (((b.val * 4096 + i.val) * 4 + h.val) * 256 + x.val) % 1024 = h.val * 256 + x.val by omega)

theorem at39 (b : Fin 2) (i : Fin 4096) (h : Fin 4) (x : Fin 128) : idx_main_v39 (ix4 b i h x) = ix2 (row b i) (narrow h x) := by
  funext a
  match a with
  | ⟨0, _⟩ => exact Fin.ext (show (((b.val * 4096 + i.val) * 4 + h.val) * 128 + x.val) / 512 = b.val * 4096 + i.val by omega)
  | ⟨1, _⟩ => exact Fin.ext (show (((b.val * 4096 + i.val) * 4 + h.val) * 128 + x.val) % 512 = h.val * 128 + x.val by omega)

theorem at37 (b : Fin 2) (i : Fin 4096) (h : Fin 4) (x : Fin 128) : idx_main_v37 (ix2 (row b i) (narrow h x)) = ix4 b i h x := by
  funext a
  match a with
  | ⟨0, _⟩ => exact Fin.ext (show ((b.val * 4096 + i.val) * 512 + (h.val * 128 + x.val)) / 2097152 = b.val by omega)
  | ⟨1, _⟩ => exact Fin.ext (show ((b.val * 4096 + i.val) * 512 + (h.val * 128 + x.val)) / 512 % 4096 = i.val by omega)
  | ⟨2, _⟩ => exact Fin.ext (show ((b.val * 4096 + i.val) * 512 + (h.val * 128 + x.val)) / 128 % 4 = h.val by omega)
  | ⟨3, _⟩ => exact Fin.ext (show ((b.val * 4096 + i.val) * 512 + (h.val * 128 + x.val)) % 128 = x.val by omega)

theorem at61 (b : Fin 2) (i : Fin 4096) (h : Fin 4) (x : Fin 256) : idx_main_v61 (ix2 (row b i) (wide h x)) = ix4 b i h x := by
  funext a
  match a with
  | ⟨0, _⟩ => exact Fin.ext (show ((b.val * 4096 + i.val) * 1024 + (h.val * 256 + x.val)) / 4194304 = b.val by omega)
  | ⟨1, _⟩ => exact Fin.ext (show ((b.val * 4096 + i.val) * 1024 + (h.val * 256 + x.val)) / 1024 % 4096 = i.val by omega)
  | ⟨2, _⟩ => exact Fin.ext (show ((b.val * 4096 + i.val) * 1024 + (h.val * 256 + x.val)) / 256 % 4 = h.val by omega)
  | ⟨3, _⟩ => exact Fin.ext (show ((b.val * 4096 + i.val) * 1024 + (h.val * 256 + x.val)) % 256 = x.val by omega)

theorem at49 (b : Fin 2) (h : Fin 4) (i : Fin 4096) (u : Fin 1) : idx_main_v49 (ix4 b h i u) = ix3 b h i := by
  funext a
  match a with
  | ⟨0, _⟩ => exact Fin.ext (show (((b.val * 4 + h.val) * 4096 + i.val) * 1 + u.val) / 16384 = b.val by omega)
  | ⟨1, _⟩ => exact Fin.ext (show (((b.val * 4 + h.val) * 4096 + i.val) * 1 + u.val) / 4096 % 4 = h.val by omega)
  | ⟨2, _⟩ => exact Fin.ext (show (((b.val * 4 + h.val) * 4096 + i.val) * 1 + u.val) % 4096 = i.val by omega)

/-- Two indices of four coordinates that agree in each. -/
theorem same4 {s : Fin 4 → ℕ} {x y : (⟨4, s⟩ : Shape).Idx} (h0 : x 0 = y 0) (h1 : x 1 = y 1) (h2 : x 2 = y 2) (h3 : x 3 = y 3) : x = y := by
  funext a
  match a with
  | ⟨0, _⟩ => exact h0
  | ⟨1, _⟩ => exact h1
  | ⟨2, _⟩ => exact h2
  | ⟨3, _⟩ => exact h3

theorem same3 {s : Fin 3 → ℕ} {x y : (⟨3, s⟩ : Shape).Idx} (h0 : x 0 = y 0) (h1 : x 1 = y 1) (h2 : x 2 = y 2) : x = y := by
  funext a
  match a with
  | ⟨0, _⟩ => exact h0
  | ⟨1, _⟩ => exact h1
  | ⟨2, _⟩ => exact h2

/-- A value read at an index with the same coordinates. -/
theorem read4 {α : Type} {s : Fin 4 → ℕ} {f : (⟨4, s⟩ : Shape).Idx → α} {x y : (⟨4, s⟩ : Shape).Idx} {w : α} (hw : f y = w)
    (h0 : x 0 = y 0) (h1 : x 1 = y 1) (h2 : x 2 = y 2) (h3 : x 3 = y 3) : f x = w :=
  (congrArg f (same4 h0 h1 h2 h3)).trans hw

theorem read3 {α : Type} {s : Fin 3 → ℕ} {f : (⟨3, s⟩ : Shape).Idx → α} {x y : (⟨3, s⟩ : Shape).Idx} {w : α} (hw : f y = w)
    (h0 : x 0 = y 0) (h1 : x 1 = y 1) (h2 : x 2 = y 2) : f x = w :=
  (congrArg f (same3 h0 h1 h2)).trans hw

/-- A sum that starts from the constant zero. -/
theorem from_zero {n : ℕ} {z : EReal} (f : Fin n → EReal) {g : Fin n → ℝ} (hz : z = 0) (h : ∀ c, f c = (g c : EReal)) :
    z + ∑ c, f c = ((∑ c, g c : ℝ) : EReal) := by
  rw [hz, zero_add, ← coe_sum]; exact Finset.sum_congr rfl fun c _ => h c

theorem negInf : Ideal.ofBits .f32 4286578688#32 = ⊥ := by simp [Ideal.ofBits, Ideal.ieee]

/-- The largest of a row of real numbers is a real number. -/
theorem row_max (y : FVec Ideal S2x4x4096x4096 .f32) {g : Fin 2 → Fin 4 → Fin 4096 → Fin 4096 → ℝ}
    (hy : ∀ b h i j, y (ix4 b h i j) = (g b h i j : EReal)) (H) (hs : 0 < S_.numel) (b : Fin 2) (h : Fin 4) (i : Fin 4096) :
    ∃ M : ℝ, Host.reduce (axes := [3]) (t := S2x4x4096) FloatOps.maximumf y (constant S_ .f32 0xFF800000#32) H hs (ix3 b h i) = (M : EReal) := by
  have hr : S2x4x4096x4096.Reduces [3] S2x4x4096 := by decide
  obtain ⟨M, hM⟩ := coe_max fun j : Fin 4096 => g b h i j
  refine ⟨M, ?_⟩
  refine (congrFun (hostReduce_maximumf_eq_multiReduction (F := Ideal) y 0xFF800000#32 H hs hr (.inl rfl) rfl) _).trans
    ((Ideal.multiReduction_maximumf_single y _ hr (.inl rfl) rfl _).trans (Eq.trans ?_ hM))
  refine congrArg₂ (fun z (f : Fin 4096 → EReal) => Finset.univ.fold max z f) negInf (funext fun j => ?_)
  exact read4 (f := y) (hy b h i j) rfl rfl rfl rfl

variable {x0 x1 : FVec Ideal S8192x1024 .bf16} {x2 x3 : FVec Ideal S8192x512 .bf16}
variable {q k : Fin 8192 → Fin 1024 → ℝ} {v d : Fin 8192 → Fin 512 → ℝ}
variable (hq : ∀ r x, x0 (ix2 r x) = (q r x : EReal)) (hk : ∀ r x, x1 (ix2 r x) = (k r x : EReal))
  (hv : ∀ r x, x2 (ix2 r x) = (v r x : EReal)) (hd : ∀ r x, x3 (ix2 r x) = (d r x : EReal))

include hq in
theorem v3 (b : Fin 2) (i : Fin 4096) (h : Fin 4) (x : Fin 256) :
    val_main_v3 (F := Ideal) x0 (ix4 b i h x) = (q (row b i) (wide h x) : EReal) := by
  rw [val_main_v3_apply, at3]; exact hq _ _

include hk in
theorem v4 (b : Fin 2) (i : Fin 4096) (h : Fin 4) (x : Fin 256) :
    val_main_v4 (F := Ideal) x1 (ix4 b i h x) = (k (row b i) (wide h x) : EReal) := by
  rw [val_main_v4_apply]; exact (congrArg x1 (at3 b i h x)).trans (hk _ _)

include hv in
theorem v34 (b : Fin 2) (i : Fin 4096) (h : Fin 4) (x : Fin 128) :
    val_main_v34 (F := Ideal) x2 (ix4 b i h x) = (v (row b i) (narrow h x) : EReal) := by
  rw [val_main_v34_apply]; exact (congrArg x2 (at39 b i h x)).trans (hv _ _)

include hd in
/-- The result's gradient, heads and columns before rows. -/
theorem v40 (b : Fin 2) (h : Fin 4) (x : Fin 128) (i : Fin 4096) :
    val_main_v40 (F := Ideal) x3 (ix4 b h x i) = (d (row b i) (narrow h x) : EReal) := by
  rw [val_main_v40_apply, val_main_v39_apply]; exact (congrArg x3 (at39 b i h x)).trans (hd _ _)

include hq hk

/-- The scores. -/
theorem v5 (b : Fin 2) (h : Fin 4) (i j : Fin 4096) :
    val_main_v5 (F := Ideal) x0 x1 (ix4 b h i j) = (score q k h (row b i) j : EReal) := by
  rw [val_main_v5_apply]
  have e : ∀ x : Fin 256, val_main_v3 (F := Ideal) x0 (lidx_main_v5 (ix4 b h i j) x) * val_main_v4 (F := Ideal) x1 (ridx_main_v5 (ix4 b h i j) x)
      = ((q (row b i) (wide h x) * k (row b j) (wide h x) : ℝ) : EReal) := fun x => by
    rw [EReal.coe_mul, ← v3 hq, ← v4 hk]
    exact congrArg₂ _ (congrArg _ (same4 rfl rfl rfl rfl)) (congrArg _ (same4 rfl rfl rfl rfl))
  rw [Finset.sum_congr rfl fun x _ => e x, coe_sum]
  simp only [score, peer_row]

/-- A row's largest score is a real number. -/
theorem v13 (b : Fin 2) (h : Fin 4) (i : Fin 4096) : ∃ M : ℝ, val_main_v13 (F := Ideal) x0 x1 (ix3 b h i) = (M : EReal) := by
  obtain ⟨M, hM⟩ := row_max (val_main_v5 (F := Ideal) x0 x1) (fun b h i j => v5 hq hk b h i j) Gen.reducesTo_S2x4x4096x4096_S2x4x4096_d3 Gen.h_S_ b h i
  refine ⟨M, ?_⟩
  rw [val_main_v13_apply, val_main_v12_apply, val_main_cst_1_apply]
  refine Eq.trans (congrArg₂ max negInf hM) ?_
  exact max_eq_right bot_le

/-- The largest score of each row, as a real number. -/
def peak (b : Fin 2) (h : Fin 4) (i : Fin 4096) : ℝ := (v13 hq hk b h i).choose

/-- The exponentials of the shifted scores. -/
theorem v26 (b : Fin 2) (h : Fin 4) (i j : Fin 4096) :
    val_main_v26 (F := Ideal) x0 x1 (ix4 b h i j) = (Real.exp (score q k h (row b i) j - peak hq hk b h i) : EReal) := by
  have e : val_main_v24 (F := Ideal) x0 x1 (ix4 b h i j) = (peak hq hk b h i : EReal) := by
    rw [val_main_v24_apply, val_main_v23_apply]
    exact read3 (v13 hq hk b h i).choose_spec rfl rfl rfl
  rw [val_main_v26_apply, val_main_v25_apply, v5 hq hk, e]
  exact (congrArg Ideal.exp (EReal.coe_sub _ _).symm).trans (Ideal.exp_coe _)

/-- Their sum over a row. -/
theorem v28 (b : Fin 2) (h : Fin 4) (i : Fin 4096) (u : Fin 1) :
    val_main_v28 (F := Ideal) x0 x1 (ix4 b h i u) = ((∑ j, Real.exp (score q k h (row b i) j - peak hq hk b h i) : ℝ) : EReal) := by
  rw [val_main_v28_apply, val_main_v27_apply, val_main_cst_7_apply, ← coe_sum]
  refine (congrArg₂ (· + ·) (show Ideal.ofBits .f32 0x00000000#32 = 0 by simp [Ideal.ofBits, Ideal.ieee])
    (Finset.sum_congr rfl fun j _ => ?_)).trans (zero_add _)
  exact read4 (v26 hq hk b h i j) rfl rfl rfl rfl

/-- The attention weights. -/
theorem v30 (b : Fin 2) (h : Fin 4) (i j : Fin 4096) :
    val_main_v30 (F := Ideal) x0 x1 (ix4 b h i j) = (weight (score q k h (row b i)) j : EReal) := by
  have e : val_main_v29 (F := Ideal) x0 x1 (ix4 b h i j) = ((∑ j, Real.exp (score q k h (row b i) j - peak hq hk b h i) : ℝ) : EReal) := by
    rw [val_main_v29_apply]
    exact read4 (v28 hq hk b h i 0) rfl rfl rfl rfl
  rw [val_main_v30_apply, v26 hq hk, e]
  exact (div_real _ _ (total_shift_pos _ _).ne').trans (congrArg Real.toEReal (weight_shift _ _ _))

/-- One over the square of the sum. -/
theorem v33 (b : Fin 2) (h : Fin 4) (i : Fin 4096) (u : Fin 1) :
    val_main_v33 (F := Ideal) x0 x1 (ix4 b h i u)
      = ((1 / ((∑ j, Real.exp (score q k h (row b i) j - peak hq hk b h i)) * ∑ j, Real.exp (score q k h (row b i) j - peak hq hk b h i)) : ℝ) : EReal) := by
  rw [val_main_v33_apply, val_main_v32_apply, val_main_cst_8_apply, val_main_v31_apply, v28 hq hk]
  have h1 : Ideal.ofBits .f32 0x3F800000#32 = ((1 : ℝ) : EReal) := by
    simp [Ideal.ofBits, Ideal.ieee]; rw [← EReal.coe_mul]; norm_num
  exact (congrArg₂ Ideal.div h1 (EReal.coe_mul _ _).symm).trans
    (div_real _ _ (mul_pos (total_shift_pos _ _) (total_shift_pos _ _)).ne')

include hv in
/-- The output, heads and columns before rows. -/
theorem v35 (b : Fin 2) (h : Fin 4) (x : Fin 128) (i : Fin 4096) :
    val_main_v35 (F := Ideal) x0 x1 x2 (ix4 b h x i) = (output q k v (row b i) (narrow h x) : EReal) := by
  rw [val_main_v35_apply]
  have e : ∀ j : Fin 4096, val_main_v34 (F := Ideal) x2 (lidx_main_v35 (ix4 b h x i) j) * val_main_v30 (F := Ideal) x0 x1 (ridx_main_v35 (ix4 b h x i) j)
      = ((weight (score q k h (row b i)) j * v (row b j) (narrow h x) : ℝ) : EReal) := fun j => by
    rw [mul_comm (weight _ _), EReal.coe_mul, ← v34 hv, ← v30 hq hk]
    exact congrArg₂ _ (congrArg _ (same4 rfl rfl rfl rfl)) (congrArg _ (same4 rfl rfl rfl rfl))
  rw [Finset.sum_congr rfl fun j _ => e j, coe_sum]
  simp only [output, headN_narrow, peer_row]

include hv in
/-- The reference's output. -/
theorem ref_o (b : Fin 2) (i : Fin 4096) (h : Fin 4) (x : Fin 128) :
    val_main_v37 (F := Ideal) x0 x1 x2 (ix2 (row b i) (narrow h x)) = (output q k v (row b i) (narrow h x) : EReal) := by
  rw [val_main_v37_apply, at37, val_main_v36_apply, ← v35 hq hk hv]
  exact congrArg _ (same4 rfl rfl rfl rfl)

include hd in
/-- The reference's gradient of the values. -/
theorem ref_dv (b : Fin 2) (i : Fin 4096) (h : Fin 4) (x : Fin 128) :
    val_main_v44 (F := Ideal) x0 x1 x3 (ix2 (row b i) (narrow h x)) = (dvalue q k d (row b i) (narrow h x) : EReal) := by
  rw [val_main_v44_apply, (show idx_main_v44 (ix2 (row b i) (narrow h x)) = ix4 b i h x from at37 b i h x), val_main_v43_apply, val_main_v42_apply]
  have e : ∀ j : Fin 4096, val_main_v40 (F := Ideal) x3 (lidx_main_v42 (idx_main_v43 (ix4 b i h x)) j)
        * val_main_v30 (F := Ideal) x0 x1 (ridx_main_v42 (idx_main_v43 (ix4 b i h x)) j)
      = ((weight (score q k h (row b j)) i * d (row b j) (narrow h x) : ℝ) : EReal) := fun j => by
    rw [mul_comm (weight _ _), EReal.coe_mul, ← v40 hd, ← v30 hq hk]
    exact congrArg₂ _ (congrArg _ (same4 rfl rfl rfl rfl)) (congrArg _ (same4 rfl rfl rfl rfl))
  rw [Finset.sum_congr rfl fun j _ => e j, coe_sum]
  simp only [dvalue, headN_narrow, peer_row, place_row]

omit hq hk in
include hv hd in
/-- The gradient of the weights. -/
theorem v41 (b : Fin 2) (h : Fin 4) (i j : Fin 4096) :
    val_main_v41 (F := Ideal) x2 x3 (ix4 b h i j) = (back v d h (row b i) j : EReal) := by
  rw [val_main_v41_apply]
  have e : ∀ x : Fin 128, val_main_v40 (F := Ideal) x3 (lidx_main_v41 (ix4 b h i j) x) * val_main_v34 (F := Ideal) x2 (ridx_main_v41 (ix4 b h i j) x)
      = ((d (row b i) (narrow h x) * v (row b j) (narrow h x) : ℝ) : EReal) := fun x => by
    rw [EReal.coe_mul, ← v40 hd, ← v34 hv]
    exact congrArg₂ _ (congrArg _ (same4 rfl rfl rfl rfl)) (congrArg _ (same4 rfl rfl rfl rfl))
  rw [Finset.sum_congr rfl fun x _ => e x, coe_sum]
  simp only [back, peer_row]

include hv hd

/-- The part of the scores' gradient that comes from the sum. -/
theorem v54 (b : Fin 2) (h : Fin 4) (i j : Fin 4096) :
    val_main_v54 (F := Ideal) x0 x1 x2 x3 (ix4 b h i j)
      = ((-(∑ c, back v d h (row b i) c * (1 / ((∑ j, Real.exp (score q k h (row b i) j - peak hq hk b h i)) * ∑ j, Real.exp (score q k h (row b i) j - peak hq hk b h i)))
          * Real.exp (score q k h (row b i) c - peak hq hk b h i)) : ℝ) : EReal) := by
  have z : Ideal.ofBits .f32 0x00000000#32 = 0 := by simp [Ideal.ofBits, Ideal.ieee]
  have e47 : ∀ c : Fin 4096, val_main_v47 (F := Ideal) x0 x1 x2 x3 (ix4 b h i c)
      = ((back v d h (row b i) c * (1 / ((∑ j, Real.exp (score q k h (row b i) j - peak hq hk b h i)) * ∑ j, Real.exp (score q k h (row b i) j - peak hq hk b h i)))
          * Real.exp (score q k h (row b i) c - peak hq hk b h i) : ℝ) : EReal) := fun c => by
    have e : val_main_v45 (F := Ideal) x0 x1 (ix4 b h i c) = ((1 / ((∑ j, Real.exp (score q k h (row b i) j - peak hq hk b h i)) * ∑ j, Real.exp (score q k h (row b i) j - peak hq hk b h i)) : ℝ) : EReal) := by
      rw [val_main_v45_apply]
      exact read4 (v33 hq hk b h i 0) rfl rfl rfl rfl
    rw [val_main_v47_apply, val_main_v46_apply, e, v41 hv hd, v26 hq hk, EReal.coe_mul, EReal.coe_mul]
    rfl
  have e48 : val_main_v48 (F := Ideal) x0 x1 x2 x3 (ix3 b h i) = ((∑ c, back v d h (row b i) c * (1 / ((∑ j, Real.exp (score q k h (row b i) j - peak hq hk b h i)) * ∑ j, Real.exp (score q k h (row b i) j - peak hq hk b h i)))
          * Real.exp (score q k h (row b i) c - peak hq hk b h i) : ℝ) : EReal) := by
    rw [val_main_v48_apply, val_main_cst_9_apply]
    exact from_zero _ z fun c => read4 (e47 c) rfl rfl rfl rfl
  have e50 : ∀ u : Fin 1, val_main_v50 (F := Ideal) x0 x1 x2 x3 (ix4 b h i u) = ((-(∑ c, back v d h (row b i) c * (1 / ((∑ j, Real.exp (score q k h (row b i) j - peak hq hk b h i)) * ∑ j, Real.exp (score q k h (row b i) j - peak hq hk b h i)))
          * Real.exp (score q k h (row b i) c - peak hq hk b h i)) : ℝ) : EReal) := fun u => by
    rw [val_main_v50_apply, val_main_v49_apply, at49, e48]
    exact (EReal.coe_neg _).symm
  rw [val_main_v54_apply, val_main_v53_apply, val_main_cst_10_apply, Fin.sum_univ_one]
  refine Eq.trans (congrArg₂ (· + ·) z ?_) (zero_add _)
  exact read4 (e50 0) rfl rfl rfl rfl

/-- The gradient of the scores. -/
theorem v56 (b : Fin 2) (h : Fin 4) (i j : Fin 4096) :
    val_main_v56 (F := Ideal) x0 x1 x2 x3 (ix4 b h i j) = (dscore q k v d h (row b i) j : EReal) := by
  have e52 : val_main_v52 (F := Ideal) x0 x1 x2 x3 (ix4 b h i j)
      = ((back v d h (row b i) j / ∑ j, Real.exp (score q k h (row b i) j - peak hq hk b h i) : ℝ) : EReal) := by
    have e : val_main_v51 (F := Ideal) x0 x1 (ix4 b h i j) = ((∑ j, Real.exp (score q k h (row b i) j - peak hq hk b h i) : ℝ) : EReal) := by
      rw [val_main_v51_apply]
      exact read4 (v28 hq hk b h i 0) rfl rfl rfl rfl
    rw [val_main_v52_apply, e, v41 hv hd]
    exact div_real _ _ (total_shift_pos _ _).ne'
  rw [val_main_v56_apply, val_main_v55_apply, e52, v54 hq hk hv hd, v26 hq hk, dscore, ← grad_quotient _ _ (peak hq hk b h i),
    EReal.coe_mul, EReal.coe_add]
  rfl

/-- The reference's gradient of the keys. -/
theorem ref_dk (b : Fin 2) (i : Fin 4096) (h : Fin 4) (x : Fin 256) :
    val_main_v61 (F := Ideal) x0 x1 x2 x3 (ix2 (row b i) (wide h x)) = (dkey q k v d (row b i) (wide h x) : EReal) := by
  rw [val_main_v61_apply, at61, val_main_v58_apply, val_main_v57_apply]
  have e : ∀ j : Fin 4096, val_main_v56 (F := Ideal) x0 x1 x2 x3 (lidx_main_v57 (idx_main_v58 (ix4 b i h x)) j)
        * val_main_v3 (F := Ideal) x0 (ridx_main_v57 (idx_main_v58 (ix4 b i h x)) j)
      = ((dscore q k v d h (row b j) i * q (row b j) (wide h x) : ℝ) : EReal) := fun j => by
    rw [EReal.coe_mul, ← v56 hq hk hv hd, ← v3 hq]
    exact congrArg₂ _ (congrArg _ (same4 rfl rfl rfl rfl)) (congrArg _ (same4 rfl rfl rfl rfl))
  rw [Finset.sum_congr rfl fun j _ => e j, coe_sum]
  simp only [dkey, headW_wide, peer_row, place_row]

/-- The reference's gradient of the queries. -/
theorem ref_dq (b : Fin 2) (i : Fin 4096) (h : Fin 4) (x : Fin 256) :
    val_main_v63 (F := Ideal) x0 x1 x2 x3 (ix2 (row b i) (wide h x)) = (dquery q k v d (row b i) (wide h x) : EReal) := by
  rw [val_main_v63_apply, val_main_v62_apply, (show idx_main_v62 (ix2 (row b i) (wide h x)) = ix4 b i h x from at61 b i h x),
    val_main_v60_apply, val_main_v59_apply]
  have e : ∀ j : Fin 4096, val_main_v56 (F := Ideal) x0 x1 x2 x3 (lidx_main_v59 (idx_main_v60 (ix4 b i h x)) j)
        * val_main_v4 (F := Ideal) x1 (ridx_main_v59 (idx_main_v60 (ix4 b i h x)) j)
      = ((dscore q k v d h (row b i) j * k (row b j) (wide h x) : ℝ) : EReal) := fun j => by
    rw [EReal.coe_mul, ← v56 hq hk hv hd, ← v4 hk]
    exact congrArg₂ _ (congrArg _ (same4 rfl rfl rfl rfl)) (congrArg _ (same4 rfl rfl rfl rfl))
  rw [Finset.sum_congr rfl fun j _ => e j, coe_sum]
  simp only [dquery, headW_wide, peer_row]
  rfl

end Cert.Attn.Ref

end
-- ==== Proof.AttnClaim.lean ====
/-
  Attention, both passes: on arguments that are real numbers throughout, the two calls leave in their four result arrays
  exactly what the reference leaves in its four.
-/
module

public import proofs.«01_k».proof.Defs
public import proofs.«01_k».proof.Proof.AttnRun
public import proofs.«01_k».proof.Proof.AttnFwdArr
public import proofs.«01_k».proof.Proof.AttnBwdArr
public import proofs.«01_k».proof.Proof.AttnRef
public import proofs.«01_k».proof.Proof.Gen.ReferenceIdeal.Run
public import proofs.«01_k».proof.Proof.Gen.Pre_finite

@[expose] public section

set_option maxRecDepth 8192

noncomputable section

namespace Cert.Attn

open Idealize.ShloMosaic Idealize.ShloMosaic.TcCoe Idealize.SL.Sem

/-- A number whose absolute value is below infinity is real. -/
theorem real_of_below {x : EReal} (h : FloatOps.cmpf (F := Ideal) (φ := .f32) .olt (max x (-x)) (Ideal.ofBits .f32 0x7F800000#32) = 1#1) :
    x = (x.toReal : EReal) := by
  have top : Ideal.ofBits .f32 0x7F800000#32 = ⊤ := by simp [Ideal.ofBits, Ideal.ieee]
  rw [top] at h
  have lt : max x (-x) < ⊤ := by
    by_contra hn
    have : Ideal.cmp .olt (max x (-x)) ⊤ = 0#1 := by simp only [Ideal.cmp, decide_eq_false hn]; rfl
    exact absurd (this.symm.trans h) (by decide)
  refine (EReal.coe_toReal (fun e => ?_) (fun e => ?_)).symm
  · rw [e] at lt; simp at lt
  · rw [e] at lt; simp at lt

section
open Cert.KernelIdeal Cert.KernelIdeal.Gen

variable (m : (ℓ : Loc nD τ sig) → Buf (Elt Ideal) ℓ) (ρ : Dev nD → PrngReg)

/-- What the two calls leave, in terms of the real arguments. -/
theorem values {q k : Dev nD → Fin 8192 → Fin 1024 → ℝ} {v d : Dev nD → Fin 8192 → Fin 512 → ℝ}
    (hq : ∀ (c : Dev nD) (r) (x), m ((c.tc : Thread nD τ).loc main_arg0) (ix2 r x) = (q c r x : EReal))
    (hk : ∀ (c : Dev nD) (r) (x), m ((c.tc : Thread nD τ).loc main_arg1) (ix2 r x) = (k c r x : EReal))
    (hv : ∀ (c : Dev nD) (r) (x), m ((c.tc : Thread nD τ).loc main_arg2) (ix2 r x) = (v c r x : EReal))
    (hd : ∀ (c : Dev nD) (r) (x), m ((c.tc : Thread nD τ).loc main_arg3) (ix2 r x) = (d c r x : EReal)) (c : Dev nD) :
    (dat0 (V0 m ρ) c).arrAt (3 : Fin 5) cfg0.N = (fun y : S8192x512.Idx => (output (q c) (k c) (v c) (y 0) (y 1) : EReal))
    ∧ (dat1 (V1 m ρ) c).arrAt (6 : Fin 9) cfg1.N = (fun y : S8192x1024.Idx => (dquery (q c) (k c) (v c) (d c) (y 0) (y 1) : EReal))
    ∧ (dat1 (V1 m ρ) c).arrAt (7 : Fin 9) cfg1.N = (fun y : S8192x1024.Idx => (dkey (q c) (k c) (v c) (d c) (y 0) (y 1) : EReal))
    ∧ (dat1 (V1 m ρ) c).arrAt (8 : Fin 9) cfg1.N = (fun y : S8192x512.Idx => (dvalue (q c) (k c) (d c) (y 0) (y 1) : EReal)) := by
  have fo := fwd_o (V0 m ρ) c (hq c) (hk c) (hv c)
  have fl := fwd_lse (V0 m ρ) c (hq c) (hk c) (hv c)
  have a0 : V1 m ρ c main_arg0 = m ((c.tc : Thread nD τ).loc main_arg0) := W1_args m ρ c main_arg0 (by decide)
  have a1 : V1 m ρ c main_arg1 = m ((c.tc : Thread nD τ).loc main_arg1) := W1_args m ρ c main_arg1 (by decide)
  have a2 : V1 m ρ c main_arg2 = m ((c.tc : Thread nD τ).loc main_arg2) := W1_args m ρ c main_arg2 (by decide)
  have a3 : V1 m ρ c main_arg3 = m ((c.tc : Thread nD τ).loc main_arg3) := W1_args m ρ c main_arg3 (by decide)
  have bq : ∀ r x, V1 m ρ c main_arg0 (ix2 r x) = (q c r x : EReal) := fun r x => (congrFun a0 _).trans (hq c r x)
  have bk : ∀ r x, V1 m ρ c main_arg1 (ix2 r x) = (k c r x : EReal) := fun r x => (congrFun a1 _).trans (hk c r x)
  have bv : ∀ r x, V1 m ρ c main_arg2 (ix2 r x) = (v c r x : EReal) := fun r x => (congrFun a2 _).trans (hv c r x)
  have bd : ∀ r x, V1 m ρ c main_arg3 (ix2 r x) = (d c r x : EReal) := fun r x => (congrFun a3 _).trans (hd c r x)
  have bo : ∀ r x, V1 m ρ c main_v0_0 (ix2 r x) = (output (q c) (k c) (v c) r x : EReal) := fun r x =>
    congrFun ((W1_arr m ρ c (3 : Fin 5)).trans fo) (ix2 r x)
  have bl : ∀ u r w, V1 m ρ c main_v0_1 (ix3 u r w) = (Real.log (total (score (q c) (k c) u r)) : EReal) := fun u r w =>
    congrFun ((W1_arr m ρ c (4 : Fin 5)).trans fl) (ix3 u r w)
  exact ⟨fo, bwd_dq (V1 m ρ) c bq bk bv bd bo bl, bwd_dk (V1 m ρ) c bq bk bv bd bo bl, bwd_dv (V1 m ρ) c bq bk bv bd bo bl⟩
end

section
open Cert.ReferenceIdeal Cert.ReferenceIdeal.Read

variable {x0 x1 : FVec Ideal S8192x1024 .bf16} {x2 x3 : FVec Ideal S8192x512 .bf16}
variable {q k : Fin 8192 → Fin 1024 → ℝ} {v d : Fin 8192 → Fin 512 → ℝ}

/-- A whole array of the reference, from its values head by head. -/
theorem whole_narrow {y : S8192x512.Idx → EReal} {f : Fin 8192 → Fin 512 → ℝ}
    (h : ∀ b i h x, y (ix2 (Ref.row b i) (narrow h x)) = (f (Ref.row b i) (narrow h x) : EReal)) :
    y = fun z => (f (z 0) (z 1) : EReal) := by
  funext z
  obtain ⟨b, i, hr⟩ := Ref.exists_row (z 0)
  obtain ⟨e, x, hx⟩ := Ref.exists_narrow (z 1)
  have hz : z = ix2 (Ref.row b i) (narrow e x) := by
    funext a
    match a with
    | ⟨0, _⟩ => exact hr
    | ⟨1, _⟩ => exact hx
  rw [hz]; exact h b i e x

theorem whole_wide {y : S8192x1024.Idx → EReal} {f : Fin 8192 → Fin 1024 → ℝ}
    (h : ∀ b i h x, y (ix2 (Ref.row b i) (wide h x)) = (f (Ref.row b i) (wide h x) : EReal)) :
    y = fun z => (f (z 0) (z 1) : EReal) := by
  funext z
  obtain ⟨b, i, hr⟩ := Ref.exists_row (z 0)
  obtain ⟨e, x, hx⟩ := Ref.exists_wide (z 1)
  have hz : z = ix2 (Ref.row b i) (wide e x) := by
    funext a
    match a with
    | ⟨0, _⟩ => exact hr
    | ⟨1, _⟩ => exact hx
  rw [hz]; exact h b i e x
end

/-- The value claim. -/
theorem algebraic : Cert.algebraic_KernelIdeal_ReferenceIdeal_pre_finite := by
  intro m g m' g' pre same
  let q : Dev Cert.KernelIdeal.nD → Fin 8192 → Fin 1024 → ℝ := fun c r x =>
    EReal.toReal (m ((c.tc : Thread Cert.KernelIdeal.nD Cert.KernelIdeal.τ).loc Cert.KernelIdeal.main_arg0) (ix2 r x))
  let k : Dev Cert.KernelIdeal.nD → Fin 8192 → Fin 1024 → ℝ := fun c r x =>
    EReal.toReal (m ((c.tc : Thread Cert.KernelIdeal.nD Cert.KernelIdeal.τ).loc Cert.KernelIdeal.main_arg1) (ix2 r x))
  let v : Dev Cert.KernelIdeal.nD → Fin 8192 → Fin 512 → ℝ := fun c r x =>
    EReal.toReal (m ((c.tc : Thread Cert.KernelIdeal.nD Cert.KernelIdeal.τ).loc Cert.KernelIdeal.main_arg2) (ix2 r x))
  let d : Dev Cert.KernelIdeal.nD → Fin 8192 → Fin 512 → ℝ := fun c r x =>
    EReal.toReal (m ((c.tc : Thread Cert.KernelIdeal.nD Cert.KernelIdeal.τ).loc Cert.KernelIdeal.main_arg3) (ix2 r x))
  have hq : ∀ (c : Dev Cert.KernelIdeal.nD) (r) (x), m ((c.tc : Thread Cert.KernelIdeal.nD Cert.KernelIdeal.τ).loc Cert.KernelIdeal.main_arg0) (ix2 r x) = (q c r x : EReal) :=
    fun c r x => real_of_below (congrFun (pre c).1 (ix2 r x))
  have hk : ∀ (c : Dev Cert.KernelIdeal.nD) (r) (x), m ((c.tc : Thread Cert.KernelIdeal.nD Cert.KernelIdeal.τ).loc Cert.KernelIdeal.main_arg1) (ix2 r x) = (k c r x : EReal) :=
    fun c r x => real_of_below (congrFun (pre c).2.1 (ix2 r x))
  have hv : ∀ (c : Dev Cert.KernelIdeal.nD) (r) (x), m ((c.tc : Thread Cert.KernelIdeal.nD Cert.KernelIdeal.τ).loc Cert.KernelIdeal.main_arg2) (ix2 r x) = (v c r x : EReal) :=
    fun c r x => real_of_below (congrFun (pre c).2.2.1 (ix2 r x))
  have hd : ∀ (c : Dev Cert.KernelIdeal.nD) (r) (x), m ((c.tc : Thread Cert.KernelIdeal.nD Cert.KernelIdeal.τ).loc Cert.KernelIdeal.main_arg3) (ix2 r x) = (d c r x : EReal) :=
    fun c r x => real_of_below (congrFun (pre c).2.2.2 (ix2 r x))
  refine ⟨fun c => fun y : Cert.KernelIdeal.S8192x512.Idx => (output (q c) (k c) (v c) (y 0) (y 1) : EReal),
    fun c => fun y : Cert.KernelIdeal.S8192x1024.Idx => (dquery (q c) (k c) (v c) (d c) (y 0) (y 1) : EReal),
    fun c => fun y : Cert.KernelIdeal.S8192x1024.Idx => (dkey (q c) (k c) (v c) (d c) (y 0) (y 1) : EReal),
    fun c => fun y : Cert.KernelIdeal.S8192x512.Idx => (dvalue (q c) (k c) (d c) (y 0) (y 1) : EReal), ?_, ?_⟩
  · refine (θ_run Cert.KernelIdeal.defs _ _).mono (fun r h c => ?_) (run m g)
    obtain ⟨⟨h0, h1, h2, h3⟩, ha⟩ := h c
    obtain ⟨e0, e1, e2, e3⟩ := values m g hq hk hv hd c
    exact ⟨h0.trans e0, h1.trans e1, h2.trans e2, h3.trans e3, ha⟩
  · refine (θ_run Cert.ReferenceIdeal.defs _ _).mono (fun r h c => ?_) (Cert.ReferenceIdeal.Value.run (F := Ideal) m' g')
    obtain ⟨h0, h1, h2, h3, ha⟩ := h c
    obtain ⟨s0, s1, s2, s3⟩ := same c
    have rq : ∀ r x, m' ((c.tc : Thread Cert.ReferenceIdeal.nD Cert.ReferenceIdeal.τ).loc Cert.ReferenceIdeal.main_arg0) (ix2 r x) = (q c r x : EReal) :=
      fun r x => (congrFun s0 _).trans (hq c r x)
    have rk : ∀ r x, m' ((c.tc : Thread Cert.ReferenceIdeal.nD Cert.ReferenceIdeal.τ).loc Cert.ReferenceIdeal.main_arg1) (ix2 r x) = (k c r x : EReal) :=
      fun r x => (congrFun s1 _).trans (hk c r x)
    have rv : ∀ r x, m' ((c.tc : Thread Cert.ReferenceIdeal.nD Cert.ReferenceIdeal.τ).loc Cert.ReferenceIdeal.main_arg2) (ix2 r x) = (v c r x : EReal) :=
      fun r x => (congrFun s2 _).trans (hv c r x)
    have rd : ∀ r x, m' ((c.tc : Thread Cert.ReferenceIdeal.nD Cert.ReferenceIdeal.τ).loc Cert.ReferenceIdeal.main_arg3) (ix2 r x) = (d c r x : EReal) :=
      fun r x => (congrFun s3 _).trans (hd c r x)
    exact ⟨h0.trans ((Cert.ReferenceIdeal.Read.val_main_v37_eq _ _ _).trans (whole_narrow (Ref.ref_o rq rk rv))),
      h1.trans ((Cert.ReferenceIdeal.Read.val_main_v63_eq m' c).trans (whole_wide (Ref.ref_dq rq rk rv rd))),
      h2.trans ((Cert.ReferenceIdeal.Read.val_main_v61_eq m' c).trans (whole_wide (Ref.ref_dk rq rk rv rd))),
      h3.trans ((Cert.ReferenceIdeal.Read.val_main_v44_eq _ _ _).trans (whole_narrow (Ref.ref_dv rq rk rd))), ha⟩

end Cert.Attn

end
-- ==== Proof.Wgrad2.lean ====
/-
  The gradient of the gate weight: what the call computes at each grid point, the sum over the points of a column block, and the
  array it leaves, an entry of which is the sum over all 8192 rows of the products of two columns.
-/
module

public import proofs.«01_k».proof.Proof.Gen.Kernel2Ideal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Wgrad2

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- An entry of the operand whose columns are the gradient's rows. -/
def left (r : Fin 8192) (j : Fin 2816) : EReal := m ((c.tc : Thread nD τ).loc main_arg1) (ix2 r j)

/-- An entry of the operand whose columns are the gradient's columns. -/
def right (r : Fin 8192) (e : Fin 1024) : EReal := m ((c.tc : Thread nD τ).loc main_arg0) (ix2 r e)

/-- The gradient's entry for two columns. -/
def entry (j : Fin 2816) (e : Fin 1024) : EReal := ∑ r : Fin 8192, left m c r j * right m c r e

/-- The row of the whole operands that row `a` of grid point `t`'s blocks is. -/
def row (t : Fin 8) (a : Fin 2048) : Fin 8192 := ⟨t.val % 4 * 2048 + a.val, by omega⟩

/-- The column of the right operand that column `e` of grid point `t`'s block is. -/
def col (t : Fin 8) (e : Fin 512) : Fin 1024 := ⟨t.val / 4 * 512 + e.val + 0, by omega⟩

/-- The column of the right operand that column `e` of the gradient belongs to. -/
def place (e : Fin 1024) : Fin 1024 := ⟨e.val + 0, by omega⟩

/-- What grid point `t` adds to the running sum. -/
def term (t : Fin 8) (y : S2816x512.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 0)
    ∧ (win0_2.index t 0 = 0 ∧ win0_2.index t 1 = t.val / 4) := by
  decide +kernel

theorem blk_left (t : Fin cfg0.N) (a : Fin 2048) (j : Fin 2816) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 512) : iblk m c (1 : Fin 3) t (ix2 a e) = right m c (row t a) (col t e) := by
  obtain ⟨-, ⟨h0, h1⟩, -⟩ := idx0 t
  unfold right
  blk_ext [iblk, V, h0, h1, row, col]

section
variable {t : Fin 8} {x0 : Vec Ideal S2048x2816 .bf16} {x1 : Vec Ideal S2048x512 .bf16}

/-- The product of a point's two blocks. -/
theorem pay_part (h0 : ∀ a j, x0 (ix2 a j) = left m c (row t a) j) (h1 : ∀ a e, x1 (ix2 a e) = right m c (row t a) (col t e))
    (y0 : Fin 2816) (y1 : Fin 512) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 2816) (y1 : Fin 512) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S2816x512 .f32) (y0 : Fin 2816) (y1 : Fin 512) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S2816x512.Idx) :
    (outsAt0 m c t.val t.isLt).2 y = 0 + term m c t y := by
  idx_vars y
  have ht : t.val < 8 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S2816x512.Idx) :
    (outsAt0 m c t.val t.isLt).2 y
      = (outsAt0 m c (t.val - 1) (Nat.lt_of_le_of_lt (Nat.sub_le _ _) t.isLt)).2 y + term m c t y := by
  idx_vars y
  have ht : t.val < 8 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 2816) (y1 : Fin 512) :
    (outsAt0 m c t.val t.isLt).1 (ix2 y0 y1) = (outsAt0 m c t.val t.isLt).2 (ix2 y0 y1) := by
  have ht : t.val < 8 := t.isLt
  rw [outsAt0_C m c t (by omega) (by omega) h]
  frame_open
  simp (disch := decide) only [↓ View.readCov_cons_toLoadRect]
  frame_out
  pointwise [k0_pay4]

/-- The four points of a column block run over all rows. -/
theorem sum_term (t : Fin 8) (g : ∀ s : Fin 4, 4 * (t.val / 4) + s.val < 8) (j : Fin 2816) (e : Fin 512) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S2816x1024.Idx => entry m c (y 0) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S2816x512.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (Fin.ext ?_) (Fin.ext ?_))
  · blk_simp
    simp only [h0]
    omega
  · simp only [place]
    blk_simp
    simp only [h1, col]
    omega

end Cert.Wgrad2

end
-- ==== Proof.WgradClaim2.lean ====
/-
  The gradient of the gate weight: the reference's value, the call's run, and that the two agree.
-/
module

public import proofs.«01_k».proof.Defs
public import proofs.«01_k».proof.Proof.Wgrad2
public import proofs.«01_k».proof.Proof.Gen.Reference2Ideal.Read
public import proofs.«01_k».proof.Proof.Gen.Reference2Ideal.Run
public import Idealize.ShloMosaic.Lib.KernelVsHost
public import Idealize.ShloMosaic.Lib.Pointwise

@[expose] public section

set_option maxRecDepth 16384

noncomputable section

namespace Cert.Wgrad2

open Idealize.ShloMosaic Idealize.ShloMosaic.TcCoe Idealize.SL.Sem

section
open Cert.Reference2Ideal

/-- The reference's entry for two columns. -/
theorem ref_entry (x0 : (⟨S8192x1024, .bf16⟩ : BufTy).Contents (Elt Ideal)) (x1 : (⟨S8192x2816, .bf16⟩ : BufTy).Contents (Elt Ideal))
    (y0 : Fin 2816) (y1 : Fin 1024) :
    Read.val_main_v7 (F := Ideal) x0 x1 (ix2 y0 y1) = ∑ r : Fin 8192, (x1 (ix2 r y0) : EReal) * (x0 (ix2 r ⟨y1.val + 0, by omega⟩) : EReal) := by
  have e1 : ∀ r : Fin 8192, Read.lidx_main_v4 (Read.idx_main_v5 (Read.idx_main_v6 (ix2 y0 y1))) r = ix2 r y0 := fun r =>
    funext fun a => by
      match a with
      | ⟨0, _⟩ => rfl
      | ⟨1, _⟩ => rfl
  have e0 : ∀ r : Fin 8192, Read.ridx_main_v4 (Read.idx_main_v5 (Read.idx_main_v6 (ix2 y0 y1))) r = ix2 r ⟨y1.val + 0, by omega⟩ := fun r =>
    funext fun a => by
      match a with
      | ⟨0, _⟩ => rfl
      | ⟨1, _⟩ => rfl
  refine Eq.trans (b := ∑ r : Fin 8192, (x1 (Read.lidx_main_v4 (Read.idx_main_v5 (Read.idx_main_v6 (ix2 y0 y1))) r) : EReal) * (x0 (Read.ridx_main_v4 (Read.idx_main_v5 (Read.idx_main_v6 (ix2 y0 y1))) r) : EReal)) ?_ ?_
  · rw [Read.val_main_v7_apply, Read.val_main_v6_apply, Read.val_main_v5_apply, Read.val_main_v4_apply]
    rfl
  · simp only [e1, e0]

/-- The reference's run reads its arguments and has no semaphore. -/
theorem frame_reference : Cert.quiescent_Reference2Ideal := by
  intro m ρ _
  exact (θ_run Cert.Reference2Ideal.defs _ _).mono
    (fun r h => ⟨fun c => (h c).2, Idealize.ShloMosaic.sem_eq_zero_of_no_sems (by decide) r.2⟩)
    (Cert.Reference2Ideal.Value.run (F := Ideal) m ρ)
end

/-- The value claim. -/
theorem algebraic : Cert.algebraic_Kernel2Ideal_Reference2Ideal := by
  intro m g m' g' _ same
  refine ⟨fun c => fun y : Cert.Kernel2Ideal.S2816x1024.Idx =>
    entry m c (y 0) (place (y 1)), ?_, ?_⟩
  · refine (θ_run Cert.Kernel2Ideal.defs _ _).mono (fun r h c => ?_)
      (θ_run_and (Cert.Kernel2Ideal.Gen.run_main m g) (Cert.Kernel2Ideal.Gen.unchanged m g))
    exact ⟨((h.1 c).1 (2 : Fin 3)).trans (array m c), h.2 c⟩
  · refine (θ_run Cert.Reference2Ideal.defs _ _).mono (fun r h c => ?_) (Cert.Reference2Ideal.Value.run (F := Ideal) m' g')
    obtain ⟨h0, ha⟩ := h c
    obtain ⟨s0, s1⟩ := same c
    refine ⟨h0.trans ((Cert.Reference2Ideal.Read.val_main_v7_eq _ _).trans ?_), ha⟩
    funext y
    change Cert.Reference2Ideal.S2816x1024.Idx at y
    idx_vars y
    refine (ref_entry _ _ y0 y1).trans ?_
    rw [s0, s1]
    rfl

end Cert.Wgrad2

end
-- ==== Proof.Wgrad3.lean ====
/-
  The gradient of the up weight: what the call computes at each grid point, the sum over the points of a column block, and the
  array it leaves, an entry of which is the sum over all 8192 rows of the products of two columns.
-/
module

public import proofs.«01_k».proof.Proof.Gen.Kernel3Ideal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Wgrad3

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- An entry of the operand whose columns are the gradient's rows. -/
def left (r : Fin 8192) (j : Fin 2816) : EReal := m ((c.tc : Thread nD τ).loc main_arg1) (ix2 r j)

/-- An entry of the operand whose columns are the gradient's columns. -/
def right (r : Fin 8192) (e : Fin 1024) : EReal := m ((c.tc : Thread nD τ).loc main_arg0) (ix2 r e)

/-- The gradient's entry for two columns. -/
def entry (j : Fin 2816) (e : Fin 1024) : EReal := ∑ r : Fin 8192, left m c r j * right m c r e

/-- The row of the whole operands that row `a` of grid point `t`'s blocks is. -/
def row (t : Fin 8) (a : Fin 2048) : Fin 8192 := ⟨t.val % 4 * 2048 + a.val, by omega⟩

/-- The column of the right operand that column `e` of grid point `t`'s block is. -/
def col (t : Fin 8) (e : Fin 512) : Fin 1024 := ⟨t.val / 4 * 512 + e.val + 0, by omega⟩

/-- The column of the right operand that column `e` of the gradient belongs to. -/
def place (e : Fin 1024) : Fin 1024 := ⟨e.val + 0, by omega⟩

/-- What grid point `t` adds to the running sum. -/
def term (t : Fin 8) (y : S2816x512.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 0)
    ∧ (win0_2.index t 0 = 0 ∧ win0_2.index t 1 = t.val / 4) := by
  decide +kernel

theorem blk_left (t : Fin cfg0.N) (a : Fin 2048) (j : Fin 2816) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 512) : iblk m c (1 : Fin 3) t (ix2 a e) = right m c (row t a) (col t e) := by
  obtain ⟨-, ⟨h0, h1⟩, -⟩ := idx0 t
  unfold right
  blk_ext [iblk, V, h0, h1, row, col]

section
variable {t : Fin 8} {x0 : Vec Ideal S2048x2816 .bf16} {x1 : Vec Ideal S2048x512 .bf16}

/-- The product of a point's two blocks. -/
theorem pay_part (h0 : ∀ a j, x0 (ix2 a j) = left m c (row t a) j) (h1 : ∀ a e, x1 (ix2 a e) = right m c (row t a) (col t e))
    (y0 : Fin 2816) (y1 : Fin 512) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 2816) (y1 : Fin 512) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S2816x512 .f32) (y0 : Fin 2816) (y1 : Fin 512) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S2816x512.Idx) :
    (outsAt0 m c t.val t.isLt).2 y = 0 + term m c t y := by
  idx_vars y
  have ht : t.val < 8 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S2816x512.Idx) :
    (outsAt0 m c t.val t.isLt).2 y
      = (outsAt0 m c (t.val - 1) (Nat.lt_of_le_of_lt (Nat.sub_le _ _) t.isLt)).2 y + term m c t y := by
  idx_vars y
  have ht : t.val < 8 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 2816) (y1 : Fin 512) :
    (outsAt0 m c t.val t.isLt).1 (ix2 y0 y1) = (outsAt0 m c t.val t.isLt).2 (ix2 y0 y1) := by
  have ht : t.val < 8 := t.isLt
  rw [outsAt0_C m c t (by omega) (by omega) h]
  frame_open
  simp (disch := decide) only [↓ View.readCov_cons_toLoadRect]
  frame_out
  pointwise [k0_pay4]

/-- The four points of a column block run over all rows. -/
theorem sum_term (t : Fin 8) (g : ∀ s : Fin 4, 4 * (t.val / 4) + s.val < 8) (j : Fin 2816) (e : Fin 512) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S2816x1024.Idx => entry m c (y 0) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S2816x512.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (Fin.ext ?_) (Fin.ext ?_))
  · blk_simp
    simp only [h0]
    omega
  · simp only [place]
    blk_simp
    simp only [h1, col]
    omega

end Cert.Wgrad3

end
-- ==== Proof.WgradClaim3.lean ====
/-
  The gradient of the up weight: the reference's value, the call's run, and that the two agree.
-/
module

public import proofs.«01_k».proof.Defs
public import proofs.«01_k».proof.Proof.Wgrad3
public import proofs.«01_k».proof.Proof.Gen.Reference3Ideal.Read
public import proofs.«01_k».proof.Proof.Gen.Reference3Ideal.Run
public import Idealize.ShloMosaic.Lib.KernelVsHost
public import Idealize.ShloMosaic.Lib.Pointwise

@[expose] public section

set_option maxRecDepth 16384

noncomputable section

namespace Cert.Wgrad3

open Idealize.ShloMosaic Idealize.ShloMosaic.TcCoe Idealize.SL.Sem

section
open Cert.Reference3Ideal

/-- The reference's entry for two columns. -/
theorem ref_entry (x0 : (⟨S8192x1024, .bf16⟩ : BufTy).Contents (Elt Ideal)) (x1 : (⟨S8192x2816, .bf16⟩ : BufTy).Contents (Elt Ideal))
    (y0 : Fin 2816) (y1 : Fin 1024) :
    Read.val_main_v7 (F := Ideal) x0 x1 (ix2 y0 y1) = ∑ r : Fin 8192, (x1 (ix2 r y0) : EReal) * (x0 (ix2 r ⟨y1.val + 0, by omega⟩) : EReal) := by
  have e1 : ∀ r : Fin 8192, Read.lidx_main_v4 (Read.idx_main_v5 (Read.idx_main_v6 (ix2 y0 y1))) r = ix2 r y0 := fun r =>
    funext fun a => by
      match a with
      | ⟨0, _⟩ => rfl
      | ⟨1, _⟩ => rfl
  have e0 : ∀ r : Fin 8192, Read.ridx_main_v4 (Read.idx_main_v5 (Read.idx_main_v6 (ix2 y0 y1))) r = ix2 r ⟨y1.val + 0, by omega⟩ := fun r =>
    funext fun a => by
      match a with
      | ⟨0, _⟩ => rfl
      | ⟨1, _⟩ => rfl
  refine Eq.trans (b := ∑ r : Fin 8192, (x1 (Read.lidx_main_v4 (Read.idx_main_v5 (Read.idx_main_v6 (ix2 y0 y1))) r) : EReal) * (x0 (Read.ridx_main_v4 (Read.idx_main_v5 (Read.idx_main_v6 (ix2 y0 y1))) r) : EReal)) ?_ ?_
  · rw [Read.val_main_v7_apply, Read.val_main_v6_apply, Read.val_main_v5_apply, Read.val_main_v4_apply]
    rfl
  · simp only [e1, e0]

/-- The reference's run reads its arguments and has no semaphore. -/
theorem frame_reference : Cert.quiescent_Reference3Ideal := by
  intro m ρ _
  exact (θ_run Cert.Reference3Ideal.defs _ _).mono
    (fun r h => ⟨fun c => (h c).2, Idealize.ShloMosaic.sem_eq_zero_of_no_sems (by decide) r.2⟩)
    (Cert.Reference3Ideal.Value.run (F := Ideal) m ρ)
end

/-- The value claim. -/
theorem algebraic : Cert.algebraic_Kernel3Ideal_Reference3Ideal := by
  intro m g m' g' _ same
  refine ⟨fun c => fun y : Cert.Kernel3Ideal.S2816x1024.Idx =>
    entry m c (y 0) (place (y 1)), ?_, ?_⟩
  · refine (θ_run Cert.Kernel3Ideal.defs _ _).mono (fun r h c => ?_)
      (θ_run_and (Cert.Kernel3Ideal.Gen.run_main m g) (Cert.Kernel3Ideal.Gen.unchanged m g))
    exact ⟨((h.1 c).1 (2 : Fin 3)).trans (array m c), h.2 c⟩
  · refine (θ_run Cert.Reference3Ideal.defs _ _).mono (fun r h c => ?_) (Cert.Reference3Ideal.Value.run (F := Ideal) m' g')
    obtain ⟨h0, ha⟩ := h c
    obtain ⟨s0, s1⟩ := same c
    refine ⟨h0.trans ((Cert.Reference3Ideal.Read.val_main_v7_eq _ _).trans ?_), ha⟩
    funext y
    change Cert.Reference3Ideal.S2816x1024.Idx at y
    idx_vars y
    refine (ref_entry _ _ y0 y1).trans ?_
    rw [s0, s1]
    rfl

end Cert.Wgrad3

end
-- ==== Proof.Wgrad4.lean ====
/-
  The gradient of the down weight: what the call computes at each grid point, the sum over the points of a column block, and the
  array it leaves, an entry of which is the sum over all 8192 rows of the products of two columns.
-/
module

public import proofs.«01_k».proof.Proof.Gen.Kernel4Ideal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Wgrad4

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- An entry of the operand whose columns are the gradient's rows. -/
def left (r : Fin 8192) (j : Fin 2816) : EReal := m ((c.tc : Thread nD τ).loc main_arg0) (ix2 r j)

/-- An entry of the operand whose columns are the gradient's columns. -/
def right (r : Fin 8192) (e : Fin 1024) : EReal := m ((c.tc : Thread nD τ).loc main_arg1) (ix2 r e)

/-- The gradient's entry for two columns. -/
def entry (j : Fin 2816) (e : Fin 1024) : EReal := ∑ r : Fin 8192, left m c r j * right m c r e

/-- The row of the whole operands that row `a` of grid point `t`'s blocks is. -/
def row (t : Fin 8) (a : Fin 2048) : Fin 8192 := ⟨t.val % 4 * 2048 + a.val, by omega⟩

/-- The column of the right operand that column `e` of grid point `t`'s block is. -/
def col (t : Fin 8) (e : Fin 512) : Fin 1024 := ⟨t.val / 4 * 512 + e.val + 0, by omega⟩

/-- The column of the right operand that column `e` of the gradient belongs to. -/
def place (e : Fin 1024) : Fin 1024 := ⟨e.val + 0, by omega⟩

/-- What grid point `t` adds to the running sum. -/
def term (t : Fin 8) (y : S2816x512.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 0)
    ∧ (win0_2.index t 0 = 0 ∧ win0_2.index t 1 = t.val / 4) := by
  decide +kernel

theorem blk_left (t : Fin cfg0.N) (a : Fin 2048) (j : Fin 2816) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 512) : iblk m c (1 : Fin 3) t (ix2 a e) = right m c (row t a) (col t e) := by
  obtain ⟨-, ⟨h0, h1⟩, -⟩ := idx0 t
  unfold right
  blk_ext [iblk, V, h0, h1, row, col]

section
variable {t : Fin 8} {x0 : Vec Ideal S2048x2816 .bf16} {x1 : Vec Ideal S2048x512 .bf16}

/-- The product of a point's two blocks. -/
theorem pay_part (h0 : ∀ a j, x0 (ix2 a j) = left m c (row t a) j) (h1 : ∀ a e, x1 (ix2 a e) = right m c (row t a) (col t e))
    (y0 : Fin 2816) (y1 : Fin 512) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 2816) (y1 : Fin 512) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S2816x512 .f32) (y0 : Fin 2816) (y1 : Fin 512) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S2816x512.Idx) :
    (outsAt0 m c t.val t.isLt).2 y = 0 + term m c t y := by
  idx_vars y
  have ht : t.val < 8 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S2816x512.Idx) :
    (outsAt0 m c t.val t.isLt).2 y
      = (outsAt0 m c (t.val - 1) (Nat.lt_of_le_of_lt (Nat.sub_le _ _) t.isLt)).2 y + term m c t y := by
  idx_vars y
  have ht : t.val < 8 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 2816) (y1 : Fin 512) :
    (outsAt0 m c t.val t.isLt).1 (ix2 y0 y1) = (outsAt0 m c t.val t.isLt).2 (ix2 y0 y1) := by
  have ht : t.val < 8 := t.isLt
  rw [outsAt0_C m c t (by omega) (by omega) h]
  frame_open
  simp (disch := decide) only [↓ View.readCov_cons_toLoadRect]
  frame_out
  pointwise [k0_pay4]

/-- The four points of a column block run over all rows. -/
theorem sum_term (t : Fin 8) (g : ∀ s : Fin 4, 4 * (t.val / 4) + s.val < 8) (j : Fin 2816) (e : Fin 512) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S2816x1024.Idx => entry m c (y 0) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S2816x512.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (Fin.ext ?_) (Fin.ext ?_))
  · blk_simp
    simp only [h0]
    omega
  · simp only [place]
    blk_simp
    simp only [h1, col]
    omega

end Cert.Wgrad4

end
-- ==== Proof.WgradClaim4.lean ====
/-
  The gradient of the down weight: the reference's value, the call's run, and that the two agree.
-/
module

public import proofs.«01_k».proof.Defs
public import proofs.«01_k».proof.Proof.Wgrad4
public import proofs.«01_k».proof.Proof.Gen.Reference4Ideal.Read
public import proofs.«01_k».proof.Proof.Gen.Reference4Ideal.Run
public import Idealize.ShloMosaic.Lib.KernelVsHost
public import Idealize.ShloMosaic.Lib.Pointwise

@[expose] public section

set_option maxRecDepth 16384

noncomputable section

namespace Cert.Wgrad4

open Idealize.ShloMosaic Idealize.ShloMosaic.TcCoe Idealize.SL.Sem

section
open Cert.Reference4Ideal

/-- The reference's entry for two columns. -/
theorem ref_entry (x0 : (⟨S8192x2816, .bf16⟩ : BufTy).Contents (Elt Ideal)) (x1 : (⟨S8192x1024, .bf16⟩ : BufTy).Contents (Elt Ideal))
    (y0 : Fin 2816) (y1 : Fin 1024) :
    Read.val_main_v6 (F := Ideal) x0 x1 (ix2 y0 y1) = ∑ r : Fin 8192, (x0 (ix2 r y0) : EReal) * (x1 (ix2 r ⟨y1.val + 0, by omega⟩) : EReal) := by
  have e1 : ∀ r : Fin 8192, Read.lidx_main_v4 (Read.idx_main_v5 (ix2 y0 y1)) r = ix2 r ⟨y1.val + 0, by omega⟩ := fun r =>
    funext fun a => by
      match a with
      | ⟨0, _⟩ => rfl
      | ⟨1, _⟩ => rfl
  have e0 : ∀ r : Fin 8192, Read.ridx_main_v4 (Read.idx_main_v5 (ix2 y0 y1)) r = ix2 r y0 := fun r =>
    funext fun a => by
      match a with
      | ⟨0, _⟩ => rfl
      | ⟨1, _⟩ => rfl
  refine Eq.trans (b := ∑ r : Fin 8192, (x1 (Read.lidx_main_v4 (Read.idx_main_v5 (ix2 y0 y1)) r) : EReal) * (x0 (Read.ridx_main_v4 (Read.idx_main_v5 (ix2 y0 y1)) r) : EReal)) ?_ ?_
  · rw [Read.val_main_v6_apply, Read.val_main_v5_apply, Read.val_main_v4_apply]
    rfl
  · simp only [e1, e0, mul_comm]

/-- The reference's run reads its arguments and has no semaphore. -/
theorem frame_reference : Cert.quiescent_Reference4Ideal := by
  intro m ρ _
  exact (θ_run Cert.Reference4Ideal.defs _ _).mono
    (fun r h => ⟨fun c => (h c).2, Idealize.ShloMosaic.sem_eq_zero_of_no_sems (by decide) r.2⟩)
    (Cert.Reference4Ideal.Value.run (F := Ideal) m ρ)
end

/-- The value claim. -/
theorem algebraic : Cert.algebraic_Kernel4Ideal_Reference4Ideal := by
  intro m g m' g' _ same
  refine ⟨fun c => fun y : Cert.Kernel4Ideal.S2816x1024.Idx =>
    entry m c (y 0) (place (y 1)), ?_, ?_⟩
  · refine (θ_run Cert.Kernel4Ideal.defs _ _).mono (fun r h c => ?_)
      (θ_run_and (Cert.Kernel4Ideal.Gen.run_main m g) (Cert.Kernel4Ideal.Gen.unchanged m g))
    exact ⟨((h.1 c).1 (2 : Fin 3)).trans (array m c), h.2 c⟩
  · refine (θ_run Cert.Reference4Ideal.defs _ _).mono (fun r h c => ?_) (Cert.Reference4Ideal.Value.run (F := Ideal) m' g')
    obtain ⟨h0, ha⟩ := h c
    obtain ⟨s0, s1⟩ := same c
    refine ⟨h0.trans ((Cert.Reference4Ideal.Read.val_main_v6_eq _ _).trans ?_), ha⟩
    funext y
    change Cert.Reference4Ideal.S2816x1024.Idx at y
    idx_vars y
    refine (ref_entry _ _ y0 y1).trans ?_
    rw [s0, s1]
    rfl

end Cert.Wgrad4

end
-- ==== Proof.Wgrad5.lean ====
/-
  The gradient of the attention block's out weight: what the call computes at each grid point, the sum over the points of a column block, and the
  array it leaves, an entry of which is the sum over all 8192 rows of the products of two columns.
-/
module

public import proofs.«01_k».proof.Proof.Gen.Kernel5Ideal.Frame
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Wgrad5

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- An entry of the operand whose columns are the gradient's rows. -/
def left (r : Fin 8192) (j : Fin 1024) : EReal := m ((c.tc : Thread nD τ).loc main_arg0) (ix2 r j)

/-- An entry of the operand whose columns are the gradient's columns. -/
def right (r : Fin 8192) (e : Fin 1024) : EReal := m ((c.tc : Thread nD τ).loc main_arg1) (ix2 r e)

/-- The gradient's entry for two columns. -/
def entry (j : Fin 1024) (e : Fin 1024) : EReal := ∑ r : Fin 8192, left m c r j * right m c r e

/-- The row of the whole operands that row `a` of grid point `t`'s blocks is. -/
def row (t : Fin 4) (a : Fin 2048) : Fin 8192 := ⟨t.val % 4 * 2048 + a.val, by omega⟩

/-- The column of the right operand that column `e` of grid point `t`'s block is. -/
def col (t : Fin 4) (e : Fin 1024) : Fin 1024 := ⟨t.val / 4 * 1024 + e.val + 0, by omega⟩

/-- The column of the right operand that column `e` of the gradient belongs to. -/
def place (e : Fin 1024) : Fin 1024 := ⟨e.val + 0, by omega⟩

/-- What grid point `t` adds to the running sum. -/
def term (t : Fin 4) (y : S1024x1024.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 0)
    ∧ (win0_2.index t 0 = 0 ∧ win0_2.index t 1 = t.val / 4) := by
  decide +kernel

theorem blk_left (t : Fin cfg0.N) (a : Fin 2048) (j : Fin 1024) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 1024) : iblk m c (1 : Fin 3) t (ix2 a e) = right m c (row t a) (col t e) := by
  obtain ⟨-, ⟨h0, h1⟩, -⟩ := idx0 t
  unfold right
  blk_ext [iblk, V, h0, h1, row, col]

section
variable {t : Fin 4} {x0 : Vec Ideal S2048x1024 .bf16} {x1 : Vec Ideal S2048x1024 .bf16}

/-- The product of a point's two blocks. -/
theorem pay_part (h0 : ∀ a j, x0 (ix2 a j) = left m c (row t a) j) (h1 : ∀ a e, x1 (ix2 a e) = right m c (row t a) (col t e))
    (y0 : Fin 1024) (y1 : Fin 1024) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 1024) (y1 : Fin 1024) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S1024x1024 .f32) (y0 : Fin 1024) (y1 : Fin 1024) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S1024x1024.Idx) :
    (outsAt0 m c t.val t.isLt).2 y = 0 + term m c t y := by
  idx_vars y
  have ht : t.val < 4 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + term m c t y := by
  idx_vars y
  have ht : t.val < 4 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 1024) (y1 : Fin 1024) :
    (outsAt0 m c t.val t.isLt).1 (ix2 y0 y1) = (outsAt0 m c t.val t.isLt).2 (ix2 y0 y1) := by
  have ht : t.val < 4 := t.isLt
  rw [outsAt0_C m c t (by omega) (by omega) h]
  frame_open
  simp (disch := decide) only [↓ View.readCov_cons_toLoadRect]
  frame_out
  pointwise [k0_pay4]

/-- The four points of a column block run over all rows. -/
theorem sum_term (t : Fin 4) (g : ∀ s : Fin 4, 4 * (t.val / 4) + s.val < 4) (j : Fin 1024) (e : Fin 1024) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S1024x1024.Idx => entry m c (y 0) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S1024x1024.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (Fin.ext ?_) (Fin.ext ?_))
  · blk_simp
    simp only [h0]
    omega
  · simp only [place]
    blk_simp
    simp only [h1, col]
    omega

end Cert.Wgrad5

end
-- ==== Proof.WgradClaim5.lean ====
/-
  The gradient of the attention block's out weight: the reference's value, the call's run, and that the two agree.
-/
module

public import proofs.«01_k».proof.Defs
public import proofs.«01_k».proof.Proof.Wgrad5
public import proofs.«01_k».proof.Proof.Gen.Reference5Ideal.Read
public import proofs.«01_k».proof.Proof.Gen.Reference5Ideal.Run
public import Idealize.ShloMosaic.Lib.KernelVsHost
public import Idealize.ShloMosaic.Lib.Pointwise

@[expose] public section

set_option maxRecDepth 16384

noncomputable section

namespace Cert.Wgrad5

open Idealize.ShloMosaic Idealize.ShloMosaic.TcCoe Idealize.SL.Sem

section
open Cert.Reference5Ideal

/-- The reference's entry for two columns. -/
theorem ref_entry (x0 : (⟨S8192x1024, .bf16⟩ : BufTy).Contents (Elt Ideal)) (x1 : (⟨S8192x1024, .bf16⟩ : BufTy).Contents (Elt Ideal))
    (y0 : Fin 1024) (y1 : Fin 1024) :
    Read.val_main_v6 (F := Ideal) x0 x1 (ix2 y0 y1) = ∑ r : Fin 8192, (x0 (ix2 r y0) : EReal) * (x1 (ix2 r ⟨y1.val + 0, by omega⟩) : EReal) := by
  have e1 : ∀ r : Fin 8192, Read.lidx_main_v4 (Read.idx_main_v5 (ix2 y0 y1)) r = ix2 r ⟨y1.val + 0, by omega⟩ := fun r =>
    funext fun a => by
      match a with
      | ⟨0, _⟩ => rfl
      | ⟨1, _⟩ => rfl
  have e0 : ∀ r : Fin 8192, Read.ridx_main_v4 (Read.idx_main_v5 (ix2 y0 y1)) r = ix2 r y0 := fun r =>
    funext fun a => by
      match a with
      | ⟨0, _⟩ => rfl
      | ⟨1, _⟩ => rfl
  refine Eq.trans (b := ∑ r : Fin 8192, (x1 (Read.lidx_main_v4 (Read.idx_main_v5 (ix2 y0 y1)) r) : EReal) * (x0 (Read.ridx_main_v4 (Read.idx_main_v5 (ix2 y0 y1)) r) : EReal)) ?_ ?_
  · rw [Read.val_main_v6_apply, Read.val_main_v5_apply, Read.val_main_v4_apply]
    rfl
  · simp only [e1, e0, mul_comm]

/-- The reference's run reads its arguments and has no semaphore. -/
theorem frame_reference : Cert.quiescent_Reference5Ideal := by
  intro m ρ _
  exact (θ_run Cert.Reference5Ideal.defs _ _).mono
    (fun r h => ⟨fun c => (h c).2, Idealize.ShloMosaic.sem_eq_zero_of_no_sems (by decide) r.2⟩)
    (Cert.Reference5Ideal.Value.run (F := Ideal) m ρ)
end

/-- The value claim. -/
theorem algebraic : Cert.algebraic_Kernel5Ideal_Reference5Ideal := by
  intro m g m' g' _ same
  refine ⟨fun c => fun y : Cert.Kernel5Ideal.S1024x1024.Idx =>
    entry m c (y 0) (place (y 1)), ?_, ?_⟩
  · refine (θ_run Cert.Kernel5Ideal.defs _ _).mono (fun r h c => ?_)
      (θ_run_and (Cert.Kernel5Ideal.Gen.run_main m g) (Cert.Kernel5Ideal.Gen.unchanged m g))
    exact ⟨((h.1 c).1 (2 : Fin 3)).trans (array m c), h.2 c⟩
  · refine (θ_run Cert.Reference5Ideal.defs _ _).mono (fun r h c => ?_) (Cert.Reference5Ideal.Value.run (F := Ideal) m' g')
    obtain ⟨h0, ha⟩ := h c
    obtain ⟨s0, s1⟩ := same c
    refine ⟨h0.trans ((Cert.Reference5Ideal.Read.val_main_v6_eq _ _).trans ?_), ha⟩
    funext y
    change Cert.Reference5Ideal.S1024x1024.Idx at y
    idx_vars y
    refine (ref_entry _ _ y0 y1).trans ?_
    rw [s0, s1]
    rfl

end Cert.Wgrad5

end
-- ==== Proof.Wgrad6.lean ====
/-
  The gradient of the first half of the input weight: what the call computes at each grid point, the sum over the points of a column block, and the
  array it leaves, an entry of which is the sum over all 8192 rows of the products of two columns.
-/
module

public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Wgrad6

open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- An entry of the operand whose columns are the gradient's rows. -/
def left (r : Fin 8192) (j : Fin 3328) : EReal := m ((c.tc : Thread nD τ).loc main_arg1) (ix2 r j)

/-- An entry of the operand whose columns are the gradient's columns. -/
def right (r : Fin 8192) (e : Fin 1024) : EReal := m ((c.tc : Thread nD τ).loc main_arg0) (ix2 r e)

/-- The gradient's entry for two columns. -/
def entry (j : Fin 3328) (e : Fin 1024) : EReal := ∑ r : Fin 8192, left m c r j * right m c r e

/-- The row of the whole operands that row `a` of grid point `t`'s blocks is. -/
def row (t : Fin 4) (a : Fin 2048) : Fin 8192 := ⟨t.val % 4 * 2048 + a.val, by omega⟩

/-- The column of the right operand that column `e` of grid point `t`'s block is. -/
def col (t : Fin 4) (e : Fin 512) : Fin 1024 := ⟨t.val / 4 * 512 + e.val + 0, by omega⟩

/-- The column of the right operand that column `e` of the gradient belongs to. -/
def place (e : Fin 512) : Fin 1024 := ⟨e.val + 0, by omega⟩

/-- The column of the left operand that row `j` of the gradient belongs to. -/
def wide (j : Fin 3264) : Fin 3328 := ⟨j.val, by omega⟩

/-- What grid point `t` adds to the running sum. -/
def term (t : Fin 4) (y : S3328x512.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 0)
    ∧ (win0_2.index t 0 = 0 ∧ win0_2.index t 1 = t.val / 4) := by
  decide +kernel

theorem blk_left (t : Fin cfg0.N) (a : Fin 2048) (j : Fin 3328) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 512) : iblk m c (1 : Fin 3) t (ix2 a e) = right m c (row t a) (col t e) := by
  obtain ⟨-, ⟨h0, h1⟩, -⟩ := idx0 t
  unfold right
  blk_ext [iblk, V, h0, h1, row, col]

section
variable {t : Fin 4} {x0 : Vec Ideal S2048x3328 .bf16} {x1 : Vec Ideal S2048x512 .bf16}

/-- The product of a point's two blocks. -/
theorem pay_part (h0 : ∀ a j, x0 (ix2 a j) = left m c (row t a) j) (h1 : ∀ a e, x1 (ix2 a e) = right m c (row t a) (col t e))
    (y0 : Fin 3328) (y1 : Fin 512) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 3328) (y1 : Fin 512) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S3328x512 .f32) (y0 : Fin 3328) (y1 : Fin 512) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S3328x512.Idx) :
    (outsAt0 m c t.val t.isLt).2 y = 0 + term m c t y := by
  idx_vars y
  have ht : t.val < 4 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S3328x512.Idx) :
    (outsAt0 m c t.val t.isLt).2 y
      = (outsAt0 m c (t.val - 1) (Nat.lt_of_le_of_lt (Nat.sub_le _ _) t.isLt)).2 y + term m c t y := by
  idx_vars y
  have ht : t.val < 4 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 3264) (y1 : Fin 512) :
    (outsAt0 m c t.val t.isLt).1 (ix2 y0 y1) = (outsAt0 m c t.val t.isLt).2 (ix2 (wide y0) y1) := by
  have ht : t.val < 4 := t.isLt
  rw [outsAt0_C m c t (by omega) (by omega) h]
  frame_open
  simp (disch := decide) only [↓ View.readCov_cons_toLoadRect]
  simp (disch := decide) only [↓ View.readCov_fill]
  frame_out
  pointwise [k0_pay4, wide]

/-- The four points of a column block run over all rows. -/
theorem sum_term (t : Fin 4) (g : ∀ s : Fin 4, 4 * (t.val / 4) + s.val < 4) (j : Fin 3328) (e : Fin 512) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S3264x512.Idx => entry m c (wide (y 0)) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S3264x512.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (congrArg wide (Fin.ext ?_)) (Fin.ext ?_))
  · blk_simp
    simp only [h0]
    omega
  · simp only [place]
    blk_simp
    simp only [h1, col]
    omega

end Cert.Wgrad6

end
-- ==== Proof.WgradClaim6.lean ====
/-
  The gradient of the first half of the input weight: the reference's value, the call's run, and that the two agree.
-/
module

public import proofs.«01_k».proof.Defs
public import proofs.«01_k».proof.Proof.Wgrad6
public import proofs.«01_k».proof.Proof.Gen.Reference6Ideal.Read
public import proofs.«01_k».proof.Proof.Gen.Reference6Ideal.Run
public import Idealize.ShloMosaic.Lib.KernelVsHost
public import Idealize.ShloMosaic.Lib.Pointwise

@[expose] public section

set_option maxRecDepth 16384

noncomputable section

namespace Cert.Wgrad6

open Idealize.ShloMosaic Idealize.ShloMosaic.TcCoe Idealize.SL.Sem

section
open Cert.Reference6Ideal

/-- The reference's entry for two columns. -/
theorem ref_entry (x0 : (⟨S8192x1024, .bf16⟩ : BufTy).Contents (Elt Ideal)) (x1 : (⟨S8192x3328, .bf16⟩ : BufTy).Contents (Elt Ideal))
    (y0 : Fin 3264) (y1 : Fin 512) :
    Read.val_main_v9 (F := Ideal) x0 x1 (ix2 y0 y1) = ∑ r : Fin 8192, (x1 (ix2 r ⟨y0.val, by omega⟩) : EReal) * (x0 (ix2 r ⟨y1.val + 0, by omega⟩) : EReal) := by
  have e1 : ∀ r : Fin 8192, Read.idx_main_v0 (Read.lidx_main_v5 (Read.idx_main_v6 (Read.idx_main_v7 (Read.idx_main_v8 (ix2 y0 y1)))) r) = ix2 r ⟨y0.val, by omega⟩ := fun r =>
    funext fun a => by
      match a with
      | ⟨0, _⟩ => rfl
      | ⟨1, _⟩ => rfl
  have e0 : ∀ r : Fin 8192, Read.ridx_main_v5 (Read.idx_main_v6 (Read.idx_main_v7 (Read.idx_main_v8 (ix2 y0 y1)))) r = ix2 r ⟨y1.val + 0, by omega⟩ := fun r =>
    funext fun a => by
      match a with
      | ⟨0, _⟩ => rfl
      | ⟨1, _⟩ => rfl
  refine Eq.trans (b := ∑ r : Fin 8192, (x1 (Read.idx_main_v0 (Read.lidx_main_v5 (Read.idx_main_v6 (Read.idx_main_v7 (Read.idx_main_v8 (ix2 y0 y1)))) r)) : EReal) * (x0 (Read.ridx_main_v5 (Read.idx_main_v6 (Read.idx_main_v7 (Read.idx_main_v8 (ix2 y0 y1)))) r) : EReal)) ?_ ?_
  · rw [Read.val_main_v9_apply, Read.val_main_v8_apply, Read.val_main_v7_apply, Read.val_main_v6_apply, Read.val_main_v5_apply]
    exact Finset.sum_congr rfl fun r _ => congrArg (· * (x0 (Read.ridx_main_v5 (Read.idx_main_v6 (Read.idx_main_v7 (Read.idx_main_v8 (ix2 y0 y1)))) r) : EReal)) (Read.val_main_v0_apply x1 _)
  · simp only [e1, e0]

/-- The reference's run reads its arguments and has no semaphore. -/
theorem frame_reference : Cert.quiescent_Reference6Ideal := by
  intro m ρ _
  exact (θ_run Cert.Reference6Ideal.defs _ _).mono
    (fun r h => ⟨fun c => (h c).2, Idealize.ShloMosaic.sem_eq_zero_of_no_sems (by decide) r.2⟩)
    (Cert.Reference6Ideal.Value.run (F := Ideal) m ρ)
end

/-- The value claim. -/
theorem algebraic : Cert.algebraic_Kernel6Ideal_Reference6Ideal := by
  intro m g m' g' _ same
  refine ⟨fun c => fun y : Cert.Kernel6Ideal.S3264x512.Idx =>
    entry m c (wide (y 0)) (place (y 1)), ?_, ?_⟩
  · refine (θ_run Cert.Kernel6Ideal.defs _ _).mono (fun r h c => ?_)
      (θ_run_and (Cert.Kernel6Ideal.Gen.run_main m g) (Cert.Kernel6Ideal.Gen.unchanged m g))
    exact ⟨((h.1 c).1 (2 : Fin 3)).trans (array m c), h.2 c⟩
  · refine (θ_run Cert.Reference6Ideal.defs _ _).mono (fun r h c => ?_) (Cert.Reference6Ideal.Value.run (F := Ideal) m' g')
    obtain ⟨h0, ha⟩ := h c
    obtain ⟨s0, s1⟩ := same c
    refine ⟨h0.trans ((Cert.Reference6Ideal.Read.val_main_v9_eq _ _).trans ?_), ha⟩
    funext y
    change Cert.Reference6Ideal.S3264x512.Idx at y
    idx_vars y
    refine (ref_entry _ _ y0 y1).trans ?_
    rw [s0, s1]
    rfl

end Cert.Wgrad6

end
-- ==== Proof.Wgrad7.lean ====
/-
  The gradient of the second half of the input weight: what the call computes at each grid point, the sum over the points of a column block, and the
  array it leaves, an entry of which is the sum over all 8192 rows of the products of two columns.
-/
module

public import proofs.«01_k».proof.Proof.Gen.Kernel7Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Wgrad7

open Idealize.ShloMosaic Idealize.ShloMosaic.TcCoe Idealize.SL.Sem
open Cert.Kernel7Ideal Cert.Kernel7Ideal.Gen

variable (m : (ℓ : Loc nD τ sig) → Buf (Elt Ideal) ℓ) (c : Dev nD)

/-- An entry of the operand whose columns are the gradient's rows. -/
def left (r : Fin 8192) (j : Fin 3328) : EReal := m ((c.tc : Thread nD τ).loc main_arg1) (ix2 r j)

/-- An entry of the operand whose columns are the gradient's columns. -/
def right (r : Fin 8192) (e : Fin 1024) : EReal := m ((c.tc : Thread nD τ).loc main_arg0) (ix2 r e)

/-- The gradient's entry for two columns. -/
def entry (j : Fin 3328) (e : Fin 1024) : EReal := ∑ r : Fin 8192, left m c r j * right m c r e

/-- The row of the whole operands that row `a` of grid point `t`'s blocks is. -/
def row (t : Fin 4) (a : Fin 2048) : Fin 8192 := ⟨t.val % 4 * 2048 + a.val, by omega⟩

/-- The column of the right operand that column `e` of grid point `t`'s block is. -/
def col (t : Fin 4) (e : Fin 512) : Fin 1024 := ⟨t.val / 4 * 512 + e.val + 512, by omega⟩

/-- The column of the right operand that column `e` of the gradient belongs to. -/
def place (e : Fin 512) : Fin 1024 := ⟨e.val + 512, by omega⟩

/-- The column of the left operand that row `j` of the gradient belongs to. -/
def wide (j : Fin 3264) : Fin 3328 := ⟨j.val, by omega⟩

/-- What grid point `t` adds to the running sum. -/
def term (t : Fin 4) (y : S3328x512.Idx) : EReal := ∑ a : Fin 2048, left m c (row t a) (y 0) * right m c (row t a) (col t (y 1))

/-- Where the blocks lie at grid point `t`. -/
theorem idx0 : ∀ t : Fin grid0.N,
    (win0_0.index t 0 = t.val % 4 ∧ win0_0.index t 1 = 0)
    ∧ (win0_1.index t 0 = t.val % 4 ∧ win0_1.index t 1 = t.val / 4 + 1)
    ∧ (win0_2.index t 0 = 0 ∧ win0_2.index t 1 = t.val / 4) := by
  decide +kernel

theorem blk_left (t : Fin cfg0.N) (a : Fin 2048) (j : Fin 3328) : iblk m c (0 : Fin 3) t (ix2 a j) = left m c (row t a) j := by
  obtain ⟨⟨h0, h1⟩, -⟩ := idx0 t
  unfold left
  blk_ext [iblk, V, h0, h1, row]

theorem blk_right (t : Fin cfg0.N) (a : Fin 2048) (e : Fin 512) : iblk m c (1 : Fin 3) t (ix2 a e) = right m c (row t a) (col t e) := by
  obtain ⟨-, ⟨h0, h1⟩, -⟩ := idx0 t
  unfold right
  blk_ext [iblk, V, h0, h1, row, col]

section
variable {t : Fin 4} {x0 : Vec Ideal S2048x3328 .bf16} {x1 : Vec Ideal S2048x512 .bf16}

/-- The product of a point's two blocks. -/
theorem pay_part (h0 : ∀ a j, x0 (ix2 a j) = left m c (row t a) j) (h1 : ∀ a e, x1 (ix2 a e) = right m c (row t a) (col t e))
    (y0 : Fin 3328) (y1 : Fin 512) : k0_pay1 x0 x1 (ix2 y0 y1) = term m c t (ix2 y0 y1) := by
  pointwise [k0_pay1, term, h0, h1]

theorem pay_first (h0 : ∀ a j, x0 (ix2 a j) = left m c (row t a) j) (h1 : ∀ a e, x1 (ix2 a e) = right m c (row t a) (col t e))
    (y0 : Fin 3328) (y1 : Fin 512) : k0_pay2 x0 x1 (ix2 y0 y1) = 0 + term m c t (ix2 y0 y1) := by
  rw [zero_add, ← pay_part m c h0 h1]
  pointwise [k0_pay2]

theorem pay_next (h0 : ∀ a j, x0 (ix2 a j) = left m c (row t a) j) (h1 : ∀ a e, x1 (ix2 a e) = right m c (row t a) (col t e))
    (s : Vec Ideal S3328x512 .f32) (y0 : Fin 3328) (y1 : Fin 512) :
    k0_pay3 x0 x1 s (ix2 y0 y1) = s (ix2 y0 y1) + term m c t (ix2 y0 y1) := by
  rw [← pay_part m c h0 h1]
  pointwise [k0_pay3]
end

/-- The running sum after the first point of a column block. -/
theorem sum_first (t : Fin cfg0.N) (h : t.val % 4 = 0) (y : S3328x512.Idx) :
    (outsAt0 m c t.val t.isLt).2 y = 0 + term m c t y := by
  idx_vars y
  have ht : t.val < 4 := t.isLt
  rw [outsAt0_A m c t h (by omega) (by omega)]
  frame_open
  simp (disch := decide) only [↓ View.readCov_cons_toLoadRect]
  frame_out
  exact pay_first m c (blk_left m c t) (blk_right m c t) y0 y1

/-- The running sum after a later point. -/
theorem sum_next (t : Fin cfg0.N) (h : ¬t.val % 4 = 0) (y : S3328x512.Idx) :
    (outsAt0 m c t.val t.isLt).2 y
      = (outsAt0 m c (t.val - 1) (Nat.lt_of_le_of_lt (Nat.sub_le _ _) t.isLt)).2 y + term m c t y := by
  idx_vars y
  have ht : t.val < 4 := t.isLt
  by_cases h3 : t.val % 4 = 3
  · rw [outsAt0_C m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)
  · rw [outsAt0_B m c t h (by omega) h3]
    frame_open
    simp (disch := decide) only [↓ View.readCov_cons_toLoadRect]
    frame_out
    refine (pay_next m c (blk_left m c t) (blk_right m c t) _ y0 y1).trans ?_
    exact congrArg (· + term m c t (ix2 y0 y1)) (congrFun (Memref.IsWhole.read_unread _ _) _)

/-- At the last point of a column block the running sum is stored. -/
theorem stored (t : Fin cfg0.N) (h : t.val % 4 = 3) (y0 : Fin 3264) (y1 : Fin 512) :
    (outsAt0 m c t.val t.isLt).1 (ix2 y0 y1) = (outsAt0 m c t.val t.isLt).2 (ix2 (wide y0) y1) := by
  have ht : t.val < 4 := t.isLt
  rw [outsAt0_C m c t (by omega) (by omega) h]
  frame_open
  simp (disch := decide) only [↓ View.readCov_cons_toLoadRect]
  simp (disch := decide) only [↓ View.readCov_fill]
  frame_out
  pointwise [k0_pay4, wide]

/-- The four points of a column block run over all rows. -/
theorem sum_term (t : Fin 4) (g : ∀ s : Fin 4, 4 * (t.val / 4) + s.val < 4) (j : Fin 3328) (e : Fin 512) :
    ∑ s : Fin 4, term m c ⟨4 * (t.val / 4) + s.val, g s⟩ (ix2 j e) = entry m c j (col t e) := by
  refine Fin.sum_mul_add_congr fun s a hl => ?_
  have hr : row ⟨4 * (t.val / 4) + s.val, g s⟩ a = ⟨s.val * 2048 + a.val, hl⟩ := Fin.ext (by simp only [row]; omega)
  have hc : col ⟨4 * (t.val / 4) + s.val, g s⟩ e = col t e := Fin.ext (by simp only [col]; omega)
  change left m c (row ⟨4 * (t.val / 4) + s.val, g s⟩ a) j * right m c (row ⟨4 * (t.val / 4) + s.val, g s⟩ a) (col ⟨4 * (t.val / 4) + s.val, g s⟩ e) = _
  rw [hr, hc]

/-- The array the call leaves. -/
theorem array : (dats m 0 c).arrAt (2 : Fin 3) cfg0.N
    = fun y : S3264x512.Idx => entry m c (wide (y 0)) (place (y 1)) := by
  refine (dats m 0 c).arrAt_eq_of_covers (2 : Fin 3) _ (by decide +kernel) fun t hf y => ?_
  obtain ⟨-, -, ⟨h0, h1⟩⟩ := idx0 t
  have h3 : t.val % 4 = 3 := (flush0_2 t).mp hf
  blk_simp
  rw [after0_2]
  change S3264x512.Idx at y
  idx_vars y
  rw [stored m c t h3 y0 y1, Pipeline.eq_sum_fin_of_reset_step_apply_of_flush (fun n h => (outsAt0 m c n h).2) 4 (fun _ => 0) (term m c)
    (sum_first m c) (sum_next m c) t h3, zero_add]
  refine (sum_term m c t _ _ y1).trans (congrArg₂ (entry m c) (congrArg wide (Fin.ext ?_)) (Fin.ext ?_))
  · blk_simp
    simp only [h0]
    omega
  · simp only [place]
    blk_simp
    simp only [h1, col]

end Cert.Wgrad7

end
-- ==== Proof.WgradClaim7.lean ====
/-
  The gradient of the second half of the input weight: the reference's value, the call's run, and that the two agree.
-/
module

public import proofs.«01_k».proof.Defs
public import proofs.«01_k».proof.Proof.Wgrad7
public import proofs.«01_k».proof.Proof.Gen.Reference7Ideal.Read
public import proofs.«01_k».proof.Proof.Gen.Reference7Ideal.Run
public import Idealize.ShloMosaic.Lib.KernelVsHost
public import Idealize.ShloMosaic.Lib.Pointwise

@[expose] public section

set_option maxRecDepth 16384

noncomputable section

namespace Cert.Wgrad7

open Idealize.ShloMosaic Idealize.ShloMosaic.TcCoe Idealize.SL.Sem

section
open Cert.Reference7Ideal

/-- The reference's entry for two columns. -/
theorem ref_entry (x0 : (⟨S8192x1024, .bf16⟩ : BufTy).Contents (Elt Ideal)) (x1 : (⟨S8192x3328, .bf16⟩ : BufTy).Contents (Elt Ideal))
    (y0 : Fin 3264) (y1 : Fin 512) :
    Read.val_main_v9 (F := Ideal) x0 x1 (ix2 y0 y1) = ∑ r : Fin 8192, (x1 (ix2 r ⟨y0.val, by omega⟩) : EReal) * (x0 (ix2 r ⟨y1.val + 512, by omega⟩) : EReal) := by
  have e1 : ∀ r : Fin 8192, Read.idx_main_v0 (Read.lidx_main_v5 (Read.idx_main_v6 (Read.idx_main_v7 (Read.idx_main_v8 (ix2 y0 y1)))) r) = ix2 r ⟨y0.val, by omega⟩ := fun r =>
    funext fun a => by
      match a with
      | ⟨0, _⟩ => rfl
      | ⟨1, _⟩ => rfl
  have e0 : ∀ r : Fin 8192, Read.ridx_main_v5 (Read.idx_main_v6 (Read.idx_main_v7 (Read.idx_main_v8 (ix2 y0 y1)))) r = ix2 r ⟨y1.val + 512, by omega⟩ := fun r =>
    funext fun a => by
      match a with
      | ⟨0, _⟩ => rfl
      | ⟨1, _⟩ => exact Fin.ext (show 512 + y1.val = y1.val + 512 from Nat.add_comm _ _)
  refine Eq.trans (b := ∑ r : Fin 8192, (x1 (Read.idx_main_v0 (Read.lidx_main_v5 (Read.idx_main_v6 (Read.idx_main_v7 (Read.idx_main_v8 (ix2 y0 y1)))) r)) : EReal) * (x0 (Read.ridx_main_v5 (Read.idx_main_v6 (Read.idx_main_v7 (Read.idx_main_v8 (ix2 y0 y1)))) r) : EReal)) ?_ ?_
  · rw [Read.val_main_v9_apply, Read.val_main_v8_apply, Read.val_main_v7_apply, Read.val_main_v6_apply, Read.val_main_v5_apply]
    exact Finset.sum_congr rfl fun r _ => congrArg (· * (x0 (Read.ridx_main_v5 (Read.idx_main_v6 (Read.idx_main_v7 (Read.idx_main_v8 (ix2 y0 y1)))) r) : EReal)) (Read.val_main_v0_apply x1 _)
  · simp only [e1, e0]

/-- The reference's run reads its arguments and has no semaphore. -/
theorem frame_reference : Cert.quiescent_Reference7Ideal := by
  intro m ρ _
  exact (θ_run Cert.Reference7Ideal.defs _ _).mono
    (fun r h => ⟨fun c => (h c).2, Idealize.ShloMosaic.sem_eq_zero_of_no_sems (by decide) r.2⟩)
    (Cert.Reference7Ideal.Value.run (F := Ideal) m ρ)
end

/-- The value claim. -/
theorem algebraic : Cert.algebraic_Kernel7Ideal_Reference7Ideal := by
  intro m g m' g' _ same
  refine ⟨fun c => fun y : Cert.Kernel7Ideal.S3264x512.Idx =>
    entry m c (wide (y 0)) (place (y 1)), ?_, ?_⟩
  · refine (θ_run Cert.Kernel7Ideal.defs _ _).mono (fun r h c => ?_)
      (θ_run_and (Cert.Kernel7Ideal.Gen.run_main m g) (Cert.Kernel7Ideal.Gen.unchanged m g))
    exact ⟨((h.1 c).1 (2 : Fin 3)).trans (array m c), h.2 c⟩
  · refine (θ_run Cert.Reference7Ideal.defs _ _).mono (fun r h c => ?_) (Cert.Reference7Ideal.Value.run (F := Ideal) m' g')
    obtain ⟨h0, ha⟩ := h c
    obtain ⟨s0, s1⟩ := same c
    refine ⟨h0.trans ((Cert.Reference7Ideal.Read.val_main_v9_eq _ _).trans ?_), ha⟩
    funext y
    change Cert.Reference7Ideal.S3264x512.Idx at y
    idx_vars y
    refine (ref_entry _ _ y0 y1).trans ?_
    rw [s0, s1]
    rfl

end Cert.Wgrad7

end
-- ==== Proof.Post.lean ====
/-
  The functions of one token's row that the output projection, the feed-forward layer and the loss compute, over the
  extended reals.
-/
module

public import proofs.«01_k».proof.Proof.AttnMath
public import Mathlib.Algebra.BigOperators.Fin
public import Idealize.ShloMosaic.Lib.Pipeline.ValueKit

@[expose] public section

noncomputable section

namespace Cert.Post

open Idealize.ShloMosaic

/-- The shift that keeps a mean square away from zero. -/
def eps : EReal := Ideal.ofBits .f32 0x358637BD#32

/-- The mean square of a row, `d` its length. -/
def meanSq {n : ℕ} (d : EReal) (v : Fin n → EReal) : EReal := Ideal.div (∑ i, v i * v i) d

/-- A row over the root of its mean square, times a gain. -/
def norm {n : ℕ} (d : EReal) (v g : Fin n → EReal) (i : Fin n) : EReal := v i * Ideal.rsqrt (meanSq d v + eps) * g i

/-- `h` times its logistic. -/
def silu (h : EReal) : EReal := h * Ideal.logistic h

def c64 : EReal := Ideal.ofBits .f32 0x42800000#32
def c512 : EReal := Ideal.ofBits .f32 0x44000000#32
def c1024 : EReal := Ideal.ofBits .f32 0x44800000#32
def half : EReal := Ideal.ofBits .f32 0x3F000000#32

/-- Column `k` of head `h`, of eight heads with 64 columns. -/
def col (h : Fin 8) (k : Fin 64) : Fin 512 := ⟨h.val * 64 + k.val, by omega⟩

/-- The head of a column. -/
def head (i : Fin 512) : Fin 8 := ⟨i.val / 64, by omega⟩

/-- A row normalised head by head, times a gain and a gate. -/
def headOut (o h g : Fin 512 → EReal) (i : Fin 512) : EReal :=
  o i * Ideal.rsqrt (meanSq c64 (fun k => o (col (head i) k)) + eps) * g i * silu (h i)

/-- The left half of a row of 1024. -/
def lo (i : Fin 512) : Fin 1024 := ⟨i.val, by omega⟩

/-- The right half of a row of 1024. -/
def hi (i : Fin 512) : Fin 1024 := ⟨512 + i.val, by omega⟩

/-- Two rows of 512 side by side. -/
def beside (a b : Fin 512 → EReal) (i : Fin 1024) : EReal := if h : i.val < 512 then a ⟨i.val, h⟩ else b ⟨i.val - 512, by omega⟩

/-- A row times a matrix. -/
def times {n p : ℕ} (v : Fin n → EReal) (w : Fin n → Fin p → EReal) (j : Fin p) : EReal := ∑ k, v k * w k j

/-- The products of a row with the rows of a matrix. -/
def against {n p : ℕ} (v : Fin n → EReal) (w : Fin p → Fin n → EReal) (j : Fin p) : EReal := ∑ k, v k * w j k

/-- A product with two rows side by side is the sum of the products with the two halves of the matrix. -/
theorem times_beside {p : ℕ} (a b : Fin 512 → EReal) (w : Fin 1024 → Fin p → EReal) (j : Fin p) :
    times (beside a b) w j = ∑ k, a k * w (lo k) j + ∑ k, b k * w (hi k) j := by
  unfold times
  refine (Fin.sum_univ_add (a := 512) (b := 512) fun k : Fin (512 + 512) => beside a b k * w k j).trans ?_
  refine congrArg₂ (· + ·) (Finset.sum_congr rfl fun k _ => ?_) (Finset.sum_congr rfl fun k _ => ?_)
  · have e : beside a b (Fin.castAdd 512 k) = a k := by
      have h : (Fin.castAdd 512 k : Fin (512 + 512)).val < 512 := k.isLt
      exact (dif_pos h).trans (congrArg a (Fin.ext rfl))
    exact congrArg₂ (· * ·) e (congrArg (w · j) (Fin.ext rfl))
  · have e : beside a b (Fin.natAdd 512 k) = b k := by
      have h : ¬(Fin.natAdd 512 k : Fin (512 + 512)).val < 512 := by simp
      exact (dif_neg h).trans (congrArg b (Fin.ext (by simp)))
    exact congrArg₂ (· * ·) e (congrArg (w · j) (Fin.ext rfl))

/-- The arguments: `n` tokens' rows, and the weights. -/
structure Rows (n : ℕ) where
  x : Fin n → Fin 1024 → EReal
  f : Fin n → Fin 512 → EReal
  b : Fin n → Fin 512 → EReal
  hg : Fin n → Fin 512 → EReal
  oa : Fin n → Fin 512 → EReal
  tgt : Fin n → Fin 1024 → EReal
  gh : Fin 512 → EReal
  gm : Fin 512 → EReal
  wo : Fin 1024 → Fin 1024 → EReal
  g2 : Fin 1024 → EReal
  wg : Fin 2816 → Fin 1024 → EReal
  wu : Fin 2816 → Fin 1024 → EReal
  wd : Fin 2816 → Fin 1024 → EReal
  gf : Fin 1024 → EReal

namespace Rows

variable {n : ℕ} (A : Rows n)

/-- Some of the rows, with the same weights. -/
def take {p : ℕ} (e : Fin p → Fin n) : Rows p :=
  { A with x := fun r => A.x (e r), f := fun r => A.f (e r), b := fun r => A.b (e r), hg := fun r => A.hg (e r),
           oa := fun r => A.oa (e r), tgt := fun r => A.tgt (e r) }

/-- The recurrence's two directions added are real numbers. -/
def Real : Prop := ∀ r i, ∃ z : ℝ, A.f r i + A.b r i = (z : EReal)

variable (r : Fin n)

/-- The gated heads of the recurrence. -/
def ya : Fin 512 → EReal := headOut (fun i => A.f r i + A.b r i) (A.hg r) A.gh

/-- The normalised attention output. -/
def yb : Fin 512 → EReal := norm c512 (A.oa r) A.gm

/-- The input of the output projection. -/
def y : Fin 1024 → EReal := beside (A.ya r) (A.yb r)

/-- The residual stream after the output projection. -/
def x1 (k : Fin 1024) : EReal := A.x r k + times (A.y r) A.wo k

/-- The feed-forward layer's input. -/
def h : Fin 1024 → EReal := norm c1024 (A.x1 r) A.g2

def gate : Fin 2816 → EReal := against (A.h r) A.wg

def up : Fin 2816 → EReal := against (A.h r) A.wu

def act (j : Fin 2816) : EReal := silu (A.gate r j) * A.up r j

/-- The residual stream after the feed-forward layer. -/
def x2 (k : Fin 1024) : EReal := A.x1 r k + times (A.act r) A.wd k

/-- A row's error. -/
def err (k : Fin 1024) : EReal := norm c1024 (A.x2 r) A.gf k - A.tgt r k

/-- A row's mean squared error. -/
def loss : EReal := meanSq c1024 (A.err r)

/-- The kernel adds the two halves of the product one after the other. -/
theorem x1_halves (k : Fin 1024) : A.x1 r k = A.x r k + ∑ j, A.ya r j * A.wo (lo j) k + ∑ j, A.yb r j * A.wo (hi j) k := by
  rw [x1, y, times_beside, add_assoc]

end Rows

/-! ## The mean over a head as a product with a block matrix -/

/-- A number whose absolute value is below infinity is real. -/
theorem real_of_below {x : EReal} (h : FloatOps.cmpf (F := Ideal) (φ := .f32) .olt (max x (-x)) (Ideal.ofBits .f32 0x7F800000#32) = 1#1) :
    x = (x.toReal : EReal) := by
  have top : Ideal.ofBits .f32 0x7F800000#32 = ⊤ := by simp [Ideal.ofBits, Ideal.ieee]
  rw [top] at h
  have lt : max x (-x) < ⊤ := by
    by_contra hn
    have : Ideal.cmp .olt (max x (-x)) ⊤ = 0#1 := by simp only [Ideal.cmp, decide_eq_false hn]; rfl
    exact absurd (this.symm.trans h) (by decide)
  refine (EReal.coe_toReal (fun e => ?_) (fun e => ?_)).symm
  · rw [e] at lt; simp at lt
  · rw [e] at lt; simp at lt

theorem half_real : half = ((1 / 2 : ℝ) : EReal) := by
  unfold half
  simp only [Ideal.ofBits, Ideal.ieee]
  simp
  rw [← EReal.coe_mul]
  norm_num

theorem c64_real : c64 = ((64 : ℝ) : EReal) := by
  simp only [c64, Ideal.ofBits, Ideal.ieee]; simp; rw [← EReal.coe_mul]; norm_num

theorem inv64_real : Ideal.ofBits .f32 0x3C800000#32 = ((1 / 64 : ℝ) : EReal) := by
  simp only [Ideal.ofBits, Ideal.ieee]; simp; rw [← EReal.coe_mul]; norm_num

/-- A row of 512 is eight heads of 64. -/
theorem sum_heads (g : Fin 512 → EReal) : ∑ j, g j = ∑ h : Fin 8, ∑ k : Fin 64, g (col h k) :=
  (Fin.sum_mul_add_congr (S := 8) (n := 64) (fun s a hl => congrArg g (Fin.ext rfl))).symm

theorem head_col (h : Fin 8) (k : Fin 64) : head (col h k) = h := Fin.ext (by simp only [head, col]; omega)

/-- The kernel's mean of the squares over a head: a product with the matrix of 1/64 within a head, taken of the rounded
    squares and of what the rounding left. -/
theorem group_mean {O : Fin 512 → EReal} (hO : ∀ i, ∃ z : ℝ, O i = (z : EReal)) {M : Fin 512 → Fin 512 → EReal}
    (hM : ∀ j i, M j i = if head j = head i then Ideal.ofBits .f32 0x3C800000#32 else 0) (i : Fin 512) :
    ∑ j, O j * O j * M j i + ∑ j, (O j * O j - O j * O j) * M j i = meanSq c64 (fun k => O (col (head i) k)) := by
  choose z hz using hO
  have e : ∑ j, (O j * O j - O j * O j) * M j i = 0 :=
    Finset.sum_eq_zero fun j _ => by rw [hz, ← EReal.coe_mul, ← EReal.coe_sub, sub_self, EReal.coe_zero, zero_mul]
  rw [e, add_zero, sum_heads, Finset.sum_eq_single (head i)]
  · simp only [meanSq, hM, head_col, if_pos, hz, inv64_real, c64_real, ← EReal.coe_mul, Attn.coe_sum]
    rw [Attn.div_real _ _ (by norm_num), ← Finset.sum_mul, mul_one_div]
  · intro b _ hb
    exact Finset.sum_eq_zero fun k _ => by rw [hM, head_col, if_neg hb, mul_zero]
  · exact fun h => absurd (Finset.mem_univ _) h

end Cert.Post

end
-- ==== Proof.PostPay.lean ====
/-
  What the forward call computes for 256 rows: each stored value is the matching function of the rows.
-/
module

public import proofs.«01_k».proof.Proof.Post
public import proofs.«01_k».proof.Proof.Gen.Kernel8Ideal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Post

open Idealize.ShloMosaic Idealize.ShloMosaic.TcCoe Idealize.SL.Sem
open Cert.Kernel8Ideal Cert.Kernel8Ideal.Gen

/-! ## The matrix of 1/64 within a head -/

theorem quot : ∀ j : Fin 512, Scalar.select (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) =
    BitVec.ofNat 32 (head j).val := by
  decide +kernel

theorem left_head (j i : Fin 512) : k0_pay4 (ix2 j i) = BitVec.ofNat 32 (head j).val := by
  pointwise [k0_pay4]
  exact quot j

theorem right_head (j i : Fin 512) :
    Scalar.select (IntOp.andi (k0_pay6 (ix2 j i)) (IntOp.cmpi CmpIPredicate.ne (k0_pay7 (ix2 j i)) 0#32))
      (IntOp.subi (k0_pay5 (ix2 j i)) 1#32) (k0_pay5 (ix2 j i)) = BitVec.ofNat 32 (head i).val := by
  pointwise [k0_pay5, k0_pay6, k0_pay7]
  exact quot i

theorem same_head : ∀ a b : Fin 8, IntOp.cmpi CmpIPredicate.eq (BitVec.ofNat 32 a.val) (BitVec.ofNat 32 b.val) = if a = b then 1#1 else 0#1 := by
  decide +kernel

/-- The matrix of the means. -/
def means : FVec Ideal S512x512 .bf16 := k0_pay8 (F := Ideal) k0_pay4 k0_pay5 k0_pay6 k0_pay7 0#32

theorem means_at (j i : Fin 512) : (means (ix2 j i) : EReal) = if head j = head i then Ideal.ofBits .f32 0x3C800000#32 else 0 := by
  unfold means
  pointwise [k0_pay8]
  rw [left_head, right_head, same_head]
  split <;> rfl

/-! ## One row of a group of 256 -/

section Row

variable {A : Rows 256} (a : Fin 256)
variable {f b y : Vec Ideal S256x512 .bf16} {hg oa : Vec Ideal S256x512 .f32} {x tgt x1 : Vec Ideal S256x1024 .f32} {gh gm : Vec Ideal S1x512 .f32}
variable {w0 w1 : Vec Ideal S512x1024 .bf16} {g2 gf : Vec Ideal S1x1024 .f32} {h : Vec Ideal S256x1024 .bf16} {wg wu wd : Vec Ideal S2816x1024 .bf16} {gate : Vec Ideal S256x2816 .f32}
variable (hA : A.Real)
  (hf : ∀ i, f (ix2 a i) = A.f a i) (hb : ∀ i, b (ix2 a i) = A.b a i) (hh : ∀ i, hg (ix2 a i) = A.hg a i) (ho : ∀ i, oa (ix2 a i) = A.oa a i)
  (hx : ∀ k, x (ix2 a k) = A.x a k) (ht : ∀ k, tgt (ix2 a k) = A.tgt a k)
  (hgh : ∀ i, gh (ix2 0 i) = A.gh i) (hgm : ∀ i, gm (ix2 0 i) = A.gm i) (h0 : ∀ i k, w0 (ix2 i k) = A.wo (lo i) k) (h1 : ∀ i k, w1 (ix2 i k) = A.wo (hi i) k)
  (hg2 : ∀ k, g2 (ix2 0 k) = A.g2 k) (hgf : ∀ k, gf (ix2 0 k) = A.gf k)
  (hwg : ∀ j k, wg (ix2 j k) = A.wg j k) (hwu : ∀ j k, wu (ix2 j k) = A.wu j k) (hwd : ∀ j k, wd (ix2 j k) = A.wd j k)
  (hy : ∀ i, y (ix2 a i) = A.ya a i) (hx1 : ∀ k, x1 (ix2 a k) = A.x1 a k) (hr : ∀ k, h (ix2 a k) = A.h a k) (hgt : ∀ j, gate (ix2 a j) = A.gate a j)

include hA hf hb hh hgh in
theorem ya_first (i : Fin 512) : k0_pay9 (F := Ideal) k0_pay4 k0_pay5 k0_pay6 k0_pay7 0#32 f b hg gh (ix2 a i) = A.ya a i := by
  change k0_pay9 (F := Ideal) k0_pay4 k0_pay5 k0_pay6 k0_pay7 0#32 f b hg gh (ix2 a i) = _
  have e := group_mean (hA a) (M := fun j i => means (ix2 j i)) means_at i
  pointwise [k0_pay9]
  simp only [hf, hb, hh, hgh]
  simp only [means] at e
  rw [e]
  rfl

include hA hf hb hh hgh in
theorem ya_second (i : Fin 512) : k0_pay22 (F := Ideal) means f b hg gh (ix2 a i) = A.ya a i := by
  have e := group_mean (hA a) (M := fun j i => means (ix2 j i)) means_at i
  pointwise [k0_pay22]
  simp only [hf, hb, hh, hgh]
  rw [e]
  rfl

include ho hgm in
theorem yb_first (i : Fin 512) : k0_pay11 (F := Ideal) oa gm (k0_pay10 (F := Ideal) oa) (ix2 a i) = A.yb a i := by
  pointwise [k0_pay11, k0_pay10]
  simp only [ho, hgm]
  rfl

include ho hgm in
theorem yb_second (i : Fin 512) : k0_pay24 (F := Ideal) oa gm (k0_pay23 (F := Ideal) oa) (ix2 a i) = A.yb a i := by
  pointwise [k0_pay24, k0_pay23]
  simp only [ho, hgm]
  rfl

include ho hgm hy hx h0 h1 in
theorem x1_first (k : Fin 1024) : k0_pay12 (F := Ideal) y oa gm (k0_pay10 (F := Ideal) oa) x w0 w1 (ix2 a k) = A.x1 a k := by
  rw [A.x1_halves]
  pointwise [k0_pay12]
  simp only [yb_first a ho hgm, hy, hx, h0, h1]

include ho hgm hy hx h0 h1 in
theorem x1_second (k : Fin 1024) : k0_pay25 (F := Ideal) y oa gm (k0_pay23 (F := Ideal) oa) x w0 w1 (ix2 a k) = A.x1 a k := by
  rw [A.x1_halves]
  pointwise [k0_pay25]
  simp only [yb_second a ho hgm, hy, hx, h0, h1]

include ho hgm hy hx h0 h1 hg2 in
theorem h_first (k : Fin 1024) : k0_pay13 (F := Ideal) y oa gm (k0_pay10 (F := Ideal) oa) x w0 w1 g2 (ix2 a k) = A.h a k := by
  pointwise [k0_pay13]
  simp only [x1_first a ho hx hgm h0 h1 hy, hg2]
  rfl

include ho hgm hy hx h0 h1 hg2 in
theorem h_second (k : Fin 1024) : k0_pay26 (F := Ideal) y oa gm (k0_pay23 (F := Ideal) oa) x w0 w1 g2 (ix2 a k) = A.h a k := by
  pointwise [k0_pay26]
  simp only [x1_second a ho hx hgm h0 h1 hy, hg2]
  rfl

include hr hwg in
theorem gate_first (j : Fin 2816) : k0_pay14 (F := Ideal) h wg (ix2 a j) = A.gate a j := by
  pointwise [k0_pay14]
  simp only [hr, hwg]
  rfl

include hr hwg in
theorem gate_first' (j : Fin 2816) : k0_pay16 (F := Ideal) h wg (ix2 a j) = A.gate a j := by
  pointwise [k0_pay16]
  exact gate_first a hwg hr j

include hr hwu in
theorem up_first (j : Fin 2816) : k0_pay15 (F := Ideal) h wu (ix2 a j) = A.up a j := by
  pointwise [k0_pay15]
  simp only [hr, hwu]
  rfl

include hr hwu in
theorem up_first' (j : Fin 2816) : k0_pay17 (F := Ideal) h wu (ix2 a j) = A.up a j := by
  pointwise [k0_pay17]
  exact up_first a hwu hr j

include ho hgm hy hx h0 h1 hg2 hwg in
theorem gate_second (j : Fin 2816) : k0_pay27 (F := Ideal) y oa gm (k0_pay23 (F := Ideal) oa) x w0 w1 g2 wg (ix2 a j) = A.gate a j := by
  pointwise [k0_pay27]
  simp only [h_second a ho hx hgm h0 h1 hg2 hy, hwg]
  rfl

theorem gate_second' (j : Fin 2816) : k0_pay29 (F := Ideal) gate (ix2 a j) = gate (ix2 a j) := by
  pointwise [k0_pay29]

include hr hwu in
theorem up_second (j : Fin 2816) : k0_pay28 (F := Ideal) h wu (ix2 a j) = A.up a j := by
  pointwise [k0_pay28]
  simp only [hr, hwu]
  rfl

include hr hwu in
theorem up_second' (j : Fin 2816) : k0_pay30 (F := Ideal) h wu (ix2 a j) = A.up a j := by
  pointwise [k0_pay30]
  exact up_second a hwu hr j

include hx1 hr hwg hwu hwd in
theorem x2_first (k : Fin 1024) : k0_pay18 (F := Ideal) x1 h wg wu wd (ix2 a k) = A.x2 a k := by
  pointwise [k0_pay18]
  simp only [gate_first a hwg hr, up_first a hwu hr, hx1, hwd]
  rfl

include hx1 hr hgt hwu hwd in
theorem x2_second (k : Fin 1024) : k0_pay31 (F := Ideal) x1 h gate wu wd (ix2 a k) = A.x2 a k := by
  pointwise [k0_pay31]
  simp only [up_second a hwu hr, hx1, hgt, hwd]
  rfl

end Row

/-! ## The loss of 256 rows -/

section Loss

variable {A : Rows 256}
variable {x1 tgt : Vec Ideal S256x1024 .f32} {h : Vec Ideal S256x1024 .bf16} {wg wu wd : Vec Ideal S2816x1024 .bf16} {gate : Vec Ideal S256x2816 .f32} {gf : Vec Ideal S1x1024 .f32}
variable (hwg : ∀ j k, wg (ix2 j k) = A.wg j k) (hwu : ∀ j k, wu (ix2 j k) = A.wu j k) (hwd : ∀ j k, wd (ix2 j k) = A.wd j k) (hgf : ∀ k, gf (ix2 0 k) = A.gf k)
  (hx1 : ∀ a k, x1 (ix2 a k) = A.x1 a k) (hr : ∀ a k, h (ix2 a k) = A.h a k) (hgt : ∀ a j, gate (ix2 a j) = A.gate a j) (ht : ∀ a k, tgt (ix2 a k) = A.tgt a k)
  (s : FVec Ideal S1x1 .f32)

include hwg hwu hwd hgf hx1 hr ht in
theorem loss_first : k0_pay21 (F := Ideal) s (k0_pay19 (F := Ideal) x1 h wg wu wd gf tgt) k0_pay20 (ix2 0 0) = s (ix2 0 0) + half * ∑ a, A.loss a := by
  pointwise [k0_pay21, k0_pay19, k0_pay20]
  simp only [fun a => x2_first a hwg hwu hwd (hx1 a) (hr a), hgf, ht]
  rfl

include hwu hwd hgf hx1 hr hgt ht in
theorem loss_second : k0_pay32 (F := Ideal) x1 h gate wu wd gf tgt (ix2 0 0) = ∑ a, A.loss a := by
  pointwise [k0_pay32]
  simp only [fun a => x2_second a hwu hwd (hx1 a) (hr a) (hgt a), hgf, ht]
  rfl

end Loss

end Cert.Post

end
-- ==== Proof.PostRef.lean ====
/-
  The reference of the forward call, index by index.
-/
module

public import proofs.«01_k».proof.Proof.Post
public import proofs.«01_k».proof.Proof.Gen.Reference8Ideal.Read
public import Idealize.ShloMosaic.Lib.KernelVsHost
public import Idealize.ShloMosaic.Lib.Pointwise

@[expose] public section

set_option maxRecDepth 16384

noncomputable section

namespace Cert.Post.Ref

open Idealize.ShloMosaic Idealize.ShloMosaic.TcCoe Idealize.SL.Sem
open Cert.Reference8Ideal Cert.Reference8Ideal.Read

/-- Two indices of two coordinates that agree in each. -/
theorem same2 {s : Fin 2 → ℕ} {x y : (⟨2, s⟩ : Shape).Idx} (h0 : x 0 = y 0) (h1 : x 1 = y 1) : x = y := by
  funext a
  match a with
  | ⟨0, _⟩ => exact h0
  | ⟨1, _⟩ => exact h1

theorem same3 {s : Fin 3 → ℕ} {x y : (⟨3, s⟩ : Shape).Idx} (h0 : x 0 = y 0) (h1 : x 1 = y 1) (h2 : x 2 = y 2) : x = y := by
  funext a
  match a with
  | ⟨0, _⟩ => exact h0
  | ⟨1, _⟩ => exact h1
  | ⟨2, _⟩ => exact h2

theorem zero_lit : (FloatOps.ofBits (F := Ideal) .f32 0x00000000#32 : EReal) = 0 := by
  change Ideal.ofBits .f32 0x00000000#32 = 0
  simp [Ideal.ofBits, Ideal.ieee]

theorem one_lit : (FloatOps.ofBits (F := Ideal) .f32 0x3F800000#32 : EReal) = 1 := by
  change Ideal.ofBits .f32 0x3F800000#32 = 1
  simp only [Ideal.ofBits, Ideal.ieee]; simp; rw [← EReal.coe_mul]; norm_num

variable (x0 x5 : FVec Ideal S8192x1024 .f32) (x1 x2 : FVec Ideal S8192x512 .bf16) (x3 x4 : FVec Ideal S8192x512 .f32) (x6 x7 : FVec Ideal S1x512 .f32)
  (x8 : FVec Ideal S1024x1024 .bf16) (x9 x13 : FVec Ideal S1x1024 .f32) (x10 x11 x12 : FVec Ideal S2816x1024 .bf16)

/-- The arguments' entries. -/
def args : Rows 8192 where
  x r k := x0 (ix2 r k)
  f r i := x1 (ix2 r i)
  b r i := x2 (ix2 r i)
  hg r i := x3 (ix2 r i)
  oa r i := x4 (ix2 r i)
  tgt r k := x5 (ix2 r k)
  gh i := x6 (ix2 0 i)
  gm i := x7 (ix2 0 i)
  wo j k := x8 (ix2 j k)
  g2 k := x9 (ix2 0 k)
  wg j k := x10 (ix2 j k)
  wu j k := x11 (ix2 j k)
  wd j k := x12 (ix2 j k)
  gf k := x13 (ix2 0 k)

variable {x0 x1 x2 x3 x4 x5 x6 x7 x8 x9 x10 x11 x12 x13}
variable {A : Rows 8192} (hA : A = args x0 x5 x1 x2 x3 x4 x6 x7 x8 x9 x13 x10 x11 x12) (r : Fin 8192)
include hA

theorem v36 (i : Fin 512) : val_main_v36 (F := Ideal) x4 x7 (ix2 r i) = A.yb r i := by
  subst hA
  have e : ∀ k, idx_main_v26 (idx_main_v27 (idx_main_v33 (ix2 r i))) k = ix2 r k := fun k => same2 rfl rfl
  have e' : idx_main_v35 (ix2 r i) = ix2 0 i := same2 rfl rfl
  simp only [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_cst_2_apply, val_main_cst_3_apply, val_main_cst_4_apply, e, e', zero_lit, zero_add]
  rfl

theorem v23 (i : Fin 512) : val_main_v23 (F := Ideal) x3 (ix2 r i) = silu (A.hg r i) := by
  subst hA
  rw [val_main_v23_apply]
  simp only [val_main_call0_v5_apply, val_main_call0_v4_apply, val_main_call0_v3_apply, val_main_call0_v2_apply, val_main_call0_v1_apply,
    val_main_call0_v0_apply, val_main_call0_cst_apply, val_main_call0_cst_0_apply, one_lit]
  rfl

theorem v24 (i : Fin 512) : val_main_v24 (F := Ideal) x1 x2 x3 x6 (ix2 r i) = A.ya r i := by
  have h := v23 hA r i
  subst hA
  have hr : r.val < 8192 := r.isLt
  have hi : i.val < 512 := i.isLt
  have e1 : idx_main_v7 (idx_main_v22 (ix2 r i)) = ix2 r i := same2
    (Fin.ext (show (((r.val * 512 + i.val) / 512 * 8 + (r.val * 512 + i.val) / 64 % 8) * 64 + (r.val * 512 + i.val) % 64) / 512 = r.val by omega))
    (Fin.ext (show (((r.val * 512 + i.val) / 512 * 8 + (r.val * 512 + i.val) / 64 % 8) * 64 + (r.val * 512 + i.val) % 64) % 512 = i.val by omega))
  have e2 : ∀ k, idx_main_v7 (idx_main_v9 (idx_main_v10 (idx_main_v16 (idx_main_v22 (ix2 r i)))) k) = ix2 r (col (head i) k) := fun k => by
    have hk : k.val < 64 := k.isLt
    exact same2
      (Fin.ext (show (((r.val * 512 + i.val) / 512 * 8 + (r.val * 512 + i.val) / 64 % 8) * 64 + k.val) / 512 = r.val by omega))
      (Fin.ext (show (((r.val * 512 + i.val) / 512 * 8 + (r.val * 512 + i.val) / 64 % 8) * 64 + k.val) % 512 = i.val / 64 * 64 + k.val by omega))
  have e3 : idx_main_v18 (idx_main_v19 (idx_main_v20 (idx_main_v22 (ix2 r i)))) = ix2 0 i := same2 rfl
    (Fin.ext (show ((r.val * 512 + i.val) / 64 % 8 * 64 + (r.val * 512 + i.val) % 64) % 512 = i.val by omega))
  rw [val_main_v24_apply, h]
  simp only [val_main_v22_apply, val_main_v21_apply, val_main_v20_apply, val_main_v19_apply, val_main_v18_apply, val_main_v17_apply,
    val_main_v16_apply, val_main_v15_apply, val_main_v14_apply, val_main_v13_apply, val_main_v12_apply, val_main_v11_apply, val_main_v10_apply,
    val_main_v9_apply, val_main_v8_apply, val_main_v7_apply, val_main_v6_apply, val_main_v1_apply, val_main_v0_apply,
    val_main_cst_apply, val_main_cst_0_apply, val_main_cst_1_apply, e1, e2, e3, zero_lit, zero_add]
  rfl

theorem v37 (k : Fin 1024) : val_main_v37 (F := Ideal) x1 x2 x3 x4 x6 x7 (ix2 r k) = A.y r k := by
  unfold Rows.y beside
  by_cases h : k.val < 512
  · rw [dif_pos h, ← v24 hA]
    pointwise [val_main_v37]
    exact dif_pos h
  · rw [dif_neg h, ← v36 hA]
    pointwise [val_main_v37]
    exact dif_neg h

theorem v39 (k : Fin 1024) : val_main_v39 (F := Ideal) x0 x1 x2 x3 x4 x6 x7 x8 (ix2 r k) = A.x1 r k := by
  have e : ∀ j, lidx_main_v38 (ix2 r k) j = ix2 r j := fun j => same2 rfl rfl
  have e' : ∀ j, ridx_main_v38 (ix2 r k) j = ix2 j k := fun j => same2 rfl rfl
  rw [val_main_v39_apply, val_main_v38_apply]
  simp only [e, e', v37 hA, val_main_v2_apply]
  subst hA
  rfl

theorem v51 (k : Fin 1024) : val_main_v51 (F := Ideal) x0 x1 x2 x3 x4 x6 x7 x8 x9 (ix2 r k) = A.h r k := by
  have e : ∀ j, idx_main_v41 (idx_main_v42 (idx_main_v48 (ix2 r k))) j = ix2 r j := fun j => same2 rfl rfl
  have e' : idx_main_v50 (ix2 r k) = ix2 0 k := same2 rfl rfl
  simp only [val_main_v51_apply, val_main_v50_apply, val_main_v49_apply, val_main_v48_apply, val_main_v47_apply, val_main_v46_apply,
    val_main_v45_apply, val_main_v44_apply, val_main_v43_apply, val_main_v42_apply, val_main_v41_apply, val_main_v40_apply,
    val_main_cst_5_apply, val_main_cst_6_apply, val_main_cst_7_apply, e, e', zero_lit, zero_add, v39 hA]
  subst hA
  rfl

theorem v53 (j : Fin 2816) : val_main_v53 (F := Ideal) x0 x1 x2 x3 x4 x6 x7 x8 x9 x10 (ix2 r j) = A.gate r j := by
  have e : ∀ k, lidx_main_v53 (ix2 r j) k = ix2 r k := fun j => same2 rfl rfl
  have e' : ∀ k, idx_main_v52 (ridx_main_v53 (ix2 r j) k) = ix2 j k := fun j => same2 rfl rfl
  rw [val_main_v53_apply]
  simp only [val_main_v52_apply, val_main_v3_apply, e, e', v51 hA]
  subst hA
  rfl

theorem v55 (j : Fin 2816) : val_main_v55 (F := Ideal) x0 x1 x2 x3 x4 x6 x7 x8 x9 x11 (ix2 r j) = A.up r j := by
  have e : ∀ k, lidx_main_v55 (ix2 r j) k = ix2 r k := fun j => same2 rfl rfl
  have e' : ∀ k, idx_main_v54 (ridx_main_v55 (ix2 r j) k) = ix2 j k := fun j => same2 rfl rfl
  rw [val_main_v55_apply]
  simp only [val_main_v54_apply, val_main_v4_apply, e, e', v51 hA]
  subst hA
  rfl

theorem v57 (j : Fin 2816) : val_main_v57 (F := Ideal) x0 x1 x2 x3 x4 x6 x7 x8 x9 x10 x11 (ix2 r j) = A.act r j := by
  rw [val_main_v57_apply, val_main_v56_apply]
  simp only [val_main_call1_v5_apply, val_main_call1_v4_apply, val_main_call1_v3_apply, val_main_call1_v2_apply, val_main_call1_v1_apply,
    val_main_call1_v0_apply, val_main_call1_cst_apply, val_main_call1_cst_0_apply, one_lit, v53 hA, v55 hA]
  rfl

theorem v59 (k : Fin 1024) : val_main_v59 (F := Ideal) x0 x1 x2 x3 x4 x6 x7 x8 x9 x10 x11 x12 (ix2 r k) = A.x2 r k := by
  have e : ∀ j, lidx_main_v58 (ix2 r k) j = ix2 r j := fun j => same2 rfl rfl
  have e' : ∀ j, ridx_main_v58 (ix2 r k) j = ix2 j k := fun j => same2 rfl rfl
  rw [val_main_v59_apply, val_main_v58_apply]
  simp only [e, e', v57 hA, v39 hA, val_main_v5_apply]
  subst hA
  rfl

theorem v72 (k : Fin 1024) : val_main_v72 (F := Ideal) x0 x1 x2 x3 x4 x5 x6 x7 x8 x9 x10 x11 x12 x13 (ix2 r k) = A.err r k := by
  have e : ∀ j, idx_main_v61 (idx_main_v62 (idx_main_v68 (ix2 r k))) j = ix2 r j := fun j => same2 rfl rfl
  have e' : idx_main_v70 (ix2 r k) = ix2 0 k := same2 rfl rfl
  simp only [val_main_v72_apply, val_main_v71_apply, val_main_v70_apply, val_main_v69_apply, val_main_v68_apply, val_main_v67_apply, val_main_v66_apply,
    val_main_v65_apply, val_main_v64_apply, val_main_v63_apply, val_main_v62_apply, val_main_v61_apply, val_main_v60_apply,
    val_main_cst_8_apply, val_main_cst_9_apply, val_main_cst_10_apply, e, e', zero_lit, zero_add, v59 hA]
  subst hA
  rfl

omit r in
/-- The loss. -/
theorem v79 (u : Fin 1) (w : Fin 128) : val_main_v79 (F := Ideal) x0 x1 x2 x3 x4 x5 x6 x7 x8 x9 x10 x11 x12 x13 (ix2 u w) = half * ∑ r, A.loss r := by
  simp only [val_main_v79_apply, val_main_v78_apply, val_main_v77_apply, val_main_v76_apply, val_main_v75_apply, val_main_v74_apply, val_main_v73_apply,
    val_main_cst_11_apply, val_main_cst_12_apply, val_main_cst_13_apply, val_main_cst_14_apply, zero_lit, zero_add]
  rw [sum_idx1]
  have e : ∀ r k, idx_main_v74 (ix1 r) k = ix2 r k := fun r k => same2 rfl rfl
  simp only [e, v72 hA]
  rfl

end Cert.Post.Ref

end
-- ==== Proof.PostArr.lean ====
/-
  The arrays the forward call leaves: 16 grid points with blocks of 512 rows, each computed as two groups of 256 rows, and the loss summed over the points.
-/
module

public import proofs.«01_k».proof.Proof.PostPay
public import proofs.«01_k».proof.Proof.PostRef
public import proofs.«01_k».proof.Proof.Gen.Kernel8Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Post

open Idealize.ShloMosaic Idealize.ShloMosaic.TcCoe Idealize.SL.Sem
open Cert.Kernel8Ideal Cert.Kernel8Ideal.Gen

/-! ## A group of 256 rows -/

/-- The vectors the body computes a group's values from. -/
structure Loads (A : Rows 256) (f b : Vec Ideal S256x512 .bf16) (hg oa : Vec Ideal S256x512 .f32) (x tgt : Vec Ideal S256x1024 .f32) (gh gm : Vec Ideal S1x512 .f32)
    (w0 w1 : Vec Ideal S512x1024 .bf16) (g2 gf : Vec Ideal S1x1024 .f32) (wg wu wd : Vec Ideal S2816x1024 .bf16) : Prop where
  real : A.Real
  f : ∀ a i, f (ix2 a i) = A.f a i
  b : ∀ a i, b (ix2 a i) = A.b a i
  hg : ∀ a i, hg (ix2 a i) = A.hg a i
  oa : ∀ a i, oa (ix2 a i) = A.oa a i
  x : ∀ a k, x (ix2 a k) = A.x a k
  tgt : ∀ a k, tgt (ix2 a k) = A.tgt a k
  gh : ∀ i, gh (ix2 0 i) = A.gh i
  gm : ∀ i, gm (ix2 0 i) = A.gm i
  w0 : ∀ i k, w0 (ix2 i k) = A.wo (lo i) k
  w1 : ∀ i k, w1 (ix2 i k) = A.wo (hi i) k
  g2 : ∀ k, g2 (ix2 0 k) = A.g2 k
  gf : ∀ k, gf (ix2 0 k) = A.gf k
  wg : ∀ j k, wg (ix2 j k) = A.wg j k
  wu : ∀ j k, wu (ix2 j k) = A.wu j k
  wd : ∀ j k, wd (ix2 j k) = A.wd j k

namespace Loads

variable {A : Rows 256} {f b : Vec Ideal S256x512 .bf16} {hg oa : Vec Ideal S256x512 .f32} {x tgt : Vec Ideal S256x1024 .f32} {gh gm : Vec Ideal S1x512 .f32}
  {w0 w1 : Vec Ideal S512x1024 .bf16} {g2 gf : Vec Ideal S1x1024 .f32} {wg wu wd : Vec Ideal S2816x1024 .bf16}
variable (L : Loads A f b hg oa x tgt gh gm w0 w1 g2 gf wg wu wd)
include L

theorem ya_a (a : Fin 256) (i : Fin 512) : k0_pay9 (F := Ideal) k0_pay4 k0_pay5 k0_pay6 k0_pay7 0#32 f b hg gh (ix2 a i) = A.ya a i :=
  ya_first a L.real (L.f a) (L.b a) (L.hg a) L.gh i

theorem ya_b (a : Fin 256) (i : Fin 512) : k0_pay22 (F := Ideal) (k0_pay8 (F := Ideal) k0_pay4 k0_pay5 k0_pay6 k0_pay7 0#32) f b hg gh (ix2 a i) = A.ya a i :=
  ya_second a L.real (L.f a) (L.b a) (L.hg a) L.gh i

theorem yb_a (a : Fin 256) (i : Fin 512) : k0_pay11 (F := Ideal) oa gm (k0_pay10 (F := Ideal) oa) (ix2 a i) = A.yb a i :=
  yb_first a (L.oa a) L.gm i

theorem yb_b (a : Fin 256) (i : Fin 512) : k0_pay24 (F := Ideal) oa gm (k0_pay23 (F := Ideal) oa) (ix2 a i) = A.yb a i :=
  yb_second a (L.oa a) L.gm i

theorem x1_a (a : Fin 256) (k : Fin 1024) :
    k0_pay12 (F := Ideal) (k0_pay9 (F := Ideal) k0_pay4 k0_pay5 k0_pay6 k0_pay7 0#32 f b hg gh) oa gm (k0_pay10 (F := Ideal) oa) x w0 w1 (ix2 a k) = A.x1 a k :=
  x1_first a (L.oa a) (L.x a) L.gm L.w0 L.w1 (L.ya_a a) k

theorem x1_b (a : Fin 256) (k : Fin 1024) :
    k0_pay25 (F := Ideal) (k0_pay22 (F := Ideal) (k0_pay8 (F := Ideal) k0_pay4 k0_pay5 k0_pay6 k0_pay7 0#32) f b hg gh) oa gm (k0_pay23 (F := Ideal) oa) x w0 w1 (ix2 a k) = A.x1 a k :=
  x1_second a (L.oa a) (L.x a) L.gm L.w0 L.w1 (L.ya_b a) k

theorem h_a (a : Fin 256) (k : Fin 1024) :
    k0_pay13 (F := Ideal) (k0_pay9 (F := Ideal) k0_pay4 k0_pay5 k0_pay6 k0_pay7 0#32 f b hg gh) oa gm (k0_pay10 (F := Ideal) oa) x w0 w1 g2 (ix2 a k) = A.h a k :=
  h_first a (L.oa a) (L.x a) L.gm L.w0 L.w1 L.g2 (L.ya_a a) k

theorem h_b (a : Fin 256) (k : Fin 1024) :
    k0_pay26 (F := Ideal) (k0_pay22 (F := Ideal) (k0_pay8 (F := Ideal) k0_pay4 k0_pay5 k0_pay6 k0_pay7 0#32) f b hg gh) oa gm (k0_pay23 (F := Ideal) oa) x w0 w1 g2 (ix2 a k) = A.h a k :=
  h_second a (L.oa a) (L.x a) L.gm L.w0 L.w1 L.g2 (L.ya_b a) k

theorem gate_b (a : Fin 256) (j : Fin 2816) :
    k0_pay27 (F := Ideal) (k0_pay22 (F := Ideal) (k0_pay8 (F := Ideal) k0_pay4 k0_pay5 k0_pay6 k0_pay7 0#32) f b hg gh) oa gm (k0_pay23 (F := Ideal) oa) x w0 w1 g2 wg (ix2 a j) = A.gate a j :=
  gate_second a (L.oa a) (L.x a) L.gm L.w0 L.w1 L.g2 L.wg (L.ya_b a) j

theorem gate_b' (a : Fin 256) (j : Fin 2816) :
    k0_pay29 (F := Ideal) (k0_pay27 (F := Ideal) (k0_pay22 (F := Ideal) (k0_pay8 (F := Ideal) k0_pay4 k0_pay5 k0_pay6 k0_pay7 0#32) f b hg gh) oa gm (k0_pay23 (F := Ideal) oa) x w0 w1 g2 wg) (ix2 a j) = A.gate a j :=
  (gate_second' a j).trans (L.gate_b a j)

theorem gate_a' (a : Fin 256) (j : Fin 2816) :
    k0_pay16 (F := Ideal) (k0_pay13 (F := Ideal) (k0_pay9 (F := Ideal) k0_pay4 k0_pay5 k0_pay6 k0_pay7 0#32 f b hg gh) oa gm (k0_pay10 (F := Ideal) oa) x w0 w1 g2) wg (ix2 a j) = A.gate a j :=
  gate_first' a L.wg (L.h_a a) j

theorem up_a' (a : Fin 256) (j : Fin 2816) :
    k0_pay17 (F := Ideal) (k0_pay13 (F := Ideal) (k0_pay9 (F := Ideal) k0_pay4 k0_pay5 k0_pay6 k0_pay7 0#32 f b hg gh) oa gm (k0_pay10 (F := Ideal) oa) x w0 w1 g2) wu (ix2 a j) = A.up a j :=
  up_first' a L.wu (L.h_a a) j

theorem up_b' (a : Fin 256) (j : Fin 2816) :
    k0_pay30 (F := Ideal) (k0_pay26 (F := Ideal) (k0_pay22 (F := Ideal) (k0_pay8 (F := Ideal) k0_pay4 k0_pay5 k0_pay6 k0_pay7 0#32) f b hg gh) oa gm (k0_pay23 (F := Ideal) oa) x w0 w1 g2) wu (ix2 a j) = A.up a j :=
  up_second' a L.wu (L.h_b a) j

theorem x2_a (a : Fin 256) (k : Fin 1024) :
    k0_pay18 (F := Ideal) (k0_pay12 (F := Ideal) (k0_pay9 (F := Ideal) k0_pay4 k0_pay5 k0_pay6 k0_pay7 0#32 f b hg gh) oa gm (k0_pay10 (F := Ideal) oa) x w0 w1)
      (k0_pay13 (F := Ideal) (k0_pay9 (F := Ideal) k0_pay4 k0_pay5 k0_pay6 k0_pay7 0#32 f b hg gh) oa gm (k0_pay10 (F := Ideal) oa) x w0 w1 g2) wg wu wd (ix2 a k) = A.x2 a k :=
  x2_first a L.wg L.wu L.wd (L.x1_a a) (L.h_a a) k

theorem x2_b (a : Fin 256) (k : Fin 1024) :
    k0_pay31 (F := Ideal) (k0_pay25 (F := Ideal) (k0_pay22 (F := Ideal) (k0_pay8 (F := Ideal) k0_pay4 k0_pay5 k0_pay6 k0_pay7 0#32) f b hg gh) oa gm (k0_pay23 (F := Ideal) oa) x w0 w1)
      (k0_pay26 (F := Ideal) (k0_pay22 (F := Ideal) (k0_pay8 (F := Ideal) k0_pay4 k0_pay5 k0_pay6 k0_pay7 0#32) f b hg gh) oa gm (k0_pay23 (F := Ideal) oa) x w0 w1 g2)
      (k0_pay27 (F := Ideal) (k0_pay22 (F := Ideal) (k0_pay8 (F := Ideal) k0_pay4 k0_pay5 k0_pay6 k0_pay7 0#32) f b hg gh) oa gm (k0_pay23 (F := Ideal) oa) x w0 w1 g2 wg) wu wd (ix2 a k) = A.x2 a k :=
  x2_second a L.wu L.wd (L.x1_b a) (L.h_b a) (L.gate_b a) k

theorem loss_a (s : FVec Ideal S1x1 .f32) :
    k0_pay21 (F := Ideal) s (k0_pay19 (F := Ideal) (k0_pay12 (F := Ideal) (k0_pay9 (F := Ideal) k0_pay4 k0_pay5 k0_pay6 k0_pay7 0#32 f b hg gh) oa gm (k0_pay10 (F := Ideal) oa) x w0 w1)
      (k0_pay13 (F := Ideal) (k0_pay9 (F := Ideal) k0_pay4 k0_pay5 k0_pay6 k0_pay7 0#32 f b hg gh) oa gm (k0_pay10 (F := Ideal) oa) x w0 w1 g2) wg wu wd gf tgt) k0_pay20 (ix2 0 0)
      = s (ix2 0 0) + half * ∑ a, A.loss a :=
  loss_first L.wg L.wu L.wd L.gf L.x1_a L.h_a L.tgt s

theorem loss_b :
    k0_pay32 (F := Ideal) (k0_pay25 (F := Ideal) (k0_pay22 (F := Ideal) (k0_pay8 (F := Ideal) k0_pay4 k0_pay5 k0_pay6 k0_pay7 0#32) f b hg gh) oa gm (k0_pay23 (F := Ideal) oa) x w0 w1)
      (k0_pay26 (F := Ideal) (k0_pay22 (F := Ideal) (k0_pay8 (F := Ideal) k0_pay4 k0_pay5 k0_pay6 k0_pay7 0#32) f b hg gh) oa gm (k0_pay23 (F := Ideal) oa) x w0 w1 g2)
      (k0_pay27 (F := Ideal) (k0_pay22 (F := Ideal) (k0_pay8 (F := Ideal) k0_pay4 k0_pay5 k0_pay6 k0_pay7 0#32) f b hg gh) oa gm (k0_pay23 (F := Ideal) oa) x w0 w1 g2 wg) wu wd gf tgt (ix2 0 0)
      = ∑ a, A.loss a :=
  loss_second L.wu L.wd L.gf L.x1_b L.h_b L.gate_b L.tgt

end Loads

/-- A group's rows of an array of 512 rows. -/
theorem piece {p : ℕ} (o : ℕ) (ho : o + 256 ≤ 512) (F : Fin 512 → Fin p → EReal) {v : (⟨2, ![256, p]⟩ : Shape).Idx → EReal}
    (hv : ∀ (a : Fin 256) k, v (ix2 a k) = F ⟨o + a, by omega⟩ k) (y : (⟨2, ![512, p]⟩ : Shape).Idx) (x : (⟨2, ![256, p]⟩ : Shape).Idx)
    (h0 : (y 0 : ℕ) = o + (x 0 : ℕ)) (h1 : (y 1 : ℕ) = (x 1 : ℕ)) : v x = F (y 0) (y 1) := by
  have e : x = ix2 (x 0) (x 1) := (ix2_eta x).symm
  rw [e]
  refine (hv (x 0) (x 1)).trans (congrArg₂ F (Fin.ext h0.symm) (Fin.ext h1.symm))

variable (m : (ℓ : Loc nD τ sig) → Buf (Elt Ideal) ℓ) (c : Dev nD)

/-- The arguments' entries. -/
def whole : Rows 8192 :=
  Ref.args (m ((c.tc : Thread nD τ).loc main_arg0)) (m ((c.tc : Thread nD τ).loc main_arg5)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg13)) (m ((c.tc : Thread nD τ).loc main_arg10))
    (m ((c.tc : Thread nD τ).loc main_arg11)) (m ((c.tc : Thread nD τ).loc main_arg12))

/-- The row of the whole arrays that row `a` of grid point `t`'s blocks is. -/
def row (t : Fin 16) (a : Fin 512) : Fin 8192 := ⟨t.val * 512 + a.val, by omega⟩

/-- The rows of a group. -/
def group (o : ℕ) (ho : o + 256 ≤ 512) (t : Fin 16) : Rows 256 := (whole m c).take fun a => row t ⟨o + a, by omega⟩

/-- A group's left half of the output projection's input. -/
theorem piece_left (o : ℕ) (ho : o + 256 ≤ 512) (t : Fin 16) {v : (⟨2, ![256, 512]⟩ : Shape).Idx → EReal}
    (hv : ∀ (a : Fin 256) i, v (ix2 a i) = (group m c o ho t).ya a i) (y : S512x1024.Idx) (x : (⟨2, ![256, 512]⟩ : Shape).Idx)
    (h0 : (y 0 : ℕ) = o + (x 0 : ℕ)) (h1 : (y 1 : ℕ) = (x 1 : ℕ)) : v x = (whole m c).y (row t (y 0)) (y 1) := by
  have e : x = ix2 (x 0) (x 1) := (ix2_eta x).symm
  have hx : (x 1 : ℕ) < 512 := (x 1).isLt
  have hy : (y 1 : ℕ) < 512 := h1 ▸ hx
  rw [e]
  refine (hv (x 0) (x 1)).trans (Eq.trans ?_ (dif_pos hy).symm)
  exact congrArg₂ (whole m c).ya (congrArg (row t) (Fin.ext h0.symm)) (Fin.ext h1.symm)

/-- A group's right half of the output projection's input. -/
theorem piece_right (o : ℕ) (ho : o + 256 ≤ 512) (t : Fin 16) {v : (⟨2, ![256, 512]⟩ : Shape).Idx → EReal}
    (hv : ∀ (a : Fin 256) i, v (ix2 a i) = (group m c o ho t).yb a i) (y : S512x1024.Idx) (x : (⟨2, ![256, 512]⟩ : Shape).Idx)
    (h0 : (y 0 : ℕ) = o + (x 0 : ℕ)) (h1 : (y 1 : ℕ) = 512 + (x 1 : ℕ)) : v x = (whole m c).y (row t (y 0)) (y 1) := by
  have e : x = ix2 (x 0) (x 1) := (ix2_eta x).symm
  have hy : ¬(y 1 : ℕ) < 512 := by omega
  rw [e]
  refine (hv (x 0) (x 1)).trans (Eq.trans ?_ (dif_neg hy).symm)
  exact congrArg₂ (whole m c).yb (congrArg (row t) (Fin.ext h0.symm)) (Fin.ext (show (x 1 : ℕ) = (y 1 : ℕ) - 512 by omega))

/-- Where the blocks lie at grid point `t`. -/
theorem idx0 : ∀ t : Fin grid0.N,
    ((win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_5.index t 0 = t.val ∧ win0_5.index t 1 = 0))
    ∧ ((win0_6.index t 0 = 0 ∧ win0_6.index t 1 = 0) ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0) ∧ (win0_11.index t 0 = 0 ∧ win0_11.index t 1 = 0)
    ∧ (win0_12.index t 0 = 0 ∧ win0_12.index t 1 = 0) ∧ (win0_13.index t 0 = 0 ∧ win0_13.index t 1 = 0))
    ∧ ((win0_14.index t 0 = t.val ∧ win0_14.index t 1 = 0) ∧ (win0_15.index t 0 = t.val ∧ win0_15.index t 1 = 0) ∧ (win0_16.index t 0 = t.val ∧ win0_16.index t 1 = 0)
    ∧ (win0_17.index t 0 = t.val ∧ win0_17.index t 1 = 0) ∧ (win0_18.index t 0 = t.val ∧ win0_18.index t 1 = 0) ∧ (win0_19.index t 0 = 0 ∧ win0_19.index t 1 = 0)) := by
  decide +kernel

theorem blk_x (t : Fin cfg0.N) (a : Fin 512) (k : Fin 1024) : iblk m c (0 : Fin 20) t (ix2 a k) = (whole m c).x (row t a) k := by
  obtain ⟨⟨⟨h0, h1⟩, -⟩, -⟩ := idx0 t
  unfold whole Ref.args
  blk_ext [iblk, V, h0, h1, row]

theorem blk_f (t : Fin cfg0.N) (a : Fin 512) (i : Fin 512) : iblk m c (1 : Fin 20) t (ix2 a i) = (whole m c).f (row t a) i := by
  obtain ⟨⟨-, ⟨h0, h1⟩, -⟩, -⟩ := idx0 t
  unfold whole Ref.args
  blk_ext [iblk, V, h0, h1, row]

theorem blk_b (t : Fin cfg0.N) (a : Fin 512) (i : Fin 512) : iblk m c (2 : Fin 20) t (ix2 a i) = (whole m c).b (row t a) i := by
  obtain ⟨⟨-, -, ⟨h0, h1⟩, -⟩, -⟩ := idx0 t
  unfold whole Ref.args
  blk_ext [iblk, V, h0, h1, row]

theorem blk_hg (t : Fin cfg0.N) (a : Fin 512) (i : Fin 512) : iblk m c (3 : Fin 20) t (ix2 a i) = (whole m c).hg (row t a) i := by
  obtain ⟨⟨-, -, -, ⟨h0, h1⟩, -⟩, -⟩ := idx0 t
  unfold whole Ref.args
  blk_ext [iblk, V, h0, h1, row]

theorem blk_oa (t : Fin cfg0.N) (a : Fin 512) (i : Fin 512) : iblk m c (4 : Fin 20) t (ix2 a i) = (whole m c).oa (row t a) i := by
  obtain ⟨⟨-, -, -, -, ⟨h0, h1⟩, -⟩, -⟩ := idx0 t
  unfold whole Ref.args
  blk_ext [iblk, V, h0, h1, row]

theorem blk_tgt (t : Fin cfg0.N) (a : Fin 512) (k : Fin 1024) : iblk m c (5 : Fin 20) t (ix2 a k) = (whole m c).tgt (row t a) k := by
  obtain ⟨⟨-, -, -, -, -, ⟨h0, h1⟩⟩, -⟩ := idx0 t
  unfold whole Ref.args
  blk_ext [iblk, V, h0, h1, row]

theorem blk_gh (t : Fin cfg0.N) (i : Fin 512) : iblk m c (6 : Fin 20) t (ix2 0 i) = (whole m c).gh i := by
  obtain ⟨-, ⟨⟨h0, h1⟩, -⟩, -⟩ := idx0 t
  unfold whole Ref.args
  blk_ext [iblk, V, h0, h1]

theorem blk_gm (t : Fin cfg0.N) (i : Fin 512) : iblk m c (7 : Fin 20) t (ix2 0 i) = (whole m c).gm i := by
  obtain ⟨-, ⟨-, ⟨h0, h1⟩, -⟩, -⟩ := idx0 t
  unfold whole Ref.args
  blk_ext [iblk, V, h0, h1]

theorem blk_wo (t : Fin cfg0.N) (j k : Fin 1024) : iblk m c (8 : Fin 20) t (ix2 j k) = (whole m c).wo j k := by
  obtain ⟨-, ⟨-, -, ⟨h0, h1⟩, -⟩, -⟩ := idx0 t
  unfold whole Ref.args
  blk_ext [iblk, V, h0, h1]

theorem blk_g2 (t : Fin cfg0.N) (k : Fin 1024) : iblk m c (9 : Fin 20) t (ix2 0 k) = (whole m c).g2 k := by
  obtain ⟨-, ⟨-, -, -, ⟨h0, h1⟩, -⟩, -⟩ := idx0 t
  unfold whole Ref.args
  blk_ext [iblk, V, h0, h1]

theorem blk_wg (t : Fin cfg0.N) (j : Fin 2816) (k : Fin 1024) : iblk m c (10 : Fin 20) t (ix2 j k) = (whole m c).wg j k := by
  obtain ⟨-, ⟨-, -, -, -, ⟨h0, h1⟩, -⟩, -⟩ := idx0 t
  unfold whole Ref.args
  blk_ext [iblk, V, h0, h1]

theorem blk_wu (t : Fin cfg0.N) (j : Fin 2816) (k : Fin 1024) : iblk m c (11 : Fin 20) t (ix2 j k) = (whole m c).wu j k := by
  obtain ⟨-, ⟨-, -, -, -, -, ⟨h0, h1⟩, -⟩, -⟩ := idx0 t
  unfold whole Ref.args
  blk_ext [iblk, V, h0, h1]

theorem blk_wd (t : Fin cfg0.N) (j : Fin 2816) (k : Fin 1024) : iblk m c (12 : Fin 20) t (ix2 j k) = (whole m c).wd j k := by
  obtain ⟨-, ⟨-, -, -, -, -, -, ⟨h0, h1⟩, -⟩, -⟩ := idx0 t
  unfold whole Ref.args
  blk_ext [iblk, V, h0, h1]

theorem blk_gf (t : Fin cfg0.N) (k : Fin 1024) : iblk m c (13 : Fin 20) t (ix2 0 k) = (whole m c).gf k := by
  obtain ⟨-, ⟨-, -, -, -, -, -, -, ⟨h0, h1⟩⟩, -⟩ := idx0 t
  unfold whole Ref.args
  blk_ext [iblk, V, h0, h1]

/-- 256 rows of a block. -/
theorem ld_rows {s : EltTy} {p : ℕ} (q : Vec Ideal ⟨2, ![512, p]⟩ s) (o : ℕ) (ho : o + 256 ≤ 512) (inb) (a : Fin 256) (d : Fin p) :
    View.ld q (Rect.unit ![o, 0] ![256, p] inb) (ix2 a d) = q (ix2 (⟨o + a, by omega⟩ : Fin 512) d) :=
  View.ld_unit_apply_of q _ _ inb (ix2 a d) _ fun i => by fin_cases i <;> simp

theorem ld_half (q : Vec Ideal S1024x1024 .bf16) (o : ℕ) (ho : o + 512 ≤ 1024) (inb) (a : Fin 512) (d : Fin 1024) :
    View.ld q (Rect.unit ![o, 0] ![512, 1024] inb) (ix2 a d) = q (ix2 (⟨o + a, by omega⟩ : Fin 1024) d) :=
  View.ld_unit_apply_of q _ _ inb (ix2 a d) _ fun i => by fin_cases i <;> simp

variable (hreal : (whole m c).Real)
include hreal

/-- What a grid point loads for the group from row `o` on. -/
theorem loads (o : ℕ) (ho : o + 256 ≤ 512) (t : Fin cfg0.N) (i0 i1 i2 i3 i4 i5 j0 j1) :
    Loads (group m c o ho t) (View.ld (iblk m c (1 : Fin 20) t) (Rect.unit ![o, 0] ![256, 512] i1)) (View.ld (iblk m c (2 : Fin 20) t) (Rect.unit ![o, 0] ![256, 512] i2))
      (View.ld (iblk m c (3 : Fin 20) t) (Rect.unit ![o, 0] ![256, 512] i3)) (View.ld (iblk m c (4 : Fin 20) t) (Rect.unit ![o, 0] ![256, 512] i4))
      (View.ld (iblk m c (0 : Fin 20) t) (Rect.unit ![o, 0] ![256, 1024] i0)) (View.ld (iblk m c (5 : Fin 20) t) (Rect.unit ![o, 0] ![256, 1024] i5))
      (iblk m c (6 : Fin 20) t) (iblk m c (7 : Fin 20) t)
      (View.ld (iblk m c (8 : Fin 20) t) (Rect.unit ![0, 0] ![512, 1024] j0)) (View.ld (iblk m c (8 : Fin 20) t) (Rect.unit ![512, 0] ![512, 1024] j1))
      (iblk m c (9 : Fin 20) t) (iblk m c (13 : Fin 20) t) (iblk m c (10 : Fin 20) t) (iblk m c (11 : Fin 20) t) (iblk m c (12 : Fin 20) t) where
  real := fun r => hreal _
  f a i := (ld_rows _ o ho _ a i).trans (blk_f m c t _ i)
  b a i := (ld_rows _ o ho _ a i).trans (blk_b m c t _ i)
  hg a i := (ld_rows _ o ho _ a i).trans (blk_hg m c t _ i)
  oa a i := (ld_rows _ o ho _ a i).trans (blk_oa m c t _ i)
  x a i := (ld_rows _ o ho _ a i).trans (blk_x m c t _ i)
  tgt a i := (ld_rows _ o ho _ a i).trans (blk_tgt m c t _ i)
  gh := blk_gh m c t
  gm := blk_gm m c t
  w0 i k := (ld_half _ 0 (by omega) _ i k).trans ((blk_wo m c t _ k).trans (congrArg (fun j => (whole m c).wo j k) (Fin.ext (Nat.zero_add _))))
  w1 i k := (ld_half _ 512 (by omega) _ i k).trans (blk_wo m c t _ k)
  g2 := blk_g2 m c t
  gf := blk_gf m c t
  wg := blk_wg m c t
  wu := blk_wu m c t
  wd := blk_wd m c t

theorem out_x1 (t : Fin cfg0.N) (y : S512x1024.Idx) : (outsAt0 m c t.val t.isLt).1 y = (whole m c).x1 (row t (y 0)) (y 1) := by
  by_cases h : t.val % 16 = 0
  · rw [outsAt0_A m c t h]
    frame_out
    canon_tiles x h
    · exact piece 256 (by omega) (fun a k => (whole m c).x1 (row t a) k) (loads m c hreal 256 (by omega) t _ _ _ _ _ inb_S512x1024_S256x1024_256_0 _ _).x1_b y x h0 h1
    · exact piece 0 (by omega) (fun a k => (whole m c).x1 (row t a) k) (loads m c hreal 0 (by omega) t _ _ _ _ _ inb_S512x1024_S256x1024_0_0 _ _).x1_a y x (by omega) h1
  · rw [outsAt0_B m c t h]
    frame_out
    canon_tiles x h
    · exact piece 256 (by omega) (fun a k => (whole m c).x1 (row t a) k) (loads m c hreal 256 (by omega) t _ _ _ _ _ inb_S512x1024_S256x1024_256_0 _ _).x1_b y x h0 h1
    · exact piece 0 (by omega) (fun a k => (whole m c).x1 (row t a) k) (loads m c hreal 0 (by omega) t _ _ _ _ _ inb_S512x1024_S256x1024_0_0 _ _).x1_a y x (by omega) h1

theorem out_x2 (t : Fin cfg0.N) (y : S512x1024.Idx) : (outsAt0 m c t.val t.isLt).2.1 y = (whole m c).x2 (row t (y 0)) (y 1) := by
  by_cases h : t.val % 16 = 0
  · rw [outsAt0_A m c t h]
    frame_out
    canon_tiles x h
    · exact piece 256 (by omega) (fun a k => (whole m c).x2 (row t a) k) (fun a k => (loads m c hreal 256 (by omega) t _ _ _ _ _ inb_S512x1024_S256x1024_256_0 _ _).x2_b a k) y x h0 h1
    · exact piece 0 (by omega) (fun a k => (whole m c).x2 (row t a) k) (fun a k => (loads m c hreal 0 (by omega) t _ _ _ _ _ inb_S512x1024_S256x1024_0_0 _ _).x2_a a k) y x (by omega) h1
  · rw [outsAt0_B m c t h]
    frame_out
    canon_tiles x h
    · exact piece 256 (by omega) (fun a k => (whole m c).x2 (row t a) k) (fun a k => (loads m c hreal 256 (by omega) t _ _ _ _ _ inb_S512x1024_S256x1024_256_0 _ _).x2_b a k) y x h0 h1
    · exact piece 0 (by omega) (fun a k => (whole m c).x2 (row t a) k) (fun a k => (loads m c hreal 0 (by omega) t _ _ _ _ _ inb_S512x1024_S256x1024_0_0 _ _).x2_a a k) y x (by omega) h1

theorem out_gate (t : Fin cfg0.N) (y : S512x2816.Idx) : (outsAt0 m c t.val t.isLt).2.2.2.1 y = (whole m c).gate (row t (y 0)) (y 1) := by
  by_cases h : t.val % 16 = 0
  · rw [outsAt0_A m c t h]
    frame_out
    canon_tiles x h
    · exact piece 256 (by omega) (fun a k => (whole m c).gate (row t a) k) (fun a k => (loads m c hreal 256 (by omega) t _ _ _ _ _ inb_S512x1024_S256x1024_256_0 _ _).gate_b' a k) y x h0 h1
    · exact piece 0 (by omega) (fun a k => (whole m c).gate (row t a) k) (fun a k => (loads m c hreal 0 (by omega) t _ _ _ _ _ inb_S512x1024_S256x1024_0_0 _ _).gate_a' a k) y x (by omega) h1
  · rw [outsAt0_B m c t h]
    frame_out
    canon_tiles x h
    · exact piece 256 (by omega) (fun a k => (whole m c).gate (row t a) k) (fun a k => (loads m c hreal 256 (by omega) t _ _ _ _ _ inb_S512x1024_S256x1024_256_0 _ _).gate_b' a k) y x h0 h1
    · exact piece 0 (by omega) (fun a k => (whole m c).gate (row t a) k) (fun a k => (loads m c hreal 0 (by omega) t _ _ _ _ _ inb_S512x1024_S256x1024_0_0 _ _).gate_a' a k) y x (by omega) h1

theorem out_up (t : Fin cfg0.N) (y : S512x2816.Idx) : (outsAt0 m c t.val t.isLt).2.2.2.2.1 y = (whole m c).up (row t (y 0)) (y 1) := by
  by_cases h : t.val % 16 = 0
  · rw [outsAt0_A m c t h]
    frame_out
    canon_tiles x h
    · exact piece 256 (by omega) (fun a k => (whole m c).up (row t a) k) (fun a k => (loads m c hreal 256 (by omega) t _ _ _ _ _ inb_S512x1024_S256x1024_256_0 _ _).up_b' a k) y x h0 h1
    · exact piece 0 (by omega) (fun a k => (whole m c).up (row t a) k) (fun a k => (loads m c hreal 0 (by omega) t _ _ _ _ _ inb_S512x1024_S256x1024_0_0 _ _).up_a' a k) y x (by omega) h1
  · rw [outsAt0_B m c t h]
    frame_out
    canon_tiles x h
    · exact piece 256 (by omega) (fun a k => (whole m c).up (row t a) k) (fun a k => (loads m c hreal 256 (by omega) t _ _ _ _ _ inb_S512x1024_S256x1024_256_0 _ _).up_b' a k) y x h0 h1
    · exact piece 0 (by omega) (fun a k => (whole m c).up (row t a) k) (fun a k => (loads m c hreal 0 (by omega) t _ _ _ _ _ inb_S512x1024_S256x1024_0_0 _ _).up_a' a k) y x (by omega) h1

theorem out_y (t : Fin cfg0.N) (y : S512x1024.Idx) : (outsAt0 m c t.val t.isLt).2.2.1 y = (whole m c).y (row t (y 0)) (y 1) := by
  by_cases h : t.val % 16 = 0
  · rw [outsAt0_A m c t h]
    frame_out
    canon_tiles x h
    · exact piece_right m c 256 (by omega) t (loads m c hreal 256 (by omega) t inb_S512x1024_S256x1024_256_0 inb_S512x512_S256x512_256_0 inb_S512x512_S256x512_256_0 inb_S512x512_S256x512_256_0 inb_S512x512_S256x512_256_0 inb_S512x1024_S256x1024_256_0 inb_S1024x1024_S512x1024_0_0 inb_S1024x1024_S512x1024_512_0).yb_b y x h0 h1
    · exact piece_left m c 256 (by omega) t (loads m c hreal 256 (by omega) t inb_S512x1024_S256x1024_256_0 inb_S512x512_S256x512_256_0 inb_S512x512_S256x512_256_0 inb_S512x512_S256x512_256_0 inb_S512x512_S256x512_256_0 inb_S512x1024_S256x1024_256_0 inb_S1024x1024_S512x1024_0_0 inb_S1024x1024_S512x1024_512_0).ya_b y x h0 h1
    · exact piece_right m c 0 (by omega) t (loads m c hreal 0 (by omega) t inb_S512x1024_S256x1024_0_0 inb_S512x512_S256x512_0_0 inb_S512x512_S256x512_0_0 inb_S512x512_S256x512_0_0 inb_S512x512_S256x512_0_0 inb_S512x1024_S256x1024_0_0 inb_S1024x1024_S512x1024_0_0 inb_S1024x1024_S512x1024_512_0).yb_a y x (by omega) h1
    · exact piece_left m c 0 (by omega) t (loads m c hreal 0 (by omega) t inb_S512x1024_S256x1024_0_0 inb_S512x512_S256x512_0_0 inb_S512x512_S256x512_0_0 inb_S512x512_S256x512_0_0 inb_S512x512_S256x512_0_0 inb_S512x1024_S256x1024_0_0 inb_S1024x1024_S512x1024_0_0 inb_S1024x1024_S512x1024_512_0).ya_a y x (by omega) h1
  · rw [outsAt0_B m c t h]
    frame_out
    canon_tiles x h
    · exact piece_right m c 256 (by omega) t (loads m c hreal 256 (by omega) t inb_S512x1024_S256x1024_256_0 inb_S512x512_S256x512_256_0 inb_S512x512_S256x512_256_0 inb_S512x512_S256x512_256_0 inb_S512x512_S256x512_256_0 inb_S512x1024_S256x1024_256_0 inb_S1024x1024_S512x1024_0_0 inb_S1024x1024_S512x1024_512_0).yb_b y x h0 h1
    · exact piece_left m c 256 (by omega) t (loads m c hreal 256 (by omega) t inb_S512x1024_S256x1024_256_0 inb_S512x512_S256x512_256_0 inb_S512x512_S256x512_256_0 inb_S512x512_S256x512_256_0 inb_S512x512_S256x512_256_0 inb_S512x1024_S256x1024_256_0 inb_S1024x1024_S512x1024_0_0 inb_S1024x1024_S512x1024_512_0).ya_b y x h0 h1
    · exact piece_right m c 0 (by omega) t (loads m c hreal 0 (by omega) t inb_S512x1024_S256x1024_0_0 inb_S512x512_S256x512_0_0 inb_S512x512_S256x512_0_0 inb_S512x512_S256x512_0_0 inb_S512x512_S256x512_0_0 inb_S512x1024_S256x1024_0_0 inb_S1024x1024_S512x1024_0_0 inb_S1024x1024_S512x1024_512_0).yb_a y x (by omega) h1
    · exact piece_left m c 0 (by omega) t (loads m c hreal 0 (by omega) t inb_S512x1024_S256x1024_0_0 inb_S512x512_S256x512_0_0 inb_S512x512_S256x512_0_0 inb_S512x512_S256x512_0_0 inb_S512x512_S256x512_0_0 inb_S512x1024_S256x1024_0_0 inb_S1024x1024_S512x1024_0_0 inb_S1024x1024_S512x1024_512_0).ya_a y x (by omega) h1

/-- What grid point `t` adds to the loss. -/
def term (t : Fin 16) (_ : S1x128.Idx) : EReal :=
  half * ∑ a, (group m c 0 (by omega) t).loss a + half * ∑ a, (group m c 256 (by omega) t).loss a

omit hreal in
theorem half_pay : k0_pay33 (F := Ideal) (ix2 0 0) = half := by
  pointwise [k0_pay33]
  rfl

omit hreal in
theorem loss_total (s s' u : FVec Ideal S1x1 .f32) (v : FVec Ideal S1x128 .f32) (y : S1x128.Idx) :
    k0_pay2 (F := Ideal) s s' u v y = v y + (s (ix2 0 0) + u (ix2 0 0) * s' (ix2 0 0)) := by
  idx_vars y
  pointwise [k0_pay2]

theorem loss_first_point (t : Fin cfg0.N) (h : t.val % 16 = 0) (y : S1x128.Idx) : (outsAt0 m c t.val t.isLt).2.2.2.2.2 y = 0 + term m c t y := by
  rw [outsAt0_A m c t h]
  frame_open
  simp (disch := decide) only [↓ View.readCov_cons_toLoadRect]
  frame_out
  rw [loss_total]
  refine congrArg₂ (· + ·) ?_ (congrArg₂ (· + ·) ?_ ?_)
  · idx_vars y
    pointwise [k0_pay1]
  · refine ((loads m c hreal 0 (by omega) t _ _ _ _ _ inb_S512x1024_S256x1024_0_0 _ _).loss_a k0_pay3).trans ?_
    have z : k0_pay3 (F := Ideal) (ix2 0 0) = 0 := by pointwise [k0_pay3]
    exact (congrArg (· + _) z).trans (zero_add _)
  · exact congrArg₂ (· * ·) half_pay (loads m c hreal 256 (by omega) t _ _ _ _ _ inb_S512x1024_S256x1024_256_0 _ _).loss_b

theorem loss_next_point (t : Fin cfg0.N) (h : ¬t.val % 16 = 0) (y : S1x128.Idx) : (outsAt0 m c t.val t.isLt).2.2.2.2.2 y
    = (outsAt0 m c (t.val - 1) (Nat.lt_of_le_of_lt (Nat.sub_le _ _) t.isLt)).2.2.2.2.2 y + term m c t y := by
  rw [outsAt0_B m c t h]
  frame_open
  simp (disch := decide) only [↓ View.readCov_cons_toLoadRect]
  frame_out
  rw [loss_total]
  refine congrArg₂ (· + ·) ?_ (congrArg₂ (· + ·) ?_ ?_)
  · rfl
  · refine ((loads m c hreal 0 (by omega) t _ _ _ _ _ inb_S512x1024_S256x1024_0_0 _ _).loss_a k0_pay3).trans ?_
    have z : k0_pay3 (F := Ideal) (ix2 0 0) = 0 := by pointwise [k0_pay3]
    exact (congrArg (· + _) z).trans (zero_add _)
  · exact congrArg₂ (· * ·) half_pay (loads m c hreal 256 (by omega) t _ _ _ _ _ inb_S512x1024_S256x1024_256_0 _ _).loss_b

omit hreal in
theorem half_sum {ι : Type} [Fintype ι] (v : ι → EReal) : ∑ i, half * v i = half * ∑ i, v i := by
  have h0 : (0 : EReal) ≤ half := by
    rw [half_real]; exact_mod_cast (by norm_num : (0 : ℝ) ≤ 1 / 2)
  have h1 : half ≠ ⊤ := by rw [half_real]; exact EReal.coe_ne_top _
  classical
  suffices H : ∀ s : Finset ι, ∑ i ∈ s, half * v i = half * ∑ i ∈ s, v i from H _
  intro s
  induction s using Finset.induction_on with
  | empty => simp
  | insert a s ha ih => rw [Finset.sum_insert ha, Finset.sum_insert ha, ih, EReal.left_distrib_of_nonneg_of_ne_top h0 h1]

omit hreal in
/-- The points' groups run over all rows. -/
theorem sum_term (t : Fin 16) (g : ∀ s : Fin 16, 16 * (t.val / 16) + s.val < 16) (y : S1x128.Idx) :
    ∑ s : Fin 16, term m c ⟨16 * (t.val / 16) + s.val, g s⟩ y = half * ∑ r, (whole m c).loss r := by
  have h0 : (0 : EReal) ≤ half := by
    rw [half_real]; exact_mod_cast (by norm_num : (0 : ℝ) ≤ 1 / 2)
  have h1 : half ≠ ⊤ := by rw [half_real]; exact EReal.coe_ne_top _
  have e : ∀ s : Fin 16, term m c ⟨16 * (t.val / 16) + s.val, g s⟩ y = half * ∑ a : Fin 512, (whole m c).loss (row s a) := fun s => by
    unfold term
    rw [← EReal.left_distrib_of_nonneg_of_ne_top h0 h1]
    refine congrArg (half * ·) ((Fin.sum_univ_add (a := 256) (b := 256) fun a : Fin (256 + 256) => (whole m c).loss (row s a)).trans ?_).symm
    refine congrArg₂ (· + ·) (Finset.sum_congr rfl fun a _ => ?_) (Finset.sum_congr rfl fun a _ => ?_)
    · exact congrArg (whole m c).loss (Fin.ext (by simp [row]))
    · exact congrArg (whole m c).loss (Fin.ext (by simp [row]; omega))
  simp only [e]
  rw [half_sum]
  refine congrArg (half * ·) ?_
  exact Fin.sum_mul_add_congr (S := 16) (n := 512) fun s a hl => rfl

theorem out_loss (t : Fin cfg0.N) (h : t.val % 16 = 15) (y : S1x128.Idx) : (outsAt0 m c t.val t.isLt).2.2.2.2.2 y = half * ∑ r, (whole m c).loss r := by
  have ht : t.val < 16 := t.isLt
  rw [Pipeline.eq_sum_fin_of_reset_step_apply_of_flush (fun n h => (outsAt0 m c n h).2.2.2.2.2) 16 (fun _ => 0) (term m c)
    (fun s hs z => loss_first_point m c hreal s hs z) (fun s hs z => loss_next_point m c hreal s hs z) t h]
  exact (zero_add _).trans (sum_term m c t _ y)

theorem array_x1 : (dats m 0 c).arrAt (14 : Fin 20) cfg0.N = fun y : S8192x1024.Idx => (whole m c).x1 (y 0) (y 1) := by
  refine (dats m 0 c).arrAt_eq_of_covers (14 : Fin 20) _ (by decide +kernel) fun t hf y => ?_
  obtain ⟨-, -, ⟨⟨h0, h1⟩, -⟩⟩ := idx0 t
  blk_simp
  rw [after0_14]
  change S512x1024.Idx at y
  refine (out_x1 m c hreal t y).trans (congrArg₂ (whole m c).x1 (Fin.ext ?_) (Fin.ext ?_))
  · blk_simp; simp only [h0, row]
  · blk_simp; simp only [h1]; omega

theorem array_x2 : (dats m 0 c).arrAt (15 : Fin 20) cfg0.N = fun y : S8192x1024.Idx => (whole m c).x2 (y 0) (y 1) := by
  refine (dats m 0 c).arrAt_eq_of_covers (15 : Fin 20) _ (by decide +kernel) fun t hf y => ?_
  obtain ⟨-, -, ⟨-, ⟨h0, h1⟩, -⟩⟩ := idx0 t
  blk_simp
  rw [after0_15]
  change S512x1024.Idx at y
  refine (out_x2 m c hreal t y).trans (congrArg₂ (whole m c).x2 (Fin.ext ?_) (Fin.ext ?_))
  · blk_simp; simp only [h0, row]
  · blk_simp; simp only [h1]; omega

theorem array_y : (dats m 0 c).arrAt (16 : Fin 20) cfg0.N = fun y : S8192x1024.Idx => (whole m c).y (y 0) (y 1) := by
  refine (dats m 0 c).arrAt_eq_of_covers (16 : Fin 20) _ (by decide +kernel) fun t hf y => ?_
  obtain ⟨-, -, ⟨-, -, ⟨h0, h1⟩, -⟩⟩ := idx0 t
  blk_simp
  rw [after0_16]
  change S512x1024.Idx at y
  refine (out_y m c hreal t y).trans (congrArg₂ (whole m c).y (Fin.ext ?_) (Fin.ext ?_))
  · blk_simp; simp only [h0, row]
  · blk_simp; simp only [h1]; omega

theorem array_gate : (dats m 0 c).arrAt (17 : Fin 20) cfg0.N = fun y : S8192x2816.Idx => (whole m c).gate (y 0) (y 1) := by
  refine (dats m 0 c).arrAt_eq_of_covers (17 : Fin 20) _ (by decide +kernel) fun t hf y => ?_
  obtain ⟨-, -, ⟨-, -, -, ⟨h0, h1⟩, -⟩⟩ := idx0 t
  blk_simp
  rw [after0_17]
  change S512x2816.Idx at y
  refine (out_gate m c hreal t y).trans (congrArg₂ (whole m c).gate (Fin.ext ?_) (Fin.ext ?_))
  · blk_simp; simp only [h0, row]
  · blk_simp; simp only [h1]; omega

theorem array_up : (dats m 0 c).arrAt (18 : Fin 20) cfg0.N = fun y : S8192x2816.Idx => (whole m c).up (y 0) (y 1) := by
  refine (dats m 0 c).arrAt_eq_of_covers (18 : Fin 20) _ (by decide +kernel) fun t hf y => ?_
  obtain ⟨-, -, ⟨-, -, -, -, ⟨h0, h1⟩, -⟩⟩ := idx0 t
  blk_simp
  rw [after0_18]
  change S512x2816.Idx at y
  refine (out_up m c hreal t y).trans (congrArg₂ (whole m c).up (Fin.ext ?_) (Fin.ext ?_))
  · blk_simp; simp only [h0, row]
  · blk_simp; simp only [h1]; omega

theorem array_loss : (dats m 0 c).arrAt (19 : Fin 20) cfg0.N = fun _ : S1x128.Idx => half * ∑ r, (whole m c).loss r := by
  refine (dats m 0 c).arrAt_eq_of_covers (19 : Fin 20) _ (by decide +kernel) fun t hf y => ?_
  have h := (flush0_19 t).mp hf
  blk_simp
  rw [after0_19]
  exact out_loss m c hreal t h y

end Cert.Post

end
-- ==== Proof.PostClaim.lean ====
/-
  The forward call: on recurrence outputs that are real numbers, the call leaves in its six result arrays exactly what the reference leaves in its six.
-/
module

public import proofs.«01_k».proof.Defs
public import proofs.«01_k».proof.Proof.PostArr
public import proofs.«01_k».proof.Proof.Gen.Reference8Ideal.Run
public import proofs.«01_k».proof.Proof.Gen.Pre_finite8

@[expose] public section

set_option maxRecDepth 16384

noncomputable section

namespace Cert.Post

open Idealize.ShloMosaic Idealize.ShloMosaic.TcCoe Idealize.SL.Sem

/-- An array, entry by entry. -/
theorem array_eq {n p : ℕ} {v : (⟨2, ![n, p]⟩ : Shape).Idx → EReal} {F : Fin n → Fin p → EReal} (h : ∀ r k, v (ix2 r k) = F r k) :
    v = fun y => F (y 0) (y 1) := by
  funext y
  have e : y = ix2 (y 0) (y 1) := (ix2_eta y).symm
  exact (congrArg v e).trans (h _ _)

/-- The reference's run reads its arguments and has no semaphore. -/
theorem frame_reference : Cert.quiescent_Reference8Ideal := by
  intro m ρ _
  exact (θ_run Cert.Reference8Ideal.defs _ _).mono
    (fun r h => ⟨fun c => (h c).2.2.2.2.2.2, Idealize.ShloMosaic.sem_eq_zero_of_no_sems (by decide) r.2⟩)
    (Cert.Reference8Ideal.Value.run (F := Ideal) m ρ)

/-- The value claim. -/
theorem algebraic : Cert.algebraic_Kernel8Ideal_Reference8Ideal_pre_finite8 := by
  intro m g m' g' pre same
  have hreal : ∀ c, (whole m c).Real := fun c r i =>
    ⟨_, (congrArg₂ (· + ·) (real_of_below (congrFun (pre c).1 (ix2 r i))) (real_of_below (congrFun (pre c).2 (ix2 r i)))).trans (EReal.coe_add _ _).symm⟩
  refine ⟨fun c => fun y : Cert.Kernel8Ideal.S8192x1024.Idx => (whole m c).x1 (y 0) (y 1),
    fun c => fun y : Cert.Kernel8Ideal.S8192x1024.Idx => (whole m c).x2 (y 0) (y 1),
    fun c => fun y : Cert.Kernel8Ideal.S8192x1024.Idx => (whole m c).y (y 0) (y 1),
    fun c => fun y : Cert.Kernel8Ideal.S8192x2816.Idx => (whole m c).gate (y 0) (y 1),
    fun c => fun y : Cert.Kernel8Ideal.S8192x2816.Idx => (whole m c).up (y 0) (y 1),
    fun c => fun _ : Cert.Kernel8Ideal.S1x128.Idx => half * ∑ r, (whole m c).loss r, ?_, ?_⟩
  · refine (θ_run Cert.Kernel8Ideal.defs _ _).mono (fun r h c => ?_)
      (θ_run_and (Cert.Kernel8Ideal.Gen.run_main m g) (Cert.Kernel8Ideal.Gen.unchanged m g))
    have w := (h.1 c).1
    exact ⟨(w (14 : Fin 20)).trans (array_x1 m c (hreal c)), (w (15 : Fin 20)).trans (array_x2 m c (hreal c)), (w (16 : Fin 20)).trans (array_y m c (hreal c)),
      (w (17 : Fin 20)).trans (array_gate m c (hreal c)), (w (18 : Fin 20)).trans (array_up m c (hreal c)), (w (19 : Fin 20)).trans (array_loss m c (hreal c)), h.2 c⟩
  · refine (θ_run Cert.Reference8Ideal.defs _ _).mono (fun r h c => ?_) (Cert.Reference8Ideal.Value.run (F := Ideal) m' g')
    obtain ⟨h0, h1, h2, h3, h4, h5, ha⟩ := h c
    obtain ⟨s0, s1, s2, s3, s4, s5, s6, s7, s8, s9, s10, s11, s12, s13⟩ := same c
    have hA : whole m c = Ref.args (m' ((c.tc : Thread Cert.Reference8Ideal.nD Cert.Reference8Ideal.τ).loc Cert.Reference8Ideal.main_arg0))
        (m' ((c.tc : Thread Cert.Reference8Ideal.nD Cert.Reference8Ideal.τ).loc Cert.Reference8Ideal.main_arg5))
        (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2))
        (m' ((c.tc : Thread Cert.Reference8Ideal.nD Cert.Reference8Ideal.τ).loc Cert.Reference8Ideal.main_arg3))
        (m' ((c.tc : Thread Cert.Reference8Ideal.nD Cert.Reference8Ideal.τ).loc Cert.Reference8Ideal.main_arg4))
        (m' ((c.tc : Thread Cert.Reference8Ideal.nD Cert.Reference8Ideal.τ).loc Cert.Reference8Ideal.main_arg6))
        (m' ((c.tc : Thread Cert.Reference8Ideal.nD Cert.Reference8Ideal.τ).loc Cert.Reference8Ideal.main_arg7))
        (m' ((c.tc : Thread Cert.Reference8Ideal.nD Cert.Reference8Ideal.τ).loc Cert.Reference8Ideal.main_arg8))
        (m' ((c.tc : Thread Cert.Reference8Ideal.nD Cert.Reference8Ideal.τ).loc Cert.Reference8Ideal.main_arg9))
        (m' ((c.tc : Thread Cert.Reference8Ideal.nD Cert.Reference8Ideal.τ).loc Cert.Reference8Ideal.main_arg13))
        (m' ((c.tc : Thread Cert.Reference8Ideal.nD Cert.Reference8Ideal.τ).loc Cert.Reference8Ideal.main_arg10))
        (m' ((c.tc : Thread Cert.Reference8Ideal.nD Cert.Reference8Ideal.τ).loc Cert.Reference8Ideal.main_arg11))
        (m' ((c.tc : Thread Cert.Reference8Ideal.nD Cert.Reference8Ideal.τ).loc Cert.Reference8Ideal.main_arg12)) := by
      rw [s0, s1, s2, s3, s4, s5, s6, s7, s8, s9, s10, s11, s12, s13]
      rfl
    refine ⟨h0.trans ((Cert.Reference8Ideal.Read.val_main_v39_eq _).trans (array_eq (Ref.v39 hA))),
      h1.trans ((Cert.Reference8Ideal.Read.val_main_v59_eq _).trans (array_eq (Ref.v59 hA))),
      h2.trans ((Cert.Reference8Ideal.Read.val_main_v80_eq _).trans (array_eq (Ref.v37 hA))),
      h3.trans ((Cert.Reference8Ideal.Read.val_main_v81_eq _).trans (array_eq (Ref.v53 hA))),
      h4.trans ((Cert.Reference8Ideal.Read.val_main_v82_eq _).trans (array_eq (Ref.v55 hA))),
      h5.trans ((Cert.Reference8Ideal.Read.val_main_v79_eq _).trans (array_eq (Ref.v79 hA))), ha⟩

end Cert.Post

end
-- ==== Proof.PostBwd.lean ====
/-
  The gradients of one token's row behind the output projection, over the extended reals, and the two ways of writing
  the gradient of a row's normalisation and of `silu`.
-/
module

public import proofs.«01_k».proof.Proof.Post

@[expose] public section

noncomputable section

namespace Cert.PostBwd

open Idealize.ShloMosaic Cert.Post

/-- One over the root of a row's mean square. -/
def scale {n : ℕ} (d : EReal) (v : Fin n → EReal) : EReal := Ideal.rsqrt (meanSq d v + eps)

/-- A row over the root of its mean square. -/
def unit {n : ℕ} (d : EReal) (v : Fin n → EReal) (i : Fin n) : EReal := v i * scale d v

/-- The gradient of a row from the gradient `e` of the row over the root of its mean square. -/
def pull {n : ℕ} (d : EReal) (v e : Fin n → EReal) (i : Fin n) : EReal :=
  scale d v * (e i - unit d v i * Ideal.div (∑ k, e k * unit d v k) d)

def mhalf : EReal := Ideal.ofBits .f32 0xBF000000#32
def inv1024 : EReal := Ideal.ofBits .f32 0x3A800000#32
def two : EReal := Ideal.ofBits .f32 0x40000000#32

/-- The gradient of the mean square, as the derivative of `rsqrt` gives it. -/
def msGrad {n : ℕ} (d : EReal) (v e : Fin n → EReal) : EReal :=
  Ideal.div ((∑ k, v k * e k) * (mhalf * Ideal.div (scale d v) (meanSq d v + eps))) d

/-- `pull`, as the product rule gives it. -/
def pullRule {n : ℕ} (d : EReal) (v e : Fin n → EReal) (i : Fin n) : EReal :=
  e i * scale d v + v i * msGrad d v e + msGrad d v e * v i

/-! ## The constants -/

theorem c512_real : c512 = ((512 : ℝ) : EReal) := by
  simp only [c512, Ideal.ofBits, Ideal.ieee]; simp; rw [← EReal.coe_mul]; norm_num

theorem c1024_real : c1024 = ((1024 : ℝ) : EReal) := by
  simp only [c1024, Ideal.ofBits, Ideal.ieee]; simp; rw [← EReal.coe_mul]; norm_num

theorem mhalf_real : mhalf = ((-(1 / 2) : ℝ) : EReal) := by
  simp only [mhalf, Ideal.ofBits, Ideal.ieee]; simp; rw [← EReal.coe_mul]; norm_num

theorem inv1024_real : inv1024 = ((1 / 1024 : ℝ) : EReal) := by
  simp only [inv1024, Ideal.ofBits, Ideal.ieee]; simp; rw [← EReal.coe_mul]; norm_num

theorem two_real : two = ((2 : ℝ) : EReal) := by
  simp only [two, Ideal.ofBits, Ideal.ieee]; simp; rw [← EReal.coe_mul]; norm_num

theorem eps_real : ∃ e : ℝ, 0 < e ∧ eps = (e : EReal) := by
  simp only [eps, Ideal.ofBits, Ideal.ieee]; simp; rw [← EReal.coe_mul]
  exact ⟨_, by norm_num, rfl⟩

/-! ## Extended reals -/

/-- A positive real factor goes into a sum. -/
theorem mul_add_pos {s : ℝ} (hs : 0 ≤ s) (a b : EReal) : (s : EReal) * (a + b) = s * a + s * b :=
  EReal.left_distrib_of_nonneg_of_ne_top (by exact_mod_cast hs) (EReal.coe_ne_top s) a b

theorem mul_sum_pos {s : ℝ} (hs : 0 ≤ s) {n : ℕ} (f : Fin n → EReal) : (s : EReal) * ∑ k, f k = ∑ k, (s : EReal) * f k := by
  classical
  suffices h : ∀ t : Finset (Fin n), (s : EReal) * ∑ k ∈ t, f k = ∑ k ∈ t, (s : EReal) * f k from h _
  intro t
  induction t using Finset.induction_on with
  | empty => simp
  | insert a t ha ih => rw [Finset.sum_insert ha, Finset.sum_insert ha, mul_add_pos hs, ih]

theorem add_self (x : EReal) : x + x = ((2 : ℝ) : EReal) * x := by
  induction x using EReal.rec with
  | bot => rw [EReal.coe_mul_bot_of_pos (by norm_num)]; rfl
  | top => rw [EReal.coe_mul_top_of_pos (by norm_num)]; rfl
  | coe x => rw [← EReal.coe_add, ← EReal.coe_mul, two_mul]

theorem sq_nonneg (x : EReal) : 0 ≤ x * x := by
  induction x using EReal.rec with
  | bot => simp
  | top => simp
  | coe x => rw [← EReal.coe_mul]; exact_mod_cast mul_self_nonneg x

/-- A row is real throughout, or its scale is zero. -/
theorem scale_cases {n : ℕ} {d : ℝ} (hd : 0 < d) (v : Fin n → EReal) :
    (∃ (z : Fin n → ℝ) (q : ℝ), (∀ i, v i = (z i : EReal)) ∧ 0 < q ∧ meanSq d v + eps = (q : EReal)) ∨
      (meanSq d v + eps = ⊤ ∧ scale d v = 0) := by
  obtain ⟨e, he, hee⟩ := eps_real
  by_cases h : ∀ i, ∃ z : ℝ, v i = (z : EReal)
  · choose z hz using h
    refine Or.inl ⟨z, (∑ i, z i * z i) / d + e, hz, ?_, ?_⟩
    · have : 0 ≤ (∑ i, z i * z i) / d := div_nonneg (Finset.sum_nonneg fun i _ => mul_self_nonneg _) hd.le
      linarith
    · simp only [meanSq, hz, ← EReal.coe_mul, Attn.coe_sum, Attn.div_real _ _ hd.ne', hee, ← EReal.coe_add]
  · obtain ⟨i, hi⟩ := not_forall.mp h
    have top : v i * v i = ⊤ := by
      revert hi
      induction v i using EReal.rec with
      | bot => exact fun _ => by simp
      | top => exact fun _ => by simp
      | coe x => exact fun hn => absurd ⟨x, rfl⟩ hn
    have sum : ∑ k, v k * v k = ⊤ :=
      top_le_iff.mp (top ▸ Finset.single_le_sum (f := fun k => v k * v k) (fun k _ => sq_nonneg (v k)) (Finset.mem_univ i))
    have q : meanSq d v + eps = ⊤ := by
      rw [meanSq, sum, Ideal.div_coe hd.ne', EReal.top_mul_coe_of_pos (by positivity), hee]
      rfl
    exact Or.inr ⟨q, by rw [scale, q]; rfl⟩

/-- The two ways of writing the gradient of the normalisation agree. -/
theorem pull_rule {n : ℕ} {d : ℝ} (hd : 0 < d) (v e : Fin n → EReal) (i : Fin n) :
    pullRule (d : EReal) v e i = pull (d : EReal) v e i := by
  rcases scale_cases hd v with ⟨z, q, hz, hq, hm⟩ | ⟨hm, hs⟩
  · have hr : 0 < √q := Real.sqrt_pos.mpr hq
    have hs : scale d v = (((√q)⁻¹ : ℝ) : EReal) := by
      rw [scale, hm, Ideal.rsqrt_coe, if_neg (not_lt.mpr hq.le), if_neg hq.ne']
    have sum : ∑ k, e k * unit d v k = (((√q)⁻¹ : ℝ) : EReal) * ∑ k, v k * e k := by
      rw [mul_sum_pos (inv_nonneg.mpr hr.le)]
      refine Finset.sum_congr rfl fun k _ => ?_
      rw [unit, hs, mul_comm, mul_assoc, mul_left_comm]
    have ms : msGrad d v e = (∑ k, v k * e k) * ((-(1 / 2) * ((√q)⁻¹ / q) * (1 / d) : ℝ) : EReal) := by
      rw [msGrad, hs, hm, Attn.div_real _ _ hq.ne', Ideal.div_coe hd.ne', mhalf_real, ← EReal.coe_mul, mul_assoc, ← EReal.coe_mul]
    rw [pullRule, pull, mul_comm (msGrad _ _ _) (v i), add_assoc, add_self, sub_eq_add_neg, hs, mul_add_pos (inv_nonneg.mpr hr.le), mul_comm (e i)]
    refine congrArg (fun x : EReal => (((√q)⁻¹ : ℝ) : EReal) * e i + x) ?_
    rw [ms, sum, unit, hs, hz, Ideal.div_coe hd.ne', ← EReal.neg_mul]
    generalize ∑ k, v k * e k = T
    rw [← EReal.coe_mul, ← EReal.coe_neg]
    have l : ((2 : ℝ) : EReal) * ((z i : EReal) * (T * ((-(1 / 2) * ((√q)⁻¹ / q) * (1 / d) : ℝ) : EReal))) =
        T * ((2 * (z i * (-(1 / 2) * ((√q)⁻¹ / q) * (1 / d))) : ℝ) : EReal) := by
      rw [EReal.coe_mul, EReal.coe_mul]; ac_rfl
    have r : (((√q)⁻¹ : ℝ) : EReal) * (((-(z i * (√q)⁻¹) : ℝ) : EReal) * ((((√q)⁻¹ : ℝ) : EReal) * T * ((1 / d : ℝ) : EReal))) =
        T * (((√q)⁻¹ * (-(z i * (√q)⁻¹) * ((√q)⁻¹ * (1 / d))) : ℝ) : EReal) := by
      rw [EReal.coe_mul, EReal.coe_mul, EReal.coe_mul (√q)⁻¹ (1 / d)]; ac_rfl
    rw [l, r]
    refine congrArg (fun x : ℝ => T * (x : EReal)) ?_
    have hqq : √q * √q = q := Real.mul_self_sqrt hq.le
    have e2 : q⁻¹ = (√q)⁻¹ * (√q)⁻¹ := by rw [← mul_inv, hqq]
    rw [div_eq_mul_inv _ q, e2]
    ring
  · have ms : msGrad d v e = 0 := by
      have : Ideal.div 0 ⊤ = 0 := by simp [Ideal.div]
      rw [msGrad, hs, hm, this, mul_zero, mul_zero, Ideal.div_coe hd.ne', zero_mul]
    rw [pullRule, pull, ms, hs, mul_zero, mul_zero, zero_mul, zero_mul, add_zero, add_zero]

/-- With real numbers arriving, the gradient of the normalisation is real; when the row is infinite it is zero. -/
theorem pull_real {n : ℕ} {d : ℝ} (hd : 0 < d) (v e : Fin n → EReal)
    (he : (∀ i, ∃ z : ℝ, unit (d : EReal) v i = (z : EReal)) → ∀ i, ∃ z : ℝ, e i = (z : EReal)) (i : Fin n) :
    ∃ z : ℝ, pull (d : EReal) v e i = (z : EReal) := by
  rcases scale_cases hd v with ⟨z, q, hz, hq, hm⟩ | ⟨_, hs⟩
  · have hs : scale d v = (((√q)⁻¹ : ℝ) : EReal) := by
      rw [scale, hm, Ideal.rsqrt_coe, if_neg (not_lt.mpr hq.le), if_neg hq.ne']
    have hu : ∀ i, unit d v i = ((z i * (√q)⁻¹ : ℝ) : EReal) := fun i => by rw [unit, hz, hs, EReal.coe_mul]
    choose x hx using he fun i => ⟨_, hu i⟩
    refine ⟨(√q)⁻¹ * (x i - z i * (√q)⁻¹ * ((∑ k, x k * (z k * (√q)⁻¹)) / d)), ?_⟩
    simp only [pull, hs, hu, hx, ← EReal.coe_mul, Attn.coe_sum, Attn.div_real _ _ hd.ne', ← EReal.coe_sub]
  · exact ⟨0, by rw [pull, hs, zero_mul, EReal.coe_zero]⟩

/-- The derivative of `silu` times a real number, with the factor taken out or not. -/
theorem silu_grad (g : EReal) (d : ℝ) :
    (d : EReal) * Ideal.logistic g + g * (d : EReal) * (Ideal.logistic g * (1 - Ideal.logistic g)) =
      (d : EReal) * (Ideal.logistic g * (1 + g * (1 - Ideal.logistic g))) := by
  induction g using EReal.rec with
  | bot =>
    have : Ideal.logistic ⊥ = 0 := by
      have e : Ideal.exp ⊤ = ⊤ := rfl
      have t : (1 : EReal) + ⊤ = ⊤ := rfl
      rw [Ideal.logistic, EReal.neg_bot, e, t]
      simp [Ideal.div]
    simp [this]
  | top =>
    have h : Ideal.logistic ⊤ = 1 := by
      rw [Ideal.logistic, EReal.neg_top, Ideal.exp_bot]
      simp [Ideal.div]
    have h1 : (1 : EReal) - 1 = 0 := by rw [← EReal.coe_one, ← EReal.coe_sub, sub_self, EReal.coe_zero]
    simp [h, h1]
  | coe g =>
    have h : Ideal.logistic (g : EReal) = ((1 / (1 + Real.exp (-g)) : ℝ) : EReal) := by
      have hp : 1 + Real.exp (-g) ≠ 0 := (add_pos one_pos (Real.exp_pos _)).ne'
      rw [Ideal.logistic, ← EReal.coe_neg, Ideal.exp_coe, ← EReal.coe_one, ← EReal.coe_add, Attn.div_real _ _ hp]
    rw [h]
    generalize 1 / (1 + Real.exp (-g)) = s
    simp only [← EReal.coe_one, ← EReal.coe_sub, ← EReal.coe_mul, ← EReal.coe_add]
    refine congrArg _ ?_
    ring

/-! ## The gradients -/

/-- The arguments: `n` tokens' rows, and the weights. -/
structure Rows (n : ℕ) where
  x1 : Fin n → Fin 1024 → EReal
  x2 : Fin n → Fin 1024 → EReal
  gate : Fin n → Fin 2816 → EReal
  up : Fin n → Fin 2816 → EReal
  oa : Fin n → Fin 512 → EReal
  tgt : Fin n → Fin 1024 → EReal
  gm : Fin 512 → EReal
  wo : Fin 1024 → Fin 1024 → EReal
  g2 : Fin 1024 → EReal
  wg : Fin 2816 → Fin 1024 → EReal
  wu : Fin 2816 → Fin 1024 → EReal
  wd : Fin 2816 → Fin 1024 → EReal
  gf : Fin 1024 → EReal

namespace Rows

variable {n : ℕ} (A : Rows n)

/-- Some of the rows, with the same weights. -/
def take {p : ℕ} (e : Fin p → Fin n) : Rows p :=
  { A with x1 := fun r => A.x1 (e r), x2 := fun r => A.x2 (e r), gate := fun r => A.gate (e r), up := fun r => A.up (e r),
           oa := fun r => A.oa (e r), tgt := fun r => A.tgt (e r) }

/-- What has to be real for the gradient of `gate` not to depend on how it is written. -/
structure Real : Prop where
  up : ∀ r j, ∃ z : ℝ, A.up r j = (z : EReal)
  tgt : ∀ r k, ∃ z : ℝ, A.tgt r k = (z : EReal)
  wd : ∀ j k, ∃ z : ℝ, A.wd j k = (z : EReal)
  gf : ∀ k, ∃ z : ℝ, A.gf k = (z : EReal)

variable (r : Fin n)

/-- The gradient of the last normalised row. -/
def dy (k : Fin 1024) : EReal := (norm c1024 (A.x2 r) A.gf k - A.tgt r k) * inv1024

/-- The gradient of the residual stream after the feed-forward layer. -/
def dx2 : Fin 1024 → EReal := pull c1024 (A.x2 r) fun k => A.dy r k * A.gf k

/-- A row's part of the gradient of the last gain. -/
def pgf (k : Fin 1024) : EReal := A.dy r k * unit c1024 (A.x2 r) k

/-- The feed-forward layer's input. -/
def h : Fin 1024 → EReal := norm c1024 (A.x1 r) A.g2

def act (j : Fin 2816) : EReal := silu (A.gate r j) * A.up r j

def dact : Fin 2816 → EReal := against (A.dx2 r) A.wd

def dup (j : Fin 2816) : EReal := A.dact r j * silu (A.gate r j)

def dgate (j : Fin 2816) : EReal :=
  A.dact r j * A.up r j * (Ideal.logistic (A.gate r j) * (1 + A.gate r j * (1 - Ideal.logistic (A.gate r j))))

/-- The gradient of the feed-forward layer's input. -/
def dh (k : Fin 1024) : EReal := times (A.dgate r) A.wg k + times (A.dup r) A.wu k

/-- A row's part of the gradient of the feed-forward layer's gain. -/
def pg2 (k : Fin 1024) : EReal := A.dh r k * unit c1024 (A.x1 r) k

/-- The gradient of the residual stream after the output projection. -/
def dx1 (k : Fin 1024) : EReal := A.dx2 r k + pull c1024 (A.x1 r) (fun k => A.dh r k * A.g2 k) k

/-- The gradient of the recurrence's half of the output projection's input. -/
def dya (i : Fin 512) : EReal := ∑ k, A.dx1 r k * A.wo (lo i) k

/-- The gradient of the attention's half. -/
def dyb (i : Fin 512) : EReal := ∑ k, A.dx1 r k * A.wo (hi i) k

/-- A row's part of the gradient of the attention output's gain. -/
def pgm (i : Fin 512) : EReal := A.dyb r i * unit c512 (A.oa r) i

/-- The gradient of the attention output. -/
def doa : Fin 512 → EReal := pull c512 (A.oa r) fun i => A.dyb r i * A.gm i

/-! ## As the chain rule writes them -/

theorem dy_rule (k : Fin 1024) :
    Ideal.div (half * 1) c1024 * (two * (norm c1024 (A.x2 r) A.gf k - A.tgt r k)) = A.dy r k := by
  rw [dy, mul_one, half_real, two_real, inv1024_real, c1024_real, Attn.div_real _ _ (by norm_num), ← mul_assoc, ← EReal.coe_mul, mul_comm]
  refine congrArg (fun x : ℝ => _ * (x : EReal)) ?_
  norm_num

theorem dx2_rule (k : Fin 1024) : pullRule c1024 (A.x2 r) (fun k => A.dy r k * A.gf k) k = A.dx2 r k := by
  rw [dx2, c1024_real]
  exact pull_rule (by norm_num) _ _ k

theorem dx1_rule (k : Fin 1024) : A.dx2 r k + pullRule c1024 (A.x1 r) (fun k => A.dh r k * A.g2 k) k = A.dx1 r k := by
  rw [dx1, c1024_real]
  exact congrArg (_ + ·) (pull_rule (by norm_num) _ _ k)

theorem doa_rule (i : Fin 512) : pullRule c512 (A.oa r) (fun i => A.dyb r i * A.gm i) i = A.doa r i := by
  rw [doa, c512_real]
  exact pull_rule (by norm_num) _ _ i

variable {A}

theorem dx2_real (h : A.Real) (k : Fin 1024) : ∃ z : ℝ, A.dx2 r k = (z : EReal) := by
  rw [dx2, c1024_real]
  refine pull_real (by norm_num) _ _ (fun hu i => ?_) k
  obtain ⟨u, hu⟩ := hu i
  obtain ⟨t, ht⟩ := h.tgt r i
  obtain ⟨g, hg⟩ := h.gf i
  have e : norm c1024 (A.x2 r) A.gf i = unit c1024 (A.x2 r) i * A.gf i := rfl
  refine ⟨(u * g - t) * (1 / 1024) * g, ?_⟩
  rw [dy, e, c1024_real, hu, hg, ht, inv1024_real]
  simp only [EReal.coe_mul, EReal.coe_sub]

theorem dgate_rule (h : A.Real) (j : Fin 2816) :
    A.dact r j * A.up r j * Ideal.logistic (A.gate r j) +
        A.gate r j * (A.dact r j * A.up r j) * (Ideal.logistic (A.gate r j) * (1 - Ideal.logistic (A.gate r j))) = A.dgate r j := by
  choose x hx using dx2_real r h
  choose w hw using h.wd j
  obtain ⟨u, hu⟩ := h.up r j
  have e : A.dact r j * A.up r j = (((∑ k, x k * w k) * u : ℝ) : EReal) := by
    simp only [dact, against, hx, hw, hu, ← EReal.coe_mul, Attn.coe_sum]
  rw [dgate, e]
  exact silu_grad _ _

end Rows

end Cert.PostBwd

end
-- ==== Proof.PostBwdPay.lean ====
/-
  What the backward call computes for 256 rows: each stored value is the matching gradient of the rows.
-/
module

public import proofs.«01_k».proof.Proof.PostBwd
public import proofs.«01_k».proof.Proof.PostRef
public import proofs.«01_k».proof.Proof.Gen.Kernel9Ideal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.PostBwd

open Idealize.ShloMosaic Idealize.ShloMosaic.TcCoe Idealize.SL.Sem Cert.Post
open Cert.Kernel9Ideal Cert.Kernel9Ideal.Gen

section Row

variable {A : Rows 256} (a : Fin 256)
variable {x1 x2 tgt v34 v44 v114 v115 v29 : Vec Ideal S256x1024 .f32} {gate up v74 : Vec Ideal S256x2816 .bf16} {oa : Vec Ideal S256x512 .f32} {gm : Vec Ideal S1x512 .f32}
  {w0 w1 : Vec Ideal S512x1024 .bf16} {g2 gf gf' : Vec Ideal S1x1024 .f32} {wg wu wd : Vec Ideal S2816x1024 .bf16}
  {v27 v37 v38 : Vec Ideal S256x1 .f32} {v63 v66 v75 v76 : Vec Ideal S256x2816 .f32}
variable (hx1 : ∀ k, x1 (ix2 a k) = A.x1 a k) (hx2 : ∀ k, x2 (ix2 a k) = A.x2 a k) (hgate : ∀ j, gate (ix2 a j) = A.gate a j) (hup : ∀ j, up (ix2 a j) = A.up a j)
  (hoa : ∀ i, oa (ix2 a i) = A.oa a i) (ht : ∀ k, tgt (ix2 a k) = A.tgt a k) (hgm : ∀ i, gm (ix2 0 i) = A.gm i)
  (h0 : ∀ i k, w0 (ix2 i k) = A.wo (lo i) k) (h1 : ∀ i k, w1 (ix2 i k) = A.wo (hi i) k) (hg2 : ∀ k, g2 (ix2 0 k) = A.g2 k)
  (hwg : ∀ j k, wg (ix2 j k) = A.wg j k) (hwu : ∀ j k, wu (ix2 j k) = A.wu j k) (hwd : ∀ j k, wd (ix2 j k) = A.wd j k) (hgf : ∀ k, gf (ix2 0 k) = A.gf k)

/-! ### The last normalisation -/

include hx2 in
theorem p9 : k0_pay9 (F := Ideal) x2 (ix2 a 0) = scale c1024 (A.x2 a) := by
  pointwise [k0_pay9]
  simp only [hx2]
  rfl

include hx2 in
theorem p10 (k : Fin 1024) : k0_pay10 (F := Ideal) x2 (ix2 a k) = unit c1024 (A.x2 a) k := by
  pointwise [k0_pay10]
  simp only [p9 a hx2, hx2]
  rfl

include hx2 ht hgf in
theorem p8 (k : Fin 1024) : k0_pay8 (F := Ideal) x2 gf tgt (ix2 a k) = A.dy a k := by
  pointwise [k0_pay8]
  simp only [hx2, ht, hgf]
  rfl

include hx2 ht hgf in
theorem p12 (k : Fin 1024) : k0_pay12 (F := Ideal) x2 gf tgt gf (ix2 a k) = A.dy a k * A.gf k := by
  pointwise [k0_pay12]
  simp only [p8 a hx2 ht hgf, hgf]

include hx2 ht hgf in
theorem p13 : k0_pay13 (F := Ideal) x2 gf tgt gf (ix2 a 0) = ∑ k, A.dy a k * A.gf k * unit c1024 (A.x2 a) k := by
  pointwise [k0_pay13]
  simp only [p12 a hx2 ht hgf, p10 a hx2]

include hx2 ht hgf in
theorem p15 (k : Fin 1024) : k0_pay15 (F := Ideal) (k0_pay9 (F := Ideal) x2) (k0_pay10 (F := Ideal) x2) (k0_pay12 (F := Ideal) x2 gf tgt gf) (k0_pay13 (F := Ideal) x2 gf tgt gf)
    k0_pay14 (ix2 a k) = A.dx2 a k := by
  have e : k0_pay14 (F := Ideal) (ix2 a 0) = c1024 := by pointwise [k0_pay14]; rfl
  pointwise [k0_pay15]
  simp only [p9 a hx2, p10 a hx2, p12 a hx2 ht hgf, p13 a hx2 ht hgf, e]
  rfl

variable (hd : ∀ k, k0_pay15 (F := Ideal) v27 v29 v34 v37 v38 (ix2 a k) = A.dx2 a k)

include hd in
theorem p16 (k : Fin 1024) : k0_pay16 (F := Ideal) v27 v29 v34 v37 v38 (ix2 a k) = A.dx2 a k := by
  pointwise [k0_pay16]
  exact hd k

/-! ### The feed-forward layer -/

include hx1 hg2 in
theorem p17 (k : Fin 1024) : k0_pay17 (F := Ideal) x1 g2 (ix2 a k) = A.h a k := by
  pointwise [k0_pay17]
  simp only [hx1, hg2]
  rfl

include hgate in
theorem p18 (j : Fin 2816) : k0_pay18 (F := Ideal) gate (ix2 a j) = A.gate a j := by
  pointwise [k0_pay18]
  exact hgate j

include hup in
theorem p19 (j : Fin 2816) : k0_pay19 (F := Ideal) up (ix2 a j) = A.up a j := by
  pointwise [k0_pay19]
  exact hup j

include hgate in
theorem p20 (j : Fin 2816) : k0_pay20 (F := Ideal) gate (ix2 a j) = Ideal.logistic (A.gate a j) := by
  pointwise [k0_pay20]
  simp only [p18 a hgate]

include hgate in
theorem p21 (j : Fin 2816) : k0_pay21 (F := Ideal) gate (ix2 a j) = silu (A.gate a j) := by
  pointwise [k0_pay21]
  simp only [p18 a hgate, p20 a hgate]
  rfl

include hgate hup in
theorem p22 (j : Fin 2816) : k0_pay22 (F := Ideal) gate up (ix2 a j) = A.act a j := by
  pointwise [k0_pay22]
  simp only [p21 a hgate, p19 a hup]
  rfl

include hd hwd in
theorem p23 (j : Fin 2816) : k0_pay23 (F := Ideal) v27 v29 v34 v37 v38 wd (ix2 a j) = A.dact a j := by
  pointwise [k0_pay23]
  simp only [p16 a hd, hwd]
  rfl

include hd hwd hgate in
theorem p24 (j : Fin 2816) : k0_pay24 (F := Ideal) v27 v29 v34 v37 v38 gate wd (ix2 a j) = A.dup a j := by
  pointwise [k0_pay24]
  simp only [p23 a hwd hd, p21 a hgate]
  rfl

include hd hwd hup in
theorem p25 (j : Fin 2816) : k0_pay25 (F := Ideal) v27 v29 v34 v37 v38 up wd (ix2 a j) = A.dact a j * A.up a j := by
  pointwise [k0_pay25]
  simp only [p23 a hwd hd, p19 a hup]

theorem p26 (j : Fin 2816) : k0_pay26 (F := Ideal) (ix2 a j) = (1 : EReal) := by
  pointwise [k0_pay26]

variable (h63 : ∀ j, v63 (ix2 a j) = A.gate a j) (h66 : ∀ j, v66 (ix2 a j) = Ideal.logistic (A.gate a j)) (h74 : ∀ j, v74 (ix2 a j) = A.dup a j)
  (h75 : ∀ j, v75 (ix2 a j) = A.dact a j * A.up a j) (h76 : ∀ j, v76 (ix2 a j) = (1 : EReal))

include h63 h66 h75 h76 in
theorem p27 (j : Fin 2816) : k0_pay27 (F := Ideal) v63 v66 v75 v76 (ix2 a j) = A.dgate a j := by
  pointwise [k0_pay27]
  simp only [h63, h66, h75, h76]
  rw [Rows.dgate]

include h63 h66 h74 h75 h76 hwg hwu in
theorem p28 (k : Fin 1024) : k0_pay28 (F := Ideal) v63 v66 v74 v75 v76 wg wu (ix2 a k) = A.dh a k := by
  pointwise [k0_pay28]
  simp only [p27 a h63 h66 h75 h76, h74, hwg, hwu]
  rfl

include hx1 in
theorem p29 : k0_pay29 (F := Ideal) x1 (ix2 a 0) = scale c1024 (A.x1 a) := by
  pointwise [k0_pay29]
  simp only [hx1]
  rfl

include hx1 in
theorem p30 (k : Fin 1024) : k0_pay30 (F := Ideal) x1 (ix2 a k) = unit c1024 (A.x1 a) k := by
  pointwise [k0_pay30]
  simp only [p29 a hx1, hx1]
  rfl

variable (h28 : ∀ k, k0_pay28 (F := Ideal) v63 v66 v74 v75 v76 wg wu (ix2 a k) = A.dh a k)

include hx1 hg2 h28 in
theorem p32 (k : Fin 1024) : k0_pay32 (F := Ideal) x1 v63 v66 v74 v75 v76 wg wu g2 (ix2 a k) =
    A.dh a k * A.g2 k - unit c1024 (A.x1 a) k * Ideal.div (∑ k, A.dh a k * A.g2 k * unit c1024 (A.x1 a) k) c1024 := by
  pointwise [k0_pay32]
  simp only [p30 a hx1, h28, hg2]
  rfl

include hx1 in
theorem p33 (k : Fin 1024) : k0_pay33 (F := Ideal) x1 (ix2 a k) = scale c1024 (A.x1 a) := by
  pointwise [k0_pay33]
  exact p29 a hx1

variable (h44 : ∀ k, v44 (ix2 a k) = A.dx2 a k) (h115 : ∀ k, v115 (ix2 a k) = scale c1024 (A.x1 a))
  (h114 : ∀ k, v114 (ix2 a k) = A.dh a k * A.g2 k - unit c1024 (A.x1 a) k * Ideal.div (∑ k, A.dh a k * A.g2 k * unit c1024 (A.x1 a) k) c1024)

include h44 h114 h115 in
theorem p34 (k : Fin 1024) : k0_pay34 (F := Ideal) v44 v114 v115 (ix2 a k) = A.dx1 a k := by
  pointwise [k0_pay34]
  simp only [h44, h114, h115]
  rfl

/-! ### The output projection and the attention output's normalisation -/

variable (h34 : ∀ k, k0_pay34 (F := Ideal) v44 v114 v115 (ix2 a k) = A.dx1 a k)

include h34 in
theorem p35 (k : Fin 1024) : k0_pay35 (F := Ideal) v44 v114 v115 (ix2 a k) = A.dx1 a k := by
  pointwise [k0_pay35]
  exact h34 k

include h34 h0 in
theorem p36 (i : Fin 512) : k0_pay36 (F := Ideal) v44 v114 v115 w0 (ix2 a i) = A.dya a i := by
  pointwise [k0_pay36]
  simp only [p35 a h34, h0]
  rfl

include h34 h1 in
theorem p37 (i : Fin 512) : k0_pay37 (F := Ideal) v44 v114 v115 w1 (ix2 a i) = A.dyb a i := by
  pointwise [k0_pay37]
  simp only [p35 a h34, h1]
  rfl

include hoa in
theorem p38 : k0_pay38 (F := Ideal) oa (ix2 a 0) = scale c512 (A.oa a) := by
  pointwise [k0_pay38]
  simp only [hoa]
  rfl

include hoa in
theorem p39 (i : Fin 512) : k0_pay39 (F := Ideal) oa (ix2 a i) = unit c512 (A.oa a) i := by
  pointwise [k0_pay39]
  simp only [p38 a hoa, hoa]
  rfl

include h34 h1 hgm in
theorem p41 (i : Fin 512) : k0_pay41 (F := Ideal) v44 v114 v115 gm w1 (ix2 a i) = A.dyb a i * A.gm i := by
  pointwise [k0_pay41]
  simp only [p37 a h1 h34, hgm]

include h34 h1 hgm hoa in
theorem p42 (i : Fin 512) : k0_pay42 (F := Ideal) v44 v114 v115 oa gm w1 (ix2 a i) =
    unit c512 (A.oa a) i * Ideal.div (∑ i, A.dyb a i * A.gm i * unit c512 (A.oa a) i) c512 := by
  pointwise [k0_pay42]
  simp only [p41 a hgm h1 h34, p39 a hoa]
  rfl

include h34 h1 hgm hoa in
theorem p1 (i : Fin 512) : k0_pay1 (F := Ideal) (k0_pay38 (F := Ideal) oa) (k0_pay41 (F := Ideal) v44 v114 v115 gm w1) (k0_pay42 (F := Ideal) v44 v114 v115 oa gm w1) (ix2 a i) = A.doa a i := by
  pointwise [k0_pay1]
  simp only [p38 a hoa, p41 a hgm h1 h34, p42 a hoa hgm h1 h34]
  rfl

end Row

/-! ## The gains' gradients of 256 rows -/

section Gains

variable {A : Rows 256}
variable {x1 x2 tgt v44 v114 v115 : Vec Ideal S256x1024 .f32} {v74 : Vec Ideal S256x2816 .bf16} {oa : Vec Ideal S256x512 .f32}
  {w1 : Vec Ideal S512x1024 .bf16} {gf : Vec Ideal S1x1024 .f32} {wg wu : Vec Ideal S2816x1024 .bf16} {v63 v66 v75 v76 : Vec Ideal S256x2816 .f32}
variable (hx1 : ∀ a k, x1 (ix2 a k) = A.x1 a k) (hx2 : ∀ a k, x2 (ix2 a k) = A.x2 a k) (hoa : ∀ a i, oa (ix2 a i) = A.oa a i) (ht : ∀ a k, tgt (ix2 a k) = A.tgt a k)
  (h1 : ∀ i k, w1 (ix2 i k) = A.wo (hi i) k) (hgf : ∀ k, gf (ix2 0 k) = A.gf k)
  (h28 : ∀ a k, k0_pay28 (F := Ideal) v63 v66 v74 v75 v76 wg wu (ix2 a k) = A.dh a k) (h34 : ∀ a k, k0_pay34 (F := Ideal) v44 v114 v115 (ix2 a k) = A.dx1 a k)

include hx2 ht hgf in
theorem p11 (k : Fin 1024) : k0_pay11 (F := Ideal) x2 gf tgt (ix2 0 k) = ∑ a, A.pgf a k := by
  pointwise [k0_pay11]
  simp only [fun a => p8 a (hx2 a) (ht a) hgf, fun a => p10 a (hx2 a)]
  rfl

include hx1 h28 in
theorem p31 (k : Fin 1024) : k0_pay31 (F := Ideal) x1 v63 v66 v74 v75 v76 wg wu (ix2 0 k) = ∑ a, A.pg2 a k := by
  pointwise [k0_pay31]
  simp only [h28, fun a => p30 a (hx1 a)]
  rfl

include hoa h1 h34 in
theorem p40 (i : Fin 512) : k0_pay40 (F := Ideal) v44 v114 v115 oa w1 (ix2 0 i) = ∑ a, A.pgm a i := by
  pointwise [k0_pay40]
  simp only [fun a => p37 a h1 (h34 a), fun a => p39 a (hoa a)]
  rfl

end Gains

theorem add5 (v s : FVec Ideal S1x512 .f32) (y : S1x512.Idx) : k0_pay5 (F := Ideal) s v y = v y + s y := by
  idx_vars y
  pointwise [k0_pay5]

theorem add6 (v s : FVec Ideal S1x1024 .f32) (y : S1x1024.Idx) : k0_pay6 (F := Ideal) s v y = v y + s y := by
  idx_vars y
  pointwise [k0_pay6]

theorem add7 (v s : FVec Ideal S1x1024 .f32) (y : S1x1024.Idx) : k0_pay7 (F := Ideal) s v y = v y + s y := by
  idx_vars y
  pointwise [k0_pay7]

theorem zero2 (y : S1x512.Idx) : k0_pay2 (F := Ideal) y = (0 : EReal) := by
  idx_vars y
  pointwise [k0_pay2]

theorem zero3 (y : S1x1024.Idx) : k0_pay3 (F := Ideal) y = (0 : EReal) := by
  idx_vars y
  pointwise [k0_pay3]

theorem zero4 (y : S1x1024.Idx) : k0_pay4 (F := Ideal) y = (0 : EReal) := by
  idx_vars y
  pointwise [k0_pay4]

end Cert.PostBwd

end
-- ==== Proof.PostBwdRef.lean ====
/-
  The reference of the backward call, index by index.
-/
module

public import proofs.«01_k».proof.Proof.PostBwd
public import proofs.«01_k».proof.Proof.PostRef
public import proofs.«01_k».proof.Proof.Gen.Reference9Ideal.Read
public import Idealize.ShloMosaic.Lib.KernelVsHost
public import Idealize.ShloMosaic.Lib.Pointwise

@[expose] public section

set_option maxRecDepth 16384

noncomputable section

namespace Cert.PostBwd.Ref

open Idealize.ShloMosaic Idealize.ShloMosaic.TcCoe Idealize.SL.Sem Cert.Post
open Cert.Post.Ref (same2 zero_lit one_lit)
open Cert.Reference9Ideal Cert.Reference9Ideal.Read

variable (x0 x1 x5 : FVec Ideal S8192x1024 .f32) (x2 x3 : FVec Ideal S8192x2816 .bf16) (x4 : FVec Ideal S8192x512 .f32) (x6 : FVec Ideal S1x512 .f32)
  (x7 : FVec Ideal S1024x1024 .bf16) (x8 x12 : FVec Ideal S1x1024 .f32) (x9 x10 x11 : FVec Ideal S2816x1024 .bf16)

/-- The arguments' entries. -/
def args : Rows 8192 where
  x1 r k := x0 (ix2 r k)
  x2 r k := x1 (ix2 r k)
  gate r j := x2 (ix2 r j)
  up r j := x3 (ix2 r j)
  oa r i := x4 (ix2 r i)
  tgt r k := x5 (ix2 r k)
  gm i := x6 (ix2 0 i)
  wo j k := x7 (ix2 j k)
  g2 k := x8 (ix2 0 k)
  wg j k := x9 (ix2 j k)
  wu j k := x10 (ix2 j k)
  wd j k := x11 (ix2 j k)
  gf k := x12 (ix2 0 k)

variable {x0 x1 x5 x2 x3 x4 x6 x7 x8 x12 x9 x10 x11}
variable {A : Rows 8192} (hA : A = args x0 x1 x5 x2 x3 x4 x6 x7 x8 x12 x9 x10 x11) (hr : A.Real) (r : Fin 8192)
include hA

/-! ## The last normalisation -/

theorem v12 : val_main_v12 (F := Ideal) x1 (ix2 r 0) = meanSq c1024 (A.x2 r) + eps := by
  subst hA
  have e : ∀ k, idx_main_v7 (idx_main_v8 (ix2 r 0)) k = ix2 r k := fun k => same2 rfl rfl
  simp only [val_main_v12_apply, val_main_v11_apply, val_main_v10_apply, val_main_v9_apply, val_main_v8_apply, val_main_v7_apply, val_main_v6_apply, val_main_cst_apply, val_main_cst_0_apply, val_main_cst_1_apply, e, zero_lit, zero_add]
  rfl

theorem v13 : val_main_v13 (F := Ideal) x1 (ix2 r 0) = scale c1024 (A.x2 r) := by
  rw [val_main_v13_apply, v12 hA]
  rfl

theorem v18 (k : Fin 1024) : val_main_v18 (F := Ideal) x1 (ix2 r k) = unit c1024 (A.x2 r) k := by
  have e : idx_main_v17 (ix2 r k) = ix2 r 0 := same2 rfl rfl
  simp only [val_main_v18_apply, val_main_v17_apply, e, v13 hA]
  subst hA
  rfl

theorem v35 (k : Fin 1024) : val_main_v35 (F := Ideal) x1 x5 x12 (ix2 r k) = A.dy r k := by
  have e : idx_main_v19 (ix2 r k) = ix2 0 k := same2 rfl rfl
  rw [← A.dy_rule r k]
  simp only [val_main_v35_apply, val_main_v34_apply, val_main_v33_apply, val_main_v32_apply, val_main_v31_apply, val_main_v30_apply, val_main_v24_apply, val_main_v23_apply, val_main_v21_apply, val_main_v20_apply, val_main_v19_apply, val_main_cst_3_apply, val_main_cst_8_apply, val_main_cst_9_apply, val_main_cst_10_apply, e, v18 hA, one_lit]
  subst hA
  rfl

omit r in
theorem v38 (u : Fin 1) (k : Fin 1024) : val_main_v38 (F := Ideal) x1 x5 x12 (ix2 u k) = ∑ r, A.pgf r k := by
  have e : ∀ r, idx_main_v37 (idx_main_v38 (ix2 u k)) r = ix2 r k := fun r =>
    same2 rfl (Fin.ext (show u.val * 1024 + k.val = k.val by omega))
  simp only [val_main_v38_apply, val_main_v37_apply, val_main_v36_apply, val_main_cst_11_apply, e, v18 hA, v35 hA, zero_lit, zero_add]
  exact Finset.sum_congr rfl fun r _ => mul_comm _ _

theorem v40 (k : Fin 1024) : val_main_v40 (F := Ideal) x1 x5 x12 (ix2 r k) = A.dy r k * A.gf k := by
  have e : idx_main_v39 (ix2 r k) = ix2 0 k := same2 rfl rfl
  simp only [val_main_v40_apply, val_main_v39_apply, e, v35 hA]
  subst hA
  rfl

theorem v50 (k : Fin 1024) : val_main_v50 (F := Ideal) x1 x5 x12 (ix2 r k) = msGrad c1024 (A.x2 r) fun k => A.dy r k * A.gf k := by
  have e : idx_main_v49 (idx_main_v50 (ix2 r k)) 0 = ix2 r 0 := same2 rfl rfl
  have e' : ∀ k, idx_main_v42 (idx_main_v43 (ix2 r 0)) k = ix2 r k := fun k =>
    same2 (Fin.ext (show r.val * 1 + 0 = r.val by omega)) rfl
  simp only [val_main_v50_apply, val_main_v49_apply, val_main_v48_apply, val_main_v47_apply, val_main_v46_apply, val_main_v43_apply, val_main_v42_apply, val_main_v41_apply, val_main_v16_apply, val_main_v15_apply, val_main_v14_apply, val_main_cst_2_apply, val_main_cst_12_apply, val_main_cst_13_apply, val_main_cst_14_apply, Fin.sum_univ_one, e, e', v12 hA, v13 hA, v40 hA, zero_lit, zero_add]
  subst hA
  rfl

theorem v54 (k : Fin 1024) : val_main_v54 (F := Ideal) x1 x5 x12 (ix2 r k) = A.dx2 r k := by
  have e : idx_main_v44 (ix2 r k) = ix2 r 0 := same2 rfl rfl
  rw [← A.dx2_rule r k]
  simp only [val_main_v54_apply, val_main_v53_apply, val_main_v52_apply, val_main_v51_apply, val_main_v45_apply, val_main_v44_apply, e, v13 hA, v40 hA, v50 hA]
  subst hA
  rfl

/-! ## The feed-forward layer -/

theorem v55_2 (j : Fin 2816) : val_main_v55_2 (F := Ideal) x2 (ix2 r j) = Ideal.logistic (A.gate r j) := by
  simp only [val_main_v55_2_apply, val_main_call0_v4_apply, val_main_call0_v3_apply, val_main_call0_v2_apply, val_main_call0_v1_apply, val_main_call0_v0_apply, val_main_call0_cst_apply, val_main_call0_cst_0_apply, val_main_v0_apply, one_lit]
  subst hA
  rfl

theorem v55_1 (j : Fin 2816) : val_main_v55_1 (F := Ideal) x2 (ix2 r j) = Ideal.logistic (A.gate r j) * (1 - Ideal.logistic (A.gate r j)) := by
  simp only [val_main_v55_1_apply, val_main_call0_v7_apply, val_main_call0_v6_apply, val_main_call0_cst_1_apply, one_lit, v55_2 hA]
  rfl

theorem v55_0 (j : Fin 2816) : val_main_v55_0 (F := Ideal) x2 (ix2 r j) = silu (A.gate r j) := by
  simp only [val_main_v55_0_apply, val_main_v0_apply, v55_2 hA]
  subst hA
  rfl

theorem v56 (j : Fin 2816) : val_main_v56 (F := Ideal) x2 x3 (ix2 r j) = A.act r j := by
  simp only [val_main_v56_apply, val_main_v1_apply, v55_0 hA]
  subst hA
  rfl

theorem v59 (j : Fin 2816) : val_main_v59 (F := Ideal) x1 x5 x11 x12 (ix2 r j) = A.dact r j := by
  have e : ∀ k, lidx_main_v59 (ix2 r j) k = ix2 r k := fun k => same2 rfl rfl
  have e' : ∀ k, ridx_main_v59 (ix2 r j) k = ix2 j k := fun k => same2 rfl rfl
  rw [val_main_v59_apply]
  simp only [e, e', v54 hA, val_main_v5_apply]
  subst hA
  rfl

theorem v60 (j : Fin 2816) : val_main_v60 (F := Ideal) x1 x2 x5 x11 x12 (ix2 r j) = A.dup r j := by
  simp only [val_main_v60_apply, v55_0 hA, v59 hA]
  exact mul_comm _ _

theorem v61 (j : Fin 2816) : val_main_v61 (F := Ideal) x1 x3 x5 x11 x12 (ix2 r j) = A.dact r j * A.up r j := by
  simp only [val_main_v61_apply, val_main_v1_apply, v59 hA]
  subst hA
  rfl

include hr in
theorem v62 (j : Fin 2816) : val_main_v62 (F := Ideal) x1 x2 x3 x5 x11 x12 (ix2 r j) = A.dgate r j := by
  rw [← Rows.dgate_rule r hr j]
  simp only [val_main_v62_apply, val_main_call1_v2_apply, val_main_call1_v1_apply, val_main_call1_v0_apply, val_main_v0_apply, v55_2 hA, v55_1 hA, v61 hA]
  subst hA
  rfl

theorem v69 : val_main_v69 (F := Ideal) x0 (ix2 r 0) = meanSq c1024 (A.x1 r) + eps := by
  subst hA
  have e : ∀ k, idx_main_v64 (idx_main_v65 (ix2 r 0)) k = ix2 r k := fun k => same2 rfl rfl
  simp only [val_main_v69_apply, val_main_v68_apply, val_main_v67_apply, val_main_v66_apply, val_main_v65_apply, val_main_v64_apply, val_main_v63_apply, val_main_cst_15_apply, val_main_cst_16_apply, val_main_cst_17_apply, e, zero_lit, zero_add]
  rfl

theorem v70 : val_main_v70 (F := Ideal) x0 (ix2 r 0) = scale c1024 (A.x1 r) := by
  rw [val_main_v70_apply, v69 hA]
  rfl

theorem v75 (k : Fin 1024) : val_main_v75 (F := Ideal) x0 (ix2 r k) = unit c1024 (A.x1 r) k := by
  have e : idx_main_v74 (ix2 r k) = ix2 r 0 := same2 rfl rfl
  simp only [val_main_v75_apply, val_main_v74_apply, e, v70 hA]
  subst hA
  rfl

theorem v77 (k : Fin 1024) : val_main_v77 (F := Ideal) x0 x8 (ix2 r k) = A.h r k := by
  have e : idx_main_v76 (ix2 r k) = ix2 0 k := same2 rfl rfl
  simp only [val_main_v77_apply, val_main_v76_apply, e, v75 hA]
  subst hA
  rfl

include hr in
theorem v84 (k : Fin 1024) : val_main_v84 (F := Ideal) x1 x2 x3 x5 x9 x10 x11 x12 (ix2 r k) = A.dh r k := by
  have e1 : ∀ j, lidx_main_v82 (ix2 r k) j = ix2 r j := fun j => same2 rfl rfl
  have e2 : ∀ j, idx_main_v80 (ridx_main_v82 (ix2 r k) j) = ix2 j k := fun j => same2 rfl rfl
  have e3 : ∀ j, lidx_main_v83 (ix2 r k) j = ix2 r j := fun j => same2 rfl rfl
  have e4 : ∀ j, idx_main_v78 (ridx_main_v83 (ix2 r k) j) = ix2 j k := fun j => same2 rfl rfl
  rw [val_main_v84_apply, val_main_v82_apply, val_main_v83_apply]
  simp only [val_main_v80_apply, val_main_v78_apply, val_main_v3_apply, val_main_v4_apply, e1, e2, e3, e4, v60 hA, v62 hA hr]
  subst hA
  exact add_comm _ _

omit r in
include hr in
theorem v87 (u : Fin 1) (k : Fin 1024) : val_main_v87 (F := Ideal) x0 x1 x2 x3 x5 x9 x10 x11 x12 (ix2 u k) = ∑ r, A.pg2 r k := by
  have e : ∀ r, idx_main_v86 (idx_main_v87 (ix2 u k)) r = ix2 r k := fun r =>
    same2 rfl (Fin.ext (show u.val * 1024 + k.val = k.val by omega))
  simp only [val_main_v87_apply, val_main_v86_apply, val_main_v85_apply, val_main_cst_19_apply, e, v75 hA, v84 hA hr, zero_lit, zero_add]
  exact Finset.sum_congr rfl fun r _ => mul_comm _ _

include hr in
theorem v89 (k : Fin 1024) : val_main_v89 (F := Ideal) x1 x2 x3 x5 x8 x9 x10 x11 x12 (ix2 r k) = A.dh r k * A.g2 k := by
  have e : idx_main_v88 (ix2 r k) = ix2 0 k := same2 rfl rfl
  simp only [val_main_v89_apply, val_main_v88_apply, e, v84 hA hr]
  subst hA
  rfl

include hr in
theorem v99 (k : Fin 1024) : val_main_v99 (F := Ideal) x0 x1 x2 x3 x5 x8 x9 x10 x11 x12 (ix2 r k) = msGrad c1024 (A.x1 r) fun k => A.dh r k * A.g2 k := by
  have e : idx_main_v98 (idx_main_v99 (ix2 r k)) 0 = ix2 r 0 := same2 rfl rfl
  have e' : ∀ k, idx_main_v91 (idx_main_v92 (ix2 r 0)) k = ix2 r k := fun k =>
    same2 (Fin.ext (show r.val * 1 + 0 = r.val by omega)) rfl
  simp only [val_main_v99_apply, val_main_v98_apply, val_main_v97_apply, val_main_v96_apply, val_main_v95_apply, val_main_v92_apply, val_main_v91_apply, val_main_v90_apply, val_main_v73_apply, val_main_v72_apply, val_main_v71_apply, val_main_cst_18_apply, val_main_cst_20_apply, val_main_cst_21_apply, val_main_cst_22_apply, Fin.sum_univ_one, e, e', v69 hA, v70 hA, v89 hA hr, zero_lit, zero_add]
  subst hA
  rfl

include hr in
theorem v104 (k : Fin 1024) : val_main_v104 (F := Ideal) x0 x1 x2 x3 x5 x8 x9 x10 x11 x12 (ix2 r k) = A.dx1 r k := by
  have e : idx_main_v93 (ix2 r k) = ix2 r 0 := same2 rfl rfl
  rw [← A.dx1_rule r k]
  simp only [val_main_v104_apply, val_main_v103_apply, val_main_v102_apply, val_main_v101_apply, val_main_v100_apply, val_main_v94_apply, val_main_v93_apply, e, v54 hA, v70 hA, v89 hA hr, v99 hA hr]
  subst hA
  rfl

/-! ## The output projection and the attention output's normalisation -/

theorem v111 : val_main_v111 (F := Ideal) x4 (ix2 r 0) = meanSq c512 (A.oa r) + eps := by
  subst hA
  have e : ∀ k, idx_main_v106 (idx_main_v107 (ix2 r 0)) k = ix2 r k := fun k => same2 rfl rfl
  simp only [val_main_v111_apply, val_main_v110_apply, val_main_v109_apply, val_main_v108_apply, val_main_v107_apply, val_main_v106_apply, val_main_v105_apply, val_main_cst_23_apply, val_main_cst_24_apply, val_main_cst_25_apply, e, zero_lit, zero_add]
  rfl

theorem v112 : val_main_v112 (F := Ideal) x4 (ix2 r 0) = scale c512 (A.oa r) := by
  rw [val_main_v112_apply, v111 hA]
  rfl

theorem v117 (i : Fin 512) : val_main_v117 (F := Ideal) x4 (ix2 r i) = unit c512 (A.oa r) i := by
  have e : idx_main_v116 (ix2 r i) = ix2 r 0 := same2 rfl rfl
  simp only [val_main_v117_apply, val_main_v116_apply, e, v112 hA]
  subst hA
  rfl

include hr in
theorem v123 (j : Fin 1024) : val_main_v123 (F := Ideal) x0 x1 x2 x3 x5 x7 x8 x9 x10 x11 x12 (ix2 r j) = ∑ k, A.dx1 r k * A.wo j k := by
  have e : ∀ k, lidx_main_v123 (ix2 r j) k = ix2 r k := fun k => same2 rfl rfl
  have e' : ∀ k, ridx_main_v123 (ix2 r j) k = ix2 j k := fun k => same2 rfl rfl
  rw [val_main_v123_apply]
  simp only [e, e', v104 hA hr, val_main_v2_apply]
  subst hA
  rfl

include hr in
theorem v124 (i : Fin 512) : val_main_v124 (F := Ideal) x0 x1 x2 x3 x5 x7 x8 x9 x10 x11 x12 (ix2 r i) = A.dya r i := by
  have e : idx_main_v124 (ix2 r i) = ix2 r (lo i) := same2 rfl rfl
  rw [val_main_v124_apply, e, v123 hA hr]
  rfl

include hr in
theorem v125 (i : Fin 512) : val_main_v125 (F := Ideal) x0 x1 x2 x3 x5 x7 x8 x9 x10 x11 x12 (ix2 r i) = A.dyb r i := by
  have e : idx_main_v125 (ix2 r i) = ix2 r (hi i) := same2 rfl rfl
  rw [val_main_v125_apply, e, v123 hA hr]
  rfl

omit r in
include hr in
theorem v128 (u : Fin 1) (i : Fin 512) : val_main_v128 (F := Ideal) x0 x1 x2 x3 x4 x5 x7 x8 x9 x10 x11 x12 (ix2 u i) = ∑ r, A.pgm r i := by
  have e : ∀ r, idx_main_v127 (idx_main_v128 (ix2 u i)) r = ix2 r i := fun r =>
    same2 rfl (Fin.ext (show u.val * 512 + i.val = i.val by omega))
  simp only [val_main_v128_apply, val_main_v127_apply, val_main_v126_apply, val_main_cst_28_apply, e, v117 hA, v125 hA hr, zero_lit, zero_add]
  exact Finset.sum_congr rfl fun r _ => mul_comm _ _

include hr in
theorem v130 (i : Fin 512) : val_main_v130 (F := Ideal) x0 x1 x2 x3 x5 x6 x7 x8 x9 x10 x11 x12 (ix2 r i) = A.dyb r i * A.gm i := by
  have e : idx_main_v129 (ix2 r i) = ix2 0 i := same2 rfl rfl
  simp only [val_main_v130_apply, val_main_v129_apply, e, v125 hA hr]
  subst hA
  rfl

include hr in
theorem v140 (i : Fin 512) : val_main_v140 (F := Ideal) x0 x1 x2 x3 x4 x5 x6 x7 x8 x9 x10 x11 x12 (ix2 r i) = msGrad c512 (A.oa r) fun i => A.dyb r i * A.gm i := by
  have e : idx_main_v139 (idx_main_v140 (ix2 r i)) 0 = ix2 r 0 := same2 rfl rfl
  have e' : ∀ i, idx_main_v132 (idx_main_v133 (ix2 r 0)) i = ix2 r i := fun i =>
    same2 (Fin.ext (show r.val * 1 + 0 = r.val by omega)) rfl
  simp only [val_main_v140_apply, val_main_v139_apply, val_main_v138_apply, val_main_v137_apply, val_main_v136_apply, val_main_v133_apply, val_main_v132_apply, val_main_v131_apply, val_main_v115_apply, val_main_v114_apply, val_main_v113_apply, val_main_cst_26_apply, val_main_cst_29_apply, val_main_cst_30_apply, val_main_cst_31_apply, Fin.sum_univ_one, e, e', v111 hA, v112 hA, v130 hA hr, zero_lit, zero_add]
  subst hA
  rfl

include hr in
theorem v144 (i : Fin 512) : val_main_v144 (F := Ideal) x0 x1 x2 x3 x4 x5 x6 x7 x8 x9 x10 x11 x12 (ix2 r i) = A.doa r i := by
  have e : idx_main_v134 (ix2 r i) = ix2 r 0 := same2 rfl rfl
  rw [← A.doa_rule r i]
  simp only [val_main_v144_apply, val_main_v143_apply, val_main_v142_apply, val_main_v141_apply, val_main_v135_apply, val_main_v134_apply, e, v112 hA, v130 hA hr, v140 hA hr]
  subst hA
  rfl

end Cert.PostBwd.Ref

end
-- ==== Proof.PostBwdLoads.lean ====
/-
  What a grid point of the backward call loads, and what it computes from it: blocks of 256 rows.
-/
module

public import proofs.«01_k».proof.Proof.PostBwdPay
public import proofs.«01_k».proof.Proof.PostBwdRef
public import proofs.«01_k».proof.Proof.Gen.Kernel9Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.PostBwd

open Idealize.ShloMosaic Idealize.ShloMosaic.TcCoe Idealize.SL.Sem Cert.Post
open Cert.Kernel9Ideal Cert.Kernel9Ideal.Gen

/-- The vectors the body computes 256 rows' gradients from. -/
structure Loads (A : Rows 256) (x1 x2 tgt : Vec Ideal S256x1024 .f32) (gate up : Vec Ideal S256x2816 .bf16) (oa : Vec Ideal S256x512 .f32) (gm : Vec Ideal S1x512 .f32)
    (w0 w1 : Vec Ideal S512x1024 .bf16) (g2 gf : Vec Ideal S1x1024 .f32) (wg wu wd : Vec Ideal S2816x1024 .bf16) : Prop where
  x1 : ∀ a k, x1 (ix2 a k) = A.x1 a k
  x2 : ∀ a k, x2 (ix2 a k) = A.x2 a k
  gate : ∀ a j, gate (ix2 a j) = A.gate a j
  up : ∀ a j, up (ix2 a j) = A.up a j
  oa : ∀ a i, oa (ix2 a i) = A.oa a i
  tgt : ∀ a k, tgt (ix2 a k) = A.tgt a k
  gm : ∀ i, gm (ix2 0 i) = A.gm i
  w0 : ∀ i k, w0 (ix2 i k) = A.wo (lo i) k
  w1 : ∀ i k, w1 (ix2 i k) = A.wo (hi i) k
  g2 : ∀ k, g2 (ix2 0 k) = A.g2 k
  gf : ∀ k, gf (ix2 0 k) = A.gf k
  wg : ∀ j k, wg (ix2 j k) = A.wg j k
  wu : ∀ j k, wu (ix2 j k) = A.wu j k
  wd : ∀ j k, wd (ix2 j k) = A.wd j k

namespace Loads

variable {A : Rows 256} {x1 x2 tgt : Vec Ideal S256x1024 .f32} {gate up : Vec Ideal S256x2816 .bf16} {oa : Vec Ideal S256x512 .f32} {gm : Vec Ideal S1x512 .f32}
  {w0 w1 : Vec Ideal S512x1024 .bf16} {g2 gf : Vec Ideal S1x1024 .f32} {wg wu wd : Vec Ideal S2816x1024 .bf16}
variable (L : Loads A x1 x2 tgt gate up oa gm w0 w1 g2 gf wg wu wd)
include L

theorem dx2 (a : Fin 256) (k : Fin 1024) :
    k0_pay15 (F := Ideal) (k0_pay9 (F := Ideal) x2) (k0_pay10 (F := Ideal) x2) (k0_pay12 (F := Ideal) x2 gf tgt gf) (k0_pay13 (F := Ideal) x2 gf tgt gf) (k0_pay14 (F := Ideal)) (ix2 a k) = A.dx2 a k :=
  p15 a (L.x2 a) (L.tgt a) L.gf k

theorem dx2' (a : Fin 256) (k : Fin 1024) :
    k0_pay16 (F := Ideal) (k0_pay9 (F := Ideal) x2) (k0_pay10 (F := Ideal) x2) (k0_pay12 (F := Ideal) x2 gf tgt gf) (k0_pay13 (F := Ideal) x2 gf tgt gf) (k0_pay14 (F := Ideal)) (ix2 a k) = A.dx2 a k :=
  p16 a (L.dx2 a) k

theorem h (a : Fin 256) (k : Fin 1024) :
    k0_pay17 (F := Ideal) x1 g2 (ix2 a k) = A.h a k :=
  p17 a (L.x1 a) L.g2 k

theorem act (a : Fin 256) (k : Fin 2816) :
    k0_pay22 (F := Ideal) gate up (ix2 a k) = A.act a k :=
  p22 a (L.gate a) (L.up a) k

theorem dup (a : Fin 256) (k : Fin 2816) :
    k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd (ix2 a k) = A.dup a k :=
  p24 a (L.gate a) L.wd (L.dx2 a) k

theorem dgate (a : Fin 256) (k : Fin 2816) :
    k0_pay27 (F := Ideal) (k0_pay18 (F := Ideal) gate) (k0_pay20 (F := Ideal) gate) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) (ix2 a k) = A.dgate a k :=
  p27 a (p18 a (L.gate a)) (p20 a (L.gate a)) (p25 a (L.up a) L.wd (L.dx2 a)) (p26 a) k

theorem dh (a : Fin 256) (k : Fin 1024) :
    k0_pay28 (F := Ideal) (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu (ix2 a k) = A.dh a k :=
  p28 a L.wg L.wu (p18 a (L.gate a)) (p20 a (L.gate a)) (L.dup a) (p25 a (L.up a) L.wd (L.dx2 a)) (p26 a) k

theorem dx1 (a : Fin 256) (k : Fin 1024) :
    k0_pay34 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) (ix2 a k) = A.dx1 a k :=
  p34 a (L.dx2 a) (p33 a (L.x1 a)) (p32 a (L.x1 a) L.g2 (L.dh a)) k

theorem dx1' (a : Fin 256) (k : Fin 1024) :
    k0_pay35 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) (ix2 a k) = A.dx1 a k :=
  p35 a (L.dx1 a) k

theorem dya (a : Fin 256) (k : Fin 512) :
    k0_pay36 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) w0 (ix2 a k) = A.dya a k :=
  p36 a L.w0 (L.dx1 a) k

theorem doa (a : Fin 256) (k : Fin 512) :
    k0_pay1 (F := Ideal) (k0_pay38 (F := Ideal) oa) (k0_pay41 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) gm w1) (k0_pay42 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) oa gm w1) (ix2 a k) = A.doa a k :=
  p1 a (L.oa a) L.gm L.w1 (L.dx1 a) k

theorem pgf (k : Fin 1024) :
    k0_pay11 (F := Ideal) x2 gf tgt (ix2 0 k) = ∑ a, A.pgf a k :=
  p11 L.x2 L.tgt L.gf k

theorem pg2 (k : Fin 1024) :
    k0_pay31 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu (ix2 0 k) = ∑ a, A.pg2 a k :=
  p31 L.x1 L.dh k

theorem pgm (k : Fin 512) :
    k0_pay40 (F := Ideal) (k0_pay15 (F := Ideal) (k0_pay9 (F := Ideal) x2) (k0_pay10 (F := Ideal) x2) (k0_pay12 (F := Ideal) x2 gf tgt gf) (k0_pay13 (F := Ideal) x2 gf tgt gf) (k0_pay14 (F := Ideal))) (k0_pay32 (F := Ideal) x1 (k0_pay18 (F := Ideal) gate) (k0_pay20 (F := Ideal) gate) (k0_pay24 (F := Ideal) (k0_pay9 (F := Ideal) x2) (k0_pay10 (F := Ideal) x2) (k0_pay12 (F := Ideal) x2 gf tgt gf) (k0_pay13 (F := Ideal) x2 gf tgt gf) (k0_pay14 (F := Ideal)) gate wd) (k0_pay25 (F := Ideal) (k0_pay9 (F := Ideal) x2) (k0_pay10 (F := Ideal) x2) (k0_pay12 (F := Ideal) x2 gf tgt gf) (k0_pay13 (F := Ideal) x2 gf tgt gf) (k0_pay14 (F := Ideal)) up wd) (k0_pay26 (F := Ideal)) wg wu g2) (k0_pay33 (F := Ideal) x1) oa w1 (ix2 0 k) = ∑ a, A.pgm a k :=
  p40 L.oa L.w1 L.dx1 k

end Loads

/-- A block's entries. -/
theorem entry {n p : ℕ} (F : Fin n → Fin p → EReal) {v : (⟨2, ![n, p]⟩ : Shape).Idx → EReal} (hv : ∀ (a : Fin n) k, v (ix2 a k) = F a k)
    (y : (⟨2, ![n, p]⟩ : Shape).Idx) : v y = F (y 0) (y 1) := by
  have e : y = ix2 (y 0) (y 1) := (ix2_eta y).symm
  exact (congrArg v e).trans (hv _ _)

/-- A row's entries. -/
theorem column {p : ℕ} {F : Fin p → EReal} {v : (⟨2, ![1, p]⟩ : Shape).Idx → EReal} (hv : ∀ k, v (ix2 0 k) = F k) (y : (⟨2, ![1, p]⟩ : Shape).Idx) : v y = F (y 1) := by
  have e : y = ix2 (y 0) (y 1) := (ix2_eta y).symm
  have z : @Eq (Fin 1) (y 0) 0 := Subsingleton.elim _ _
  exact (congrArg v (e.trans (congrArg (fun u : Fin 1 => ix2 u (y 1)) z))).trans (hv _)

variable (m : (ℓ : Loc nD τ sig) → Buf (Elt Ideal) ℓ) (c : Dev nD)

/-- The arguments' entries. -/
def whole : Rows 8192 :=
  Ref.args (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg12)) (m ((c.tc : Thread nD τ).loc main_arg9)) (m ((c.tc : Thread nD τ).loc main_arg10)) (m ((c.tc : Thread nD τ).loc main_arg11))

/-- The row of the whole arrays that row `a` of grid point `t`'s blocks is. -/
def row (t : Fin 32) (a : Fin 256) : Fin 8192 := ⟨t.val * 256 + a.val, by omega⟩

/-- A grid point's rows. -/
def group (t : Fin 32) : Rows 256 := (whole m c).take (row t)

/-- Where the blocks lie at grid point `t`. -/
theorem idx0 : ∀ t : Fin grid0.N,
    ((win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0))
    ∧ ((win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0))
    ∧ ((win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) ∧ (win0_17.index t 0 = t.val ∧ win0_17.index t 1 = 0) ∧ (win0_18.index t 0 = t.val ∧ win0_18.index t 1 = 0) ∧ (win0_19.index t 0 = t.val ∧ win0_19.index t 1 = 0) ∧ (win0_20.index t 0 = t.val ∧ win0_20.index t 1 = 0) ∧ (win0_21.index t 0 = t.val ∧ win0_21.index t 1 = 0))
    ∧ ((win0_22.index t 0 = 0 ∧ win0_22.index t 1 = 0) ∧ (win0_23.index t 0 = 0 ∧ win0_23.index t 1 = 0) ∧ (win0_24.index t 0 = 0 ∧ win0_24.index t 1 = 0)) := by
  decide +kernel

theorem blk_x1 (t : Fin cfg0.N) (a : Fin 256) (k : Fin 1024) : iblk m c (0 : Fin 25) t (ix2 a k) = (whole m c).x1 (row t a) k := by
  obtain ⟨⟨⟨h0, h1⟩, -⟩, -⟩ := idx0 t
  unfold whole Ref.args
  blk_ext [iblk, V, h0, h1, row]

theorem blk_x2 (t : Fin cfg0.N) (a : Fin 256) (k : Fin 1024) : iblk m c (1 : Fin 25) t (ix2 a k) = (whole m c).x2 (row t a) k := by
  obtain ⟨⟨-, ⟨h0, h1⟩, -⟩, -⟩ := idx0 t
  unfold whole Ref.args
  blk_ext [iblk, V, h0, h1, row]

theorem blk_gate (t : Fin cfg0.N) (a : Fin 256) (k : Fin 2816) : iblk m c (2 : Fin 25) t (ix2 a k) = (whole m c).gate (row t a) k := by
  obtain ⟨⟨-, -, ⟨h0, h1⟩, -⟩, -⟩ := idx0 t
  unfold whole Ref.args
  blk_ext [iblk, V, h0, h1, row]

theorem blk_up (t : Fin cfg0.N) (a : Fin 256) (k : Fin 2816) : iblk m c (3 : Fin 25) t (ix2 a k) = (whole m c).up (row t a) k := by
  obtain ⟨⟨-, -, -, ⟨h0, h1⟩, -⟩, -⟩ := idx0 t
  unfold whole Ref.args
  blk_ext [iblk, V, h0, h1, row]

theorem blk_oa (t : Fin cfg0.N) (a : Fin 256) (k : Fin 512) : iblk m c (4 : Fin 25) t (ix2 a k) = (whole m c).oa (row t a) k := by
  obtain ⟨⟨-, -, -, -, ⟨h0, h1⟩, -⟩, -⟩ := idx0 t
  unfold whole Ref.args
  blk_ext [iblk, V, h0, h1, row]

theorem blk_tgt (t : Fin cfg0.N) (a : Fin 256) (k : Fin 1024) : iblk m c (5 : Fin 25) t (ix2 a k) = (whole m c).tgt (row t a) k := by
  obtain ⟨⟨-, -, -, -, -, ⟨h0, h1⟩⟩, -⟩ := idx0 t
  unfold whole Ref.args
  blk_ext [iblk, V, h0, h1, row]

theorem blk_gm (t : Fin cfg0.N) (k : Fin 512) : iblk m c (6 : Fin 25) t (ix2 0 k) = (whole m c).gm k := by
  obtain ⟨-, ⟨⟨h0, h1⟩, -⟩, -⟩ := idx0 t
  unfold whole Ref.args
  blk_ext [iblk, V, h0, h1]

theorem blk_wo (t : Fin cfg0.N) (j : Fin 1024) (k : Fin 1024) : iblk m c (7 : Fin 25) t (ix2 j k) = (whole m c).wo j k := by
  obtain ⟨-, ⟨-, ⟨h0, h1⟩, -⟩, -⟩ := idx0 t
  unfold whole Ref.args
  blk_ext [iblk, V, h0, h1]

theorem blk_g2 (t : Fin cfg0.N) (k : Fin 1024) : iblk m c (8 : Fin 25) t (ix2 0 k) = (whole m c).g2 k := by
  obtain ⟨-, ⟨-, -, ⟨h0, h1⟩, -⟩, -⟩ := idx0 t
  unfold whole Ref.args
  blk_ext [iblk, V, h0, h1]

theorem blk_wg (t : Fin cfg0.N) (j : Fin 2816) (k : Fin 1024) : iblk m c (9 : Fin 25) t (ix2 j k) = (whole m c).wg j k := by
  obtain ⟨-, ⟨-, -, -, ⟨h0, h1⟩, -⟩, -⟩ := idx0 t
  unfold whole Ref.args
  blk_ext [iblk, V, h0, h1]

theorem blk_wu (t : Fin cfg0.N) (j : Fin 2816) (k : Fin 1024) : iblk m c (10 : Fin 25) t (ix2 j k) = (whole m c).wu j k := by
  obtain ⟨-, ⟨-, -, -, -, ⟨h0, h1⟩, -⟩, -⟩ := idx0 t
  unfold whole Ref.args
  blk_ext [iblk, V, h0, h1]

theorem blk_wd (t : Fin cfg0.N) (j : Fin 2816) (k : Fin 1024) : iblk m c (11 : Fin 25) t (ix2 j k) = (whole m c).wd j k := by
  obtain ⟨-, ⟨-, -, -, -, -, ⟨h0, h1⟩, -⟩, -⟩ := idx0 t
  unfold whole Ref.args
  blk_ext [iblk, V, h0, h1]

theorem blk_gf (t : Fin cfg0.N) (k : Fin 1024) : iblk m c (12 : Fin 25) t (ix2 0 k) = (whole m c).gf k := by
  obtain ⟨-, ⟨-, -, -, -, -, -, ⟨h0, h1⟩⟩, -⟩ := idx0 t
  unfold whole Ref.args
  blk_ext [iblk, V, h0, h1]

theorem ld_half (q : Vec Ideal S1024x1024 .bf16) (o : ℕ) (ho : o + 512 ≤ 1024) (inb) (a : Fin 512) (d : Fin 1024) :
    View.ld q (Rect.unit ![o, 0] ![512, 1024] inb) (ix2 a d) = q (ix2 (⟨o + a, by omega⟩ : Fin 1024) d) :=
  View.ld_unit_apply_of q _ _ inb (ix2 a d) _ fun i => by fin_cases i <;> simp

/-- What a grid point loads. -/
theorem loads (t : Fin cfg0.N) (j0 j1) :
    Loads (group m c t) (iblk m c (0 : Fin 25) t) (iblk m c (1 : Fin 25) t) (iblk m c (5 : Fin 25) t) (iblk m c (2 : Fin 25) t) (iblk m c (3 : Fin 25) t) (iblk m c (4 : Fin 25) t)
      (iblk m c (6 : Fin 25) t) (View.ld (iblk m c (7 : Fin 25) t) (Rect.unit ![0, 0] ![512, 1024] j0)) (View.ld (iblk m c (7 : Fin 25) t) (Rect.unit ![512, 0] ![512, 1024] j1))
      (iblk m c (8 : Fin 25) t) (iblk m c (12 : Fin 25) t) (iblk m c (9 : Fin 25) t) (iblk m c (10 : Fin 25) t) (iblk m c (11 : Fin 25) t) where
  x1 := blk_x1 m c t
  x2 := blk_x2 m c t
  gate := blk_gate m c t
  up := blk_up m c t
  oa := blk_oa m c t
  tgt := blk_tgt m c t
  gm := blk_gm m c t
  w0 i k := (ld_half _ 0 (by omega) _ i k).trans ((blk_wo m c t _ k).trans (congrArg (fun j => (whole m c).wo j k) (Fin.ext (Nat.zero_add _))))
  w1 i k := (ld_half _ 512 (by omega) _ i k).trans (blk_wo m c t _ k)
  g2 := blk_g2 m c t
  gf := blk_gf m c t
  wg := blk_wg m c t
  wu := blk_wu m c t
  wd := blk_wd m c t

end Cert.PostBwd

end
-- ==== Proof.PostBwdArr.lean ====
/-
  The arrays of the rows' gradients the backward call leaves: 32 grid points with blocks of 256 rows.
-/
module

public import proofs.«01_k».proof.Proof.PostBwdLoads
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.PostBwd

open Idealize.ShloMosaic Idealize.ShloMosaic.TcCoe Idealize.SL.Sem Cert.Post
open Cert.Kernel9Ideal Cert.Kernel9Ideal.Gen

variable (m : (ℓ : Loc nD τ sig) → Buf (Elt Ideal) ℓ) (c : Dev nD)

theorem out_dx1 (t : Fin cfg0.N) (y : S256x1024.Idx) : (outsAt0 m c t.val t.isLt).1 y = (whole m c).dx1 (row t (y 0)) (y 1) := by
  by_cases h : t.val % 32 = 0
  · rw [outsAt0_A m c t h]
    frame_out
    exact entry (fun a k => (whole m c).dx1 (row t a) k) (loads m c t inb_S1024x1024_S512x1024_0_0 inb_S1024x1024_S512x1024_512_0).dx1 y
  · rw [outsAt0_B m c t h]
    frame_out
    exact entry (fun a k => (whole m c).dx1 (row t a) k) (loads m c t inb_S1024x1024_S512x1024_0_0 inb_S1024x1024_S512x1024_512_0).dx1 y

theorem array_dx1 : (dats m 0 c).arrAt (13 : Fin 25) cfg0.N = fun y : S8192x1024.Idx => (whole m c).dx1 (y 0) (y 1) := by
  refine (dats m 0 c).arrAt_eq_of_covers (13 : Fin 25) _ (by decide +kernel) fun t hf y => ?_
  obtain ⟨-, -, ⟨⟨h0, h1⟩, -⟩, -⟩ := idx0 t
  blk_simp
  rw [after0_13]
  change S256x1024.Idx at y
  refine (out_dx1 m c t y).trans (congrArg₂ (whole m c).dx1 (Fin.ext ?_) (Fin.ext ?_))
  · blk_simp; simp only [h0, row]
  · blk_simp; simp only [h1]; omega

theorem out_dya (t : Fin cfg0.N) (y : S256x512.Idx) : (outsAt0 m c t.val t.isLt).2.1 y = (whole m c).dya (row t (y 0)) (y 1) := by
  by_cases h : t.val % 32 = 0
  · rw [outsAt0_A m c t h]
    frame_out
    exact entry (fun a k => (whole m c).dya (row t a) k) (loads m c t inb_S1024x1024_S512x1024_0_0 inb_S1024x1024_S512x1024_512_0).dya y
  · rw [outsAt0_B m c t h]
    frame_out
    exact entry (fun a k => (whole m c).dya (row t a) k) (loads m c t inb_S1024x1024_S512x1024_0_0 inb_S1024x1024_S512x1024_512_0).dya y

theorem array_dya : (dats m 0 c).arrAt (14 : Fin 25) cfg0.N = fun y : S8192x512.Idx => (whole m c).dya (y 0) (y 1) := by
  refine (dats m 0 c).arrAt_eq_of_covers (14 : Fin 25) _ (by decide +kernel) fun t hf y => ?_
  obtain ⟨-, -, ⟨-, ⟨h0, h1⟩, -⟩, -⟩ := idx0 t
  blk_simp
  rw [after0_14]
  change S256x512.Idx at y
  refine (out_dya m c t y).trans (congrArg₂ (whole m c).dya (Fin.ext ?_) (Fin.ext ?_))
  · blk_simp; simp only [h0, row]
  · blk_simp; simp only [h1]; omega

theorem out_doa (t : Fin cfg0.N) (y : S256x512.Idx) : (outsAt0 m c t.val t.isLt).2.2.1 y = (whole m c).doa (row t (y 0)) (y 1) := by
  by_cases h : t.val % 32 = 0
  · rw [outsAt0_A m c t h]
    frame_out
    exact entry (fun a k => (whole m c).doa (row t a) k) (loads m c t inb_S1024x1024_S512x1024_0_0 inb_S1024x1024_S512x1024_512_0).doa y
  · rw [outsAt0_B m c t h]
    frame_out
    exact entry (fun a k => (whole m c).doa (row t a) k) (loads m c t inb_S1024x1024_S512x1024_0_0 inb_S1024x1024_S512x1024_512_0).doa y

theorem array_doa : (dats m 0 c).arrAt (15 : Fin 25) cfg0.N = fun y : S8192x512.Idx => (whole m c).doa (y 0) (y 1) := by
  refine (dats m 0 c).arrAt_eq_of_covers (15 : Fin 25) _ (by decide +kernel) fun t hf y => ?_
  obtain ⟨-, -, ⟨-, -, ⟨h0, h1⟩, -⟩, -⟩ := idx0 t
  blk_simp
  rw [after0_15]
  change S256x512.Idx at y
  refine (out_doa m c t y).trans (congrArg₂ (whole m c).doa (Fin.ext ?_) (Fin.ext ?_))
  · blk_simp; simp only [h0, row]
  · blk_simp; simp only [h1]; omega

theorem out_dx1b (t : Fin cfg0.N) (y : S256x1024.Idx) : (outsAt0 m c t.val t.isLt).2.2.2.1 y = (whole m c).dx1 (row t (y 0)) (y 1) := by
  by_cases h : t.val % 32 = 0
  · rw [outsAt0_A m c t h]
    frame_out
    exact entry (fun a k => (whole m c).dx1 (row t a) k) (loads m c t inb_S1024x1024_S512x1024_0_0 inb_S1024x1024_S512x1024_512_0).dx1' y
  · rw [outsAt0_B m c t h]
    frame_out
    exact entry (fun a k => (whole m c).dx1 (row t a) k) (loads m c t inb_S1024x1024_S512x1024_0_0 inb_S1024x1024_S512x1024_512_0).dx1' y

theorem array_dx1b : (dats m 0 c).arrAt (16 : Fin 25) cfg0.N = fun y : S8192x1024.Idx => (whole m c).dx1 (y 0) (y 1) := by
  refine (dats m 0 c).arrAt_eq_of_covers (16 : Fin 25) _ (by decide +kernel) fun t hf y => ?_
  obtain ⟨-, -, ⟨-, -, -, ⟨h0, h1⟩, -⟩, -⟩ := idx0 t
  blk_simp
  rw [after0_16]
  change S256x1024.Idx at y
  refine (out_dx1b m c t y).trans (congrArg₂ (whole m c).dx1 (Fin.ext ?_) (Fin.ext ?_))
  · blk_simp; simp only [h0, row]
  · blk_simp; simp only [h1]; omega

theorem out_h (t : Fin cfg0.N) (y : S256x1024.Idx) : (outsAt0 m c t.val t.isLt).2.2.2.2.1 y = (whole m c).h (row t (y 0)) (y 1) := by
  by_cases h : t.val % 32 = 0
  · rw [outsAt0_A m c t h]
    frame_out
    exact entry (fun a k => (whole m c).h (row t a) k) (loads m c t inb_S1024x1024_S512x1024_0_0 inb_S1024x1024_S512x1024_512_0).h y
  · rw [outsAt0_B m c t h]
    frame_out
    exact entry (fun a k => (whole m c).h (row t a) k) (loads m c t inb_S1024x1024_S512x1024_0_0 inb_S1024x1024_S512x1024_512_0).h y

theorem array_h : (dats m 0 c).arrAt (17 : Fin 25) cfg0.N = fun y : S8192x1024.Idx => (whole m c).h (y 0) (y 1) := by
  refine (dats m 0 c).arrAt_eq_of_covers (17 : Fin 25) _ (by decide +kernel) fun t hf y => ?_
  obtain ⟨-, -, ⟨-, -, -, -, ⟨h0, h1⟩, -⟩, -⟩ := idx0 t
  blk_simp
  rw [after0_17]
  change S256x1024.Idx at y
  refine (out_h m c t y).trans (congrArg₂ (whole m c).h (Fin.ext ?_) (Fin.ext ?_))
  · blk_simp; simp only [h0, row]
  · blk_simp; simp only [h1]; omega

theorem out_dgate (t : Fin cfg0.N) (y : S256x2816.Idx) : (outsAt0 m c t.val t.isLt).2.2.2.2.2.1 y = (whole m c).dgate (row t (y 0)) (y 1) := by
  by_cases h : t.val % 32 = 0
  · rw [outsAt0_A m c t h]
    frame_out
    exact entry (fun a k => (whole m c).dgate (row t a) k) (loads m c t inb_S1024x1024_S512x1024_0_0 inb_S1024x1024_S512x1024_512_0).dgate y
  · rw [outsAt0_B m c t h]
    frame_out
    exact entry (fun a k => (whole m c).dgate (row t a) k) (loads m c t inb_S1024x1024_S512x1024_0_0 inb_S1024x1024_S512x1024_512_0).dgate y

theorem array_dgate : (dats m 0 c).arrAt (18 : Fin 25) cfg0.N = fun y : S8192x2816.Idx => (whole m c).dgate (y 0) (y 1) := by
  refine (dats m 0 c).arrAt_eq_of_covers (18 : Fin 25) _ (by decide +kernel) fun t hf y => ?_
  obtain ⟨-, -, ⟨-, -, -, -, -, ⟨h0, h1⟩, -⟩, -⟩ := idx0 t
  blk_simp
  rw [after0_18]
  change S256x2816.Idx at y
  refine (out_dgate m c t y).trans (congrArg₂ (whole m c).dgate (Fin.ext ?_) (Fin.ext ?_))
  · blk_simp; simp only [h0, row]
  · blk_simp; simp only [h1]; omega

theorem out_dup (t : Fin cfg0.N) (y : S256x2816.Idx) : (outsAt0 m c t.val t.isLt).2.2.2.2.2.2.1 y = (whole m c).dup (row t (y 0)) (y 1) := by
  by_cases h : t.val % 32 = 0
  · rw [outsAt0_A m c t h]
    frame_out
    exact entry (fun a k => (whole m c).dup (row t a) k) (loads m c t inb_S1024x1024_S512x1024_0_0 inb_S1024x1024_S512x1024_512_0).dup y
  · rw [outsAt0_B m c t h]
    frame_out
    exact entry (fun a k => (whole m c).dup (row t a) k) (loads m c t inb_S1024x1024_S512x1024_0_0 inb_S1024x1024_S512x1024_512_0).dup y

theorem array_dup : (dats m 0 c).arrAt (19 : Fin 25) cfg0.N = fun y : S8192x2816.Idx => (whole m c).dup (y 0) (y 1) := by
  refine (dats m 0 c).arrAt_eq_of_covers (19 : Fin 25) _ (by decide +kernel) fun t hf y => ?_
  obtain ⟨-, -, ⟨-, -, -, -, -, -, ⟨h0, h1⟩, -⟩, -⟩ := idx0 t
  blk_simp
  rw [after0_19]
  change S256x2816.Idx at y
  refine (out_dup m c t y).trans (congrArg₂ (whole m c).dup (Fin.ext ?_) (Fin.ext ?_))
  · blk_simp; simp only [h0, row]
  · blk_simp; simp only [h1]; omega

theorem out_act (t : Fin cfg0.N) (y : S256x2816.Idx) : (outsAt0 m c t.val t.isLt).2.2.2.2.2.2.2.1 y = (whole m c).act (row t (y 0)) (y 1) := by
  by_cases h : t.val % 32 = 0
  · rw [outsAt0_A m c t h]
    frame_out
    exact entry (fun a k => (whole m c).act (row t a) k) (loads m c t inb_S1024x1024_S512x1024_0_0 inb_S1024x1024_S512x1024_512_0).act y
  · rw [outsAt0_B m c t h]
    frame_out
    exact entry (fun a k => (whole m c).act (row t a) k) (loads m c t inb_S1024x1024_S512x1024_0_0 inb_S1024x1024_S512x1024_512_0).act y

theorem array_act : (dats m 0 c).arrAt (20 : Fin 25) cfg0.N = fun y : S8192x2816.Idx => (whole m c).act (y 0) (y 1) := by
  refine (dats m 0 c).arrAt_eq_of_covers (20 : Fin 25) _ (by decide +kernel) fun t hf y => ?_
  obtain ⟨-, -, ⟨-, -, -, -, -, -, -, ⟨h0, h1⟩, -⟩, -⟩ := idx0 t
  blk_simp
  rw [after0_20]
  change S256x2816.Idx at y
  refine (out_act m c t y).trans (congrArg₂ (whole m c).act (Fin.ext ?_) (Fin.ext ?_))
  · blk_simp; simp only [h0, row]
  · blk_simp; simp only [h1]; omega

theorem out_dx2 (t : Fin cfg0.N) (y : S256x1024.Idx) : (outsAt0 m c t.val t.isLt).2.2.2.2.2.2.2.2.1 y = (whole m c).dx2 (row t (y 0)) (y 1) := by
  by_cases h : t.val % 32 = 0
  · rw [outsAt0_A m c t h]
    frame_out
    exact entry (fun a k => (whole m c).dx2 (row t a) k) (loads m c t inb_S1024x1024_S512x1024_0_0 inb_S1024x1024_S512x1024_512_0).dx2' y
  · rw [outsAt0_B m c t h]
    frame_out
    exact entry (fun a k => (whole m c).dx2 (row t a) k) (loads m c t inb_S1024x1024_S512x1024_0_0 inb_S1024x1024_S512x1024_512_0).dx2' y

theorem array_dx2 : (dats m 0 c).arrAt (21 : Fin 25) cfg0.N = fun y : S8192x1024.Idx => (whole m c).dx2 (y 0) (y 1) := by
  refine (dats m 0 c).arrAt_eq_of_covers (21 : Fin 25) _ (by decide +kernel) fun t hf y => ?_
  obtain ⟨-, -, ⟨-, -, -, -, -, -, -, -, ⟨h0, h1⟩⟩, -⟩ := idx0 t
  blk_simp
  rw [after0_21]
  change S256x1024.Idx at y
  refine (out_dx2 m c t y).trans (congrArg₂ (whole m c).dx2 (Fin.ext ?_) (Fin.ext ?_))
  · blk_simp; simp only [h0, row]
  · blk_simp; simp only [h1]; omega

end Cert.PostBwd

end
-- ==== Proof.PostBwdSum.lean ====
/-
  The gains' gradients the backward call leaves, summed over its 32 grid points.
-/
module

public import proofs.«01_k».proof.Proof.PostBwdLoads
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.PostBwd

open Idealize.ShloMosaic Idealize.ShloMosaic.TcCoe Idealize.SL.Sem Cert.Post
open Cert.Kernel9Ideal Cert.Kernel9Ideal.Gen

variable (m : (ℓ : Loc nD τ sig) → Buf (Elt Ideal) ℓ) (c : Dev nD)

/-- What grid point `t` adds. -/
def term_pgm (t : Fin 32) (y : S1x512.Idx) : EReal := ∑ a, (group m c t).pgm a (y 1)

theorem first_pgm (t : Fin cfg0.N) (h : t.val % 32 = 0) (y : S1x512.Idx) : (outsAt0 m c t.val t.isLt).2.2.2.2.2.2.2.2.2.1 y = 0 + term_pgm m c t y := by
  rw [outsAt0_A m c t h]
  frame_open
  simp (disch := decide) only [↓ View.readCov_cons_toLoadRect]
  frame_out
  rw [add5]
  exact congrArg₂ (· + ·) (zero2 y) (column (loads m c t inb_S1024x1024_S512x1024_0_0 inb_S1024x1024_S512x1024_512_0).pgm y)

theorem next_pgm (t : Fin cfg0.N) (h : ¬t.val % 32 = 0) (y : S1x512.Idx) : (outsAt0 m c t.val t.isLt).2.2.2.2.2.2.2.2.2.1 y
    = (outsAt0 m c (t.val - 1) (Nat.lt_of_le_of_lt (Nat.sub_le _ _) t.isLt)).2.2.2.2.2.2.2.2.2.1 y + term_pgm m c t y := by
  rw [outsAt0_B m c t h]
  frame_open
  simp (disch := decide) only [↓ View.readCov_cons_toLoadRect]
  frame_out
  rw [add5]
  exact congrArg₂ (· + ·) rfl (column (loads m c t inb_S1024x1024_S512x1024_0_0 inb_S1024x1024_S512x1024_512_0).pgm y)

/-- The points' groups run over all rows. -/
theorem sum_pgm (t : Fin 32) (g : ∀ s : Fin 32, 32 * (t.val / 32) + s.val < 32) (y : S1x512.Idx) :
    ∑ s : Fin 32, term_pgm m c ⟨32 * (t.val / 32) + s.val, g s⟩ y = ∑ r, (whole m c).pgm r (y 1) := by
  have e : ∀ s : Fin 32, term_pgm m c ⟨32 * (t.val / 32) + s.val, g s⟩ y = ∑ a : Fin 256, (whole m c).pgm (row s a) (y 1) := fun s => by
    have hs : (⟨32 * (t.val / 32) + s.val, g s⟩ : Fin 32) = s := Fin.ext (show 32 * (t.val / 32) + s.val = s.val by omega)
    rw [hs]
    rfl
  simp only [e]
  exact Fin.sum_mul_add_congr (S := 32) (n := 256) fun s a hl => rfl

theorem out_pgm (t : Fin cfg0.N) (h : t.val % 32 = 31) (y : S1x512.Idx) : (outsAt0 m c t.val t.isLt).2.2.2.2.2.2.2.2.2.1 y = ∑ r, (whole m c).pgm r (y 1) := by
  have ht : t.val < 32 := t.isLt
  rw [Pipeline.eq_sum_fin_of_reset_step_apply_of_flush (fun n h => (outsAt0 m c n h).2.2.2.2.2.2.2.2.2.1) 32 (fun _ => 0) (term_pgm m c)
    (fun s hs z => first_pgm m c s hs z) (fun s hs z => next_pgm m c s hs z) t h]
  exact (zero_add _).trans (sum_pgm m c t _ y)

theorem array_pgm : (dats m 0 c).arrAt (22 : Fin 25) cfg0.N = fun y : S1x512.Idx => ∑ r, (whole m c).pgm r (y 1) := by
  refine (dats m 0 c).arrAt_eq_of_covers (22 : Fin 25) _ (by decide +kernel) fun t hf y => ?_
  have h := (flush0_22 t).mp hf
  obtain ⟨-, -, -, ⟨⟨h0, h1⟩, -⟩⟩ := idx0 t
  blk_simp
  rw [after0_22]
  change S1x512.Idx at y
  refine (out_pgm m c t h y).trans (Finset.sum_congr rfl fun r _ => congrArg ((whole m c).pgm r) (Fin.ext ?_))
  blk_simp; simp only [h1]; omega

/-- What grid point `t` adds. -/
def term_pg2 (t : Fin 32) (y : S1x1024.Idx) : EReal := ∑ a, (group m c t).pg2 a (y 1)

theorem first_pg2 (t : Fin cfg0.N) (h : t.val % 32 = 0) (y : S1x1024.Idx) : (outsAt0 m c t.val t.isLt).2.2.2.2.2.2.2.2.2.2.1 y = 0 + term_pg2 m c t y := by
  rw [outsAt0_A m c t h]
  frame_open
  simp (disch := decide) only [↓ View.readCov_cons_toLoadRect]
  frame_out
  rw [add6]
  exact congrArg₂ (· + ·) (zero3 y) (column (loads m c t inb_S1024x1024_S512x1024_0_0 inb_S1024x1024_S512x1024_512_0).pg2 y)

theorem next_pg2 (t : Fin cfg0.N) (h : ¬t.val % 32 = 0) (y : S1x1024.Idx) : (outsAt0 m c t.val t.isLt).2.2.2.2.2.2.2.2.2.2.1 y
    = (outsAt0 m c (t.val - 1) (Nat.lt_of_le_of_lt (Nat.sub_le _ _) t.isLt)).2.2.2.2.2.2.2.2.2.2.1 y + term_pg2 m c t y := by
  rw [outsAt0_B m c t h]
  frame_open
  simp (disch := decide) only [↓ View.readCov_cons_toLoadRect]
  frame_out
  rw [add6]
  exact congrArg₂ (· + ·) rfl (column (loads m c t inb_S1024x1024_S512x1024_0_0 inb_S1024x1024_S512x1024_512_0).pg2 y)

/-- The points' groups run over all rows. -/
theorem sum_pg2 (t : Fin 32) (g : ∀ s : Fin 32, 32 * (t.val / 32) + s.val < 32) (y : S1x1024.Idx) :
    ∑ s : Fin 32, term_pg2 m c ⟨32 * (t.val / 32) + s.val, g s⟩ y = ∑ r, (whole m c).pg2 r (y 1) := by
  have e : ∀ s : Fin 32, term_pg2 m c ⟨32 * (t.val / 32) + s.val, g s⟩ y = ∑ a : Fin 256, (whole m c).pg2 (row s a) (y 1) := fun s => by
    have hs : (⟨32 * (t.val / 32) + s.val, g s⟩ : Fin 32) = s := Fin.ext (show 32 * (t.val / 32) + s.val = s.val by omega)
    rw [hs]
    rfl
  simp only [e]
  exact Fin.sum_mul_add_congr (S := 32) (n := 256) fun s a hl => rfl

theorem out_pg2 (t : Fin cfg0.N) (h : t.val % 32 = 31) (y : S1x1024.Idx) : (outsAt0 m c t.val t.isLt).2.2.2.2.2.2.2.2.2.2.1 y = ∑ r, (whole m c).pg2 r (y 1) := by
  have ht : t.val < 32 := t.isLt
  rw [Pipeline.eq_sum_fin_of_reset_step_apply_of_flush (fun n h => (outsAt0 m c n h).2.2.2.2.2.2.2.2.2.2.1) 32 (fun _ => 0) (term_pg2 m c)
    (fun s hs z => first_pg2 m c s hs z) (fun s hs z => next_pg2 m c s hs z) t h]
  exact (zero_add _).trans (sum_pg2 m c t _ y)

theorem array_pg2 : (dats m 0 c).arrAt (23 : Fin 25) cfg0.N = fun y : S1x1024.Idx => ∑ r, (whole m c).pg2 r (y 1) := by
  refine (dats m 0 c).arrAt_eq_of_covers (23 : Fin 25) _ (by decide +kernel) fun t hf y => ?_
  have h := (flush0_23 t).mp hf
  obtain ⟨-, -, -, ⟨-, ⟨h0, h1⟩, -⟩⟩ := idx0 t
  blk_simp
  rw [after0_23]
  change S1x1024.Idx at y
  refine (out_pg2 m c t h y).trans (Finset.sum_congr rfl fun r _ => congrArg ((whole m c).pg2 r) (Fin.ext ?_))
  blk_simp; simp only [h1]; omega

/-- What grid point `t` adds. -/
def term_pgf (t : Fin 32) (y : S1x1024.Idx) : EReal := ∑ a, (group m c t).pgf a (y 1)

theorem first_pgf (t : Fin cfg0.N) (h : t.val % 32 = 0) (y : S1x1024.Idx) : (outsAt0 m c t.val t.isLt).2.2.2.2.2.2.2.2.2.2.2 y = 0 + term_pgf m c t y := by
  rw [outsAt0_A m c t h]
  frame_open
  simp (disch := decide) only [↓ View.readCov_cons_toLoadRect]
  frame_out
  rw [add7]
  exact congrArg₂ (· + ·) (zero4 y) (column (loads m c t inb_S1024x1024_S512x1024_0_0 inb_S1024x1024_S512x1024_512_0).pgf y)

theorem next_pgf (t : Fin cfg0.N) (h : ¬t.val % 32 = 0) (y : S1x1024.Idx) : (outsAt0 m c t.val t.isLt).2.2.2.2.2.2.2.2.2.2.2 y
    = (outsAt0 m c (t.val - 1) (Nat.lt_of_le_of_lt (Nat.sub_le _ _) t.isLt)).2.2.2.2.2.2.2.2.2.2.2 y + term_pgf m c t y := by
  rw [outsAt0_B m c t h]
  frame_open
  simp (disch := decide) only [↓ View.readCov_cons_toLoadRect]
  frame_out
  rw [add7]
  exact congrArg₂ (· + ·) rfl (column (loads m c t inb_S1024x1024_S512x1024_0_0 inb_S1024x1024_S512x1024_512_0).pgf y)

/-- The points' groups run over all rows. -/
theorem sum_pgf (t : Fin 32) (g : ∀ s : Fin 32, 32 * (t.val / 32) + s.val < 32) (y : S1x1024.Idx) :
    ∑ s : Fin 32, term_pgf m c ⟨32 * (t.val / 32) + s.val, g s⟩ y = ∑ r, (whole m c).pgf r (y 1) := by
  have e : ∀ s : Fin 32, term_pgf m c ⟨32 * (t.val / 32) + s.val, g s⟩ y = ∑ a : Fin 256, (whole m c).pgf (row s a) (y 1) := fun s => by
    have hs : (⟨32 * (t.val / 32) + s.val, g s⟩ : Fin 32) = s := Fin.ext (show 32 * (t.val / 32) + s.val = s.val by omega)
    rw [hs]
    rfl
  simp only [e]
  exact Fin.sum_mul_add_congr (S := 32) (n := 256) fun s a hl => rfl

theorem out_pgf (t : Fin cfg0.N) (h : t.val % 32 = 31) (y : S1x1024.Idx) : (outsAt0 m c t.val t.isLt).2.2.2.2.2.2.2.2.2.2.2 y = ∑ r, (whole m c).pgf r (y 1) := by
  have ht : t.val < 32 := t.isLt
  rw [Pipeline.eq_sum_fin_of_reset_step_apply_of_flush (fun n h => (outsAt0 m c n h).2.2.2.2.2.2.2.2.2.2.2) 32 (fun _ => 0) (term_pgf m c)
    (fun s hs z => first_pgf m c s hs z) (fun s hs z => next_pgf m c s hs z) t h]
  exact (zero_add _).trans (sum_pgf m c t _ y)

theorem array_pgf : (dats m 0 c).arrAt (24 : Fin 25) cfg0.N = fun y : S1x1024.Idx => ∑ r, (whole m c).pgf r (y 1) := by
  refine (dats m 0 c).arrAt_eq_of_covers (24 : Fin 25) _ (by decide +kernel) fun t hf y => ?_
  have h := (flush0_24 t).mp hf
  obtain ⟨-, -, -, ⟨-, -, ⟨h0, h1⟩⟩⟩ := idx0 t
  blk_simp
  rw [after0_24]
  change S1x1024.Idx at y
  refine (out_pgf m c t h y).trans (Finset.sum_congr rfl fun r _ => congrArg ((whole m c).pgf r) (Fin.ext ?_))
  blk_simp; simp only [h1]; omega

end Cert.PostBwd

end
-- ==== Proof.PostBwdClaim.lean ====
/-
  The backward call: where the kept feed-forward values, the targets, the feed-forward output weights and the last gain are real numbers, the call leaves in its twelve result arrays exactly what the reference leaves in its twelve.
-/
module

public import proofs.«01_k».proof.Defs
public import proofs.«01_k».proof.Proof.PostBwdArr
public import proofs.«01_k».proof.Proof.PostBwdSum
public import proofs.«01_k».proof.Proof.PostClaim
public import proofs.«01_k».proof.Proof.Gen.Reference9Ideal.Run
public import proofs.«01_k».proof.Proof.Gen.Pre_finite9

@[expose] public section

set_option maxRecDepth 16384

noncomputable section

namespace Cert.PostBwd

open Idealize.ShloMosaic Idealize.ShloMosaic.TcCoe Idealize.SL.Sem Cert.Post

/-- The reference's run reads its arguments and has no semaphore. -/
theorem frame_reference : Cert.quiescent_Reference9Ideal := by
  intro m ρ _
  exact (θ_run Cert.Reference9Ideal.defs _ _).mono
    (fun r h => ⟨fun c => (h c).2.2.2.2.2.2.2.2.2.2.2.2, Idealize.ShloMosaic.sem_eq_zero_of_no_sems (by decide) r.2⟩)
    (Cert.Reference9Ideal.Value.run (F := Ideal) m ρ)

/-- The value claim. -/
theorem algebraic : Cert.algebraic_Kernel9Ideal_Reference9Ideal_pre_finite9 := by
  intro m g m' g' pre same
  have hreal : ∀ c, (whole m c).Real := fun c =>
    { up := fun r j => ⟨_, real_of_below (congrFun (pre c).1 (ix2 r j))⟩
      tgt := fun r k => ⟨_, real_of_below (congrFun (pre c).2.1 (ix2 r k))⟩
      wd := fun j k => ⟨_, real_of_below (congrFun (pre c).2.2.1 (ix2 j k))⟩
      gf := fun k => ⟨_, real_of_below (congrFun (pre c).2.2.2 (ix2 0 k))⟩ }
  refine ⟨fun c => fun y : Cert.Kernel9Ideal.S8192x1024.Idx => (whole m c).dx1 (y 0) (y 1),
    fun c => fun y : Cert.Kernel9Ideal.S8192x512.Idx => (whole m c).dya (y 0) (y 1),
    fun c => fun y : Cert.Kernel9Ideal.S8192x512.Idx => (whole m c).doa (y 0) (y 1),
    fun c => fun y : Cert.Kernel9Ideal.S8192x1024.Idx => (whole m c).dx1 (y 0) (y 1),
    fun c => fun y : Cert.Kernel9Ideal.S8192x1024.Idx => (whole m c).h (y 0) (y 1),
    fun c => fun y : Cert.Kernel9Ideal.S8192x2816.Idx => (whole m c).dgate (y 0) (y 1),
    fun c => fun y : Cert.Kernel9Ideal.S8192x2816.Idx => (whole m c).dup (y 0) (y 1),
    fun c => fun y : Cert.Kernel9Ideal.S8192x2816.Idx => (whole m c).act (y 0) (y 1),
    fun c => fun y : Cert.Kernel9Ideal.S8192x1024.Idx => (whole m c).dx2 (y 0) (y 1),
    fun c => fun y : Cert.Kernel9Ideal.S1x512.Idx => (∑ r, (whole m c).pgm r (y 1) : EReal),
    fun c => fun y : Cert.Kernel9Ideal.S1x1024.Idx => (∑ r, (whole m c).pg2 r (y 1) : EReal),
    fun c => fun y : Cert.Kernel9Ideal.S1x1024.Idx => (∑ r, (whole m c).pgf r (y 1) : EReal), ?_, ?_⟩
  · refine (θ_run Cert.Kernel9Ideal.defs _ _).mono (fun r h c => ?_)
      (θ_run_and (Cert.Kernel9Ideal.Gen.run_main m g) (Cert.Kernel9Ideal.Gen.unchanged m g))
    have w := (h.1 c).1
    exact ⟨(w (13 : Fin 25)).trans (array_dx1 m c),
      (w (14 : Fin 25)).trans (array_dya m c),
      (w (15 : Fin 25)).trans (array_doa m c),
      (w (16 : Fin 25)).trans (array_dx1b m c),
      (w (17 : Fin 25)).trans (array_h m c),
      (w (18 : Fin 25)).trans (array_dgate m c),
      (w (19 : Fin 25)).trans (array_dup m c),
      (w (20 : Fin 25)).trans (array_act m c),
      (w (21 : Fin 25)).trans (array_dx2 m c),
      (w (22 : Fin 25)).trans (array_pgm m c),
      (w (23 : Fin 25)).trans (array_pg2 m c),
      (w (24 : Fin 25)).trans (array_pgf m c), h.2 c⟩
  · refine (θ_run Cert.Reference9Ideal.defs _ _).mono (fun r h c => ?_) (Cert.Reference9Ideal.Value.run (F := Ideal) m' g')
    obtain ⟨h0, h1, h2, h3, h4, h5, h6, h7, h8, h9, h10, h11, ha⟩ := h c
    obtain ⟨s0, s1, s2, s3, s4, s5, s6, s7, s8, s9, s10, s11, s12⟩ := same c
    have hr := hreal c
    have hA : whole m c = Ref.args (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg5))
        (m' ((c.tc : Thread Cert.Reference9Ideal.nD Cert.Reference9Ideal.τ).loc Cert.Reference9Ideal.main_arg2))
        (m' ((c.tc : Thread Cert.Reference9Ideal.nD Cert.Reference9Ideal.τ).loc Cert.Reference9Ideal.main_arg3))
        (m' ((c.tc : Thread Cert.Reference9Ideal.nD Cert.Reference9Ideal.τ).loc Cert.Reference9Ideal.main_arg4))
        (m' ((c.tc : Thread Cert.Reference9Ideal.nD Cert.Reference9Ideal.τ).loc Cert.Reference9Ideal.main_arg6))
        (m' ((c.tc : Thread Cert.Reference9Ideal.nD Cert.Reference9Ideal.τ).loc Cert.Reference9Ideal.main_arg7))
        (m' ((c.tc : Thread Cert.Reference9Ideal.nD Cert.Reference9Ideal.τ).loc Cert.Reference9Ideal.main_arg8))
        (m' ((c.tc : Thread Cert.Reference9Ideal.nD Cert.Reference9Ideal.τ).loc Cert.Reference9Ideal.main_arg12))
        (m' ((c.tc : Thread Cert.Reference9Ideal.nD Cert.Reference9Ideal.τ).loc Cert.Reference9Ideal.main_arg9))
        (m' ((c.tc : Thread Cert.Reference9Ideal.nD Cert.Reference9Ideal.τ).loc Cert.Reference9Ideal.main_arg10))
        (m' ((c.tc : Thread Cert.Reference9Ideal.nD Cert.Reference9Ideal.τ).loc Cert.Reference9Ideal.main_arg11)) := by
      rw [s0, s1, s2, s3, s4, s5, s6, s7, s8, s9, s10, s11, s12]
      rfl
    refine ⟨h0.trans ((Cert.Reference9Ideal.Read.val_main_v104_eq _).trans (array_eq (Ref.v104 hA hr))),
      h1.trans ((Cert.Reference9Ideal.Read.val_main_v145_eq _).trans (array_eq (Ref.v124 hA hr))),
      h2.trans ((Cert.Reference9Ideal.Read.val_main_v146_eq _).trans (array_eq (Ref.v144 hA hr))),
      h3.trans ((Cert.Reference9Ideal.Read.val_main_v147_eq _).trans (array_eq (Ref.v104 hA hr))),
      h4.trans ((Cert.Reference9Ideal.Read.val_main_v148_eq _).trans (array_eq (Ref.v77 hA))),
      h5.trans ((Cert.Reference9Ideal.Read.val_main_v149_eq _).trans (array_eq (Ref.v62 hA hr))),
      h6.trans ((Cert.Reference9Ideal.Read.val_main_v150_eq _).trans (array_eq (Ref.v60 hA))),
      h7.trans ((Cert.Reference9Ideal.Read.val_main_v151_eq _).trans (array_eq (Ref.v56 hA))),
      h8.trans ((Cert.Reference9Ideal.Read.val_main_v152_eq _).trans (array_eq (Ref.v54 hA))),
      h9.trans ((Cert.Reference9Ideal.Read.val_main_v128_eq _).trans (array_eq (F := fun _ k => (∑ r, (whole m c).pgm r k : EReal)) (Ref.v128 hA hr))),
      h10.trans ((Cert.Reference9Ideal.Read.val_main_v87_eq _).trans (array_eq (F := fun _ k => (∑ r, (whole m c).pg2 r k : EReal)) (Ref.v87 hA hr))),
      h11.trans ((Cert.Reference9Ideal.Read.val_main_v38_eq _).trans (array_eq (F := fun _ k => (∑ r, (whole m c).pgf r k : EReal)) (Ref.v38 hA))), ha⟩

end Cert.PostBwd

end
-- ==== Proof.InProj.lean ====
/-
  The functions of one token's row that the layer's input side computes, over the extended reals: the norm, the input
  projection, the two latent projections, and the rotary rotation of queries and keys.
-/
module

public import proofs.«01_k».proof.Proof.Post

@[expose] public section

noncomputable section

namespace Cert.InProj

open Idealize.ShloMosaic
open Cert.Post (norm against times c1024)

def c384 : EReal := Ideal.ofBits .f32 0x43C00000#32
def c256 : EReal := Ideal.ofBits .f32 0x43800000#32

/-- The factor of the queries: one over the root of 192, rounded. -/
def scale : EReal := Ideal.ofBits .f32 0x3D93CD3A#32

/-- The place `j` after the first `o`. -/
def off {p : ℕ} (o n : ℕ) (h : o + n ≤ p) (j : Fin n) : Fin p := ⟨o + j.val, by omega⟩

/-! ## The rotation -/

/-- Position `p` times frequency `f`. -/
def angle (p : Fin 4096) (f : Fin 32) : EReal :=
  FloatOps.sitofp (F := Ideal) .f32 (BitVec.ofNat 32 p.val) * Ideal.div 1 (Ideal.pow (Ideal.ofBits .f32 0x461C4000#32)
    (Ideal.div (Ideal.ofBits .f32 0x40000000#32 * FloatOps.sitofp (F := Ideal) .f32 (BitVec.ofNat 32 f.val)) (Ideal.ofBits .f32 0x42800000#32)))

def cosAt (p : Fin 4096) (f : Fin 32) : EReal := Ideal.cos (angle p f)

def sinAt (p : Fin 4096) (f : Fin 32) : EReal := Ideal.sin (angle p f)

/-- The first 64 of 128 columns rotated in pairs 32 apart, the others zero. -/
def rope (cos sin : Fin 32 → EReal) (t : Fin 128 → EReal) (c : Fin 128) : EReal :=
  if h : c.val < 32 then t ⟨c.val, by omega⟩ * cos ⟨c.val, h⟩ - t ⟨c.val + 32, by omega⟩ * sin ⟨c.val, h⟩
  else if h' : c.val < 64 then t ⟨c.val - 32, by omega⟩ * sin ⟨c.val - 32, by omega⟩ + t ⟨c.val, by omega⟩ * cos ⟨c.val - 32, by omega⟩
  else 0

/-- The cosines twice, then zeros. -/
def cosTable (cos : Fin 32 → EReal) (c : Fin 128) : EReal :=
  if h : c.val < 32 then cos ⟨c.val, h⟩ else if h' : c.val < 64 then cos ⟨c.val - 32, by omega⟩ else 0

/-- The sines with the other sign, then zeros. -/
def negSinTable (sin : Fin 32 → EReal) (c : Fin 128) : EReal := if h : c.val < 32 then -sin ⟨c.val, h⟩ else 0

/-- Zeros, the sines, zeros. -/
def sinTable (sin : Fin 32 → EReal) (c : Fin 128) : EReal :=
  if c.val < 32 then 0 else if h' : c.val < 64 then sin ⟨c.val - 32, by omega⟩ else 0

/-- The rotation as the kernel computes it: the row, the row moved by 96 and the row moved by 32, each times a table. -/
theorem rope_moved (cos sin : Fin 32 → EReal) (t : Fin 128 → EReal) (c : Fin 128) :
    t c * cosTable cos c + t ⟨(c.val + 128 - 96) % 128, by omega⟩ * negSinTable sin c + t ⟨(c.val + 128 - 32) % 128, by omega⟩ * sinTable sin c
      = rope cos sin t c := by
  unfold cosTable negSinTable sinTable rope
  by_cases h : c.val < 32
  · simp only [dif_pos h, if_pos h, mul_zero, add_zero]
    have e : (⟨(c.val + 128 - 96) % 128, by omega⟩ : Fin 128) = ⟨c.val + 32, by omega⟩ := Fin.ext (by show (c.val + 128 - 96) % 128 = c.val + 32; omega)
    rw [e, mul_neg, sub_eq_add_neg]
  · by_cases h' : c.val < 64
    · simp only [dif_neg h, dif_pos h', if_neg h, mul_zero, add_zero]
      have e : (⟨(c.val + 128 - 32) % 128, by omega⟩ : Fin 128) = ⟨c.val - 32, by omega⟩ := Fin.ext (by show (c.val + 128 - 32) % 128 = c.val - 32; omega)
      rw [e, add_comm]
    · simp only [dif_neg h, dif_neg h', if_neg h, mul_zero, add_zero]

/-! ## The arguments and the results -/

/-- `n` tokens' rows with the cosines and sines of their positions, and the weights. -/
structure Rows (n : ℕ) where
  x : Fin n → Fin 1024 → EReal
  cos : Fin n → Fin 32 → EReal
  sin : Fin n → Fin 32 → EReal
  g1 : Fin 1024 → EReal
  w : Fin 3328 → Fin 1024 → EReal
  gq : Fin 384 → EReal
  gk : Fin 256 → EReal
  wq : Fin 1024 → Fin 384 → EReal
  wkv : Fin 256 → Fin 1024 → EReal

namespace Rows

variable {n : ℕ} (A : Rows n)

/-- Some of the rows, with the same weights. -/
def take {p : ℕ} (e : Fin p → Fin n) : Rows p :=
  { A with x := fun r => A.x (e r), cos := fun r => A.cos (e r), sin := fun r => A.sin (e r) }

variable (r : Fin n)

/-- The normalised row. -/
def h : Fin 1024 → EReal := norm c1024 (A.x r) A.g1

/-- The input projection. -/
def proj : Fin 3328 → EReal := against (A.h r) A.w

/-- The queries' latent row. -/
def cq (j : Fin 384) : EReal := A.proj r (off 2560 384 (by omega) j)

/-- The keys' and values' latent row. -/
def ckv (j : Fin 256) : EReal := A.proj r (off 2944 256 (by omega) j)

def qn : Fin 384 → EReal := norm c384 (A.cq r) A.gq

def kn : Fin 256 → EReal := norm c256 (A.ckv r) A.gk

/-- The queries of all heads, before rotation and scale. -/
def qraw : Fin 1024 → EReal := against (A.qn r) A.wq

/-- The keys and values of all heads. -/
def kv : Fin 1024 → EReal := times (A.kn r) A.wkv

/-- The rotated key that all heads share. -/
def kr (c : Fin 128) : EReal := rope (A.cos r) (A.sin r) (fun c => A.proj r (off 3200 128 (by omega) c)) c

/-- The queries: each head's first half as it is, its second half rotated, both scaled. -/
def q (j : Fin 1024) : EReal :=
  if j.val % 256 < 128 then A.qraw r j * scale
  else rope (A.cos r) (A.sin r) (fun c => A.qraw r ⟨j.val / 256 * 256 + 128 + c.val, by omega⟩) ⟨j.val % 128, by omega⟩ * scale

/-- The keys: each head's own first half, and the shared rotated one. -/
def k (j : Fin 1024) : EReal := if j.val % 256 < 128 then A.kv r j else A.kr r ⟨j.val % 128, by omega⟩

/-- The values: each head's second half. -/
def v (j : Fin 512) : EReal := A.kv r ⟨j.val / 128 * 256 + 128 + j.val % 128, by omega⟩

theorem q_left (u : ℕ) (hu : u % 256 = 0) (h : u + 128 ≤ 1024) (d : Fin 128) : A.q r (off u 128 h d) = A.qraw r (off u 128 h d) * scale :=
  if_pos (show (u + d.val) % 256 < 128 by omega)

theorem q_right (u : ℕ) (hu : u % 256 = 128) (h : u + 128 ≤ 1024) (d : Fin 128) :
    A.q r (off u 128 h d) = rope (A.cos r) (A.sin r) (fun c => A.qraw r (off u 128 h c)) d * scale := by
  refine (if_neg (show ¬(u + d.val) % 256 < 128 by omega)).trans ?_
  refine congrArg (fun z : EReal => z * scale) (congrArg₂ (rope (A.cos r) (A.sin r)) (funext fun c => congrArg (A.qraw r) (Fin.ext ?_)) (Fin.ext ?_))
  · show (u + d.val) / 256 * 256 + 128 + c.val = u + c.val
    omega
  · show (u + d.val) % 128 = d.val
    omega

theorem k_left (u : ℕ) (hu : u % 256 = 0) (h : u + 128 ≤ 1024) (d : Fin 128) : A.k r (off u 128 h d) = A.kv r (off u 128 h d) :=
  if_pos (show (u + d.val) % 256 < 128 by omega)

theorem k_right (u : ℕ) (hu : u % 256 = 128) (h : u + 128 ≤ 1024) (d : Fin 128) : A.k r (off u 128 h d) = A.kr r d := by
  refine (if_neg (show ¬(u + d.val) % 256 < 128 by omega)).trans (congrArg (A.kr r) (Fin.ext ?_))
  show (u + d.val) % 128 = d.val
  omega

theorem v_at (u w : ℕ) (hu : u % 128 = 0) (hw : w = 2 * u + 128) (h : u + 128 ≤ 512) (h' : w + 128 ≤ 1024) (d : Fin 128) :
    A.v r (off u 128 h d) = A.kv r (off w 128 h' d) := by
  refine congrArg (A.kv r) (Fin.ext ?_)
  show (u + d.val) / 128 * 256 + 128 + (u + d.val) % 128 = w + d.val
  omega

end Rows

end Cert.InProj
-- ==== Proof.InProjPay.lean ====
/-
  What the input side's kernel computes for 256 rows: each stored value is the matching function of the rows.
-/
module

public import proofs.«01_k».proof.Proof.InProj
public import proofs.«01_k».proof.Proof.Gen.Kernel10Ideal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.InProj

open Idealize.ShloMosaic Idealize.ShloMosaic.TcCoe Idealize.SL.Sem
open Cert.Kernel10Ideal Cert.Kernel10Ideal.Gen

/-! ## The values of one group -/

section Row

variable {A : Rows 256} {x : Vec Ideal S256x1024 .f32} {g : Vec Ideal S1x1024 .f32} {h : FVec Ideal S256x1024 .bf16}
variable (hh : ∀ a k, h (ix2 a k) = A.h a k)

theorem h_at (hx : ∀ a k, x (ix2 a k) = A.x a k) (hg : ∀ k, g (ix2 0 k) = A.g1 k) (a : Fin 256) (k : Fin 1024) : k0_pay2 (F := Ideal) x g (ix2 a k) = A.h a k := by
  pointwise [k0_pay2]
  simp only [hx, hg]
  rfl

include hh in
theorem proj512 {w : Vec Ideal S512x1024 .bf16} {o : ℕ} {ho : o + 512 ≤ 3328} (hw : ∀ j k, w (ix2 j k) = A.w (off o 512 ho j) k) (a : Fin 256) (j : Fin 512) :
    k0_pay7 (F := Ideal) h w (ix2 a j) = A.proj a (off o 512 ho j) := by
  pointwise [k0_pay7]
  simp only [hh, hw]
  rfl

include hh in
theorem proj384 {w : Vec Ideal S384x1024 .bf16} {o : ℕ} {ho : o + 384 ≤ 3328} (hw : ∀ j k, w (ix2 j k) = A.w (off o 384 ho j) k) (a : Fin 256) (j : Fin 384) :
    k0_pay8 (F := Ideal) h w (ix2 a j) = A.proj a (off o 384 ho j) := by
  pointwise [k0_pay8]
  simp only [hh, hw]
  rfl

include hh in
theorem proj256 {w : Vec Ideal S256x1024 .bf16} {o : ℕ} {ho : o + 256 ≤ 3328} (hw : ∀ j k, w (ix2 j k) = A.w (off o 256 ho j) k) (a : Fin 256) (j : Fin 256) :
    k0_pay9 (F := Ideal) h w (ix2 a j) = A.proj a (off o 256 ho j) := by
  pointwise [k0_pay9]
  simp only [hh, hw]
  rfl

include hh in
theorem proj128 {w : Vec Ideal S128x1024 .bf16} {o : ℕ} {ho : o + 128 ≤ 3328} (hw : ∀ j k, w (ix2 j k) = A.w (off o 128 ho j) k) (a : Fin 256) (j : Fin 128) :
    k0_pay10 (F := Ideal) h w (ix2 a j) = A.proj a (off o 128 ho j) := by
  pointwise [k0_pay10]
  simp only [hh, hw]
  rfl

theorem qn_at {c : FVec Ideal S256x384 .f32} {g : Vec Ideal S1x384 .f32} (hc : ∀ a j, c (ix2 a j) = A.cq a j) (hg : ∀ j, g (ix2 0 j) = A.gq j) (a : Fin 256) (j : Fin 384) :
    k0_pay50 (F := Ideal) c g (ix2 a j) = A.qn a j := by
  pointwise [k0_pay50]
  simp only [hc, hg]
  rfl

theorem kn_at {c : FVec Ideal S256x256 .f32} {g : Vec Ideal S1x256 .f32} (hc : ∀ a j, c (ix2 a j) = A.ckv a j) (hg : ∀ j, g (ix2 0 j) = A.gk j) (a : Fin 256) (j : Fin 256) :
    k0_pay17 (F := Ideal) c g (ix2 a j) = A.kn a j := by
  pointwise [k0_pay17]
  simp only [hc, hg]
  rfl

/-- The three tables of a group. -/
structure Tables (A : Rows 256) (ct sa sb : FVec Ideal S256x128 .f32) : Prop where
  cos : ∀ a c, ct (ix2 a c) = cosTable (A.cos a) c
  neg : ∀ a c, sa (ix2 a c) = negSinTable (A.sin a) c
  sin : ∀ a c, sb (ix2 a c) = sinTable (A.sin a) c

variable {ct sa sb : FVec Ideal S256x128 .f32} (T : Tables A ct sa sb)

include T in
theorem rope_at {t : FVec Ideal S256x128 .f32} {f : Fin 256 → Fin 128 → EReal} (ht : ∀ a c, t (ix2 a c) = f a c) (a : Fin 256) (c : Fin 128) :
    k0_pay18 (F := Ideal) t ct sa sb (ix2 a c) = rope (A.cos a) (A.sin a) (f a) c := by
  refine Eq.trans ?_ (rope_moved (A.cos a) (A.sin a) (f a) c)
  pointwise [k0_pay18]
  simp only [ht, T.cos, T.neg, T.sin]

variable {q : FVec Ideal S256x384 .bf16} (hq : ∀ a j, q (ix2 a j) = A.qn a j)

include hq in
theorem head_at {w : Vec Ideal S128x384 .bf16} {o : ℕ} {ho : o + 128 ≤ 1024} (hw : ∀ j k, w (ix2 j k) = A.wq (off o 128 ho j) k) (a : Fin 256) (d : Fin 128) :
    k0_pay25 (F := Ideal) q w (ix2 a d) = A.qraw a (off o 128 ho d) * scale := by
  pointwise [k0_pay25]
  simp only [hq, hw]
  rfl

include T hq in
theorem turned_at {w : Vec Ideal S128x384 .bf16} {o : ℕ} {ho : o + 128 ≤ 1024} (hw : ∀ j k, w (ix2 j k) = A.wq (off o 128 ho j) k) (a : Fin 256) (d : Fin 128) :
    k0_pay31 (F := Ideal) ct sa sb q w (ix2 a d) = rope (A.cos a) (A.sin a) (fun c => A.qraw a (off o 128 ho c)) d * scale := by
  refine Eq.trans ?_ (congrArg (fun z : EReal => z * scale) (rope_moved (A.cos a) (A.sin a) (fun c => A.qraw a (off o 128 ho c)) d))
  pointwise [k0_pay31]
  simp only [hq, hw, T.cos, T.neg, T.sin]
  rfl

theorem kv_at {kn : FVec Ideal S256x256 .bf16} (hk : ∀ a j, kn (ix2 a j) = A.kn a j) {w : Vec Ideal S256x128 .bf16} {o : ℕ} {ho : o + 128 ≤ 1024}
    (hw : ∀ j d, w (ix2 j d) = A.wkv j (off o 128 ho d)) (a : Fin 256) (d : Fin 128) :
    k0_pay23 (F := Ideal) kn w (ix2 a d) = A.kv a (off o 128 ho d) := by
  pointwise [k0_pay23]
  simp only [hk, hw]
  rfl

end Row

/-! ## One formula, several texts -/

section Same

variable (x : Vec Ideal S256x1024 .f32) (g : Vec Ideal S1x1024 .f32) (h : FVec Ideal S256x1024 .bf16) (w : Vec Ideal S512x1024 .bf16)
variable (c : FVec Ideal S256x384 .f32) (gq : Vec Ideal S1x384 .f32) (w2 : Vec Ideal S384x1024 .bf16) (w1 : Vec Ideal S256x1024 .bf16) (w0 : Vec Ideal S128x1024 .bf16)
variable (ck : FVec Ideal S256x256 .f32) (gk : Vec Ideal S1x256 .f32)
variable (t ct sa sb : FVec Ideal S256x128 .f32) (q : FVec Ideal S256x384 .bf16) (wq : Vec Ideal S128x384 .bf16) (kn : FVec Ideal S256x256 .bf16) (wk : Vec Ideal S256x128 .bf16)

theorem eq38 : k0_pay38 (F := Ideal) x g = k0_pay2 x g := rfl
theorem eq3 : k0_pay3 (F := Ideal) x g w = k0_pay7 (k0_pay2 x g) w := rfl
theorem eq4 : k0_pay4 (F := Ideal) x g w = k0_pay7 (k0_pay2 x g) w := rfl
theorem eq5 : k0_pay5 (F := Ideal) x g w = k0_pay7 (k0_pay2 x g) w := rfl
theorem eq6 : k0_pay6 (F := Ideal) x g w = k0_pay7 (k0_pay2 x g) w := rfl
theorem eq39 : k0_pay39 (F := Ideal) x g w = k0_pay7 (k0_pay2 x g) w := rfl
theorem eq40 : k0_pay40 (F := Ideal) h w = k0_pay7 h w := rfl
theorem eq41 : k0_pay41 (F := Ideal) h w = k0_pay7 h w := rfl
theorem eq42 : k0_pay42 (F := Ideal) h w = k0_pay7 h w := rfl
theorem eq43 : k0_pay43 (F := Ideal) h w = k0_pay7 h w := rfl
theorem eq44 : k0_pay44 (F := Ideal) h w2 = k0_pay8 h w2 := rfl
theorem eq45 : k0_pay45 (F := Ideal) h w1 = k0_pay9 h w1 := rfl
theorem eq46 : k0_pay46 (F := Ideal) h w0 = k0_pay10 h w0 := rfl
theorem eq16 : k0_pay16 (F := Ideal) (k0_pay14 h w2) (k0_pay15 gq) = k0_pay50 (k0_pay8 h w2) gq := rfl
theorem eq51 : k0_pay51 (F := Ideal) ck gk = k0_pay17 ck gk := rfl
theorem eq52 : k0_pay52 (F := Ideal) t ct sa sb = k0_pay18 t (k0_pay47 ct) (k0_pay48 sa) (k0_pay49 sb) := rfl
theorem eq11 : k0_pay11 (F := Ideal) t = t := by
  funext i
  idx_vars i
  pointwise [k0_pay11]
theorem eq12 : k0_pay12 (F := Ideal) t = t := by
  funext i
  idx_vars i
  pointwise [k0_pay12]
theorem eq13 : k0_pay13 (F := Ideal) t = t := by
  funext i
  idx_vars i
  pointwise [k0_pay13]
theorem eq47 : k0_pay47 (F := Ideal) t = t := by
  funext i
  idx_vars i
  pointwise [k0_pay47]
theorem eq48 : k0_pay48 (F := Ideal) t = t := by
  funext i
  idx_vars i
  pointwise [k0_pay48]
theorem eq49 : k0_pay49 (F := Ideal) t = t := by
  funext i
  idx_vars i
  pointwise [k0_pay49]
theorem eq19 : k0_pay19 (F := Ideal) (k0_pay14 h w2) (k0_pay15 gq) wq = k0_pay25 (k0_pay50 (k0_pay8 h w2) gq) wq := rfl
theorem eq22 : k0_pay22 (F := Ideal) (k0_pay20 ct sa sb (k0_pay14 h w2) (k0_pay15 gq) wq) k0_pay21 = k0_pay31 ct sa sb (k0_pay50 (k0_pay8 h w2) gq) wq := rfl
theorem eq27 : k0_pay27 (F := Ideal) (k0_pay26 ct sa sb q wq) = k0_pay31 ct sa sb q wq := rfl
theorem eq30 : k0_pay30 (F := Ideal) q wq = k0_pay25 q wq := rfl
theorem eq34 : k0_pay34 (F := Ideal) q wq = k0_pay25 q wq := rfl
theorem eq53 : k0_pay53 (F := Ideal) q wq = k0_pay25 q wq := rfl
theorem eq57 : k0_pay57 (F := Ideal) q wq (constant S256x128 .f32 0x00000000#32) = k0_pay25 q wq := rfl
theorem eq62 : k0_pay62 (F := Ideal) (k0_pay61 q wq) = k0_pay25 q wq := rfl
theorem eq67 : k0_pay67 (F := Ideal) (k0_pay66 q wq) (Scalar.ofBits .f32 0x3D93CD3A#32) = k0_pay25 q wq := rfl
theorem eq35 : k0_pay35 (F := Ideal) ct sa sb q wq = k0_pay31 ct sa sb q wq := rfl
theorem eq54 : k0_pay54 (F := Ideal) ct sa sb q wq = k0_pay31 ct sa sb q wq := rfl
theorem eq58 : k0_pay58 (F := Ideal) ct sa sb q wq = k0_pay31 ct sa sb q wq := rfl
theorem eq63 : k0_pay63 (F := Ideal) ct sa sb q wq = k0_pay31 ct sa sb q wq := rfl
theorem eq68 : k0_pay68 (F := Ideal) ct sa sb q wq = k0_pay31 ct sa sb q wq := rfl
theorem eq24 : k0_pay24 (F := Ideal) kn wk = k0_pay23 kn wk := rfl
theorem eq28 : k0_pay28 (F := Ideal) kn wk = k0_pay23 kn wk := rfl
theorem eq29 : k0_pay29 (F := Ideal) kn wk = k0_pay23 kn wk := rfl
theorem eq32 : k0_pay32 (F := Ideal) kn wk = k0_pay23 kn wk := rfl
theorem eq33 : k0_pay33 (F := Ideal) kn wk = k0_pay23 kn wk := rfl
theorem eq36 : k0_pay36 (F := Ideal) kn wk = k0_pay23 kn wk := rfl
theorem eq37 : k0_pay37 (F := Ideal) kn wk = k0_pay23 kn wk := rfl
theorem eq55 : k0_pay55 (F := Ideal) kn wk = k0_pay23 kn wk := rfl
theorem eq56 : k0_pay56 (F := Ideal) kn wk = k0_pay23 kn wk := rfl
theorem eq59 : k0_pay59 (F := Ideal) kn wk = k0_pay23 kn wk := rfl
theorem eq60 : k0_pay60 (F := Ideal) kn wk = k0_pay23 kn wk := rfl
theorem eq64 : k0_pay64 (F := Ideal) kn wk = k0_pay23 kn wk := rfl
theorem eq65 : k0_pay65 (F := Ideal) kn wk = k0_pay23 kn wk := rfl
theorem eq69 : k0_pay69 (F := Ideal) kn wk = k0_pay23 kn wk := rfl
theorem eq1 : k0_pay1 (F := Ideal) (k0_pay70 kn wk) = k0_pay23 kn wk := rfl

end Same

end Cert.InProj
-- ==== Proof.InProjOut.lean ====
/-
  The blocks one grid point of the input side's kernel leaves: 512 rows, computed as two groups of 256.
-/
module

public import proofs.«01_k».proof.Proof.InProjPay
public import proofs.«01_k».proof.Proof.Gen.Kernel10Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.InProj

open Idealize.ShloMosaic Idealize.ShloMosaic.TcCoe Idealize.SL.Sem
open Cert.Kernel10Ideal Cert.Kernel10Ideal.Gen

/-! ## Loads and stores of part of a block -/

theorem ld_at {R C p q : ℕ} {e : EltTy} (v : Vec Ideal ⟨2, ![R, C]⟩ e) (o u : ℕ) (ho : o + p ≤ R) (hu : u + q ≤ C) (inb) (a : Fin p) (d : Fin q) :
    View.ld v (Rect.unit ![o, u] ![p, q] inb) (ix2 a d) = v (ix2 (off o p ho a) (off u q hu d)) :=
  View.ld_unit_apply_of v _ _ inb (ix2 a d) _ fun i => by fin_cases i <;> simp [off]

theorem off_zero {p : ℕ} (h : 0 + p ≤ p) (d : Fin p) : off 0 p h d = d := Fin.ext (Nat.zero_add _)

/-- A store at row `o` and column `u`. -/
theorem tile {C q : ℕ} (o u : ℕ) (ho : o + 256 ≤ 512) (hu : u + q ≤ C) (F : Fin 512 → Fin C → EReal) {v : (⟨2, ![256, q]⟩ : Shape).Idx → EReal}
    (hv : ∀ (a : Fin 256) (d : Fin q), v (ix2 a d) = F (off o 256 ho a) (off u q hu d)) (y : (⟨2, ![512, C]⟩ : Shape).Idx) (x : (⟨2, ![256, q]⟩ : Shape).Idx)
    (h0 : (y 0 : ℕ) = o + (x 0 : ℕ)) (h1 : (y 1 : ℕ) = u + (x 1 : ℕ)) : v x = F (y 0) (y 1) := by
  have e : x = ix2 (x 0) (x 1) := (ix2_eta x).symm
  rw [e]
  exact (hv (x 0) (x 1)).trans (congrArg₂ F (Fin.ext h0.symm) (Fin.ext h1.symm))

/-- The rows of a group. -/
def Rows.group (A : Rows 512) (o : ℕ) (ho : o + 256 ≤ 512) : Rows 256 := A.take (off o 256 ho)

/-- The blocks a grid point reads. -/
structure Blocks (A : Rows 512) (x0 : Vec Ideal S512x1024 .f32) (x1 : Vec Ideal S1x1024 .f32) (x2 : Vec Ideal S3328x1024 .bf16) (x3 : Vec Ideal S1x384 .f32)
    (x4 : Vec Ideal S1x256 .f32) (x5 : Vec Ideal S1024x384 .bf16) (x6 : Vec Ideal S256x1024 .bf16) (x7 x8 x9 : Vec Ideal S512x128 .f32) : Prop where
  x : ∀ a k, x0 (ix2 a k) = A.x a k
  g1 : ∀ k, x1 (ix2 0 k) = A.g1 k
  w : ∀ j k, x2 (ix2 j k) = A.w j k
  gq : ∀ j, x3 (ix2 0 j) = A.gq j
  gk : ∀ j, x4 (ix2 0 j) = A.gk j
  wq : ∀ j k, x5 (ix2 j k) = A.wq j k
  wkv : ∀ j d, x6 (ix2 j d) = A.wkv j d
  cos : ∀ a c, x7 (ix2 a c) = cosTable (A.cos a) c
  neg : ∀ a c, x8 (ix2 a c) = negSinTable (A.sin a) c
  sin : ∀ a c, x9 (ix2 a c) = sinTable (A.sin a) c

namespace Blocks

variable {A : Rows 512} {x0 : Vec Ideal S512x1024 .f32} {x1 : Vec Ideal S1x1024 .f32} {x2 : Vec Ideal S3328x1024 .bf16} {x3 : Vec Ideal S1x384 .f32}
  {x4 : Vec Ideal S1x256 .f32} {x5 : Vec Ideal S1024x384 .bf16} {x6 : Vec Ideal S256x1024 .bf16} {x7 x8 x9 : Vec Ideal S512x128 .f32}
variable (B : Blocks A x0 x1 x2 x3 x4 x5 x6 x7 x8 x9)
include B

theorem w_at {n : ℕ} (o : ℕ) (ho : o + n ≤ 3328) (inb) (j : Fin n) (k : Fin 1024) :
    View.ld x2 (Rect.unit ![o, 0] ![n, 1024] inb) (ix2 j k) = A.w (off o n ho j) k := by
  rw [ld_at x2 o 0 ho (by omega), off_zero, B.w]

theorem wq_at (o : ℕ) (ho : o + 128 ≤ 1024) (inb) (j : Fin 128) (k : Fin 384) :
    View.ld x5 (Rect.unit ![o, 0] ![128, 384] inb) (ix2 j k) = A.wq (off o 128 ho j) k := by
  rw [ld_at x5 o 0 ho (by omega), off_zero, B.wq]

theorem wkv_at (u : ℕ) (hu : u + 128 ≤ 1024) (inb) (j : Fin 256) (d : Fin 128) :
    View.ld x6 (Rect.unit ![0, u] ![256, 128] inb) (ix2 j d) = A.wkv j (off u 128 hu d) := by
  rw [ld_at x6 0 u (by omega) hu, off_zero, B.wkv]

theorem x_at (o : ℕ) (ho : o + 256 ≤ 512) (inb) (a : Fin 256) (k : Fin 1024) :
    View.ld x0 (Rect.unit ![o, 0] ![256, 1024] inb) (ix2 a k) = (A.group o ho).x a k := by
  rw [ld_at x0 o 0 ho (by omega), off_zero, B.x]
  rfl

theorem tables (o : ℕ) (ho : o + 256 ≤ 512) (i1 i2 i3) : Tables (A.group o ho) (View.ld x7 (Rect.unit ![o, 0] ![256, 128] i1))
    (View.ld x8 (Rect.unit ![o, 0] ![256, 128] i2)) (View.ld x9 (Rect.unit ![o, 0] ![256, 128] i3)) where
  cos a c := by
    rw [ld_at x7 o 0 ho (by omega), off_zero, B.cos]
    rfl
  neg a c := by
    rw [ld_at x8 o 0 ho (by omega), off_zero, B.neg]
    rfl
  sin a c := by
    rw [ld_at x9 o 0 ho (by omega), off_zero, B.sin]
    rfl

theorem g1_at (inb) (k : Fin 1024) : View.ld x1 (Rect.unit ![0, 0] ![1, 1024] inb) (ix2 0 k) = A.g1 k := by
  rw [ld_at x1 0 0 (by omega) (by omega), off_zero, off_zero, B.g1]

theorem gq_at (inb) (k : Fin 384) : View.ld x3 (Rect.unit ![0, 0] ![1, 384] inb) (ix2 0 k) = A.gq k := by
  rw [ld_at x3 0 0 (by omega) (by omega), off_zero, off_zero, B.gq]

theorem gk_at (inb) (k : Fin 256) : View.ld x4 (Rect.unit ![0, 0] ![1, 256] inb) (ix2 0 k) = A.gk k := by
  rw [ld_at x4 0 0 (by omega) (by omega), off_zero, off_zero, B.gk]

theorem h_of (o : ℕ) (ho : o + 256 ≤ 512) (i1 i2) (a : Fin 256) (k : Fin 1024) :
    k0_pay2 (F := Ideal) (View.ld x0 (Rect.unit ![o, 0] ![256, 1024] i1)) (View.ld x1 (Rect.unit ![0, 0] ![1, 1024] i2)) (ix2 a k) = (A.group o ho).h a k :=
  h_at (A := A.group o ho) (B.x_at o ho i1) (B.g1_at i2) a k

theorem h71 (a : Fin 256) (k : Fin 1024) : k0_pay71 (F := Ideal) x0 x1 x2 x3 x4 x5 x6 x7 x8 x9 (ix2 a k) = (A.group 0 (by omega)).h a k :=
  B.h_of 0 (by omega) inb_S512x1024_S256x1024_0_0 inb_S1x1024_S1x1024_0_0 a k

theorem q77 (a : Fin 256) (j : Fin 384) : k0_pay77 (F := Ideal) x0 x1 x2 x3 x4 x5 x6 x7 x8 x9 (ix2 a j) = (A.group 0 (by omega)).qn a j :=
  qn_at (A := (A.group 0 (by omega))) (c := k0_pay8 (F := Ideal) (k0_pay71 x0 x1 x2 x3 x4 x5 x6 x7 x8 x9) (View.ld x2 r0_8)) (fun a j => proj384 (A := (A.group 0 (by omega))) B.h71 (o := 2560) (ho := by omega) (B.w_at 2560 (by omega) _) a j) (B.gq_at inb_S1x384_S1x384_0_0) a j

theorem k78 (a : Fin 256) (j : Fin 256) : k0_pay78 (F := Ideal) x0 x1 x2 x3 x4 x5 x6 x7 x8 x9 (ix2 a j) = (A.group 0 (by omega)).kn a j :=
  kn_at (A := (A.group 0 (by omega))) (c := k0_pay9 (F := Ideal) (k0_pay71 x0 x1 x2 x3 x4 x5 x6 x7 x8 x9) (View.ld x2 r0_9)) (fun a j => proj256 (A := (A.group 0 (by omega))) B.h71 (o := 2944) (ho := by omega) (B.w_at 2944 (by omega) _) a j) (B.gk_at inb_S1x256_S1x256_0_0) a j

theorem t72 : Tables (A.group 0 (by omega)) (k0_pay72 (F := Ideal) x0 x1 x2 x3 x4 x5 x6 x7 x8 x9) (k0_pay73 (F := Ideal) x0 x1 x2 x3 x4 x5 x6 x7 x8 x9) (k0_pay74 (F := Ideal) x0 x1 x2 x3 x4 x5 x6 x7 x8 x9) := by
  unfold k0_pay72 k0_pay73 k0_pay74
  rw [eq11, eq12, eq13]
  exact B.tables 0 (by omega) inb_S512x128_S256x128_0_0 inb_S512x128_S256x128_0_0 inb_S512x128_S256x128_0_0

theorem r79 (a : Fin 256) (c : Fin 128) : k0_pay79 (F := Ideal) x0 x1 x2 x3 x4 x5 x6 x7 x8 x9 (ix2 a c) = (A.group 0 (by omega)).kr a c :=
  rope_at (A := (A.group 0 (by omega))) B.t72 (t := k0_pay10 (F := Ideal) (k0_pay71 x0 x1 x2 x3 x4 x5 x6 x7 x8 x9) (View.ld x2 r0_10)) (f := fun a c => (A.group 0 (by omega)).proj a (off 3200 128 (by omega) c))
    (fun a j => proj128 (A := (A.group 0 (by omega))) B.h71 (o := 3200) (ho := by omega) (B.w_at 3200 (by omega) _) a j) a c

theorem h80 (a : Fin 256) (k : Fin 1024) : k0_pay80 (F := Ideal) x0 x1 x2 x3 x4 x5 x6 x7 x8 x9 (ix2 a k) = (A.group 256 (by omega)).h a k :=
  B.h_of 256 (by omega) inb_S512x1024_S256x1024_256_0 inb_S1x1024_S1x1024_0_0 a k

theorem q84 (a : Fin 256) (j : Fin 384) : k0_pay84 (F := Ideal) x0 x1 x2 x3 x4 x5 x6 x7 x8 x9 (ix2 a j) = (A.group 256 (by omega)).qn a j :=
  qn_at (A := (A.group 256 (by omega))) (c := k0_pay8 (F := Ideal) (k0_pay80 x0 x1 x2 x3 x4 x5 x6 x7 x8 x9) (View.ld x2 r0_8)) (fun a j => proj384 (A := (A.group 256 (by omega))) B.h80 (o := 2560) (ho := by omega) (B.w_at 2560 (by omega) _) a j) (B.gq_at inb_S1x384_S1x384_0_0) a j

theorem k85 (a : Fin 256) (j : Fin 256) : k0_pay85 (F := Ideal) x0 x1 x2 x3 x4 x5 x6 x7 x8 x9 (ix2 a j) = (A.group 256 (by omega)).kn a j :=
  kn_at (A := (A.group 256 (by omega))) (c := k0_pay9 (F := Ideal) (k0_pay80 x0 x1 x2 x3 x4 x5 x6 x7 x8 x9) (View.ld x2 r0_9)) (fun a j => proj256 (A := (A.group 256 (by omega))) B.h80 (o := 2944) (ho := by omega) (B.w_at 2944 (by omega) _) a j) (B.gk_at inb_S1x256_S1x256_0_0) a j

theorem t81 : Tables (A.group 256 (by omega)) (k0_pay81 (F := Ideal) x0 x1 x2 x3 x4 x5 x6 x7 x8 x9) (k0_pay82 (F := Ideal) x0 x1 x2 x3 x4 x5 x6 x7 x8 x9) (k0_pay83 (F := Ideal) x0 x1 x2 x3 x4 x5 x6 x7 x8 x9) := by
  unfold k0_pay81 k0_pay82 k0_pay83
  rw [eq47, eq48, eq49]
  exact B.tables 256 (by omega) inb_S512x128_S256x128_256_0 inb_S512x128_S256x128_256_0 inb_S512x128_S256x128_256_0

theorem r86 (a : Fin 256) (c : Fin 128) : k0_pay86 (F := Ideal) x0 x1 x2 x3 x4 x5 x6 x7 x8 x9 (ix2 a c) = (A.group 256 (by omega)).kr a c :=
  rope_at (A := (A.group 256 (by omega))) B.t81 (t := k0_pay10 (F := Ideal) (k0_pay80 x0 x1 x2 x3 x4 x5 x6 x7 x8 x9) (View.ld x2 r0_10)) (f := fun a c => (A.group 256 (by omega)).proj a (off 3200 128 (by omega) c))
    (fun a j => proj128 (A := (A.group 256 (by omega))) B.h80 (o := 3200) (ho := by omega) (B.w_at 3200 (by omega) _) a j) a c

theorem out_hq (y : S512x512.Idx) : out0_10 (F := Ideal) x0 x1 x2 x3 x4 x5 x6 x7 x8 x9 y = A.proj (y 0) (off 0 512 (by omega) (y 1)) := by
  unfold out0_10
  canon_tiles x h
  · exact tile 256 0 (by omega) (by omega) (fun a d => A.proj a (off 0 512 (by omega) d))
      (fun a d => (proj512 (A := A.group 256 (by omega)) B.h80 (o := 0) (ho := by omega) (B.w_at 0 (by omega) _) a d).trans (by rw [off_zero]; rfl)) y x (by omega) (by omega)
  · exact tile 0 0 (by omega) (by omega) (fun a d => A.proj a (off 0 512 (by omega) d))
      (fun a d => (proj512 (A := A.group 0 (by omega)) B.h71 (o := 0) (ho := by omega) (B.w_at 0 (by omega) _) a d).trans (by rw [off_zero]; rfl)) y x (by omega) (by omega)

theorem out_hi (y : S512x512.Idx) : out0_11 (F := Ideal) x0 x1 x2 x3 x4 x5 x6 x7 x8 x9 y = A.proj (y 0) (off 512 512 (by omega) (y 1)) := by
  unfold out0_11
  canon_tiles x h
  · exact tile 256 0 (by omega) (by omega) (fun a d => A.proj a (off 512 512 (by omega) d))
      (fun a d => (proj512 (A := A.group 256 (by omega)) B.h80 (o := 512) (ho := by omega) (B.w_at 512 (by omega) _) a d).trans (by rw [off_zero]; rfl)) y x (by omega) (by omega)
  · exact tile 0 0 (by omega) (by omega) (fun a d => A.proj a (off 512 512 (by omega) d))
      (fun a d => (proj512 (A := A.group 0 (by omega)) B.h71 (o := 512) (ho := by omega) (B.w_at 512 (by omega) _) a d).trans (by rw [off_zero]; rfl)) y x (by omega) (by omega)

theorem out_zf (y : S512x512.Idx) : out0_12 (F := Ideal) x0 x1 x2 x3 x4 x5 x6 x7 x8 x9 y = A.proj (y 0) (off 1024 512 (by omega) (y 1)) := by
  unfold out0_12
  canon_tiles x h
  · exact tile 256 0 (by omega) (by omega) (fun a d => A.proj a (off 1024 512 (by omega) d))
      (fun a d => (proj512 (A := A.group 256 (by omega)) B.h80 (o := 1024) (ho := by omega) (B.w_at 1024 (by omega) _) a d).trans (by rw [off_zero]; rfl)) y x (by omega) (by omega)
  · exact tile 0 0 (by omega) (by omega) (fun a d => A.proj a (off 1024 512 (by omega) d))
      (fun a d => (proj512 (A := A.group 0 (by omega)) B.h71 (o := 1024) (ho := by omega) (B.w_at 1024 (by omega) _) a d).trans (by rw [off_zero]; rfl)) y x (by omega) (by omega)

theorem out_zb (y : S512x512.Idx) : out0_13 (F := Ideal) x0 x1 x2 x3 x4 x5 x6 x7 x8 x9 y = A.proj (y 0) (off 1536 512 (by omega) (y 1)) := by
  unfold out0_13
  canon_tiles x h
  · exact tile 256 0 (by omega) (by omega) (fun a d => A.proj a (off 1536 512 (by omega) d))
      (fun a d => (proj512 (A := A.group 256 (by omega)) B.h80 (o := 1536) (ho := by omega) (B.w_at 1536 (by omega) _) a d).trans (by rw [off_zero]; rfl)) y x (by omega) (by omega)
  · exact tile 0 0 (by omega) (by omega) (fun a d => A.proj a (off 1536 512 (by omega) d))
      (fun a d => (proj512 (A := A.group 0 (by omega)) B.h71 (o := 1536) (ho := by omega) (B.w_at 1536 (by omega) _) a d).trans (by rw [off_zero]; rfl)) y x (by omega) (by omega)

theorem out_hg (y : S512x512.Idx) : out0_14 (F := Ideal) x0 x1 x2 x3 x4 x5 x6 x7 x8 x9 y = A.proj (y 0) (off 2048 512 (by omega) (y 1)) := by
  unfold out0_14
  canon_tiles x h
  · exact tile 256 0 (by omega) (by omega) (fun a d => A.proj a (off 2048 512 (by omega) d))
      (fun a d => (proj512 (A := A.group 256 (by omega)) B.h80 (o := 2048) (ho := by omega) (B.w_at 2048 (by omega) _) a d).trans (by rw [off_zero]; rfl)) y x (by omega) (by omega)
  · exact tile 0 0 (by omega) (by omega) (fun a d => A.proj a (off 2048 512 (by omega) d))
      (fun a d => (proj512 (A := A.group 0 (by omega)) B.h71 (o := 2048) (ho := by omega) (B.w_at 2048 (by omega) _) a d).trans (by rw [off_zero]; rfl)) y x (by omega) (by omega)

theorem out_cq (y : S512x384.Idx) : out0_15 (F := Ideal) x0 x1 x2 x3 x4 x5 x6 x7 x8 x9 y = A.cq (y 0) (y 1) := by
  unfold out0_15
  canon_tiles x h
  · exact tile 256 0 (by omega) (by omega) A.cq (fun a d => (proj384 (A := A.group 256 (by omega)) B.h80 (o := 2560) (ho := by omega) (B.w_at 2560 (by omega) _) a d).trans (by rw [off_zero]; rfl)) y x (by omega) (by omega)
  · exact tile 0 0 (by omega) (by omega) A.cq (fun a d => (proj384 (A := A.group 0 (by omega)) B.h71 (o := 2560) (ho := by omega) (B.w_at 2560 (by omega) _) a d).trans (by rw [off_zero]; rfl)) y x (by omega) (by omega)

theorem out_ckv (y : S512x256.Idx) : out0_16 (F := Ideal) x0 x1 x2 x3 x4 x5 x6 x7 x8 x9 y = A.ckv (y 0) (y 1) := by
  unfold out0_16
  canon_tiles x h
  · exact tile 256 0 (by omega) (by omega) A.ckv (fun a d => (proj256 (A := A.group 256 (by omega)) B.h80 (o := 2944) (ho := by omega) (B.w_at 2944 (by omega) _) a d).trans (by rw [off_zero]; rfl)) y x (by omega) (by omega)
  · exact tile 0 0 (by omega) (by omega) A.ckv (fun a d => (proj256 (A := A.group 0 (by omega)) B.h71 (o := 2944) (ho := by omega) (B.w_at 2944 (by omega) _) a d).trans (by rw [off_zero]; rfl)) y x (by omega) (by omega)

theorem out_q (y : S512x1024.Idx) : out0_17 (F := Ideal) x0 x1 x2 x3 x4 x5 x6 x7 x8 x9 y = A.q (y 0) (y 1) := by
  unfold out0_17
  canon_tiles x h
  · exact tile 256 896 (by omega) (by omega) A.q (fun a d => (turned_at (A := (A.group 256 (by omega))) B.t81 B.q84 (o := 896) (ho := by omega) (B.wq_at 896 (by omega) _) a d).trans (A.q_right _ 896 rfl (by omega) d).symm) y x (by omega) (by omega)
  · exact tile 256 768 (by omega) (by omega) A.q (fun a d => (head_at (A := (A.group 256 (by omega))) B.q84 (o := 768) (ho := by omega) (B.wq_at 768 (by omega) _) a d).trans (A.q_left _ 768 rfl (by omega) d).symm) y x (by omega) (by omega)
  · exact tile 256 640 (by omega) (by omega) A.q (fun a d => (turned_at (A := (A.group 256 (by omega))) B.t81 B.q84 (o := 640) (ho := by omega) (B.wq_at 640 (by omega) _) a d).trans (A.q_right _ 640 rfl (by omega) d).symm) y x (by omega) (by omega)
  · exact tile 256 512 (by omega) (by omega) A.q (fun a d => (head_at (A := (A.group 256 (by omega))) B.q84 (o := 512) (ho := by omega) (B.wq_at 512 (by omega) _) a d).trans (A.q_left _ 512 rfl (by omega) d).symm) y x (by omega) (by omega)
  · exact tile 256 384 (by omega) (by omega) A.q (fun a d => (turned_at (A := (A.group 256 (by omega))) B.t81 B.q84 (o := 384) (ho := by omega) (B.wq_at 384 (by omega) _) a d).trans (A.q_right _ 384 rfl (by omega) d).symm) y x (by omega) (by omega)
  · exact tile 256 256 (by omega) (by omega) A.q (fun a d => (head_at (A := (A.group 256 (by omega))) B.q84 (o := 256) (ho := by omega) (B.wq_at 256 (by omega) _) a d).trans (A.q_left _ 256 rfl (by omega) d).symm) y x (by omega) (by omega)
  · exact tile 256 128 (by omega) (by omega) A.q (fun a d => (turned_at (A := (A.group 256 (by omega))) B.t81 B.q84 (o := 128) (ho := by omega) (B.wq_at 128 (by omega) _) a d).trans (A.q_right _ 128 rfl (by omega) d).symm) y x (by omega) (by omega)
  · exact tile 256 0 (by omega) (by omega) A.q (fun a d => (head_at (A := (A.group 256 (by omega))) B.q84 (o := 0) (ho := by omega) (B.wq_at 0 (by omega) _) a d).trans (A.q_left _ 0 rfl (by omega) d).symm) y x (by omega) (by omega)
  · exact tile 0 896 (by omega) (by omega) A.q (fun a d => (turned_at (A := (A.group 0 (by omega))) B.t72 B.q77 (o := 896) (ho := by omega) (B.wq_at 896 (by omega) _) a d).trans (A.q_right _ 896 rfl (by omega) d).symm) y x (by omega) (by omega)
  · exact tile 0 768 (by omega) (by omega) A.q (fun a d => (head_at (A := (A.group 0 (by omega))) B.q77 (o := 768) (ho := by omega) (B.wq_at 768 (by omega) _) a d).trans (A.q_left _ 768 rfl (by omega) d).symm) y x (by omega) (by omega)
  · exact tile 0 640 (by omega) (by omega) A.q (fun a d => (turned_at (A := (A.group 0 (by omega))) B.t72 B.q77 (o := 640) (ho := by omega) (B.wq_at 640 (by omega) _) a d).trans (A.q_right _ 640 rfl (by omega) d).symm) y x (by omega) (by omega)
  · exact tile 0 512 (by omega) (by omega) A.q (fun a d => (head_at (A := (A.group 0 (by omega))) B.q77 (o := 512) (ho := by omega) (B.wq_at 512 (by omega) _) a d).trans (A.q_left _ 512 rfl (by omega) d).symm) y x (by omega) (by omega)
  · exact tile 0 384 (by omega) (by omega) A.q (fun a d => (turned_at (A := (A.group 0 (by omega))) B.t72 B.q77 (o := 384) (ho := by omega) (B.wq_at 384 (by omega) _) a d).trans (A.q_right _ 384 rfl (by omega) d).symm) y x (by omega) (by omega)
  · exact tile 0 256 (by omega) (by omega) A.q (fun a d => (head_at (A := (A.group 0 (by omega))) B.q77 (o := 256) (ho := by omega) (B.wq_at 256 (by omega) _) a d).trans (A.q_left _ 256 rfl (by omega) d).symm) y x (by omega) (by omega)
  · exact tile 0 128 (by omega) (by omega) A.q (fun a d => (turned_at (A := (A.group 0 (by omega))) B.t72 B.q77 (o := 128) (ho := by omega) (B.wq_at 128 (by omega) _) a d).trans (A.q_right _ 128 rfl (by omega) d).symm) y x (by omega) (by omega)
  · exact tile 0 0 (by omega) (by omega) A.q (fun a d => (head_at (A := (A.group 0 (by omega))) B.q77 (o := 0) (ho := by omega) (B.wq_at 0 (by omega) _) a d).trans (A.q_left _ 0 rfl (by omega) d).symm) y x (by omega) (by omega)

theorem out_k (y : S512x1024.Idx) : out0_18 (F := Ideal) x0 x1 x2 x3 x4 x5 x6 x7 x8 x9 y = A.k (y 0) (y 1) := by
  unfold out0_18
  canon_tiles x h
  · exact tile 256 896 (by omega) (by omega) A.k (fun a d => (B.r86 a d).trans (A.k_right _ 896 rfl (by omega) d).symm) y x (by omega) (by omega)
  · exact tile 256 768 (by omega) (by omega) A.k (fun a d => (kv_at (A := (A.group 256 (by omega))) B.k85 (o := 768) (ho := by omega) (B.wkv_at 768 (by omega) _) a d).trans (A.k_left _ 768 rfl (by omega) d).symm) y x (by omega) (by omega)
  · exact tile 256 640 (by omega) (by omega) A.k (fun a d => (B.r86 a d).trans (A.k_right _ 640 rfl (by omega) d).symm) y x (by omega) (by omega)
  · exact tile 256 512 (by omega) (by omega) A.k (fun a d => (kv_at (A := (A.group 256 (by omega))) B.k85 (o := 512) (ho := by omega) (B.wkv_at 512 (by omega) _) a d).trans (A.k_left _ 512 rfl (by omega) d).symm) y x (by omega) (by omega)
  · exact tile 256 384 (by omega) (by omega) A.k (fun a d => (B.r86 a d).trans (A.k_right _ 384 rfl (by omega) d).symm) y x (by omega) (by omega)
  · exact tile 256 256 (by omega) (by omega) A.k (fun a d => (kv_at (A := (A.group 256 (by omega))) B.k85 (o := 256) (ho := by omega) (B.wkv_at 256 (by omega) _) a d).trans (A.k_left _ 256 rfl (by omega) d).symm) y x (by omega) (by omega)
  · exact tile 256 128 (by omega) (by omega) A.k (fun a d => (B.r86 a d).trans (A.k_right _ 128 rfl (by omega) d).symm) y x (by omega) (by omega)
  · exact tile 256 0 (by omega) (by omega) A.k (fun a d => (kv_at (A := (A.group 256 (by omega))) B.k85 (o := 0) (ho := by omega) (B.wkv_at 0 (by omega) _) a d).trans (A.k_left _ 0 rfl (by omega) d).symm) y x (by omega) (by omega)
  · exact tile 0 896 (by omega) (by omega) A.k (fun a d => (B.r79 a d).trans (A.k_right _ 896 rfl (by omega) d).symm) y x (by omega) (by omega)
  · exact tile 0 768 (by omega) (by omega) A.k (fun a d => (kv_at (A := (A.group 0 (by omega))) B.k78 (o := 768) (ho := by omega) (B.wkv_at 768 (by omega) _) a d).trans (A.k_left _ 768 rfl (by omega) d).symm) y x (by omega) (by omega)
  · exact tile 0 640 (by omega) (by omega) A.k (fun a d => (B.r79 a d).trans (A.k_right _ 640 rfl (by omega) d).symm) y x (by omega) (by omega)
  · exact tile 0 512 (by omega) (by omega) A.k (fun a d => (kv_at (A := (A.group 0 (by omega))) B.k78 (o := 512) (ho := by omega) (B.wkv_at 512 (by omega) _) a d).trans (A.k_left _ 512 rfl (by omega) d).symm) y x (by omega) (by omega)
  · exact tile 0 384 (by omega) (by omega) A.k (fun a d => (B.r79 a d).trans (A.k_right _ 384 rfl (by omega) d).symm) y x (by omega) (by omega)
  · exact tile 0 256 (by omega) (by omega) A.k (fun a d => (kv_at (A := (A.group 0 (by omega))) B.k78 (o := 256) (ho := by omega) (B.wkv_at 256 (by omega) _) a d).trans (A.k_left _ 256 rfl (by omega) d).symm) y x (by omega) (by omega)
  · exact tile 0 128 (by omega) (by omega) A.k (fun a d => (B.r79 a d).trans (A.k_right _ 128 rfl (by omega) d).symm) y x (by omega) (by omega)
  · exact tile 0 0 (by omega) (by omega) A.k (fun a d => (kv_at (A := (A.group 0 (by omega))) B.k78 (o := 0) (ho := by omega) (B.wkv_at 0 (by omega) _) a d).trans (A.k_left _ 0 rfl (by omega) d).symm) y x (by omega) (by omega)

theorem out_v (y : S512x512.Idx) : out0_19 (F := Ideal) x0 x1 x2 x3 x4 x5 x6 x7 x8 x9 y = A.v (y 0) (y 1) := by
  unfold out0_19
  canon_tiles x h
  · exact tile 256 384 (by omega) (by omega) A.v (fun a d => (kv_at (A := (A.group 256 (by omega))) B.k85 (o := 896) (ho := by omega) (B.wkv_at 896 (by omega) _) a d).trans (A.v_at _ 384 896 rfl rfl (by omega) (by omega) d).symm) y x (by omega) (by omega)
  · exact tile 256 256 (by omega) (by omega) A.v (fun a d => (kv_at (A := (A.group 256 (by omega))) B.k85 (o := 640) (ho := by omega) (B.wkv_at 640 (by omega) _) a d).trans (A.v_at _ 256 640 rfl rfl (by omega) (by omega) d).symm) y x (by omega) (by omega)
  · exact tile 256 128 (by omega) (by omega) A.v (fun a d => (kv_at (A := (A.group 256 (by omega))) B.k85 (o := 384) (ho := by omega) (B.wkv_at 384 (by omega) _) a d).trans (A.v_at _ 128 384 rfl rfl (by omega) (by omega) d).symm) y x (by omega) (by omega)
  · exact tile 256 0 (by omega) (by omega) A.v (fun a d => (kv_at (A := (A.group 256 (by omega))) B.k85 (o := 128) (ho := by omega) (B.wkv_at 128 (by omega) _) a d).trans (A.v_at _ 0 128 rfl rfl (by omega) (by omega) d).symm) y x (by omega) (by omega)
  · exact tile 0 384 (by omega) (by omega) A.v (fun a d => (kv_at (A := (A.group 0 (by omega))) B.k78 (o := 896) (ho := by omega) (B.wkv_at 896 (by omega) _) a d).trans (A.v_at _ 384 896 rfl rfl (by omega) (by omega) d).symm) y x (by omega) (by omega)
  · exact tile 0 256 (by omega) (by omega) A.v (fun a d => (kv_at (A := (A.group 0 (by omega))) B.k78 (o := 640) (ho := by omega) (B.wkv_at 640 (by omega) _) a d).trans (A.v_at _ 256 640 rfl rfl (by omega) (by omega) d).symm) y x (by omega) (by omega)
  · exact tile 0 128 (by omega) (by omega) A.v (fun a d => (kv_at (A := (A.group 0 (by omega))) B.k78 (o := 384) (ho := by omega) (B.wkv_at 384 (by omega) _) a d).trans (A.v_at _ 128 384 rfl rfl (by omega) (by omega) d).symm) y x (by omega) (by omega)
  · exact tile 0 0 (by omega) (by omega) A.v (fun a d => (kv_at (A := (A.group 0 (by omega))) B.k78 (o := 128) (ho := by omega) (B.wkv_at 128 (by omega) _) a d).trans (A.v_at _ 0 128 rfl rfl (by omega) (by omega) d).symm) y x (by omega) (by omega)

end Blocks

end Cert.InProj
-- ==== Proof.InProjTab.lean ====
/-
  The three tables of the rotation that the host builds before the kernel.
-/
module

public import proofs.«01_k».proof.Proof.InProj
public import proofs.«01_k».proof.Proof.Gen.Kernel10Ideal.Frame
public import Idealize.ShloMosaic.Lib.StableHlo.Run
public import Idealize.ShloMosaic.Lib.Pointwise
public import Idealize.ShloMosaic.Lib.Tactic.CleanTypes

@[expose] public section

set_option maxRecDepth 16384

noncomputable section

namespace Cert.InProj

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

theorem table_cos (p : Fin 4096) (k : Fin 128) : V m c main_v21 (ix2 p k) = cosTable (cosAt p) k := by
  unfold_abbrev_sides
  after_results
  pointwise
  after_results_simp
  pointwise
  unfold cosTable
  have big : ¬k.val < 32 → (k.val - 32 < 32 ↔ k.val < 64) := fun h => by omega
  by_cases h : k.val < 32
  · simp only [dif_pos h, if_pos h]
    try rfl
  · by_cases h' : k.val < 64
    · simp only [dif_neg h, if_neg h, dif_pos h', dif_pos ((big h).mpr h'), if_pos h', if_pos ((big h).mpr h')]
      try rfl
    · simp only [dif_neg h, if_neg h, dif_neg h', dif_neg (mt (big h).mp h'), if_neg h', if_neg (mt (big h).mp h')]
      try rfl

theorem table_neg (p : Fin 4096) (k : Fin 128) : V m c main_v23 (ix2 p k) = negSinTable (sinAt p) k := by
  unfold_abbrev_sides
  after_results
  pointwise
  after_results_simp
  pointwise
  unfold negSinTable
  have big : ¬k.val < 32 → (k.val - 32 < 32 ↔ k.val < 64) := fun h => by omega
  by_cases h : k.val < 32
  · simp only [dif_pos h, if_pos h]
    try rfl
  · by_cases h' : k.val < 64
    · simp only [dif_neg h, if_neg h, dif_pos h', dif_pos ((big h).mpr h'), if_pos h', if_pos ((big h).mpr h')]
      try rfl
    · simp only [dif_neg h, if_neg h, dif_neg h', dif_neg (mt (big h).mp h'), if_neg h', if_neg (mt (big h).mp h')]
      try rfl

theorem table_sin (p : Fin 4096) (k : Fin 128) : V m c main_v24 (ix2 p k) = sinTable (sinAt p) k := by
  unfold_abbrev_sides
  after_results
  pointwise
  after_results_simp
  pointwise
  unfold sinTable
  have big : ¬k.val < 32 → (k.val - 32 < 32 ↔ k.val < 64) := fun h => by omega
  by_cases h : k.val < 32
  · simp only [dif_pos h, if_pos h]
    try rfl
  · by_cases h' : k.val < 64
    · simp only [dif_neg h, if_neg h, dif_pos h', dif_pos ((big h).mpr h'), if_pos h', if_pos ((big h).mpr h')]
      try rfl
    · simp only [dif_neg h, if_neg h, dif_neg h', dif_neg (mt (big h).mp h'), if_neg h', if_neg (mt (big h).mp h')]
      try rfl

end Cert.InProj
-- ==== Proof.InProjRef.lean ====
/-
  The reference of the input side, index by index.
-/
module

public import proofs.«01_k».proof.Proof.InProj
public import proofs.«01_k».proof.Proof.PostRef
public import proofs.«01_k».proof.Proof.Gen.Reference10Ideal.Read
public import Idealize.ShloMosaic.Lib.KernelVsHost
public import Idealize.ShloMosaic.Lib.Pointwise

@[expose] public section

set_option maxRecDepth 16384

noncomputable section

namespace Cert.InProj.Ref

open Idealize.ShloMosaic Idealize.ShloMosaic.TcCoe Idealize.SL.Sem
open Cert.Post.Ref (same2 same3 zero_lit one_lit)
open Cert.Reference10Ideal Cert.Reference10Ideal.Read

theorem same4 {s : Fin 4 → ℕ} {x y : (⟨4, s⟩ : Shape).Idx} (h0 : x 0 = y 0) (h1 : x 1 = y 1) (h2 : x 2 = y 2) (h3 : x 3 = y 3) : x = y := by
  funext a
  match a with
  | ⟨0, _⟩ => exact h0
  | ⟨1, _⟩ => exact h1
  | ⟨2, _⟩ => exact h2
  | ⟨3, _⟩ => exact h3

variable (x0 : FVec Ideal S8192x1024 .f32) (x1 : FVec Ideal S1x1024 .f32) (x2 : FVec Ideal S3328x1024 .bf16) (x3 : FVec Ideal S1x384 .f32) (x4 : FVec Ideal S1x256 .f32)
  (x5 : FVec Ideal S1024x384 .bf16) (x6 : FVec Ideal S256x1024 .bf16)

/-- The arguments' entries; row `r` is at position `r` of its sequence of 4096. -/
def args : Rows 8192 where
  x r k := x0 (ix2 r k)
  cos r := cosAt ⟨r.val % 4096, by omega⟩
  sin r := sinAt ⟨r.val % 4096, by omega⟩
  g1 k := x1 (ix2 0 k)
  w j k := x2 (ix2 j k)
  gq j := x3 (ix2 0 j)
  gk j := x4 (ix2 0 j)
  wq j k := x5 (ix2 j k)
  wkv j d := x6 (ix2 j d)

theorem v19 (p : Fin 4096) (f : Fin 32) : val_main_v19 (F := Ideal) (ix2 p f) = angle p f := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3]
  rfl

theorem v20 (p : Fin 4096) (f : Fin 32) : val_main_v20 (F := Ideal) (ix2 p f) = cosAt p f := by
  rw [val_main_v20_apply, v19]
  rfl

theorem v21 (p : Fin 4096) (f : Fin 32) : val_main_v21 (F := Ideal) (ix2 p f) = sinAt p f := by
  rw [val_main_v21_apply, v19]
  rfl

variable {x0 x1 x2 x3 x4 x5 x6}
variable {A : Rows 8192} (hA : A = args x0 x1 x2 x3 x4 x5 x6) (r : Fin 8192)
include hA

/-! ## The projections -/

theorem h_at (k : Fin 1024) : val_main_v33 (F := Ideal) x0 x1 (ix2 r k) = A.h r k := by
  subst hA
  have e : ∀ k, idx_main_v23 (idx_main_v24 (idx_main_v30 (ix2 r k))) = fun j => ix2 r j := fun k => funext fun j => same2 rfl rfl
  have e' : ∀ k j, idx_main_v23 (idx_main_v24 (idx_main_v30 (ix2 r k))) j = ix2 r j := fun k j => congrFun (e k) j
  have g : ∀ k, idx_main_v32 (ix2 r k) = ix2 0 k := fun k => same2 rfl rfl
  simp only [val_main_v33_apply, val_main_v32_apply, val_main_v31_apply, val_main_v30_apply, val_main_v29_apply, val_main_v28_apply, val_main_v27_apply, val_main_v26_apply, val_main_v25_apply, val_main_v24_apply, val_main_v23_apply, val_main_v22_apply, val_main_cst_4_apply, val_main_cst_5_apply, val_main_cst_6_apply, e', g, zero_lit, zero_add]
  rfl

theorem proj_at (j : Fin 3264) : val_main_v36 (F := Ideal) x0 x1 x2 (ix2 r j) = A.proj r ⟨j.val, by omega⟩ := by
  have el : ∀ k, lidx_main_v36 (ix2 r j) k = ix2 r k := fun k => same2 rfl rfl
  have er : ∀ k, idx_main_v34 (idx_main_v35 (ridx_main_v36 (ix2 r j) k)) = ix2 (⟨j.val, by omega⟩ : Fin 3328) k := fun k => same2 rfl rfl
  simp only [val_main_v36_apply, val_main_v35_apply, val_main_v34_apply, val_main_v0_apply, el, er, h_at hA]
  subst hA
  rfl

theorem hq_at (j : Fin 512) : val_main_v37 (F := Ideal) x0 x1 x2 (ix2 r j) = A.proj r (off 0 512 (by omega) j) := by
  have e : idx_main_v37 (ix2 r j) = ix2 r (⟨j.val, by omega⟩ : Fin 3264) := same2 rfl rfl
  rw [val_main_v37_apply, e, proj_at hA]
  exact congrArg (A.proj r) (Fin.ext (Nat.zero_add _).symm)

theorem hi_at (j : Fin 512) : val_main_v38 (F := Ideal) x0 x1 x2 (ix2 r j) = A.proj r (off 512 512 (by omega) j) := by
  have e : idx_main_v38 (ix2 r j) = ix2 r (⟨512 + j.val, by omega⟩ : Fin 3264) := same2 rfl rfl
  rw [val_main_v38_apply, e, proj_at hA]
  rfl

theorem zf_at (j : Fin 512) : val_main_v39 (F := Ideal) x0 x1 x2 (ix2 r j) = A.proj r (off 1024 512 (by omega) j) := by
  have e : idx_main_v39 (ix2 r j) = ix2 r (⟨1024 + j.val, by omega⟩ : Fin 3264) := same2 rfl rfl
  rw [val_main_v39_apply, e, proj_at hA]
  rfl

theorem zb_at (j : Fin 512) : val_main_v40 (F := Ideal) x0 x1 x2 (ix2 r j) = A.proj r (off 1536 512 (by omega) j) := by
  have e : idx_main_v40 (ix2 r j) = ix2 r (⟨1536 + j.val, by omega⟩ : Fin 3264) := same2 rfl rfl
  rw [val_main_v40_apply, e, proj_at hA]
  rfl

theorem hg_at (j : Fin 512) : val_main_v41 (F := Ideal) x0 x1 x2 (ix2 r j) = A.proj r (off 2048 512 (by omega) j) := by
  have e : idx_main_v41 (ix2 r j) = ix2 r (⟨2048 + j.val, by omega⟩ : Fin 3264) := same2 rfl rfl
  rw [val_main_v41_apply, e, proj_at hA]
  rfl

theorem cq_at (j : Fin 384) : val_main_v42 (F := Ideal) x0 x1 x2 (ix2 r j) = A.cq r j := by
  have e : idx_main_v42 (ix2 r j) = ix2 r (⟨2560 + j.val, by omega⟩ : Fin 3264) := same2 rfl rfl
  rw [val_main_v42_apply, e, proj_at hA]
  rfl

theorem ckv_at (j : Fin 256) : val_main_v43 (F := Ideal) x0 x1 x2 (ix2 r j) = A.ckv r j := by
  have e : idx_main_v43 (ix2 r j) = ix2 r (⟨2944 + j.val, by omega⟩ : Fin 3264) := same2 rfl rfl
  rw [val_main_v43_apply, e, proj_at hA]
  rfl

theorem kr_at (j : Fin 64) : val_main_v44 (F := Ideal) x0 x1 x2 (ix2 r j) = A.proj r (off 3200 128 (by omega) ⟨j.val, by omega⟩) := by
  have e : idx_main_v44 (ix2 r j) = ix2 r (⟨3200 + j.val, by omega⟩ : Fin 3264) := same2 rfl rfl
  rw [val_main_v44_apply, e, proj_at hA]
  rfl

/-! ## The latent rows -/

theorem qn_at (k : Fin 384) : val_main_v60 (F := Ideal) x0 x1 x2 x3 (ix2 r k) = A.qn r k := by
  have e : ∀ j, idx_main_v50 (idx_main_v51 (idx_main_v57 (ix2 r k))) j = ix2 r j := fun j => same2 rfl rfl
  have g : idx_main_v59 (ix2 r k) = ix2 0 k := same2 rfl rfl
  simp only [val_main_v60_apply, val_main_v59_apply, val_main_v58_apply, val_main_v57_apply, val_main_v56_apply, val_main_v55_apply, val_main_v54_apply, val_main_v53_apply, val_main_v52_apply, val_main_v51_apply, val_main_v50_apply, val_main_v49_apply, val_main_cst_7_apply, val_main_cst_8_apply, val_main_cst_9_apply, e, g, zero_lit, zero_add, cq_at hA]
  subst hA
  rfl

theorem kn_at (k : Fin 256) : val_main_v74 (F := Ideal) x0 x1 x2 x4 (ix2 r k) = A.kn r k := by
  have e : ∀ j, idx_main_v64 (idx_main_v65 (idx_main_v71 (ix2 r k))) j = ix2 r j := fun j => same2 rfl rfl
  have g : idx_main_v73 (ix2 r k) = ix2 0 k := same2 rfl rfl
  simp only [val_main_v74_apply, val_main_v73_apply, val_main_v72_apply, val_main_v71_apply, val_main_v70_apply, val_main_v69_apply, val_main_v68_apply, val_main_v67_apply, val_main_v66_apply, val_main_v65_apply, val_main_v64_apply, val_main_v63_apply, val_main_cst_10_apply, val_main_cst_11_apply, val_main_cst_12_apply, e, g, zero_lit, zero_add, ckv_at hA]
  subst hA
  rfl

theorem wq_at (k : Fin 384) (j : Fin 768) : val_main_v48 (F := Ideal) x5 (ix2 k j) = A.wq ⟨j.val / 192 * 256 + j.val % 192, by omega⟩ k := by
  have e : idx_main_v45 (idx_main_v46 (idx_main_v47 (idx_main_v48 (ix2 k j)))) = ix2 (⟨j.val / 192 * 256 + j.val % 192, by omega⟩ : Fin 1024) k := by
    have hj := j.isLt
    have hk := k.isLt
    refine same2 (Fin.ext ?_) (Fin.ext ?_)
    · show ((((j.val * 384 + k.val) / 73728) * 256 + ((j.val * 384 + k.val) / 384 % 192)) * 384 + (j.val * 384 + k.val) % 384) / 384 = j.val / 192 * 256 + j.val % 192
      omega
    · show ((((j.val * 384 + k.val) / 73728) * 256 + ((j.val * 384 + k.val) / 384 % 192)) * 384 + (j.val * 384 + k.val) % 384) % 384 = k.val
      omega
  rw [val_main_v48_apply, val_main_v47_apply, val_main_v46_apply, val_main_v45_apply, val_main_v1_apply, e]
  subst hA
  rfl

theorem qraw_at (j : Fin 768) : val_main_v61 (F := Ideal) x0 x1 x2 x3 x5 (ix2 r j) = A.qraw r ⟨j.val / 192 * 256 + j.val % 192, by omega⟩ := by
  have el : ∀ k, lidx_main_v61 (ix2 r j) k = ix2 r k := fun k => same2 rfl rfl
  have er : ∀ k, ridx_main_v61 (ix2 r j) k = ix2 k j := fun k => same2 rfl rfl
  simp only [val_main_v61_apply, el, er, qn_at hA, wq_at hA]
  rfl

theorem kv_at (j : Fin 1024) : val_main_v75 (F := Ideal) x0 x1 x2 x4 x6 (ix2 r j) = A.kv r j := by
  have el : ∀ k, lidx_main_v75 (ix2 r j) k = ix2 r k := fun k => same2 rfl rfl
  have er : ∀ k, ridx_main_v75 (ix2 r j) k = ix2 k j := fun k => same2 rfl rfl
  simp only [val_main_v75_apply, val_main_v2_apply, el, er, kn_at hA]
  subst hA
  rfl

/-! ## Sequences, positions and heads -/

omit hA

/-- The row of position `s` in sequence `b`. -/
def tok (b : Fin 2) (s : Fin 4096) : Fin 8192 := ⟨b.val * 4096 + s.val, by omega⟩

include hA

variable (b : Fin 2) (s : Fin 4096) (n : Fin 4)

theorem cos_at : A.cos (tok b s) = cosAt s := by
  subst hA
  exact congrArg cosAt (Fin.ext (show (b.val * 4096 + s.val) % 4096 = s.val by omega))

theorem sin_at : A.sin (tok b s) = sinAt s := by
  subst hA
  exact congrArg sinAt (Fin.ext (show (b.val * 4096 + s.val) % 4096 = s.val by omega))

theorem qhead_at (d : Fin 192) : val_main_v62 (F := Ideal) x0 x1 x2 x3 x5 (ix4 b s n d) = A.qraw (tok b s) ⟨n.val * 256 + d.val, by omega⟩ := by
  have hb := b.isLt
  have hs := s.isLt
  have hn := n.isLt
  have hd := d.isLt
  have e : idx_main_v62 (ix4 b s n d) = ix2 (tok b s) (⟨n.val * 192 + d.val, by omega⟩ : Fin 768) := by
    refine same2 (Fin.ext ?_) (Fin.ext ?_)
    · show (((b.val * 4096 + s.val) * 4 + n.val) * 192 + d.val) / 768 = b.val * 4096 + s.val
      omega
    · show (((b.val * 4096 + s.val) * 4 + n.val) * 192 + d.val) % 768 = n.val * 192 + d.val
      omega
  rw [val_main_v62_apply, e, qraw_at hA]
  exact congrArg (A.qraw _) (Fin.ext (show (n.val * 192 + d.val) / 192 * 256 + (n.val * 192 + d.val) % 192 = n.val * 256 + d.val by omega))

theorem kvhead_at (d : Fin 256) : val_main_v76 (F := Ideal) x0 x1 x2 x4 x6 (ix4 b s n d) = A.kv (tok b s) ⟨n.val * 256 + d.val, by omega⟩ := by
  have hb := b.isLt
  have hs := s.isLt
  have hn := n.isLt
  have hd := d.isLt
  have e : idx_main_v76 (ix4 b s n d) = ix2 (tok b s) (⟨n.val * 256 + d.val, by omega⟩ : Fin 1024) := by
    refine same2 (Fin.ext ?_) (Fin.ext ?_)
    · show (((b.val * 4096 + s.val) * 4 + n.val) * 256 + d.val) / 1024 = b.val * 4096 + s.val
      omega
    · show (((b.val * 4096 + s.val) * 4 + n.val) * 256 + d.val) % 1024 = n.val * 256 + d.val
      omega
  rw [val_main_v76_apply, e, kv_at hA]

/-! ## The queries -/

/-- A head's second half before rotation. -/
def second (A : Rows 8192) (r : Fin 8192) (n : Fin 4) (c : Fin 128) : EReal := A.qraw r (off (n.val * 256 + 128) 128 (by omega) c)

theorem qfront_at (f : Fin 32) : val_main_v81 (F := Ideal) x0 x1 x2 x3 x5 (ix4 b s n f) = second A (tok b s) n ⟨f.val, by omega⟩ := by
  have e : idx_main_v78 (idx_main_v81 (ix4 b s n f)) = ix4 b s n (⟨128 + f.val, by omega⟩ : Fin 192) := same4 rfl rfl rfl rfl
  rw [val_main_v81_apply, val_main_v78_apply, e, qhead_at hA]
  exact congrArg (A.qraw _) (Fin.ext (show n.val * 256 + (128 + f.val) = n.val * 256 + 128 + f.val by omega))

theorem qback_at (f : Fin 32) : val_main_v82 (F := Ideal) x0 x1 x2 x3 x5 (ix4 b s n f) = second A (tok b s) n ⟨f.val + 32, by omega⟩ := by
  have e : idx_main_v78 (idx_main_v82 (ix4 b s n f)) = ix4 b s n (⟨128 + (32 + f.val), by omega⟩ : Fin 192) := same4 rfl rfl rfl rfl
  rw [val_main_v82_apply, val_main_v78_apply, e, qhead_at hA]
  exact congrArg (A.qraw _) (Fin.ext (show n.val * 256 + (128 + (32 + f.val)) = n.val * 256 + 128 + (f.val + 32) by omega))

theorem turned_front (f : Fin 32) : val_main_v89 (F := Ideal) x0 x1 x2 x3 x5 (ix4 b s n f) = second A (tok b s) n ⟨f.val, by omega⟩ * A.cos (tok b s) f - second A (tok b s) n ⟨f.val + 32, by omega⟩ * A.sin (tok b s) f := by
  have ec : idx_main_v79 (idx_main_v83 (idx_main_v84 (ix4 b s n f))) = ix2 s f := same2 rfl rfl
  have es : idx_main_v80 (idx_main_v86 (idx_main_v87 (ix4 b s n f))) = ix2 s f := same2 rfl rfl
  rw [cos_at hA, sin_at hA, ← qfront_at hA, ← qback_at hA, ← v20, ← v21]
  simp only [val_main_v89_apply, val_main_v88_apply, val_main_v87_apply, val_main_v86_apply, val_main_v80_apply, val_main_v85_apply, val_main_v84_apply, val_main_v83_apply, val_main_v79_apply, ec, es]
  rfl

theorem turned_back (f : Fin 32) : val_main_v96 (F := Ideal) x0 x1 x2 x3 x5 (ix4 b s n f) = second A (tok b s) n ⟨f.val, by omega⟩ * A.sin (tok b s) f + second A (tok b s) n ⟨f.val + 32, by omega⟩ * A.cos (tok b s) f := by
  have ec : idx_main_v79 (idx_main_v93 (idx_main_v94 (ix4 b s n f))) = ix2 s f := same2 rfl rfl
  have es : idx_main_v80 (idx_main_v90 (idx_main_v91 (ix4 b s n f))) = ix2 s f := same2 rfl rfl
  rw [cos_at hA, sin_at hA, ← qfront_at hA, ← qback_at hA, ← v20, ← v21]
  simp only [val_main_v96_apply, val_main_v95_apply, val_main_v94_apply, val_main_v93_apply, val_main_v80_apply, val_main_v92_apply, val_main_v91_apply, val_main_v90_apply, val_main_v79_apply, ec, es]
  rfl

theorem turned_at (c : Fin 64) : val_main_v97 (F := Ideal) x0 x1 x2 x3 x5 (ix4 b s n c) = rope (A.cos (tok b s)) (A.sin (tok b s)) (second A (tok b s) n) ⟨c.val, by omega⟩ := by
  have hc := c.isLt
  pointwise [val_main_v97]
  unfold rope
  by_cases h : c.val < 32
  · rw [dif_pos h, dif_pos h]
    exact turned_front hA b s n ⟨c.val, h⟩
  · rw [dif_neg h, dif_neg h, dif_pos (show c.val < 64 from hc)]
    refine (turned_back hA b s n ⟨c.val - 32, by omega⟩).trans ?_
    refine congrArg (fun z : EReal => _ + z) (congrArg (fun z : EReal => z * _) (congrArg (second A (tok b s) n) (Fin.ext ?_)))
    show c.val - 32 + 32 = c.val
    omega

theorem q_at (d : Fin 256) : val_main_v125 (F := Ideal) x0 x1 x2 x3 x5 (ix4 b s n d) = A.q (tok b s) ⟨n.val * 256 + d.val, by omega⟩ := by
  have hd := d.isLt
  have hn := n.isLt
  pointwise [val_main_v125]
  by_cases h : d.val < 128
  · rw [dif_pos h]
    have e : idx_main_v77 (ix4 b s n (⟨d.val, h⟩ : Fin 128)) = ix4 b s n (⟨d.val, by omega⟩ : Fin 192) := same4 rfl rfl rfl rfl
    refine Eq.trans ?_ (A.q_left (tok b s) (n.val * 256) (by omega) (by omega) ⟨d.val, h⟩).symm
    simp only [val_main_v122_apply, val_main_v121_apply, val_main_v77_apply, val_main_cst_14_apply, e, qhead_at hA]
    rfl
  · rw [dif_neg h]
    have e : (⟨n.val * 256 + d.val, by omega⟩ : Fin 1024) = off (n.val * 256 + 128) 128 (by omega) (⟨d.val - 128, by omega⟩ : Fin 128) :=
      Fin.ext (show n.val * 256 + d.val = n.val * 256 + 128 + (d.val - 128) by omega)
    rw [e, A.q_right (tok b s) (n.val * 256 + 128) (by omega) (by omega)]
    by_cases h' : d.val - 128 < 64
    · rw [dif_pos h']
      simp only [val_main_v124_apply, val_main_v123_apply, val_main_cst_15_apply]
      rw [turned_at hA]
      rfl
    · rw [dif_neg h']
      simp only [val_main_v120_apply, val_main_cst_13_apply]
      unfold rope
      rw [dif_neg (show ¬d.val - 128 < 32 by omega), dif_neg h', zero_mul]
      exact zero_lit

theorem q_out (j : Fin 1024) : val_main_v129 (F := Ideal) x0 x1 x2 x3 x5 (ix2 r j) = A.q r j := by
  have hr := r.isLt
  have hj := j.isLt
  have e : idx_main_v126 (ix2 r j) = ix4 (⟨r.val / 4096, by omega⟩ : Fin 2) (⟨r.val % 4096, by omega⟩ : Fin 4096) (⟨j.val / 256, by omega⟩ : Fin 4) (⟨j.val % 256, by omega⟩ : Fin 256) := by
    refine same4 (Fin.ext ?_) (Fin.ext ?_) (Fin.ext ?_) (Fin.ext ?_)
    · show (r.val * 1024 + j.val) / 4194304 = r.val / 4096
      omega
    · show (r.val * 1024 + j.val) / 1024 % 4096 = r.val % 4096
      omega
    · show (r.val * 1024 + j.val) / 256 % 4 = j.val / 256
      omega
    · show (r.val * 1024 + j.val) % 256 = j.val % 256
      omega
  rw [val_main_v129_apply, val_main_v126_apply, e]
  refine (q_at hA _ _ _ _).trans (congrArg₂ A.q (Fin.ext ?_) (Fin.ext ?_))
  · show r.val / 4096 * 4096 + r.val % 4096 = r.val
    omega
  · show j.val / 256 * 256 + j.val % 256 = j.val
    omega

/-! ## The keys -/

theorem kturned_front (f : Fin 32) : val_main_v109 (F := Ideal) x0 x1 x2 (ix3 b s f) = A.proj (tok b s) (off 3200 128 (by omega) ⟨f.val, by omega⟩) * A.cos (tok b s) f
    - A.proj (tok b s) (off 3200 128 (by omega) ⟨f.val + 32, by omega⟩) * A.sin (tok b s) f := by
  have hb := b.isLt
  have hs := s.isLt
  have hf := f.isLt
  have ec : idx_main_v103 (idx_main_v104 (ix3 b s f)) = ix2 s f := same2 rfl rfl
  have es : idx_main_v106 (idx_main_v107 (ix3 b s f)) = ix2 s f := same2 rfl rfl
  have e1 : idx_main_v100 (idx_main_v101 (ix3 b s f)) = ix2 (tok b s) (⟨f.val, by omega⟩ : Fin 64) := by
    refine same2 (Fin.ext ?_) (Fin.ext ?_)
    · show ((b.val * 4096 + s.val) * 64 + f.val) / 64 = b.val * 4096 + s.val
      omega
    · show ((b.val * 4096 + s.val) * 64 + f.val) % 64 = f.val
      omega
  have e2 : idx_main_v100 (idx_main_v102 (ix3 b s f)) = ix2 (tok b s) (⟨f.val + 32, by omega⟩ : Fin 64) := by
    refine same2 (Fin.ext ?_) (Fin.ext ?_)
    · show ((b.val * 4096 + s.val) * 64 + (32 + f.val)) / 64 = b.val * 4096 + s.val
      omega
    · show ((b.val * 4096 + s.val) * 64 + (32 + f.val)) % 64 = f.val + 32
      omega
  rw [cos_at hA, sin_at hA, ← v20, ← v21]
  simp only [val_main_v109_apply, val_main_v108_apply, val_main_v107_apply, val_main_v106_apply, val_main_v105_apply, val_main_v104_apply, val_main_v103_apply, val_main_v102_apply, val_main_v101_apply, val_main_v100_apply, ec, es, e1, e2, kr_at hA]
  rfl

theorem kturned_back (f : Fin 32) : val_main_v116 (F := Ideal) x0 x1 x2 (ix3 b s f) = A.proj (tok b s) (off 3200 128 (by omega) ⟨f.val, by omega⟩) * A.sin (tok b s) f
    + A.proj (tok b s) (off 3200 128 (by omega) ⟨f.val + 32, by omega⟩) * A.cos (tok b s) f := by
  have hb := b.isLt
  have hs := s.isLt
  have hf := f.isLt
  have es : idx_main_v110 (idx_main_v111 (ix3 b s f)) = ix2 s f := same2 rfl rfl
  have ec : idx_main_v113 (idx_main_v114 (ix3 b s f)) = ix2 s f := same2 rfl rfl
  have e1 : idx_main_v100 (idx_main_v101 (ix3 b s f)) = ix2 (tok b s) (⟨f.val, by omega⟩ : Fin 64) := by
    refine same2 (Fin.ext ?_) (Fin.ext ?_)
    · show ((b.val * 4096 + s.val) * 64 + f.val) / 64 = b.val * 4096 + s.val
      omega
    · show ((b.val * 4096 + s.val) * 64 + f.val) % 64 = f.val
      omega
  have e2 : idx_main_v100 (idx_main_v102 (ix3 b s f)) = ix2 (tok b s) (⟨f.val + 32, by omega⟩ : Fin 64) := by
    refine same2 (Fin.ext ?_) (Fin.ext ?_)
    · show ((b.val * 4096 + s.val) * 64 + (32 + f.val)) / 64 = b.val * 4096 + s.val
      omega
    · show ((b.val * 4096 + s.val) * 64 + (32 + f.val)) % 64 = f.val + 32
      omega
  rw [cos_at hA, sin_at hA, ← v20, ← v21]
  simp only [val_main_v116_apply, val_main_v115_apply, val_main_v114_apply, val_main_v113_apply, val_main_v112_apply, val_main_v111_apply, val_main_v110_apply, val_main_v102_apply, val_main_v101_apply, val_main_v100_apply, ec, es, e1, e2, kr_at hA]
  rfl

theorem kturned_at (c : Fin 64) : val_main_v117 (F := Ideal) x0 x1 x2 (ix3 b s c) = A.kr (tok b s) ⟨c.val, by omega⟩ := by
  have hc := c.isLt
  pointwise [val_main_v117]
  unfold Rows.kr rope
  by_cases h : c.val < 32
  · rw [dif_pos h, dif_pos h]
    exact kturned_front hA b s ⟨c.val, h⟩
  · rw [dif_neg h, dif_neg h, dif_pos (show c.val < 64 from hc)]
    refine (kturned_back hA b s ⟨c.val - 32, by omega⟩).trans ?_
    refine congrArg (fun z : EReal => _ + z) (congrArg (fun z : EReal => z * _) (congrArg (A.proj (tok b s)) (Fin.ext ?_)))
    show 3200 + (c.val - 32 + 32) = 3200 + c.val
    omega

theorem k_at (d : Fin 256) : val_main_v127 (F := Ideal) x0 x1 x2 x4 x6 (ix4 b s n d) = A.k (tok b s) ⟨n.val * 256 + d.val, by omega⟩ := by
  have hd := d.isLt
  have hn := n.isLt
  pointwise [val_main_v127]
  by_cases h : d.val < 128
  · rw [dif_pos h]
    have e : idx_main_v98 (ix4 b s n (⟨d.val, h⟩ : Fin 128)) = ix4 b s n d := same4 rfl rfl rfl rfl
    refine Eq.trans ?_ (A.k_left (tok b s) (n.val * 256) (by omega) (by omega) ⟨d.val, h⟩).symm
    simp only [val_main_v98_apply, e, kvhead_at hA]
    rfl
  · rw [dif_neg h]
    have e : (⟨n.val * 256 + d.val, by omega⟩ : Fin 1024) = off (n.val * 256 + 128) 128 (by omega) (⟨d.val - 128, by omega⟩ : Fin 128) :=
      Fin.ext (show n.val * 256 + d.val = n.val * 256 + 128 + (d.val - 128) by omega)
    rw [e, A.k_right (tok b s) (n.val * 256 + 128) (by omega) (by omega)]
    by_cases h' : d.val - 128 < 64
    · rw [dif_pos h']
      have e : idx_main_v118 (idx_main_v119 (ix4 b s n (⟨d.val - 128, h'⟩ : Fin 64))) = ix3 b s (⟨d.val - 128, h'⟩ : Fin 64) := same3 rfl rfl rfl
      simp only [val_main_v119_apply, val_main_v118_apply, e]
      exact kturned_at hA b s ⟨d.val - 128, h'⟩
    · rw [dif_neg h']
      simp only [val_main_v120_apply, val_main_cst_13_apply]
      unfold Rows.kr rope
      rw [dif_neg (show ¬d.val - 128 < 32 by omega), dif_neg h']
      exact zero_lit

theorem k_out (j : Fin 1024) : val_main_v130 (F := Ideal) x0 x1 x2 x4 x6 (ix2 r j) = A.k r j := by
  have hr := r.isLt
  have hj := j.isLt
  have e : idx_main_v128 (ix2 r j) = ix4 (⟨r.val / 4096, by omega⟩ : Fin 2) (⟨r.val % 4096, by omega⟩ : Fin 4096) (⟨j.val / 256, by omega⟩ : Fin 4) (⟨j.val % 256, by omega⟩ : Fin 256) := by
    refine same4 (Fin.ext ?_) (Fin.ext ?_) (Fin.ext ?_) (Fin.ext ?_)
    · show (r.val * 1024 + j.val) / 4194304 = r.val / 4096
      omega
    · show (r.val * 1024 + j.val) / 1024 % 4096 = r.val % 4096
      omega
    · show (r.val * 1024 + j.val) / 256 % 4 = j.val / 256
      omega
    · show (r.val * 1024 + j.val) % 256 = j.val % 256
      omega
  rw [val_main_v130_apply, val_main_v128_apply, e]
  refine (k_at hA _ _ _ _).trans (congrArg₂ A.k (Fin.ext ?_) (Fin.ext ?_))
  · show r.val / 4096 * 4096 + r.val % 4096 = r.val
    omega
  · show j.val / 256 * 256 + j.val % 256 = j.val
    omega

/-! ## The values -/

theorem v_out (j : Fin 512) : val_main_v132 (F := Ideal) x0 x1 x2 x4 x6 (ix2 r j) = A.v r j := by
  have hr := r.isLt
  have hj := j.isLt
  have e : idx_main_v99 (idx_main_v131 (ix2 r j)) = ix4 (⟨r.val / 4096, by omega⟩ : Fin 2) (⟨r.val % 4096, by omega⟩ : Fin 4096) (⟨j.val / 128, by omega⟩ : Fin 4) (⟨128 + j.val % 128, by omega⟩ : Fin 256) := by
    refine same4 (Fin.ext ?_) (Fin.ext ?_) (Fin.ext ?_) (Fin.ext ?_)
    · show (r.val * 512 + j.val) / 2097152 = r.val / 4096
      omega
    · show (r.val * 512 + j.val) / 512 % 4096 = r.val % 4096
      omega
    · show (r.val * 512 + j.val) / 128 % 4 = j.val / 128
      omega
    · show 128 + (r.val * 512 + j.val) % 128 = 128 + j.val % 128
      omega
  rw [val_main_v132_apply, val_main_v131_apply, val_main_v99_apply, e]
  refine (kvhead_at hA _ _ _ _).trans (congrArg₂ A.kv (Fin.ext ?_) (Fin.ext ?_))
  · show r.val / 4096 * 4096 + r.val % 4096 = r.val
    omega
  · show j.val / 128 * 256 + (128 + j.val % 128) = j.val / 128 * 256 + 128 + j.val % 128
    omega

end Cert.InProj.Ref
-- ==== Proof.InProjArr.lean ====
/-
  The arrays the input side's kernel leaves: 16 grid points with blocks of 512 rows; the tables of the rotation are read at the point modulo 8.
-/
module

public import proofs.«01_k».proof.Proof.InProjOut
public import proofs.«01_k».proof.Proof.InProjTab
public import proofs.«01_k».proof.Proof.InProjRef

@[expose] public section

set_option maxRecDepth 16384

noncomputable section

namespace Cert.InProj

open Idealize.ShloMosaic Idealize.ShloMosaic.TcCoe Idealize.SL.Sem
open Cert.Kernel10Ideal Cert.Kernel10Ideal.Gen

variable (m : (ℓ : Loc nD τ sig) → Buf (Elt Ideal) ℓ) (c : Dev nD)

/-- The arrays' rows. -/
def whole : Rows 8192 :=
  Ref.args (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- Row `a` of grid point `t`. -/
def row (t : Fin 16) (a : Fin 512) : Fin 8192 := ⟨t.val * 512 + a.val, by omega⟩

/-- Its position in its sequence. -/
def place (t : Fin 16) (a : Fin 512) : Fin 4096 := ⟨t.val % 8 * 512 + a.val, by omega⟩

theorem place_eq (t : Fin 16) (a : Fin 512) : place t a = ⟨(row t a).val % 4096, by omega⟩ :=
  Fin.ext (show t.val % 8 * 512 + a.val = (t.val * 512 + a.val) % 4096 by omega)

theorem idx0 : ∀ t : Fin grid0.N,
    ((win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = t.val % 8 ∧ win0_7.index t 1 = 0) ∧ (win0_8.index t 0 = t.val % 8 ∧ win0_8.index t 1 = 0) ∧ (win0_9.index t 0 = t.val % 8 ∧ win0_9.index t 1 = 0))
    ∧ ((win0_10.index t 0 = t.val ∧ win0_10.index t 1 = 0) ∧ (win0_11.index t 0 = t.val ∧ win0_11.index t 1 = 0) ∧ (win0_12.index t 0 = t.val ∧ win0_12.index t 1 = 0) ∧ (win0_13.index t 0 = t.val ∧ win0_13.index t 1 = 0) ∧ (win0_14.index t 0 = t.val ∧ win0_14.index t 1 = 0) ∧ (win0_15.index t 0 = t.val ∧ win0_15.index t 1 = 0) ∧ (win0_16.index t 0 = t.val ∧ win0_16.index t 1 = 0) ∧ (win0_17.index t 0 = t.val ∧ win0_17.index t 1 = 0) ∧ (win0_18.index t 0 = t.val ∧ win0_18.index t 1 = 0) ∧ (win0_19.index t 0 = t.val ∧ win0_19.index t 1 = 0)) := by
  decide +kernel

theorem read_x (t : Fin cfg0.N) (a : Fin 512) (k : Fin 1024) : iblk m c (0 : Fin 20) t (ix2 a k) = V m c main_arg0 (ix2 (row t a) k) := by
  obtain ⟨⟨⟨h0, h1⟩, -⟩, -⟩ := idx0 t
  blk_ext [iblk, h0, h1, row]

theorem read_g1 (t : Fin cfg0.N) (k : Fin 1024) : iblk m c (1 : Fin 20) t (ix2 0 k) = V m c main_arg1 (ix2 0 k) := by
  obtain ⟨⟨-, ⟨h0, h1⟩, -⟩, -⟩ := idx0 t
  blk_ext [iblk, h0, h1]

theorem read_w (t : Fin cfg0.N) (j : Fin 3328) (k : Fin 1024) : iblk m c (2 : Fin 20) t (ix2 j k) = V m c main_arg2 (ix2 j k) := by
  obtain ⟨⟨-, -, ⟨h0, h1⟩, -⟩, -⟩ := idx0 t
  blk_ext [iblk, h0, h1]

theorem read_gq (t : Fin cfg0.N) (k : Fin 384) : iblk m c (3 : Fin 20) t (ix2 0 k) = V m c main_arg3 (ix2 0 k) := by
  obtain ⟨⟨-, -, -, ⟨h0, h1⟩, -⟩, -⟩ := idx0 t
  blk_ext [iblk, h0, h1]

theorem read_gk (t : Fin cfg0.N) (k : Fin 256) : iblk m c (4 : Fin 20) t (ix2 0 k) = V m c main_arg4 (ix2 0 k) := by
  obtain ⟨⟨-, -, -, -, ⟨h0, h1⟩, -⟩, -⟩ := idx0 t
  blk_ext [iblk, h0, h1]

theorem read_wq (t : Fin cfg0.N) (j : Fin 1024) (k : Fin 384) : iblk m c (5 : Fin 20) t (ix2 j k) = V m c main_arg5 (ix2 j k) := by
  obtain ⟨⟨-, -, -, -, -, ⟨h0, h1⟩, -⟩, -⟩ := idx0 t
  blk_ext [iblk, h0, h1]

theorem read_wkv (t : Fin cfg0.N) (j : Fin 256) (k : Fin 1024) : iblk m c (6 : Fin 20) t (ix2 j k) = V m c main_arg6 (ix2 j k) := by
  obtain ⟨⟨-, -, -, -, -, -, ⟨h0, h1⟩, -⟩, -⟩ := idx0 t
  blk_ext [iblk, h0, h1]

theorem read_cos (t : Fin cfg0.N) (a : Fin 512) (k : Fin 128) : iblk m c (7 : Fin 20) t (ix2 a k) = V m c main_v21 (ix2 (place t a) k) := by
  obtain ⟨⟨-, -, -, -, -, -, -, ⟨h0, h1⟩, -⟩, -⟩ := idx0 t
  blk_ext [iblk, h0, h1, place]

theorem read_neg (t : Fin cfg0.N) (a : Fin 512) (k : Fin 128) : iblk m c (8 : Fin 20) t (ix2 a k) = V m c main_v23 (ix2 (place t a) k) := by
  obtain ⟨⟨-, -, -, -, -, -, -, -, ⟨h0, h1⟩, -⟩, -⟩ := idx0 t
  blk_ext [iblk, h0, h1, place]

theorem read_sin (t : Fin cfg0.N) (a : Fin 512) (k : Fin 128) : iblk m c (9 : Fin 20) t (ix2 a k) = V m c main_v24 (ix2 (place t a) k) := by
  obtain ⟨⟨-, -, -, -, -, -, -, -, -, ⟨h0, h1⟩⟩, -⟩ := idx0 t
  blk_ext [iblk, h0, h1, place]

/-- The blocks grid point `t` reads. -/
theorem blocks (t : Fin cfg0.N) : Blocks ((whole m c).take (row t)) (iblk m c (0 : Fin 20) t) (iblk m c (1 : Fin 20) t) (iblk m c (2 : Fin 20) t) (iblk m c (3 : Fin 20) t)
    (iblk m c (4 : Fin 20) t) (iblk m c (5 : Fin 20) t) (iblk m c (6 : Fin 20) t) (iblk m c (7 : Fin 20) t) (iblk m c (8 : Fin 20) t) (iblk m c (9 : Fin 20) t) where
  x a k := (read_x m c t a k).trans (congrFun (V_main_arg0 m c) _)
  g1 k := (read_g1 m c t k).trans (congrFun (V_main_arg1 m c) _)
  w j k := (read_w m c t j k).trans (congrFun (V_main_arg2 m c) _)
  gq k := (read_gq m c t k).trans (congrFun (V_main_arg3 m c) _)
  gk k := (read_gk m c t k).trans (congrFun (V_main_arg4 m c) _)
  wq j k := (read_wq m c t j k).trans (congrFun (V_main_arg5 m c) _)
  wkv j k := (read_wkv m c t j k).trans (congrFun (V_main_arg6 m c) _)
  cos a k := (read_cos m c t a k).trans ((table_cos m c (place t a) k).trans (congrArg (fun p => cosTable (cosAt p) k) (place_eq t a)))
  neg a k := (read_neg m c t a k).trans ((table_neg m c (place t a) k).trans (congrArg (fun p => negSinTable (sinAt p) k) (place_eq t a)))
  sin a k := (read_sin m c t a k).trans ((table_sin m c (place t a) k).trans (congrArg (fun p => sinTable (sinAt p) k) (place_eq t a)))

theorem array_hq : (dats m 0 c).arrAt (10 : Fin 20) cfg0.N = fun y : S8192x512.Idx => (whole m c).proj (y 0) (off 0 512 (by omega) (y 1)) := by
  refine (dats m 0 c).arrAt_eq_of_covers (10 : Fin 20) _ (by decide +kernel) fun t hf y => ?_
  obtain ⟨-, ⟨⟨h0, h1⟩, -⟩⟩ := idx0 t
  blk_simp
  rw [after0_10]
  change S512x512.Idx at y
  refine ((blocks m c t).out_hq y).trans (congrArg₂ (fun r j => (whole m c).proj r (off 0 512 (by omega) j)) (x := row t (y 0)) (Fin.ext ?_) (Fin.ext ?_))
  · blk_simp; simp only [h0, row]
  · blk_simp; simp only [h1]; omega

theorem array_hi : (dats m 0 c).arrAt (11 : Fin 20) cfg0.N = fun y : S8192x512.Idx => (whole m c).proj (y 0) (off 512 512 (by omega) (y 1)) := by
  refine (dats m 0 c).arrAt_eq_of_covers (11 : Fin 20) _ (by decide +kernel) fun t hf y => ?_
  obtain ⟨-, ⟨-, ⟨h0, h1⟩, -⟩⟩ := idx0 t
  blk_simp
  rw [after0_11]
  change S512x512.Idx at y
  refine ((blocks m c t).out_hi y).trans (congrArg₂ (fun r j => (whole m c).proj r (off 512 512 (by omega) j)) (x := row t (y 0)) (Fin.ext ?_) (Fin.ext ?_))
  · blk_simp; simp only [h0, row]
  · blk_simp; simp only [h1]; omega

theorem array_zf : (dats m 0 c).arrAt (12 : Fin 20) cfg0.N = fun y : S8192x512.Idx => (whole m c).proj (y 0) (off 1024 512 (by omega) (y 1)) := by
  refine (dats m 0 c).arrAt_eq_of_covers (12 : Fin 20) _ (by decide +kernel) fun t hf y => ?_
  obtain ⟨-, ⟨-, -, ⟨h0, h1⟩, -⟩⟩ := idx0 t
  blk_simp
  rw [after0_12]
  change S512x512.Idx at y
  refine ((blocks m c t).out_zf y).trans (congrArg₂ (fun r j => (whole m c).proj r (off 1024 512 (by omega) j)) (x := row t (y 0)) (Fin.ext ?_) (Fin.ext ?_))
  · blk_simp; simp only [h0, row]
  · blk_simp; simp only [h1]; omega

theorem array_zb : (dats m 0 c).arrAt (13 : Fin 20) cfg0.N = fun y : S8192x512.Idx => (whole m c).proj (y 0) (off 1536 512 (by omega) (y 1)) := by
  refine (dats m 0 c).arrAt_eq_of_covers (13 : Fin 20) _ (by decide +kernel) fun t hf y => ?_
  obtain ⟨-, ⟨-, -, -, ⟨h0, h1⟩, -⟩⟩ := idx0 t
  blk_simp
  rw [after0_13]
  change S512x512.Idx at y
  refine ((blocks m c t).out_zb y).trans (congrArg₂ (fun r j => (whole m c).proj r (off 1536 512 (by omega) j)) (x := row t (y 0)) (Fin.ext ?_) (Fin.ext ?_))
  · blk_simp; simp only [h0, row]
  · blk_simp; simp only [h1]; omega

theorem array_hg : (dats m 0 c).arrAt (14 : Fin 20) cfg0.N = fun y : S8192x512.Idx => (whole m c).proj (y 0) (off 2048 512 (by omega) (y 1)) := by
  refine (dats m 0 c).arrAt_eq_of_covers (14 : Fin 20) _ (by decide +kernel) fun t hf y => ?_
  obtain ⟨-, ⟨-, -, -, -, ⟨h0, h1⟩, -⟩⟩ := idx0 t
  blk_simp
  rw [after0_14]
  change S512x512.Idx at y
  refine ((blocks m c t).out_hg y).trans (congrArg₂ (fun r j => (whole m c).proj r (off 2048 512 (by omega) j)) (x := row t (y 0)) (Fin.ext ?_) (Fin.ext ?_))
  · blk_simp; simp only [h0, row]
  · blk_simp; simp only [h1]; omega

theorem array_cq : (dats m 0 c).arrAt (15 : Fin 20) cfg0.N = fun y : S8192x384.Idx => (whole m c).cq (y 0) (y 1) := by
  refine (dats m 0 c).arrAt_eq_of_covers (15 : Fin 20) _ (by decide +kernel) fun t hf y => ?_
  obtain ⟨-, ⟨-, -, -, -, -, ⟨h0, h1⟩, -⟩⟩ := idx0 t
  blk_simp
  rw [after0_15]
  change S512x384.Idx at y
  refine ((blocks m c t).out_cq y).trans (congrArg₂ (whole m c).cq (x := row t (y 0)) (Fin.ext ?_) (Fin.ext ?_))
  · blk_simp; simp only [h0, row]
  · blk_simp; simp only [h1]; omega

theorem array_ckv : (dats m 0 c).arrAt (16 : Fin 20) cfg0.N = fun y : S8192x256.Idx => (whole m c).ckv (y 0) (y 1) := by
  refine (dats m 0 c).arrAt_eq_of_covers (16 : Fin 20) _ (by decide +kernel) fun t hf y => ?_
  obtain ⟨-, ⟨-, -, -, -, -, -, ⟨h0, h1⟩, -⟩⟩ := idx0 t
  blk_simp
  rw [after0_16]
  change S512x256.Idx at y
  refine ((blocks m c t).out_ckv y).trans (congrArg₂ (whole m c).ckv (x := row t (y 0)) (Fin.ext ?_) (Fin.ext ?_))
  · blk_simp; simp only [h0, row]
  · blk_simp; simp only [h1]; omega

theorem array_q : (dats m 0 c).arrAt (17 : Fin 20) cfg0.N = fun y : S8192x1024.Idx => (whole m c).q (y 0) (y 1) := by
  refine (dats m 0 c).arrAt_eq_of_covers (17 : Fin 20) _ (by decide +kernel) fun t hf y => ?_
  obtain ⟨-, ⟨-, -, -, -, -, -, -, ⟨h0, h1⟩, -⟩⟩ := idx0 t
  blk_simp
  rw [after0_17]
  change S512x1024.Idx at y
  refine ((blocks m c t).out_q y).trans (congrArg₂ (whole m c).q (x := row t (y 0)) (Fin.ext ?_) (Fin.ext ?_))
  · blk_simp; simp only [h0, row]
  · blk_simp; simp only [h1]; omega

theorem array_k : (dats m 0 c).arrAt (18 : Fin 20) cfg0.N = fun y : S8192x1024.Idx => (whole m c).k (y 0) (y 1) := by
  refine (dats m 0 c).arrAt_eq_of_covers (18 : Fin 20) _ (by decide +kernel) fun t hf y => ?_
  obtain ⟨-, ⟨-, -, -, -, -, -, -, -, ⟨h0, h1⟩, -⟩⟩ := idx0 t
  blk_simp
  rw [after0_18]
  change S512x1024.Idx at y
  refine ((blocks m c t).out_k y).trans (congrArg₂ (whole m c).k (x := row t (y 0)) (Fin.ext ?_) (Fin.ext ?_))
  · blk_simp; simp only [h0, row]
  · blk_simp; simp only [h1]; omega

theorem array_v : (dats m 0 c).arrAt (19 : Fin 20) cfg0.N = fun y : S8192x512.Idx => (whole m c).v (y 0) (y 1) := by
  refine (dats m 0 c).arrAt_eq_of_covers (19 : Fin 20) _ (by decide +kernel) fun t hf y => ?_
  obtain ⟨-, ⟨-, -, -, -, -, -, -, -, -, ⟨h0, h1⟩⟩⟩ := idx0 t
  blk_simp
  rw [after0_19]
  change S512x512.Idx at y
  refine ((blocks m c t).out_v y).trans (congrArg₂ (whole m c).v (x := row t (y 0)) (Fin.ext ?_) (Fin.ext ?_))
  · blk_simp; simp only [h0, row]
  · blk_simp; simp only [h1]; omega

end Cert.InProj
-- ==== Proof.InProjClaim.lean ====
/-
  The input side's kernel: from any memory it leaves in its ten result arrays exactly what the reference leaves in its ten.
-/
module

public import proofs.«01_k».proof.Defs
public import proofs.«01_k».proof.Proof.InProjArr
public import proofs.«01_k».proof.Proof.Gen.Reference10Ideal.Run

@[expose] public section

set_option maxRecDepth 16384

noncomputable section

namespace Cert.InProj

open Idealize.ShloMosaic Idealize.ShloMosaic.TcCoe Idealize.SL.Sem

/-- An array known at every index. -/
theorem array_eq {p q : ℕ} {v : (⟨2, ![p, q]⟩ : Shape).Idx → EReal} {F : Fin p → Fin q → EReal} (h : ∀ r k, v (ix2 r k) = F r k) :
    v = fun y => F (y 0) (y 1) := by
  funext y
  have e : y = ix2 (y 0) (y 1) := (ix2_eta y).symm
  rw [e]
  exact h (y 0) (y 1)

/-- The reference's run reads its arguments and has no semaphore. -/
theorem frame_reference : Cert.quiescent_Reference10Ideal := by
  intro m ρ _
  exact (θ_run Cert.Reference10Ideal.defs _ _).mono
    (fun r h => ⟨fun c => (h c).2.2.2.2.2.2.2.2.2.2, Idealize.ShloMosaic.sem_eq_zero_of_no_sems (by decide) r.2⟩)
    (Cert.Reference10Ideal.Value.run (F := Ideal) m ρ)

set_option maxHeartbeats 2000000 in
/-- The value claim. -/
theorem algebraic : Cert.algebraic_Kernel10Ideal_Reference10Ideal := by
  intro m g m' g' _ same
  refine ⟨fun c => fun y : Cert.Kernel10Ideal.S8192x512.Idx => (whole m c).proj (y 0) (off 0 512 (by omega) (y 1)),
    fun c => fun y : Cert.Kernel10Ideal.S8192x512.Idx => (whole m c).proj (y 0) (off 512 512 (by omega) (y 1)),
    fun c => fun y : Cert.Kernel10Ideal.S8192x512.Idx => (whole m c).proj (y 0) (off 1024 512 (by omega) (y 1)),
    fun c => fun y : Cert.Kernel10Ideal.S8192x512.Idx => (whole m c).proj (y 0) (off 1536 512 (by omega) (y 1)),
    fun c => fun y : Cert.Kernel10Ideal.S8192x512.Idx => (whole m c).proj (y 0) (off 2048 512 (by omega) (y 1)),
    fun c => fun y : Cert.Kernel10Ideal.S8192x384.Idx => (whole m c).cq (y 0) (y 1),
    fun c => fun y : Cert.Kernel10Ideal.S8192x256.Idx => (whole m c).ckv (y 0) (y 1),
    fun c => fun y : Cert.Kernel10Ideal.S8192x1024.Idx => (whole m c).q (y 0) (y 1),
    fun c => fun y : Cert.Kernel10Ideal.S8192x1024.Idx => (whole m c).k (y 0) (y 1),
    fun c => fun y : Cert.Kernel10Ideal.S8192x512.Idx => (whole m c).v (y 0) (y 1), ?_, ?_⟩
  · refine (θ_run Cert.Kernel10Ideal.defs _ _).mono (fun r h c => ?_)
      (θ_run_and (Cert.Kernel10Ideal.Gen.run_main m g) (Cert.Kernel10Ideal.Gen.unchanged m g))
    have w := (h.1 c).1
    exact ⟨(w (10 : Fin 20)).trans (array_hq m c),
      (w (11 : Fin 20)).trans (array_hi m c),
      (w (12 : Fin 20)).trans (array_zf m c),
      (w (13 : Fin 20)).trans (array_zb m c),
      (w (14 : Fin 20)).trans (array_hg m c),
      (w (15 : Fin 20)).trans (array_cq m c),
      (w (16 : Fin 20)).trans (array_ckv m c),
      (w (17 : Fin 20)).trans (array_q m c),
      (w (18 : Fin 20)).trans (array_k m c),
      (w (19 : Fin 20)).trans (array_v m c), h.2 c⟩
  · refine (θ_run Cert.Reference10Ideal.defs _ _).mono (fun r h c => ?_) (Cert.Reference10Ideal.Value.run (F := Ideal) m' g')
    obtain ⟨h0, h1, h2, h3, h4, h5, h6, h7, h8, h9, ha⟩ := h c
    obtain ⟨s0, s1, s2, s3, s4, s5, s6⟩ := same c
    have hA : whole m c = Ref.args (m' ((c.tc : Thread Cert.Reference10Ideal.nD Cert.Reference10Ideal.τ).loc Cert.Reference10Ideal.main_arg0))
        (m' ((c.tc : Thread Cert.Reference10Ideal.nD Cert.Reference10Ideal.τ).loc Cert.Reference10Ideal.main_arg1))
        (m' ((c.tc : Thread Cert.Reference10Ideal.nD Cert.Reference10Ideal.τ).loc Cert.Reference10Ideal.main_arg2))
        (m' ((c.tc : Thread Cert.Reference10Ideal.nD Cert.Reference10Ideal.τ).loc Cert.Reference10Ideal.main_arg3))
        (m' ((c.tc : Thread Cert.Reference10Ideal.nD Cert.Reference10Ideal.τ).loc Cert.Reference10Ideal.main_arg4))
        (m' ((c.tc : Thread Cert.Reference10Ideal.nD Cert.Reference10Ideal.τ).loc Cert.Reference10Ideal.main_arg5))
        (m' ((c.tc : Thread Cert.Reference10Ideal.nD Cert.Reference10Ideal.τ).loc Cert.Reference10Ideal.main_arg6)) := by
      rw [s0, s1, s2, s3, s4, s5, s6]
      rfl
    refine ⟨h0.trans ((Cert.Reference10Ideal.Read.val_main_v37_eq _ _ _).trans (array_eq (F := fun r j => (whole m c).proj r (off 0 512 (by omega) j)) (Ref.hq_at hA))),
      h1.trans ((Cert.Reference10Ideal.Read.val_main_v38_eq _ _ _).trans (array_eq (F := fun r j => (whole m c).proj r (off 512 512 (by omega) j)) (Ref.hi_at hA))),
      h2.trans ((Cert.Reference10Ideal.Read.val_main_v39_eq _ _ _).trans (array_eq (F := fun r j => (whole m c).proj r (off 1024 512 (by omega) j)) (Ref.zf_at hA))),
      h3.trans ((Cert.Reference10Ideal.Read.val_main_v40_eq _ _ _).trans (array_eq (F := fun r j => (whole m c).proj r (off 1536 512 (by omega) j)) (Ref.zb_at hA))),
      h4.trans ((Cert.Reference10Ideal.Read.val_main_v41_eq _ _ _).trans (array_eq (F := fun r j => (whole m c).proj r (off 2048 512 (by omega) j)) (Ref.hg_at hA))),
      h5.trans ((Cert.Reference10Ideal.Read.val_main_v42_eq _ _ _).trans (array_eq (Ref.cq_at hA))),
      h6.trans ((Cert.Reference10Ideal.Read.val_main_v43_eq _ _ _).trans (array_eq (Ref.ckv_at hA))),
      h7.trans ((Cert.Reference10Ideal.Read.val_main_v129_eq m' c).trans (array_eq (Ref.q_out hA))),
      h8.trans ((Cert.Reference10Ideal.Read.val_main_v130_eq m' c).trans (array_eq (Ref.k_out hA))),
      h9.trans ((Cert.Reference10Ideal.Read.val_main_v132_eq _ _ _ _ _).trans (array_eq (Ref.v_out hA))), ha⟩

end Cert.InProj

end
-- ==== Proof.GlaOut.lean ====
/-
  The gradients of the recurrence's head norm and gate for one token's row, over the extended reals, and the kernel's mean
  over a head by a product with a matrix.
-/
module

public import proofs.«01_k».proof.Proof.PostBwd

@[expose] public section

noncomputable section

namespace Cert.GlaOut

open Idealize.ShloMosaic Cert.Post Cert.PostBwd

/-- The rows the call reads, and the norm's gain. -/
structure Rows (n : ℕ) where
  f : Fin n → Fin 512 → EReal
  b : Fin n → Fin 512 → EReal
  hg : Fin n → Fin 512 → EReal
  dy : Fin n → Fin 512 → EReal
  gh : Fin 512 → EReal

namespace Rows

variable {n : ℕ} (A : Rows n)

/-- Some of the rows. -/
def take {p : ℕ} (e : Fin p → Fin n) : Rows p :=
  { A with f := fun r => A.f (e r), b := fun r => A.b (e r), hg := fun r => A.hg (e r), dy := fun r => A.dy (e r) }

variable (r : Fin n)

/-- The recurrence's two directions added. -/
def o (i : Fin 512) : EReal := A.f r i + A.b r i

/-- One head of it. -/
def heads (h : Fin 8) (k : Fin 64) : EReal := A.o r (col h k)

/-- One over the root of a head's mean square. -/
def s (h : Fin 8) : EReal := scale c64 (A.heads r h)

/-- The gradient of the head's scale by its mean square. -/
def rate (h : Fin 8) : EReal := mhalf * Ideal.div (A.s r h) (meanSq c64 (A.heads r h) + eps)

/-- The normalised heads. -/
def u (i : Fin 512) : EReal := A.o r i * A.s r (head i)

/-- The gradient of the heads before the gate. -/
def dn (i : Fin 512) : EReal := A.dy r i * silu (A.hg r i)

/-- The gradient of the normalised heads. -/
def e (i : Fin 512) : EReal := A.dn r i * A.gh i

/-- The gradient of the recurrence's output. -/
def dO (i : Fin 512) : EReal :=
  A.e r i * A.s r (head i) + A.o r i * msGrad c64 (A.heads r (head i)) (fun k => A.e r (col (head i) k))
    + msGrad c64 (A.heads r (head i)) (fun k => A.e r (col (head i) k)) * A.o r i

/-- The gradient of the gate's `silu`. -/
def dg (i : Fin 512) : EReal := A.u r i * A.gh i * A.dy r i

/-- The gradient of the gate. -/
def dHg (i : Fin 512) : EReal :=
  A.dg r i * Ideal.logistic (A.hg r i) + A.hg r i * A.dg r i * (Ideal.logistic (A.hg r i) * (1 - Ideal.logistic (A.hg r i)))

/-- What a row adds to the gain's gradient. -/
def pG (i : Fin 512) : EReal := A.u r i * A.dn r i

/-- The arguments are real numbers. -/
structure Real : Prop where
  o : ∀ r i, ∃ z : ℝ, A.o r i = (z : EReal)
  hg : ∀ r i, ∃ z : ℝ, A.hg r i = (z : EReal)
  dy : ∀ r i, ∃ z : ℝ, A.dy r i = (z : EReal)
  gh : ∀ i, ∃ z : ℝ, A.gh i = (z : EReal)

end Rows

/-- A product with the matrix of 1/64 within a head, taken of rounded numbers and of what the rounding left, is the mean over
    the head. -/
theorem head_mean {W : Fin 512 → EReal} (hW : ∀ i, ∃ z : ℝ, W i = (z : EReal)) {M : Fin 512 → Fin 512 → EReal}
    (hM : ∀ j i, M j i = if head j = head i then Ideal.ofBits .f32 0x3C800000#32 else 0) (i : Fin 512) :
    ∑ j, W j * M j i + ∑ j, (W j - W j) * M j i = Ideal.div (∑ k, W (col (head i) k)) c64 := by
  choose z hz using hW
  have e : ∑ j, (W j - W j) * M j i = 0 :=
    Finset.sum_eq_zero fun j _ => by rw [hz, ← EReal.coe_sub, sub_self, EReal.coe_zero, zero_mul]
  rw [e, add_zero, sum_heads, Finset.sum_eq_single (head i)]
  · simp only [hM, head_col, if_pos, hz, inv64_real, c64_real, ← EReal.coe_mul, Attn.coe_sum]
    rw [Attn.div_real _ _ (by norm_num), ← Finset.sum_mul, mul_one_div]
  · intro b _ hb
    exact Finset.sum_eq_zero fun k _ => by rw [hM, head_col, if_neg hb, mul_zero]
  · exact fun h => absurd (Finset.mem_univ _) h

theorem logistic_real (g : ℝ) : ∃ z : ℝ, Ideal.logistic (g : EReal) = (z : EReal) := by
  have hp : (1 + Real.exp (-g)) ≠ 0 := by positivity
  exact ⟨1 / (1 + Real.exp (-g)), by
    rw [Ideal.logistic, ← EReal.coe_neg, Ideal.exp_coe, ← EReal.coe_one, ← EReal.coe_add, Attn.div_real _ _ hp]⟩

namespace Rows

variable {n : ℕ} {A : Rows n} (hA : A.Real) (r : Fin n)
include hA

theorem e_real (i : Fin 512) : ∃ z : ℝ, A.e r i = (z : EReal) := by
  obtain ⟨d, hd⟩ := hA.dy r i
  obtain ⟨h, hh⟩ := hA.hg r i
  obtain ⟨g, hg⟩ := hA.gh i
  obtain ⟨l, hl⟩ := logistic_real h
  exact ⟨d * (h * l) * g, by rw [e, dn, silu, hd, hh, hg, hl]; simp only [EReal.coe_mul]⟩

theorem rate_real (h : Fin 8) : ∃ z : ℝ, A.rate r h = (z : EReal) := by
  choose z hz using fun k => hA.o r (col h k)
  have hm : ∃ q : ℝ, 0 < q ∧ meanSq c64 (A.heads r h) + eps = (q : EReal) := by
    obtain ⟨e, he, hee⟩ := eps_real
    refine ⟨(∑ k, z k * z k) / 64 + e, ?_, ?_⟩
    · have : 0 ≤ (∑ k, z k * z k) / 64 := div_nonneg (Finset.sum_nonneg fun i _ => mul_self_nonneg _) (by norm_num)
      linarith
    · have hz' : ∀ k, A.heads r h k = (z k : EReal) := hz
      simp only [meanSq, hz', c64_real, ← EReal.coe_mul, Attn.coe_sum, Attn.div_real _ _ (by norm_num : (64 : ℝ) ≠ 0), hee, ← EReal.coe_add]
  obtain ⟨q, hq, hm⟩ := hm
  have hs : A.s r h = (((√q)⁻¹ : ℝ) : EReal) := by
    rw [s, scale, hm, Ideal.rsqrt_coe, if_neg (not_lt.mpr hq.le), if_neg hq.ne']
  exact ⟨-(1 / 2) * ((√q)⁻¹ / q), by rw [rate, hs, hm, Attn.div_real _ _ hq.ne', mhalf_real, ← EReal.coe_mul]⟩

/-- The kernel's mean over a head of the products the mean square's gradient is made of. -/
theorem grad_mean {M : Fin 512 → Fin 512 → EReal}
    (hM : ∀ j i, M j i = if head j = head i then Ideal.ofBits .f32 0x3C800000#32 else 0) (i : Fin 512) :
    ∑ j, A.o r j * A.e r j * A.rate r (head j) * M j i
        + ∑ j, (A.o r j * A.e r j * A.rate r (head j) - A.o r j * A.e r j * A.rate r (head j)) * M j i
      = msGrad c64 (A.heads r (head i)) (fun k => A.e r (col (head i) k)) := by
  choose zo ho using hA.o r
  choose ze he using e_real hA r
  choose t ht using rate_real hA r
  rw [head_mean (W := fun j => A.o r j * A.e r j * A.rate r (head j))
    (fun j => ⟨zo j * ze j * t (head j), by rw [ho, he, ht]; simp only [EReal.coe_mul]⟩) hM]
  refine congrArg (fun x => Ideal.div x c64) ?_
  change _ = (∑ k, A.o r (col (head i) k) * A.e r (col (head i) k)) * A.rate r (head i)
  simp only [head_col, ho, he, ht, ← EReal.coe_mul, Attn.coe_sum, Finset.sum_mul]

end Rows

end Cert.GlaOut

end
-- ==== Proof.GlaOutPay.lean ====
/-
  What the backward call of the recurrence's norm and gate computes for 512 rows: each stored value is the matching function
  of the rows.
-/
module

public import proofs.«01_k».proof.Proof.GlaOut
public import proofs.«01_k».proof.Proof.PostPay
public import proofs.«01_k».proof.Proof.PostRef
public import proofs.«01_k».proof.Proof.Gen.Kernel11Ideal.Skeleton
public import Idealize.ShloMosaic.Lib.Pipeline.ValueKit
public import Idealize.ShloMosaic.Lib.Pointwise
public import Idealize.ShloMosaic.Lib.Tactic.CleanTypes

@[expose] public section

set_option maxRecDepth 16384

noncomputable section

namespace Cert.GlaOut

open Idealize.ShloMosaic Idealize.ShloMosaic.TcCoe Idealize.SL.Sem Cert.Post Cert.PostBwd
open Cert.Kernel11Ideal Cert.Kernel11Ideal.Gen

theorem left_head (j i : Fin 512) : k0_pay7 (ix2 j i) = BitVec.ofNat 32 (head j).val := by
  pointwise [k0_pay7]
  exact quot j

theorem right_head (j i : Fin 512) :
    Scalar.select (IntOp.andi (k0_pay9 (ix2 j i)) (k0_pay10 (ix2 j i)))
      (IntOp.subi (k0_pay8 (ix2 j i)) 1#32) (k0_pay8 (ix2 j i)) = BitVec.ofNat 32 (head i).val := by
  pointwise [k0_pay8, k0_pay9, k0_pay10]
  exact quot i

/-- The matrix of the means. -/
def means : FVec Ideal S512x512 .bf16 := k0_pay11 (F := Ideal) k0_pay7 k0_pay8 k0_pay9 k0_pay10

theorem means_at (j i : Fin 512) : (means (ix2 j i) : EReal) = if head j = head i then Ideal.ofBits .f32 0x3C800000#32 else 0 := by
  unfold means
  pointwise [k0_pay11]
  rw [left_head, right_head, same_head]
  split <;> rfl

/-- The vectors the body computes 512 rows' gradients from. -/
structure Loads (A : Rows 512) (f b : Vec Ideal S512x512 .bf16) (hg : Vec Ideal S512x512 .f32) (g : Vec Ideal S1x512 .f32) (dy : Vec Ideal S512x512 .bf16) : Prop where
  f : ∀ a i, f (ix2 a i) = A.f a i
  b : ∀ a i, b (ix2 a i) = A.b a i
  hg : ∀ a i, hg (ix2 a i) = A.hg a i
  g : ∀ i, g (ix2 0 i) = A.gh i
  dy : ∀ a i, dy (ix2 a i) = A.dy a i

namespace Loads

variable {A : Rows 512} {f b dy : Vec Ideal S512x512 .bf16} {hg : Vec Ideal S512x512 .f32} {g : Vec Ideal S1x512 .f32}
variable (L : Loads A f b hg g dy) (hA : A.Real)
include L

theorem o (a i : Fin 512) : k0_pay12 (F := Ideal) f b (ix2 a i) = A.o a i := by
  pointwise [k0_pay12]
  simp only [L.f, L.b]
  rfl

theorem gate (a i : Fin 512) : k0_pay20 (F := Ideal) hg (ix2 a i) = silu (A.hg a i) := by
  pointwise [k0_pay20, k0_pay18]
  simp only [L.hg]
  rfl

include hA

theorem ms (a i : Fin 512) : k0_pay13 (F := Ideal) k0_pay7 k0_pay8 k0_pay9 k0_pay10 f b (ix2 a i) = meanSq c64 (A.heads a (head i)) + eps := by
  have e := group_mean (hA.o a) (M := fun j i => means (ix2 j i)) means_at i
  pointwise [k0_pay13]
  simp only [L.o]
  simp only [means] at e
  rw [e]
  rfl

theorem s (a i : Fin 512) : k0_pay14 (F := Ideal) k0_pay7 k0_pay8 k0_pay9 k0_pay10 f b (ix2 a i) = A.s a (head i) := by
  pointwise [k0_pay14]
  rw [L.ms hA]
  rfl

theorem rate (a i : Fin 512) : k0_pay15 (F := Ideal) k0_pay7 k0_pay8 k0_pay9 k0_pay10 f b (ix2 a i) = A.rate a (head i) := by
  pointwise [k0_pay15]
  rw [L.ms hA, L.s hA]
  rfl

theorem u (a i : Fin 512) : k0_pay16 (F := Ideal) k0_pay7 k0_pay8 k0_pay9 k0_pay10 f b (ix2 a i) = A.u a i := by
  pointwise [k0_pay16]
  rw [L.o, L.s hA]
  rfl

theorem dO (a i : Fin 512) :
    k0_pay3 (F := Ideal) (k0_pay11 (F := Ideal) k0_pay7 k0_pay8 k0_pay9 k0_pay10) g (k0_pay12 (F := Ideal) f b)
      (k0_pay14 (F := Ideal) k0_pay7 k0_pay8 k0_pay9 k0_pay10 f b) (k0_pay15 (F := Ideal) k0_pay7 k0_pay8 k0_pay9 k0_pay10 f b)
      (k0_pay20 (F := Ideal) hg) dy (ix2 a i) = A.dO a i := by
  have e := A.grad_mean hA a (M := fun j i => means (ix2 j i)) means_at i
  pointwise [k0_pay3, k0_pay2, k0_pay1]
  simp only [L.o, L.gate, L.s hA, L.rate hA, L.g, L.dy]
  simp only [means, Rows.e, Rows.dn] at e
  rw [e]
  rfl

theorem dHg (a i : Fin 512) :
    k0_pay4 (F := Ideal) hg (k0_pay17 (F := Ideal) k0_pay7 k0_pay8 k0_pay9 k0_pay10 f b g) (k0_pay18 (F := Ideal) hg) (k0_pay19 (F := Ideal) hg) dy (ix2 a i)
      = A.dHg a i := by
  pointwise [k0_pay4, k0_pay17, k0_pay18, k0_pay19, k0_pay1]
  simp only [L.u hA, L.hg, L.g, L.dy, Ref.one_lit]
  rfl

theorem pG (v : Vec Ideal S1x512 .f32) (y : S1x512.Idx) :
    k0_pay6 (F := Ideal) (k0_pay16 (F := Ideal) k0_pay7 k0_pay8 k0_pay9 k0_pay10 f b) (k0_pay20 (F := Ideal) hg) dy v y = v y + ∑ a, A.pG a (y 1) := by
  idx_vars y
  pointwise [k0_pay6, k0_pay2, k0_pay1]
  simp only [L.u hA, L.gate, L.dy]
  rfl

end Loads

theorem zero5 (y : S1x512.Idx) : k0_pay5 (F := Ideal) y = (0 : EReal) := by
  idx_vars y
  pointwise [k0_pay5]

end Cert.GlaOut

end
-- ==== Proof.GlaOutRef.lean ====
/-
  The reference of the gradients of the recurrence's norm and gate, index by index.
-/
module

public import proofs.«01_k».proof.Proof.GlaOut
public import proofs.«01_k».proof.Proof.PostRef
public import proofs.«01_k».proof.Proof.Gen.Reference11Ideal.Read
public import Idealize.ShloMosaic.Lib.KernelVsHost
public import Idealize.ShloMosaic.Lib.Pointwise

@[expose] public section

set_option maxRecDepth 16384

noncomputable section

namespace Cert.GlaOut.Ref

open Idealize.ShloMosaic Idealize.ShloMosaic.TcCoe Idealize.SL.Sem Cert.Post Cert.PostBwd
open Cert.Post.Ref (same2 same3 zero_lit one_lit)
open Cert.Reference11Ideal Cert.Reference11Ideal.Read

variable (x0 x1 x4 : FVec Ideal S8192x512 .bf16) (x2 : FVec Ideal S8192x512 .f32) (x3 : FVec Ideal S1x512 .f32)

/-- The arguments' entries. -/
def args : Rows 8192 where
  f r i := x0 (ix2 r i)
  b r i := x1 (ix2 r i)
  hg r i := x2 (ix2 r i)
  gh i := x3 (ix2 0 i)
  dy r i := x4 (ix2 r i)

variable {x0 x1 x4 x2 x3}
variable {A : Rows 8192} (hA : A = args x0 x1 x4 x2 x3) (r : Fin 8192)
include hA

/-! ## Rows as eight heads -/

theorem v4 (h : Fin 8) (k : Fin 64) : val_main_v4 (F := Ideal) x0 x1 (ix3 r h k) = A.heads r h k := by
  subst hA
  have hr : r.val < 8192 := r.isLt
  have hh : h.val < 8 := h.isLt
  have hk : k.val < 64 := k.isLt
  have e : idx_main_v4 (ix3 r h k) = ix2 r (col h k) := same2
    (Fin.ext (show ((r.val * 8 + h.val) * 64 + k.val) / 512 = r.val by omega))
    (Fin.ext (show ((r.val * 8 + h.val) * 64 + k.val) % 512 = h.val * 64 + k.val by omega))
  simp only [val_main_v4_apply, val_main_v3_apply, val_main_v1_apply, val_main_v0_apply, e]
  rfl

theorem v11 (h : Fin 8) : val_main_v11 (F := Ideal) x0 x1 (ix3 r h 0) = meanSq c64 (A.heads r h) + eps := by
  have e : ∀ k, idx_main_v6 (idx_main_v7 (ix3 r h 0)) k = ix3 r h k := fun k => same3 rfl rfl rfl
  simp only [val_main_v11_apply, val_main_v10_apply, val_main_v9_apply, val_main_v8_apply, val_main_v7_apply, val_main_v6_apply, val_main_v5_apply, val_main_cst_apply, val_main_cst_0_apply, val_main_cst_1_apply, e, v4 hA, zero_lit, zero_add]
  rfl

theorem v12 (h : Fin 8) : val_main_v12 (F := Ideal) x0 x1 (ix3 r h 0) = A.s r h := by
  rw [val_main_v12_apply, v11 hA]
  rfl

theorem v15 (h : Fin 8) : val_main_v15 (F := Ideal) x0 x1 (ix3 r h 0) = A.rate r h := by
  rw [val_main_v15_apply, val_main_v13_apply, v11 hA, v12 hA]
  rfl

theorem v17 (h : Fin 8) (k : Fin 64) : val_main_v17 (F := Ideal) x0 x1 (ix3 r h k) = A.u r (col h k) := by
  have e : idx_main_v16 (ix3 r h k) = ix3 r h 0 := same3 rfl rfl rfl
  rw [val_main_v17_apply, val_main_v16_apply, e, v4 hA, v12 hA, Rows.u, head_col]
  rfl

theorem gain (h : Fin 8) (k : Fin 64) : val_main_v18 (F := Ideal) x3 (ix2 h k) = A.gh (col h k) := by
  subst hA
  have hh : h.val < 8 := h.isLt
  have hk : k.val < 64 := k.isLt
  have e : idx_main_v18 (ix2 h k) = ix2 0 (col h k) := same2 rfl
    (Fin.ext (show (h.val * 64 + k.val) % 512 = h.val * 64 + k.val by omega))
  rw [val_main_v18_apply, e]
  rfl

/-! ## The gate -/

theorem v23' (i : Fin 512) : val_main_v23_2 (F := Ideal) x2 (ix2 r i) = Ideal.logistic (A.hg r i) := by
  subst hA
  rw [val_main_v23_2_apply]
  simp only [val_main_call0_v4_apply, val_main_call0_v3_apply, val_main_call0_v2_apply, val_main_call0_v1_apply, val_main_call0_v0_apply, val_main_call0_cst_apply, val_main_call0_cst_0_apply, one_lit]
  rfl

theorem v23 (i : Fin 512) : val_main_v23_0 (F := Ideal) x2 (ix2 r i) = silu (A.hg r i) := by
  have h := v23' hA r i
  subst hA
  rw [val_main_v23_0_apply, h]
  rfl

theorem v23'' (i : Fin 512) : val_main_v23_1 (F := Ideal) x2 (ix2 r i) = Ideal.logistic (A.hg r i) * (1 - Ideal.logistic (A.hg r i)) := by
  rw [val_main_v23_1_apply, val_main_call0_v7_apply, v23' hA]
  simp only [val_main_call0_v6_apply, val_main_call0_cst_1_apply, one_lit]
  rfl

theorem v22 (i : Fin 512) : val_main_v22 (F := Ideal) x0 x1 x3 (ix2 r i) = A.u r i * A.gh i := by
  have hr : r.val < 8192 := r.isLt
  have hi : i.val < 512 := i.isLt
  have c : col (head i) ⟨i.val % 64, by omega⟩ = i := Fin.ext (show i.val / 64 * 64 + i.val % 64 = i.val by omega)
  have e : idx_main_v22 (ix2 r i) = ix3 r (head i) (⟨i.val % 64, by omega⟩ : Fin 64) := same3
    (Fin.ext (show (r.val * 512 + i.val) / 512 = r.val by omega))
    (Fin.ext (show (r.val * 512 + i.val) / 64 % 8 = i.val / 64 by omega))
    (Fin.ext (show (r.val * 512 + i.val) % 64 = i.val % 64 by omega))
  have e' : idx_main_v19 (idx_main_v20 (ix3 r (head i) (⟨i.val % 64, by omega⟩ : Fin 64))) = ix2 (head i) (⟨i.val % 64, by omega⟩ : Fin 64) := same2 rfl rfl
  rw [val_main_v22_apply, val_main_v21_apply, val_main_v20_apply, val_main_v19_apply, e, e', v17 hA, gain hA, c]
  rfl

theorem v52 (i : Fin 512) : val_main_v52 (F := Ideal) x0 x1 x2 x3 x4 (ix2 r i) = A.dHg r i := by
  have h := v22 hA r i
  have h1 := v23' hA r i
  have h2 := v23'' hA r i
  subst hA
  rw [val_main_v52_apply, val_main_v27_apply, val_main_call1_v2_apply, val_main_call1_v1_apply, val_main_call1_v0_apply, val_main_v25_apply, val_main_v2_apply, h, h1, h2]
  rfl

/-! ## The gain -/

theorem v28 (h : Fin 8) (k : Fin 64) : val_main_v28 (F := Ideal) x2 x4 (ix3 r h k) = A.dn r (col h k) := by
  have g := v23 hA r (col h k)
  subst hA
  have hr : r.val < 8192 := r.isLt
  have hh : h.val < 8 := h.isLt
  have hk : k.val < 64 := k.isLt
  have e : idx_main_v28 (ix3 r h k) = ix2 r (col h k) := same2
    (Fin.ext (show ((r.val * 8 + h.val) * 64 + k.val) / 512 = r.val by omega))
    (Fin.ext (show ((r.val * 8 + h.val) * 64 + k.val) % 512 = h.val * 64 + k.val by omega))
  rw [val_main_v28_apply, val_main_v26_apply, val_main_v2_apply, e, g]
  rfl

theorem v30 (h : Fin 8) (k : Fin 64) : val_main_v30 (F := Ideal) x0 x1 x2 x4 (ix2 h k) = ∑ r, A.pG r (col h k) := by
  have e : ∀ r, idx_main_v30 (ix2 h k) r = ix3 r h k := fun r => same3 rfl rfl rfl
  simp only [val_main_v30_apply, val_main_v29_apply, val_main_cst_3_apply, e, v17 hA, v28 hA, zero_lit, zero_add]
  rfl

theorem v35 (i : Fin 512) : val_main_v35 (F := Ideal) x0 x1 x2 x4 (ix2 0 i) = ∑ r, A.pG r i := by
  have hi : i.val < 512 := i.isLt
  have c : col (head i) ⟨i.val % 64, by omega⟩ = i := Fin.ext (show i.val / 64 * 64 + i.val % 64 = i.val by omega)
  have e : ∀ k, idx_main_v34 (idx_main_v35 (ix2 0 i)) k = ix3 0 (head i) (⟨i.val % 64, by omega⟩ : Fin 64) := fun k => same3 (Subsingleton.elim (α := Fin 1) _ _)
    (Fin.ext (show (0 * 512 + i.val) / 64 = i.val / 64 by omega))
    (Fin.ext (show (0 * 512 + i.val) % 64 = i.val % 64 by omega))
  have e' : idx_main_v31 (ix3 0 (head i) (⟨i.val % 64, by omega⟩ : Fin 64)) = ix2 (head i) (⟨i.val % 64, by omega⟩ : Fin 64) := same2
    (Fin.ext (show ((0 * 8 + i.val / 64) * 64 + i.val % 64) / 64 = i.val / 64 by omega))
    (Fin.ext (show ((0 * 8 + i.val / 64) * 64 + i.val % 64) % 64 = i.val % 64 by omega))
  simp only [val_main_v35_apply, val_main_v34_apply, val_main_v31_apply, val_main_cst_4_apply, e, e', v30 hA, c, Fin.sum_univ_one, zero_lit, zero_add]

/-! ## The recurrence's output -/

theorem v33 (h : Fin 8) (k : Fin 64) : val_main_v33 (F := Ideal) x2 x3 x4 (ix3 r h k) = A.e r (col h k) := by
  have e' : idx_main_v19 (idx_main_v32 (ix3 r h k)) = ix2 h k := same2 rfl rfl
  rw [val_main_v33_apply, val_main_v32_apply, val_main_v19_apply, e', v28 hA, gain hA]
  rfl

theorem v44 (h : Fin 8) : val_main_v44 (F := Ideal) x0 x1 x2 x3 x4 (ix2 r h) = msGrad c64 (A.heads r h) (fun k => A.e r (col h k)) := by
  have e : ∀ k, idx_main_v44 (ix2 r h) k = ix3 r h 0 := fun k => same3 rfl rfl (Subsingleton.elim (α := Fin 1) _ _)
  have hr : r.val < 8192 := r.isLt
  have hh : h.val < 8 := h.isLt
  have e' : ∀ k, idx_main_v37 (idx_main_v38 (ix3 r h 0)) k = ix3 r h k := fun k => same3
    (Fin.ext (show ((r.val * 8 + h.val) * 1 + 0) / 8 = r.val by omega))
    (Fin.ext (show ((r.val * 8 + h.val) * 1 + 0) % 8 = h.val by omega)) rfl
  simp only [val_main_v44_apply, val_main_v43_apply, val_main_v42_apply, val_main_v41_apply, val_main_v38_apply, val_main_v37_apply, val_main_v36_apply, val_main_cst_5_apply, val_main_cst_6_apply, val_main_cst_7_apply, e, e', v4 hA, v33 hA, v15 hA, Fin.sum_univ_one, zero_lit, zero_add]
  rfl

theorem v49 (h : Fin 8) (k : Fin 64) : val_main_v49 (F := Ideal) x0 x1 x2 x3 x4 (ix3 r h k) = A.dO r (col h k) := by
  have e : idx_main_v39 (ix3 r h k) = ix3 r h 0 := same3 rfl rfl rfl
  have e' : idx_main_v45 (ix3 r h k) = ix2 r h := same2 rfl rfl
  rw [val_main_v49_apply, val_main_v48_apply, val_main_v47_apply, val_main_v46_apply, val_main_v45_apply, val_main_v40_apply, val_main_v39_apply, e, e', v4 hA, v33 hA, v12 hA, v44 hA, Rows.dO, head_col]
  rfl

theorem v51 (i : Fin 512) : val_main_v51 (F := Ideal) x0 x1 x2 x3 x4 (ix2 r i) = A.dO r i := by
  have hr : r.val < 8192 := r.isLt
  have hi : i.val < 512 := i.isLt
  have c : col (head i) ⟨i.val % 64, by omega⟩ = i := Fin.ext (show i.val / 64 * 64 + i.val % 64 = i.val by omega)
  have e : idx_main_v50 (ix2 r i) = ix3 r (head i) (⟨i.val % 64, by omega⟩ : Fin 64) := same3
    (Fin.ext (show (r.val * 512 + i.val) / 512 = r.val by omega))
    (Fin.ext (show (r.val * 512 + i.val) / 64 % 8 = i.val / 64 by omega))
    (Fin.ext (show (r.val * 512 + i.val) % 64 = i.val % 64 by omega))
  rw [val_main_v51_apply, val_main_v50_apply, e, v49 hA, c]
  rfl

end Cert.GlaOut.Ref

end
-- ==== Proof.GlaOutArr.lean ====
/-
  The arrays the backward call of the recurrence's norm and gate leaves: 16 grid points with blocks of 512 rows, and the
  gain's gradient summed over them.
-/
module

public import proofs.«01_k».proof.Proof.GlaOutPay
public import proofs.«01_k».proof.Proof.GlaOutRef
public import proofs.«01_k».proof.Proof.PostBwdLoads
public import proofs.«01_k».proof.Proof.Gen.Kernel11Ideal.Frame
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.GlaOut

open Idealize.ShloMosaic Idealize.ShloMosaic.TcCoe Idealize.SL.Sem Cert.Post
open Cert.PostBwd (entry)
open Cert.Kernel11Ideal Cert.Kernel11Ideal.Gen

variable (m : (ℓ : Loc nD τ sig) → Buf (Elt Ideal) ℓ) (c : Dev nD)

/-- The arguments' entries. -/
def whole : Rows 8192 :=
  Ref.args (m ((c.tc : Thread nD τ).loc main_arg0)) (m ((c.tc : Thread nD τ).loc main_arg1)) (m ((c.tc : Thread nD τ).loc main_arg4))
    (m ((c.tc : Thread nD τ).loc main_arg2)) (m ((c.tc : Thread nD τ).loc main_arg3))

/-- The row of the whole arrays that row `a` of grid point `t`'s blocks is. -/
def row (t : Fin 16) (a : Fin 512) : Fin 8192 := ⟨t.val * 512 + a.val, by omega⟩

/-- A grid point's rows. -/
def group (t : Fin 16) : Rows 512 := (whole m c).take (row t)

/-- Where the blocks lie at grid point `t`. -/
theorem idx0 : ∀ t : Fin grid0.N,
    ((win0_0.index t 0 = t.val ∧ win0_0.index t 1 = 0) ∧ (win0_1.index t 0 = t.val ∧ win0_1.index t 1 = 0) ∧ (win0_2.index t 0 = t.val ∧ win0_2.index t 1 = 0)
      ∧ (win0_3.index t 0 = 0 ∧ win0_3.index t 1 = 0) ∧ (win0_4.index t 0 = t.val ∧ win0_4.index t 1 = 0))
    ∧ ((win0_5.index t 0 = t.val ∧ win0_5.index t 1 = 0) ∧ (win0_6.index t 0 = t.val ∧ win0_6.index t 1 = 0) ∧ (win0_7.index t 0 = 0 ∧ win0_7.index t 1 = 0)) := by
  decide +kernel

/-- What a grid point loads. -/
theorem loads (t : Fin cfg0.N) :
    Loads (group m c t) (iblk m c (0 : Fin 8) t) (iblk m c (1 : Fin 8) t) (iblk m c (2 : Fin 8) t) (iblk m c (3 : Fin 8) t) (iblk m c (4 : Fin 8) t) where
  f a i := by
    obtain ⟨⟨⟨h0, h1⟩, -⟩, -⟩ := idx0 t
    change iblk m c (0 : Fin 8) t (ix2 a i) = (whole m c).f (row t a) i
    unfold whole Ref.args
    blk_ext [iblk, V, h0, h1, row]
  b a i := by
    obtain ⟨⟨-, ⟨h0, h1⟩, -⟩, -⟩ := idx0 t
    change iblk m c (1 : Fin 8) t (ix2 a i) = (whole m c).b (row t a) i
    unfold whole Ref.args
    blk_ext [iblk, V, h0, h1, row]
  hg a i := by
    obtain ⟨⟨-, -, ⟨h0, h1⟩, -⟩, -⟩ := idx0 t
    change iblk m c (2 : Fin 8) t (ix2 a i) = (whole m c).hg (row t a) i
    unfold whole Ref.args
    blk_ext [iblk, V, h0, h1, row]
  g i := by
    obtain ⟨⟨-, -, -, ⟨h0, h1⟩, -⟩, -⟩ := idx0 t
    change iblk m c (3 : Fin 8) t (ix2 0 i) = (whole m c).gh i
    unfold whole Ref.args
    blk_ext [iblk, V, h0, h1]
  dy a i := by
    obtain ⟨⟨-, -, -, -, ⟨h0, h1⟩⟩, -⟩ := idx0 t
    change iblk m c (4 : Fin 8) t (ix2 a i) = (whole m c).dy (row t a) i
    unfold whole Ref.args
    blk_ext [iblk, V, h0, h1, row]

variable {m c} (hA : (whole m c).Real)
include hA

theorem group_real (t : Fin 16) : (group m c t).Real :=
  ⟨fun a => hA.o (row t a), fun a => hA.hg (row t a), fun a => hA.dy (row t a), hA.gh⟩

/-! ## The rows' gradients -/

theorem out_dO (t : Fin cfg0.N) (y : S512x512.Idx) : (outsAt0 m c t.val t.isLt).1 y = (whole m c).dO (row t (y 0)) (y 1) := by
  by_cases h : t.val % 16 = 0
  · rw [outsAt0_A m c t h]
    frame_out
    exact entry (fun a k => (whole m c).dO (row t a) k) ((loads m c t).dO (group_real hA t)) y
  · rw [outsAt0_B m c t h]
    frame_out
    exact entry (fun a k => (whole m c).dO (row t a) k) ((loads m c t).dO (group_real hA t)) y

theorem array_dO : (dats m 0 c).arrAt (5 : Fin 8) cfg0.N = fun y : S8192x512.Idx => (whole m c).dO (y 0) (y 1) := by
  refine (dats m 0 c).arrAt_eq_of_covers (5 : Fin 8) _ (by decide +kernel) fun t hf y => ?_
  obtain ⟨-, ⟨h0, h1⟩, -⟩ := idx0 t
  blk_simp
  rw [after0_5]
  change S512x512.Idx at y
  refine (out_dO hA t y).trans (congrArg₂ (whole m c).dO (Fin.ext ?_) (Fin.ext ?_))
  · blk_simp; simp only [h0, row]
  · blk_simp; simp only [h1]; omega

theorem out_dHg (t : Fin cfg0.N) (y : S512x512.Idx) : (outsAt0 m c t.val t.isLt).2.1 y = (whole m c).dHg (row t (y 0)) (y 1) := by
  by_cases h : t.val % 16 = 0
  · rw [outsAt0_A m c t h]
    frame_out
    exact entry (fun a k => (whole m c).dHg (row t a) k) ((loads m c t).dHg (group_real hA t)) y
  · rw [outsAt0_B m c t h]
    frame_out
    exact entry (fun a k => (whole m c).dHg (row t a) k) ((loads m c t).dHg (group_real hA t)) y

theorem array_dHg : (dats m 0 c).arrAt (6 : Fin 8) cfg0.N = fun y : S8192x512.Idx => (whole m c).dHg (y 0) (y 1) := by
  refine (dats m 0 c).arrAt_eq_of_covers (6 : Fin 8) _ (by decide +kernel) fun t hf y => ?_
  obtain ⟨-, -, ⟨h0, h1⟩, -⟩ := idx0 t
  blk_simp
  rw [after0_6]
  change S512x512.Idx at y
  refine (out_dHg hA t y).trans (congrArg₂ (whole m c).dHg (Fin.ext ?_) (Fin.ext ?_))
  · blk_simp; simp only [h0, row]
  · blk_simp; simp only [h1]; omega

/-! ## The gain's gradient -/

omit hA in
/-- What grid point `t` adds. -/
def term_pG (m : (ℓ : Loc nD τ sig) → Buf (Elt Ideal) ℓ) (c : Dev nD) (t : Fin 16) (y : S1x512.Idx) : EReal := ∑ a, (group m c t).pG a (y 1)

theorem first_pG (t : Fin cfg0.N) (h : t.val % 16 = 0) (y : S1x512.Idx) : (outsAt0 m c t.val t.isLt).2.2 y = 0 + term_pG m c t y := by
  rw [outsAt0_A m c t h]
  frame_open
  simp (disch := decide) only [↓ View.readCov_cons_toLoadRect]
  frame_out
  rw [(loads m c t).pG (group_real hA t)]
  exact congrArg₂ (· + ·) (zero5 y) rfl

theorem next_pG (t : Fin cfg0.N) (h : ¬t.val % 16 = 0) (y : S1x512.Idx) : (outsAt0 m c t.val t.isLt).2.2 y
    = (outsAt0 m c (t.val - 1) (Nat.lt_of_le_of_lt (Nat.sub_le _ _) t.isLt)).2.2 y + term_pG m c t y := by
  rw [outsAt0_B m c t h]
  frame_open
  simp (disch := decide) only [↓ View.readCov_cons_toLoadRect]
  frame_out
  rw [(loads m c t).pG (group_real hA t)]
  rfl

omit hA in
/-- The points' groups run over all rows. -/
theorem sum_pG (t : Fin 16) (g : ∀ s : Fin 16, 16 * (t.val / 16) + s.val < 16) (y : S1x512.Idx) :
    ∑ s : Fin 16, term_pG m c ⟨16 * (t.val / 16) + s.val, g s⟩ y = ∑ r, (whole m c).pG r (y 1) := by
  have e : ∀ s : Fin 16, term_pG m c ⟨16 * (t.val / 16) + s.val, g s⟩ y = ∑ a : Fin 512, (whole m c).pG (row s a) (y 1) := fun s => by
    have hs : (⟨16 * (t.val / 16) + s.val, g s⟩ : Fin 16) = s := Fin.ext (show 16 * (t.val / 16) + s.val = s.val by omega)
    rw [hs]
    rfl
  simp only [e]
  exact Fin.sum_mul_add_congr (S := 16) (n := 512) fun s a hl => rfl

theorem out_pG (t : Fin cfg0.N) (h : t.val % 16 = 15) (y : S1x512.Idx) : (outsAt0 m c t.val t.isLt).2.2 y = ∑ r, (whole m c).pG r (y 1) := by
  have ht : t.val < 16 := t.isLt
  rw [Pipeline.eq_sum_fin_of_reset_step_apply_of_flush (fun n h => (outsAt0 m c n h).2.2) 16 (fun _ => 0) (term_pG m c)
    (fun s hs z => first_pG hA s hs z) (fun s hs z => next_pG hA s hs z) t h]
  exact (zero_add _).trans (sum_pG t _ y)

theorem array_pG : (dats m 0 c).arrAt (7 : Fin 8) cfg0.N = fun y : S1x512.Idx => ∑ r, (whole m c).pG r (y 1) := by
  refine (dats m 0 c).arrAt_eq_of_covers (7 : Fin 8) _ (by decide +kernel) fun t hf y => ?_
  have h := (flush0_7 t).mp hf
  obtain ⟨-, -, -, ⟨h0, h1⟩⟩ := idx0 t
  blk_simp
  rw [after0_7]
  change S1x512.Idx at y
  refine (out_pG hA t h y).trans (Finset.sum_congr rfl fun r _ => congrArg ((whole m c).pG r) (Fin.ext ?_))
  blk_simp; simp only [h1]; omega

end Cert.GlaOut

end
-- ==== Proof.GlaOutClaim.lean ====
/-
  The backward call of the recurrence's norm and gate: on arguments that are real numbers, the call leaves in its three result
  arrays exactly what the reference leaves in its three.
-/
module

public import proofs.«01_k».proof.Defs
public import proofs.«01_k».proof.Proof.GlaOutArr
public import proofs.«01_k».proof.Proof.PostClaim
public import proofs.«01_k».proof.Proof.Gen.Reference11Ideal.Run
public import proofs.«01_k».proof.Proof.Gen.Pre_finite11

@[expose] public section

set_option maxRecDepth 16384

noncomputable section

namespace Cert.GlaOut

open Idealize.ShloMosaic Idealize.ShloMosaic.TcCoe Idealize.SL.Sem Cert.Post

/-- The reference's run reads its arguments and has no semaphore. -/
theorem frame_reference : Cert.quiescent_Reference11Ideal := by
  intro m ρ _
  exact (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The value claim. -/
theorem algebraic : Cert.algebraic_Kernel11Ideal_Reference11Ideal_pre_finite11 := by
  intro m g m' g' pre same
  have hreal : ∀ c, (whole m c).Real := fun c =>
    { o := fun r i => ⟨_, (congrArg₂ (· + ·) (real_of_below (congrFun (pre c).1 (ix2 r i)))
        (real_of_below (congrFun (pre c).2.1 (ix2 r i)))).trans (EReal.coe_add _ _).symm⟩
      hg := fun r i => ⟨_, real_of_below (congrFun (pre c).2.2.1 (ix2 r i))⟩
      gh := fun i => ⟨_, real_of_below (congrFun (pre c).2.2.2.1 (ix2 0 i))⟩
      dy := fun r i => ⟨_, real_of_below (congrFun (pre c).2.2.2.2 (ix2 r i))⟩ }
  refine ⟨fun c => fun y : Cert.Kernel11Ideal.S8192x512.Idx => (whole m c).dO (y 0) (y 1),
    fun c => fun y : Cert.Kernel11Ideal.S8192x512.Idx => (whole m c).dHg (y 0) (y 1),
    fun c => fun y : Cert.Kernel11Ideal.S1x512.Idx => (∑ r, (whole m c).pG r (y 1) : EReal), ?_, ?_⟩
  · refine (θ_run Cert.Kernel11Ideal.defs _ _).mono (fun r h c => ?_)
      (θ_run_and (Cert.Kernel11Ideal.Gen.run_main m g) (Cert.Kernel11Ideal.Gen.unchanged m g))
    have w := (h.1 c).1
    exact ⟨(w (5 : Fin 8)).trans (array_dO (hreal c)), (w (6 : Fin 8)).trans (array_dHg (hreal c)), (w (7 : Fin 8)).trans (array_pG (hreal c)), h.2 c⟩
  · refine (θ_run Cert.Reference11Ideal.defs _ _).mono (fun r h c => ?_) (Cert.Reference11Ideal.Value.run (F := Ideal) m' g')
    obtain ⟨h0, h1, h2, ha⟩ := h c
    obtain ⟨s0, s1, s2, s3, s4⟩ := same c
    have hA : whole m c = Ref.args (m' ((c.tc : Thread Cert.Reference11Ideal.nD Cert.Reference11Ideal.τ).loc Cert.Reference11Ideal.main_arg0))
        (m' ((c.tc : Thread Cert.Reference11Ideal.nD Cert.Reference11Ideal.τ).loc Cert.Reference11Ideal.main_arg1))
        (m' ((c.tc : Thread Cert.Reference11Ideal.nD Cert.Reference11Ideal.τ).loc Cert.Reference11Ideal.main_arg4))
        (m' ((c.tc : Thread Cert.Reference11Ideal.nD Cert.Reference11Ideal.τ).loc Cert.Reference11Ideal.main_arg2))
        (m' ((c.tc : Thread Cert.Reference11Ideal.nD Cert.Reference11Ideal.τ).loc Cert.Reference11Ideal.main_arg3)) := by
      rw [s0, s1, s2, s3, s4]
      rfl
    exact ⟨h0.trans ((Cert.Reference11Ideal.Read.val_main_v51_eq _ _).trans (array_eq (Ref.v51 hA))),
      h1.trans ((Cert.Reference11Ideal.Read.val_main_v52_eq _ _ _ _ _).trans (array_eq (Ref.v52 hA))),
      h2.trans ((Cert.Reference11Ideal.Read.val_main_v35_eq _ _ _ _).trans (funext fun y => Cert.PostBwd.column (F := fun k => (∑ r, (whole m c).pG r k : EReal)) (Ref.v35 hA) y)), ha⟩

end Cert.GlaOut

end
-- ==== Proof.Adam.lean ====
/-
  One AdamW step on one entry, over the extended reals, with the constants as both sides write them: their nearest words of
  32 bits.
-/
module

public import Idealize.ShloMosaic.PureOps.Ideal
public import Idealize.ShloMosaic.Lib.Pointwise

@[expose] public section

noncomputable section

namespace Cert.Adam

open Idealize.ShloMosaic

/-- The number that a word of 32 bits is. -/
abbrev lit (w : BitVec 32) : EReal := FloatOps.ofBits (F := Ideal) .f32 w

/-- The new first moment: 0.9 of the old one and 0.1 of the gradient. -/
def moment (m g : EReal) : EReal := lit 0x3F666666#32 * m + lit 0x3DCCCCCD#32 * g

/-- The new second moment: 0.999 of the old one and 0.001 of the gradient's square. -/
def square (v g : EReal) : EReal := lit 0x3F7FBE77#32 * v + lit 0x3A83126F#32 * (g * g)

/-- The change of the weight: the corrected first moment over the root of the corrected second one, and the decay. -/
def delta (w g m v : EReal) : EReal :=
  lit 0xBA83126F#32 * (Ideal.div (Ideal.div (moment m g) (lit 0x3F26BD02#32))
    (Ideal.sqrt (Ideal.div (square v g) (lit 0x3C231ACC#32)) + lit 0x322BCC77#32) + lit 0x3C23D70A#32 * w)

/-- The changes of a whole array of weights, its new first moments and its new second ones. -/
def deltas {s : Shape} (w g m v : s.Idx → EReal) (y : s.Idx) : EReal := delta (w y) (g y) (m y) (v y)
def moments {s : Shape} (g m : s.Idx → EReal) (y : s.Idx) : EReal := moment (m y) (g y)
def squares {s : Shape} (g v : s.Idx → EReal) (y : s.Idx) : EReal := square (v y) (g y)

/-- Eight summands added one after the other are their sum. -/
theorem sum_eight (f : Fin 8 → EReal) : f 0 + f 1 + f 2 + f 3 + f 4 + f 5 + f 6 + f 7 = ∑ d, f d := by
  simp only [Fin.sum_univ_succ, Fin.sum_univ_zero, add_zero, ← add_assoc]
  rfl

end Cert.Adam

end
-- ==== Proof.Adam12.lean ====
/-
  The update of the first four small weights, the gains of the first norm, of the recurrence's norm and of the two latent norms: the twelve arrays, the reference, and both together.
-/
module

public import proofs.«01_k».proof.Defs
public import proofs.«01_k».proof.Proof.Adam
public import proofs.«01_k».proof.Proof.Gen.Kernel12Ideal.Frame
public import proofs.«01_k».proof.Proof.Gen.Reference12Ideal.Read
public import proofs.«01_k».proof.Proof.Gen.Reference12Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam12

open Idealize.ShloMosaic Idealize.ShloMosaic.TcCoe Idealize.SL.Sem Cert.Adam

section
open Cert.Kernel12Ideal Cert.Kernel12Ideal.Gen

variable (m : (ℓ : Loc nD τ sig) → Buf (Elt Ideal) ℓ) (c : Dev nD)

/-- An argument on a device. -/
abbrev arg (r : Ref sig .tc) : Buf (Elt Ideal) ((c.tc : Thread nD τ).loc r) := m ((c.tc : Thread nD τ).loc r)

set_option maxHeartbeats 4000000 in
/-- The twelve arrays: four changes, four first moments, four second ones. -/
theorem arrays :
    (dats m 0 c).arrAt (16 : Fin 28) cfg0.N = deltas (s := S1x1024) (arg m c main_arg0) (arg m c main_arg4) (arg m c main_arg8) (arg m c main_arg12)
    ∧ (dats m 0 c).arrAt (17 : Fin 28) cfg0.N = deltas (s := S1x512) (arg m c main_arg1) (arg m c main_arg5) (arg m c main_arg9) (arg m c main_arg13)
    ∧ (dats m 0 c).arrAt (18 : Fin 28) cfg0.N = deltas (s := S1x384) (arg m c main_arg2) (arg m c main_arg6) (arg m c main_arg10) (arg m c main_arg14)
    ∧ (dats m 0 c).arrAt (19 : Fin 28) cfg0.N = deltas (s := S1x256) (arg m c main_arg3) (arg m c main_arg7) (arg m c main_arg11) (arg m c main_arg15)
    ∧ (dats m 0 c).arrAt (20 : Fin 28) cfg0.N = moments (s := S1x1024) (arg m c main_arg4) (arg m c main_arg8)
    ∧ (dats m 0 c).arrAt (21 : Fin 28) cfg0.N = moments (s := S1x512) (arg m c main_arg5) (arg m c main_arg9)
    ∧ (dats m 0 c).arrAt (22 : Fin 28) cfg0.N = moments (s := S1x384) (arg m c main_arg6) (arg m c main_arg10)
    ∧ (dats m 0 c).arrAt (23 : Fin 28) cfg0.N = moments (s := S1x256) (arg m c main_arg7) (arg m c main_arg11)
    ∧ (dats m 0 c).arrAt (24 : Fin 28) cfg0.N = squares (s := S1x1024) (arg m c main_arg4) (arg m c main_arg12)
    ∧ (dats m 0 c).arrAt (25 : Fin 28) cfg0.N = squares (s := S1x512) (arg m c main_arg5) (arg m c main_arg13)
    ∧ (dats m 0 c).arrAt (26 : Fin 28) cfg0.N = squares (s := S1x384) (arg m c main_arg6) (arg m c main_arg14)
    ∧ (dats m 0 c).arrAt (27 : Fin 28) cfg0.N = squares (s := S1x256) (arg m c main_arg7) (arg m c main_arg15) := by
  refine ⟨?_, ?_, ?_, ?_, ?_, ?_, ?_, ?_, ?_, ?_, ?_, ?_⟩
  all_goals
    refine (dats m 0 c).arrAt_eq_of_covers _ _ (by decide +kernel) fun t hf y => ?_
    simp only [after0_16, after0_17, after0_18, after0_19, after0_20, after0_21, after0_22, after0_23, after0_24, after0_25, after0_26, after0_27]
    first
      | unfold out0_16
      | unfold out0_17
      | unfold out0_18
      | unfold out0_19
      | unfold out0_20
      | unfold out0_21
      | unfold out0_22
      | unfold out0_23
      | unfold out0_24
      | unfold out0_25
      | unfold out0_26
      | unfold out0_27
    frame_out
    rfl

end

/-- The reference's run reads its arguments and has no semaphore. -/
theorem frame_reference : Cert.quiescent_Reference12Ideal := by
  intro m ρ _
  exact (θ_run Cert.Reference12Ideal.defs _ _).mono
    (fun r h => ⟨fun c => (h c).2.2.2.2.2.2.2.2.2.2.2.2, Idealize.ShloMosaic.sem_eq_zero_of_no_sems (by decide) r.2⟩)
    (Cert.Reference12Ideal.Value.run (F := Ideal) m ρ)

set_option maxHeartbeats 4000000 in
/-- The value claim. -/
theorem algebraic : Cert.algebraic_Kernel12Ideal_Reference12Ideal := by
  intro m g m' g' _ same
  refine ⟨fun c => deltas (s := Cert.Kernel12Ideal.S1x1024) (arg m c Cert.Kernel12Ideal.main_arg0) (arg m c Cert.Kernel12Ideal.main_arg4) (arg m c Cert.Kernel12Ideal.main_arg8) (arg m c Cert.Kernel12Ideal.main_arg12),
    fun c => deltas (s := Cert.Kernel12Ideal.S1x512) (arg m c Cert.Kernel12Ideal.main_arg1) (arg m c Cert.Kernel12Ideal.main_arg5) (arg m c Cert.Kernel12Ideal.main_arg9) (arg m c Cert.Kernel12Ideal.main_arg13),
    fun c => deltas (s := Cert.Kernel12Ideal.S1x384) (arg m c Cert.Kernel12Ideal.main_arg2) (arg m c Cert.Kernel12Ideal.main_arg6) (arg m c Cert.Kernel12Ideal.main_arg10) (arg m c Cert.Kernel12Ideal.main_arg14),
    fun c => deltas (s := Cert.Kernel12Ideal.S1x256) (arg m c Cert.Kernel12Ideal.main_arg3) (arg m c Cert.Kernel12Ideal.main_arg7) (arg m c Cert.Kernel12Ideal.main_arg11) (arg m c Cert.Kernel12Ideal.main_arg15),
    fun c => moments (s := Cert.Kernel12Ideal.S1x1024) (arg m c Cert.Kernel12Ideal.main_arg4) (arg m c Cert.Kernel12Ideal.main_arg8),
    fun c => moments (s := Cert.Kernel12Ideal.S1x512) (arg m c Cert.Kernel12Ideal.main_arg5) (arg m c Cert.Kernel12Ideal.main_arg9),
    fun c => moments (s := Cert.Kernel12Ideal.S1x384) (arg m c Cert.Kernel12Ideal.main_arg6) (arg m c Cert.Kernel12Ideal.main_arg10),
    fun c => moments (s := Cert.Kernel12Ideal.S1x256) (arg m c Cert.Kernel12Ideal.main_arg7) (arg m c Cert.Kernel12Ideal.main_arg11),
    fun c => squares (s := Cert.Kernel12Ideal.S1x1024) (arg m c Cert.Kernel12Ideal.main_arg4) (arg m c Cert.Kernel12Ideal.main_arg12),
    fun c => squares (s := Cert.Kernel12Ideal.S1x512) (arg m c Cert.Kernel12Ideal.main_arg5) (arg m c Cert.Kernel12Ideal.main_arg13),
    fun c => squares (s := Cert.Kernel12Ideal.S1x384) (arg m c Cert.Kernel12Ideal.main_arg6) (arg m c Cert.Kernel12Ideal.main_arg14),
    fun c => squares (s := Cert.Kernel12Ideal.S1x256) (arg m c Cert.Kernel12Ideal.main_arg7) (arg m c Cert.Kernel12Ideal.main_arg15), ?_, ?_⟩
  · refine (θ_run Cert.Kernel12Ideal.defs _ _).mono (fun r h c => ?_)
      (θ_run_and (Cert.Kernel12Ideal.Gen.run_main m g) (Cert.Kernel12Ideal.Gen.unchanged m g))
    have w := (h.1 c).1
    obtain ⟨a0, a1, a2, a3, a4, a5, a6, a7, a8, a9, a10, a11⟩ := arrays m c
    exact ⟨(w 16).trans a0, (w 17).trans a1, (w 18).trans a2, (w 19).trans a3, (w 20).trans a4, (w 21).trans a5, (w 22).trans a6, (w 23).trans a7, (w 24).trans a8, (w 25).trans a9, (w 26).trans a10, (w 27).trans a11, h.2 c⟩
  · refine (θ_run Cert.Reference12Ideal.defs _ _).mono (fun r h c => ?_) (Cert.Reference12Ideal.Value.run (F := Ideal) m' g')
    obtain ⟨h0, h1, h2, h3, h4, h5, h6, h7, h8, h9, h10, h11, ha⟩ := h c
    obtain ⟨s0, s1, s2, s3, s4, s5, s6, s7, s8, s9, s10, s11, s12, s13, s14, s15⟩ := same c
    refine ⟨h0.trans ?_, h1.trans ?_, h2.trans ?_, h3.trans ?_, h4.trans ?_, h5.trans ?_, h6.trans ?_, h7.trans ?_, h8.trans ?_, h9.trans ?_, h10.trans ?_, h11.trans ?_, ha⟩
    all_goals
      simp only [s0, s1, s2, s3, s4, s5, s6, s7, s8, s9, s10, s11, s12, s13, s14, s15]
      rfl

end Cert.Adam12

end
-- ==== Proof.Adam13.lean ====
/-
  The update of one of the latent projections' weights: a block's payload, the four arrays, the reference, and both
  together.
-/
module

public import proofs.«01_k».proof.Defs
public import proofs.«01_k».proof.Proof.Adam
public import proofs.«01_k».proof.Proof.Gen.Kernel13Ideal.Frame
public import proofs.«01_k».proof.Proof.Gen.Reference13Ideal.Read
public import proofs.«01_k».proof.Proof.Gen.Reference13Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam13

open Idealize.ShloMosaic Idealize.ShloMosaic.TcCoe Idealize.SL.Sem Cert.Adam

section
open Cert.Kernel13Ideal Cert.Kernel13Ideal.Gen

variable (m : (ℓ : Loc nD τ sig) → Buf (Elt Ideal) ℓ) (c : Dev nD)

def weight (y : S96x384.Idx) : EReal := m ((c.tc : Thread nD τ).loc main_arg0) y
def first (y : S96x384.Idx) : EReal := m ((c.tc : Thread nD τ).loc main_arg2) y
def second (y : S96x384.Idx) : EReal := m ((c.tc : Thread nD τ).loc main_arg3) y

/-- The gradient: the devices' summands added. -/
def grad (y : S96x384.Idx) : EReal := ∑ d : Fin 8, (m ((c.tc : Thread nD τ).loc main_arg1) (ix3 d (y 0) (y 1)) : EReal)

/-- The entry of the whole arrays that entry `y` of grid point `t`'s blocks is. -/
def at' (t : Fin 1) (y : S96x384.Idx) : S96x384.Idx := ix2 ⟨t.val * 96 + (y 0).val, by have := (y 0).isLt; change (y 0).val < 96 at this; omega⟩ (y 1)

theorem idx0 : ∀ t : Fin grid0.N,
    ((win0_0.index t 0 = t.val ∧ win0_0.index t 1 = 0) ∧ (win0_1.index t 0 = 0 ∧ win0_1.index t 1 = t.val ∧ win0_1.index t 2 = 0)
      ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
      ∧ (win0_6.index t 0 = t.val ∧ win0_6.index t 1 = 0) ∧ (win0_7.index t 0 = t.val ∧ win0_7.index t 1 = 0)) := by
  decide +kernel

theorem blk_w (t : Fin cfg0.N) (y : S96x384.Idx) : iblk m c (0 : Fin 8) t y = weight m c (at' t y) := by
  obtain ⟨⟨⟨h0, h1⟩, -⟩, -⟩ := idx0 t
  unfold weight at'
  blk_ext [iblk, V, h0, h1]

theorem blk_g (t : Fin cfg0.N) (d : Fin 8) (y : S96x384.Idx) : iblk m c (1 : Fin 8) t (ix3 d (y 0) (y 1))
    = m ((c.tc : Thread nD τ).loc main_arg1) (ix3 d (at' t y 0) (at' t y 1)) := by
  obtain ⟨⟨-, ⟨h0, h1, h2⟩, -⟩, -⟩ := idx0 t
  unfold at'
  blk_ext [iblk, V, h0, h1, h2]

theorem blk_m (t : Fin cfg0.N) (y : S96x384.Idx) : iblk m c (2 : Fin 8) t y = first m c (at' t y) := by
  obtain ⟨⟨-, -, ⟨h0, h1⟩, -⟩, -⟩ := idx0 t
  unfold first at'
  blk_ext [iblk, V, h0, h1]

theorem blk_v (t : Fin cfg0.N) (y : S96x384.Idx) : iblk m c (3 : Fin 8) t y = second m c (at' t y) := by
  obtain ⟨⟨-, -, -, ⟨h0, h1⟩⟩, -⟩ := idx0 t
  unfold second at'
  blk_ext [iblk, V, h0, h1]

/-- The eight slots of a block added. -/
theorem pay_g (x : Vec Ideal S8x96x384 .bf16) (y : S96x384.Idx) :
    k0_pay4 (View.ld x r0_0) (View.ld x r0_1) (View.ld x r0_2) (View.ld x r0_3) (View.ld x r0_4) (View.ld x r0_5) (View.ld x r0_6) (View.ld x r0_7) y
      = ∑ d : Fin 8, (x (ix3 d (y 0) (y 1)) : EReal) := by
  rw [← sum_eight]
  pointwise [k0_pay4]

theorem pay_m (g : FVec Ideal S96x384 .f32) (x : Vec Ideal S96x384 .f32) (y : S96x384.Idx) : k0_pay1 g x y = moment (x y) (g y) := rfl
theorem pay_v (g : FVec Ideal S96x384 .f32) (x : Vec Ideal S96x384 .f32) (y : S96x384.Idx) : k0_pay2 g x y = square (x y) (g y) := rfl
theorem pay_d (g : FVec Ideal S96x384 .f32) (w x v : Vec Ideal S96x384 .f32) (y : S96x384.Idx) :
    k0_pay3 g w x v y = delta (w y) (g y) (x y) (v y) := rfl

theorem point_g (t : Fin cfg0.N) (y : S96x384.Idx) :
    k0_pay5 (iblk m c (0 : Fin 8) t) (iblk m c (1 : Fin 8) t) (iblk m c (2 : Fin 8) t) (iblk m c (3 : Fin 8) t) y = grad m c (at' t y) := by
  refine (pay_g _ y).trans (Finset.sum_congr rfl fun d _ => blk_g m c t d y)

/-- An entry given by its coordinates. -/
theorem at_eq {t : Fin 1} {y : S96x384.Idx} {z : S96x384.Idx} (h0 : (z 0).val = t.val * 96 + (y 0).val) (h1 : (z 1).val = (y 1).val) :
    at' t y = z := funext fun a => by
  match a with
  | ⟨0, _⟩ => exact Fin.ext h0.symm
  | ⟨1, _⟩ => exact Fin.ext h1.symm

theorem array_g : (dats m 0 c).arrAt (4 : Fin 8) cfg0.N = grad m c := by
  refine (dats m 0 c).arrAt_eq_of_covers (4 : Fin 8) _ (by decide +kernel) fun t hf y => ?_
  obtain ⟨-, ⟨h0, h1⟩, -⟩ := idx0 t
  blk_simp
  rw [after0_4]
  change S96x384.Idx at y
  unfold out0_4
  frame_out
  refine (point_g m c t y).trans (congrArg _ (at_eq ?_ ?_))
  · have e : t.val < 1 := t.isLt
    blk_simp; omega
  · blk_simp; simp only [h1]; omega

theorem array_d : (dats m 0 c).arrAt (5 : Fin 8) cfg0.N = fun y => delta (weight m c y) (grad m c y) (first m c y) (second m c y) := by
  refine (dats m 0 c).arrAt_eq_of_covers (5 : Fin 8) _ (by decide +kernel) fun t hf y => ?_
  obtain ⟨-, -, ⟨h0, h1⟩, -⟩ := idx0 t
  blk_simp
  rw [after0_5]
  change S96x384.Idx at y
  unfold out0_5
  frame_out
  rw [pay_d, point_g, blk_w, blk_m, blk_v]
  refine congrArg (fun y => delta (weight m c y) (grad m c y) (first m c y) (second m c y)) (at_eq ?_ ?_)
  · have e : t.val < 1 := t.isLt
    blk_simp; omega
  · blk_simp; simp only [h1]; omega

theorem array_m : (dats m 0 c).arrAt (6 : Fin 8) cfg0.N = fun y => moment (first m c y) (grad m c y) := by
  refine (dats m 0 c).arrAt_eq_of_covers (6 : Fin 8) _ (by decide +kernel) fun t hf y => ?_
  obtain ⟨-, -, -, ⟨h0, h1⟩, -⟩ := idx0 t
  blk_simp
  rw [after0_6]
  change S96x384.Idx at y
  unfold out0_6
  frame_out
  rw [pay_m, point_g, blk_m]
  refine congrArg (fun y => moment (first m c y) (grad m c y)) (at_eq ?_ ?_)
  · have e : t.val < 1 := t.isLt
    blk_simp; omega
  · blk_simp; simp only [h1]; omega

theorem array_v : (dats m 0 c).arrAt (7 : Fin 8) cfg0.N = fun y => square (second m c y) (grad m c y) := by
  refine (dats m 0 c).arrAt_eq_of_covers (7 : Fin 8) _ (by decide +kernel) fun t hf y => ?_
  obtain ⟨-, -, -, -, ⟨h0, h1⟩⟩ := idx0 t
  blk_simp
  rw [after0_7]
  change S96x384.Idx at y
  unfold out0_7
  frame_out
  rw [pay_v, point_g, blk_v]
  refine congrArg (fun y => square (second m c y) (grad m c y)) (at_eq ?_ ?_)
  · have e : t.val < 1 := t.isLt
    blk_simp; omega
  · blk_simp; simp only [h1]; omega

end

section
open Cert.Reference13Ideal Cert.Reference13Ideal.Read
variable (x0 x2 x3 : (⟨S96x384, .f32⟩ : BufTy).Contents (Elt Ideal)) (x1 : (⟨S8x96x384, .bf16⟩ : BufTy).Contents (Elt Ideal)) (i : S96x384.Idx)

theorem ref_g : val_main_v1 (F := Ideal) x1 i = ∑ d : Fin 8, (x1 (ix3 d (i 0) (i 1)) : EReal) := by
  rw [val_main_v1_apply]
  refine (congrArg₂ (· + ·) (show _ = (0 : EReal) from ?_) (Finset.sum_congr rfl fun k _ => ?_)).trans (zero_add _)
  · rw [val_main_cst_apply]; exact Ideal.ofBits_zero_f32
  · rw [val_main_v0_apply]
    refine congrArg x1 (funext fun a => ?_)
    match a with
    | ⟨0, _⟩ => rfl
    | ⟨1, _⟩ => rfl
    | ⟨2, _⟩ => rfl

theorem ref_m : val_main_v6 (F := Ideal) x1 x2 i = moment (x2 i) (val_main_v1 (F := Ideal) x1 i) := by
  simp only [val_main_v6_apply, val_main_v3_apply, val_main_v5_apply, val_main_v2_apply, val_main_v4_apply]
  rfl
theorem ref_v : val_main_v12 (F := Ideal) x1 x3 i = square (x3 i) (val_main_v1 (F := Ideal) x1 i) := by
  simp only [val_main_v12_apply, val_main_v11_apply, val_main_v8_apply, val_main_v9_apply, val_main_v10_apply, val_main_v7_apply]
  rfl
theorem ref_d : val_main_v25 (F := Ideal) x0 x1 x2 x3 i = delta (x0 i) (val_main_v1 (F := Ideal) x1 i) (x2 i) (x3 i) := by
  rw [delta, ← ref_m, ← ref_v]
  simp only [val_main_v25_apply, val_main_v24_apply, val_main_v23_apply, val_main_v22_apply, val_main_v21_apply, val_main_v20_apply, val_main_v19_apply, val_main_v18_apply, val_main_v17_apply, val_main_v16_apply, val_main_v15_apply, val_main_v13_apply, val_main_v13_apply]
  rfl
end

/-- The reference's run reads its arguments and has no semaphore. -/
theorem frame_reference : Cert.quiescent_Reference13Ideal := by
  intro m ρ _
  exact (θ_run Cert.Reference13Ideal.defs _ _).mono
    (fun r h => ⟨fun c => (h c).2.2.2.2, Idealize.ShloMosaic.sem_eq_zero_of_no_sems (by decide) r.2⟩)
    (Cert.Reference13Ideal.Value.run (F := Ideal) m ρ)

/-- The value claim. -/
theorem algebraic : Cert.algebraic_Kernel13Ideal_Reference13Ideal := by
  intro m g m' g' _ same
  refine ⟨fun c => grad m c, fun c => fun y => delta (weight m c y) (grad m c y) (first m c y) (second m c y),
    fun c => fun y => moment (first m c y) (grad m c y), fun c => fun y => square (second m c y) (grad m c y), ?_, ?_⟩
  · refine (θ_run Cert.Kernel13Ideal.defs _ _).mono (fun r h c => ?_)
      (θ_run_and (Cert.Kernel13Ideal.Gen.run_main m g) (Cert.Kernel13Ideal.Gen.unchanged m g))
    have w := (h.1 c).1
    exact ⟨(w (4 : Fin 8)).trans (array_g m c), (w (5 : Fin 8)).trans (array_d m c), (w (6 : Fin 8)).trans (array_m m c),
      (w (7 : Fin 8)).trans (array_v m c), h.2 c⟩
  · refine (θ_run Cert.Reference13Ideal.defs _ _).mono (fun r h c => ?_) (Cert.Reference13Ideal.Value.run (F := Ideal) m' g')
    obtain ⟨h0, h1, h2, h3, ha⟩ := h c
    obtain ⟨s0, s1, s2, s3⟩ := same c
    have hg : ∀ i, Cert.Reference13Ideal.Read.val_main_v1 (F := Ideal) (m' ((c.tc : Thread Cert.Reference13Ideal.nD Cert.Reference13Ideal.τ).loc Cert.Reference13Ideal.main_arg1)) i = grad m c i := fun i => by
      rw [ref_g, s1]; rfl
    exact ⟨h0.trans ((Cert.Reference13Ideal.Read.val_main_v1_eq _).trans (funext hg)),
      h1.trans ((Cert.Reference13Ideal.Read.val_main_v25_eq _ _ _ _).trans (funext fun i => by rw [ref_d, hg, s0, s2, s3]; rfl)),
      h2.trans ((Cert.Reference13Ideal.Read.val_main_v6_eq _ _).trans (funext fun i => by rw [ref_m, hg, s2]; rfl)),
      h3.trans ((Cert.Reference13Ideal.Read.val_main_v12_eq _ _).trans (funext fun i => by rw [ref_v, hg, s3]; rfl)), ha⟩

end Cert.Adam13

end
-- ==== Proof.Adam14.lean ====
/-
  The update of one of the latent projections' weights: a block's payload, the four arrays, the reference, and both
  together.
-/
module

public import proofs.«01_k».proof.Defs
public import proofs.«01_k».proof.Proof.Adam
public import proofs.«01_k».proof.Proof.Gen.Kernel14Ideal.Frame
public import proofs.«01_k».proof.Proof.Gen.Reference14Ideal.Read
public import proofs.«01_k».proof.Proof.Gen.Reference14Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam14

open Idealize.ShloMosaic Idealize.ShloMosaic.TcCoe Idealize.SL.Sem Cert.Adam

section
open Cert.Kernel14Ideal Cert.Kernel14Ideal.Gen

variable (m : (ℓ : Loc nD τ sig) → Buf (Elt Ideal) ℓ) (c : Dev nD)

def weight (y : S256x128.Idx) : EReal := m ((c.tc : Thread nD τ).loc main_arg0) y
def first (y : S256x128.Idx) : EReal := m ((c.tc : Thread nD τ).loc main_arg2) y
def second (y : S256x128.Idx) : EReal := m ((c.tc : Thread nD τ).loc main_arg3) y

/-- The gradient: the devices' summands added. -/
def grad (y : S256x128.Idx) : EReal := ∑ d : Fin 8, (m ((c.tc : Thread nD τ).loc main_arg1) (ix3 d (y 0) (y 1)) : EReal)

/-- The entry of the whole arrays that entry `y` of grid point `t`'s blocks is. -/
def at' (t : Fin 2) (y : S128x128.Idx) : S256x128.Idx := ix2 ⟨t.val * 128 + (y 0).val, by have := (y 0).isLt; change (y 0).val < 128 at this; omega⟩ (y 1)

theorem idx0 : ∀ t : Fin grid0.N,
    ((win0_0.index t 0 = t.val ∧ win0_0.index t 1 = 0) ∧ (win0_1.index t 0 = 0 ∧ win0_1.index t 1 = t.val ∧ win0_1.index t 2 = 0)
      ∧ (win0_2.index t 0 = t.val ∧ win0_2.index t 1 = 0) ∧ (win0_3.index t 0 = t.val ∧ win0_3.index t 1 = 0))
    ∧ ((win0_4.index t 0 = t.val ∧ win0_4.index t 1 = 0) ∧ (win0_5.index t 0 = t.val ∧ win0_5.index t 1 = 0)
      ∧ (win0_6.index t 0 = t.val ∧ win0_6.index t 1 = 0) ∧ (win0_7.index t 0 = t.val ∧ win0_7.index t 1 = 0)) := by
  decide +kernel

theorem blk_w (t : Fin cfg0.N) (y : S128x128.Idx) : iblk m c (0 : Fin 8) t y = weight m c (at' t y) := by
  obtain ⟨⟨⟨h0, h1⟩, -⟩, -⟩ := idx0 t
  unfold weight at'
  blk_ext [iblk, V, h0, h1]

theorem blk_g (t : Fin cfg0.N) (d : Fin 8) (y : S128x128.Idx) : iblk m c (1 : Fin 8) t (ix3 d (y 0) (y 1))
    = m ((c.tc : Thread nD τ).loc main_arg1) (ix3 d (at' t y 0) (at' t y 1)) := by
  obtain ⟨⟨-, ⟨h0, h1, h2⟩, -⟩, -⟩ := idx0 t
  unfold at'
  blk_ext [iblk, V, h0, h1, h2]

theorem blk_m (t : Fin cfg0.N) (y : S128x128.Idx) : iblk m c (2 : Fin 8) t y = first m c (at' t y) := by
  obtain ⟨⟨-, -, ⟨h0, h1⟩, -⟩, -⟩ := idx0 t
  unfold first at'
  blk_ext [iblk, V, h0, h1]

theorem blk_v (t : Fin cfg0.N) (y : S128x128.Idx) : iblk m c (3 : Fin 8) t y = second m c (at' t y) := by
  obtain ⟨⟨-, -, -, ⟨h0, h1⟩⟩, -⟩ := idx0 t
  unfold second at'
  blk_ext [iblk, V, h0, h1]

/-- The eight slots of a block added. -/
theorem pay_g (x : Vec Ideal S8x128x128 .bf16) (y : S128x128.Idx) :
    k0_pay4 (View.ld x r0_0) (View.ld x r0_1) (View.ld x r0_2) (View.ld x r0_3) (View.ld x r0_4) (View.ld x r0_5) (View.ld x r0_6) (View.ld x r0_7) y
      = ∑ d : Fin 8, (x (ix3 d (y 0) (y 1)) : EReal) := by
  rw [← sum_eight]
  pointwise [k0_pay4]

theorem pay_m (g : FVec Ideal S128x128 .f32) (x : Vec Ideal S128x128 .f32) (y : S128x128.Idx) : k0_pay1 g x y = moment (x y) (g y) := rfl
theorem pay_v (g : FVec Ideal S128x128 .f32) (x : Vec Ideal S128x128 .f32) (y : S128x128.Idx) : k0_pay2 g x y = square (x y) (g y) := rfl
theorem pay_d (g : FVec Ideal S128x128 .f32) (w x v : Vec Ideal S128x128 .f32) (y : S128x128.Idx) :
    k0_pay3 g w x v y = delta (w y) (g y) (x y) (v y) := rfl

theorem point_g (t : Fin cfg0.N) (y : S128x128.Idx) :
    k0_pay5 (iblk m c (0 : Fin 8) t) (iblk m c (1 : Fin 8) t) (iblk m c (2 : Fin 8) t) (iblk m c (3 : Fin 8) t) y = grad m c (at' t y) := by
  refine (pay_g _ y).trans (Finset.sum_congr rfl fun d _ => blk_g m c t d y)

/-- An entry given by its coordinates. -/
theorem at_eq {t : Fin 2} {y : S128x128.Idx} {z : S256x128.Idx} (h0 : (z 0).val = t.val * 128 + (y 0).val) (h1 : (z 1).val = (y 1).val) :
    at' t y = z := funext fun a => by
  match a with
  | ⟨0, _⟩ => exact Fin.ext h0.symm
  | ⟨1, _⟩ => exact Fin.ext h1.symm

theorem array_g : (dats m 0 c).arrAt (4 : Fin 8) cfg0.N = grad m c := by
  refine (dats m 0 c).arrAt_eq_of_covers (4 : Fin 8) _ (by decide +kernel) fun t hf y => ?_
  obtain ⟨-, ⟨h0, h1⟩, -⟩ := idx0 t
  blk_simp
  rw [after0_4]
  change S128x128.Idx at y
  unfold out0_4
  frame_out
  refine (point_g m c t y).trans (congrArg _ (at_eq ?_ ?_))
  · blk_simp; simp only [h0]
  · blk_simp; simp only [h1]; omega

theorem array_d : (dats m 0 c).arrAt (5 : Fin 8) cfg0.N = fun y => delta (weight m c y) (grad m c y) (first m c y) (second m c y) := by
  refine (dats m 0 c).arrAt_eq_of_covers (5 : Fin 8) _ (by decide +kernel) fun t hf y => ?_
  obtain ⟨-, -, ⟨h0, h1⟩, -⟩ := idx0 t
  blk_simp
  rw [after0_5]
  change S128x128.Idx at y
  unfold out0_5
  frame_out
  rw [pay_d, point_g, blk_w, blk_m, blk_v]
  refine congrArg (fun y => delta (weight m c y) (grad m c y) (first m c y) (second m c y)) (at_eq ?_ ?_)
  · blk_simp; simp only [h0]
  · blk_simp; simp only [h1]; omega

theorem array_m : (dats m 0 c).arrAt (6 : Fin 8) cfg0.N = fun y => moment (first m c y) (grad m c y) := by
  refine (dats m 0 c).arrAt_eq_of_covers (6 : Fin 8) _ (by decide +kernel) fun t hf y => ?_
  obtain ⟨-, -, -, ⟨h0, h1⟩, -⟩ := idx0 t
  blk_simp
  rw [after0_6]
  change S128x128.Idx at y
  unfold out0_6
  frame_out
  rw [pay_m, point_g, blk_m]
  refine congrArg (fun y => moment (first m c y) (grad m c y)) (at_eq ?_ ?_)
  · blk_simp; simp only [h0]
  · blk_simp; simp only [h1]; omega

theorem array_v : (dats m 0 c).arrAt (7 : Fin 8) cfg0.N = fun y => square (second m c y) (grad m c y) := by
  refine (dats m 0 c).arrAt_eq_of_covers (7 : Fin 8) _ (by decide +kernel) fun t hf y => ?_
  obtain ⟨-, -, -, -, ⟨h0, h1⟩⟩ := idx0 t
  blk_simp
  rw [after0_7]
  change S128x128.Idx at y
  unfold out0_7
  frame_out
  rw [pay_v, point_g, blk_v]
  refine congrArg (fun y => square (second m c y) (grad m c y)) (at_eq ?_ ?_)
  · blk_simp; simp only [h0]
  · blk_simp; simp only [h1]; omega

end

section
open Cert.Reference14Ideal Cert.Reference14Ideal.Read
variable (x0 x2 x3 : (⟨S256x128, .f32⟩ : BufTy).Contents (Elt Ideal)) (x1 : (⟨S8x256x128, .bf16⟩ : BufTy).Contents (Elt Ideal)) (i : S256x128.Idx)

theorem ref_g : val_main_v1 (F := Ideal) x1 i = ∑ d : Fin 8, (x1 (ix3 d (i 0) (i 1)) : EReal) := by
  rw [val_main_v1_apply]
  refine (congrArg₂ (· + ·) (show _ = (0 : EReal) from ?_) (Finset.sum_congr rfl fun k _ => ?_)).trans (zero_add _)
  · rw [val_main_cst_apply]; exact Ideal.ofBits_zero_f32
  · rw [val_main_v0_apply]
    refine congrArg x1 (funext fun a => ?_)
    match a with
    | ⟨0, _⟩ => rfl
    | ⟨1, _⟩ => rfl
    | ⟨2, _⟩ => rfl

theorem ref_m : val_main_v6 (F := Ideal) x1 x2 i = moment (x2 i) (val_main_v1 (F := Ideal) x1 i) := by
  simp only [val_main_v6_apply, val_main_v3_apply, val_main_v5_apply, val_main_v2_apply, val_main_v4_apply]
  rfl
theorem ref_v : val_main_v12 (F := Ideal) x1 x3 i = square (x3 i) (val_main_v1 (F := Ideal) x1 i) := by
  simp only [val_main_v12_apply, val_main_v11_apply, val_main_v8_apply, val_main_v9_apply, val_main_v10_apply, val_main_v7_apply]
  rfl
theorem ref_d : val_main_v25 (F := Ideal) x0 x1 x2 x3 i = delta (x0 i) (val_main_v1 (F := Ideal) x1 i) (x2 i) (x3 i) := by
  rw [delta, ← ref_m, ← ref_v]
  simp only [val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply]
  rfl
end

/-- The reference's run reads its arguments and has no semaphore. -/
theorem frame_reference : Cert.quiescent_Reference14Ideal := by
  intro m ρ _
  exact (θ_run Cert.Reference14Ideal.defs _ _).mono
    (fun r h => ⟨fun c => (h c).2.2.2.2, Idealize.ShloMosaic.sem_eq_zero_of_no_sems (by decide) r.2⟩)
    (Cert.Reference14Ideal.Value.run (F := Ideal) m ρ)

/-- The value claim. -/
theorem algebraic : Cert.algebraic_Kernel14Ideal_Reference14Ideal := by
  intro m g m' g' _ same
  refine ⟨fun c => grad m c, fun c => fun y => delta (weight m c y) (grad m c y) (first m c y) (second m c y),
    fun c => fun y => moment (first m c y) (grad m c y), fun c => fun y => square (second m c y) (grad m c y), ?_, ?_⟩
  · refine (θ_run Cert.Kernel14Ideal.defs _ _).mono (fun r h c => ?_)
      (θ_run_and (Cert.Kernel14Ideal.Gen.run_main m g) (Cert.Kernel14Ideal.Gen.unchanged m g))
    have w := (h.1 c).1
    exact ⟨(w (4 : Fin 8)).trans (array_g m c), (w (5 : Fin 8)).trans (array_d m c), (w (6 : Fin 8)).trans (array_m m c),
      (w (7 : Fin 8)).trans (array_v m c), h.2 c⟩
  · refine (θ_run Cert.Reference14Ideal.defs _ _).mono (fun r h c => ?_) (Cert.Reference14Ideal.Value.run (F := Ideal) m' g')
    obtain ⟨h0, h1, h2, h3, ha⟩ := h c
    obtain ⟨s0, s1, s2, s3⟩ := same c
    have hg : ∀ i, Cert.Reference14Ideal.Read.val_main_v1 (F := Ideal) (m' ((c.tc : Thread Cert.Reference14Ideal.nD Cert.Reference14Ideal.τ).loc Cert.Reference14Ideal.main_arg1)) i = grad m c i := fun i => by
      rw [ref_g, s1]; rfl
    exact ⟨h0.trans ((Cert.Reference14Ideal.Read.val_main_v1_eq _).trans (funext hg)),
      h1.trans ((Cert.Reference14Ideal.Read.val_main_v25_eq _ _ _ _).trans (funext fun i => by rw [ref_d, hg, s0, s2, s3]; rfl)),
      h2.trans ((Cert.Reference14Ideal.Read.val_main_v6_eq _ _).trans (funext fun i => by rw [ref_m, hg, s2]; rfl)),
      h3.trans ((Cert.Reference14Ideal.Read.val_main_v12_eq _ _).trans (funext fun i => by rw [ref_v, hg, s3]; rfl)), ha⟩

end Cert.Adam14

end
-- ==== Proof.Adam15.lean ====
/-
  The update of the input projection's weights, whose columns arrive in two halves, one for each grid point: a block's
  payload, the four arrays, the reference, and both together.
-/
module

public import proofs.«01_k».proof.Defs
public import proofs.«01_k».proof.Proof.Adam
public import proofs.«01_k».proof.Proof.Gen.Kernel15Ideal.Frame
public import proofs.«01_k».proof.Proof.Gen.Reference15Ideal.Read
public import proofs.«01_k».proof.Proof.Gen.Reference15Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam15

open Idealize.ShloMosaic Idealize.ShloMosaic.TcCoe Idealize.SL.Sem Cert.Adam

/-- Entry `(d, i, k)` of the array whose last axis is two halves. -/
def joined (a b : (Shape.mk 3 ![8, 408, 512]).Idx → EReal) (d : Fin 8) (i : Fin 408) (k : Fin 1024) : EReal :=
  if h : k.val < 512 then a (ix3 d i ⟨k.val, h⟩) else b (ix3 d i ⟨k.val - 512, by omega⟩)

section
open Cert.Kernel15Ideal Cert.Kernel15Ideal.Gen

variable (m : (ℓ : Loc nD τ sig) → Buf (Elt Ideal) ℓ) (c : Dev nD)

def weight (y : S408x1024.Idx) : EReal := m ((c.tc : Thread nD τ).loc main_arg0) y
def first (y : S408x1024.Idx) : EReal := m ((c.tc : Thread nD τ).loc main_arg3) y
def second (y : S408x1024.Idx) : EReal := m ((c.tc : Thread nD τ).loc main_arg4) y

/-- The gradient: the devices' summands added. -/
def grad (y : S408x1024.Idx) : EReal :=
  ∑ d : Fin 8, joined (m ((c.tc : Thread nD τ).loc main_arg1)) (m ((c.tc : Thread nD τ).loc main_arg2)) d (y 0) (y 1)

/-- The entry of the whole arrays that entry `y` of grid point `t`'s blocks is. -/
def at' (t : Fin 2) (y : S408x512.Idx) : S408x1024.Idx := ix2 (y 0) ⟨t.val * 512 + (y 1).val, by have := (y 1).isLt; change (y 1).val < 512 at this; omega⟩

theorem idx0 : ∀ t : Fin grid0.N,
    ((win0_0.index t 0 = 0 ∧ win0_0.index t 1 = t.val) ∧ (win0_1.index t 0 = 0 ∧ win0_1.index t 1 = 0 ∧ win0_1.index t 2 = 0)
      ∧ (win0_2.index t 0 = 0 ∧ win0_2.index t 1 = 0 ∧ win0_2.index t 2 = 0)
      ∧ (win0_3.index t 0 = 0 ∧ win0_3.index t 1 = t.val) ∧ (win0_4.index t 0 = 0 ∧ win0_4.index t 1 = t.val))
    ∧ ((win0_5.index t 0 = 0 ∧ win0_5.index t 1 = t.val) ∧ (win0_6.index t 0 = 0 ∧ win0_6.index t 1 = t.val)
      ∧ (win0_7.index t 0 = 0 ∧ win0_7.index t 1 = t.val) ∧ (win0_8.index t 0 = 0 ∧ win0_8.index t 1 = t.val)) := by
  decide +kernel

theorem blk_w (t : Fin cfg0.N) (y : S408x512.Idx) : iblk m c (0 : Fin 9) t y = weight m c (at' t y) := by
  obtain ⟨⟨⟨h0, h1⟩, -⟩, -⟩ := idx0 t
  unfold weight at'
  blk_ext [iblk, V, h0, h1]

theorem blk_a (t : Fin cfg0.N) (y : S8x408x512.Idx) : iblk m c (1 : Fin 9) t y = m ((c.tc : Thread nD τ).loc main_arg1) y := by
  obtain ⟨⟨-, ⟨h0, h1, h2⟩, -⟩, -⟩ := idx0 t
  blk_ext [iblk, V, h0, h1, h2]

theorem blk_b (t : Fin cfg0.N) (y : S8x408x512.Idx) : iblk m c (2 : Fin 9) t y = m ((c.tc : Thread nD τ).loc main_arg2) y := by
  obtain ⟨⟨-, -, ⟨h0, h1, h2⟩, -⟩, -⟩ := idx0 t
  blk_ext [iblk, V, h0, h1, h2]

theorem blk_m (t : Fin cfg0.N) (y : S408x512.Idx) : iblk m c (3 : Fin 9) t y = first m c (at' t y) := by
  obtain ⟨⟨-, -, -, ⟨h0, h1⟩, -⟩, -⟩ := idx0 t
  unfold first at'
  blk_ext [iblk, V, h0, h1]

theorem blk_v (t : Fin cfg0.N) (y : S408x512.Idx) : iblk m c (4 : Fin 9) t y = second m c (at' t y) := by
  obtain ⟨⟨-, -, -, -, ⟨h0, h1⟩⟩, -⟩ := idx0 t
  unfold second at'
  blk_ext [iblk, V, h0, h1]

/-- The eight devices' slots of a block, added. -/
def slots (x : Vec Ideal S8x408x512 .bf16) (y : S408x512.Idx) : EReal := ∑ d : Fin 8, (x (ix3 d (y 0) (y 1)) : EReal)

/-- The payload adds the slots. -/
theorem pay_a (x : Vec Ideal S8x408x512 .bf16) (y : S408x512.Idx) :
    k0_pay7 (View.ld x (Rect.unit ![0, 0, 0] ![1, 408, 512] inb_S8x408x512_S1x408x512_0_0_0))
      (View.ld x (Rect.unit ![1, 0, 0] ![1, 408, 512] inb_S8x408x512_S1x408x512_1_0_0))
      (View.ld x (Rect.unit ![2, 0, 0] ![1, 408, 512] inb_S8x408x512_S1x408x512_2_0_0))
      (View.ld x (Rect.unit ![3, 0, 0] ![1, 408, 512] inb_S8x408x512_S1x408x512_3_0_0))
      (View.ld x (Rect.unit ![4, 0, 0] ![1, 408, 512] inb_S8x408x512_S1x408x512_4_0_0))
      (View.ld x (Rect.unit ![5, 0, 0] ![1, 408, 512] inb_S8x408x512_S1x408x512_5_0_0))
      (View.ld x (Rect.unit ![6, 0, 0] ![1, 408, 512] inb_S8x408x512_S1x408x512_6_0_0))
      (View.ld x (Rect.unit ![7, 0, 0] ![1, 408, 512] inb_S8x408x512_S1x408x512_7_0_0)) y
      = slots x y := by
  rw [slots, ← sum_eight]
  pointwise [k0_pay7]

/-- The second grid point's payloads are the first one's. -/
theorem pay_same : @k0_pay8 Ideal _ = k0_pay7 ∧ @k0_pay4 Ideal _ = k0_pay1 ∧ @k0_pay5 Ideal _ = k0_pay2 ∧ @k0_pay6 Ideal _ = k0_pay3 :=
  ⟨rfl, rfl, rfl, rfl⟩

theorem pay_m (g : FVec Ideal S408x512 .f32) (x : Vec Ideal S408x512 .f32) (y : S408x512.Idx) : k0_pay1 g x y = moment (x y) (g y) := rfl
theorem pay_v (g : FVec Ideal S408x512 .f32) (x : Vec Ideal S408x512 .f32) (y : S408x512.Idx) : k0_pay2 g x y = square (x y) (g y) := rfl
theorem pay_d (g : FVec Ideal S408x512 .f32) (w x v : Vec Ideal S408x512 .f32) (y : S408x512.Idx) :
    k0_pay3 g w x v y = delta (w y) (g y) (x y) (v y) := rfl

/-- A half's sum over the devices is the gradient at the entry of the whole. -/
theorem grad_a (t : Fin 2) (h : t.val % 2 = 0) (y : S408x512.Idx) :
    slots (iblk m c (1 : Fin 9) t) y = grad m c (at' t y) := by
  refine Finset.sum_congr rfl fun d _ => (blk_a m c t _).trans ?_
  have ht : t.val = 0 := by omega
  have hy : (y 1).val < 512 := (y 1).isLt
  have e : t.val * 512 + (y 1).val < 512 := by omega
  refine Eq.trans ?_ (dif_pos e).symm
  refine congrArg _ (funext fun a => Fin.ext ?_)
  match a with
  | ⟨0, _⟩ => rfl
  | ⟨1, _⟩ => rfl
  | ⟨2, _⟩ => show (y 1).val = t.val * 512 + (y 1).val; omega

theorem grad_b (t : Fin 2) (h : ¬ t.val % 2 = 0) (y : S408x512.Idx) :
    slots (iblk m c (2 : Fin 9) t) y = grad m c (at' t y) := by
  refine Finset.sum_congr rfl fun d _ => (blk_b m c t _).trans ?_
  have ht : t.val = 1 := by have := t.isLt; omega
  have hy : (y 1).val < 512 := (y 1).isLt
  have e : ¬ t.val * 512 + (y 1).val < 512 := by omega
  refine Eq.trans ?_ (dif_neg e).symm
  refine congrArg _ (funext fun a => Fin.ext ?_)
  match a with
  | ⟨0, _⟩ => rfl
  | ⟨1, _⟩ => rfl
  | ⟨2, _⟩ => show (y 1).val = t.val * 512 + (y 1).val - 512; omega

/-- A grid point's four outputs, entry by entry. -/
theorem out_point (t : Fin cfg0.N) (y : S408x512.Idx) :
    (outsAt0 m c t.val t.isLt).1 y = grad m c (at' t y)
    ∧ (outsAt0 m c t.val t.isLt).2.1 y
      = delta (weight m c (at' t y)) (grad m c (at' t y)) (first m c (at' t y)) (second m c (at' t y))
    ∧ (outsAt0 m c t.val t.isLt).2.2.1 y = moment (first m c (at' t y)) (grad m c (at' t y))
    ∧ (outsAt0 m c t.val t.isLt).2.2.2 y = square (second m c (at' t y)) (grad m c (at' t y)) := by
  obtain ⟨e8, e4, e5, e6⟩ := pay_same
  by_cases h : t.val % 2 = 0
  · rw [outsAt0_A m c t h (by omega)]
    refine ⟨?_, ?_, ?_, ?_⟩
    all_goals frame_out
    · rw [pay_a, grad_a m c t h]
    · rw [pay_d, pay_a, grad_a m c t h, blk_w, blk_m, blk_v]
    · rw [pay_m, pay_a, grad_a m c t h, blk_m]
    · rw [pay_v, pay_a, grad_a m c t h, blk_v]
  · rw [outsAt0_B m c t h (by omega)]
    refine ⟨?_, ?_, ?_, ?_⟩
    all_goals frame_out
    · rw [e8, pay_a, grad_b m c t h]
    · rw [e6, e8, pay_d, pay_a, grad_b m c t h, blk_w, blk_m, blk_v]
    · rw [e4, e8, pay_m, pay_a, grad_b m c t h, blk_m]
    · rw [e5, e8, pay_v, pay_a, grad_b m c t h, blk_v]

/-- An entry given by its coordinates. -/
theorem at_eq {t : Fin 2} {y : S408x512.Idx} {z : S408x1024.Idx} (h0 : (z 0).val = (y 0).val) (h1 : (z 1).val = t.val * 512 + (y 1).val) :
    at' t y = z := funext fun a => by
  match a with
  | ⟨0, _⟩ => exact Fin.ext h0.symm
  | ⟨1, _⟩ => exact Fin.ext h1.symm

theorem array_g : (dats m 0 c).arrAt (5 : Fin 9) cfg0.N = grad m c := by
  refine (dats m 0 c).arrAt_eq_of_covers (5 : Fin 9) _ (by decide +kernel) fun t hf y => ?_
  obtain ⟨-, ⟨h0, h1⟩, -⟩ := idx0 t
  blk_simp
  rw [after0_5]
  change S408x512.Idx at y
  refine ((out_point m c t y).1).trans (congrArg (grad m c) (at_eq ?_ ?_))
  · blk_simp; simp only [h0]; omega
  · blk_simp; simp only [h1]

theorem array_d : (dats m 0 c).arrAt (6 : Fin 9) cfg0.N = fun y => delta (weight m c y) (grad m c y) (first m c y) (second m c y) := by
  refine (dats m 0 c).arrAt_eq_of_covers (6 : Fin 9) _ (by decide +kernel) fun t hf y => ?_
  obtain ⟨-, -, ⟨h0, h1⟩, -⟩ := idx0 t
  blk_simp
  rw [after0_6]
  change S408x512.Idx at y
  refine ((out_point m c t y).2.1).trans (congrArg (fun y => delta (weight m c y) (grad m c y) (first m c y) (second m c y)) (at_eq ?_ ?_))
  · blk_simp; simp only [h0]; omega
  · blk_simp; simp only [h1]

theorem array_m : (dats m 0 c).arrAt (7 : Fin 9) cfg0.N = fun y => moment (first m c y) (grad m c y) := by
  refine (dats m 0 c).arrAt_eq_of_covers (7 : Fin 9) _ (by decide +kernel) fun t hf y => ?_
  obtain ⟨-, -, -, ⟨h0, h1⟩, -⟩ := idx0 t
  blk_simp
  rw [after0_7]
  change S408x512.Idx at y
  refine ((out_point m c t y).2.2.1).trans (congrArg (fun y => moment (first m c y) (grad m c y)) (at_eq ?_ ?_))
  · blk_simp; simp only [h0]; omega
  · blk_simp; simp only [h1]

theorem array_v : (dats m 0 c).arrAt (8 : Fin 9) cfg0.N = fun y => square (second m c y) (grad m c y) := by
  refine (dats m 0 c).arrAt_eq_of_covers (8 : Fin 9) _ (by decide +kernel) fun t hf y => ?_
  obtain ⟨-, -, -, -, ⟨h0, h1⟩⟩ := idx0 t
  blk_simp
  rw [after0_8]
  change S408x512.Idx at y
  refine ((out_point m c t y).2.2.2).trans (congrArg (fun y => square (second m c y) (grad m c y)) (at_eq ?_ ?_))
  · blk_simp; simp only [h0]; omega
  · blk_simp; simp only [h1]

end

section
open Cert.Reference15Ideal Cert.Reference15Ideal.Read
variable (x0 x3 x4 : (⟨S408x1024, .f32⟩ : BufTy).Contents (Elt Ideal)) (x1 x2 : (⟨S8x408x512, .bf16⟩ : BufTy).Contents (Elt Ideal)) (i : S408x1024.Idx)

/-- The two halves side by side. -/
theorem ref_joined (d : Fin 8) (i : Fin 408) (k : Fin 1024) : val_main_v0 (F := Ideal) x1 x2 (ix3 d i k) = joined x1 x2 d i k := by
  unfold val_main_v0 joined
  split
  · next h =>
    refine concatenate_pair_apply_left (t := S8x408x1024) (s₁ := S8x408x512) (s₂ := S8x408x512) (2 : Fin 3) x1 x2 _ (ix3 d i k) rfl _ fun b => ?_
    match b with
    | ⟨0, _⟩ => rfl
    | ⟨1, _⟩ => rfl
    | ⟨2, _⟩ => rfl
  · next h =>
    refine concatenate_pair_apply_right (t := S8x408x1024) (s₁ := S8x408x512) (s₂ := S8x408x512) (2 : Fin 3) x1 x2 _ (ix3 d i k) rfl rfl _ (fun b hb => ?_) ?_
    · match b with
      | ⟨0, _⟩ => rfl
      | ⟨1, _⟩ => rfl
      | ⟨2, _⟩ => exact absurd rfl hb
    · show k.val - 512 + 512 = k.val
      omega

theorem ref_g : val_main_v2 (F := Ideal) x1 x2 i = ∑ d : Fin 8, joined x1 x2 d (i 0) (i 1) := by
  rw [val_main_v2_apply]
  refine (congrArg₂ (· + ·) (show _ = (0 : EReal) from ?_) (Finset.sum_congr rfl fun k _ => ?_)).trans (zero_add _)
  · rw [val_main_cst_apply]; exact Ideal.ofBits_zero_f32
  · rw [val_main_v1_apply]
    refine (congrArg (val_main_v0 (F := Ideal) x1 x2) (funext fun a => ?_)).trans (ref_joined x1 x2 k (i 0) (i 1))
    match a with
    | ⟨0, _⟩ => rfl
    | ⟨1, _⟩ => rfl
    | ⟨2, _⟩ => rfl

theorem ref_m : val_main_v7 (F := Ideal) x1 x2 x3 i = moment (x3 i) (val_main_v2 (F := Ideal) x1 x2 i) := by
  simp only [val_main_v7_apply, val_main_v4_apply, val_main_v6_apply, val_main_v3_apply, val_main_v5_apply]
  rfl
theorem ref_v : val_main_v13 (F := Ideal) x1 x2 x4 i = square (x4 i) (val_main_v2 (F := Ideal) x1 x2 i) := by
  simp only [val_main_v13_apply, val_main_v12_apply, val_main_v9_apply, val_main_v10_apply, val_main_v11_apply, val_main_v8_apply]
  rfl
theorem ref_d : val_main_v26 (F := Ideal) x0 x1 x2 x3 x4 i = delta (x0 i) (val_main_v2 (F := Ideal) x1 x2 i) (x3 i) (x4 i) := by
  rw [delta, ← ref_m, ← ref_v]
  simp only [val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply]
  rfl
end

/-- The reference's run reads its arguments and has no semaphore. -/
theorem frame_reference : Cert.quiescent_Reference15Ideal := by
  intro m ρ _
  exact (θ_run Cert.Reference15Ideal.defs _ _).mono
    (fun r h => ⟨fun c => (h c).2.2.2.2, Idealize.ShloMosaic.sem_eq_zero_of_no_sems (by decide) r.2⟩)
    (Cert.Reference15Ideal.Value.run (F := Ideal) m ρ)

/-- The value claim. -/
theorem algebraic : Cert.algebraic_Kernel15Ideal_Reference15Ideal := by
  intro m g m' g' _ same
  refine ⟨fun c => grad m c, fun c => fun y => delta (weight m c y) (grad m c y) (first m c y) (second m c y),
    fun c => fun y => moment (first m c y) (grad m c y), fun c => fun y => square (second m c y) (grad m c y), ?_, ?_⟩
  · refine (θ_run Cert.Kernel15Ideal.defs _ _).mono (fun r h c => ?_)
      (θ_run_and (Cert.Kernel15Ideal.Gen.run_main m g) (Cert.Kernel15Ideal.Gen.unchanged m g))
    have w := (h.1 c).1
    exact ⟨(w (5 : Fin 9)).trans (array_g m c), (w (6 : Fin 9)).trans (array_d m c), (w (7 : Fin 9)).trans (array_m m c),
      (w (8 : Fin 9)).trans (array_v m c), h.2 c⟩
  · refine (θ_run Cert.Reference15Ideal.defs _ _).mono (fun r h c => ?_) (Cert.Reference15Ideal.Value.run (F := Ideal) m' g')
    obtain ⟨h0, h1, h2, h3, ha⟩ := h c
    obtain ⟨s0, s1, s2, s3, s4⟩ := same c
    have hg : ∀ i, Cert.Reference15Ideal.Read.val_main_v2 (F := Ideal)
        (m' ((c.tc : Thread Cert.Reference15Ideal.nD Cert.Reference15Ideal.τ).loc Cert.Reference15Ideal.main_arg1))
        (m' ((c.tc : Thread Cert.Reference15Ideal.nD Cert.Reference15Ideal.τ).loc Cert.Reference15Ideal.main_arg2)) i = grad m c i := fun i => by
      rw [ref_g, s1, s2]; rfl
    exact ⟨h0.trans ((Cert.Reference15Ideal.Read.val_main_v2_eq _ _).trans (funext hg)),
      h1.trans ((Cert.Reference15Ideal.Read.val_main_v26_eq _ _ _ _ _).trans (funext fun i => by rw [ref_d, hg, s0, s3, s4]; rfl)),
      h2.trans ((Cert.Reference15Ideal.Read.val_main_v7_eq _ _ _).trans (funext fun i => by rw [ref_m, hg, s3]; rfl)),
      h3.trans ((Cert.Reference15Ideal.Read.val_main_v13_eq _ _ _).trans (funext fun i => by rw [ref_v, hg, s4]; rfl)), ha⟩

end Cert.Adam15

end
-- ==== Proof.Adam16.lean ====
/-
  The sums over the devices of the small gradients and of the loss: the nine arrays, the reference, and both together.
-/
module

public import proofs.«01_k».proof.Defs
public import proofs.«01_k».proof.Proof.Adam
public import proofs.«01_k».proof.Proof.Gen.Kernel16Ideal.Frame
public import proofs.«01_k».proof.Proof.Gen.Reference16Ideal.Read
public import proofs.«01_k».proof.Proof.Gen.Reference16Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam16

open Idealize.ShloMosaic Idealize.ShloMosaic.TcCoe Idealize.SL.Sem Cert.Adam

/-- The eight slots of an array added. -/
def slots {a b : ℕ} (x : (Shape.mk 3 ![8, a, b]).Idx → EReal) (y : (Shape.mk 2 ![a, b]).Idx) : EReal := ∑ d : Fin 8, x (ix3 d (y 0) (y 1))

theorem row_zero (i : Fin 1) : i = 0 := Subsingleton.elim _ _

section
open Cert.Kernel16Ideal Cert.Kernel16Ideal.Gen

variable (m : (ℓ : Loc nD τ sig) → Buf (Elt Ideal) ℓ) (c : Dev nD)

/-- Each of the eighteen arrays is one block, which the single grid point sees whole. -/
theorem index_zero : ∀ t : Fin grid0.N,
    ((∀ a, win0_0.index t a = 0)
      ∧ (∀ a, win0_1.index t a = 0)
      ∧ (∀ a, win0_2.index t a = 0)
      ∧ (∀ a, win0_3.index t a = 0)
      ∧ (∀ a, win0_4.index t a = 0)
      ∧ (∀ a, win0_5.index t a = 0)
      ∧ (∀ a, win0_6.index t a = 0)
      ∧ (∀ a, win0_7.index t a = 0)
      ∧ (∀ a, win0_8.index t a = 0))
    ∧ (∀ a, win0_9.index t a = 0)
    ∧ (∀ a, win0_10.index t a = 0)
    ∧ (∀ a, win0_11.index t a = 0)
    ∧ (∀ a, win0_12.index t a = 0)
    ∧ (∀ a, win0_13.index t a = 0)
    ∧ (∀ a, win0_14.index t a = 0)
    ∧ (∀ a, win0_15.index t a = 0)
    ∧ (∀ a, win0_16.index t a = 0)
    ∧ (∀ a, win0_17.index t a = 0) := by
  decide +kernel

section
variable (x0 : Vec Ideal S8x1x1024 .f32) (x1 : Vec Ideal S8x1x512 .f32) (x2 : Vec Ideal S8x1x384 .f32) (x3 : Vec Ideal S8x1x256 .f32)
    (x4 : Vec Ideal S8x1x512 .f32) (x5 : Vec Ideal S8x1x1024 .f32) (x6 : Vec Ideal S8x1x1024 .f32) (x7 : Vec Ideal S8x4x512 .f32)
    (x8 : Vec Ideal S8x1x128 .f32)

theorem out_0 : out0_9 x0 x1 x2 x3 x4 x5 x6 x7 x8 = slots (a := 1) (b := 1024) x0 := by
  funext y
  unfold out0_9 slots
  frame_out
  rw [← sum_eight]
  pointwise [k0_pay2]
  rw [row_zero (y 0)]

theorem out_1 : out0_10 x0 x1 x2 x3 x4 x5 x6 x7 x8 = slots (a := 1) (b := 512) x1 := by
  funext y
  unfold out0_10 slots
  frame_out
  rw [← sum_eight]
  pointwise [k0_pay4, k0_pay3]
  rw [row_zero (y 0)]

theorem out_2 : out0_11 x0 x1 x2 x3 x4 x5 x6 x7 x8 = slots (a := 1) (b := 384) x2 := by
  funext y
  unfold out0_11 slots
  frame_out
  rw [← sum_eight]
  pointwise [k0_pay6, k0_pay5]
  rw [row_zero (y 0)]

theorem out_3 : out0_12 x0 x1 x2 x3 x4 x5 x6 x7 x8 = slots (a := 1) (b := 256) x3 := by
  funext y
  unfold out0_12 slots
  frame_out
  rw [← sum_eight]
  pointwise [k0_pay8, k0_pay7]
  rw [row_zero (y 0)]

theorem out_4 : out0_13 x0 x1 x2 x3 x4 x5 x6 x7 x8 = slots (a := 1) (b := 512) x4 := by
  funext y
  unfold out0_13 slots
  frame_out
  rw [← sum_eight]
  pointwise [k0_pay10, k0_pay9]
  rw [row_zero (y 0)]

theorem out_5 : out0_14 x0 x1 x2 x3 x4 x5 x6 x7 x8 = slots (a := 1) (b := 1024) x5 := by
  funext y
  unfold out0_14 slots
  frame_out
  rw [← sum_eight]
  pointwise [k0_pay12, k0_pay11]
  rw [row_zero (y 0)]

theorem out_6 : out0_15 x0 x1 x2 x3 x4 x5 x6 x7 x8 = slots (a := 1) (b := 1024) x6 := by
  funext y
  unfold out0_15 slots
  frame_out
  rw [← sum_eight]
  pointwise [k0_pay13]
  rw [row_zero (y 0)]

theorem out_7 : out0_16 x0 x1 x2 x3 x4 x5 x6 x7 x8 = slots (a := 4) (b := 512) x7 := by
  funext y
  unfold out0_16 slots
  frame_out
  rw [← sum_eight]
  pointwise [k0_pay14]

theorem out_8 : out0_17 x0 x1 x2 x3 x4 x5 x6 x7 x8 = slots (a := 1) (b := 128) x8 := by
  funext y
  unfold out0_17 slots
  frame_out
  rw [← sum_eight]
  pointwise [k0_pay1, k0_pay15]
  rw [row_zero (y 0)]

end

theorem array_0 : (dats m 0 c).arrAt (9 : Fin 18) cfg0.N = (slots (a := 1) (b := 1024) (m ((c.tc : Thread nD τ).loc main_arg0)) : S1x1024.Idx → EReal) := by
  refine (dats m 0 c).arrAt_eq_of_covers (9 : Fin 18) _ (by decide +kernel) fun t hf y => ?_
  obtain ⟨⟨hi, -⟩, ho, -⟩ := index_zero t
  have whole : iblk m c (0 : Fin 18) t = m ((c.tc : Thread nD τ).loc main_arg0) := by
    funext y
    blk_ext [iblk, V, hi]
  blk_simp
  rw [after0_9, out_0, whole]
  refine congrArg _ ?_
  blk_ext [ho]

theorem array_1 : (dats m 0 c).arrAt (10 : Fin 18) cfg0.N = (slots (a := 1) (b := 512) (m ((c.tc : Thread nD τ).loc main_arg1)) : S1x512.Idx → EReal) := by
  refine (dats m 0 c).arrAt_eq_of_covers (10 : Fin 18) _ (by decide +kernel) fun t hf y => ?_
  obtain ⟨⟨-, hi, -⟩, -, ho, -⟩ := index_zero t
  have whole : iblk m c (1 : Fin 18) t = m ((c.tc : Thread nD τ).loc main_arg1) := by
    funext y
    blk_ext [iblk, V, hi]
  blk_simp
  rw [after0_10, out_1, whole]
  refine congrArg _ ?_
  blk_ext [ho]

theorem array_2 : (dats m 0 c).arrAt (11 : Fin 18) cfg0.N = (slots (a := 1) (b := 384) (m ((c.tc : Thread nD τ).loc main_arg2)) : S1x384.Idx → EReal) := by
  refine (dats m 0 c).arrAt_eq_of_covers (11 : Fin 18) _ (by decide +kernel) fun t hf y => ?_
  obtain ⟨⟨-, -, hi, -⟩, -, -, ho, -⟩ := index_zero t
  have whole : iblk m c (2 : Fin 18) t = m ((c.tc : Thread nD τ).loc main_arg2) := by
    funext y
    blk_ext [iblk, V, hi]
  blk_simp
  rw [after0_11, out_2, whole]
  refine congrArg _ ?_
  blk_ext [ho]

theorem array_3 : (dats m 0 c).arrAt (12 : Fin 18) cfg0.N = (slots (a := 1) (b := 256) (m ((c.tc : Thread nD τ).loc main_arg3)) : S1x256.Idx → EReal) := by
  refine (dats m 0 c).arrAt_eq_of_covers (12 : Fin 18) _ (by decide +kernel) fun t hf y => ?_
  obtain ⟨⟨-, -, -, hi, -⟩, -, -, -, ho, -⟩ := index_zero t
  have whole : iblk m c (3 : Fin 18) t = m ((c.tc : Thread nD τ).loc main_arg3) := by
    funext y
    blk_ext [iblk, V, hi]
  blk_simp
  rw [after0_12, out_3, whole]
  refine congrArg _ ?_
  blk_ext [ho]

theorem array_4 : (dats m 0 c).arrAt (13 : Fin 18) cfg0.N = (slots (a := 1) (b := 512) (m ((c.tc : Thread nD τ).loc main_arg4)) : S1x512.Idx → EReal) := by
  refine (dats m 0 c).arrAt_eq_of_covers (13 : Fin 18) _ (by decide +kernel) fun t hf y => ?_
  obtain ⟨⟨-, -, -, -, hi, -⟩, -, -, -, -, ho, -⟩ := index_zero t
  have whole : iblk m c (4 : Fin 18) t = m ((c.tc : Thread nD τ).loc main_arg4) := by
    funext y
    blk_ext [iblk, V, hi]
  blk_simp
  rw [after0_13, out_4, whole]
  refine congrArg _ ?_
  blk_ext [ho]

theorem array_5 : (dats m 0 c).arrAt (14 : Fin 18) cfg0.N = (slots (a := 1) (b := 1024) (m ((c.tc : Thread nD τ).loc main_arg5)) : S1x1024.Idx → EReal) := by
  refine (dats m 0 c).arrAt_eq_of_covers (14 : Fin 18) _ (by decide +kernel) fun t hf y => ?_
  obtain ⟨⟨-, -, -, -, -, hi, -⟩, -, -, -, -, -, ho, -⟩ := index_zero t
  have whole : iblk m c (5 : Fin 18) t = m ((c.tc : Thread nD τ).loc main_arg5) := by
    funext y
    blk_ext [iblk, V, hi]
  blk_simp
  rw [after0_14, out_5, whole]
  refine congrArg _ ?_
  blk_ext [ho]

theorem array_6 : (dats m 0 c).arrAt (15 : Fin 18) cfg0.N = (slots (a := 1) (b := 1024) (m ((c.tc : Thread nD τ).loc main_arg6)) : S1x1024.Idx → EReal) := by
  refine (dats m 0 c).arrAt_eq_of_covers (15 : Fin 18) _ (by decide +kernel) fun t hf y => ?_
  obtain ⟨⟨-, -, -, -, -, -, hi, -⟩, -, -, -, -, -, -, ho, -⟩ := index_zero t
  have whole : iblk m c (6 : Fin 18) t = m ((c.tc : Thread nD τ).loc main_arg6) := by
    funext y
    blk_ext [iblk, V, hi]
  blk_simp
  rw [after0_15, out_6, whole]
  refine congrArg _ ?_
  blk_ext [ho]

theorem array_7 : (dats m 0 c).arrAt (16 : Fin 18) cfg0.N = (slots (a := 4) (b := 512) (m ((c.tc : Thread nD τ).loc main_arg7)) : S4x512.Idx → EReal) := by
  refine (dats m 0 c).arrAt_eq_of_covers (16 : Fin 18) _ (by decide +kernel) fun t hf y => ?_
  obtain ⟨⟨-, -, -, -, -, -, -, hi, -⟩, -, -, -, -, -, -, -, ho, -⟩ := index_zero t
  have whole : iblk m c (7 : Fin 18) t = m ((c.tc : Thread nD τ).loc main_arg7) := by
    funext y
    blk_ext [iblk, V, hi]
  blk_simp
  rw [after0_16, out_7, whole]
  refine congrArg _ ?_
  blk_ext [ho]

theorem array_8 : (dats m 0 c).arrAt (17 : Fin 18) cfg0.N = (slots (a := 1) (b := 128) (m ((c.tc : Thread nD τ).loc main_arg8)) : S1x128.Idx → EReal) := by
  refine (dats m 0 c).arrAt_eq_of_covers (17 : Fin 18) _ (by decide +kernel) fun t hf y => ?_
  obtain ⟨⟨-, -, -, -, -, -, -, -, hi⟩, -, -, -, -, -, -, -, -, ho⟩ := index_zero t
  have whole : iblk m c (8 : Fin 18) t = m ((c.tc : Thread nD τ).loc main_arg8) := by
    funext y
    blk_ext [iblk, V, hi]
  blk_simp
  rw [after0_17, out_8, whole]
  refine congrArg _ ?_
  blk_ext [ho]

end

/-- A sum over the eight slots started from the zero word, as the reference writes it. -/
theorem slots_of {a b : ℕ} (x : (Shape.mk 3 ![8, a, b]).Idx → EReal) (y : (Shape.mk 2 ![a, b]).Idx) (at' : Fin 8 → (Shape.mk 3 ![8, a, b]).Idx)
    (h : ∀ d, (at' d 0).val = d.val ∧ (at' d 1).val = (y 0).val ∧ (at' d 2).val = (y 1).val) :
    lit 0x00000000#32 + ∑ d : Fin 8, x (at' d) = slots x y := by
  refine (congrArg₂ (· + ·) Ideal.ofBits_zero_f32 (Finset.sum_congr rfl fun d _ => congrArg x (funext fun k => ?_))).trans (zero_add _)
  match k with
  | ⟨0, _⟩ => exact Fin.ext (h d).1
  | ⟨1, _⟩ => exact Fin.ext (h d).2.1
  | ⟨2, _⟩ => exact Fin.ext (h d).2.2

section
open Cert.Reference16Ideal Cert.Reference16Ideal.Read

theorem ref_0 (x : (⟨S8x1x1024, .f32⟩ : BufTy).Contents (Elt Ideal)) : val_main_v0 (F := Ideal) x = slots (a := 1) (b := 1024) x :=
  funext fun i => (val_main_v0_apply x i).trans (slots_of (a := 1) (b := 1024) x i _ fun _ => ⟨rfl, rfl, rfl⟩)
theorem ref_1 (x : (⟨S8x1x512, .f32⟩ : BufTy).Contents (Elt Ideal)) : val_main_v1 (F := Ideal) x = slots (a := 1) (b := 512) x :=
  funext fun i => (val_main_v1_apply x i).trans (slots_of (a := 1) (b := 512) x i _ fun _ => ⟨rfl, rfl, rfl⟩)
theorem ref_2 (x : (⟨S8x1x384, .f32⟩ : BufTy).Contents (Elt Ideal)) : val_main_v2 (F := Ideal) x = slots (a := 1) (b := 384) x :=
  funext fun i => (val_main_v2_apply x i).trans (slots_of (a := 1) (b := 384) x i _ fun _ => ⟨rfl, rfl, rfl⟩)
theorem ref_3 (x : (⟨S8x1x256, .f32⟩ : BufTy).Contents (Elt Ideal)) : val_main_v3 (F := Ideal) x = slots (a := 1) (b := 256) x :=
  funext fun i => (val_main_v3_apply x i).trans (slots_of (a := 1) (b := 256) x i _ fun _ => ⟨rfl, rfl, rfl⟩)
theorem ref_4 (x : (⟨S8x1x512, .f32⟩ : BufTy).Contents (Elt Ideal)) : val_main_v4 (F := Ideal) x = slots (a := 1) (b := 512) x :=
  funext fun i => (val_main_v4_apply x i).trans (slots_of (a := 1) (b := 512) x i _ fun _ => ⟨rfl, rfl, rfl⟩)
theorem ref_5 (x : (⟨S8x1x1024, .f32⟩ : BufTy).Contents (Elt Ideal)) : val_main_v5 (F := Ideal) x = slots (a := 1) (b := 1024) x :=
  funext fun i => (val_main_v5_apply x i).trans (slots_of (a := 1) (b := 1024) x i _ fun _ => ⟨rfl, rfl, rfl⟩)
theorem ref_6 (x : (⟨S8x1x1024, .f32⟩ : BufTy).Contents (Elt Ideal)) : val_main_v6 (F := Ideal) x = slots (a := 1) (b := 1024) x :=
  funext fun i => (val_main_v6_apply x i).trans (slots_of (a := 1) (b := 1024) x i _ fun _ => ⟨rfl, rfl, rfl⟩)
theorem ref_7 (x : (⟨S8x4x512, .f32⟩ : BufTy).Contents (Elt Ideal)) : val_main_v7 (F := Ideal) x = slots (a := 4) (b := 512) x :=
  funext fun i => (val_main_v7_apply x i).trans (slots_of (a := 4) (b := 512) x i _ fun _ => ⟨rfl, rfl, rfl⟩)
theorem ref_8 (x : (⟨S8x1x128, .f32⟩ : BufTy).Contents (Elt Ideal)) : val_main_v8 (F := Ideal) x = slots (a := 1) (b := 128) x :=
  funext fun i => (val_main_v8_apply x i).trans (slots_of (a := 1) (b := 128) x i _ fun _ => ⟨rfl, rfl, rfl⟩)

end

/-- The reference's run reads its arguments and has no semaphore. -/
theorem frame_reference : Cert.quiescent_Reference16Ideal := by
  intro m ρ _
  exact (θ_run Cert.Reference16Ideal.defs _ _).mono
    (fun r h => ⟨fun c => (h c).2.2.2.2.2.2.2.2.2, Idealize.ShloMosaic.sem_eq_zero_of_no_sems (by decide) r.2⟩)
    (Cert.Reference16Ideal.Value.run (F := Ideal) m ρ)

/-- The value claim. -/
theorem algebraic : Cert.algebraic_Kernel16Ideal_Reference16Ideal := by
  intro m g m' g' _ same
  refine ⟨fun c => slots (a := 1) (b := 1024) (m ((c.tc : Thread Cert.Kernel16Ideal.nD Cert.Kernel16Ideal.τ).loc Cert.Kernel16Ideal.main_arg0)),
    fun c => slots (a := 1) (b := 512) (m ((c.tc : Thread Cert.Kernel16Ideal.nD Cert.Kernel16Ideal.τ).loc Cert.Kernel16Ideal.main_arg1)),
    fun c => slots (a := 1) (b := 384) (m ((c.tc : Thread Cert.Kernel16Ideal.nD Cert.Kernel16Ideal.τ).loc Cert.Kernel16Ideal.main_arg2)),
    fun c => slots (a := 1) (b := 256) (m ((c.tc : Thread Cert.Kernel16Ideal.nD Cert.Kernel16Ideal.τ).loc Cert.Kernel16Ideal.main_arg3)),
    fun c => slots (a := 1) (b := 512) (m ((c.tc : Thread Cert.Kernel16Ideal.nD Cert.Kernel16Ideal.τ).loc Cert.Kernel16Ideal.main_arg4)),
    fun c => slots (a := 1) (b := 1024) (m ((c.tc : Thread Cert.Kernel16Ideal.nD Cert.Kernel16Ideal.τ).loc Cert.Kernel16Ideal.main_arg5)),
    fun c => slots (a := 1) (b := 1024) (m ((c.tc : Thread Cert.Kernel16Ideal.nD Cert.Kernel16Ideal.τ).loc Cert.Kernel16Ideal.main_arg6)),
    fun c => slots (a := 4) (b := 512) (m ((c.tc : Thread Cert.Kernel16Ideal.nD Cert.Kernel16Ideal.τ).loc Cert.Kernel16Ideal.main_arg7)),
    fun c => slots (a := 1) (b := 128) (m ((c.tc : Thread Cert.Kernel16Ideal.nD Cert.Kernel16Ideal.τ).loc Cert.Kernel16Ideal.main_arg8)), ?_, ?_⟩
  · refine (θ_run Cert.Kernel16Ideal.defs _ _).mono (fun r h c => ?_)
      (θ_run_and (Cert.Kernel16Ideal.Gen.run_main m g) (Cert.Kernel16Ideal.Gen.unchanged m g))
    have w := (h.1 c).1
    exact ⟨(w (9 : Fin 18)).trans (array_0 m c), (w (10 : Fin 18)).trans (array_1 m c), (w (11 : Fin 18)).trans (array_2 m c), (w (12 : Fin 18)).trans (array_3 m c), (w (13 : Fin 18)).trans (array_4 m c), (w (14 : Fin 18)).trans (array_5 m c), (w (15 : Fin 18)).trans (array_6 m c), (w (16 : Fin 18)).trans (array_7 m c), (w (17 : Fin 18)).trans (array_8 m c), h.2 c⟩
  · refine (θ_run Cert.Reference16Ideal.defs _ _).mono (fun r h c => ?_) (Cert.Reference16Ideal.Value.run (F := Ideal) m' g')
    obtain ⟨h0, h1, h2, h3, h4, h5, h6, h7, h8, ha⟩ := h c
    obtain ⟨s0, s1, s2, s3, s4, s5, s6, s7, s8⟩ := same c
    exact ⟨h0.trans ((ref_0 _).trans (congrArg (slots (a := 1) (b := 1024)) s0)),
      h1.trans ((ref_1 _).trans (congrArg (slots (a := 1) (b := 512)) s1)),
      h2.trans ((ref_2 _).trans (congrArg (slots (a := 1) (b := 384)) s2)),
      h3.trans ((ref_3 _).trans (congrArg (slots (a := 1) (b := 256)) s3)),
      h4.trans ((ref_4 _).trans (congrArg (slots (a := 1) (b := 512)) s4)),
      h5.trans ((ref_5 _).trans (congrArg (slots (a := 1) (b := 1024)) s5)),
      h6.trans ((ref_6 _).trans (congrArg (slots (a := 1) (b := 1024)) s6)),
      h7.trans ((ref_7 _).trans (congrArg (slots (a := 4) (b := 512)) s7)),
      h8.trans ((ref_8 _).trans (congrArg (slots (a := 1) (b := 128)) s8)), ha⟩

end Cert.Adam16

end
-- ==== Proof.Adam17.lean ====
/-
  The update of the last four small weights, the gains of the attention's norm, of the second norm and of the last norm, and the logits: the twelve arrays, the reference, and both together.
-/
module

public import proofs.«01_k».proof.Defs
public import proofs.«01_k».proof.Proof.Adam
public import proofs.«01_k».proof.Proof.Gen.Kernel17Ideal.Frame
public import proofs.«01_k».proof.Proof.Gen.Reference17Ideal.Read
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384

noncomputable section

namespace Cert.Adam17

open Idealize.ShloMosaic Idealize.ShloMosaic.TcCoe Idealize.SL.Sem Cert.Adam

section
open Cert.Kernel17Ideal Cert.Kernel17Ideal.Gen

variable (m : (ℓ : Loc nD τ sig) → Buf (Elt Ideal) ℓ) (c : Dev nD)

/-- An argument on a device. -/
abbrev arg (r : Ref sig .tc) : Buf (Elt Ideal) ((c.tc : Thread nD τ).loc r) := m ((c.tc : Thread nD τ).loc r)

set_option maxHeartbeats 4000000 in
/-- The twelve arrays: four changes, four first moments, four second ones. -/
theorem arrays :
    (dats m 0 c).arrAt (16 : Fin 28) cfg0.N = deltas (s := S1x512) (arg m c main_arg0) (arg m c main_arg4) (arg m c main_arg8) (arg m c main_arg12)
    ∧ (dats m 0 c).arrAt (17 : Fin 28) cfg0.N = deltas (s := S1x1024) (arg m c main_arg1) (arg m c main_arg5) (arg m c main_arg9) (arg m c main_arg13)
    ∧ (dats m 0 c).arrAt (18 : Fin 28) cfg0.N = deltas (s := S1x1024) (arg m c main_arg2) (arg m c main_arg6) (arg m c main_arg10) (arg m c main_arg14)
    ∧ (dats m 0 c).arrAt (19 : Fin 28) cfg0.N = deltas (s := S4x64) (arg m c main_arg3) (arg m c main_arg7) (arg m c main_arg11) (arg m c main_arg15)
    ∧ (dats m 0 c).arrAt (20 : Fin 28) cfg0.N = moments (s := S1x512) (arg m c main_arg4) (arg m c main_arg8)
    ∧ (dats m 0 c).arrAt (21 : Fin 28) cfg0.N = moments (s := S1x1024) (arg m c main_arg5) (arg m c main_arg9)
    ∧ (dats m 0 c).arrAt (22 : Fin 28) cfg0.N = moments (s := S1x1024) (arg m c main_arg6) (arg m c main_arg10)
    ∧ (dats m 0 c).arrAt (23 : Fin 28) cfg0.N = moments (s := S4x64) (arg m c main_arg7) (arg m c main_arg11)
    ∧ (dats m 0 c).arrAt (24 : Fin 28) cfg0.N = squares (s := S1x512) (arg m c main_arg4) (arg m c main_arg12)
    ∧ (dats m 0 c).arrAt (25 : Fin 28) cfg0.N = squares (s := S1x1024) (arg m c main_arg5) (arg m c main_arg13)
    ∧ (dats m 0 c).arrAt (26 : Fin 28) cfg0.N = squares (s := S1x1024) (arg m c main_arg6) (arg m c main_arg14)
    ∧ (dats m 0 c).arrAt (27 : Fin 28) cfg0.N = squares (s := S4x64) (arg m c main_arg7) (arg m c main_arg15) := by
  refine ⟨?_, ?_, ?_, ?_, ?_, ?_, ?_, ?_, ?_, ?_, ?_, ?_⟩
  all_goals
    refine (dats m 0 c).arrAt_eq_of_covers _ _ (by decide +kernel) fun t hf y => ?_
    simp only [after0_16, after0_17, after0_18, after0_19, after0_20, after0_21, after0_22, after0_23, after0_24, after0_25, after0_26, after0_27]
    first
      | unfold out0_16
      | unfold out0_17
      | unfold out0_18
      | unfold out0_19
      | unfold out0_20
      | unfold out0_21
      | unfold out0_22
      | unfold out0_23
      | unfold out0_24
      | unfold out0_25
      | unfold out0_26
      | unfold out0_27
    frame_out
    rfl

end

/-- The reference's run reads its arguments and has no semaphore. -/
theorem frame_reference : Cert.quiescent_Reference17Ideal := by
  intro m ρ _
  exact (θ_run Cert.Reference17Ideal.defs _ _).mono
    (fun r h => ⟨fun c => (h c).2.2.2.2.2.2.2.2.2.2.2.2, Idealize.ShloMosaic.sem_eq_zero_of_no_sems (by decide) r.2⟩)
    (Cert.Reference17Ideal.Value.run (F := Ideal) m ρ)

set_option maxHeartbeats 4000000 in
/-- The value claim. -/
theorem algebraic : Cert.algebraic_Kernel17Ideal_Reference17Ideal := by
  intro m g m' g' _ same
  refine ⟨fun c => deltas (s := Cert.Kernel17Ideal.S1x512) (arg m c Cert.Kernel17Ideal.main_arg0) (arg m c Cert.Kernel17Ideal.main_arg4) (arg m c Cert.Kernel17Ideal.main_arg8) (arg m c Cert.Kernel17Ideal.main_arg12),
    fun c => deltas (s := Cert.Kernel17Ideal.S1x1024) (arg m c Cert.Kernel17Ideal.main_arg1) (arg m c Cert.Kernel17Ideal.main_arg5) (arg m c Cert.Kernel17Ideal.main_arg9) (arg m c Cert.Kernel17Ideal.main_arg13),
    fun c => deltas (s := Cert.Kernel17Ideal.S1x1024) (arg m c Cert.Kernel17Ideal.main_arg2) (arg m c Cert.Kernel17Ideal.main_arg6) (arg m c Cert.Kernel17Ideal.main_arg10) (arg m c Cert.Kernel17Ideal.main_arg14),
    fun c => deltas (s := Cert.Kernel17Ideal.S4x64) (arg m c Cert.Kernel17Ideal.main_arg3) (arg m c Cert.Kernel17Ideal.main_arg7) (arg m c Cert.Kernel17Ideal.main_arg11) (arg m c Cert.Kernel17Ideal.main_arg15),
    fun c => moments (s := Cert.Kernel17Ideal.S1x512) (arg m c Cert.Kernel17Ideal.main_arg4) (arg m c Cert.Kernel17Ideal.main_arg8),
    fun c => moments (s := Cert.Kernel17Ideal.S1x1024) (arg m c Cert.Kernel17Ideal.main_arg5) (arg m c Cert.Kernel17Ideal.main_arg9),
    fun c => moments (s := Cert.Kernel17Ideal.S1x1024) (arg m c Cert.Kernel17Ideal.main_arg6) (arg m c Cert.Kernel17Ideal.main_arg10),
    fun c => moments (s := Cert.Kernel17Ideal.S4x64) (arg m c Cert.Kernel17Ideal.main_arg7) (arg m c Cert.Kernel17Ideal.main_arg11),
    fun c => squares (s := Cert.Kernel17Ideal.S1x512) (arg m c Cert.Kernel17Ideal.main_arg4) (arg m c Cert.Kernel17Ideal.main_arg12),
    fun c => squares (s := Cert.Kernel17Ideal.S1x1024) (arg m c Cert.Kernel17Ideal.main_arg5) (arg m c Cert.Kernel17Ideal.main_arg13),
    fun c => squares (s := Cert.Kernel17Ideal.S1x1024) (arg m c Cert.Kernel17Ideal.main_arg6) (arg m c Cert.Kernel17Ideal.main_arg14),
    fun c => squares (s := Cert.Kernel17Ideal.S4x64) (arg m c Cert.Kernel17Ideal.main_arg7) (arg m c Cert.Kernel17Ideal.main_arg15), ?_, ?_⟩
  · refine (θ_run Cert.Kernel17Ideal.defs _ _).mono (fun r h c => ?_)
      (θ_run_and (Cert.Kernel17Ideal.Gen.run_main m g) (Cert.Kernel17Ideal.Gen.unchanged m g))
    have w := (h.1 c).1
    obtain ⟨a0, a1, a2, a3, a4, a5, a6, a7, a8, a9, a10, a11⟩ := arrays m c
    exact ⟨(w 16).trans a0, (w 17).trans a1, (w 18).trans a2, (w 19).trans a3, (w 20).trans a4, (w 21).trans a5, (w 22).trans a6, (w 23).trans a7, (w 24).trans a8, (w 25).trans a9, (w 26).trans a10, (w 27).trans a11, h.2 c⟩
  · refine (θ_run Cert.Reference17Ideal.defs _ _).mono (fun r h c => ?_) (Cert.Reference17Ideal.Value.run (F := Ideal) m' g')
    obtain ⟨h0, h1, h2, h3, h4, h5, h6, h7, h8, h9, h10, h11, ha⟩ := h c
    obtain ⟨s0, s1, s2, s3, s4, s5, s6, s7, s8, s9, s10, s11, s12, s13, s14, s15⟩ := same c
    refine ⟨h0.trans ?_, h1.trans ?_, h2.trans ?_, h3.trans ?_, h4.trans ?_, h5.trans ?_, h6.trans ?_, h7.trans ?_, h8.trans ?_, h9.trans ?_, h10.trans ?_, h11.trans ?_, ha⟩
    all_goals
      simp only [s0, s1, s2, s3, s4, s5, s6, s7, s8, s9, s10, s11, s12, s13, s14, s15]
      rfl

end Cert.Adam17

end
-- ==== Proof.Late18.lean ====
/-
  The late update of the four large weights, a call whose body moves its arrays by its own copies: its run, from the first copy
  in to the last copy out, what it leaves, and the launch.
-/
module

public import proofs.«01_k».proof.Defs
public import proofs.«01_k».proof.Proof.Adam
public import proofs.«01_k».proof.Proof.Gen.Kernel18Ideal.Skeleton
public import proofs.«01_k».proof.Proof.Gen.Kernel18Ideal.Frame
public import Idealize.ShloMosaic.Lib.Pipeline.Routed
public import Idealize.ShloMosaic.Lib.Pipeline.ReadBack
public import Idealize.ShloMosaic.Lib.ViewIndex
public import Idealize.ShloMosaic.Lib.ValueLayout
public import Idealize.ShloMosaic.Lib.Pipeline.Value

@[expose] public section

set_option maxRecDepth 16384

noncomputable section

namespace Cert.Late18

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-- The run's resources. -/
abbrev Res (F : FTy → Type) := MT nD τ sig Unit (Elt F) ℕ (Pipeline.UC sig nD τ) ℕ

variable (m : (ℓ : Loc nD τ sig) → Buf (Elt F) ℓ) (ρ : Dev nD → PrngReg)

/-- What a buffer of a core holds, and the buffer held whole. -/
abbrev Held (F : FTy → Type) (c : Dev nD) (b : Ref sig .tc) : Type := Buf (Elt F) ((c : Thread nD τ).loc b)
abbrev at_ (c : Dev nD) (b : Ref sig .tc) (f : Held F c b) : sProp (Res F) := (Memref.whole b).view.loc (c : Thread nD τ) ↦{fullShare} f

/-- The counter of one of the body's copies, at zero. -/
abbrev idle (c : Dev nD) (j : DmaSem sig) : sProp (Res F) := semVal ((c : Thread nD τ), SemLoc.dma j) 0

set_option sl_exec.dmaWindow true in
/-- The body's run: what the sixteen results hold after it. -/
noncomputable def run (c : Dev nD)
    (w0 : Held F c main_arg0) (w1 : Held F c main_arg1) (w2 : Held F c main_arg2) (w3 : Held F c main_arg3) (r0 : Held F c main_arg4)
    (r1 : Held F c main_arg5) (r2 : Held F c main_arg6) (r3 : Held F c main_arg7) (a0 : Held F c main_arg8) (a1 : Held F c main_arg9)
    (a2 : Held F c main_arg10) (a3 : Held F c main_arg11) (b0 : Held F c main_arg12) (b1 : Held F c main_arg13) (b2 : Held F c main_arg14)
    (b3 : Held F c main_arg15) (o0 : Held F c main_v0_0) (o1 : Held F c main_v0_1) (o2 : Held F c main_v0_2) (o3 : Held F c main_v0_3)
    (o4 : Held F c main_v0_4) (o5 : Held F c main_v0_5) (o6 : Held F c main_v0_6) (o7 : Held F c main_v0_7) (o8 : Held F c main_v0_8)
    (o9 : Held F c main_v0_9) (o10 : Held F c main_v0_10) (o11 : Held F c main_v0_11) (o12 : Held F c main_v0_12) (o13 : Held F c main_v0_13)
    (o14 : Held F c main_v0_14) (o15 : Held F c main_v0_15)
    (x : Held F c cc0_scratch0) (y : Held F c cc0_scratch1) (z : Held F c cc0_scratch2) :
    { Y : Held F c main_v0_0 × Held F c main_v0_1 × Held F c main_v0_2 × Held F c main_v0_3 × Held F c main_v0_4 × Held F c main_v0_5 ×
        Held F c main_v0_6 × Held F c main_v0_7 × Held F c main_v0_8 × Held F c main_v0_9 × Held F c main_v0_10 × Held F c main_v0_11 ×
        Held F c main_v0_12 × Held F c main_v0_13 × Held F c main_v0_14 × Held F c main_v0_15 //
      ∀ (W : Waits sig Unit) (K : PUnit → sProp (Res F)),
        iprop(at_ c main_arg0 w0 ∗ at_ c main_arg1 w1 ∗ at_ c main_arg2 w2 ∗ at_ c main_arg3 w3 ∗ at_ c main_arg4 r0 ∗
            at_ c main_arg5 r1 ∗ at_ c main_arg6 r2 ∗ at_ c main_arg7 r3 ∗ at_ c main_arg8 a0 ∗ at_ c main_arg9 a1 ∗
            at_ c main_arg10 a2 ∗ at_ c main_arg11 a3 ∗ at_ c main_arg12 b0 ∗ at_ c main_arg13 b1 ∗ at_ c main_arg14 b2 ∗
            at_ c main_arg15 b3 ∗ at_ c main_v0_0 o0 ∗ at_ c main_v0_1 o1 ∗ at_ c main_v0_2 o2 ∗ at_ c main_v0_3 o3 ∗
            at_ c main_v0_4 o4 ∗ at_ c main_v0_5 o5 ∗ at_ c main_v0_6 o6 ∗ at_ c main_v0_7 o7 ∗ at_ c main_v0_8 o8 ∗
            at_ c main_v0_9 o9 ∗ at_ c main_v0_10 o10 ∗ at_ c main_v0_11 o11 ∗ at_ c main_v0_12 o12 ∗
            at_ c main_v0_13 o13 ∗ at_ c main_v0_14 o14 ∗ at_ c main_v0_15 o15 ∗ at_ c cc0_scratch0 x ∗
            at_ c cc0_scratch1 y ∗ at_ c cc0_scratch2 z ∗ idle c 0 ∗ idle c 1 ∗ idle c 2 ∗ idle c 3 ∗ idle c 4 ∗
            idle c 5 ∗ idle c 6 ∗ idle c 7 ∗ owes (c : Thread nD τ) 0 W
            ∗ (iprop(at_ c main_arg0 w0 ∗ at_ c main_arg1 w1 ∗ at_ c main_arg2 w2 ∗ at_ c main_arg3 w3 ∗ at_ c main_arg4 r0 ∗
                at_ c main_arg5 r1 ∗ at_ c main_arg6 r2 ∗ at_ c main_arg7 r3 ∗ at_ c main_arg8 a0 ∗ at_ c main_arg9 a1 ∗
                at_ c main_arg10 a2 ∗ at_ c main_arg11 a3 ∗ at_ c main_arg12 b0 ∗ at_ c main_arg13 b1 ∗ at_ c main_arg14 b2 ∗
                at_ c main_arg15 b3 ∗ at_ c main_v0_0 Y.1 ∗ at_ c main_v0_1 Y.2.1 ∗ at_ c main_v0_2 Y.2.2.1 ∗
                at_ c main_v0_3 Y.2.2.2.1 ∗ at_ c main_v0_4 Y.2.2.2.2.1 ∗ at_ c main_v0_5 Y.2.2.2.2.2.1 ∗
                at_ c main_v0_6 Y.2.2.2.2.2.2.1 ∗ at_ c main_v0_7 Y.2.2.2.2.2.2.2.1 ∗ at_ c main_v0_8 Y.2.2.2.2.2.2.2.2.1 ∗
                at_ c main_v0_9 Y.2.2.2.2.2.2.2.2.2.1 ∗ at_ c main_v0_10 Y.2.2.2.2.2.2.2.2.2.2.1 ∗
                at_ c main_v0_11 Y.2.2.2.2.2.2.2.2.2.2.2.1 ∗ at_ c main_v0_12 Y.2.2.2.2.2.2.2.2.2.2.2.2.1 ∗
                at_ c main_v0_13 Y.2.2.2.2.2.2.2.2.2.2.2.2.2.1 ∗ at_ c main_v0_14 Y.2.2.2.2.2.2.2.2.2.2.2.2.2.2.1 ∗
                at_ c main_v0_15 Y.2.2.2.2.2.2.2.2.2.2.2.2.2.2.2 ∗ (∃ f, at_ c cc0_scratch0 f) ∗
                (∃ f, at_ c cc0_scratch1 f) ∗ (∃ f, at_ c cc0_scratch2 f) ∗ idle c 0 ∗ idle c 1 ∗ idle c 2 ∗ idle c 3 ∗
                idle c 4 ∗ idle c 5 ∗ idle c 6 ∗ idle c 7 ∗ (∃ W', owes (c : Thread nD τ) 0 W')) -∗ K ⟨⟩))
          ⊢ wp frame (wpE (defs₀ (F := F)) Variants.none c none) Set.univ (bodyAt0 (F := F) t0_0) K } := by
  refine ⟨⟨?_, ?_, ?_, ?_, ?_, ?_, ?_, ?_, ?_, ?_, ?_, ?_, ?_, ?_, ?_, ?_⟩, fun W K => ?run⟩
  case run =>
    unfold bodyAt0
    simp only [cc0_adamw_late_and_grad_exchange_eq_skeleton]; unfold cc0_adamw_late_and_grad_exchange_skel
    unfold at_ idle
    iintro ⟨Hw0, Hw1, Hw2, Hw3, Hr0, Hr1, Hr2, Hr3, Ha0, Ha1, Ha2, Ha3, Hb0, Hb1, Hb2, Hb3, Ho0, Ho1, Ho2, Ho3, Ho4, Ho5, Ho6, Ho7, Ho8, Ho9, Ho10,
      Ho11, Ho12, Ho13, Ho14, Ho15, Hx, Hy, Hz, Hq0, Hq1, Hq2, Hq3, Hq4, Hq5, Hq6, Hq7, HW, Hk⟩
    sl_exec
    sl_step
    iapply Hk
    isplitl [Hw0]; · iexact Hw0
    isplitl [Hw1]; · iexact Hw1
    isplitl [Hw2]; · iexact Hw2
    isplitl [Hw3]; · iexact Hw3
    isplitl [Hr0]; · iexact Hr0
    isplitl [Hr1]; · iexact Hr1
    isplitl [Hr2]; · iexact Hr2
    isplitl [Hr3]; · iexact Hr3
    isplitl [Ha0]; · iexact Ha0
    isplitl [Ha1]; · iexact Ha1
    isplitl [Ha2]; · iexact Ha2
    isplitl [Ha3]; · iexact Ha3
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [Ho12]; · iexact Ho12
    isplitl [Ho13]; · iexact Ho13
    isplitl [Ho14]; · iexact Ho14
    isplitl [Ho15]; · iexact Ho15
    isplitl [Hx]; · iexists _; iexact Hx
    isplitl [Hy]; · iexists _; iexact Hy
    isplitl [Hz]; · iexists _; iexact Hz
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexists _; iexact HW

/-! ## What it leaves -/

/-- A row of an array, written through the row's own shape and read back as the row. -/
theorem row_hit {sg : RefSig} {κ : Kind} {sp : Space} {s s' : Shape} {e : EltTy} {Val : EltTy → Type} (v : View sg κ sp s e) (k : Rect s)
    (h : s'.numel = k.shape.numel) (f : v.ty.Contents Val) (p : s'.Idx → Val e) (hc : s'.ShapeCasts k.shape) :
    v.readAt Val k.toLoadRect (((v.slice k).reshape s' h).write Val f p Finset.univ) = shapeCast k.shape p hc := by
  funext x
  have := View.read_write_reshape (v := v.slice k) h f p (Shape.reshapeEquiv hc x)
  rw [Shape.reshapeEquiv_reshapeEquiv, Shape.reshapeEquiv_self] at this
  exact this

/-- Another row's write does not touch it. -/
theorem row_miss {sg : RefSig} {κ : Kind} {sp : Space} {s s' : Shape} {e : EltTy} {Val : EltTy → Type} (v : View sg κ sp s e) (k k' : Rect s)
    (h : s'.numel = k'.shape.numel) (f : v.ty.Contents Val) (p : s'.Idx → Val e) (hd : LoadRect.disj k' k.toLoadRect = true) :
    v.readAt Val k.toLoadRect (((v.slice k').reshape s' h).write Val f p Finset.univ) = v.readAt Val k.toLoadRect f := by
  funext x
  rw [View.write_reshape_univ]
  refine View.read_slice_write_of_not_mem k' f _ _ ?_
  rw [Rect.map_emb_univ]
  exact LoadRect.idx_not_mem_of_disj hd x

/-- A row read through its own shape, after stores of whole rows: the stored row. -/
theorem row_stored {sg : RefSig} {κ : Kind} {sp : Space} {s s' : Shape} {e : EltTy} {Val : EltTy → Type} (v : View sg κ sp s e) (k : Rect s)
    (h : s'.numel = k.shape.numel) (f : v.ty.Contents Val) (p : s'.Idx → Val e) (hc : s'.ShapeCasts k.shape)
    (L L' : List (View.Piece Val s e)) (hL : L'.all (fun q => LoadRect.disj q.1 k.toLoadRect) = true) :
    ((v.slice k).reshape s' h).read Val (v.writes Val f (L' ++ ⟨k, shapeCast k.shape p hc⟩ :: L)) = p := by
  funext j
  show v.read Val _ (k.emb (Shape.reshapeEquiv h j)) = p j
  induction L' with
  | nil =>
    rw [List.nil_append, View.read_writes_cons_emb]
    show p (Shape.reshapeEquiv hc (Shape.reshapeEquiv h j)) = p j
    rw [Shape.reshapeEquiv_reshapeEquiv, Shape.reshapeEquiv_self]
  | cons q L' ih =>
    rw [List.all_cons, Bool.and_eq_true] at hL
    rw [List.cons_append, View.read_writes_cons_miss]
    · exact ih hL.2
    · exact LoadRect.idx_not_mem_of_disj hL.1 (Shape.reshapeEquiv h j)

/-- Slot `k` of the received parts. -/
def slot {α : Type} {n : ℕ} (r : (⟨3, ![8, n, 1024]⟩ : Shape).Idx → α) (k : Fin 8) (y : (⟨2, ![n, 1024]⟩ : Shape).Idx) : α := r (ValueIdx.ix3 k (y 0) (y 1))

theorem slot_all {α : Type} {n : ℕ} (r : (⟨3, ![8, n, 1024]⟩ : Shape).Idx → α) :
    slot r = ![slot r 0, slot r 1, slot r 2, slot r 3, slot r 4, slot r 5, slot r 6, slot r 7] :=
  funext fun k => match k with | 0 => rfl | 1 => rfl | 2 => rfl | 3 => rfl | 4 => rfl | 5 => rfl | 6 => rfl | 7 => rfl

/-- A slot read from the buffer, once the parts have landed in its first rows. -/
theorem slot_read {sg : RefSig} {κ : Kind} {sp : Space} {n l : ℕ} {e : EltTy} {Val : EltTy → Type} [∀ e, Nonempty (Val e)]
    (v : View sg κ sp (⟨3, ![8, l, 1024]⟩ : Shape) e) (r : (⟨3, ![8, n, 1024]⟩ : Shape).Idx → Val e)
    (hK : ∀ d, (![0, 0, 0] : Fin 3 → ℕ) d + (![8, n, 1024] : Fin 3 → ℕ) d ≤ (![8, l, 1024] : Fin 3 → ℕ) d)
    (L : List (View.Piece Val (⟨3, ![8, l, 1024]⟩ : Shape) e)) (k : ℕ) (hk : k < 8)
    (hB : ∀ d, (![k, 0, 0] : Fin 3 → ℕ) d + (![1, n, 1024] : Fin 3 → ℕ) d ≤ (![8, l, 1024] : Fin 3 → ℕ) d)
    (hc : (⟨3, ![1, n, 1024]⟩ : Shape).ShapeCasts ⟨2, ![n, 1024]⟩) :
    shapeCast ⟨2, ![n, 1024]⟩ (v.readCov (⟨Rect.unit (s := ⟨3, ![8, l, 1024]⟩) ![0, 0, 0] ![8, n, 1024] hK, r⟩ :: L)
      (Rect.unit (s := ⟨3, ![8, l, 1024]⟩) ![k, 0, 0] ![1, n, 1024] hB).toLoadRect) hc = slot r ⟨k, hk⟩ := by
  funext y
  obtain ⟨i, j, rfl⟩ : ∃ i j, y = ValueIdx.ix2 i j := ⟨y 0, y 1, funext fun a => match a with | ⟨0, _⟩ => rfl | ⟨1, _⟩ => rfl⟩
  refine (ValueIdx.shapeCast_1ab_ab_apply _ hc i j).trans ?_
  rw [View.readCov_eq_canon']
  refine (congrArg _ (funext fun a => Fin.ext ?_)).trans (View.canon_cons_emb (Rect.unit (s := ⟨3, ![8, l, 1024]⟩) ![0, 0, 0] ![8, n, 1024] hK) r L (ValueIdx.ix3 ⟨k, hk⟩ i j))
  match a with
  | ⟨0, _⟩ => show k + 1 * 0 = 0 + 1 * k; omega
  | ⟨1, _⟩ => rfl
  | ⟨2, _⟩ => rfl

/-- The four results of one weight as functions of its arguments: the slots added as the body adds them, and the step. -/
def total {s : Shape} (p : Fin 8 → FVec F s .bf16) : FVec F s .f32 :=
  let e (k : Fin 8) : FVec F s .f32 := extf .f32 (p k) (by decide)
  addf (addf (addf (addf (addf (addf (addf (e 0) (e 1)) (e 2)) (e 3)) (e 4)) (e 5)) (e 6)) (e 7)
def first {s : Shape} (g a : FVec F s .f32) : FVec F s .f32 :=
  addf (mulf (broadcast s (Scalar.ofBits .f32 0x3F666666#32)) a) (mulf (broadcast s (Scalar.ofBits .f32 0x3DCCCCCD#32)) g)
def second {s : Shape} (g b : FVec F s .f32) : FVec F s .f32 :=
  addf (mulf (broadcast s (Scalar.ofBits .f32 0x3F7FBE77#32)) b) (mulf (broadcast s (Scalar.ofBits .f32 0x3A83126F#32)) (mulf g g))
def change {s : Shape} (g w a b : FVec F s .f32) : FVec F s .f32 :=
  mulf (broadcast s (Scalar.ofBits .f32 0xBA83126F#32)) (addf (divf (divf (first g a) (broadcast s (Scalar.ofBits .f32 0x3F26BD02#32)))
    (addf (sqrt (divf (second g b) (broadcast s (Scalar.ofBits .f32 0x3C231ACC#32)))) (broadcast s (Scalar.ofBits .f32 0x322BCC77#32))))
    (mulf (broadcast s (Scalar.ofBits .f32 0x3C23D70A#32)) w))

/-! What the body stores, in these terms. -/
section
variable (p0 p1 p2 p3 p4 p5 p6 p7 : Vec F S1x128x1024 .bf16) (u v t : Vec F S1x128x1024 .f32)
abbrev cut128 {e : EltTy} (x : Vec F S1x128x1024 e) : Vec F S128x1024 e := shapeCast S128x1024 x shapeCasts_S1x128x1024_S128x1024
theorem pay0_0 : k0_pay3 (k0_pay1 p0 p1 p2 p3 p4 p5 p6) p7
    = shapeCast S1x128x1024 (total ![cut128 p0, cut128 p1, cut128 p2, cut128 p3, cut128 p4, cut128 p5, cut128 p6, cut128 p7]) shapeCasts_S128x1024_S1x128x1024 := rfl
theorem pay0_1 : k0_pay6 (k0_pay1 p0 p1 p2 p3 p4 p5 p6) p7 u v t
    = change (total ![cut128 p0, cut128 p1, cut128 p2, cut128 p3, cut128 p4, cut128 p5, cut128 p6, cut128 p7]) (cut128 u) (cut128 v) (cut128 t) := rfl
theorem pay0_2 : k0_pay4 (k0_pay1 p0 p1 p2 p3 p4 p5 p6) p7 v
    = first (total ![cut128 p0, cut128 p1, cut128 p2, cut128 p3, cut128 p4, cut128 p5, cut128 p6, cut128 p7]) (cut128 v) := rfl
theorem pay0_3 : k0_pay5 (k0_pay1 p0 p1 p2 p3 p4 p5 p6) p7 t
    = second (total ![cut128 p0, cut128 p1, cut128 p2, cut128 p3, cut128 p4, cut128 p5, cut128 p6, cut128 p7]) (cut128 t) := rfl
end
section
variable (p0 p1 p2 p3 p4 p5 p6 p7 : Vec F S1x352x1024 .bf16) (u v t : Vec F S1x352x1024 .f32)
abbrev cut352 {e : EltTy} (x : Vec F S1x352x1024 e) : Vec F S352x1024 e := shapeCast S352x1024 x shapeCasts_S1x352x1024_S352x1024
theorem pay1_0 : k0_pay12 (k0_pay10 p0 p1) p2 p3 p4 p5 p6 p7
    = shapeCast S1x352x1024 (total ![cut352 p0, cut352 p1, cut352 p2, cut352 p3, cut352 p4, cut352 p5, cut352 p6, cut352 p7]) shapeCasts_S352x1024_S1x352x1024 := rfl
theorem pay1_1 : k0_pay18 (k0_pay11 (k0_pay10 p0 p1) p2 p3 p4 p5 p6 p7) (k0_pay13 u) (k0_pay14 v) (k0_pay15 t)
    = shapeCast S1x352x1024 (change (total ![cut352 p0, cut352 p1, cut352 p2, cut352 p3, cut352 p4, cut352 p5, cut352 p6, cut352 p7]) (cut352 u) (cut352 v) (cut352 t)) shapeCasts_S352x1024_S1x352x1024 := rfl
theorem pay1_2 : k0_pay19 (k0_pay11 (k0_pay10 p0 p1) p2 p3 p4 p5 p6 p7) (k0_pay14 v)
    = shapeCast S1x352x1024 (first (total ![cut352 p0, cut352 p1, cut352 p2, cut352 p3, cut352 p4, cut352 p5, cut352 p6, cut352 p7]) (cut352 v)) shapeCasts_S352x1024_S1x352x1024 := rfl
theorem pay1_3 : k0_pay20 (k0_pay11 (k0_pay10 p0 p1) p2 p3 p4 p5 p6 p7) (k0_pay15 t)
    = shapeCast S1x352x1024 (second (total ![cut352 p0, cut352 p1, cut352 p2, cut352 p3, cut352 p4, cut352 p5, cut352 p6, cut352 p7]) (cut352 t)) shapeCasts_S352x1024_S1x352x1024 := rfl
theorem pay2_0 : k0_pay23 (k0_pay21 p0 p1 p2 p3 p4 p5) p6 p7
    = shapeCast S1x352x1024 (total ![cut352 p0, cut352 p1, cut352 p2, cut352 p3, cut352 p4, cut352 p5, cut352 p6, cut352 p7]) shapeCasts_S352x1024_S1x352x1024 := rfl
theorem pay2_1 : k0_pay28 (k0_pay24 u) (k0_pay27 (k0_pay21 p0 p1 p2 p3 p4 p5) p6 p7 v t) (Scalar.ofBits .f32 0x3C23D70A#32)
    = shapeCast S1x352x1024 (change (total ![cut352 p0, cut352 p1, cut352 p2, cut352 p3, cut352 p4, cut352 p5, cut352 p6, cut352 p7]) (cut352 u) (cut352 v) (cut352 t)) shapeCasts_S352x1024_S1x352x1024 := rfl
theorem pay2_2 : k0_pay29 (k0_pay25 (k0_pay21 p0 p1 p2 p3 p4 p5) p6 p7 v)
    = shapeCast S1x352x1024 (first (total ![cut352 p0, cut352 p1, cut352 p2, cut352 p3, cut352 p4, cut352 p5, cut352 p6, cut352 p7]) (cut352 v)) shapeCasts_S352x1024_S1x352x1024 := rfl
theorem pay2_3 : k0_pay30 (k0_pay26 (k0_pay21 p0 p1 p2 p3 p4 p5) p6 p7 t)
    = shapeCast S1x352x1024 (second (total ![cut352 p0, cut352 p1, cut352 p2, cut352 p3, cut352 p4, cut352 p5, cut352 p6, cut352 p7]) (cut352 t)) shapeCasts_S352x1024_S1x352x1024 := rfl
theorem pay3_0 : k0_pay34 (k0_pay31 p0) (k0_pay32 p1) p2 p3 p4 p5 p6 p7
    = shapeCast S1x352x1024 (total ![cut352 p0, cut352 p1, cut352 p2, cut352 p3, cut352 p4, cut352 p5, cut352 p6, cut352 p7]) shapeCasts_S352x1024_S1x352x1024 := rfl
theorem pay3_1 : k0_pay38 (k0_pay33 (k0_pay31 p0) (k0_pay32 p1) p2 p3 p4 p5 p6 p7) (k0_pay35 u) v t
    = shapeCast S1x352x1024 (change (total ![cut352 p0, cut352 p1, cut352 p2, cut352 p3, cut352 p4, cut352 p5, cut352 p6, cut352 p7]) (cut352 u) (cut352 v) (cut352 t)) shapeCasts_S352x1024_S1x352x1024 := rfl
theorem pay3_2 : k0_pay39 (k0_pay33 (k0_pay31 p0) (k0_pay32 p1) p2 p3 p4 p5 p6 p7) v
    = shapeCast S1x352x1024 (first (total ![cut352 p0, cut352 p1, cut352 p2, cut352 p3, cut352 p4, cut352 p5, cut352 p6, cut352 p7]) (cut352 v)) shapeCasts_S352x1024_S1x352x1024 := rfl
theorem pay3_3 : k0_pay40 (k0_pay33 (k0_pay31 p0) (k0_pay32 p1) p2 p3 p4 p5 p6 p7) t
    = shapeCast S1x352x1024 (second (total ![cut352 p0, cut352 p1, cut352 p2, cut352 p3, cut352 p4, cut352 p5, cut352 p6, cut352 p7]) (cut352 t)) shapeCasts_S352x1024_S1x352x1024 := rfl
end

section
variable (c : Dev nD)
    (w0 : Held F c main_arg0) (w1 : Held F c main_arg1) (w2 : Held F c main_arg2) (w3 : Held F c main_arg3) (r0 : Held F c main_arg4)
    (r1 : Held F c main_arg5) (r2 : Held F c main_arg6) (r3 : Held F c main_arg7) (a0 : Held F c main_arg8) (a1 : Held F c main_arg9)
    (a2 : Held F c main_arg10) (a3 : Held F c main_arg11) (b0 : Held F c main_arg12) (b1 : Held F c main_arg13) (b2 : Held F c main_arg14)
    (b3 : Held F c main_arg15) (o0 : Held F c main_v0_0) (o1 : Held F c main_v0_1) (o2 : Held F c main_v0_2) (o3 : Held F c main_v0_3)
    (o4 : Held F c main_v0_4) (o5 : Held F c main_v0_5) (o6 : Held F c main_v0_6) (o7 : Held F c main_v0_7) (o8 : Held F c main_v0_8)
    (o9 : Held F c main_v0_9) (o10 : Held F c main_v0_10) (o11 : Held F c main_v0_11) (o12 : Held F c main_v0_12) (o13 : Held F c main_v0_13)
    (o14 : Held F c main_v0_14) (o15 : Held F c main_v0_15)
    (x : Held F c cc0_scratch0) (y : Held F c cc0_scratch1) (z : Held F c cc0_scratch2)

/-- The first weight's slots and arrays as the body reads them are its arguments. -/
theorem read_r0_0 : cut128 (run.sl.v30 c r0) = slot r0 0 := by
  unfold run.sl.v30
  exact slot_read (Memref.whole cc0_scratch1).view (run.sl.dma0_3 c r0) _ _ 0 (by decide) _ shapeCasts_S1x128x1024_S128x1024
theorem read_r0_1 : cut128 (run.sl.v33 c r0) = slot r0 1 := by
  unfold run.sl.v33
  exact slot_read (Memref.whole cc0_scratch1).view (run.sl.dma0_3 c r0) _ _ 1 (by decide) _ shapeCasts_S1x128x1024_S128x1024
theorem read_r0_2 : cut128 (run.sl.v37 c r0) = slot r0 2 := by
  unfold run.sl.v37
  exact slot_read (Memref.whole cc0_scratch1).view (run.sl.dma0_3 c r0) _ _ 2 (by decide) _ shapeCasts_S1x128x1024_S128x1024
theorem read_r0_3 : cut128 (run.sl.v41 c r0) = slot r0 3 := by
  unfold run.sl.v41
  exact slot_read (Memref.whole cc0_scratch1).view (run.sl.dma0_3 c r0) _ _ 3 (by decide) _ shapeCasts_S1x128x1024_S128x1024
theorem read_r0_4 : cut128 (run.sl.v45 c r0) = slot r0 4 := by
  unfold run.sl.v45
  exact slot_read (Memref.whole cc0_scratch1).view (run.sl.dma0_3 c r0) _ _ 4 (by decide) _ shapeCasts_S1x128x1024_S128x1024
theorem read_r0_5 : cut128 (run.sl.v49 c r0) = slot r0 5 := by
  unfold run.sl.v49
  exact slot_read (Memref.whole cc0_scratch1).view (run.sl.dma0_3 c r0) _ _ 5 (by decide) _ shapeCasts_S1x128x1024_S128x1024
theorem read_r0_6 : cut128 (run.sl.v53 c r0) = slot r0 6 := by
  unfold run.sl.v53
  exact slot_read (Memref.whole cc0_scratch1).view (run.sl.dma0_3 c r0) _ _ 6 (by decide) _ shapeCasts_S1x128x1024_S128x1024
theorem read_r0_7 : cut128 (run.sl.v57 c r0) = slot r0 7 := by
  unfold run.sl.v57
  exact slot_read (Memref.whole cc0_scratch1).view (run.sl.dma0_3 c r0) _ _ 7 (by decide) _ shapeCasts_S1x128x1024_S128x1024
theorem reads0 : ![cut128 (run.sl.v30 c r0), cut128 (run.sl.v33 c r0), cut128 (run.sl.v37 c r0), cut128 (run.sl.v41 c r0), cut128 (run.sl.v45 c r0),
    cut128 (run.sl.v49 c r0), cut128 (run.sl.v53 c r0), cut128 (run.sl.v57 c r0)] = slot r0 := by
  rw [read_r0_0, read_r0_1, read_r0_2, read_r0_3, read_r0_4, read_r0_5, read_r0_6, read_r0_7]
  exact (slot_all _).symm
theorem read_w0 : cut128 (run.sl.v64 c w0 a0 b0 x) = w0 :=
  (congrArg cut128 ((row_miss _ _ _ _ _ _ (by decide)).trans ((row_miss _ _ _ _ _ _ (by decide)).trans (row_hit _ _ _ _ _ shapeCasts_S128x1024_S1x128x1024)))).trans (shapeCast_shapeCast _ _ _)
theorem read_a0 : cut128 (run.sl.v66 c w0 a0 b0 x) = a0 :=
  (congrArg cut128 ((row_miss _ _ _ _ _ _ (by decide)).trans (row_hit _ _ _ _ _ shapeCasts_S128x1024_S1x128x1024))).trans (shapeCast_shapeCast _ _ _)
theorem read_b0 : cut128 (run.sl.v68 c w0 a0 b0 x) = b0 :=
  (congrArg cut128 (row_hit _ _ _ _ _ shapeCasts_S128x1024_S1x128x1024)).trans (shapeCast_shapeCast _ _ _)

/-- Its four results. -/
theorem out0_0 : run.sl.dma19 c w0 r0 a0 b0 x z = total (slot r0) := by
  unfold run.sl.dma19 run.sl.Hz_4
  unfold run.sl.r
  rw [pay0_0]
  refine (row_stored _ _ _ _ _ shapeCasts_S128x1024_S1x128x1024 _ [_, _, _] rfl).trans ?_
  rw [reads0]
theorem out0_1 : run.sl.dma19_1 c w0 r0 a0 b0 x z = change (total (slot r0)) w0 a0 b0 := by
  unfold run.sl.dma19_1 run.sl.Hz_4
  unfold run.sl.v96 run.sl.r_3 run.sl.r
  rw [pay0_1]
  refine (row_stored _ _ _ _ _ shapeCasts_S128x1024_S1x128x1024 _ [_, _] rfl).trans ?_
  rw [reads0, read_w0, read_a0, read_b0]
theorem out0_2 : run.sl.dma19_2 c w0 r0 a0 b0 x z = first (total (slot r0)) a0 := by
  unfold run.sl.dma19_2 run.sl.Hz_4
  unfold run.sl.v99 run.sl.r_1 run.sl.r
  rw [pay0_2]
  refine (row_stored _ _ _ _ _ shapeCasts_S128x1024_S1x128x1024 _ [_] rfl).trans ?_
  rw [reads0, read_a0]
theorem out0_3 : run.sl.dma19_3 c w0 r0 a0 b0 x z = second (total (slot r0)) b0 := by
  unfold run.sl.dma19_3 run.sl.Hz_4
  unfold run.sl.v102 run.sl.r_2 run.sl.r
  rw [pay0_3]
  refine (row_stored _ _ _ _ _ shapeCasts_S128x1024_S1x128x1024 _ [] rfl).trans ?_
  rw [reads0, read_b0]

/-- The second weight's slots and arrays as the body reads them are its arguments. -/
theorem read_r1_0 : cut352 (run.sl.v165 c r0 r1) = slot r1 0 := by
  unfold run.sl.v165
  exact slot_read (Memref.whole cc0_scratch1).view (run.sl.dma19_7 c r1) _ _ 0 (by decide) _ shapeCasts_S1x352x1024_S352x1024
theorem read_r1_1 : cut352 (run.sl.v168 c r0 r1) = slot r1 1 := by
  unfold run.sl.v168
  exact slot_read (Memref.whole cc0_scratch1).view (run.sl.dma19_7 c r1) _ _ 1 (by decide) _ shapeCasts_S1x352x1024_S352x1024
theorem read_r1_2 : cut352 (run.sl.v172 c r0 r1) = slot r1 2 := by
  unfold run.sl.v172
  exact slot_read (Memref.whole cc0_scratch1).view (run.sl.dma19_7 c r1) _ _ 2 (by decide) _ shapeCasts_S1x352x1024_S352x1024
theorem read_r1_3 : cut352 (run.sl.v176 c r0 r1) = slot r1 3 := by
  unfold run.sl.v176
  exact slot_read (Memref.whole cc0_scratch1).view (run.sl.dma19_7 c r1) _ _ 3 (by decide) _ shapeCasts_S1x352x1024_S352x1024
theorem read_r1_4 : cut352 (run.sl.v180 c r0 r1) = slot r1 4 := by
  unfold run.sl.v180
  exact slot_read (Memref.whole cc0_scratch1).view (run.sl.dma19_7 c r1) _ _ 4 (by decide) _ shapeCasts_S1x352x1024_S352x1024
theorem read_r1_5 : cut352 (run.sl.v184 c r0 r1) = slot r1 5 := by
  unfold run.sl.v184
  exact slot_read (Memref.whole cc0_scratch1).view (run.sl.dma19_7 c r1) _ _ 5 (by decide) _ shapeCasts_S1x352x1024_S352x1024
theorem read_r1_6 : cut352 (run.sl.v188 c r0 r1) = slot r1 6 := by
  unfold run.sl.v188
  exact slot_read (Memref.whole cc0_scratch1).view (run.sl.dma19_7 c r1) _ _ 6 (by decide) _ shapeCasts_S1x352x1024_S352x1024
theorem read_r1_7 : cut352 (run.sl.v192 c r0 r1) = slot r1 7 := by
  unfold run.sl.v192
  exact slot_read (Memref.whole cc0_scratch1).view (run.sl.dma19_7 c r1) _ _ 7 (by decide) _ shapeCasts_S1x352x1024_S352x1024
theorem reads1 : ![cut352 (run.sl.v165 c r0 r1), cut352 (run.sl.v168 c r0 r1), cut352 (run.sl.v172 c r0 r1), cut352 (run.sl.v176 c r0 r1),
    cut352 (run.sl.v180 c r0 r1), cut352 (run.sl.v184 c r0 r1), cut352 (run.sl.v188 c r0 r1), cut352 (run.sl.v192 c r0 r1)] = slot r1 := by
  rw [read_r1_0, read_r1_1, read_r1_2, read_r1_3, read_r1_4, read_r1_5, read_r1_6, read_r1_7]
  exact (slot_all _).symm
theorem read_w1 : cut352 (run.sl.v199 c w0 w1 a0 a1 b0 b1 x) = w1 :=
  (congrArg cut352 ((row_miss _ _ _ _ _ _ (by decide)).trans ((row_miss _ _ _ _ _ _ (by decide)).trans (row_hit _ _ _ _ _ shapeCasts_S352x1024_S1x352x1024)))).trans (shapeCast_shapeCast _ _ _)
theorem read_a1 : cut352 (run.sl.v201 c w0 w1 a0 a1 b0 b1 x) = a1 :=
  (congrArg cut352 ((row_miss _ _ _ _ _ _ (by decide)).trans (row_hit _ _ _ _ _ shapeCasts_S352x1024_S1x352x1024))).trans (shapeCast_shapeCast _ _ _)
theorem read_b1 : cut352 (run.sl.v203 c w0 w1 a0 a1 b0 b1 x) = b1 :=
  (congrArg cut352 (row_hit _ _ _ _ _ shapeCasts_S352x1024_S1x352x1024)).trans (shapeCast_shapeCast _ _ _)

/-- Its four results. -/
theorem out1_0 : run.sl.dma38 c w0 w1 r0 r1 a0 a1 b0 b1 x z = total (slot r1) := by
  unfold run.sl.dma38 run.sl.Hz_8
  unfold run.sl.r_4
  rw [pay1_0]
  refine (row_stored _ _ _ _ _ shapeCasts_S352x1024_S1x352x1024 _ [_, _, _] rfl).trans ?_
  rw [reads1]
theorem out1_1 : run.sl.dma38_1 c w0 w1 r0 r1 a0 a1 b0 b1 x z = change (total (slot r1)) w1 a1 b1 := by
  unfold run.sl.dma38_1 run.sl.Hz_8
  unfold run.sl.r_5 run.sl.r_4 run.sl.r_6 run.sl.r_7 run.sl.r_8
  rw [pay1_1]
  refine (row_stored _ _ _ _ _ shapeCasts_S352x1024_S1x352x1024 _ [_, _] rfl).trans ?_
  rw [reads1, read_w1, read_a1, read_b1]
theorem out1_2 : run.sl.dma38_2 c w0 w1 r0 r1 a0 a1 b0 b1 x z = first (total (slot r1)) a1 := by
  unfold run.sl.dma38_2 run.sl.Hz_8
  unfold run.sl.r_5 run.sl.r_4 run.sl.r_7
  rw [pay1_2]
  refine (row_stored _ _ _ _ _ shapeCasts_S352x1024_S1x352x1024 _ [_] rfl).trans ?_
  rw [reads1, read_a1]
theorem out1_3 : run.sl.dma38_3 c w0 w1 r0 r1 a0 a1 b0 b1 x z = second (total (slot r1)) b1 := by
  unfold run.sl.dma38_3 run.sl.Hz_8
  unfold run.sl.r_5 run.sl.r_4 run.sl.r_8
  rw [pay1_3]
  refine (row_stored _ _ _ _ _ shapeCasts_S352x1024_S1x352x1024 _ [] rfl).trans ?_
  rw [reads1, read_b1]

/-- The third weight's slots and arrays as the body reads them are its arguments. -/
theorem read_r2_0 : cut352 (run.sl.v300 c r0 r1 r2) = slot r2 0 := by
  unfold run.sl.v300
  exact slot_read (Memref.whole cc0_scratch1).view (run.sl.dma38_7 c r2) _ _ 0 (by decide) _ shapeCasts_S1x352x1024_S352x1024
theorem read_r2_1 : cut352 (run.sl.v303 c r0 r1 r2) = slot r2 1 := by
  unfold run.sl.v303
  exact slot_read (Memref.whole cc0_scratch1).view (run.sl.dma38_7 c r2) _ _ 1 (by decide) _ shapeCasts_S1x352x1024_S352x1024
theorem read_r2_2 : cut352 (run.sl.v307 c r0 r1 r2) = slot r2 2 := by
  unfold run.sl.v307
  exact slot_read (Memref.whole cc0_scratch1).view (run.sl.dma38_7 c r2) _ _ 2 (by decide) _ shapeCasts_S1x352x1024_S352x1024
theorem read_r2_3 : cut352 (run.sl.v311 c r0 r1 r2) = slot r2 3 := by
  unfold run.sl.v311
  exact slot_read (Memref.whole cc0_scratch1).view (run.sl.dma38_7 c r2) _ _ 3 (by decide) _ shapeCasts_S1x352x1024_S352x1024
theorem read_r2_4 : cut352 (run.sl.v315 c r0 r1 r2) = slot r2 4 := by
  unfold run.sl.v315
  exact slot_read (Memref.whole cc0_scratch1).view (run.sl.dma38_7 c r2) _ _ 4 (by decide) _ shapeCasts_S1x352x1024_S352x1024
theorem read_r2_5 : cut352 (run.sl.v319 c r0 r1 r2) = slot r2 5 := by
  unfold run.sl.v319
  exact slot_read (Memref.whole cc0_scratch1).view (run.sl.dma38_7 c r2) _ _ 5 (by decide) _ shapeCasts_S1x352x1024_S352x1024
theorem read_r2_6 : cut352 (run.sl.v323 c r0 r1 r2) = slot r2 6 := by
  unfold run.sl.v323
  exact slot_read (Memref.whole cc0_scratch1).view (run.sl.dma38_7 c r2) _ _ 6 (by decide) _ shapeCasts_S1x352x1024_S352x1024
theorem read_r2_7 : cut352 (run.sl.v327 c r0 r1 r2) = slot r2 7 := by
  unfold run.sl.v327
  exact slot_read (Memref.whole cc0_scratch1).view (run.sl.dma38_7 c r2) _ _ 7 (by decide) _ shapeCasts_S1x352x1024_S352x1024
theorem reads2 : ![cut352 (run.sl.v300 c r0 r1 r2), cut352 (run.sl.v303 c r0 r1 r2), cut352 (run.sl.v307 c r0 r1 r2), cut352 (run.sl.v311 c r0 r1 r2),
    cut352 (run.sl.v315 c r0 r1 r2), cut352 (run.sl.v319 c r0 r1 r2), cut352 (run.sl.v323 c r0 r1 r2), cut352 (run.sl.v327 c r0 r1 r2)] = slot r2 := by
  rw [read_r2_0, read_r2_1, read_r2_2, read_r2_3, read_r2_4, read_r2_5, read_r2_6, read_r2_7]
  exact (slot_all _).symm
theorem read_w2 : cut352 (run.sl.v334 c w0 w1 w2 a0 a1 a2 b0 b1 b2 x) = w2 :=
  (congrArg cut352 ((row_miss _ _ _ _ _ _ (by decide)).trans ((row_miss _ _ _ _ _ _ (by decide)).trans (row_hit _ _ _ _ _ shapeCasts_S352x1024_S1x352x1024)))).trans (shapeCast_shapeCast _ _ _)
theorem read_a2 : cut352 (run.sl.v336 c w0 w1 w2 a0 a1 a2 b0 b1 b2 x) = a2 :=
  (congrArg cut352 ((row_miss _ _ _ _ _ _ (by decide)).trans (row_hit _ _ _ _ _ shapeCasts_S352x1024_S1x352x1024))).trans (shapeCast_shapeCast _ _ _)
theorem read_b2 : cut352 (run.sl.v338 c w0 w1 w2 a0 a1 a2 b0 b1 b2 x) = b2 :=
  (congrArg cut352 (row_hit _ _ _ _ _ shapeCasts_S352x1024_S1x352x1024)).trans (shapeCast_shapeCast _ _ _)

/-- Its four results. -/
theorem out2_0 : run.sl.dma57 c w0 w1 w2 r0 r1 r2 a0 a1 a2 b0 b1 b2 x z = total (slot r2) := by
  unfold run.sl.dma57 run.sl.Hz_12
  unfold run.sl.r_9
  rw [pay2_0]
  refine (row_stored _ _ _ _ _ shapeCasts_S352x1024_S1x352x1024 _ [_, _, _] rfl).trans ?_
  rw [reads2]
theorem out2_1 : run.sl.dma57_1 c w0 w1 w2 r0 r1 r2 a0 a1 a2 b0 b1 b2 x z = change (total (slot r2)) w2 a2 b2 := by
  unfold run.sl.dma57_1 run.sl.Hz_12
  unfold run.sl.r_10 run.sl.r_13 run.sl.r_9 run.sl.cst_298
  rw [pay2_1]
  refine (row_stored _ _ _ _ _ shapeCasts_S352x1024_S1x352x1024 _ [_, _] rfl).trans ?_
  rw [reads2, read_w2, read_a2, read_b2]
theorem out2_2 : run.sl.dma57_2 c w0 w1 w2 r0 r1 r2 a0 a1 a2 b0 b1 b2 x z = first (total (slot r2)) a2 := by
  unfold run.sl.dma57_2 run.sl.Hz_12
  unfold run.sl.r_11 run.sl.r_9
  rw [pay2_2]
  refine (row_stored _ _ _ _ _ shapeCasts_S352x1024_S1x352x1024 _ [_] rfl).trans ?_
  rw [reads2, read_a2]
theorem out2_3 : run.sl.dma57_3 c w0 w1 w2 r0 r1 r2 a0 a1 a2 b0 b1 b2 x z = second (total (slot r2)) b2 := by
  unfold run.sl.dma57_3 run.sl.Hz_12
  unfold run.sl.r_12 run.sl.r_9
  rw [pay2_3]
  refine (row_stored _ _ _ _ _ shapeCasts_S352x1024_S1x352x1024 _ [] rfl).trans ?_
  rw [reads2, read_b2]

/-- The fourth weight's slots and arrays as the body reads them are its arguments. -/
theorem read_r3_0 : cut352 (run.sl.v435 c r0 r1 r2 r3) = slot r3 0 := by
  unfold run.sl.v435
  exact slot_read (Memref.whole cc0_scratch1).view (run.sl.dma57_7 c r3) _ _ 0 (by decide) _ shapeCasts_S1x352x1024_S352x1024
theorem read_r3_1 : cut352 (run.sl.v438 c r0 r1 r2 r3) = slot r3 1 := by
  unfold run.sl.v438
  exact slot_read (Memref.whole cc0_scratch1).view (run.sl.dma57_7 c r3) _ _ 1 (by decide) _ shapeCasts_S1x352x1024_S352x1024
theorem read_r3_2 : cut352 (run.sl.v442 c r0 r1 r2 r3) = slot r3 2 := by
  unfold run.sl.v442
  exact slot_read (Memref.whole cc0_scratch1).view (run.sl.dma57_7 c r3) _ _ 2 (by decide) _ shapeCasts_S1x352x1024_S352x1024
theorem read_r3_3 : cut352 (run.sl.v446 c r0 r1 r2 r3) = slot r3 3 := by
  unfold run.sl.v446
  exact slot_read (Memref.whole cc0_scratch1).view (run.sl.dma57_7 c r3) _ _ 3 (by decide) _ shapeCasts_S1x352x1024_S352x1024
theorem read_r3_4 : cut352 (run.sl.v450 c r0 r1 r2 r3) = slot r3 4 := by
  unfold run.sl.v450
  exact slot_read (Memref.whole cc0_scratch1).view (run.sl.dma57_7 c r3) _ _ 4 (by decide) _ shapeCasts_S1x352x1024_S352x1024
theorem read_r3_5 : cut352 (run.sl.v454 c r0 r1 r2 r3) = slot r3 5 := by
  unfold run.sl.v454
  exact slot_read (Memref.whole cc0_scratch1).view (run.sl.dma57_7 c r3) _ _ 5 (by decide) _ shapeCasts_S1x352x1024_S352x1024
theorem read_r3_6 : cut352 (run.sl.v458 c r0 r1 r2 r3) = slot r3 6 := by
  unfold run.sl.v458
  exact slot_read (Memref.whole cc0_scratch1).view (run.sl.dma57_7 c r3) _ _ 6 (by decide) _ shapeCasts_S1x352x1024_S352x1024
theorem read_r3_7 : cut352 (run.sl.v462 c r0 r1 r2 r3) = slot r3 7 := by
  unfold run.sl.v462
  exact slot_read (Memref.whole cc0_scratch1).view (run.sl.dma57_7 c r3) _ _ 7 (by decide) _ shapeCasts_S1x352x1024_S352x1024
theorem reads3 : ![cut352 (run.sl.v435 c r0 r1 r2 r3), cut352 (run.sl.v438 c r0 r1 r2 r3), cut352 (run.sl.v442 c r0 r1 r2 r3),
    cut352 (run.sl.v446 c r0 r1 r2 r3), cut352 (run.sl.v450 c r0 r1 r2 r3), cut352 (run.sl.v454 c r0 r1 r2 r3),
    cut352 (run.sl.v458 c r0 r1 r2 r3), cut352 (run.sl.v462 c r0 r1 r2 r3)] = slot r3 := by
  rw [read_r3_0, read_r3_1, read_r3_2, read_r3_3, read_r3_4, read_r3_5, read_r3_6, read_r3_7]
  exact (slot_all _).symm
theorem read_w3 : cut352 (run.sl.v469 c w0 w1 w2 w3 a0 a1 a2 a3 b0 b1 b2 b3 x) = w3 :=
  (congrArg cut352 ((row_miss _ _ _ _ _ _ (by decide)).trans ((row_miss _ _ _ _ _ _ (by decide)).trans (row_hit _ _ _ _ _ shapeCasts_S352x1024_S1x352x1024)))).trans (shapeCast_shapeCast _ _ _)
theorem read_a3 : cut352 (run.sl.v471 c w0 w1 w2 w3 a0 a1 a2 a3 b0 b1 b2 b3 x) = a3 :=
  (congrArg cut352 ((row_miss _ _ _ _ _ _ (by decide)).trans (row_hit _ _ _ _ _ shapeCasts_S352x1024_S1x352x1024))).trans (shapeCast_shapeCast _ _ _)
theorem read_b3 : cut352 (run.sl.v473 c w0 w1 w2 w3 a0 a1 a2 a3 b0 b1 b2 b3 x) = b3 :=
  (congrArg cut352 (row_hit _ _ _ _ _ shapeCasts_S352x1024_S1x352x1024)).trans (shapeCast_shapeCast _ _ _)

/-- Its four results. -/
theorem out3_0 : run.sl.dma76 c w0 w1 w2 w3 r0 r1 r2 r3 a0 a1 a2 a3 b0 b1 b2 b3 x z = total (slot r3) := by
  unfold run.sl.dma76 run.sl.Hz_16
  unfold run.sl.r_14 run.sl.r_15
  rw [pay3_0]
  refine (row_stored _ _ _ _ _ shapeCasts_S352x1024_S1x352x1024 _ [_, _, _] rfl).trans ?_
  rw [reads3]
theorem out3_1 : run.sl.dma76_1 c w0 w1 w2 w3 r0 r1 r2 r3 a0 a1 a2 a3 b0 b1 b2 b3 x z = change (total (slot r3)) w3 a3 b3 := by
  unfold run.sl.dma76_1 run.sl.Hz_16
  unfold run.sl.r_16 run.sl.r_14 run.sl.r_15 run.sl.r_17
  rw [pay3_1]
  refine (row_stored _ _ _ _ _ shapeCasts_S352x1024_S1x352x1024 _ [_, _] rfl).trans ?_
  rw [reads3, read_w3, read_a3, read_b3]
theorem out3_2 : run.sl.dma76_2 c w0 w1 w2 w3 r0 r1 r2 r3 a0 a1 a2 a3 b0 b1 b2 b3 x z = first (total (slot r3)) a3 := by
  unfold run.sl.dma76_2 run.sl.Hz_16
  unfold run.sl.r_16 run.sl.r_14 run.sl.r_15
  rw [pay3_2]
  refine (row_stored _ _ _ _ _ shapeCasts_S352x1024_S1x352x1024 _ [_] rfl).trans ?_
  rw [reads3, read_a3]
theorem out3_3 : run.sl.dma76_3 c w0 w1 w2 w3 r0 r1 r2 r3 a0 a1 a2 a3 b0 b1 b2 b3 x z = second (total (slot r3)) b3 := by
  unfold run.sl.dma76_3 run.sl.Hz_16
  unfold run.sl.r_16 run.sl.r_14 run.sl.r_15
  rw [pay3_3]
  refine (row_stored _ _ _ _ _ shapeCasts_S352x1024_S1x352x1024 _ [] rfl).trans ?_
  rw [reads3, read_b3]

set_option maxHeartbeats 2000000 in
/-- The run leaves the sixteen results, whatever the buffers held before. -/
theorem run_eq : (run c w0 w1 w2 w3 r0 r1 r2 r3 a0 a1 a2 a3 b0 b1 b2 b3 o0 o1 o2 o3 o4 o5 o6 o7 o8 o9 o10 o11 o12 o13 o14 o15 x y z).1
    = (total (slot r0), total (slot r1), total (slot r2), total (slot r3), change (total (slot r0)) w0 a0 b0, change (total (slot r1)) w1 a1 b1,
      change (total (slot r2)) w2 a2 b2, change (total (slot r3)) w3 a3 b3, first (total (slot r0)) a0, first (total (slot r1)) a1,
      first (total (slot r2)) a2, first (total (slot r3)) a3, second (total (slot r0)) b0, second (total (slot r1)) b1,
      second (total (slot r2)) b2, second (total (slot r3)) b3) := by
  unfold run
  dsimp only
  rw [out0_0, out1_0, out2_0, out3_0, out0_1, out1_1, out2_1, out3_1, out0_2, out1_2, out2_2, out3_2, out0_3, out1_3, out2_3, out3_3]
  iterate 16 rw [View.write_whole_univ]
end

/-! ## The launch -/

/-- The counters of the body's copies. -/
abbrev cells (j : Fin 8) : SemLoc sig := SemLoc.dma j
theorem cells_facts : Pipeline.OwnSemFacts cfg0.spec cells := by decide
/-- The arrays that the body copies in and out. -/
def moved : Finset (Ref sig .tc) :=
  {main_arg0, main_arg1, main_arg2, main_arg3, main_arg4, main_arg5, main_arg6, main_arg7, main_arg8, main_arg9, main_arg10, main_arg11,
    main_arg12, main_arg13, main_arg14, main_arg15, main_v0_0, main_v0_1, main_v0_2, main_v0_3, main_v0_4, main_v0_5, main_v0_6, main_v0_7,
    main_v0_8, main_v0_9, main_v0_10, main_v0_11, main_v0_12, main_v0_13, main_v0_14, main_v0_15}
theorem moved_sub : moved ⊆ Pipeline.restRefs sig cfg0.spec := by decide

/-- What the arrays hold after the call: the sixteen results, and every other array as it was. -/
def after (c : Dev nD) : (b : Ref sig .tc) → Buf (Elt F) ((c : Thread nD τ).loc b) :=
  Function.update (Function.update (Function.update (Function.update (Function.update (Function.update (Function.update (Function.update (
  Function.update (Function.update (Function.update (Function.update (Function.update (Function.update (Function.update (Function.update (V m c)
    main_v0_0 (total (slot (V m c main_arg4))))
    main_v0_1 (total (slot (V m c main_arg5))))
    main_v0_2 (total (slot (V m c main_arg6))))
    main_v0_3 (total (slot (V m c main_arg7))))
    main_v0_4 (change (total (slot (V m c main_arg4))) (V m c main_arg0) (V m c main_arg8) (V m c main_arg12)))
    main_v0_5 (change (total (slot (V m c main_arg5))) (V m c main_arg1) (V m c main_arg9) (V m c main_arg13)))
    main_v0_6 (change (total (slot (V m c main_arg6))) (V m c main_arg2) (V m c main_arg10) (V m c main_arg14)))
    main_v0_7 (change (total (slot (V m c main_arg7))) (V m c main_arg3) (V m c main_arg11) (V m c main_arg15)))
    main_v0_8 (first (total (slot (V m c main_arg4))) (V m c main_arg8)))
    main_v0_9 (first (total (slot (V m c main_arg5))) (V m c main_arg9)))
    main_v0_10 (first (total (slot (V m c main_arg6))) (V m c main_arg10)))
    main_v0_11 (first (total (slot (V m c main_arg7))) (V m c main_arg11)))
    main_v0_12 (second (total (slot (V m c main_arg4))) (V m c main_arg12)))
    main_v0_13 (second (total (slot (V m c main_arg5))) (V m c main_arg13)))
    main_v0_14 (second (total (slot (V m c main_arg6))) (V m c main_arg14)))
    main_v0_15 (second (total (slot (V m c main_arg7))) (V m c main_arg15))

theorem after_arg (c : Dev nD) (b : Ref sig .tc) (h : b ≠ main_v0_0 ∧ b ≠ main_v0_1 ∧ b ≠ main_v0_2 ∧ b ≠ main_v0_3 ∧ b ≠ main_v0_4 ∧ b ≠ main_v0_5 ∧ b ≠ main_v0_6 ∧ b ≠ main_v0_7 ∧
    b ≠ main_v0_8 ∧ b ≠ main_v0_9 ∧ b ≠ main_v0_10 ∧ b ≠ main_v0_11 ∧ b ≠ main_v0_12 ∧ b ≠ main_v0_13 ∧ b ≠ main_v0_14 ∧ b ≠ main_v0_15) : after m c b = V m c b := by
  unfold after
  obtain ⟨h0, h1, h2, h3, h4, h5, h6, h7, h8, h9, h10, h11, h12, h13, h14, h15⟩ := h
  rw [Function.update_of_ne h15, Function.update_of_ne h14, Function.update_of_ne h13, Function.update_of_ne h12, Function.update_of_ne h11,
    Function.update_of_ne h10, Function.update_of_ne h9, Function.update_of_ne h8, Function.update_of_ne h7, Function.update_of_ne h6,
    Function.update_of_ne h5, Function.update_of_ne h4, Function.update_of_ne h3, Function.update_of_ne h2, Function.update_of_ne h1,
    Function.update_of_ne h0]
theorem after_0 (c : Dev nD) : after m c main_v0_0 = total (slot (V m c main_arg4)) := by
  unfold after
  repeat first | rw [Function.update_self] | rw [Function.update_of_ne (by decide)]
theorem after_1 (c : Dev nD) : after m c main_v0_1 = total (slot (V m c main_arg5)) := by
  unfold after
  repeat first | rw [Function.update_self] | rw [Function.update_of_ne (by decide)]
theorem after_2 (c : Dev nD) : after m c main_v0_2 = total (slot (V m c main_arg6)) := by
  unfold after
  repeat first | rw [Function.update_self] | rw [Function.update_of_ne (by decide)]
theorem after_3 (c : Dev nD) : after m c main_v0_3 = total (slot (V m c main_arg7)) := by
  unfold after
  repeat first | rw [Function.update_self] | rw [Function.update_of_ne (by decide)]
theorem after_4 (c : Dev nD) : after m c main_v0_4 = change (total (slot (V m c main_arg4))) (V m c main_arg0) (V m c main_arg8) (V m c main_arg12) := by
  unfold after
  repeat first | rw [Function.update_self] | rw [Function.update_of_ne (by decide)]
theorem after_5 (c : Dev nD) : after m c main_v0_5 = change (total (slot (V m c main_arg5))) (V m c main_arg1) (V m c main_arg9) (V m c main_arg13) := by
  unfold after
  repeat first | rw [Function.update_self] | rw [Function.update_of_ne (by decide)]
theorem after_6 (c : Dev nD) : after m c main_v0_6 = change (total (slot (V m c main_arg6))) (V m c main_arg2) (V m c main_arg10) (V m c main_arg14) := by
  unfold after
  repeat first | rw [Function.update_self] | rw [Function.update_of_ne (by decide)]
theorem after_7 (c : Dev nD) : after m c main_v0_7 = change (total (slot (V m c main_arg7))) (V m c main_arg3) (V m c main_arg11) (V m c main_arg15) := by
  unfold after
  repeat first | rw [Function.update_self] | rw [Function.update_of_ne (by decide)]
theorem after_8 (c : Dev nD) : after m c main_v0_8 = first (total (slot (V m c main_arg4))) (V m c main_arg8) := by
  unfold after
  repeat first | rw [Function.update_self] | rw [Function.update_of_ne (by decide)]
theorem after_9 (c : Dev nD) : after m c main_v0_9 = first (total (slot (V m c main_arg5))) (V m c main_arg9) := by
  unfold after
  repeat first | rw [Function.update_self] | rw [Function.update_of_ne (by decide)]
theorem after_10 (c : Dev nD) : after m c main_v0_10 = first (total (slot (V m c main_arg6))) (V m c main_arg10) := by
  unfold after
  repeat first | rw [Function.update_self] | rw [Function.update_of_ne (by decide)]
theorem after_11 (c : Dev nD) : after m c main_v0_11 = first (total (slot (V m c main_arg7))) (V m c main_arg11) := by
  unfold after
  repeat first | rw [Function.update_self] | rw [Function.update_of_ne (by decide)]
theorem after_12 (c : Dev nD) : after m c main_v0_12 = second (total (slot (V m c main_arg4))) (V m c main_arg12) := by
  unfold after
  repeat first | rw [Function.update_self] | rw [Function.update_of_ne (by decide)]
theorem after_13 (c : Dev nD) : after m c main_v0_13 = second (total (slot (V m c main_arg5))) (V m c main_arg13) := by
  unfold after
  repeat first | rw [Function.update_self] | rw [Function.update_of_ne (by decide)]
theorem after_14 (c : Dev nD) : after m c main_v0_14 = second (total (slot (V m c main_arg6))) (V m c main_arg14) := by
  unfold after
  repeat first | rw [Function.update_self] | rw [Function.update_of_ne (by decide)]
theorem after_15 (c : Dev nD) : after m c main_v0_15 = second (total (slot (V m c main_arg7))) (V m c main_arg15) := by
  unfold after
  repeat first | rw [Function.update_self] | rw [Function.update_of_ne (by decide)]

set_option maxHeartbeats 4000000 in
/-- What the body starts from and what it leaves, buffer by buffer. -/
theorem ends_eq (c : Dev nD) (f : (b : Ref sig .tc) → Buf (Elt F) ((c : Thread nD τ).loc b)) :
    (Pipeline.Ends cfg0.spec cells moved c f : sProp (Res F))
      = iprop(iprop(at_ c main_arg0 (f main_arg0) ∗ at_ c main_arg1 (f main_arg1) ∗ at_ c main_arg2 (f main_arg2) ∗
            at_ c main_arg3 (f main_arg3) ∗ at_ c main_arg4 (f main_arg4) ∗ at_ c main_arg5 (f main_arg5) ∗
            at_ c main_arg6 (f main_arg6) ∗ at_ c main_arg7 (f main_arg7) ∗ at_ c main_arg8 (f main_arg8) ∗
            at_ c main_arg9 (f main_arg9) ∗ at_ c main_arg10 (f main_arg10) ∗ at_ c main_arg11 (f main_arg11) ∗
            at_ c main_arg12 (f main_arg12) ∗ at_ c main_arg13 (f main_arg13) ∗ at_ c main_arg14 (f main_arg14) ∗
            at_ c main_arg15 (f main_arg15) ∗ at_ c main_v0_0 (f main_v0_0) ∗ at_ c main_v0_1 (f main_v0_1) ∗
            at_ c main_v0_2 (f main_v0_2) ∗ at_ c main_v0_3 (f main_v0_3) ∗ at_ c main_v0_4 (f main_v0_4) ∗
            at_ c main_v0_5 (f main_v0_5) ∗ at_ c main_v0_6 (f main_v0_6) ∗ at_ c main_v0_7 (f main_v0_7) ∗
            at_ c main_v0_8 (f main_v0_8) ∗ at_ c main_v0_9 (f main_v0_9) ∗ at_ c main_v0_10 (f main_v0_10) ∗
            at_ c main_v0_11 (f main_v0_11) ∗ at_ c main_v0_12 (f main_v0_12) ∗ at_ c main_v0_13 (f main_v0_13) ∗
            at_ c main_v0_14 (f main_v0_14) ∗ at_ c main_v0_15 (f main_v0_15))
          ∗ iprop(idle c 0 ∗ idle c 1 ∗ idle c 2 ∗ idle c 3 ∗ idle c 4 ∗ idle c 5 ∗ idle c 6 ∗ idle c 7)
          ∗ iprop((∃ f, at_ c cc0_scratch0 f) ∗ (∃ f, at_ c cc0_scratch1 f) ∗ (∃ f, at_ c cc0_scratch2 f))
          ∗ ∃ r, prngReg c r) := by
  unfold Pipeline.Ends Pipeline.routed moved
  rw [scopedRest0_eq, Pipeline.ownSems0_eq_of_list c cells [0, 1, 2, 3, 4, 5, 6, 7] (by decide) (by decide),
    BI.bigSep_eq_bigSepL_of_eq [main_arg0, main_arg1, main_arg2, main_arg3, main_arg4, main_arg5, main_arg6, main_arg7, main_arg8, main_arg9,
      main_arg10, main_arg11, main_arg12, main_arg13, main_arg14, main_arg15, main_v0_0, main_v0_1, main_v0_2,
      main_v0_3, main_v0_4, main_v0_5, main_v0_6, main_v0_7, main_v0_8, main_v0_9, main_v0_10, main_v0_11,
      main_v0_12, main_v0_13, main_v0_14, main_v0_15] (by decide) (by decide)]
  rfl

/-- The proof data: no array staged, the buffers before the one point and after it. -/
def dats (_ : Fin 1) (c : Dev nD) : Dat τ (Elt F) Unit ℕ (Pipeline.UC sig nD τ) ℕ cfg0 c where
  A w := V m c (Pipeline.arrRef cfg0.spec w)
  after w := w.elim0
  Φ t := Pipeline.Ends cfg0.spec cells moved c (if t.val = 0 then V m c else after m c)
  q _ := fullShare
  owed _ := 0

set_option maxHeartbeats 4000000 in
theorem body_at (c : Dev nD) (W : Waits sig Unit) :
    iprop(Pipeline.Ends cfg0.spec cells moved c (V m c) ∗ owes (c : Thread nD τ) 0 W)
      ⊢ (wp frame (wpE (defs₀ (F := F)) Variants.none c none) Set.univ (bodyAt0 (F := F) t0_0) fun _ =>
        iprop(Pipeline.Ends cfg0.spec cells moved c (after m c) ∗ ∃ W', owes (c : Thread nD τ) 0 W') : sProp (Res F)) := by
  rw [ends_eq, ends_eq, after_0, after_1, after_2, after_3, after_4, after_5, after_6, after_7, after_8, after_9, after_10, after_11, after_12, after_13, after_14,
    after_15, after_arg m c main_arg0 (by decide), after_arg m c main_arg1 (by decide), after_arg m c main_arg2 (by decide),
    after_arg m c main_arg3 (by decide), after_arg m c main_arg4 (by decide), after_arg m c main_arg5 (by decide),
    after_arg m c main_arg6 (by decide), after_arg m c main_arg7 (by decide), after_arg m c main_arg8 (by decide),
    after_arg m c main_arg9 (by decide), after_arg m c main_arg10 (by decide), after_arg m c main_arg11 (by decide),
    after_arg m c main_arg12 (by decide), after_arg m c main_arg13 (by decide), after_arg m c main_arg14 (by decide),
    after_arg m c main_arg15 (by decide)]
  iintro ⟨⟨⟨Hw0, Hw1, Hw2, Hw3, Hr0, Hr1, Hr2, Hr3, Ha0, Ha1, Ha2, Ha3, Hb0, Hb1, Hb2, Hb3, Ho0, Ho1, Ho2, Ho3, Ho4, Ho5, Ho6, Ho7, Ho8, Ho9, Ho10,
    Ho11, Ho12, Ho13, Ho14, Ho15⟩,
    ⟨Hq0, Hq1, Hq2, Hq3, Hq4, Hq5, Hq6, Hq7⟩, ⟨⟨%x, Hx⟩, ⟨%y, Hy⟩, ⟨%z, Hz⟩⟩, Hg⟩, HW⟩
  have go := (run c (V m c main_arg0) (V m c main_arg1) (V m c main_arg2) (V m c main_arg3) (V m c main_arg4) (V m c main_arg5) (V m c main_arg6)
    (V m c main_arg7) (V m c main_arg8) (V m c main_arg9) (V m c main_arg10) (V m c main_arg11) (V m c main_arg12) (V m c main_arg13)
    (V m c main_arg14) (V m c main_arg15) (V m c main_v0_0) (V m c main_v0_1) (V m c main_v0_2) (V m c main_v0_3) (V m c main_v0_4)
    (V m c main_v0_5) (V m c main_v0_6) (V m c main_v0_7) (V m c main_v0_8) (V m c main_v0_9) (V m c main_v0_10) (V m c main_v0_11)
    (V m c main_v0_12) (V m c main_v0_13) (V m c main_v0_14) (V m c main_v0_15) x y z).2 W
  rw [run_eq] at go
  iapply (go _)
  isplitl [Hw0]; · iexact Hw0
  isplitl [Hw1]; · iexact Hw1
  isplitl [Hw2]; · iexact Hw2
  isplitl [Hw3]; · iexact Hw3
  isplitl [Hr0]; · iexact Hr0
  isplitl [Hr1]; · iexact Hr1
  isplitl [Hr2]; · iexact Hr2
  isplitl [Hr3]; · iexact Hr3
  isplitl [Ha0]; · iexact Ha0
  isplitl [Ha1]; · iexact Ha1
  isplitl [Ha2]; · iexact Ha2
  isplitl [Ha3]; · iexact Ha3
  isplitl [Hb0]; · iexact Hb0
  isplitl [Hb1]; · iexact Hb1
  isplitl [Hb2]; · iexact Hb2
  isplitl [Hb3]; · iexact Hb3
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ho8]; · iexact Ho8
  isplitl [Ho9]; · iexact Ho9
  isplitl [Ho10]; · iexact Ho10
  isplitl [Ho11]; · iexact Ho11
  isplitl [Ho12]; · iexact Ho12
  isplitl [Ho13]; · iexact Ho13
  isplitl [Ho14]; · iexact Ho14
  isplitl [Ho15]; · iexact Ho15
  isplitl [Hx]; · iexact Hx
  isplitl [Hy]; · iexact Hy
  isplitl [Hz]; · iexact Hz
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Hw0, Hw1, Hw2, Hw3, Hr0, Hr1, Hr2, Hr3, Ha0, Ha1, Ha2, Ha3, Hb0, Hb1, Hb2, Hb3, Ho0, Ho1, Ho2, Ho3, Ho4, Ho5, Ho6, Ho7, Ho8, Ho9, Ho10,
    Ho11, Ho12, Ho13, Ho14, Ho15, Hx, Hy, Hz, Hq0, Hq1, Hq2, Hq3, Hq4, Hq5, Hq6, Hq7, HW⟩
  isplitr [HW]
  · isplitl [Hw0 Hw1 Hw2 Hw3 Hr0 Hr1 Hr2 Hr3 Ha0 Ha1 Ha2 Ha3 Hb0 Hb1 Hb2 Hb3 Ho0 Ho1 Ho2 Ho3 Ho4 Ho5 Ho6 Ho7 Ho8 Ho9 Ho10 Ho11 Ho12 Ho13 Ho14 Ho15]
    · isplitl [Hw0]; · iexact Hw0
      isplitl [Hw1]; · iexact Hw1
      isplitl [Hw2]; · iexact Hw2
      isplitl [Hw3]; · iexact Hw3
      isplitl [Hr0]; · iexact Hr0
      isplitl [Hr1]; · iexact Hr1
      isplitl [Hr2]; · iexact Hr2
      isplitl [Hr3]; · iexact Hr3
      isplitl [Ha0]; · iexact Ha0
      isplitl [Ha1]; · iexact Ha1
      isplitl [Ha2]; · iexact Ha2
      isplitl [Ha3]; · iexact Ha3
      isplitl [Hb0]; · iexact Hb0
      isplitl [Hb1]; · iexact Hb1
      isplitl [Hb2]; · iexact Hb2
      isplitl [Hb3]; · iexact Hb3
      isplitl [Ho0]; · iexact Ho0
      isplitl [Ho1]; · iexact Ho1
      isplitl [Ho2]; · iexact Ho2
      isplitl [Ho3]; · iexact Ho3
      isplitl [Ho4]; · iexact Ho4
      isplitl [Ho5]; · iexact Ho5
      isplitl [Ho6]; · iexact Ho6
      isplitl [Ho7]; · iexact Ho7
      isplitl [Ho8]; · iexact Ho8
      isplitl [Ho9]; · iexact Ho9
      isplitl [Ho10]; · iexact Ho10
      isplitl [Ho11]; · iexact Ho11
      isplitl [Ho12]; · iexact Ho12
      isplitl [Ho13]; · iexact Ho13
      isplitl [Ho14]; · iexact Ho14
      iexact Ho15
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hx Hy Hz]
    · isplitl [Hx]; · iexact Hx
      isplitl [Hy]; · iexact Hy
      iexact Hz
    iexact Hg
  iexact HW

theorem defs₀_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  obtain rfl := fin_N0 t
  rw [defs₀_row]
  have none (P : Fin cfg0.W → sProp (Res F)) : bigSep Finset.univ P = iprop(emp) := BI.bigSep_empty
  rw [none, none]
  unfold Dat.owesAt Pipeline.owesWithin
  rw [show (dats (F := F) m 0 c).Φ t0_0.castSucc = Pipeline.Ends cfg0.spec cells moved c (V m c) from rfl,
    show (dats (F := F) m 0 c).Φ t0_0.succ = Pipeline.Ends cfg0.spec cells moved c (after m c) from rfl,
    show (dats (F := F) m 0 c).owed t0_0.castSucc = 0 from rfl, show (dats (F := F) m 0 c).owed t0_0.succ = 0 from rfl]
  iintro ⟨HE, ⟨%W, -, HW⟩, -⟩
  iapply (wp_mono _ _ _ fun _ => ?_) $$ [HE HW]
  rotate_left
  · iapply (body_at m c W)
    isplitl [HE]; · iexact HE
    iexact HW
  · iintro ⟨HE, ⟨%W', HW⟩⟩
    isplitl [HE]; · iexact HE
    isplitl [HW]
    · iexists W'; isplitr; · ipureintro; exact fun _ _ => Or.inl trivial
      iexact HW
    iempintro

theorem hmain (𝒱₀ : Variants) : Pipeline.HMain (Ix := Unit) (Name := ℕ) (U := Pipeline.UC sig nD τ) (Lvl := ℕ) cfgs 0 defs₀ 𝒱₀ m (main (F := F)) (V m) :=
  Pipeline.hmain_region cfgs 0 defs₀ 𝒱₀ m main fun c => (main_chain c).trans rfl

/-- The call ends, every moved array at `after` and every counter at zero. -/
theorem run_main : θ_run defs (onTc (τ := τ) (main (F := F))) ⟨m, fun _ => 0, ρ⟩
    (fun r => (∀ c : Dev nD, ∀ b ∈ moved, r.2.mem ((c.tc : Thread nD τ).loc b) = after m c b) ∧ r.2.sem = fun _ => 0) :=
  Pipeline.θ_run_frame_routed cfgs (dats m) (0 : Fin 1) launch0 cells_facts defs₀ Variants.none m ρ main
    (hbody := fun c => (body_obligation m c).loose) (hshare := fun _ w => w.elim0)
    (howed := fun _ _ => rfl) (V := V m) (hmain := hmain m Variants.none) (hA := fun _ w => w.elim0)
    (R := moved) (hR := moved_sub) (Y := after m) (hin := fun _ => .rfl) (hout := fun _ => .rfl) (Q' := _)
    (hQ' := fun _ h => ⟨fun c => (h.1 c).2.1, h.2⟩)

/-- The arguments stay, and every counter is back at zero. -/
theorem frame_kernel : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0) :=
  (θ_run defs _ _).mono (fun r h =>
    have keep (c : Dev nD) (b : Ref sig .tc) (hm : b ∈ moved) (hb : b ≠ main_v0_0 ∧ b ≠ main_v0_1 ∧ b ≠ main_v0_2 ∧ b ≠ main_v0_3 ∧ b ≠ main_v0_4 ∧ b ≠ main_v0_5 ∧ b ≠ main_v0_6 ∧ b ≠ main_v0_7 ∧
      b ≠ main_v0_8 ∧ b ≠ main_v0_9 ∧ b ≠ main_v0_10 ∧ b ≠ main_v0_11 ∧ b ≠ main_v0_12 ∧ b ≠ main_v0_13 ∧ b ≠ main_v0_14 ∧ b ≠ main_v0_15) :
        r.2.mem ((c.tc : Thread nD τ).loc b) = m ((c.tc : Thread nD τ).loc b) :=
      (h.1 c b hm).trans (after_arg m c b hb)
    ⟨fun c => ⟨keep c main_arg0 (by decide) (by decide), keep c main_arg1 (by decide) (by decide), keep c main_arg2 (by decide) (by decide),
      keep c main_arg3 (by decide) (by decide), keep c main_arg4 (by decide) (by decide), keep c main_arg5 (by decide) (by decide),
      keep c main_arg6 (by decide) (by decide), keep c main_arg7 (by decide) (by decide), keep c main_arg8 (by decide) (by decide),
      keep c main_arg9 (by decide) (by decide), keep c main_arg10 (by decide) (by decide), keep c main_arg11 (by decide) (by decide),
      keep c main_arg12 (by decide) (by decide), keep c main_arg13 (by decide) (by decide), keep c main_arg14 (by decide) (by decide),
      keep c main_arg15 (by decide) (by decide)⟩, h.2⟩) (run_main m ρ)

end Cert.Late18

end
-- ==== Proof.Adam18.lean ====
/-
  The late update of the four large weights: the reference in the terms of the kernel's results, and both together.
-/
module

public import proofs.«01_k».proof.Proof.Late18
public import proofs.«01_k».proof.Proof.Gen.Kernel18.Frame
public import proofs.«01_k».proof.Proof.Gen.Reference18Ideal.Read
public import proofs.«01_k».proof.Proof.Gen.Reference18Ideal.Run
public import Idealize.ShloMosaic.Lib.Pipeline.ValueKit
public import Idealize.ShloMosaic.Lib.Pointwise
public import Idealize.ShloMosaic.Lib.Tactic.CleanTypes

@[expose] public section

set_option maxRecDepth 16384

noncomputable section

namespace Cert.Adam18

open Idealize.ShloMosaic Idealize.ShloMosaic.TcCoe Idealize.SL.Sem Cert.Adam

open Cert.Late18 (slot total first second change)

section
open Cert.Reference18Ideal Cert.Reference18Ideal.Facts₀ Cert.Reference18Ideal.Facts Cert.Reference18Ideal.Read

/-- The slots added, entry by entry. -/
theorem total_at {s : Shape} (p : Fin 8 → FVec Ideal s .bf16) (y : s.Idx) : total p y = ∑ d : Fin 8, (p d y : EReal) := by
  rw [← sum_eight]
  rfl

/-- The reference's sum over the devices is the kernel's. -/
theorem sum128 (x : (⟨S8x128x1024, .bf16⟩ : BufTy).Contents (Elt Ideal)) :
    Host.reduceAdd (extf .f32 x bitsLt_bf16_f32) (constant S_ .f32 0x00000000#32) reducesTo_S8x128x1024_S128x1024_d0 h_S_
      = total (F := Ideal) (slot x) := by
  refine (val_main_v1_eq x).trans (funext fun i => ?_)
  rw [total_at, val_main_v1_apply]
  refine (congrArg₂ (· + ·) (show _ = (0 : EReal) from ?_) (Finset.sum_congr rfl fun k _ => ?_)).trans (zero_add _)
  · rw [val_main_cst_apply]; exact Ideal.ofBits_zero_f32
  · rw [val_main_v0_apply]
    refine congrArg x (funext fun a => ?_)
    match a with
    | ⟨0, _⟩ => rfl
    | ⟨1, _⟩ => rfl
    | ⟨2, _⟩ => rfl
theorem sum352 (x : (⟨S8x352x1024, .bf16⟩ : BufTy).Contents (Elt Ideal)) :
    Host.reduceAdd (extf .f32 x bitsLt_bf16_f32) (constant S_ .f32 0x00000000#32) reducesTo_S8x352x1024_S352x1024_d0 h_S_
      = total (F := Ideal) (slot x) := by
  refine (val_main_v27_eq x).trans (funext fun i => ?_)
  rw [total_at, val_main_v27_apply]
  refine (congrArg₂ (· + ·) (show _ = (0 : EReal) from ?_) (Finset.sum_congr rfl fun k _ => ?_)).trans (zero_add _)
  · rw [val_main_cst_9_apply]; exact Ideal.ofBits_zero_f32
  · rw [val_main_v26_apply]
    refine congrArg x (funext fun a => ?_)
    match a with
    | ⟨0, _⟩ => rfl
    | ⟨1, _⟩ => rfl
    | ⟨2, _⟩ => rfl
end

/-- The kernel as printed at the device's words is the same program. -/
theorem frame_bits : Cert.quiescent_Kernel18 := fun m ρ _ => Late18.frame_kernel (F := Bits) m ρ

/-- The reference's run reads its arguments and has no semaphore. -/
theorem frame_reference : Cert.quiescent_Reference18Ideal := by
  intro m ρ _
  exact (θ_run Cert.Reference18Ideal.defs _ _).mono
    (fun r h => ⟨fun c => (h c).2.2.2.2.2.2.2.2.2.2.2.2.2.2.2.2, Idealize.ShloMosaic.sem_eq_zero_of_no_sems (by decide) r.2⟩)
    (Cert.Reference18Ideal.Value.run (F := Ideal) m ρ)

/-- The value claim. -/
theorem algebraic : Cert.algebraic_Kernel18Ideal_Reference18Ideal := by
  intro m g m' g' _ same
  refine ⟨fun c => Late18.after m c _, fun c => Late18.after m c _, fun c => Late18.after m c _, fun c => Late18.after m c _,
    fun c => Late18.after m c _, fun c => Late18.after m c _, fun c => Late18.after m c _, fun c => Late18.after m c _,
    fun c => Late18.after m c _, fun c => Late18.after m c _, fun c => Late18.after m c _, fun c => Late18.after m c _,
    fun c => Late18.after m c _, fun c => Late18.after m c _, fun c => Late18.after m c _, fun c => Late18.after m c _, ?_, ?_⟩
  · refine (θ_run Cert.Kernel18Ideal.defs _ _).mono (fun r h c => ?_) (θ_run_and (Late18.run_main m g) (Late18.frame_kernel m g))
    exact ⟨h.1.1 c _ (by decide), h.1.1 c _ (by decide), h.1.1 c _ (by decide), h.1.1 c _ (by decide),
      h.1.1 c _ (by decide), h.1.1 c _ (by decide), h.1.1 c _ (by decide), h.1.1 c _ (by decide),
      h.1.1 c _ (by decide), h.1.1 c _ (by decide), h.1.1 c _ (by decide), h.1.1 c _ (by decide),
      h.1.1 c _ (by decide), h.1.1 c _ (by decide), h.1.1 c _ (by decide), h.1.1 c _ (by decide),
      h.2.1 c⟩
  · refine (θ_run Cert.Reference18Ideal.defs _ _).mono (fun r h c => ?_) (Cert.Reference18Ideal.Value.run (F := Ideal) m' g')
    obtain ⟨h0, h1, h2, h3, h4, h5, h6, h7, h8, h9, h10, h11, h12, h13, h14, h15, ha⟩ := h c
    obtain ⟨s0, s1, s2, s3, s4, s5, s6, s7, s8, s9, s10, s11, s12, s13, s14, s15⟩ := same c
    refine ⟨h0.trans (Eq.trans ?_ (Late18.after_0 m c).symm), h1.trans (Eq.trans ?_ (Late18.after_1 m c).symm),
      h2.trans (Eq.trans ?_ (Late18.after_2 m c).symm), h3.trans (Eq.trans ?_ (Late18.after_3 m c).symm),
      h4.trans (Eq.trans ?_ (Late18.after_4 m c).symm), h5.trans (Eq.trans ?_ (Late18.after_5 m c).symm),
      h6.trans (Eq.trans ?_ (Late18.after_6 m c).symm), h7.trans (Eq.trans ?_ (Late18.after_7 m c).symm),
      h8.trans (Eq.trans ?_ (Late18.after_8 m c).symm), h9.trans (Eq.trans ?_ (Late18.after_9 m c).symm),
      h10.trans (Eq.trans ?_ (Late18.after_10 m c).symm), h11.trans (Eq.trans ?_ (Late18.after_11 m c).symm),
      h12.trans (Eq.trans ?_ (Late18.after_12 m c).symm), h13.trans (Eq.trans ?_ (Late18.after_13 m c).symm),
      h14.trans (Eq.trans ?_ (Late18.after_14 m c).symm), h15.trans (Eq.trans ?_ (Late18.after_15 m c).symm), ha⟩
    · rw [sum128, s4]
    · rw [sum352, s5]
    · rw [sum352, s6]
    · rw [sum352, s7]
    · rw [sum128, s0, s4, s8, s12]; rfl
    · rw [sum352, s1, s5, s9, s13]; rfl
    · rw [sum352, s2, s6, s10, s14]; rfl
    · rw [sum352, s3, s7, s11, s15]; rfl
    · rw [sum128, s4, s8]; rfl
    · rw [sum352, s5, s9]; rfl
    · rw [sum352, s6, s10]; rfl
    · rw [sum352, s7, s11]; rfl
    · rw [sum128, s4, s12]; rfl
    · rw [sum352, s5, s13]; rfl
    · rw [sum352, s6, s14]; rfl
    · rw [sum352, s7, s15]; rfl

end Cert.Adam18

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Read
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Read
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Read
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Read
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Read
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Read
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Pre_finite8
public import proofs.«01_k».proof.Proof.Gen.Reference8Ideal
public import proofs.«01_k».proof.Proof.Gen.Reference8Ideal.Read
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Pre_finite9
public import proofs.«01_k».proof.Proof.Gen.Reference9Ideal
public import proofs.«01_k».proof.Proof.Gen.Reference9Ideal.Read
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Read
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Pre_finite11
public import proofs.«01_k».proof.Proof.Gen.Reference11Ideal
public import proofs.«01_k».proof.Proof.Gen.Reference11Ideal.Read
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Read
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Read
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Read
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Read
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Read
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Read
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Read
public import proofs.«01_k».proof.Proof.Gen.Reference18Ideal.Run
public import proofs.«01_k».proof.Proof.AttnClaim
public import proofs.«01_k».proof.Proof.WgradClaim2
public import proofs.«01_k».proof.Proof.WgradClaim3
public import proofs.«01_k».proof.Proof.WgradClaim4
public import proofs.«01_k».proof.Proof.WgradClaim5
public import proofs.«01_k».proof.Proof.WgradClaim6
public import proofs.«01_k».proof.Proof.WgradClaim7
public import proofs.«01_k».proof.Proof.PostClaim
public import proofs.«01_k».proof.Proof.PostBwdClaim
public import proofs.«01_k».proof.Proof.InProjClaim
public import proofs.«01_k».proof.Proof.GlaOutClaim
public import proofs.«01_k».proof.Proof.Adam12
public import proofs.«01_k».proof.Proof.Adam13
public import proofs.«01_k».proof.Proof.Adam14
public import proofs.«01_k».proof.Proof.Adam15
public import proofs.«01_k».proof.Proof.Adam16
public import proofs.«01_k».proof.Proof.Adam17
public import proofs.«01_k».proof.Proof.Late18
public import proofs.«01_k».proof.Proof.Adam18
public import Idealize.ShloMosaic.Adequacy
public import Idealize.ShloMosaic.Init

@[expose] public section

noncomputable section

namespace Cert.Proof

open Idealize.ShloMosaic Idealize.SL.Sem Cert.Kernel

/-- The reference's run reads its arguments and has no semaphore. -/
theorem frame_reference : Cert.quiescent_ReferenceIdeal := by
  intro m ρ _
  exact (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts, Cert.Pre_finite8.Gen.facts, Cert.Pre_finite9.Gen.facts, Cert.Pre_finite11.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, Cert.Wgrad2.frame_reference,
  fun m ρ _ => Cert.Kernel3.Gen.frame m ρ, fun m ρ _ => Cert.Kernel3Ideal.Gen.frame m ρ, Cert.Wgrad3.frame_reference,
  fun m ρ _ => Cert.Kernel4.Gen.frame m ρ, fun m ρ _ => Cert.Kernel4Ideal.Gen.frame m ρ, Cert.Wgrad4.frame_reference,
  fun m ρ _ => Cert.Kernel5.Gen.frame m ρ, fun m ρ _ => Cert.Kernel5Ideal.Gen.frame m ρ, Cert.Wgrad5.frame_reference,
  fun m ρ _ => Cert.Kernel6.Gen.frame m ρ, fun m ρ _ => Cert.Kernel6Ideal.Gen.frame m ρ, Cert.Wgrad6.frame_reference,
  fun m ρ _ => Cert.Kernel7.Gen.frame m ρ, fun m ρ _ => Cert.Kernel7Ideal.Gen.frame m ρ, Cert.Wgrad7.frame_reference,
  fun m ρ _ => Cert.Kernel8.Gen.frame m ρ, fun m ρ _ => Cert.Kernel8Ideal.Gen.frame m ρ, fun m ρ _ => Cert.Kernel8Ideal.Gen.frame m ρ,
  Cert.Post.frame_reference, fun m ρ _ => Cert.Post.frame_reference m ρ trivial,
  fun m ρ _ => Cert.Kernel9.Gen.frame m ρ, fun m ρ _ => Cert.Kernel9Ideal.Gen.frame m ρ, fun m ρ _ => Cert.Kernel9Ideal.Gen.frame m ρ,
  Cert.PostBwd.frame_reference, fun m ρ _ => Cert.PostBwd.frame_reference m ρ trivial,
  fun m ρ _ => Cert.Kernel10.Gen.frame m ρ, fun m ρ _ => Cert.Kernel10Ideal.Gen.frame m ρ, Cert.InProj.frame_reference,
  fun m ρ _ => Cert.Kernel11.Gen.frame m ρ, fun m ρ _ => Cert.Kernel11Ideal.Gen.frame m ρ, fun m ρ _ => Cert.Kernel11Ideal.Gen.frame m ρ,
  Cert.GlaOut.frame_reference, fun m ρ _ => Cert.GlaOut.frame_reference m ρ trivial,
  fun m ρ _ => Cert.Kernel12.Gen.frame m ρ, fun m ρ _ => Cert.Kernel12Ideal.Gen.frame m ρ, Cert.Adam12.frame_reference,
  fun m ρ _ => Cert.Kernel13.Gen.frame m ρ, fun m ρ _ => Cert.Kernel13Ideal.Gen.frame m ρ, Cert.Adam13.frame_reference,
  fun m ρ _ => Cert.Kernel14.Gen.frame m ρ, fun m ρ _ => Cert.Kernel14Ideal.Gen.frame m ρ, Cert.Adam14.frame_reference,
  fun m ρ _ => Cert.Kernel15.Gen.frame m ρ, fun m ρ _ => Cert.Kernel15Ideal.Gen.frame m ρ, Cert.Adam15.frame_reference,
  fun m ρ _ => Cert.Kernel16.Gen.frame m ρ, fun m ρ _ => Cert.Kernel16Ideal.Gen.frame m ρ, Cert.Adam16.frame_reference,
  fun m ρ _ => Cert.Kernel17.Gen.frame m ρ, fun m ρ _ => Cert.Kernel17Ideal.Gen.frame m ρ, Cert.Adam17.frame_reference,
  Cert.Adam18.frame_bits, fun m ρ _ => Cert.Late18.frame_kernel m ρ, Cert.Adam18.frame_reference,
  trivial, Cert.Attn.algebraic,
  trivial, Cert.Wgrad2.algebraic,
  trivial, Cert.Wgrad3.algebraic,
  trivial, Cert.Wgrad4.algebraic,
  trivial, Cert.Wgrad5.algebraic,
  trivial, Cert.Wgrad6.algebraic,
  trivial, Cert.Wgrad7.algebraic,
  trivial, Cert.Post.algebraic,
  trivial, Cert.PostBwd.algebraic,
  trivial, Cert.InProj.algebraic,
  trivial, Cert.GlaOut.algebraic,
  trivial, Cert.Adam12.algebraic,
  trivial, Cert.Adam13.algebraic,
  trivial, Cert.Adam14.algebraic,
  trivial, Cert.Adam15.algebraic,
  trivial, Cert.Adam16.algebraic,
  trivial, Cert.Adam17.algebraic,
  trivial, Cert.Adam18.algebraic⟩

end Cert.Proof

end
